-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_mem_finite [hPre_mem_finite : Cert.Pre_mem_finite.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_mem_finite.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2))) = (fun _ => 1#1)

def Pre_MemBwdRefIdeal (m : (ℓ : Loc Cert.MemBwdRefIdeal.nD Cert.MemBwdRefIdeal.τ Cert.MemBwdRefIdeal.sig) → Buf (Elt Ideal) ℓ) : Prop :=
  True

def Pre_MemBwdRefIdeal_mem_finite [hPre_mem_finite : Cert.Pre_mem_finite.Facts] (m : (ℓ : Loc Cert.MemBwdRefIdeal.nD Cert.MemBwdRefIdeal.τ Cert.MemBwdRefIdeal.sig) → Buf (Elt Ideal) ℓ) : Prop :=
  ∀ c : Dev Cert.MemBwdRefIdeal.nD,
    (Cert.Pre_mem_finite.fn (F := Ideal) (m ((c.tc : Thread Cert.MemBwdRefIdeal.nD Cert.MemBwdRefIdeal.τ).loc Cert.MemBwdRefIdeal.main_arg0)) (m ((c.tc : Thread Cert.MemBwdRefIdeal.nD Cert.MemBwdRefIdeal.τ).loc Cert.MemBwdRefIdeal.main_arg1)) (m ((c.tc : Thread Cert.MemBwdRefIdeal.nD Cert.MemBwdRefIdeal.τ).loc Cert.MemBwdRefIdeal.main_arg2))) = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))) = (fun _ => 1#1)

def Pre_FoxBwdRefIdeal (m : (ℓ : Loc Cert.FoxBwdRefIdeal.nD Cert.FoxBwdRefIdeal.τ Cert.FoxBwdRefIdeal.sig) → Buf (Elt Ideal) ℓ) : Prop :=
  True

def Pre_FoxBwdRefIdeal_fox_finite [hPre_fox_finite : Cert.Pre_fox_finite.Facts] (m : (ℓ : Loc Cert.FoxBwdRefIdeal.nD Cert.FoxBwdRefIdeal.τ Cert.FoxBwdRefIdeal.sig) → Buf (Elt Ideal) ℓ) : Prop :=
  ∀ c : Dev Cert.FoxBwdRefIdeal.nD,
    (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))) = (fun _ => 1#1)

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_GradGates (m : (ℓ : Loc Cert.GradGates.nD Cert.GradGates.τ Cert.GradGates.sig) → Buf (Elt Bits) ℓ) : Prop :=
  True

def Pre_GradGatesIdeal (m : (ℓ : Loc Cert.GradGatesIdeal.nD Cert.GradGatesIdeal.τ Cert.GradGatesIdeal.sig) → Buf (Elt Ideal) ℓ) : Prop :=
  True

def Pre_GradGatesRefIdeal (m : (ℓ : Loc Cert.GradGatesRefIdeal.nD Cert.GradGatesRefIdeal.τ Cert.GradGatesRefIdeal.sig) → Buf (Elt Ideal) ℓ) : Prop :=
  True

def Pre_GradFox (m : (ℓ : Loc Cert.GradFox.nD Cert.GradFox.τ Cert.GradFox.sig) → Buf (Elt Bits) ℓ) : Prop :=
  True

def Pre_GradFoxIdeal (m : (ℓ : Loc Cert.GradFoxIdeal.nD Cert.GradFoxIdeal.τ Cert.GradFoxIdeal.sig) → Buf (Elt Ideal) ℓ) : Prop :=
  True

def Pre_GradFoxRefIdeal (m : (ℓ : Loc Cert.GradFoxRefIdeal.nD Cert.GradFoxRefIdeal.τ Cert.GradFoxRefIdeal.sig) → Buf (Elt Ideal) ℓ) : Prop :=
  True

def Pre_GradDil (m : (ℓ : Loc Cert.GradDil.nD Cert.GradDil.τ Cert.GradDil.sig) → Buf (Elt Bits) ℓ) : Prop :=
  True

def Pre_GradDilIdeal (m : (ℓ : Loc Cert.GradDilIdeal.nD Cert.GradDilIdeal.τ Cert.GradDilIdeal.sig) → Buf (Elt Ideal) ℓ) : Prop :=
  True

def Pre_GradDilRefIdeal (m : (ℓ : Loc Cert.GradDilRefIdeal.nD Cert.GradDilRefIdeal.τ Cert.GradDilRefIdeal.sig) → Buf (Elt Ideal) ℓ) : Prop :=
  True

def Pre_GradMq (m : (ℓ : Loc Cert.GradMq.nD Cert.GradMq.τ Cert.GradMq.sig) → Buf (Elt Bits) ℓ) : Prop :=
  True

def Pre_GradMqIdeal (m : (ℓ : Loc Cert.GradMqIdeal.nD Cert.GradMqIdeal.τ Cert.GradMqIdeal.sig) → Buf (Elt Ideal) ℓ) : Prop :=
  True

def Pre_GradMqRefIdeal (m : (ℓ : Loc Cert.GradMqRefIdeal.nD Cert.GradMqRefIdeal.τ Cert.GradMqRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_proj_finite [hPre_in_proj_finite : Cert.Pre_in_proj_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_proj_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9)) (m ((c.tc : Thread Cert.InBwdIdeal.nD Cert.InBwdIdeal.τ).loc Cert.InBwdIdeal.main_arg10)) (m ((c.tc : Thread Cert.InBwdIdeal.nD Cert.InBwdIdeal.τ).loc Cert.InBwdIdeal.main_arg11)) (m ((c.tc : Thread Cert.InBwdIdeal.nD Cert.InBwdIdeal.τ).loc Cert.InBwdIdeal.main_arg12)) (m ((c.tc : Thread Cert.InBwdIdeal.nD Cert.InBwdIdeal.τ).loc Cert.InBwdIdeal.main_arg13)) (m ((c.tc : Thread Cert.InBwdIdeal.nD Cert.InBwdIdeal.τ).loc Cert.InBwdIdeal.main_arg14)) (m ((c.tc : Thread Cert.InBwdIdeal.nD Cert.InBwdIdeal.τ).loc Cert.InBwdIdeal.main_arg15)) (m ((c.tc : Thread Cert.InBwdIdeal.nD Cert.InBwdIdeal.τ).loc Cert.InBwdIdeal.main_arg16))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_proj_finite [hPre_in_proj_finite : Cert.Pre_in_proj_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_proj_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9)) (m ((c.tc : Thread Cert.InBwdRefIdeal.nD Cert.InBwdRefIdeal.τ).loc Cert.InBwdRefIdeal.main_arg10)) (m ((c.tc : Thread Cert.InBwdRefIdeal.nD Cert.InBwdRefIdeal.τ).loc Cert.InBwdRefIdeal.main_arg11)) (m ((c.tc : Thread Cert.InBwdRefIdeal.nD Cert.InBwdRefIdeal.τ).loc Cert.InBwdRefIdeal.main_arg12)) (m ((c.tc : Thread Cert.InBwdRefIdeal.nD Cert.InBwdRefIdeal.τ).loc Cert.InBwdRefIdeal.main_arg13)) (m ((c.tc : Thread Cert.InBwdRefIdeal.nD Cert.InBwdRefIdeal.τ).loc Cert.InBwdRefIdeal.main_arg14)) (m ((c.tc : Thread Cert.InBwdRefIdeal.nD Cert.InBwdRefIdeal.τ).loc Cert.InBwdRefIdeal.main_arg15)) (m ((c.tc : Thread Cert.InBwdRefIdeal.nD Cert.InBwdRefIdeal.τ).loc Cert.InBwdRefIdeal.main_arg16))) = (fun _ => 1#1)

def Pre_OutStep (m : (ℓ : Loc Cert.OutStep.nD Cert.OutStep.τ Cert.OutStep.sig) → Buf (Elt Bits) ℓ) : Prop :=
  True

def Pre_OutStepIdeal (m : (ℓ : Loc Cert.OutStepIdeal.nD Cert.OutStepIdeal.τ Cert.OutStepIdeal.sig) → Buf (Elt Ideal) ℓ) : Prop :=
  True

def Pre_OutStepIdeal_out_finite [hPre_out_finite : Cert.Pre_out_finite.Facts] (m : (ℓ : Loc Cert.OutStepIdeal.nD Cert.OutStepIdeal.τ Cert.OutStepIdeal.sig) → Buf (Elt Ideal) ℓ) : Prop :=
  ∀ c : Dev Cert.OutStepIdeal.nD,
    (Cert.Pre_out_finite.fn (F := Ideal) (m ((c.tc : Thread Cert.OutStepIdeal.nD Cert.OutStepIdeal.τ).loc Cert.OutStepIdeal.main_arg0)) (m ((c.tc : Thread Cert.OutStepIdeal.nD Cert.OutStepIdeal.τ).loc Cert.OutStepIdeal.main_arg1)) (m ((c.tc : Thread Cert.OutStepIdeal.nD Cert.OutStepIdeal.τ).loc Cert.OutStepIdeal.main_arg2)) (m ((c.tc : Thread Cert.OutStepIdeal.nD Cert.OutStepIdeal.τ).loc Cert.OutStepIdeal.main_arg3)) (m ((c.tc : Thread Cert.OutStepIdeal.nD Cert.OutStepIdeal.τ).loc Cert.OutStepIdeal.main_arg4)) (m ((c.tc : Thread Cert.OutStepIdeal.nD Cert.OutStepIdeal.τ).loc Cert.OutStepIdeal.main_arg5)) (m ((c.tc : Thread Cert.OutStepIdeal.nD Cert.OutStepIdeal.τ).loc Cert.OutStepIdeal.main_arg6)) (m ((c.tc : Thread Cert.OutStepIdeal.nD Cert.OutStepIdeal.τ).loc Cert.OutStepIdeal.main_arg7)) (m ((c.tc : Thread Cert.OutStepIdeal.nD Cert.OutStepIdeal.τ).loc Cert.OutStepIdeal.main_arg8)) (m ((c.tc : Thread Cert.OutStepIdeal.nD Cert.OutStepIdeal.τ).loc Cert.OutStepIdeal.main_arg9))) = (fun _ => 1#1)

def Pre_OutStepRefIdeal (m : (ℓ : Loc Cert.OutStepRefIdeal.nD Cert.OutStepRefIdeal.τ Cert.OutStepRefIdeal.sig) → Buf (Elt Ideal) ℓ) : Prop :=
  True

def Pre_OutStepRefIdeal_out_finite [hPre_out_finite : Cert.Pre_out_finite.Facts] (m : (ℓ : Loc Cert.OutStepRefIdeal.nD Cert.OutStepRefIdeal.τ Cert.OutStepRefIdeal.sig) → Buf (Elt Ideal) ℓ) : Prop :=
  ∀ c : Dev Cert.OutStepRefIdeal.nD,
    (Cert.Pre_out_finite.fn (F := Ideal) (m ((c.tc : Thread Cert.OutStepRefIdeal.nD Cert.OutStepRefIdeal.τ).loc Cert.OutStepRefIdeal.main_arg0)) (m ((c.tc : Thread Cert.OutStepRefIdeal.nD Cert.OutStepRefIdeal.τ).loc Cert.OutStepRefIdeal.main_arg1)) (m ((c.tc : Thread Cert.OutStepRefIdeal.nD Cert.OutStepRefIdeal.τ).loc Cert.OutStepRefIdeal.main_arg2)) (m ((c.tc : Thread Cert.OutStepRefIdeal.nD Cert.OutStepRefIdeal.τ).loc Cert.OutStepRefIdeal.main_arg3)) (m ((c.tc : Thread Cert.OutStepRefIdeal.nD Cert.OutStepRefIdeal.τ).loc Cert.OutStepRefIdeal.main_arg4)) (m ((c.tc : Thread Cert.OutStepRefIdeal.nD Cert.OutStepRefIdeal.τ).loc Cert.OutStepRefIdeal.main_arg5)) (m ((c.tc : Thread Cert.OutStepRefIdeal.nD Cert.OutStepRefIdeal.τ).loc Cert.OutStepRefIdeal.main_arg6)) (m ((c.tc : Thread Cert.OutStepRefIdeal.nD Cert.OutStepRefIdeal.τ).loc Cert.OutStepRefIdeal.main_arg7)) (m ((c.tc : Thread Cert.OutStepRefIdeal.nD Cert.OutStepRefIdeal.τ).loc Cert.OutStepRefIdeal.main_arg8)) (m ((c.tc : Thread Cert.OutStepRefIdeal.nD Cert.OutStepRefIdeal.τ).loc Cert.OutStepRefIdeal.main_arg9))) = (fun _ => 1#1)

def Pre_AdamOut [hPre_out_place : Cert.Pre_out_place.Facts] (m : (ℓ : Loc Cert.AdamOut.nD Cert.AdamOut.τ Cert.AdamOut.sig) → Buf (Elt Bits) ℓ) : Prop :=
  ∀ c : Dev Cert.AdamOut.nD,
    (Cert.Pre_out_place.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5))) = (fun _ => 1#1)

def Pre_AdamOutIdeal [hPre_out_place : Cert.Pre_out_place.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_out_place.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5))) = (fun _ => 1#1)

def Pre_AdamOutRefIdeal (m : (ℓ : Loc Cert.AdamOutRefIdeal.nD Cert.AdamOutRefIdeal.τ Cert.AdamOutRefIdeal.sig) → Buf (Elt Ideal) ℓ) : Prop :=
  True

def Pre_AdamOutRefIdeal_out_place [hPre_out_place : Cert.Pre_out_place.Facts] (m : (ℓ : Loc Cert.AdamOutRefIdeal.nD Cert.AdamOutRefIdeal.τ Cert.AdamOutRefIdeal.sig) → Buf (Elt Ideal) ℓ) : Prop :=
  ∀ c : Dev Cert.AdamOutRefIdeal.nD,
    (Cert.Pre_out_place.fn (F := Ideal) (m ((c.tc : Thread Cert.AdamOutRefIdeal.nD Cert.AdamOutRefIdeal.τ).loc Cert.AdamOutRefIdeal.main_arg0)) (m ((c.tc : Thread Cert.AdamOutRefIdeal.nD Cert.AdamOutRefIdeal.τ).loc Cert.AdamOutRefIdeal.main_arg1)) (m ((c.tc : Thread Cert.AdamOutRefIdeal.nD Cert.AdamOutRefIdeal.τ).loc Cert.AdamOutRefIdeal.main_arg2)) (m ((c.tc : Thread Cert.AdamOutRefIdeal.nD Cert.AdamOutRefIdeal.τ).loc Cert.AdamOutRefIdeal.main_arg3)) (m ((c.tc : Thread Cert.AdamOutRefIdeal.nD Cert.AdamOutRefIdeal.τ).loc Cert.AdamOutRefIdeal.main_arg4)) (m ((c.tc : Thread Cert.AdamOutRefIdeal.nD Cert.AdamOutRefIdeal.τ).loc Cert.AdamOutRefIdeal.main_arg5))) = (fun _ => 1#1)

def Pre_AdamKv [hPre_kv_place : Cert.Pre_kv_place.Facts] (m : (ℓ : Loc Cert.AdamKv.nD Cert.AdamKv.τ Cert.AdamKv.sig) → Buf (Elt Bits) ℓ) : Prop :=
  ∀ c : Dev Cert.AdamKv.nD,
    (Cert.Pre_kv_place.fn (F := Bits) (m ((c.tc : Thread Cert.AdamKv.nD Cert.AdamKv.τ).loc Cert.AdamKv.main_arg0)) (m ((c.tc : Thread Cert.AdamKv.nD Cert.AdamKv.τ).loc Cert.AdamKv.main_arg1)) (m ((c.tc : Thread Cert.AdamKv.nD Cert.AdamKv.τ).loc Cert.AdamKv.main_arg2)) (m ((c.tc : Thread Cert.AdamKv.nD Cert.AdamKv.τ).loc Cert.AdamKv.main_arg3)) (m ((c.tc : Thread Cert.AdamKv.nD Cert.AdamKv.τ).loc Cert.AdamKv.main_arg4)) (m ((c.tc : Thread Cert.AdamKv.nD Cert.AdamKv.τ).loc Cert.AdamKv.main_arg5))) = (fun _ => 1#1)

def Pre_AdamKvIdeal [hPre_kv_place : Cert.Pre_kv_place.Facts] (m : (ℓ : Loc Cert.AdamKvIdeal.nD Cert.AdamKvIdeal.τ Cert.AdamKvIdeal.sig) → Buf (Elt Ideal) ℓ) : Prop :=
  ∀ c : Dev Cert.AdamKvIdeal.nD,
    (Cert.Pre_kv_place.fn (F := Ideal) (m ((c.tc : Thread Cert.AdamKvIdeal.nD Cert.AdamKvIdeal.τ).loc Cert.AdamKvIdeal.main_arg0)) (m ((c.tc : Thread Cert.AdamKvIdeal.nD Cert.AdamKvIdeal.τ).loc Cert.AdamKvIdeal.main_arg1)) (m ((c.tc : Thread Cert.AdamKvIdeal.nD Cert.AdamKvIdeal.τ).loc Cert.AdamKvIdeal.main_arg2)) (m ((c.tc : Thread Cert.AdamKvIdeal.nD Cert.AdamKvIdeal.τ).loc Cert.AdamKvIdeal.main_arg3)) (m ((c.tc : Thread Cert.AdamKvIdeal.nD Cert.AdamKvIdeal.τ).loc Cert.AdamKvIdeal.main_arg4)) (m ((c.tc : Thread Cert.AdamKvIdeal.nD Cert.AdamKvIdeal.τ).loc Cert.AdamKvIdeal.main_arg5))) = (fun _ => 1#1)

def Pre_AdamKvRefIdeal (m : (ℓ : Loc Cert.AdamKvRefIdeal.nD Cert.AdamKvRefIdeal.τ Cert.AdamKvRefIdeal.sig) → Buf (Elt Ideal) ℓ) : Prop :=
  True

def Pre_AdamKvRefIdeal_kv_place [hPre_kv_place : Cert.Pre_kv_place.Facts] (m : (ℓ : Loc Cert.AdamKvRefIdeal.nD Cert.AdamKvRefIdeal.τ Cert.AdamKvRefIdeal.sig) → Buf (Elt Ideal) ℓ) : Prop :=
  ∀ c : Dev Cert.AdamKvRefIdeal.nD,
    (Cert.Pre_kv_place.fn (F := Ideal) (m ((c.tc : Thread Cert.AdamKvRefIdeal.nD Cert.AdamKvRefIdeal.τ).loc Cert.AdamKvRefIdeal.main_arg0)) (m ((c.tc : Thread Cert.AdamKvRefIdeal.nD Cert.AdamKvRefIdeal.τ).loc Cert.AdamKvRefIdeal.main_arg1)) (m ((c.tc : Thread Cert.AdamKvRefIdeal.nD Cert.AdamKvRefIdeal.τ).loc Cert.AdamKvRefIdeal.main_arg2)) (m ((c.tc : Thread Cert.AdamKvRefIdeal.nD Cert.AdamKvRefIdeal.τ).loc Cert.AdamKvRefIdeal.main_arg3)) (m ((c.tc : Thread Cert.AdamKvRefIdeal.nD Cert.AdamKvRefIdeal.τ).loc Cert.AdamKvRefIdeal.main_arg4)) (m ((c.tc : Thread Cert.AdamKvRefIdeal.nD Cert.AdamKvRefIdeal.τ).loc Cert.AdamKvRefIdeal.main_arg5))) = (fun _ => 1#1)

def Pre_AdamSmall [hPre_small_place : Cert.Pre_small_place.Facts] (m : (ℓ : Loc Cert.AdamSmall.nD Cert.AdamSmall.τ Cert.AdamSmall.sig) → Buf (Elt Bits) ℓ) : Prop :=
  ∀ c : Dev Cert.AdamSmall.nD,
    (Cert.Pre_small_place.fn (F := Bits) (m ((c.tc : Thread Cert.AdamSmall.nD Cert.AdamSmall.τ).loc Cert.AdamSmall.main_arg0)) (m ((c.tc : Thread Cert.AdamSmall.nD Cert.AdamSmall.τ).loc Cert.AdamSmall.main_arg1)) (m ((c.tc : Thread Cert.AdamSmall.nD Cert.AdamSmall.τ).loc Cert.AdamSmall.main_arg2)) (m ((c.tc : Thread Cert.AdamSmall.nD Cert.AdamSmall.τ).loc Cert.AdamSmall.main_arg3)) (m ((c.tc : Thread Cert.AdamSmall.nD Cert.AdamSmall.τ).loc Cert.AdamSmall.main_arg4)) (m ((c.tc : Thread Cert.AdamSmall.nD Cert.AdamSmall.τ).loc Cert.AdamSmall.main_arg5))) = (fun _ => 1#1)

def Pre_AdamSmallIdeal [hPre_small_place : Cert.Pre_small_place.Facts] (m : (ℓ : Loc Cert.AdamSmallIdeal.nD Cert.AdamSmallIdeal.τ Cert.AdamSmallIdeal.sig) → Buf (Elt Ideal) ℓ) : Prop :=
  ∀ c : Dev Cert.AdamSmallIdeal.nD,
    (Cert.Pre_small_place.fn (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg5))) = (fun _ => 1#1)

def Pre_AdamSmallRefIdeal (m : (ℓ : Loc Cert.AdamSmallRefIdeal.nD Cert.AdamSmallRefIdeal.τ Cert.AdamSmallRefIdeal.sig) → Buf (Elt Ideal) ℓ) : Prop :=
  True

def Pre_AdamSmallRefIdeal_small_place [hPre_small_place : Cert.Pre_small_place.Facts] (m : (ℓ : Loc Cert.AdamSmallRefIdeal.nD Cert.AdamSmallRefIdeal.τ Cert.AdamSmallRefIdeal.sig) → Buf (Elt Ideal) ℓ) : Prop :=
  ∀ c : Dev Cert.AdamSmallRefIdeal.nD,
    (Cert.Pre_small_place.fn (F := Ideal) (m ((c.tc : Thread Cert.AdamSmallRefIdeal.nD Cert.AdamSmallRefIdeal.τ).loc Cert.AdamSmallRefIdeal.main_arg0)) (m ((c.tc : Thread Cert.AdamSmallRefIdeal.nD Cert.AdamSmallRefIdeal.τ).loc Cert.AdamSmallRefIdeal.main_arg1)) (m ((c.tc : Thread Cert.AdamSmallRefIdeal.nD Cert.AdamSmallRefIdeal.τ).loc Cert.AdamSmallRefIdeal.main_arg2)) (m ((c.tc : Thread Cert.AdamSmallRefIdeal.nD Cert.AdamSmallRefIdeal.τ).loc Cert.AdamSmallRefIdeal.main_arg3)) (m ((c.tc : Thread Cert.AdamSmallRefIdeal.nD Cert.AdamSmallRefIdeal.τ).loc Cert.AdamSmallRefIdeal.main_arg4)) (m ((c.tc : Thread Cert.AdamSmallRefIdeal.nD Cert.AdamSmallRefIdeal.τ).loc Cert.AdamSmallRefIdeal.main_arg5))) = (fun _ => 1#1)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemBwdIdeal_pre_mem_finite [hMemBwdIdeal : Cert.MemBwdIdeal.Facts] [hPre_mem_finite : Cert.Pre_mem_finite.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_mem_finite m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2))
      ∧ r.2.sem = fun _ => 0)

def quiescent_MemBwdRefIdeal_pre_mem_finite [hMemBwdRefIdeal : Cert.MemBwdRefIdeal.Facts] [hPre_mem_finite : Cert.Pre_mem_finite.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal_mem_finite m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdRefIdeal [hFoxBwdRefIdeal : Cert.FoxBwdRefIdeal.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_FoxBwdRefIdeal_pre_fox_finite [hFoxBwdRefIdeal : Cert.FoxBwdRefIdeal.Facts] [hPre_fox_finite : Cert.Pre_fox_finite.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal_fox_finite m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_GradGates [hGradGates : Cert.GradGates.Facts] : Prop :=
  ∀ (m : (ℓ : Loc Cert.GradGates.nD Cert.GradGates.τ Cert.GradGates.sig) → Buf (Elt Bits) ℓ) (g : Dev Cert.GradGates.nD → PrngReg), Pre_GradGates m →
    θ_run (Cert.GradGates.defs (F := Bits)) (onTc (τ := Cert.GradGates.τ) (Cert.GradGates.main (F := Bits))) ⟨m, fun _ => 0, g⟩ (fun r => (∀ c : Dev Cert.GradGates.nD,
      r.2.mem ((c.tc : Thread Cert.GradGates.nD Cert.GradGates.τ).loc Cert.GradGates.main_arg0) = m ((c.tc : Thread Cert.GradGates.nD Cert.GradGates.τ).loc Cert.GradGates.main_arg0)
      ∧ r.2.mem ((c.tc : Thread Cert.GradGates.nD Cert.GradGates.τ).loc Cert.GradGates.main_arg1) = m ((c.tc : Thread Cert.GradGates.nD Cert.GradGates.τ).loc Cert.GradGates.main_arg1)
      ∧ r.2.mem ((c.tc : Thread Cert.GradGates.nD Cert.GradGates.τ).loc Cert.GradGates.main_arg2) = m ((c.tc : Thread Cert.GradGates.nD Cert.GradGates.τ).loc Cert.GradGates.main_arg2)
      ∧ r.2.mem ((c.tc : Thread Cert.GradGates.nD Cert.GradGates.τ).loc Cert.GradGates.main_arg3) = m ((c.tc : Thread Cert.GradGates.nD Cert.GradGates.τ).loc Cert.GradGates.main_arg3))
      ∧ r.2.sem = fun _ => 0)

def quiescent_GradGatesIdeal [hGradGatesIdeal : Cert.GradGatesIdeal.Facts] : Prop :=
  ∀ (m : (ℓ : Loc Cert.GradGatesIdeal.nD Cert.GradGatesIdeal.τ Cert.GradGatesIdeal.sig) → Buf (Elt Ideal) ℓ) (g : Dev Cert.GradGatesIdeal.nD → PrngReg), Pre_GradGatesIdeal m →
    θ_run (Cert.GradGatesIdeal.defs (F := Ideal)) (onTc (τ := Cert.GradGatesIdeal.τ) (Cert.GradGatesIdeal.main (F := Ideal))) ⟨m, fun _ => 0, g⟩ (fun r => (∀ c : Dev Cert.GradGatesIdeal.nD,
      r.2.mem ((c.tc : Thread Cert.GradGatesIdeal.nD Cert.GradGatesIdeal.τ).loc Cert.GradGatesIdeal.main_arg0) = m ((c.tc : Thread Cert.GradGatesIdeal.nD Cert.GradGatesIdeal.τ).loc Cert.GradGatesIdeal.main_arg0)
      ∧ r.2.mem ((c.tc : Thread Cert.GradGatesIdeal.nD Cert.GradGatesIdeal.τ).loc Cert.GradGatesIdeal.main_arg1) = m ((c.tc : Thread Cert.GradGatesIdeal.nD Cert.GradGatesIdeal.τ).loc Cert.GradGatesIdeal.main_arg1)
      ∧ r.2.mem ((c.tc : Thread Cert.GradGatesIdeal.nD Cert.GradGatesIdeal.τ).loc Cert.GradGatesIdeal.main_arg2) = m ((c.tc : Thread Cert.GradGatesIdeal.nD Cert.GradGatesIdeal.τ).loc Cert.GradGatesIdeal.main_arg2)
      ∧ r.2.mem ((c.tc : Thread Cert.GradGatesIdeal.nD Cert.GradGatesIdeal.τ).loc Cert.GradGatesIdeal.main_arg3) = m ((c.tc : Thread Cert.GradGatesIdeal.nD Cert.GradGatesIdeal.τ).loc Cert.GradGatesIdeal.main_arg3))
      ∧ r.2.sem = fun _ => 0)

def quiescent_GradGatesRefIdeal [hGradGatesRefIdeal : Cert.GradGatesRefIdeal.Facts] : Prop :=
  ∀ (m : (ℓ : Loc Cert.GradGatesRefIdeal.nD Cert.GradGatesRefIdeal.τ Cert.GradGatesRefIdeal.sig) → Buf (Elt Ideal) ℓ) (g : Dev Cert.GradGatesRefIdeal.nD → PrngReg), Pre_GradGatesRefIdeal m →
    θ_run (Cert.GradGatesRefIdeal.defs (F := Ideal)) (onTc (τ := Cert.GradGatesRefIdeal.τ) (Cert.GradGatesRefIdeal.main (F := Ideal))) ⟨m, fun _ => 0, g⟩ (fun r => (∀ c : Dev Cert.GradGatesRefIdeal.nD,
      r.2.mem ((c.tc : Thread Cert.GradGatesRefIdeal.nD Cert.GradGatesRefIdeal.τ).loc Cert.GradGatesRefIdeal.main_arg0) = m ((c.tc : Thread Cert.GradGatesRefIdeal.nD Cert.GradGatesRefIdeal.τ).loc Cert.GradGatesRefIdeal.main_arg0)
      ∧ r.2.mem ((c.tc : Thread Cert.GradGatesRefIdeal.nD Cert.GradGatesRefIdeal.τ).loc Cert.GradGatesRefIdeal.main_arg1) = m ((c.tc : Thread Cert.GradGatesRefIdeal.nD Cert.GradGatesRefIdeal.τ).loc Cert.GradGatesRefIdeal.main_arg1)
      ∧ r.2.mem ((c.tc : Thread Cert.GradGatesRefIdeal.nD Cert.GradGatesRefIdeal.τ).loc Cert.GradGatesRefIdeal.main_arg2) = m ((c.tc : Thread Cert.GradGatesRefIdeal.nD Cert.GradGatesRefIdeal.τ).loc Cert.GradGatesRefIdeal.main_arg2)
      ∧ r.2.mem ((c.tc : Thread Cert.GradGatesRefIdeal.nD Cert.GradGatesRefIdeal.τ).loc Cert.GradGatesRefIdeal.main_arg3) = m ((c.tc : Thread Cert.GradGatesRefIdeal.nD Cert.GradGatesRefIdeal.τ).loc Cert.GradGatesRefIdeal.main_arg3))
      ∧ r.2.sem = fun _ => 0)

def quiescent_GradFox [hGradFox : Cert.GradFox.Facts] : Prop :=
  ∀ (m : (ℓ : Loc Cert.GradFox.nD Cert.GradFox.τ Cert.GradFox.sig) → Buf (Elt Bits) ℓ) (g : Dev Cert.GradFox.nD → PrngReg), Pre_GradFox m →
    θ_run (Cert.GradFox.defs (F := Bits)) (onTc (τ := Cert.GradFox.τ) (Cert.GradFox.main (F := Bits))) ⟨m, fun _ => 0, g⟩ (fun r => (∀ c : Dev Cert.GradFox.nD,
      r.2.mem ((c.tc : Thread Cert.GradFox.nD Cert.GradFox.τ).loc Cert.GradFox.main_arg0) = m ((c.tc : Thread Cert.GradFox.nD Cert.GradFox.τ).loc Cert.GradFox.main_arg0)
      ∧ r.2.mem ((c.tc : Thread Cert.GradFox.nD Cert.GradFox.τ).loc Cert.GradFox.main_arg1) = m ((c.tc : Thread Cert.GradFox.nD Cert.GradFox.τ).loc Cert.GradFox.main_arg1)
      ∧ r.2.mem ((c.tc : Thread Cert.GradFox.nD Cert.GradFox.τ).loc Cert.GradFox.main_arg2) = m ((c.tc : Thread Cert.GradFox.nD Cert.GradFox.τ).loc Cert.GradFox.main_arg2))
      ∧ r.2.sem = fun _ => 0)

def quiescent_GradFoxIdeal [hGradFoxIdeal : Cert.GradFoxIdeal.Facts] : Prop :=
  ∀ (m : (ℓ : Loc Cert.GradFoxIdeal.nD Cert.GradFoxIdeal.τ Cert.GradFoxIdeal.sig) → Buf (Elt Ideal) ℓ) (g : Dev Cert.GradFoxIdeal.nD → PrngReg), Pre_GradFoxIdeal m →
    θ_run (Cert.GradFoxIdeal.defs (F := Ideal)) (onTc (τ := Cert.GradFoxIdeal.τ) (Cert.GradFoxIdeal.main (F := Ideal))) ⟨m, fun _ => 0, g⟩ (fun r => (∀ c : Dev Cert.GradFoxIdeal.nD,
      r.2.mem ((c.tc : Thread Cert.GradFoxIdeal.nD Cert.GradFoxIdeal.τ).loc Cert.GradFoxIdeal.main_arg0) = m ((c.tc : Thread Cert.GradFoxIdeal.nD Cert.GradFoxIdeal.τ).loc Cert.GradFoxIdeal.main_arg0)
      ∧ r.2.mem ((c.tc : Thread Cert.GradFoxIdeal.nD Cert.GradFoxIdeal.τ).loc Cert.GradFoxIdeal.main_arg1) = m ((c.tc : Thread Cert.GradFoxIdeal.nD Cert.GradFoxIdeal.τ).loc Cert.GradFoxIdeal.main_arg1)
      ∧ r.2.mem ((c.tc : Thread Cert.GradFoxIdeal.nD Cert.GradFoxIdeal.τ).loc Cert.GradFoxIdeal.main_arg2) = m ((c.tc : Thread Cert.GradFoxIdeal.nD Cert.GradFoxIdeal.τ).loc Cert.GradFoxIdeal.main_arg2))
      ∧ r.2.sem = fun _ => 0)

def quiescent_GradFoxRefIdeal [hGradFoxRefIdeal : Cert.GradFoxRefIdeal.Facts] : Prop :=
  ∀ (m : (ℓ : Loc Cert.GradFoxRefIdeal.nD Cert.GradFoxRefIdeal.τ Cert.GradFoxRefIdeal.sig) → Buf (Elt Ideal) ℓ) (g : Dev Cert.GradFoxRefIdeal.nD → PrngReg), Pre_GradFoxRefIdeal m →
    θ_run (Cert.GradFoxRefIdeal.defs (F := Ideal)) (onTc (τ := Cert.GradFoxRefIdeal.τ) (Cert.GradFoxRefIdeal.main (F := Ideal))) ⟨m, fun _ => 0, g⟩ (fun r => (∀ c : Dev Cert.GradFoxRefIdeal.nD,
      r.2.mem ((c.tc : Thread Cert.GradFoxRefIdeal.nD Cert.GradFoxRefIdeal.τ).loc Cert.GradFoxRefIdeal.main_arg0) = m ((c.tc : Thread Cert.GradFoxRefIdeal.nD Cert.GradFoxRefIdeal.τ).loc Cert.GradFoxRefIdeal.main_arg0)
      ∧ r.2.mem ((c.tc : Thread Cert.GradFoxRefIdeal.nD Cert.GradFoxRefIdeal.τ).loc Cert.GradFoxRefIdeal.main_arg1) = m ((c.tc : Thread Cert.GradFoxRefIdeal.nD Cert.GradFoxRefIdeal.τ).loc Cert.GradFoxRefIdeal.main_arg1)
      ∧ r.2.mem ((c.tc : Thread Cert.GradFoxRefIdeal.nD Cert.GradFoxRefIdeal.τ).loc Cert.GradFoxRefIdeal.main_arg2) = m ((c.tc : Thread Cert.GradFoxRefIdeal.nD Cert.GradFoxRefIdeal.τ).loc Cert.GradFoxRefIdeal.main_arg2))
      ∧ r.2.sem = fun _ => 0)

def quiescent_GradDil [hGradDil : Cert.GradDil.Facts] : Prop :=
  ∀ (m : (ℓ : Loc Cert.GradDil.nD Cert.GradDil.τ Cert.GradDil.sig) → Buf (Elt Bits) ℓ) (g : Dev Cert.GradDil.nD → PrngReg), Pre_GradDil m →
    θ_run (Cert.GradDil.defs (F := Bits)) (onTc (τ := Cert.GradDil.τ) (Cert.GradDil.main (F := Bits))) ⟨m, fun _ => 0, g⟩ (fun r => (∀ c : Dev Cert.GradDil.nD,
      r.2.mem ((c.tc : Thread Cert.GradDil.nD Cert.GradDil.τ).loc Cert.GradDil.main_arg0) = m ((c.tc : Thread Cert.GradDil.nD Cert.GradDil.τ).loc Cert.GradDil.main_arg0)
      ∧ r.2.mem ((c.tc : Thread Cert.GradDil.nD Cert.GradDil.τ).loc Cert.GradDil.main_arg1) = m ((c.tc : Thread Cert.GradDil.nD Cert.GradDil.τ).loc Cert.GradDil.main_arg1))
      ∧ r.2.sem = fun _ => 0)

def quiescent_GradDilIdeal [hGradDilIdeal : Cert.GradDilIdeal.Facts] : Prop :=
  ∀ (m : (ℓ : Loc Cert.GradDilIdeal.nD Cert.GradDilIdeal.τ Cert.GradDilIdeal.sig) → Buf (Elt Ideal) ℓ) (g : Dev Cert.GradDilIdeal.nD → PrngReg), Pre_GradDilIdeal m →
    θ_run (Cert.GradDilIdeal.defs (F := Ideal)) (onTc (τ := Cert.GradDilIdeal.τ) (Cert.GradDilIdeal.main (F := Ideal))) ⟨m, fun _ => 0, g⟩ (fun r => (∀ c : Dev Cert.GradDilIdeal.nD,
      r.2.mem ((c.tc : Thread Cert.GradDilIdeal.nD Cert.GradDilIdeal.τ).loc Cert.GradDilIdeal.main_arg0) = m ((c.tc : Thread Cert.GradDilIdeal.nD Cert.GradDilIdeal.τ).loc Cert.GradDilIdeal.main_arg0)
      ∧ r.2.mem ((c.tc : Thread Cert.GradDilIdeal.nD Cert.GradDilIdeal.τ).loc Cert.GradDilIdeal.main_arg1) = m ((c.tc : Thread Cert.GradDilIdeal.nD Cert.GradDilIdeal.τ).loc Cert.GradDilIdeal.main_arg1))
      ∧ r.2.sem = fun _ => 0)

def quiescent_GradDilRefIdeal [hGradDilRefIdeal : Cert.GradDilRefIdeal.Facts] : Prop :=
  ∀ (m : (ℓ : Loc Cert.GradDilRefIdeal.nD Cert.GradDilRefIdeal.τ Cert.GradDilRefIdeal.sig) → Buf (Elt Ideal) ℓ) (g : Dev Cert.GradDilRefIdeal.nD → PrngReg), Pre_GradDilRefIdeal m →
    θ_run (Cert.GradDilRefIdeal.defs (F := Ideal)) (onTc (τ := Cert.GradDilRefIdeal.τ) (Cert.GradDilRefIdeal.main (F := Ideal))) ⟨m, fun _ => 0, g⟩ (fun r => (∀ c : Dev Cert.GradDilRefIdeal.nD,
      r.2.mem ((c.tc : Thread Cert.GradDilRefIdeal.nD Cert.GradDilRefIdeal.τ).loc Cert.GradDilRefIdeal.main_arg0) = m ((c.tc : Thread Cert.GradDilRefIdeal.nD Cert.GradDilRefIdeal.τ).loc Cert.GradDilRefIdeal.main_arg0)
      ∧ r.2.mem ((c.tc : Thread Cert.GradDilRefIdeal.nD Cert.GradDilRefIdeal.τ).loc Cert.GradDilRefIdeal.main_arg1) = m ((c.tc : Thread Cert.GradDilRefIdeal.nD Cert.GradDilRefIdeal.τ).loc Cert.GradDilRefIdeal.main_arg1))
      ∧ r.2.sem = fun _ => 0)

def quiescent_GradMq [hGradMq : Cert.GradMq.Facts] : Prop :=
  ∀ (m : (ℓ : Loc Cert.GradMq.nD Cert.GradMq.τ Cert.GradMq.sig) → Buf (Elt Bits) ℓ) (g : Dev Cert.GradMq.nD → PrngReg), Pre_GradMq m →
    θ_run (Cert.GradMq.defs (F := Bits)) (onTc (τ := Cert.GradMq.τ) (Cert.GradMq.main (F := Bits))) ⟨m, fun _ => 0, g⟩ (fun r => (∀ c : Dev Cert.GradMq.nD,
      r.2.mem ((c.tc : Thread Cert.GradMq.nD Cert.GradMq.τ).loc Cert.GradMq.main_arg0) = m ((c.tc : Thread Cert.GradMq.nD Cert.GradMq.τ).loc Cert.GradMq.main_arg0)
      ∧ r.2.mem ((c.tc : Thread Cert.GradMq.nD Cert.GradMq.τ).loc Cert.GradMq.main_arg1) = m ((c.tc : Thread Cert.GradMq.nD Cert.GradMq.τ).loc Cert.GradMq.main_arg1))
      ∧ r.2.sem = fun _ => 0)

def quiescent_GradMqIdeal [hGradMqIdeal : Cert.GradMqIdeal.Facts] : Prop :=
  ∀ (m : (ℓ : Loc Cert.GradMqIdeal.nD Cert.GradMqIdeal.τ Cert.GradMqIdeal.sig) → Buf (Elt Ideal) ℓ) (g : Dev Cert.GradMqIdeal.nD → PrngReg), Pre_GradMqIdeal m →
    θ_run (Cert.GradMqIdeal.defs (F := Ideal)) (onTc (τ := Cert.GradMqIdeal.τ) (Cert.GradMqIdeal.main (F := Ideal))) ⟨m, fun _ => 0, g⟩ (fun r => (∀ c : Dev Cert.GradMqIdeal.nD,
      r.2.mem ((c.tc : Thread Cert.GradMqIdeal.nD Cert.GradMqIdeal.τ).loc Cert.GradMqIdeal.main_arg0) = m ((c.tc : Thread Cert.GradMqIdeal.nD Cert.GradMqIdeal.τ).loc Cert.GradMqIdeal.main_arg0)
      ∧ r.2.mem ((c.tc : Thread Cert.GradMqIdeal.nD Cert.GradMqIdeal.τ).loc Cert.GradMqIdeal.main_arg1) = m ((c.tc : Thread Cert.GradMqIdeal.nD Cert.GradMqIdeal.τ).loc Cert.GradMqIdeal.main_arg1))
      ∧ r.2.sem = fun _ => 0)

def quiescent_GradMqRefIdeal [hGradMqRefIdeal : Cert.GradMqRefIdeal.Facts] : Prop :=
  ∀ (m : (ℓ : Loc Cert.GradMqRefIdeal.nD Cert.GradMqRefIdeal.τ Cert.GradMqRefIdeal.sig) → Buf (Elt Ideal) ℓ) (g : Dev Cert.GradMqRefIdeal.nD → PrngReg), Pre_GradMqRefIdeal m →
    θ_run (Cert.GradMqRefIdeal.defs (F := Ideal)) (onTc (τ := Cert.GradMqRefIdeal.τ) (Cert.GradMqRefIdeal.main (F := Ideal))) ⟨m, fun _ => 0, g⟩ (fun r => (∀ c : Dev Cert.GradMqRefIdeal.nD,
      r.2.mem ((c.tc : Thread Cert.GradMqRefIdeal.nD Cert.GradMqRefIdeal.τ).loc Cert.GradMqRefIdeal.main_arg0) = m ((c.tc : Thread Cert.GradMqRefIdeal.nD Cert.GradMqRefIdeal.τ).loc Cert.GradMqRefIdeal.main_arg0)
      ∧ r.2.mem ((c.tc : Thread Cert.GradMqRefIdeal.nD Cert.GradMqRefIdeal.τ).loc Cert.GradMqRefIdeal.main_arg1) = m ((c.tc : Thread Cert.GradMqRefIdeal.nD Cert.GradMqRefIdeal.τ).loc Cert.GradMqRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9)
      ∧ r.2.mem ((c.tc : Thread Cert.InBwd.nD Cert.InBwd.τ).loc Cert.InBwd.main_arg10) = m ((c.tc : Thread Cert.InBwd.nD Cert.InBwd.τ).loc Cert.InBwd.main_arg10)
      ∧ r.2.mem ((c.tc : Thread Cert.InBwd.nD Cert.InBwd.τ).loc Cert.InBwd.main_arg11) = m ((c.tc : Thread Cert.InBwd.nD Cert.InBwd.τ).loc Cert.InBwd.main_arg11)
      ∧ r.2.mem ((c.tc : Thread Cert.InBwd.nD Cert.InBwd.τ).loc Cert.InBwd.main_arg12) = m ((c.tc : Thread Cert.InBwd.nD Cert.InBwd.τ).loc Cert.InBwd.main_arg12)
      ∧ r.2.mem ((c.tc : Thread Cert.InBwd.nD Cert.InBwd.τ).loc Cert.InBwd.main_arg13) = m ((c.tc : Thread Cert.InBwd.nD Cert.InBwd.τ).loc Cert.InBwd.main_arg13)
      ∧ r.2.mem ((c.tc : Thread Cert.InBwd.nD Cert.InBwd.τ).loc Cert.InBwd.main_arg14) = m ((c.tc : Thread Cert.InBwd.nD Cert.InBwd.τ).loc Cert.InBwd.main_arg14)
      ∧ r.2.mem ((c.tc : Thread Cert.InBwd.nD Cert.InBwd.τ).loc Cert.InBwd.main_arg15) = m ((c.tc : Thread Cert.InBwd.nD Cert.InBwd.τ).loc Cert.InBwd.main_arg15)
      ∧ r.2.mem ((c.tc : Thread Cert.InBwd.nD Cert.InBwd.τ).loc Cert.InBwd.main_arg16) = m ((c.tc : Thread Cert.InBwd.nD Cert.InBwd.τ).loc Cert.InBwd.main_arg16))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
      ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13)
      ∧ r.2.mem ((c.tc : Thread Cert.InBwdIdeal.nD Cert.InBwdIdeal.τ).loc Cert.InBwdIdeal.main_arg14) = m ((c.tc : Thread Cert.InBwdIdeal.nD Cert.InBwdIdeal.τ).loc Cert.InBwdIdeal.main_arg14)
      ∧ r.2.mem ((c.tc : Thread Cert.InBwdIdeal.nD Cert.InBwdIdeal.τ).loc Cert.InBwdIdeal.main_arg15) = m ((c.tc : Thread Cert.InBwdIdeal.nD Cert.InBwdIdeal.τ).loc Cert.InBwdIdeal.main_arg15)
      ∧ r.2.mem ((c.tc : Thread Cert.InBwdIdeal.nD Cert.InBwdIdeal.τ).loc Cert.InBwdIdeal.main_arg16) = m ((c.tc : Thread Cert.InBwdIdeal.nD Cert.InBwdIdeal.τ).loc Cert.InBwdIdeal.main_arg16))
      ∧ r.2.sem = fun _ => 0)

def quiescent_InBwdIdeal_pre_in_proj_finite [hInBwdIdeal : Cert.InBwdIdeal.Facts] [hPre_in_proj_finite : Cert.Pre_in_proj_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_proj_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
      ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13)
      ∧ r.2.mem ((c.tc : Thread Cert.InBwdIdeal.nD Cert.InBwdIdeal.τ).loc Cert.InBwdIdeal.main_arg14) = m ((c.tc : Thread Cert.InBwdIdeal.nD Cert.InBwdIdeal.τ).loc Cert.InBwdIdeal.main_arg14)
      ∧ r.2.mem ((c.tc : Thread Cert.InBwdIdeal.nD Cert.InBwdIdeal.τ).loc Cert.InBwdIdeal.main_arg15) = m ((c.tc : Thread Cert.InBwdIdeal.nD Cert.InBwdIdeal.τ).loc Cert.InBwdIdeal.main_arg15)
      ∧ r.2.mem ((c.tc : Thread Cert.InBwdIdeal.nD Cert.InBwdIdeal.τ).loc Cert.InBwdIdeal.main_arg16) = m ((c.tc : Thread Cert.InBwdIdeal.nD Cert.InBwdIdeal.τ).loc Cert.InBwdIdeal.main_arg16))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10)
      ∧ r.2.mem ((c.tc : Thread Cert.InBwdRefIdeal.nD Cert.InBwdRefIdeal.τ).loc Cert.InBwdRefIdeal.main_arg11) = m ((c.tc : Thread Cert.InBwdRefIdeal.nD Cert.InBwdRefIdeal.τ).loc Cert.InBwdRefIdeal.main_arg11)
      ∧ r.2.mem ((c.tc : Thread Cert.InBwdRefIdeal.nD Cert.InBwdRefIdeal.τ).loc Cert.InBwdRefIdeal.main_arg12) = m ((c.tc : Thread Cert.InBwdRefIdeal.nD Cert.InBwdRefIdeal.τ).loc Cert.InBwdRefIdeal.main_arg12)
      ∧ r.2.mem ((c.tc : Thread Cert.InBwdRefIdeal.nD Cert.InBwdRefIdeal.τ).loc Cert.InBwdRefIdeal.main_arg13) = m ((c.tc : Thread Cert.InBwdRefIdeal.nD Cert.InBwdRefIdeal.τ).loc Cert.InBwdRefIdeal.main_arg13)
      ∧ r.2.mem ((c.tc : Thread Cert.InBwdRefIdeal.nD Cert.InBwdRefIdeal.τ).loc Cert.InBwdRefIdeal.main_arg14) = m ((c.tc : Thread Cert.InBwdRefIdeal.nD Cert.InBwdRefIdeal.τ).loc Cert.InBwdRefIdeal.main_arg14)
      ∧ r.2.mem ((c.tc : Thread Cert.InBwdRefIdeal.nD Cert.InBwdRefIdeal.τ).loc Cert.InBwdRefIdeal.main_arg15) = m ((c.tc : Thread Cert.InBwdRefIdeal.nD Cert.InBwdRefIdeal.τ).loc Cert.InBwdRefIdeal.main_arg15)
      ∧ r.2.mem ((c.tc : Thread Cert.InBwdRefIdeal.nD Cert.InBwdRefIdeal.τ).loc Cert.InBwdRefIdeal.main_arg16) = m ((c.tc : Thread Cert.InBwdRefIdeal.nD Cert.InBwdRefIdeal.τ).loc Cert.InBwdRefIdeal.main_arg16))
      ∧ r.2.sem = fun _ => 0)

def quiescent_InBwdRefIdeal_pre_in_proj_finite [hInBwdRefIdeal : Cert.InBwdRefIdeal.Facts] [hPre_in_proj_finite : Cert.Pre_in_proj_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_proj_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10)
      ∧ r.2.mem ((c.tc : Thread Cert.InBwdRefIdeal.nD Cert.InBwdRefIdeal.τ).loc Cert.InBwdRefIdeal.main_arg11) = m ((c.tc : Thread Cert.InBwdRefIdeal.nD Cert.InBwdRefIdeal.τ).loc Cert.InBwdRefIdeal.main_arg11)
      ∧ r.2.mem ((c.tc : Thread Cert.InBwdRefIdeal.nD Cert.InBwdRefIdeal.τ).loc Cert.InBwdRefIdeal.main_arg12) = m ((c.tc : Thread Cert.InBwdRefIdeal.nD Cert.InBwdRefIdeal.τ).loc Cert.InBwdRefIdeal.main_arg12)
      ∧ r.2.mem ((c.tc : Thread Cert.InBwdRefIdeal.nD Cert.InBwdRefIdeal.τ).loc Cert.InBwdRefIdeal.main_arg13) = m ((c.tc : Thread Cert.InBwdRefIdeal.nD Cert.InBwdRefIdeal.τ).loc Cert.InBwdRefIdeal.main_arg13)
      ∧ r.2.mem ((c.tc : Thread Cert.InBwdRefIdeal.nD Cert.InBwdRefIdeal.τ).loc Cert.InBwdRefIdeal.main_arg14) = m ((c.tc : Thread Cert.InBwdRefIdeal.nD Cert.InBwdRefIdeal.τ).loc Cert.InBwdRefIdeal.main_arg14)
      ∧ r.2.mem ((c.tc : Thread Cert.InBwdRefIdeal.nD Cert.InBwdRefIdeal.τ).loc Cert.InBwdRefIdeal.main_arg15) = m ((c.tc : Thread Cert.InBwdRefIdeal.nD Cert.InBwdRefIdeal.τ).loc Cert.InBwdRefIdeal.main_arg15)
      ∧ r.2.mem ((c.tc : Thread Cert.InBwdRefIdeal.nD Cert.InBwdRefIdeal.τ).loc Cert.InBwdRefIdeal.main_arg16) = m ((c.tc : Thread Cert.InBwdRefIdeal.nD Cert.InBwdRefIdeal.τ).loc Cert.InBwdRefIdeal.main_arg16))
      ∧ r.2.sem = fun _ => 0)

def quiescent_OutStep [hOutStep : Cert.OutStep.Facts] : Prop :=
  ∀ (m : (ℓ : Loc Cert.OutStep.nD Cert.OutStep.τ Cert.OutStep.sig) → Buf (Elt Bits) ℓ) (g : Dev Cert.OutStep.nD → PrngReg), Pre_OutStep m →
    θ_run (Cert.OutStep.defs (F := Bits)) (onTc (τ := Cert.OutStep.τ) (Cert.OutStep.main (F := Bits))) ⟨m, fun _ => 0, g⟩ (fun r => (∀ c : Dev Cert.OutStep.nD,
      r.2.mem ((c.tc : Thread Cert.OutStep.nD Cert.OutStep.τ).loc Cert.OutStep.main_arg0) = m ((c.tc : Thread Cert.OutStep.nD Cert.OutStep.τ).loc Cert.OutStep.main_arg0)
      ∧ r.2.mem ((c.tc : Thread Cert.OutStep.nD Cert.OutStep.τ).loc Cert.OutStep.main_arg1) = m ((c.tc : Thread Cert.OutStep.nD Cert.OutStep.τ).loc Cert.OutStep.main_arg1)
      ∧ r.2.mem ((c.tc : Thread Cert.OutStep.nD Cert.OutStep.τ).loc Cert.OutStep.main_arg2) = m ((c.tc : Thread Cert.OutStep.nD Cert.OutStep.τ).loc Cert.OutStep.main_arg2)
      ∧ r.2.mem ((c.tc : Thread Cert.OutStep.nD Cert.OutStep.τ).loc Cert.OutStep.main_arg3) = m ((c.tc : Thread Cert.OutStep.nD Cert.OutStep.τ).loc Cert.OutStep.main_arg3)
      ∧ r.2.mem ((c.tc : Thread Cert.OutStep.nD Cert.OutStep.τ).loc Cert.OutStep.main_arg4) = m ((c.tc : Thread Cert.OutStep.nD Cert.OutStep.τ).loc Cert.OutStep.main_arg4)
      ∧ r.2.mem ((c.tc : Thread Cert.OutStep.nD Cert.OutStep.τ).loc Cert.OutStep.main_arg5) = m ((c.tc : Thread Cert.OutStep.nD Cert.OutStep.τ).loc Cert.OutStep.main_arg5)
      ∧ r.2.mem ((c.tc : Thread Cert.OutStep.nD Cert.OutStep.τ).loc Cert.OutStep.main_arg6) = m ((c.tc : Thread Cert.OutStep.nD Cert.OutStep.τ).loc Cert.OutStep.main_arg6)
      ∧ r.2.mem ((c.tc : Thread Cert.OutStep.nD Cert.OutStep.τ).loc Cert.OutStep.main_arg7) = m ((c.tc : Thread Cert.OutStep.nD Cert.OutStep.τ).loc Cert.OutStep.main_arg7)
      ∧ r.2.mem ((c.tc : Thread Cert.OutStep.nD Cert.OutStep.τ).loc Cert.OutStep.main_arg8) = m ((c.tc : Thread Cert.OutStep.nD Cert.OutStep.τ).loc Cert.OutStep.main_arg8)
      ∧ r.2.mem ((c.tc : Thread Cert.OutStep.nD Cert.OutStep.τ).loc Cert.OutStep.main_arg9) = m ((c.tc : Thread Cert.OutStep.nD Cert.OutStep.τ).loc Cert.OutStep.main_arg9))
      ∧ r.2.sem = fun _ => 0)

def quiescent_OutStepIdeal [hOutStepIdeal : Cert.OutStepIdeal.Facts] : Prop :=
  ∀ (m : (ℓ : Loc Cert.OutStepIdeal.nD Cert.OutStepIdeal.τ Cert.OutStepIdeal.sig) → Buf (Elt Ideal) ℓ) (g : Dev Cert.OutStepIdeal.nD → PrngReg), Pre_OutStepIdeal m →
    θ_run (Cert.OutStepIdeal.defs (F := Ideal)) (onTc (τ := Cert.OutStepIdeal.τ) (Cert.OutStepIdeal.main (F := Ideal))) ⟨m, fun _ => 0, g⟩ (fun r => (∀ c : Dev Cert.OutStepIdeal.nD,
      r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
      ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
      ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
      ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3)
      ∧ r.2.mem ((c.tc : Thread Cert.OutStepIdeal.nD Cert.OutStepIdeal.τ).loc Cert.OutStepIdeal.main_arg4) = m ((c.tc : Thread Cert.OutStepIdeal.nD Cert.OutStepIdeal.τ).loc Cert.OutStepIdeal.main_arg4)
      ∧ r.2.mem ((c.tc : Thread Cert.OutStepIdeal.nD Cert.OutStepIdeal.τ).loc Cert.OutStepIdeal.main_arg5) = m ((c.tc : Thread Cert.OutStepIdeal.nD Cert.OutStepIdeal.τ).loc Cert.OutStepIdeal.main_arg5)
      ∧ r.2.mem ((c.tc : Thread Cert.OutStepIdeal.nD Cert.OutStepIdeal.τ).loc Cert.OutStepIdeal.main_arg6) = m ((c.tc : Thread Cert.OutStepIdeal.nD Cert.OutStepIdeal.τ).loc Cert.OutStepIdeal.main_arg6)
      ∧ r.2.mem ((c.tc : Thread Cert.OutStepIdeal.nD Cert.OutStepIdeal.τ).loc Cert.OutStepIdeal.main_arg7) = m ((c.tc : Thread Cert.OutStepIdeal.nD Cert.OutStepIdeal.τ).loc Cert.OutStepIdeal.main_arg7)
      ∧ r.2.mem ((c.tc : Thread Cert.OutStepIdeal.nD Cert.OutStepIdeal.τ).loc Cert.OutStepIdeal.main_arg8) = m ((c.tc : Thread Cert.OutStepIdeal.nD Cert.OutStepIdeal.τ).loc Cert.OutStepIdeal.main_arg8)
      ∧ r.2.mem ((c.tc : Thread Cert.OutStepIdeal.nD Cert.OutStepIdeal.τ).loc Cert.OutStepIdeal.main_arg9) = m ((c.tc : Thread Cert.OutStepIdeal.nD Cert.OutStepIdeal.τ).loc Cert.OutStepIdeal.main_arg9))
      ∧ r.2.sem = fun _ => 0)

def quiescent_OutStepIdeal_pre_out_finite [hOutStepIdeal : Cert.OutStepIdeal.Facts] [hPre_out_finite : Cert.Pre_out_finite.Facts] : Prop :=
  ∀ (m : (ℓ : Loc Cert.OutStepIdeal.nD Cert.OutStepIdeal.τ Cert.OutStepIdeal.sig) → Buf (Elt Ideal) ℓ) (g : Dev Cert.OutStepIdeal.nD → PrngReg), Pre_OutStepIdeal_out_finite m →
    θ_run (Cert.OutStepIdeal.defs (F := Ideal)) (onTc (τ := Cert.OutStepIdeal.τ) (Cert.OutStepIdeal.main (F := Ideal))) ⟨m, fun _ => 0, g⟩ (fun r => (∀ c : Dev Cert.OutStepIdeal.nD,
      r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
      ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
      ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
      ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3)
      ∧ r.2.mem ((c.tc : Thread Cert.OutStepIdeal.nD Cert.OutStepIdeal.τ).loc Cert.OutStepIdeal.main_arg4) = m ((c.tc : Thread Cert.OutStepIdeal.nD Cert.OutStepIdeal.τ).loc Cert.OutStepIdeal.main_arg4)
      ∧ r.2.mem ((c.tc : Thread Cert.OutStepIdeal.nD Cert.OutStepIdeal.τ).loc Cert.OutStepIdeal.main_arg5) = m ((c.tc : Thread Cert.OutStepIdeal.nD Cert.OutStepIdeal.τ).loc Cert.OutStepIdeal.main_arg5)
      ∧ r.2.mem ((c.tc : Thread Cert.OutStepIdeal.nD Cert.OutStepIdeal.τ).loc Cert.OutStepIdeal.main_arg6) = m ((c.tc : Thread Cert.OutStepIdeal.nD Cert.OutStepIdeal.τ).loc Cert.OutStepIdeal.main_arg6)
      ∧ r.2.mem ((c.tc : Thread Cert.OutStepIdeal.nD Cert.OutStepIdeal.τ).loc Cert.OutStepIdeal.main_arg7) = m ((c.tc : Thread Cert.OutStepIdeal.nD Cert.OutStepIdeal.τ).loc Cert.OutStepIdeal.main_arg7)
      ∧ r.2.mem ((c.tc : Thread Cert.OutStepIdeal.nD Cert.OutStepIdeal.τ).loc Cert.OutStepIdeal.main_arg8) = m ((c.tc : Thread Cert.OutStepIdeal.nD Cert.OutStepIdeal.τ).loc Cert.OutStepIdeal.main_arg8)
      ∧ r.2.mem ((c.tc : Thread Cert.OutStepIdeal.nD Cert.OutStepIdeal.τ).loc Cert.OutStepIdeal.main_arg9) = m ((c.tc : Thread Cert.OutStepIdeal.nD Cert.OutStepIdeal.τ).loc Cert.OutStepIdeal.main_arg9))
      ∧ r.2.sem = fun _ => 0)

def quiescent_OutStepRefIdeal [hOutStepRefIdeal : Cert.OutStepRefIdeal.Facts] : Prop :=
  ∀ (m : (ℓ : Loc Cert.OutStepRefIdeal.nD Cert.OutStepRefIdeal.τ Cert.OutStepRefIdeal.sig) → Buf (Elt Ideal) ℓ) (g : Dev Cert.OutStepRefIdeal.nD → PrngReg), Pre_OutStepRefIdeal m →
    θ_run (Cert.OutStepRefIdeal.defs (F := Ideal)) (onTc (τ := Cert.OutStepRefIdeal.τ) (Cert.OutStepRefIdeal.main (F := Ideal))) ⟨m, fun _ => 0, g⟩ (fun r => (∀ c : Dev Cert.OutStepRefIdeal.nD,
      r.2.mem ((c.tc : Thread Cert.OutStepRefIdeal.nD Cert.OutStepRefIdeal.τ).loc Cert.OutStepRefIdeal.main_arg0) = m ((c.tc : Thread Cert.OutStepRefIdeal.nD Cert.OutStepRefIdeal.τ).loc Cert.OutStepRefIdeal.main_arg0)
      ∧ r.2.mem ((c.tc : Thread Cert.OutStepRefIdeal.nD Cert.OutStepRefIdeal.τ).loc Cert.OutStepRefIdeal.main_arg1) = m ((c.tc : Thread Cert.OutStepRefIdeal.nD Cert.OutStepRefIdeal.τ).loc Cert.OutStepRefIdeal.main_arg1)
      ∧ r.2.mem ((c.tc : Thread Cert.OutStepRefIdeal.nD Cert.OutStepRefIdeal.τ).loc Cert.OutStepRefIdeal.main_arg2) = m ((c.tc : Thread Cert.OutStepRefIdeal.nD Cert.OutStepRefIdeal.τ).loc Cert.OutStepRefIdeal.main_arg2)
      ∧ r.2.mem ((c.tc : Thread Cert.OutStepRefIdeal.nD Cert.OutStepRefIdeal.τ).loc Cert.OutStepRefIdeal.main_arg3) = m ((c.tc : Thread Cert.OutStepRefIdeal.nD Cert.OutStepRefIdeal.τ).loc Cert.OutStepRefIdeal.main_arg3)
      ∧ r.2.mem ((c.tc : Thread Cert.OutStepRefIdeal.nD Cert.OutStepRefIdeal.τ).loc Cert.OutStepRefIdeal.main_arg4) = m ((c.tc : Thread Cert.OutStepRefIdeal.nD Cert.OutStepRefIdeal.τ).loc Cert.OutStepRefIdeal.main_arg4)
      ∧ r.2.mem ((c.tc : Thread Cert.OutStepRefIdeal.nD Cert.OutStepRefIdeal.τ).loc Cert.OutStepRefIdeal.main_arg5) = m ((c.tc : Thread Cert.OutStepRefIdeal.nD Cert.OutStepRefIdeal.τ).loc Cert.OutStepRefIdeal.main_arg5)
      ∧ r.2.mem ((c.tc : Thread Cert.OutStepRefIdeal.nD Cert.OutStepRefIdeal.τ).loc Cert.OutStepRefIdeal.main_arg6) = m ((c.tc : Thread Cert.OutStepRefIdeal.nD Cert.OutStepRefIdeal.τ).loc Cert.OutStepRefIdeal.main_arg6)
      ∧ r.2.mem ((c.tc : Thread Cert.OutStepRefIdeal.nD Cert.OutStepRefIdeal.τ).loc Cert.OutStepRefIdeal.main_arg7) = m ((c.tc : Thread Cert.OutStepRefIdeal.nD Cert.OutStepRefIdeal.τ).loc Cert.OutStepRefIdeal.main_arg7)
      ∧ r.2.mem ((c.tc : Thread Cert.OutStepRefIdeal.nD Cert.OutStepRefIdeal.τ).loc Cert.OutStepRefIdeal.main_arg8) = m ((c.tc : Thread Cert.OutStepRefIdeal.nD Cert.OutStepRefIdeal.τ).loc Cert.OutStepRefIdeal.main_arg8)
      ∧ r.2.mem ((c.tc : Thread Cert.OutStepRefIdeal.nD Cert.OutStepRefIdeal.τ).loc Cert.OutStepRefIdeal.main_arg9) = m ((c.tc : Thread Cert.OutStepRefIdeal.nD Cert.OutStepRefIdeal.τ).loc Cert.OutStepRefIdeal.main_arg9))
      ∧ r.2.sem = fun _ => 0)

def quiescent_OutStepRefIdeal_pre_out_finite [hOutStepRefIdeal : Cert.OutStepRefIdeal.Facts] [hPre_out_finite : Cert.Pre_out_finite.Facts] : Prop :=
  ∀ (m : (ℓ : Loc Cert.OutStepRefIdeal.nD Cert.OutStepRefIdeal.τ Cert.OutStepRefIdeal.sig) → Buf (Elt Ideal) ℓ) (g : Dev Cert.OutStepRefIdeal.nD → PrngReg), Pre_OutStepRefIdeal_out_finite m →
    θ_run (Cert.OutStepRefIdeal.defs (F := Ideal)) (onTc (τ := Cert.OutStepRefIdeal.τ) (Cert.OutStepRefIdeal.main (F := Ideal))) ⟨m, fun _ => 0, g⟩ (fun r => (∀ c : Dev Cert.OutStepRefIdeal.nD,
      r.2.mem ((c.tc : Thread Cert.OutStepRefIdeal.nD Cert.OutStepRefIdeal.τ).loc Cert.OutStepRefIdeal.main_arg0) = m ((c.tc : Thread Cert.OutStepRefIdeal.nD Cert.OutStepRefIdeal.τ).loc Cert.OutStepRefIdeal.main_arg0)
      ∧ r.2.mem ((c.tc : Thread Cert.OutStepRefIdeal.nD Cert.OutStepRefIdeal.τ).loc Cert.OutStepRefIdeal.main_arg1) = m ((c.tc : Thread Cert.OutStepRefIdeal.nD Cert.OutStepRefIdeal.τ).loc Cert.OutStepRefIdeal.main_arg1)
      ∧ r.2.mem ((c.tc : Thread Cert.OutStepRefIdeal.nD Cert.OutStepRefIdeal.τ).loc Cert.OutStepRefIdeal.main_arg2) = m ((c.tc : Thread Cert.OutStepRefIdeal.nD Cert.OutStepRefIdeal.τ).loc Cert.OutStepRefIdeal.main_arg2)
      ∧ r.2.mem ((c.tc : Thread Cert.OutStepRefIdeal.nD Cert.OutStepRefIdeal.τ).loc Cert.OutStepRefIdeal.main_arg3) = m ((c.tc : Thread Cert.OutStepRefIdeal.nD Cert.OutStepRefIdeal.τ).loc Cert.OutStepRefIdeal.main_arg3)
      ∧ r.2.mem ((c.tc : Thread Cert.OutStepRefIdeal.nD Cert.OutStepRefIdeal.τ).loc Cert.OutStepRefIdeal.main_arg4) = m ((c.tc : Thread Cert.OutStepRefIdeal.nD Cert.OutStepRefIdeal.τ).loc Cert.OutStepRefIdeal.main_arg4)
      ∧ r.2.mem ((c.tc : Thread Cert.OutStepRefIdeal.nD Cert.OutStepRefIdeal.τ).loc Cert.OutStepRefIdeal.main_arg5) = m ((c.tc : Thread Cert.OutStepRefIdeal.nD Cert.OutStepRefIdeal.τ).loc Cert.OutStepRefIdeal.main_arg5)
      ∧ r.2.mem ((c.tc : Thread Cert.OutStepRefIdeal.nD Cert.OutStepRefIdeal.τ).loc Cert.OutStepRefIdeal.main_arg6) = m ((c.tc : Thread Cert.OutStepRefIdeal.nD Cert.OutStepRefIdeal.τ).loc Cert.OutStepRefIdeal.main_arg6)
      ∧ r.2.mem ((c.tc : Thread Cert.OutStepRefIdeal.nD Cert.OutStepRefIdeal.τ).loc Cert.OutStepRefIdeal.main_arg7) = m ((c.tc : Thread Cert.OutStepRefIdeal.nD Cert.OutStepRefIdeal.τ).loc Cert.OutStepRefIdeal.main_arg7)
      ∧ r.2.mem ((c.tc : Thread Cert.OutStepRefIdeal.nD Cert.OutStepRefIdeal.τ).loc Cert.OutStepRefIdeal.main_arg8) = m ((c.tc : Thread Cert.OutStepRefIdeal.nD Cert.OutStepRefIdeal.τ).loc Cert.OutStepRefIdeal.main_arg8)
      ∧ r.2.mem ((c.tc : Thread Cert.OutStepRefIdeal.nD Cert.OutStepRefIdeal.τ).loc Cert.OutStepRefIdeal.main_arg9) = m ((c.tc : Thread Cert.OutStepRefIdeal.nD Cert.OutStepRefIdeal.τ).loc Cert.OutStepRefIdeal.main_arg9))
      ∧ r.2.sem = fun _ => 0)

def quiescent_AdamOut [hAdamOut : Cert.AdamOut.Facts] [hPre_out_place : Cert.Pre_out_place.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] [hPre_out_place : Cert.Pre_out_place.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamOutRefIdeal_pre_out_place [hAdamOutRefIdeal : Cert.AdamOutRefIdeal.Facts] [hPre_out_place : Cert.Pre_out_place.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal_out_place m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamKv [hAdamKv : Cert.AdamKv.Facts] [hPre_kv_place : Cert.Pre_kv_place.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4)
      ∧ r.2.mem ((c.tc : Thread Cert.AdamKv.nD Cert.AdamKv.τ).loc Cert.AdamKv.main_arg5) = m ((c.tc : Thread Cert.AdamKv.nD Cert.AdamKv.τ).loc Cert.AdamKv.main_arg5))
      ∧ r.2.sem = fun _ => 0)

def quiescent_AdamKvIdeal [hAdamKvIdeal : Cert.AdamKvIdeal.Facts] [hPre_kv_place : Cert.Pre_kv_place.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4)
      ∧ r.2.mem ((c.tc : Thread Cert.AdamKvIdeal.nD Cert.AdamKvIdeal.τ).loc Cert.AdamKvIdeal.main_arg5) = m ((c.tc : Thread Cert.AdamKvIdeal.nD Cert.AdamKvIdeal.τ).loc Cert.AdamKvIdeal.main_arg5))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3)
      ∧ r.2.mem ((c.tc : Thread Cert.AdamKvRefIdeal.nD Cert.AdamKvRefIdeal.τ).loc Cert.AdamKvRefIdeal.main_arg4) = m ((c.tc : Thread Cert.AdamKvRefIdeal.nD Cert.AdamKvRefIdeal.τ).loc Cert.AdamKvRefIdeal.main_arg4)
      ∧ r.2.mem ((c.tc : Thread Cert.AdamKvRefIdeal.nD Cert.AdamKvRefIdeal.τ).loc Cert.AdamKvRefIdeal.main_arg5) = m ((c.tc : Thread Cert.AdamKvRefIdeal.nD Cert.AdamKvRefIdeal.τ).loc Cert.AdamKvRefIdeal.main_arg5))
      ∧ r.2.sem = fun _ => 0)

def quiescent_AdamKvRefIdeal_pre_kv_place [hAdamKvRefIdeal : Cert.AdamKvRefIdeal.Facts] [hPre_kv_place : Cert.Pre_kv_place.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal_kv_place m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3)
      ∧ r.2.mem ((c.tc : Thread Cert.AdamKvRefIdeal.nD Cert.AdamKvRefIdeal.τ).loc Cert.AdamKvRefIdeal.main_arg4) = m ((c.tc : Thread Cert.AdamKvRefIdeal.nD Cert.AdamKvRefIdeal.τ).loc Cert.AdamKvRefIdeal.main_arg4)
      ∧ r.2.mem ((c.tc : Thread Cert.AdamKvRefIdeal.nD Cert.AdamKvRefIdeal.τ).loc Cert.AdamKvRefIdeal.main_arg5) = m ((c.tc : Thread Cert.AdamKvRefIdeal.nD Cert.AdamKvRefIdeal.τ).loc Cert.AdamKvRefIdeal.main_arg5))
      ∧ r.2.sem = fun _ => 0)

def quiescent_AdamSmall [hAdamSmall : Cert.AdamSmall.Facts] [hPre_small_place : Cert.Pre_small_place.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5))
      ∧ r.2.sem = fun _ => 0)

def quiescent_AdamSmallIdeal [hAdamSmallIdeal : Cert.AdamSmallIdeal.Facts] [hPre_small_place : Cert.Pre_small_place.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5))
      ∧ r.2.sem = fun _ => 0)

def quiescent_AdamSmallRefIdeal_pre_small_place [hAdamSmallRefIdeal : Cert.AdamSmallRefIdeal.Facts] [hPre_small_place : Cert.Pre_small_place.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal_small_place m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5))
      ∧ r.2.sem = fun _ => 0)

def preserves_MemBwd_MemBwdIdeal : Prop :=
  True

def algebraic_MemBwdIdeal_MemBwdRefIdeal_pre_mem_finite [hMemBwdIdeal : Cert.MemBwdIdeal.Facts] [hMemBwdRefIdeal : Cert.MemBwdRefIdeal.Facts] [hPre_mem_finite : Cert.Pre_mem_finite.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal_mem_finite m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)
      ∧ m' ((c.tc : Thread Cert.MemBwdRefIdeal.nD Cert.MemBwdRefIdeal.τ).loc Cert.MemBwdRefIdeal.main_arg2) = m ((c.tc : Thread Cert.MemBwdIdeal.nD Cert.MemBwdIdeal.τ).loc Cert.MemBwdIdeal.main_arg2)) →
    ∃ (v0 : (c : Dev Cert.MemBwdIdeal.nD) → Buf (Elt Ideal) ((c.tc : Thread Cert.MemBwdIdeal.nD Cert.MemBwdIdeal.τ).loc Cert.MemBwdIdeal.main_v37_0)) (v1 : (c : Dev Cert.MemBwdIdeal.nD) → Buf (Elt Ideal) ((c.tc : Thread Cert.MemBwdIdeal.nD Cert.MemBwdIdeal.τ).loc Cert.MemBwdIdeal.main_v37_1)) (v2 : (c : Dev Cert.MemBwdIdeal.nD) → Buf (Elt Ideal) ((c.tc : Thread Cert.MemBwdIdeal.nD Cert.MemBwdIdeal.τ).loc Cert.MemBwdIdeal.main_v37_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v37_0) = v0 c
          ∧ r.2.mem ((c.tc : Thread Cert.MemBwdIdeal.nD Cert.MemBwdIdeal.τ).loc Cert.MemBwdIdeal.main_v37_1) = v1 c
          ∧ r.2.mem ((c.tc : Thread Cert.MemBwdIdeal.nD Cert.MemBwdIdeal.τ).loc Cert.MemBwdIdeal.main_v37_2) = v2 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v66) = v0 c
          ∧ r.2.mem ((c.tc : Thread Cert.MemBwdRefIdeal.nD Cert.MemBwdRefIdeal.τ).loc Cert.MemBwdRefIdeal.main_v67) = v1 c
          ∧ r.2.mem ((c.tc : Thread Cert.MemBwdRefIdeal.nD Cert.MemBwdRefIdeal.τ).loc Cert.MemBwdRefIdeal.main_v68) = v2 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1)
          ∧ r.2.mem ((c.tc : Thread Cert.MemBwdRefIdeal.nD Cert.MemBwdRefIdeal.τ).loc Cert.MemBwdRefIdeal.main_arg2) = m' ((c.tc : Thread Cert.MemBwdRefIdeal.nD Cert.MemBwdRefIdeal.τ).loc Cert.MemBwdRefIdeal.main_arg2))

def preserves_FoxBwd_FoxBwdIdeal : Prop :=
  IdealRules.named_const.Statement Cert.FoxBwdIdeal.κ "mask" .f32 0xF149F2CA#32 ⊥

def algebraic_FoxBwdIdeal_FoxBwdRefIdeal_pre_fox_finite [hFoxBwdIdeal : Cert.FoxBwdIdeal.Facts] [hFoxBwdRefIdeal : Cert.FoxBwdRefIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxBwdRefIdeal.nD Cert.FoxBwdRefIdeal.τ Cert.FoxBwdRefIdeal.sig) → Buf (Elt Ideal) ℓ) (g' : Dev Cert.FoxBwdRefIdeal.nD → PrngReg), Pre_FoxBwdIdeal_fox_finite m →
    (∀ c : Dev Cert.FoxBwdIdeal.nD,
      m' ((c.tc : Thread Cert.FoxBwdRefIdeal.nD Cert.FoxBwdRefIdeal.τ).loc Cert.FoxBwdRefIdeal.main_arg0) = m ((c.tc : Thread Cert.FoxBwdIdeal.nD Cert.FoxBwdIdeal.τ).loc Cert.FoxBwdIdeal.main_arg0)
      ∧ m' ((c.tc : Thread Cert.FoxBwdRefIdeal.nD Cert.FoxBwdRefIdeal.τ).loc Cert.FoxBwdRefIdeal.main_arg1) = m ((c.tc : Thread Cert.FoxBwdIdeal.nD Cert.FoxBwdIdeal.τ).loc Cert.FoxBwdIdeal.main_arg1)
      ∧ m' ((c.tc : Thread Cert.FoxBwdRefIdeal.nD Cert.FoxBwdRefIdeal.τ).loc Cert.FoxBwdRefIdeal.main_arg2) = m ((c.tc : Thread Cert.FoxBwdIdeal.nD Cert.FoxBwdIdeal.τ).loc Cert.FoxBwdIdeal.main_arg2)
      ∧ m' ((c.tc : Thread Cert.FoxBwdRefIdeal.nD Cert.FoxBwdRefIdeal.τ).loc Cert.FoxBwdRefIdeal.main_arg3) = m ((c.tc : Thread Cert.FoxBwdIdeal.nD Cert.FoxBwdIdeal.τ).loc Cert.FoxBwdIdeal.main_arg3)
      ∧ m' ((c.tc : Thread Cert.FoxBwdRefIdeal.nD Cert.FoxBwdRefIdeal.τ).loc Cert.FoxBwdRefIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v79_0)) (v1 : (c : Dev Cert.FoxBwdIdeal.nD) → Buf (Elt Ideal) ((c.tc : Thread Cert.FoxBwdIdeal.nD Cert.FoxBwdIdeal.τ).loc Cert.FoxBwdIdeal.main_v79_1)) (v2 : (c : Dev Cert.FoxBwdIdeal.nD) → Buf (Elt Ideal) ((c.tc : Thread Cert.FoxBwdIdeal.nD Cert.FoxBwdIdeal.τ).loc Cert.FoxBwdIdeal.main_v79_2)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v79_0) = v0 c
          ∧ r.2.mem ((c.tc : Thread Cert.FoxBwdIdeal.nD Cert.FoxBwdIdeal.τ).loc Cert.FoxBwdIdeal.main_v79_1) = v1 c
          ∧ r.2.mem ((c.tc : Thread Cert.FoxBwdIdeal.nD Cert.FoxBwdIdeal.τ).loc Cert.FoxBwdIdeal.main_v79_2) = v2 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxBwdRefIdeal.defs (F := Ideal)) (onTc (τ := Cert.FoxBwdRefIdeal.τ) (Cert.FoxBwdRefIdeal.main (F := Ideal))) ⟨m', fun _ => 0, g'⟩ (fun r => ∀ c : Dev Cert.FoxBwdRefIdeal.nD,
          r.2.mem ((c.tc : Thread Cert.FoxBwdRefIdeal.nD Cert.FoxBwdRefIdeal.τ).loc Cert.FoxBwdRefIdeal.main_v103) = v0 c
          ∧ r.2.mem ((c.tc : Thread Cert.FoxBwdRefIdeal.nD Cert.FoxBwdRefIdeal.τ).loc Cert.FoxBwdRefIdeal.main_v104) = v1 c
          ∧ r.2.mem ((c.tc : Thread Cert.FoxBwdRefIdeal.nD Cert.FoxBwdRefIdeal.τ).loc Cert.FoxBwdRefIdeal.main_v105) = v2 c
          ∧ r.2.mem ((c.tc : Thread Cert.FoxBwdRefIdeal.nD Cert.FoxBwdRefIdeal.τ).loc Cert.FoxBwdRefIdeal.main_arg0) = m' ((c.tc : Thread Cert.FoxBwdRefIdeal.nD Cert.FoxBwdRefIdeal.τ).loc Cert.FoxBwdRefIdeal.main_arg0)
          ∧ r.2.mem ((c.tc : Thread Cert.FoxBwdRefIdeal.nD Cert.FoxBwdRefIdeal.τ).loc Cert.FoxBwdRefIdeal.main_arg1) = m' ((c.tc : Thread Cert.FoxBwdRefIdeal.nD Cert.FoxBwdRefIdeal.τ).loc Cert.FoxBwdRefIdeal.main_arg1)
          ∧ r.2.mem ((c.tc : Thread Cert.FoxBwdRefIdeal.nD Cert.FoxBwdRefIdeal.τ).loc Cert.FoxBwdRefIdeal.main_arg2) = m' ((c.tc : Thread Cert.FoxBwdRefIdeal.nD Cert.FoxBwdRefIdeal.τ).loc Cert.FoxBwdRefIdeal.main_arg2)
          ∧ r.2.mem ((c.tc : Thread Cert.FoxBwdRefIdeal.nD Cert.FoxBwdRefIdeal.τ).loc Cert.FoxBwdRefIdeal.main_arg3) = m' ((c.tc : Thread Cert.FoxBwdRefIdeal.nD Cert.FoxBwdRefIdeal.τ).loc Cert.FoxBwdRefIdeal.main_arg3)
          ∧ r.2.mem ((c.tc : Thread Cert.FoxBwdRefIdeal.nD Cert.FoxBwdRefIdeal.τ).loc Cert.FoxBwdRefIdeal.main_arg4) = m' ((c.tc : Thread Cert.FoxBwdRefIdeal.nD Cert.FoxBwdRefIdeal.τ).loc Cert.FoxBwdRefIdeal.main_arg4))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v1)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v1) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v2) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v2) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_GradGates_GradGatesIdeal : Prop :=
  True

def algebraic_GradGatesIdeal_GradGatesRefIdeal [hGradGatesIdeal : Cert.GradGatesIdeal.Facts] [hGradGatesRefIdeal : Cert.GradGatesRefIdeal.Facts] : Prop :=
  ∀ (m : (ℓ : Loc Cert.GradGatesIdeal.nD Cert.GradGatesIdeal.τ Cert.GradGatesIdeal.sig) → Buf (Elt Ideal) ℓ) (g : Dev Cert.GradGatesIdeal.nD → PrngReg)
    (m' : (ℓ : Loc Cert.GradGatesRefIdeal.nD Cert.GradGatesRefIdeal.τ Cert.GradGatesRefIdeal.sig) → Buf (Elt Ideal) ℓ) (g' : Dev Cert.GradGatesRefIdeal.nD → PrngReg), Pre_GradGatesIdeal m →
    (∀ c : Dev Cert.GradGatesIdeal.nD,
      m' ((c.tc : Thread Cert.GradGatesRefIdeal.nD Cert.GradGatesRefIdeal.τ).loc Cert.GradGatesRefIdeal.main_arg0) = m ((c.tc : Thread Cert.GradGatesIdeal.nD Cert.GradGatesIdeal.τ).loc Cert.GradGatesIdeal.main_arg0)
      ∧ m' ((c.tc : Thread Cert.GradGatesRefIdeal.nD Cert.GradGatesRefIdeal.τ).loc Cert.GradGatesRefIdeal.main_arg1) = m ((c.tc : Thread Cert.GradGatesIdeal.nD Cert.GradGatesIdeal.τ).loc Cert.GradGatesIdeal.main_arg1)
      ∧ m' ((c.tc : Thread Cert.GradGatesRefIdeal.nD Cert.GradGatesRefIdeal.τ).loc Cert.GradGatesRefIdeal.main_arg2) = m ((c.tc : Thread Cert.GradGatesIdeal.nD Cert.GradGatesIdeal.τ).loc Cert.GradGatesIdeal.main_arg2)
      ∧ m' ((c.tc : Thread Cert.GradGatesRefIdeal.nD Cert.GradGatesRefIdeal.τ).loc Cert.GradGatesRefIdeal.main_arg3) = m ((c.tc : Thread Cert.GradGatesIdeal.nD Cert.GradGatesIdeal.τ).loc Cert.GradGatesIdeal.main_arg3)) →
    ∃ (v0 : (c : Dev Cert.GradGatesIdeal.nD) → Buf (Elt Ideal) ((c.tc : Thread Cert.GradGatesIdeal.nD Cert.GradGatesIdeal.τ).loc Cert.GradGatesIdeal.main_v0)),
      θ_run (Cert.GradGatesIdeal.defs (F := Ideal)) (onTc (τ := Cert.GradGatesIdeal.τ) (Cert.GradGatesIdeal.main (F := Ideal))) ⟨m, fun _ => 0, g⟩ (fun r => ∀ c : Dev Cert.GradGatesIdeal.nD,
          r.2.mem ((c.tc : Thread Cert.GradGatesIdeal.nD Cert.GradGatesIdeal.τ).loc Cert.GradGatesIdeal.main_v0) = v0 c
          ∧ r.2.mem ((c.tc : Thread Cert.GradGatesIdeal.nD Cert.GradGatesIdeal.τ).loc Cert.GradGatesIdeal.main_arg0) = m ((c.tc : Thread Cert.GradGatesIdeal.nD Cert.GradGatesIdeal.τ).loc Cert.GradGatesIdeal.main_arg0)
          ∧ r.2.mem ((c.tc : Thread Cert.GradGatesIdeal.nD Cert.GradGatesIdeal.τ).loc Cert.GradGatesIdeal.main_arg1) = m ((c.tc : Thread Cert.GradGatesIdeal.nD Cert.GradGatesIdeal.τ).loc Cert.GradGatesIdeal.main_arg1)
          ∧ r.2.mem ((c.tc : Thread Cert.GradGatesIdeal.nD Cert.GradGatesIdeal.τ).loc Cert.GradGatesIdeal.main_arg2) = m ((c.tc : Thread Cert.GradGatesIdeal.nD Cert.GradGatesIdeal.τ).loc Cert.GradGatesIdeal.main_arg2)
          ∧ r.2.mem ((c.tc : Thread Cert.GradGatesIdeal.nD Cert.GradGatesIdeal.τ).loc Cert.GradGatesIdeal.main_arg3) = m ((c.tc : Thread Cert.GradGatesIdeal.nD Cert.GradGatesIdeal.τ).loc Cert.GradGatesIdeal.main_arg3))
      ∧ θ_run (Cert.GradGatesRefIdeal.defs (F := Ideal)) (onTc (τ := Cert.GradGatesRefIdeal.τ) (Cert.GradGatesRefIdeal.main (F := Ideal))) ⟨m', fun _ => 0, g'⟩ (fun r => ∀ c : Dev Cert.GradGatesRefIdeal.nD,
          r.2.mem ((c.tc : Thread Cert.GradGatesRefIdeal.nD Cert.GradGatesRefIdeal.τ).loc Cert.GradGatesRefIdeal.main_v18) = v0 c
          ∧ r.2.mem ((c.tc : Thread Cert.GradGatesRefIdeal.nD Cert.GradGatesRefIdeal.τ).loc Cert.GradGatesRefIdeal.main_arg0) = m' ((c.tc : Thread Cert.GradGatesRefIdeal.nD Cert.GradGatesRefIdeal.τ).loc Cert.GradGatesRefIdeal.main_arg0)
          ∧ r.2.mem ((c.tc : Thread Cert.GradGatesRefIdeal.nD Cert.GradGatesRefIdeal.τ).loc Cert.GradGatesRefIdeal.main_arg1) = m' ((c.tc : Thread Cert.GradGatesRefIdeal.nD Cert.GradGatesRefIdeal.τ).loc Cert.GradGatesRefIdeal.main_arg1)
          ∧ r.2.mem ((c.tc : Thread Cert.GradGatesRefIdeal.nD Cert.GradGatesRefIdeal.τ).loc Cert.GradGatesRefIdeal.main_arg2) = m' ((c.tc : Thread Cert.GradGatesRefIdeal.nD Cert.GradGatesRefIdeal.τ).loc Cert.GradGatesRefIdeal.main_arg2)
          ∧ r.2.mem ((c.tc : Thread Cert.GradGatesRefIdeal.nD Cert.GradGatesRefIdeal.τ).loc Cert.GradGatesRefIdeal.main_arg3) = m' ((c.tc : Thread Cert.GradGatesRefIdeal.nD Cert.GradGatesRefIdeal.τ).loc Cert.GradGatesRefIdeal.main_arg3))

def preserves_GradFox_GradFoxIdeal : Prop :=
  True

def algebraic_GradFoxIdeal_GradFoxRefIdeal [hGradFoxIdeal : Cert.GradFoxIdeal.Facts] [hGradFoxRefIdeal : Cert.GradFoxRefIdeal.Facts] : Prop :=
  ∀ (m : (ℓ : Loc Cert.GradFoxIdeal.nD Cert.GradFoxIdeal.τ Cert.GradFoxIdeal.sig) → Buf (Elt Ideal) ℓ) (g : Dev Cert.GradFoxIdeal.nD → PrngReg)
    (m' : (ℓ : Loc Cert.GradFoxRefIdeal.nD Cert.GradFoxRefIdeal.τ Cert.GradFoxRefIdeal.sig) → Buf (Elt Ideal) ℓ) (g' : Dev Cert.GradFoxRefIdeal.nD → PrngReg), Pre_GradFoxIdeal m →
    (∀ c : Dev Cert.GradFoxIdeal.nD,
      m' ((c.tc : Thread Cert.GradFoxRefIdeal.nD Cert.GradFoxRefIdeal.τ).loc Cert.GradFoxRefIdeal.main_arg0) = m ((c.tc : Thread Cert.GradFoxIdeal.nD Cert.GradFoxIdeal.τ).loc Cert.GradFoxIdeal.main_arg0)
      ∧ m' ((c.tc : Thread Cert.GradFoxRefIdeal.nD Cert.GradFoxRefIdeal.τ).loc Cert.GradFoxRefIdeal.main_arg1) = m ((c.tc : Thread Cert.GradFoxIdeal.nD Cert.GradFoxIdeal.τ).loc Cert.GradFoxIdeal.main_arg1)
      ∧ m' ((c.tc : Thread Cert.GradFoxRefIdeal.nD Cert.GradFoxRefIdeal.τ).loc Cert.GradFoxRefIdeal.main_arg2) = m ((c.tc : Thread Cert.GradFoxIdeal.nD Cert.GradFoxIdeal.τ).loc Cert.GradFoxIdeal.main_arg2)) →
    ∃ (v0 : (c : Dev Cert.GradFoxIdeal.nD) → Buf (Elt Ideal) ((c.tc : Thread Cert.GradFoxIdeal.nD Cert.GradFoxIdeal.τ).loc Cert.GradFoxIdeal.main_v0)),
      θ_run (Cert.GradFoxIdeal.defs (F := Ideal)) (onTc (τ := Cert.GradFoxIdeal.τ) (Cert.GradFoxIdeal.main (F := Ideal))) ⟨m, fun _ => 0, g⟩ (fun r => ∀ c : Dev Cert.GradFoxIdeal.nD,
          r.2.mem ((c.tc : Thread Cert.GradFoxIdeal.nD Cert.GradFoxIdeal.τ).loc Cert.GradFoxIdeal.main_v0) = v0 c
          ∧ r.2.mem ((c.tc : Thread Cert.GradFoxIdeal.nD Cert.GradFoxIdeal.τ).loc Cert.GradFoxIdeal.main_arg0) = m ((c.tc : Thread Cert.GradFoxIdeal.nD Cert.GradFoxIdeal.τ).loc Cert.GradFoxIdeal.main_arg0)
          ∧ r.2.mem ((c.tc : Thread Cert.GradFoxIdeal.nD Cert.GradFoxIdeal.τ).loc Cert.GradFoxIdeal.main_arg1) = m ((c.tc : Thread Cert.GradFoxIdeal.nD Cert.GradFoxIdeal.τ).loc Cert.GradFoxIdeal.main_arg1)
          ∧ r.2.mem ((c.tc : Thread Cert.GradFoxIdeal.nD Cert.GradFoxIdeal.τ).loc Cert.GradFoxIdeal.main_arg2) = m ((c.tc : Thread Cert.GradFoxIdeal.nD Cert.GradFoxIdeal.τ).loc Cert.GradFoxIdeal.main_arg2))
      ∧ θ_run (Cert.GradFoxRefIdeal.defs (F := Ideal)) (onTc (τ := Cert.GradFoxRefIdeal.τ) (Cert.GradFoxRefIdeal.main (F := Ideal))) ⟨m', fun _ => 0, g'⟩ (fun r => ∀ c : Dev Cert.GradFoxRefIdeal.nD,
          r.2.mem ((c.tc : Thread Cert.GradFoxRefIdeal.nD Cert.GradFoxRefIdeal.τ).loc Cert.GradFoxRefIdeal.main_v13) = v0 c
          ∧ r.2.mem ((c.tc : Thread Cert.GradFoxRefIdeal.nD Cert.GradFoxRefIdeal.τ).loc Cert.GradFoxRefIdeal.main_arg0) = m' ((c.tc : Thread Cert.GradFoxRefIdeal.nD Cert.GradFoxRefIdeal.τ).loc Cert.GradFoxRefIdeal.main_arg0)
          ∧ r.2.mem ((c.tc : Thread Cert.GradFoxRefIdeal.nD Cert.GradFoxRefIdeal.τ).loc Cert.GradFoxRefIdeal.main_arg1) = m' ((c.tc : Thread Cert.GradFoxRefIdeal.nD Cert.GradFoxRefIdeal.τ).loc Cert.GradFoxRefIdeal.main_arg1)
          ∧ r.2.mem ((c.tc : Thread Cert.GradFoxRefIdeal.nD Cert.GradFoxRefIdeal.τ).loc Cert.GradFoxRefIdeal.main_arg2) = m' ((c.tc : Thread Cert.GradFoxRefIdeal.nD Cert.GradFoxRefIdeal.τ).loc Cert.GradFoxRefIdeal.main_arg2))

def preserves_GradDil_GradDilIdeal : Prop :=
  True

def algebraic_GradDilIdeal_GradDilRefIdeal [hGradDilIdeal : Cert.GradDilIdeal.Facts] [hGradDilRefIdeal : Cert.GradDilRefIdeal.Facts] : Prop :=
  ∀ (m : (ℓ : Loc Cert.GradDilIdeal.nD Cert.GradDilIdeal.τ Cert.GradDilIdeal.sig) → Buf (Elt Ideal) ℓ) (g : Dev Cert.GradDilIdeal.nD → PrngReg)
    (m' : (ℓ : Loc Cert.GradDilRefIdeal.nD Cert.GradDilRefIdeal.τ Cert.GradDilRefIdeal.sig) → Buf (Elt Ideal) ℓ) (g' : Dev Cert.GradDilRefIdeal.nD → PrngReg), Pre_GradDilIdeal m →
    (∀ c : Dev Cert.GradDilIdeal.nD,
      m' ((c.tc : Thread Cert.GradDilRefIdeal.nD Cert.GradDilRefIdeal.τ).loc Cert.GradDilRefIdeal.main_arg0) = m ((c.tc : Thread Cert.GradDilIdeal.nD Cert.GradDilIdeal.τ).loc Cert.GradDilIdeal.main_arg0)
      ∧ m' ((c.tc : Thread Cert.GradDilRefIdeal.nD Cert.GradDilRefIdeal.τ).loc Cert.GradDilRefIdeal.main_arg1) = m ((c.tc : Thread Cert.GradDilIdeal.nD Cert.GradDilIdeal.τ).loc Cert.GradDilIdeal.main_arg1)) →
    ∃ (v0 : (c : Dev Cert.GradDilIdeal.nD) → Buf (Elt Ideal) ((c.tc : Thread Cert.GradDilIdeal.nD Cert.GradDilIdeal.τ).loc Cert.GradDilIdeal.main_v0)),
      θ_run (Cert.GradDilIdeal.defs (F := Ideal)) (onTc (τ := Cert.GradDilIdeal.τ) (Cert.GradDilIdeal.main (F := Ideal))) ⟨m, fun _ => 0, g⟩ (fun r => ∀ c : Dev Cert.GradDilIdeal.nD,
          r.2.mem ((c.tc : Thread Cert.GradDilIdeal.nD Cert.GradDilIdeal.τ).loc Cert.GradDilIdeal.main_v0) = v0 c
          ∧ r.2.mem ((c.tc : Thread Cert.GradDilIdeal.nD Cert.GradDilIdeal.τ).loc Cert.GradDilIdeal.main_arg0) = m ((c.tc : Thread Cert.GradDilIdeal.nD Cert.GradDilIdeal.τ).loc Cert.GradDilIdeal.main_arg0)
          ∧ r.2.mem ((c.tc : Thread Cert.GradDilIdeal.nD Cert.GradDilIdeal.τ).loc Cert.GradDilIdeal.main_arg1) = m ((c.tc : Thread Cert.GradDilIdeal.nD Cert.GradDilIdeal.τ).loc Cert.GradDilIdeal.main_arg1))
      ∧ θ_run (Cert.GradDilRefIdeal.defs (F := Ideal)) (onTc (τ := Cert.GradDilRefIdeal.τ) (Cert.GradDilRefIdeal.main (F := Ideal))) ⟨m', fun _ => 0, g'⟩ (fun r => ∀ c : Dev Cert.GradDilRefIdeal.nD,
          r.2.mem ((c.tc : Thread Cert.GradDilRefIdeal.nD Cert.GradDilRefIdeal.τ).loc Cert.GradDilRefIdeal.main_v7) = v0 c
          ∧ r.2.mem ((c.tc : Thread Cert.GradDilRefIdeal.nD Cert.GradDilRefIdeal.τ).loc Cert.GradDilRefIdeal.main_arg0) = m' ((c.tc : Thread Cert.GradDilRefIdeal.nD Cert.GradDilRefIdeal.τ).loc Cert.GradDilRefIdeal.main_arg0)
          ∧ r.2.mem ((c.tc : Thread Cert.GradDilRefIdeal.nD Cert.GradDilRefIdeal.τ).loc Cert.GradDilRefIdeal.main_arg1) = m' ((c.tc : Thread Cert.GradDilRefIdeal.nD Cert.GradDilRefIdeal.τ).loc Cert.GradDilRefIdeal.main_arg1))

def preserves_GradMq_GradMqIdeal : Prop :=
  True

def algebraic_GradMqIdeal_GradMqRefIdeal [hGradMqIdeal : Cert.GradMqIdeal.Facts] [hGradMqRefIdeal : Cert.GradMqRefIdeal.Facts] : Prop :=
  ∀ (m : (ℓ : Loc Cert.GradMqIdeal.nD Cert.GradMqIdeal.τ Cert.GradMqIdeal.sig) → Buf (Elt Ideal) ℓ) (g : Dev Cert.GradMqIdeal.nD → PrngReg)
    (m' : (ℓ : Loc Cert.GradMqRefIdeal.nD Cert.GradMqRefIdeal.τ Cert.GradMqRefIdeal.sig) → Buf (Elt Ideal) ℓ) (g' : Dev Cert.GradMqRefIdeal.nD → PrngReg), Pre_GradMqIdeal m →
    (∀ c : Dev Cert.GradMqIdeal.nD,
      m' ((c.tc : Thread Cert.GradMqRefIdeal.nD Cert.GradMqRefIdeal.τ).loc Cert.GradMqRefIdeal.main_arg0) = m ((c.tc : Thread Cert.GradMqIdeal.nD Cert.GradMqIdeal.τ).loc Cert.GradMqIdeal.main_arg0)
      ∧ m' ((c.tc : Thread Cert.GradMqRefIdeal.nD Cert.GradMqRefIdeal.τ).loc Cert.GradMqRefIdeal.main_arg1) = m ((c.tc : Thread Cert.GradMqIdeal.nD Cert.GradMqIdeal.τ).loc Cert.GradMqIdeal.main_arg1)) →
    ∃ (v0 : (c : Dev Cert.GradMqIdeal.nD) → Buf (Elt Ideal) ((c.tc : Thread Cert.GradMqIdeal.nD Cert.GradMqIdeal.τ).loc Cert.GradMqIdeal.main_v0)),
      θ_run (Cert.GradMqIdeal.defs (F := Ideal)) (onTc (τ := Cert.GradMqIdeal.τ) (Cert.GradMqIdeal.main (F := Ideal))) ⟨m, fun _ => 0, g⟩ (fun r => ∀ c : Dev Cert.GradMqIdeal.nD,
          r.2.mem ((c.tc : Thread Cert.GradMqIdeal.nD Cert.GradMqIdeal.τ).loc Cert.GradMqIdeal.main_v0) = v0 c
          ∧ r.2.mem ((c.tc : Thread Cert.GradMqIdeal.nD Cert.GradMqIdeal.τ).loc Cert.GradMqIdeal.main_arg0) = m ((c.tc : Thread Cert.GradMqIdeal.nD Cert.GradMqIdeal.τ).loc Cert.GradMqIdeal.main_arg0)
          ∧ r.2.mem ((c.tc : Thread Cert.GradMqIdeal.nD Cert.GradMqIdeal.τ).loc Cert.GradMqIdeal.main_arg1) = m ((c.tc : Thread Cert.GradMqIdeal.nD Cert.GradMqIdeal.τ).loc Cert.GradMqIdeal.main_arg1))
      ∧ θ_run (Cert.GradMqRefIdeal.defs (F := Ideal)) (onTc (τ := Cert.GradMqRefIdeal.τ) (Cert.GradMqRefIdeal.main (F := Ideal))) ⟨m', fun _ => 0, g'⟩ (fun r => ∀ c : Dev Cert.GradMqRefIdeal.nD,
          r.2.mem ((c.tc : Thread Cert.GradMqRefIdeal.nD Cert.GradMqRefIdeal.τ).loc Cert.GradMqRefIdeal.main_v7) = v0 c
          ∧ r.2.mem ((c.tc : Thread Cert.GradMqRefIdeal.nD Cert.GradMqRefIdeal.τ).loc Cert.GradMqRefIdeal.main_arg0) = m' ((c.tc : Thread Cert.GradMqRefIdeal.nD Cert.GradMqRefIdeal.τ).loc Cert.GradMqRefIdeal.main_arg0)
          ∧ r.2.mem ((c.tc : Thread Cert.GradMqRefIdeal.nD Cert.GradMqRefIdeal.τ).loc Cert.GradMqRefIdeal.main_arg1) = m' ((c.tc : Thread Cert.GradMqRefIdeal.nD Cert.GradMqRefIdeal.τ).loc Cert.GradMqRefIdeal.main_arg1))

def preserves_InBwd_InBwdIdeal : Prop :=
  True

def algebraic_InBwdIdeal_InBwdRefIdeal_pre_in_proj_finite [hInBwdIdeal : Cert.InBwdIdeal.Facts] [hInBwdRefIdeal : Cert.InBwdRefIdeal.Facts] [hPre_in_proj_finite : Cert.Pre_in_proj_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_proj_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)
      ∧ m' ((c.tc : Thread Cert.InBwdRefIdeal.nD Cert.InBwdRefIdeal.τ).loc Cert.InBwdRefIdeal.main_arg10) = m ((c.tc : Thread Cert.InBwdIdeal.nD Cert.InBwdIdeal.τ).loc Cert.InBwdIdeal.main_arg10)
      ∧ m' ((c.tc : Thread Cert.InBwdRefIdeal.nD Cert.InBwdRefIdeal.τ).loc Cert.InBwdRefIdeal.main_arg11) = m ((c.tc : Thread Cert.InBwdIdeal.nD Cert.InBwdIdeal.τ).loc Cert.InBwdIdeal.main_arg11)
      ∧ m' ((c.tc : Thread Cert.InBwdRefIdeal.nD Cert.InBwdRefIdeal.τ).loc Cert.InBwdRefIdeal.main_arg12) = m ((c.tc : Thread Cert.InBwdIdeal.nD Cert.InBwdIdeal.τ).loc Cert.InBwdIdeal.main_arg12)
      ∧ m' ((c.tc : Thread Cert.InBwdRefIdeal.nD Cert.InBwdRefIdeal.τ).loc Cert.InBwdRefIdeal.main_arg13) = m ((c.tc : Thread Cert.InBwdIdeal.nD Cert.InBwdIdeal.τ).loc Cert.InBwdIdeal.main_arg13)
      ∧ m' ((c.tc : Thread Cert.InBwdRefIdeal.nD Cert.InBwdRefIdeal.τ).loc Cert.InBwdRefIdeal.main_arg14) = m ((c.tc : Thread Cert.InBwdIdeal.nD Cert.InBwdIdeal.τ).loc Cert.InBwdIdeal.main_arg14)
      ∧ m' ((c.tc : Thread Cert.InBwdRefIdeal.nD Cert.InBwdRefIdeal.τ).loc Cert.InBwdRefIdeal.main_arg15) = m ((c.tc : Thread Cert.InBwdIdeal.nD Cert.InBwdIdeal.τ).loc Cert.InBwdIdeal.main_arg15)
      ∧ m' ((c.tc : Thread Cert.InBwdRefIdeal.nD Cert.InBwdRefIdeal.τ).loc Cert.InBwdRefIdeal.main_arg16) = m ((c.tc : Thread Cert.InBwdIdeal.nD Cert.InBwdIdeal.τ).loc Cert.InBwdIdeal.main_arg16)) →
    ∃ (v0 : (c : Dev Cert.InBwdIdeal.nD) → Buf (Elt Ideal) ((c.tc : Thread Cert.InBwdIdeal.nD Cert.InBwdIdeal.τ).loc Cert.InBwdIdeal.main_v6_0)) (v1 : (c : Dev Cert.InBwdIdeal.nD) → Buf (Elt Ideal) ((c.tc : Thread Cert.InBwdIdeal.nD Cert.InBwdIdeal.τ).loc Cert.InBwdIdeal.main_v6_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v6_0) = v0 c
          ∧ r.2.mem ((c.tc : Thread Cert.InBwdIdeal.nD Cert.InBwdIdeal.τ).loc Cert.InBwdIdeal.main_v6_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
          ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
          ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
          ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
          ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13)
          ∧ r.2.mem ((c.tc : Thread Cert.InBwdIdeal.nD Cert.InBwdIdeal.τ).loc Cert.InBwdIdeal.main_arg14) = m ((c.tc : Thread Cert.InBwdIdeal.nD Cert.InBwdIdeal.τ).loc Cert.InBwdIdeal.main_arg14)
          ∧ r.2.mem ((c.tc : Thread Cert.InBwdIdeal.nD Cert.InBwdIdeal.τ).loc Cert.InBwdIdeal.main_arg15) = m ((c.tc : Thread Cert.InBwdIdeal.nD Cert.InBwdIdeal.τ).loc Cert.InBwdIdeal.main_arg15)
          ∧ r.2.mem ((c.tc : Thread Cert.InBwdIdeal.nD Cert.InBwdIdeal.τ).loc Cert.InBwdIdeal.main_arg16) = m ((c.tc : Thread Cert.InBwdIdeal.nD Cert.InBwdIdeal.τ).loc Cert.InBwdIdeal.main_arg16))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v61) = v0 c
          ∧ r.2.mem ((c.tc : Thread Cert.InBwdRefIdeal.nD Cert.InBwdRefIdeal.τ).loc Cert.InBwdRefIdeal.main_v62) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9)
          ∧ r.2.mem ((c.tc : Thread Cert.InBwdRefIdeal.nD Cert.InBwdRefIdeal.τ).loc Cert.InBwdRefIdeal.main_arg10) = m' ((c.tc : Thread Cert.InBwdRefIdeal.nD Cert.InBwdRefIdeal.τ).loc Cert.InBwdRefIdeal.main_arg10)
          ∧ r.2.mem ((c.tc : Thread Cert.InBwdRefIdeal.nD Cert.InBwdRefIdeal.τ).loc Cert.InBwdRefIdeal.main_arg11) = m' ((c.tc : Thread Cert.InBwdRefIdeal.nD Cert.InBwdRefIdeal.τ).loc Cert.InBwdRefIdeal.main_arg11)
          ∧ r.2.mem ((c.tc : Thread Cert.InBwdRefIdeal.nD Cert.InBwdRefIdeal.τ).loc Cert.InBwdRefIdeal.main_arg12) = m' ((c.tc : Thread Cert.InBwdRefIdeal.nD Cert.InBwdRefIdeal.τ).loc Cert.InBwdRefIdeal.main_arg12)
          ∧ r.2.mem ((c.tc : Thread Cert.InBwdRefIdeal.nD Cert.InBwdRefIdeal.τ).loc Cert.InBwdRefIdeal.main_arg13) = m' ((c.tc : Thread Cert.InBwdRefIdeal.nD Cert.InBwdRefIdeal.τ).loc Cert.InBwdRefIdeal.main_arg13)
          ∧ r.2.mem ((c.tc : Thread Cert.InBwdRefIdeal.nD Cert.InBwdRefIdeal.τ).loc Cert.InBwdRefIdeal.main_arg14) = m' ((c.tc : Thread Cert.InBwdRefIdeal.nD Cert.InBwdRefIdeal.τ).loc Cert.InBwdRefIdeal.main_arg14)
          ∧ r.2.mem ((c.tc : Thread Cert.InBwdRefIdeal.nD Cert.InBwdRefIdeal.τ).loc Cert.InBwdRefIdeal.main_arg15) = m' ((c.tc : Thread Cert.InBwdRefIdeal.nD Cert.InBwdRefIdeal.τ).loc Cert.InBwdRefIdeal.main_arg15)
          ∧ r.2.mem ((c.tc : Thread Cert.InBwdRefIdeal.nD Cert.InBwdRefIdeal.τ).loc Cert.InBwdRefIdeal.main_arg16) = m' ((c.tc : Thread Cert.InBwdRefIdeal.nD Cert.InBwdRefIdeal.τ).loc Cert.InBwdRefIdeal.main_arg16))

def preserves_OutStep_OutStepIdeal : Prop :=
  True

def algebraic_OutStepIdeal_OutStepRefIdeal_pre_out_finite [hOutStepIdeal : Cert.OutStepIdeal.Facts] [hOutStepRefIdeal : Cert.OutStepRefIdeal.Facts] [hPre_out_finite : Cert.Pre_out_finite.Facts] : Prop :=
  ∀ (m : (ℓ : Loc Cert.OutStepIdeal.nD Cert.OutStepIdeal.τ Cert.OutStepIdeal.sig) → Buf (Elt Ideal) ℓ) (g : Dev Cert.OutStepIdeal.nD → PrngReg)
    (m' : (ℓ : Loc Cert.OutStepRefIdeal.nD Cert.OutStepRefIdeal.τ Cert.OutStepRefIdeal.sig) → Buf (Elt Ideal) ℓ) (g' : Dev Cert.OutStepRefIdeal.nD → PrngReg), Pre_OutStepIdeal_out_finite m →
    (∀ c : Dev Cert.OutStepIdeal.nD,
      m' ((c.tc : Thread Cert.OutStepRefIdeal.nD Cert.OutStepRefIdeal.τ).loc Cert.OutStepRefIdeal.main_arg0) = m ((c.tc : Thread Cert.OutStepIdeal.nD Cert.OutStepIdeal.τ).loc Cert.OutStepIdeal.main_arg0)
      ∧ m' ((c.tc : Thread Cert.OutStepRefIdeal.nD Cert.OutStepRefIdeal.τ).loc Cert.OutStepRefIdeal.main_arg1) = m ((c.tc : Thread Cert.OutStepIdeal.nD Cert.OutStepIdeal.τ).loc Cert.OutStepIdeal.main_arg1)
      ∧ m' ((c.tc : Thread Cert.OutStepRefIdeal.nD Cert.OutStepRefIdeal.τ).loc Cert.OutStepRefIdeal.main_arg2) = m ((c.tc : Thread Cert.OutStepIdeal.nD Cert.OutStepIdeal.τ).loc Cert.OutStepIdeal.main_arg2)
      ∧ m' ((c.tc : Thread Cert.OutStepRefIdeal.nD Cert.OutStepRefIdeal.τ).loc Cert.OutStepRefIdeal.main_arg3) = m ((c.tc : Thread Cert.OutStepIdeal.nD Cert.OutStepIdeal.τ).loc Cert.OutStepIdeal.main_arg3)
      ∧ m' ((c.tc : Thread Cert.OutStepRefIdeal.nD Cert.OutStepRefIdeal.τ).loc Cert.OutStepRefIdeal.main_arg4) = m ((c.tc : Thread Cert.OutStepIdeal.nD Cert.OutStepIdeal.τ).loc Cert.OutStepIdeal.main_arg4)
      ∧ m' ((c.tc : Thread Cert.OutStepRefIdeal.nD Cert.OutStepRefIdeal.τ).loc Cert.OutStepRefIdeal.main_arg5) = m ((c.tc : Thread Cert.OutStepIdeal.nD Cert.OutStepIdeal.τ).loc Cert.OutStepIdeal.main_arg5)
      ∧ m' ((c.tc : Thread Cert.OutStepRefIdeal.nD Cert.OutStepRefIdeal.τ).loc Cert.OutStepRefIdeal.main_arg6) = m ((c.tc : Thread Cert.OutStepIdeal.nD Cert.OutStepIdeal.τ).loc Cert.OutStepIdeal.main_arg6)
      ∧ m' ((c.tc : Thread Cert.OutStepRefIdeal.nD Cert.OutStepRefIdeal.τ).loc Cert.OutStepRefIdeal.main_arg7) = m ((c.tc : Thread Cert.OutStepIdeal.nD Cert.OutStepIdeal.τ).loc Cert.OutStepIdeal.main_arg7)
      ∧ m' ((c.tc : Thread Cert.OutStepRefIdeal.nD Cert.OutStepRefIdeal.τ).loc Cert.OutStepRefIdeal.main_arg8) = m ((c.tc : Thread Cert.OutStepIdeal.nD Cert.OutStepIdeal.τ).loc Cert.OutStepIdeal.main_arg8)
      ∧ m' ((c.tc : Thread Cert.OutStepRefIdeal.nD Cert.OutStepRefIdeal.τ).loc Cert.OutStepRefIdeal.main_arg9) = m ((c.tc : Thread Cert.OutStepIdeal.nD Cert.OutStepIdeal.τ).loc Cert.OutStepIdeal.main_arg9)) →
    ∃ (v0 : (c : Dev Cert.OutStepIdeal.nD) → Buf (Elt Ideal) ((c.tc : Thread Cert.OutStepIdeal.nD Cert.OutStepIdeal.τ).loc Cert.OutStepIdeal.main_v3_0)) (v1 : (c : Dev Cert.OutStepIdeal.nD) → Buf (Elt Ideal) ((c.tc : Thread Cert.OutStepIdeal.nD Cert.OutStepIdeal.τ).loc Cert.OutStepIdeal.main_v3_1)) (v2 : (c : Dev Cert.OutStepIdeal.nD) → Buf (Elt Ideal) ((c.tc : Thread Cert.OutStepIdeal.nD Cert.OutStepIdeal.τ).loc Cert.OutStepIdeal.main_v3_2)) (v3 : (c : Dev Cert.OutStepIdeal.nD) → Buf (Elt Ideal) ((c.tc : Thread Cert.OutStepIdeal.nD Cert.OutStepIdeal.τ).loc Cert.OutStepIdeal.main_v3_3)) (v4 : (c : Dev Cert.OutStepIdeal.nD) → Buf (Elt Ideal) ((c.tc : Thread Cert.OutStepIdeal.nD Cert.OutStepIdeal.τ).loc Cert.OutStepIdeal.main_v3_4)) (v5 : (c : Dev Cert.OutStepIdeal.nD) → Buf (Elt Ideal) ((c.tc : Thread Cert.OutStepIdeal.nD Cert.OutStepIdeal.τ).loc Cert.OutStepIdeal.main_v3_5)) (v6 : (c : Dev Cert.OutStepIdeal.nD) → Buf (Elt Ideal) ((c.tc : Thread Cert.OutStepIdeal.nD Cert.OutStepIdeal.τ).loc Cert.OutStepIdeal.main_v3_6)) (v7 : (c : Dev Cert.OutStepIdeal.nD) → Buf (Elt Ideal) ((c.tc : Thread Cert.OutStepIdeal.nD Cert.OutStepIdeal.τ).loc Cert.OutStepIdeal.main_v3_7)) (v8 : (c : Dev Cert.OutStepIdeal.nD) → Buf (Elt Ideal) ((c.tc : Thread Cert.OutStepIdeal.nD Cert.OutStepIdeal.τ).loc Cert.OutStepIdeal.main_v3_8)),
      θ_run (Cert.OutStepIdeal.defs (F := Ideal)) (onTc (τ := Cert.OutStepIdeal.τ) (Cert.OutStepIdeal.main (F := Ideal))) ⟨m, fun _ => 0, g⟩ (fun r => ∀ c : Dev Cert.OutStepIdeal.nD,
          r.2.mem ((c.tc : Thread Cert.OutStepIdeal.nD Cert.OutStepIdeal.τ).loc Cert.OutStepIdeal.main_v3_0) = v0 c
          ∧ r.2.mem ((c.tc : Thread Cert.OutStepIdeal.nD Cert.OutStepIdeal.τ).loc Cert.OutStepIdeal.main_v3_1) = v1 c
          ∧ r.2.mem ((c.tc : Thread Cert.OutStepIdeal.nD Cert.OutStepIdeal.τ).loc Cert.OutStepIdeal.main_v3_2) = v2 c
          ∧ r.2.mem ((c.tc : Thread Cert.OutStepIdeal.nD Cert.OutStepIdeal.τ).loc Cert.OutStepIdeal.main_v3_3) = v3 c
          ∧ r.2.mem ((c.tc : Thread Cert.OutStepIdeal.nD Cert.OutStepIdeal.τ).loc Cert.OutStepIdeal.main_v3_4) = v4 c
          ∧ r.2.mem ((c.tc : Thread Cert.OutStepIdeal.nD Cert.OutStepIdeal.τ).loc Cert.OutStepIdeal.main_v3_5) = v5 c
          ∧ r.2.mem ((c.tc : Thread Cert.OutStepIdeal.nD Cert.OutStepIdeal.τ).loc Cert.OutStepIdeal.main_v3_6) = v6 c
          ∧ r.2.mem ((c.tc : Thread Cert.OutStepIdeal.nD Cert.OutStepIdeal.τ).loc Cert.OutStepIdeal.main_v3_7) = v7 c
          ∧ r.2.mem ((c.tc : Thread Cert.OutStepIdeal.nD Cert.OutStepIdeal.τ).loc Cert.OutStepIdeal.main_v3_8) = v8 c
          ∧ r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
          ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
          ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
          ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3)
          ∧ r.2.mem ((c.tc : Thread Cert.OutStepIdeal.nD Cert.OutStepIdeal.τ).loc Cert.OutStepIdeal.main_arg4) = m ((c.tc : Thread Cert.OutStepIdeal.nD Cert.OutStepIdeal.τ).loc Cert.OutStepIdeal.main_arg4)
          ∧ r.2.mem ((c.tc : Thread Cert.OutStepIdeal.nD Cert.OutStepIdeal.τ).loc Cert.OutStepIdeal.main_arg5) = m ((c.tc : Thread Cert.OutStepIdeal.nD Cert.OutStepIdeal.τ).loc Cert.OutStepIdeal.main_arg5)
          ∧ r.2.mem ((c.tc : Thread Cert.OutStepIdeal.nD Cert.OutStepIdeal.τ).loc Cert.OutStepIdeal.main_arg6) = m ((c.tc : Thread Cert.OutStepIdeal.nD Cert.OutStepIdeal.τ).loc Cert.OutStepIdeal.main_arg6)
          ∧ r.2.mem ((c.tc : Thread Cert.OutStepIdeal.nD Cert.OutStepIdeal.τ).loc Cert.OutStepIdeal.main_arg7) = m ((c.tc : Thread Cert.OutStepIdeal.nD Cert.OutStepIdeal.τ).loc Cert.OutStepIdeal.main_arg7)
          ∧ r.2.mem ((c.tc : Thread Cert.OutStepIdeal.nD Cert.OutStepIdeal.τ).loc Cert.OutStepIdeal.main_arg8) = m ((c.tc : Thread Cert.OutStepIdeal.nD Cert.OutStepIdeal.τ).loc Cert.OutStepIdeal.main_arg8)
          ∧ r.2.mem ((c.tc : Thread Cert.OutStepIdeal.nD Cert.OutStepIdeal.τ).loc Cert.OutStepIdeal.main_arg9) = m ((c.tc : Thread Cert.OutStepIdeal.nD Cert.OutStepIdeal.τ).loc Cert.OutStepIdeal.main_arg9))
      ∧ θ_run (Cert.OutStepRefIdeal.defs (F := Ideal)) (onTc (τ := Cert.OutStepRefIdeal.τ) (Cert.OutStepRefIdeal.main (F := Ideal))) ⟨m', fun _ => 0, g'⟩ (fun r => ∀ c : Dev Cert.OutStepRefIdeal.nD,
          r.2.mem ((c.tc : Thread Cert.OutStepRefIdeal.nD Cert.OutStepRefIdeal.τ).loc Cert.OutStepRefIdeal.main_v57) = v0 c
          ∧ r.2.mem ((c.tc : Thread Cert.OutStepRefIdeal.nD Cert.OutStepRefIdeal.τ).loc Cert.OutStepRefIdeal.main_v76) = v1 c
          ∧ r.2.mem ((c.tc : Thread Cert.OutStepRefIdeal.nD Cert.OutStepRefIdeal.τ).loc Cert.OutStepRefIdeal.main_v77) = v2 c
          ∧ r.2.mem ((c.tc : Thread Cert.OutStepRefIdeal.nD Cert.OutStepRefIdeal.τ).loc Cert.OutStepRefIdeal.main_v78) = v3 c
          ∧ r.2.mem ((c.tc : Thread Cert.OutStepRefIdeal.nD Cert.OutStepRefIdeal.τ).loc Cert.OutStepRefIdeal.main_v79) = v4 c
          ∧ r.2.mem ((c.tc : Thread Cert.OutStepRefIdeal.nD Cert.OutStepRefIdeal.τ).loc Cert.OutStepRefIdeal.main_v80) = v5 c
          ∧ r.2.mem ((c.tc : Thread Cert.OutStepRefIdeal.nD Cert.OutStepRefIdeal.τ).loc Cert.OutStepRefIdeal.main_v81) = v6 c
          ∧ r.2.mem ((c.tc : Thread Cert.OutStepRefIdeal.nD Cert.OutStepRefIdeal.τ).loc Cert.OutStepRefIdeal.main_v82) = v7 c
          ∧ r.2.mem ((c.tc : Thread Cert.OutStepRefIdeal.nD Cert.OutStepRefIdeal.τ).loc Cert.OutStepRefIdeal.main_v75) = v8 c
          ∧ r.2.mem ((c.tc : Thread Cert.OutStepRefIdeal.nD Cert.OutStepRefIdeal.τ).loc Cert.OutStepRefIdeal.main_arg0) = m' ((c.tc : Thread Cert.OutStepRefIdeal.nD Cert.OutStepRefIdeal.τ).loc Cert.OutStepRefIdeal.main_arg0)
          ∧ r.2.mem ((c.tc : Thread Cert.OutStepRefIdeal.nD Cert.OutStepRefIdeal.τ).loc Cert.OutStepRefIdeal.main_arg1) = m' ((c.tc : Thread Cert.OutStepRefIdeal.nD Cert.OutStepRefIdeal.τ).loc Cert.OutStepRefIdeal.main_arg1)
          ∧ r.2.mem ((c.tc : Thread Cert.OutStepRefIdeal.nD Cert.OutStepRefIdeal.τ).loc Cert.OutStepRefIdeal.main_arg2) = m' ((c.tc : Thread Cert.OutStepRefIdeal.nD Cert.OutStepRefIdeal.τ).loc Cert.OutStepRefIdeal.main_arg2)
          ∧ r.2.mem ((c.tc : Thread Cert.OutStepRefIdeal.nD Cert.OutStepRefIdeal.τ).loc Cert.OutStepRefIdeal.main_arg3) = m' ((c.tc : Thread Cert.OutStepRefIdeal.nD Cert.OutStepRefIdeal.τ).loc Cert.OutStepRefIdeal.main_arg3)
          ∧ r.2.mem ((c.tc : Thread Cert.OutStepRefIdeal.nD Cert.OutStepRefIdeal.τ).loc Cert.OutStepRefIdeal.main_arg4) = m' ((c.tc : Thread Cert.OutStepRefIdeal.nD Cert.OutStepRefIdeal.τ).loc Cert.OutStepRefIdeal.main_arg4)
          ∧ r.2.mem ((c.tc : Thread Cert.OutStepRefIdeal.nD Cert.OutStepRefIdeal.τ).loc Cert.OutStepRefIdeal.main_arg5) = m' ((c.tc : Thread Cert.OutStepRefIdeal.nD Cert.OutStepRefIdeal.τ).loc Cert.OutStepRefIdeal.main_arg5)
          ∧ r.2.mem ((c.tc : Thread Cert.OutStepRefIdeal.nD Cert.OutStepRefIdeal.τ).loc Cert.OutStepRefIdeal.main_arg6) = m' ((c.tc : Thread Cert.OutStepRefIdeal.nD Cert.OutStepRefIdeal.τ).loc Cert.OutStepRefIdeal.main_arg6)
          ∧ r.2.mem ((c.tc : Thread Cert.OutStepRefIdeal.nD Cert.OutStepRefIdeal.τ).loc Cert.OutStepRefIdeal.main_arg7) = m' ((c.tc : Thread Cert.OutStepRefIdeal.nD Cert.OutStepRefIdeal.τ).loc Cert.OutStepRefIdeal.main_arg7)
          ∧ r.2.mem ((c.tc : Thread Cert.OutStepRefIdeal.nD Cert.OutStepRefIdeal.τ).loc Cert.OutStepRefIdeal.main_arg8) = m' ((c.tc : Thread Cert.OutStepRefIdeal.nD Cert.OutStepRefIdeal.τ).loc Cert.OutStepRefIdeal.main_arg8)
          ∧ r.2.mem ((c.tc : Thread Cert.OutStepRefIdeal.nD Cert.OutStepRefIdeal.τ).loc Cert.OutStepRefIdeal.main_arg9) = m' ((c.tc : Thread Cert.OutStepRefIdeal.nD Cert.OutStepRefIdeal.τ).loc Cert.OutStepRefIdeal.main_arg9))

def preserves_AdamOut_AdamOutIdeal : Prop :=
  True

def algebraic_AdamOutIdeal_AdamOutRefIdeal [hAdamOutIdeal : Cert.AdamOutIdeal.Facts] [hAdamOutRefIdeal : Cert.AdamOutRefIdeal.Facts] [hPre_out_place : Cert.Pre_out_place.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v2_0)) (v1 : (c : Dev Cert.AdamOutIdeal.nD) → Buf (Elt Ideal) ((c.tc : Thread Cert.AdamOutIdeal.nD Cert.AdamOutIdeal.τ).loc Cert.AdamOutIdeal.main_v2_1)) (v2 : (c : Dev Cert.AdamOutIdeal.nD) → Buf (Elt Ideal) ((c.tc : Thread Cert.AdamOutIdeal.nD Cert.AdamOutIdeal.τ).loc Cert.AdamOutIdeal.main_v2_2)) (v3 : (c : Dev Cert.AdamOutIdeal.nD) → Buf (Elt Ideal) ((c.tc : Thread Cert.AdamOutIdeal.nD Cert.AdamOutIdeal.τ).loc Cert.AdamOutIdeal.main_v2_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v2_0) = v0 c
          ∧ r.2.mem ((c.tc : Thread Cert.AdamOutIdeal.nD Cert.AdamOutIdeal.τ).loc Cert.AdamOutIdeal.main_v2_1) = v1 c
          ∧ r.2.mem ((c.tc : Thread Cert.AdamOutIdeal.nD Cert.AdamOutIdeal.τ).loc Cert.AdamOutIdeal.main_v2_2) = v2 c
          ∧ r.2.mem ((c.tc : Thread Cert.AdamOutIdeal.nD Cert.AdamOutIdeal.τ).loc Cert.AdamOutIdeal.main_v2_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v9) = v0 c
          ∧ r.2.mem ((c.tc : Thread Cert.AdamOutRefIdeal.nD Cert.AdamOutRefIdeal.τ).loc Cert.AdamOutRefIdeal.main_v33) = v1 c
          ∧ r.2.mem ((c.tc : Thread Cert.AdamOutRefIdeal.nD Cert.AdamOutRefIdeal.τ).loc Cert.AdamOutRefIdeal.main_v14) = v2 c
          ∧ r.2.mem ((c.tc : Thread Cert.AdamOutRefIdeal.nD Cert.AdamOutRefIdeal.τ).loc Cert.AdamOutRefIdeal.main_v20) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamKv_AdamKvIdeal : Prop :=
  True

def algebraic_AdamKvIdeal_AdamKvRefIdeal [hAdamKvIdeal : Cert.AdamKvIdeal.Facts] [hAdamKvRefIdeal : Cert.AdamKvRefIdeal.Facts] [hPre_kv_place : Cert.Pre_kv_place.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)
      ∧ m' ((c.tc : Thread Cert.AdamKvRefIdeal.nD Cert.AdamKvRefIdeal.τ).loc Cert.AdamKvRefIdeal.main_arg4) = m ((c.tc : Thread Cert.AdamKvIdeal.nD Cert.AdamKvIdeal.τ).loc Cert.AdamKvIdeal.main_arg4)
      ∧ m' ((c.tc : Thread Cert.AdamKvRefIdeal.nD Cert.AdamKvRefIdeal.τ).loc Cert.AdamKvRefIdeal.main_arg5) = m ((c.tc : Thread Cert.AdamKvIdeal.nD Cert.AdamKvIdeal.τ).loc Cert.AdamKvIdeal.main_arg5)) →
    ∃ (v0 : (c : Dev Cert.AdamKvIdeal.nD) → Buf (Elt Ideal) ((c.tc : Thread Cert.AdamKvIdeal.nD Cert.AdamKvIdeal.τ).loc Cert.AdamKvIdeal.main_v2_0)) (v1 : (c : Dev Cert.AdamKvIdeal.nD) → Buf (Elt Ideal) ((c.tc : Thread Cert.AdamKvIdeal.nD Cert.AdamKvIdeal.τ).loc Cert.AdamKvIdeal.main_v2_1)) (v2 : (c : Dev Cert.AdamKvIdeal.nD) → Buf (Elt Ideal) ((c.tc : Thread Cert.AdamKvIdeal.nD Cert.AdamKvIdeal.τ).loc Cert.AdamKvIdeal.main_v2_2)) (v3 : (c : Dev Cert.AdamKvIdeal.nD) → Buf (Elt Ideal) ((c.tc : Thread Cert.AdamKvIdeal.nD Cert.AdamKvIdeal.τ).loc Cert.AdamKvIdeal.main_v2_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v2_0) = v0 c
          ∧ r.2.mem ((c.tc : Thread Cert.AdamKvIdeal.nD Cert.AdamKvIdeal.τ).loc Cert.AdamKvIdeal.main_v2_1) = v1 c
          ∧ r.2.mem ((c.tc : Thread Cert.AdamKvIdeal.nD Cert.AdamKvIdeal.τ).loc Cert.AdamKvIdeal.main_v2_2) = v2 c
          ∧ r.2.mem ((c.tc : Thread Cert.AdamKvIdeal.nD Cert.AdamKvIdeal.τ).loc Cert.AdamKvIdeal.main_v2_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4)
          ∧ r.2.mem ((c.tc : Thread Cert.AdamKvIdeal.nD Cert.AdamKvIdeal.τ).loc Cert.AdamKvIdeal.main_arg5) = m ((c.tc : Thread Cert.AdamKvIdeal.nD Cert.AdamKvIdeal.τ).loc Cert.AdamKvIdeal.main_arg5))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v9) = v0 c
          ∧ r.2.mem ((c.tc : Thread Cert.AdamKvRefIdeal.nD Cert.AdamKvRefIdeal.τ).loc Cert.AdamKvRefIdeal.main_v33) = v1 c
          ∧ r.2.mem ((c.tc : Thread Cert.AdamKvRefIdeal.nD Cert.AdamKvRefIdeal.τ).loc Cert.AdamKvRefIdeal.main_v14) = v2 c
          ∧ r.2.mem ((c.tc : Thread Cert.AdamKvRefIdeal.nD Cert.AdamKvRefIdeal.τ).loc Cert.AdamKvRefIdeal.main_v20) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3)
          ∧ r.2.mem ((c.tc : Thread Cert.AdamKvRefIdeal.nD Cert.AdamKvRefIdeal.τ).loc Cert.AdamKvRefIdeal.main_arg4) = m' ((c.tc : Thread Cert.AdamKvRefIdeal.nD Cert.AdamKvRefIdeal.τ).loc Cert.AdamKvRefIdeal.main_arg4)
          ∧ r.2.mem ((c.tc : Thread Cert.AdamKvRefIdeal.nD Cert.AdamKvRefIdeal.τ).loc Cert.AdamKvRefIdeal.main_arg5) = m' ((c.tc : Thread Cert.AdamKvRefIdeal.nD Cert.AdamKvRefIdeal.τ).loc Cert.AdamKvRefIdeal.main_arg5))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] [hPre_small_place : Cert.Pre_small_place.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)) →
    ∃ (v0 : (c : Dev Cert.AdamSmallIdeal.nD) → Buf (Elt Ideal) ((c.tc : Thread Cert.AdamSmallIdeal.nD Cert.AdamSmallIdeal.τ).loc Cert.AdamSmallIdeal.main_v2_0)) (v1 : (c : Dev Cert.AdamSmallIdeal.nD) → Buf (Elt Ideal) ((c.tc : Thread Cert.AdamSmallIdeal.nD Cert.AdamSmallIdeal.τ).loc Cert.AdamSmallIdeal.main_v2_1)) (v2 : (c : Dev Cert.AdamSmallIdeal.nD) → Buf (Elt Ideal) ((c.tc : Thread Cert.AdamSmallIdeal.nD Cert.AdamSmallIdeal.τ).loc Cert.AdamSmallIdeal.main_v2_2)) (v3 : (c : Dev Cert.AdamSmallIdeal.nD) → Buf (Elt Ideal) ((c.tc : Thread Cert.AdamSmallIdeal.nD Cert.AdamSmallIdeal.τ).loc Cert.AdamSmallIdeal.main_v2_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v2_0) = v0 c
          ∧ r.2.mem ((c.tc : Thread Cert.AdamSmallIdeal.nD Cert.AdamSmallIdeal.τ).loc Cert.AdamSmallIdeal.main_v2_1) = v1 c
          ∧ r.2.mem ((c.tc : Thread Cert.AdamSmallIdeal.nD Cert.AdamSmallIdeal.τ).loc Cert.AdamSmallIdeal.main_v2_2) = v2 c
          ∧ r.2.mem ((c.tc : Thread Cert.AdamSmallIdeal.nD Cert.AdamSmallIdeal.τ).loc Cert.AdamSmallIdeal.main_v2_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v8) = v0 c
          ∧ r.2.mem ((c.tc : Thread Cert.AdamSmallRefIdeal.nD Cert.AdamSmallRefIdeal.τ).loc Cert.AdamSmallRefIdeal.main_v32) = v1 c
          ∧ r.2.mem ((c.tc : Thread Cert.AdamSmallRefIdeal.nD Cert.AdamSmallRefIdeal.τ).loc Cert.AdamSmallRefIdeal.main_v13) = v2 c
          ∧ r.2.mem ((c.tc : Thread Cert.AdamSmallRefIdeal.nD Cert.AdamSmallRefIdeal.τ).loc Cert.AdamSmallRefIdeal.main_v19) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5))

def Claim : Prop :=
  ∃ (hMemBwd : Cert.MemBwd.Facts) (hMemBwdIdeal : Cert.MemBwdIdeal.Facts) (hMemBwdRefIdeal : Cert.MemBwdRefIdeal.Facts) (hFoxBwd : Cert.FoxBwd.Facts) (hFoxBwdIdeal : Cert.FoxBwdIdeal.Facts) (hFoxBwdRefIdeal : Cert.FoxBwdRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hGradGates : Cert.GradGates.Facts) (hGradGatesIdeal : Cert.GradGatesIdeal.Facts) (hGradGatesRefIdeal : Cert.GradGatesRefIdeal.Facts) (hGradFox : Cert.GradFox.Facts) (hGradFoxIdeal : Cert.GradFoxIdeal.Facts) (hGradFoxRefIdeal : Cert.GradFoxRefIdeal.Facts) (hGradDil : Cert.GradDil.Facts) (hGradDilIdeal : Cert.GradDilIdeal.Facts) (hGradDilRefIdeal : Cert.GradDilRefIdeal.Facts) (hGradMq : Cert.GradMq.Facts) (hGradMqIdeal : Cert.GradMqIdeal.Facts) (hGradMqRefIdeal : Cert.GradMqRefIdeal.Facts) (hInBwd : Cert.InBwd.Facts) (hInBwdIdeal : Cert.InBwdIdeal.Facts) (hInBwdRefIdeal : Cert.InBwdRefIdeal.Facts) (hOutStep : Cert.OutStep.Facts) (hOutStepIdeal : Cert.OutStepIdeal.Facts) (hOutStepRefIdeal : Cert.OutStepRefIdeal.Facts) (hAdamOut : Cert.AdamOut.Facts) (hAdamOutIdeal : Cert.AdamOutIdeal.Facts) (hAdamOutRefIdeal : Cert.AdamOutRefIdeal.Facts) (hAdamKv : Cert.AdamKv.Facts) (hAdamKvIdeal : Cert.AdamKvIdeal.Facts) (hAdamKvRefIdeal : Cert.AdamKvRefIdeal.Facts) (hAdamSmall : Cert.AdamSmall.Facts) (hAdamSmallIdeal : Cert.AdamSmallIdeal.Facts) (hAdamSmallRefIdeal : Cert.AdamSmallRefIdeal.Facts) (hPre_mem_finite : Cert.Pre_mem_finite.Facts) (hPre_fox_finite : Cert.Pre_fox_finite.Facts) (hPre_in_proj_finite : Cert.Pre_in_proj_finite.Facts) (hPre_out_finite : Cert.Pre_out_finite.Facts) (hPre_out_place : Cert.Pre_out_place.Facts) (hPre_kv_place : Cert.Pre_kv_place.Facts) (hPre_small_place : Cert.Pre_small_place.Facts),
    quiescent_MemBwd (hMemBwd := hMemBwd)
    ∧ quiescent_MemBwdIdeal (hMemBwdIdeal := hMemBwdIdeal)
    ∧ quiescent_MemBwdIdeal_pre_mem_finite (hMemBwdIdeal := hMemBwdIdeal) (hPre_mem_finite := hPre_mem_finite)
    ∧ quiescent_MemBwdRefIdeal (hMemBwdRefIdeal := hMemBwdRefIdeal)
    ∧ quiescent_MemBwdRefIdeal_pre_mem_finite (hMemBwdRefIdeal := hMemBwdRefIdeal) (hPre_mem_finite := hPre_mem_finite)
    ∧ quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxBwdRefIdeal (hFoxBwdRefIdeal := hFoxBwdRefIdeal)
    ∧ quiescent_FoxBwdRefIdeal_pre_fox_finite (hFoxBwdRefIdeal := hFoxBwdRefIdeal) (hPre_fox_finite := hPre_fox_finite)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_GradGates (hGradGates := hGradGates)
    ∧ quiescent_GradGatesIdeal (hGradGatesIdeal := hGradGatesIdeal)
    ∧ quiescent_GradGatesRefIdeal (hGradGatesRefIdeal := hGradGatesRefIdeal)
    ∧ quiescent_GradFox (hGradFox := hGradFox)
    ∧ quiescent_GradFoxIdeal (hGradFoxIdeal := hGradFoxIdeal)
    ∧ quiescent_GradFoxRefIdeal (hGradFoxRefIdeal := hGradFoxRefIdeal)
    ∧ quiescent_GradDil (hGradDil := hGradDil)
    ∧ quiescent_GradDilIdeal (hGradDilIdeal := hGradDilIdeal)
    ∧ quiescent_GradDilRefIdeal (hGradDilRefIdeal := hGradDilRefIdeal)
    ∧ quiescent_GradMq (hGradMq := hGradMq)
    ∧ quiescent_GradMqIdeal (hGradMqIdeal := hGradMqIdeal)
    ∧ quiescent_GradMqRefIdeal (hGradMqRefIdeal := hGradMqRefIdeal)
    ∧ quiescent_InBwd (hInBwd := hInBwd)
    ∧ quiescent_InBwdIdeal (hInBwdIdeal := hInBwdIdeal)
    ∧ quiescent_InBwdIdeal_pre_in_proj_finite (hInBwdIdeal := hInBwdIdeal) (hPre_in_proj_finite := hPre_in_proj_finite)
    ∧ quiescent_InBwdRefIdeal (hInBwdRefIdeal := hInBwdRefIdeal)
    ∧ quiescent_InBwdRefIdeal_pre_in_proj_finite (hInBwdRefIdeal := hInBwdRefIdeal) (hPre_in_proj_finite := hPre_in_proj_finite)
    ∧ quiescent_OutStep (hOutStep := hOutStep)
    ∧ quiescent_OutStepIdeal (hOutStepIdeal := hOutStepIdeal)
    ∧ quiescent_OutStepIdeal_pre_out_finite (hOutStepIdeal := hOutStepIdeal) (hPre_out_finite := hPre_out_finite)
    ∧ quiescent_OutStepRefIdeal (hOutStepRefIdeal := hOutStepRefIdeal)
    ∧ quiescent_OutStepRefIdeal_pre_out_finite (hOutStepRefIdeal := hOutStepRefIdeal) (hPre_out_finite := hPre_out_finite)
    ∧ quiescent_AdamOut (hAdamOut := hAdamOut) (hPre_out_place := hPre_out_place)
    ∧ quiescent_AdamOutIdeal (hAdamOutIdeal := hAdamOutIdeal) (hPre_out_place := hPre_out_place)
    ∧ quiescent_AdamOutRefIdeal (hAdamOutRefIdeal := hAdamOutRefIdeal)
    ∧ quiescent_AdamOutRefIdeal_pre_out_place (hAdamOutRefIdeal := hAdamOutRefIdeal) (hPre_out_place := hPre_out_place)
    ∧ quiescent_AdamKv (hAdamKv := hAdamKv) (hPre_kv_place := hPre_kv_place)
    ∧ quiescent_AdamKvIdeal (hAdamKvIdeal := hAdamKvIdeal) (hPre_kv_place := hPre_kv_place)
    ∧ quiescent_AdamKvRefIdeal (hAdamKvRefIdeal := hAdamKvRefIdeal)
    ∧ quiescent_AdamKvRefIdeal_pre_kv_place (hAdamKvRefIdeal := hAdamKvRefIdeal) (hPre_kv_place := hPre_kv_place)
    ∧ quiescent_AdamSmall (hAdamSmall := hAdamSmall) (hPre_small_place := hPre_small_place)
    ∧ quiescent_AdamSmallIdeal (hAdamSmallIdeal := hAdamSmallIdeal) (hPre_small_place := hPre_small_place)
    ∧ quiescent_AdamSmallRefIdeal (hAdamSmallRefIdeal := hAdamSmallRefIdeal)
    ∧ quiescent_AdamSmallRefIdeal_pre_small_place (hAdamSmallRefIdeal := hAdamSmallRefIdeal) (hPre_small_place := hPre_small_place)
    ∧ preserves_MemBwd_MemBwdIdeal
    ∧ algebraic_MemBwdIdeal_MemBwdRefIdeal_pre_mem_finite (hMemBwdIdeal := hMemBwdIdeal) (hMemBwdRefIdeal := hMemBwdRefIdeal) (hPre_mem_finite := hPre_mem_finite)
    ∧ preserves_FoxBwd_FoxBwdIdeal
    ∧ algebraic_FoxBwdIdeal_FoxBwdRefIdeal_pre_fox_finite (hFoxBwdIdeal := hFoxBwdIdeal) (hFoxBwdRefIdeal := hFoxBwdRefIdeal) (hPre_fox_finite := hPre_fox_finite)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_GradGates_GradGatesIdeal
    ∧ algebraic_GradGatesIdeal_GradGatesRefIdeal (hGradGatesIdeal := hGradGatesIdeal) (hGradGatesRefIdeal := hGradGatesRefIdeal)
    ∧ preserves_GradFox_GradFoxIdeal
    ∧ algebraic_GradFoxIdeal_GradFoxRefIdeal (hGradFoxIdeal := hGradFoxIdeal) (hGradFoxRefIdeal := hGradFoxRefIdeal)
    ∧ preserves_GradDil_GradDilIdeal
    ∧ algebraic_GradDilIdeal_GradDilRefIdeal (hGradDilIdeal := hGradDilIdeal) (hGradDilRefIdeal := hGradDilRefIdeal)
    ∧ preserves_GradMq_GradMqIdeal
    ∧ algebraic_GradMqIdeal_GradMqRefIdeal (hGradMqIdeal := hGradMqIdeal) (hGradMqRefIdeal := hGradMqRefIdeal)
    ∧ preserves_InBwd_InBwdIdeal
    ∧ algebraic_InBwdIdeal_InBwdRefIdeal_pre_in_proj_finite (hInBwdIdeal := hInBwdIdeal) (hInBwdRefIdeal := hInBwdRefIdeal) (hPre_in_proj_finite := hPre_in_proj_finite)
    ∧ preserves_OutStep_OutStepIdeal
    ∧ algebraic_OutStepIdeal_OutStepRefIdeal_pre_out_finite (hOutStepIdeal := hOutStepIdeal) (hOutStepRefIdeal := hOutStepRefIdeal) (hPre_out_finite := hPre_out_finite)
    ∧ preserves_AdamOut_AdamOutIdeal
    ∧ algebraic_AdamOutIdeal_AdamOutRefIdeal (hAdamOutIdeal := hAdamOutIdeal) (hAdamOutRefIdeal := hAdamOutRefIdeal) (hPre_out_place := hPre_out_place)
    ∧ preserves_AdamKv_AdamKvIdeal
    ∧ algebraic_AdamKvIdeal_AdamKvRefIdeal (hAdamKvIdeal := hAdamKvIdeal) (hAdamKvRefIdeal := hAdamKvRefIdeal) (hPre_kv_place := hPre_kv_place)
    ∧ preserves_AdamSmall_AdamSmallIdeal
    ∧ algebraic_AdamSmallIdeal_AdamSmallRefIdeal (hAdamSmallIdeal := hAdamSmallIdeal) (hAdamSmallRefIdeal := hAdamSmallRefIdeal) (hPre_small_place := hPre_small_place)
-- ==== Pre_fox_finite.lean ====
abbrev S2x2048x768 : Shape := ⟨3, ![2, 2048, 768]⟩
abbrev S2x2048x12 : Shape := ⟨3, ![2, 2048, 12]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S2x2048x12 : S_.BroadcastsInDim S2x2048x12 (![] : Fin 0 → Fin S2x2048x12.rank)
  reducesTo_S2x2048x12_S_d0_1_2 : S2x2048x12.ReducesTo [0, 1, 2] S_
  bitsLt_bf16_f32 : FTy.bits .bf16 < FTy.bits .f32

variable [Facts]

def fn_part1 {F : FTy → Type} [FloatOps F] (main_arg4 : FVec F S2x2048x768 .bf16) (main_v13 : IVec S_ 1) (main_v16 : IVec S2x2048x12 1) : IVec S_ 1 :=
  let main_c_5 : IVec S_ 1 := constantI S_ 1 1#1
  let main_v17 : IVec S_ 1 := (fun x v => Host.reduce IntOp.andi x v reducesTo_S2x2048x12_S_d0_1_2 h_S_) main_v16 main_c_5
  let main_v18 : IVec S_ 1 := andi main_v13 main_v17
  let main_v19 : FVec F S2x2048x768 .f32 := (extf .f32 · bitsLt_bf16_f32) main_arg4
  let main_v20 : FVec F S2x2048x768 .f32 := Host.absf main_v19
  let main_cst_6 : FVec F S_ .f32 := constant S_ .f32 0x7F800000#32
  let main_v21 : FVec F S2x2048x768 .f32 := broadcastInDim S2x2048x768 ![] bcast_S_S2x2048x768 main_cst_6
  let main_v22 : IVec S2x2048x768 1 := cmpf .olt main_v20 main_v21
  let main_c_7 : IVec S_ 1 := constantI S_ 1 1#1
  let main_v23 : IVec S_ 1 := (fun x v => Host.reduce IntOp.andi x v reducesTo_S2x2048x768_S_d0_1_2 h_S_) main_v22 main_c_7
  let main_v24 : IVec S_ 1 := andi main_v18 main_v23
  main_v24

def fn {F : FTy → Type} [FloatOps F] (main_arg0 : FVec F S2x2048x768 .f32) (main_arg1 : FVec F S2x2048x768 .f32) (main_arg2 : FVec F S2x2048x768 .f32) (main_arg3 : FVec F S2x2048x12 .f32) (main_arg4 : FVec F S2x2048x768 .bf16) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2x2048x768 .f32 := Host.absf main_arg1
  let main_cst_0 : FVec F S_ .f32 := constant S_ .f32 0x7F800000#32
  let main_v5 : FVec F S2x2048x768 .f32 := broadcastInDim S2x2048x768 ![] bcast_S_S2x2048x768 main_cst_0
  let main_v6 : IVec S2x2048x768 1 := cmpf .olt main_v4 main_v5
  let main_c_1 : IVec S_ 1 := constantI S_ 1 1#1
  let main_v7 : IVec S_ 1 := (fun x v => Host.reduce IntOp.andi x v reducesTo_S2x2048x768_S_d0_1_2 h_S_) main_v6 main_c_1
  let main_v8 : IVec S_ 1 := andi main_v3 main_v7
  let main_v9 : FVec F S2x2048x768 .f32 := Host.absf main_arg2
  let main_cst_2 : FVec F S_ .f32 := constant S_ .f32 0x7F800000#32
  let main_v10 : FVec F S2x2048x768 .f32 := broadcastInDim S2x2048x768 ![] bcast_S_S2x2048x768 main_cst_2
  let main_v11 : IVec S2x2048x768 1 := cmpf .olt main_v9 main_v10
  let main_c_3 : IVec S_ 1 := constantI S_ 1 1#1
  let main_v12 : IVec S_ 1 := (fun x v => Host.reduce IntOp.andi x v reducesTo_S2x2048x768_S_d0_1_2 h_S_) main_v11 main_c_3
  let main_v13 : IVec S_ 1 := andi main_v8 main_v12
  let main_v14 : FVec F S2x2048x12 .f32 := Host.absf main_arg3
  let main_cst_4 : FVec F S_ .f32 := constant S_ .f32 0x7F800000#32
  let main_v15 : FVec F S2x2048x12 .f32 := broadcastInDim S2x2048x12 ![] bcast_S_S2x2048x12 main_cst_4
  let main_v16 : IVec S2x2048x12 1 := cmpf .olt main_v14 main_v15
  fn_part1 (F := F) main_arg4 main_v13 main_v16
-- ==== Pre_in_proj_finite.lean ====
abbrev S4096x768 : Shape := ⟨2, ![4096, 768]⟩
abbrev S4096x512 : Shape := ⟨2, ![4096, 512]⟩
abbrev S4096x2304 : Shape := ⟨2, ![4096, 2304]⟩
abbrev S4096x128 : Shape := ⟨2, ![4096, 128]⟩
abbrev S1024x768 : Shape := ⟨2, ![1024, 768]⟩
abbrev S1024x512 : Shape := ⟨2, ![1024, 512]⟩
abbrev S1024x2304 : Shape := ⟨2, ![1024, 2304]⟩
abbrev S1024x128 : Shape := ⟨2, ![1024, 128]⟩
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4096x768 : S_.BroadcastsInDim S4096x768 (![] : Fin 0 → Fin S4096x768.rank)
  reducesTo_S4096x768_S_d0_1 : S4096x768.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x2304 : S_.BroadcastsInDim S4096x2304 (![] : Fin 0 → Fin S4096x2304.rank)
  reducesTo_S4096x2304_S_d0_1 : S4096x2304.ReducesTo [0, 1] S_
  bcast_S_S4096x128 : S_.BroadcastsInDim S4096x128 (![] : Fin 0 → Fin S4096x128.rank)
  reducesTo_S4096x128_S_d0_1 : S4096x128.ReducesTo [0, 1] S_
  bcast_S_S1024x768 : S_.BroadcastsInDim S1024x768 (![] : Fin 0 → Fin S1024x768.rank)
  reducesTo_S1024x768_S_d0_1 : S1024x768.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x2304 : S_.BroadcastsInDim S1024x2304 (![] : Fin 0 → Fin S1024x2304.rank)
  reducesTo_S1024x2304_S_d0_1 : S1024x2304.ReducesTo [0, 1] S_
  bcast_S_S1024x128 : S_.BroadcastsInDim S1024x128 (![] : Fin 0 → Fin S1024x128.rank)
  reducesTo_S1024x128_S_d0_1 : S1024x128.ReducesTo [0, 1] S_

variable [Facts]

def fn_part5 {F : FTy → Type} [FloatOps F] (main_v85 : IVec S_ 1) (main_v86 : FVec F S1024x512 .f32) (main_cst_30 : FVec F S_ .f32) : IVec S_ 1 :=
  let main_v87 : FVec F S1024x512 .f32 := broadcastInDim S1024x512 ![] bcast_S_S1024x512 main_cst_30
  let main_v88 : IVec S1024x512 1 := cmpf .olt main_v86 main_v87
  let main_c_31 : IVec S_ 1 := constantI S_ 1 1#1
  let main_v89 : IVec S_ 1 := (fun x v => Host.reduce IntOp.andi x v reducesTo_S1024x512_S_d0_1 h_S_) main_v88 main_c_31
  let main_v90 : IVec S_ 1 := andi main_v85 main_v89
  main_v90

def fn_part4 {F : FTy → Type} [FloatOps F] (main_arg10 : FVec F S1024x2304 .f32) (main_arg11 : FVec F S1024x128 .f32) (main_arg12 : FVec F S1024x2304 .f32) (main_arg13 : FVec F S1024x512 .f32) (main_v65 : IVec S_ 1) (main_v69 : IVec S_ 1) : IVec S_ 1 :=
  let main_v70 : IVec S_ 1 := andi main_v65 main_v69
  let main_v71 : FVec F S1024x2304 .f32 := Host.absf main_arg10
  let main_cst_24 : FVec F S_ .f32 := constant S_ .f32 0x7F800000#32
  let main_v72 : FVec F S1024x2304 .f32 := broadcastInDim S1024x2304 ![] bcast_S_S1024x2304 main_cst_24
  let main_v73 : IVec S1024x2304 1 := cmpf .olt main_v71 main_v72
  let main_c_25 : IVec S_ 1 := constantI S_ 1 1#1
  let main_v74 : IVec S_ 1 := (fun x v => Host.reduce IntOp.andi x v reducesTo_S1024x2304_S_d0_1 h_S_) main_v73 main_c_25
  let main_v75 : IVec S_ 1 := andi main_v70 main_v74
  let main_v76 : FVec F S1024x128 .f32 := Host.absf main_arg11
  let main_cst_26 : FVec F S_ .f32 := constant S_ .f32 0x7F800000#32
  let main_v77 : FVec F S1024x128 .f32 := broadcastInDim S1024x128 ![] bcast_S_S1024x128 main_cst_26
  let main_v78 : IVec S1024x128 1 := cmpf .olt main_v76 main_v77
  let main_c_27 : IVec S_ 1 := constantI S_ 1 1#1
  let main_v79 : IVec S_ 1 := (fun x v => Host.reduce IntOp.andi x v reducesTo_S1024x128_S_d0_1 h_S_) main_v78 main_c_27
  let main_v80 : IVec S_ 1 := andi main_v75 main_v79
  let main_v81 : FVec F S1024x2304 .f32 := Host.absf main_arg12
  let main_cst_28 : FVec F S_ .f32 := constant S_ .f32 0x7F800000#32
  let main_v82 : FVec F S1024x2304 .f32 := broadcastInDim S1024x2304 ![] bcast_S_S1024x2304 main_cst_28
  let main_v83 : IVec S1024x2304 1 := cmpf .olt main_v81 main_v82
  let main_c_29 : IVec S_ 1 := constantI S_ 1 1#1
  let main_v84 : IVec S_ 1 := (fun x v => Host.reduce IntOp.andi x v reducesTo_S1024x2304_S_d0_1 h_S_) main_v83 main_c_29
  let main_v85 : IVec S_ 1 := andi main_v80 main_v84
  let main_v86 : FVec F S1024x512 .f32 := Host.absf main_arg13
  let main_cst_30 : FVec F S_ .f32 := constant S_ .f32 0x7F800000#32
  fn_part5 (F := F) main_v85 main_v86 main_cst_30

def fn_part3 {F : FTy → Type} [FloatOps F] (main_arg7 : FVec F S1024x768 .f32) (main_arg8 : FVec F S1024x768 .f32) (main_arg9 : FVec F S1024x512 .f32) (main_arg10 : FVec F S1024x2304 .f32) (main_arg11 : FVec F S1024x128 .f32) (main_arg12 : FVec F S1024x2304 .f32) (main_arg13 : FVec F S1024x512 .f32) (main_v49 : IVec S_ 1) (main_v51 : FVec F S4096x512 .f32) (main_v52 : FVec F S4096x512 .f32) : IVec S_ 1 :=
  let main_v53 : IVec S4096x512 1 := cmpf .olt main_v51 main_v52
  let main_c_17 : IVec S_ 1 := constantI S_ 1 1#1
  let main_v54 : IVec S_ 1 := (fun x v => Host.reduce IntOp.andi x v reducesTo_S4096x512_S_d0_1 h_S_) main_v53 main_c_17
  let main_v55 : IVec S_ 1 := andi main_v49 main_v54
  let main_v56 : FVec F S1024x768 .f32 := Host.absf main_arg7
  let main_cst_18 : FVec F S_ .f32 := constant S_ .f32 0x7F800000#32
  let main_v57 : FVec F S1024x768 .f32 := broadcastInDim S1024x768 ![] bcast_S_S1024x768 main_cst_18
  let main_v58 : IVec S1024x768 1 := cmpf .olt main_v56 main_v57
  let main_c_19 : IVec S_ 1 := constantI S_ 1 1#1
  let main_v59 : IVec S_ 1 := (fun x v => Host.reduce IntOp.andi x v reducesTo_S1024x768_S_d0_1 h_S_) main_v58 main_c_19
  let main_v60 : IVec S_ 1 := andi main_v55 main_v59
  let main_v61 : FVec F S1024x768 .f32 := Host.absf main_arg8
  let main_cst_20 : FVec F S_ .f32 := constant S_ .f32 0x7F800000#32
  let main_v62 : FVec F S1024x768 .f32 := broadcastInDim S1024x768 ![] bcast_S_S1024x768 main_cst_20
  let main_v63 : IVec S1024x768 1 := cmpf .olt main_v61 main_v62
  let main_c_21 : IVec S_ 1 := constantI S_ 1 1#1
  let main_v64 : IVec S_ 1 := (fun x v => Host.reduce IntOp.andi x v reducesTo_S1024x768_S_d0_1 h_S_) main_v63 main_c_21
  let main_v65 : IVec S_ 1 := andi main_v60 main_v64
  let main_v66 : FVec F S1024x512 .f32 := Host.absf main_arg9
  let main_cst_22 : FVec F S_ .f32 := constant S_ .f32 0x7F800000#32
  let main_v67 : FVec F S1024x512 .f32 := broadcastInDim S1024x512 ![] bcast_S_S1024x512 main_cst_22
  let main_v68 : IVec S1024x512 1 := cmpf .olt main_v66 main_v67
  let main_c_23 : IVec S_ 1 := constantI S_ 1 1#1
  let main_v69 : IVec S_ 1 := (fun x v => Host.reduce IntOp.andi x v reducesTo_S1024x512_S_d0_1 h_S_) main_v68 main_c_23
  fn_part4 (F := F) main_arg10 main_arg11 main_arg12 main_arg13 main_v65 main_v69

def fn_part2 {F : FTy → Type} [FloatOps F] (main_arg4 : FVec F S4096x128 .bf16) (main_arg5 : FVec F S4096x2304 .bf16) (main_arg6 : FVec F S4096x512 .bf16) (main_arg7 : FVec F S1024x768 .f32) (main_arg8 : FVec F S1024x768 .f32) (main_arg9 : FVec F S1024x512 .f32) (main_arg10 : FVec F S1024x2304 .f32) (main_arg11 : FVec F S1024x128 .f32) (main_arg12 : FVec F S1024x2304 .f32) (main_arg13 : FVec F S1024x512 .f32) (main_v31 : IVec S_ 1) (main_v33 : FVec F S4096x2304 .f32) (main_v34 : FVec F S4096x2304 .f32) : IVec S_ 1 :=
  let main_v35 : IVec S4096x2304 1 := cmpf .olt main_v33 main_v34
  let main_c_11 : IVec S_ 1 := constantI S_ 1 1#1
  let main_v36 : IVec S_ 1 := (fun x v => Host.reduce IntOp.andi x v reducesTo_S4096x2304_S_d0_1 h_S_) main_v35 main_c_11
  let main_v37 : IVec S_ 1 := andi main_v31 main_v36
  let main_v38 : FVec F S4096x128 .f32 := (extf .f32 · bitsLt_bf16_f32) main_arg4
  let main_v39 : FVec F S4096x128 .f32 := Host.absf main_v38
  let main_cst_12 : FVec F S_ .f32 := constant S_ .f32 0x7F800000#32
  let main_v40 : FVec F S4096x128 .f32 := broadcastInDim S4096x128 ![] bcast_S_S4096x128 main_cst_12
  let main_v41 : IVec S4096x128 1 := cmpf .olt main_v39 main_v40
  let main_c_13 : IVec S_ 1 := constantI S_ 1 1#1
  let main_v42 : IVec S_ 1 := (fun x v => Host.reduce IntOp.andi x v reducesTo_S4096x128_S_d0_1 h_S_) main_v41 main_c_13
  let main_v43 : IVec S_ 1 := andi main_v37 main_v42
  let main_v44 : FVec F S4096x2304 .f32 := (extf .f32 · bitsLt_bf16_f32) main_arg5
  let main_v45 : FVec F S4096x2304 .f32 := Host.absf main_v44
  let main_cst_14 : FVec F S_ .f32 := constant S_ .f32 0x7F800000#32
  let main_v46 : FVec F S4096x2304 .f32 := broadcastInDim S4096x2304 ![] bcast_S_S4096x2304 main_cst_14
  let main_v47 : IVec S4096x2304 1 := cmpf .olt main_v45 main_v46
  let main_c_15 : IVec S_ 1 := constantI S_ 1 1#1
  let main_v48 : IVec S_ 1 := (fun x v => Host.reduce IntOp.andi x v reducesTo_S4096x2304_S_d0_1 h_S_) main_v47 main_c_15
  let main_v49 : IVec S_ 1 := andi main_v43 main_v48
  let main_v50 : FVec F S4096x512 .f32 := (extf .f32 · bitsLt_bf16_f32) main_arg6
  let main_v51 : FVec F S4096x512 .f32 := Host.absf main_v50
  let main_cst_16 : FVec F S_ .f32 := constant S_ .f32 0x7F800000#32
  let main_v52 : FVec F S4096x512 .f32 := broadcastInDim S4096x512 ![] bcast_S_S4096x512 main_cst_16
  fn_part3 (F := F) main_arg7 main_arg8 main_arg9 main_arg10 main_arg11 main_arg12 main_arg13 main_v49 main_v51 main_v52

def fn_part1 {F : FTy → Type} [FloatOps F] (main_arg1 : FVec F S4096x768 .bf16) (main_arg2 : FVec F S4096x512 .bf16) (main_arg3 : FVec F S4096x2304 .bf16) (main_arg4 : FVec F S4096x128 .bf16) (main_arg5 : FVec F S4096x2304 .bf16) (main_arg6 : FVec F S4096x512 .bf16) (main_arg7 : FVec F S1024x768 .f32) (main_arg8 : FVec F S1024x768 .f32) (main_arg9 : FVec F S1024x512 .f32) (main_arg10 : FVec F S1024x2304 .f32) (main_arg11 : FVec F S1024x128 .f32) (main_arg12 : FVec F S1024x2304 .f32) (main_arg13 : FVec F S1024x512 .f32) (main_v13 : IVec S_ 1) (main_v15 : FVec F S4096x768 .f32) (main_v16 : FVec F S4096x768 .f32) : IVec S_ 1 :=
  let main_v17 : IVec S4096x768 1 := cmpf .olt main_v15 main_v16
  let main_c_5 : IVec S_ 1 := constantI S_ 1 1#1
  let main_v18 : IVec S_ 1 := (fun x v => Host.reduce IntOp.andi x v reducesTo_S4096x768_S_d0_1 h_S_) main_v17 main_c_5
  let main_v19 : IVec S_ 1 := andi main_v13 main_v18
  let main_v20 : FVec F S4096x768 .f32 := (extf .f32 · bitsLt_bf16_f32) main_arg1
  let main_v21 : FVec F S4096x768 .f32 := Host.absf main_v20
  let main_cst_6 : FVec F S_ .f32 := constant S_ .f32 0x7F800000#32
  let main_v22 : FVec F S4096x768 .f32 := broadcastInDim S4096x768 ![] bcast_S_S4096x768 main_cst_6
  let main_v23 : IVec S4096x768 1 := cmpf .olt main_v21 main_v22
  let main_c_7 : IVec S_ 1 := constantI S_ 1 1#1
  let main_v24 : IVec S_ 1 := (fun x v => Host.reduce IntOp.andi x v reducesTo_S4096x768_S_d0_1 h_S_) main_v23 main_c_7
  let main_v25 : IVec S_ 1 := andi main_v19 main_v24
  let main_v26 : FVec F S4096x512 .f32 := (extf .f32 · bitsLt_bf16_f32) main_arg2
  let main_v27 : FVec F S4096x512 .f32 := Host.absf main_v26
  let main_cst_8 : FVec F S_ .f32 := constant S_ .f32 0x7F800000#32
  let main_v28 : FVec F S4096x512 .f32 := broadcastInDim S4096x512 ![] bcast_S_S4096x512 main_cst_8
  let main_v29 : IVec S4096x512 1 := cmpf .olt main_v27 main_v28
  let main_c_9 : IVec S_ 1 := constantI S_ 1 1#1
  let main_v30 : IVec S_ 1 := (fun x v => Host.reduce IntOp.andi x v reducesTo_S4096x512_S_d0_1 h_S_) main_v29 main_c_9
  let main_v31 : IVec S_ 1 := andi main_v25 main_v30
  let main_v32 : FVec F S4096x2304 .f32 := (extf .f32 · bitsLt_bf16_f32) main_arg3
  let main_v33 : FVec F S4096x2304 .f32 := Host.absf main_v32
  let main_cst_10 : FVec F S_ .f32 := constant S_ .f32 0x7F800000#32
  let main_v34 : FVec F S4096x2304 .f32 := broadcastInDim S4096x2304 ![] bcast_S_S4096x2304 main_cst_10
  fn_part2 (F := F) main_arg4 main_arg5 main_arg6 main_arg7 main_arg8 main_arg9 main_arg10 main_arg11 main_arg12 main_arg13 main_v31 main_v33 main_v34

def fn {F : FTy → Type} [FloatOps F] (main_arg0 : FVec F S4096x768 .bf16) (main_arg1 : FVec F S4096x768 .bf16) (main_arg2 : FVec F S4096x512 .bf16) (main_arg3 : FVec F S4096x2304 .bf16) (main_arg4 : FVec F S4096x128 .bf16) (main_arg5 : FVec F S4096x2304 .bf16) (main_arg6 : FVec F S4096x512 .bf16) (main_arg7 : FVec F S1024x768 .f32) (main_arg8 : FVec F S1024x768 .f32) (main_arg9 : FVec F S1024x512 .f32) (main_arg10 : FVec F S1024x2304 .f32) (main_arg11 : FVec F S1024x128 .f32) (main_arg12 : FVec F S1024x2304 .f32) (main_arg13 : FVec F S1024x512 .f32) (main_arg14 : FVec F S4096x1024 .f32) (main_arg15 : FVec F S1x1024 .f32) (main_arg16 : FVec F S4096x1024 .f32) : IVec S_ 1 :=
  let main_v0 : FVec F S4096x1024 .f32 := Host.absf main_arg14
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg15
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := Host.absf main_arg16
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x768 .f32 := (extf .f32 · bitsLt_bf16_f32) main_arg0
  let main_v15 : FVec F S4096x768 .f32 := Host.absf main_v14
  let main_cst_4 : FVec F S_ .f32 := constant S_ .f32 0x7F800000#32
  let main_v16 : FVec F S4096x768 .f32 := broadcastInDim S4096x768 ![] bcast_S_S4096x768 main_cst_4
  fn_part1 (F := F) main_arg1 main_arg2 main_arg3 main_arg4 main_arg5 main_arg6 main_arg7 main_arg8 main_arg9 main_arg10 main_arg11 main_arg12 main_arg13 main_v13 main_v15 main_v16
-- ==== Pre_kv_place.lean ====
abbrev S1 : Shape := ⟨1, ![1]⟩
abbrev S1024x1024 : Shape := ⟨2, ![1024, 1024]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1024x1024 .bf16) (main_arg2 : FVec F S1024x1024 .bf16) (main_arg3 : FVec F S128x1024 .f32) (main_arg4 : FVec F S128x1024 .f32) (main_arg5 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_mem_finite.lean ====
abbrev S2x2048x512 : Shape := ⟨3, ![2, 2048, 512]⟩
abbrev S2x256x1024 : Shape := ⟨3, ![2, 256, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_
  bitsLt_bf16_f32 : FTy.bits .bf16 < FTy.bits .f32

variable [Facts]

def fn {F : FTy → Type} [FloatOps F] (main_arg0 : FVec F S2x2048x512 .f32) (main_arg1 : FVec F S2x256x1024 .f32) (main_arg2 : FVec F S2x2048x512 .bf16) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x256x1024 .f32 := Host.absf main_arg1
  let main_cst_0 : FVec F S_ .f32 := constant S_ .f32 0x7F800000#32
  let main_v5 : FVec F S2x256x1024 .f32 := broadcastInDim S2x256x1024 ![] bcast_S_S2x256x1024 main_cst_0
  let main_v6 : IVec S2x256x1024 1 := cmpf .olt main_v4 main_v5
  let main_c_1 : IVec S_ 1 := constantI S_ 1 1#1
  let main_v7 : IVec S_ 1 := (fun x v => Host.reduce IntOp.andi x v reducesTo_S2x256x1024_S_d0_1_2 h_S_) main_v6 main_c_1
  let main_v8 : IVec S_ 1 := andi main_v3 main_v7
  let main_v9 : FVec F S2x2048x512 .f32 := (extf .f32 · bitsLt_bf16_f32) main_arg2
  let main_v10 : FVec F S2x2048x512 .f32 := Host.absf main_v9
  let main_cst_2 : FVec F S_ .f32 := constant S_ .f32 0x7F800000#32
  let main_v11 : FVec F S2x2048x512 .f32 := broadcastInDim S2x2048x512 ![] bcast_S_S2x2048x512 main_cst_2
  let main_v12 : IVec S2x2048x512 1 := cmpf .olt main_v10 main_v11
  let main_c_3 : IVec S_ 1 := constantI S_ 1 1#1
  let main_v13 : IVec S_ 1 := (fun x v => Host.reduce IntOp.andi x v reducesTo_S2x2048x512_S_d0_1_2 h_S_) main_v12 main_c_3
  let main_v14 : IVec S_ 1 := andi main_v8 main_v13
  main_v14
-- ==== Pre_out_finite.lean ====
abbrev S4096x768 : Shape := ⟨2, ![4096, 768]⟩
abbrev S4096x512 : Shape := ⟨2, ![4096, 512]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S4096x1024 .f32) (main_arg8 : FVec F S4096x1024 .f32) (main_arg9 : FVec F S1x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  main_v48

def fn_part1 {F : FTy → Type} [FloatOps F] (main_arg4 : FVec F S4096x768 .f32) (main_arg5 : FVec F S4096x512 .f32) (main_arg6 : FVec F S2048x1024 .f32) (main_arg7 : FVec F S4096x1024 .f32) (main_arg8 : FVec F S4096x1024 .f32) (main_arg9 : FVec F S1x1024 .f32) (main_v13 : IVec S_ 1) (main_v16 : IVec S4096x768 1) : IVec S_ 1 :=
  let main_c_5 : IVec S_ 1 := constantI S_ 1 1#1
  let main_v17 : IVec S_ 1 := (fun x v => Host.reduce IntOp.andi x v reducesTo_S4096x768_S_d0_1 h_S_) main_v16 main_c_5
  let main_v18 : IVec S_ 1 := andi main_v13 main_v17
  let main_v19 : FVec F S4096x768 .f32 := Host.absf main_arg4
  let main_cst_6 : FVec F S_ .f32 := constant S_ .f32 0x7F800000#32
  let main_v20 : FVec F S4096x768 .f32 := broadcastInDim S4096x768 ![] bcast_S_S4096x768 main_cst_6
  let main_v21 : IVec S4096x768 1 := cmpf .olt main_v19 main_v20
  let main_c_7 : IVec S_ 1 := constantI S_ 1 1#1
  let main_v22 : IVec S_ 1 := (fun x v => Host.reduce IntOp.andi x v reducesTo_S4096x768_S_d0_1 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x768 .f32) (main_arg1 : FVec F S4096x768 .f32) (main_arg2 : FVec F S4096x512 .f32) (main_arg3 : FVec F S4096x768 .f32) (main_arg4 : FVec F S4096x768 .f32) (main_arg5 : FVec F S4096x512 .f32) (main_arg6 : FVec F S2048x1024 .f32) (main_arg7 : FVec F S4096x1024 .f32) (main_arg8 : FVec F S4096x1024 .f32) (main_arg9 : FVec F S1x1024 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x768 .f32 := Host.absf main_arg3
  let main_cst_4 : FVec F S_ .f32 := constant S_ .f32 0x7F800000#32
  let main_v15 : FVec F S4096x768 .f32 := broadcastInDim S4096x768 ![] bcast_S_S4096x768 main_cst_4
  let main_v16 : IVec S4096x768 1 := cmpf .olt main_v14 main_v15
  fn_part1 (F := F) main_arg4 main_arg5 main_arg6 main_arg7 main_arg8 main_arg9 main_v13 main_v16
-- ==== Pre_out_place.lean ====
abbrev S1 : Shape := ⟨1, ![1]⟩
abbrev S2048x1024 : Shape := ⟨2, ![2048, 1024]⟩
abbrev S256x1024 : Shape := ⟨2, ![256, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x1024 .bf16) (main_arg2 : FVec F S2048x1024 .bf16) (main_arg3 : FVec F S256x1024 .f32) (main_arg4 : FVec F S256x1024 .f32) (main_arg5 : FVec F S256x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_small_place.lean ====
abbrev S1 : Shape := ⟨1, ![1]⟩
abbrev S64x1024 : Shape := ⟨2, ![64, 1024]⟩
abbrev S8x1024 : Shape := ⟨2, ![8, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S64x1024 .f32) (main_arg2 : FVec F S64x1024 .f32) (main_arg3 : FVec F S8x1024 .f32) (main_arg4 : FVec F S8x1024 .f32) (main_arg5 : FVec F S8x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== MemBwd.lean ====
abbrev S2x2048x512 : Shape := ⟨3, ![2, 2048, 512]⟩
abbrev S2x256x1024 : Shape := ⟨3, ![2, 256, 1024]⟩
abbrev S_ : Shape := ⟨0, ![]⟩
abbrev S2x2048x5120 : Shape := ⟨3, ![2, 2048, 5120]⟩
abbrev S2x256x512 : Shape := ⟨3, ![2, 256, 512]⟩
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x8x256 : Shape := ⟨4, ![2, 4, 8, 256]⟩
abbrev S1x2048x128 : Shape := ⟨3, ![1, 2048, 128]⟩
abbrev S1x256x128 : Shape := ⟨3, ![1, 256, 128]⟩
abbrev S1x1x8x256 : Shape := ⟨4, ![1, 1, 8, 256]⟩
abbrev S8x128x256 : Shape := ⟨3, ![8, 128, 256]⟩
abbrev S256x128 : Shape := ⟨2, ![256, 128]⟩
abbrev S1x128x256 : Shape := ⟨3, ![1, 128, 256]⟩
abbrev S8x256 : Shape := ⟨2, ![8, 256]⟩
abbrev S256x256 : Shape := ⟨2, ![256, 256]⟩
abbrev S128x256 : Shape := ⟨2, ![128, 256]⟩
abbrev S128x1 : Shape := ⟨2, ![128, 1]⟩
abbrev S256 : Shape := ⟨1, ![256]⟩
abbrev S1x256 : Shape := ⟨2, ![1, 256]⟩
abbrev S1x1x1x256 : Shape := ⟨4, ![1, 1, 1, 256]⟩

abbrev nBuf : Space → Nat
  | .hbm => 52
  | .vmem => 34
  | .smem => 0
  | _ => 0

abbrev bufTy : (tb : Table) → Fin (tcTables nBuf tb) → BufTy
  | .hbm, ⟨0, _⟩ => ⟨S2x2048x512, .f32⟩
  | .hbm, ⟨1, _⟩ => ⟨S2x256x1024, .f32⟩
  | .hbm, ⟨2, _⟩ => ⟨S2x2048x512, .bf16⟩
  | .hbm, ⟨3, _⟩ => ⟨S_, .i32⟩
  | .hbm, ⟨4, _⟩ => ⟨S_, .f32⟩
  | .hbm, ⟨5, _⟩ => ⟨S2x2048x5120, .f32⟩
  | .hbm, ⟨6, _⟩ => ⟨S2x256x512, .f32⟩
  | .hbm, ⟨7, _⟩ => ⟨S2x256x512, .f32⟩
  | .hbm, ⟨8, _⟩ => ⟨S2x2048x4x128, .f32⟩
  | .hbm, ⟨9, _⟩ => ⟨S2x256x4x128, .f32⟩
  | .hbm, ⟨10, _⟩ => ⟨S2x256x4x128, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S_, .f32⟩
  | .hbm, ⟨18, _⟩ => ⟨S2x4x2048, .f32⟩
  | .hbm, ⟨19, _⟩ => ⟨S2x4x2048, .f32⟩
  | .hbm, ⟨20, _⟩ => ⟨S2x4x2048x1, .f32⟩
  | .hbm, ⟨21, _⟩ => ⟨S2x4x2048x256, .f32⟩
  | .hbm, ⟨22, _⟩ => ⟨S2x4x2048x256, .f32⟩
  | .hbm, ⟨23, _⟩ => ⟨S2x4x2048x256, .f32⟩
  | .hbm, ⟨24, _⟩ => ⟨S_, .f32⟩
  | .hbm, ⟨25, _⟩ => ⟨S2x4x2048, .f32⟩
  | .hbm, ⟨26, _⟩ => ⟨S2x4x2048x1, .f32⟩
  | .hbm, ⟨27, _⟩ => ⟨S2x4x2048x256, .f32⟩
  | .hbm, ⟨28, _⟩ => ⟨S2x4x2048x256, .f32⟩
  | .hbm, ⟨29, _⟩ => ⟨S2x4x128x2048, .f32⟩
  | .hbm, ⟨30, _⟩ => ⟨S2x2048x4x128, .f32⟩
  | .hbm, ⟨31, _⟩ => ⟨S2x2048x512, .f32⟩
  | .hbm, ⟨32, _⟩ => ⟨S2x2048x4x128, .f32⟩
  | .hbm, ⟨33, _⟩ => ⟨S2x256x4x128, .f32⟩
  | .hbm, ⟨34, _⟩ => ⟨S2x4x2048x256, .f32⟩
  | .hbm, ⟨35, _⟩ => ⟨S_, .f32⟩
  | .hbm, ⟨36, _⟩ => ⟨S2x4x2048x256, .f32⟩
  | .hbm, ⟨37, _⟩ => ⟨S2x4x2048x256, .f32⟩
  | .hbm, ⟨38, _⟩ => ⟨S_, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048, .f32⟩
  | .hbm, ⟨47, _⟩ => ⟨S2x4x2048, .f32⟩
  | .hbm, ⟨48, _⟩ => ⟨S2x4x8x256, .f32⟩
  | .hbm, ⟨49, _⟩ => ⟨S2x2048x512, .bf16⟩
  | .hbm, ⟨50, _⟩ => ⟨S2x256x512, .bf16⟩
  | .hbm, ⟨51, _⟩ => ⟨S2x256x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x1x8x256, .f32⟩
  | .local _ .vmem, ⟨11, _⟩ => ⟨S1x1x8x256, .f32⟩
  | .local _ .vmem, ⟨12, _⟩ => ⟨S1x2048x128, .bf16⟩
  | .local _ .vmem, ⟨13, _⟩ => ⟨S1x2048x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S8x128x256, .bf16⟩
  | .local _ .vmem, ⟨19, _⟩ => ⟨S256x128, .bf16⟩
  | .local _ .vmem, ⟨20, _⟩ => ⟨S256x128, .bf16⟩
  | .local _ .vmem, ⟨21, _⟩ => ⟨S1x128x256, .bf16⟩
  | .local _ .vmem, ⟨22, _⟩ => ⟨S8x128x256, .bf16⟩
  | .local _ .vmem, ⟨23, _⟩ => ⟨S8x256, .f32⟩
  | .local _ .vmem, ⟨24, _⟩ => ⟨S1x128x256, .f32⟩
  | .local _ .vmem, ⟨25, _⟩ => ⟨S1x128x256, .f32⟩
  | .local _ .vmem, ⟨26, _⟩ => ⟨S256x256, .f32⟩
  | .local _ .vmem, ⟨27, _⟩ => ⟨S256x256, .f32⟩
  | .local _ .vmem, ⟨28, _⟩ => ⟨S256x256, .bf16⟩
  | .local _ .vmem, ⟨29, _⟩ => ⟨S256x256, .bf16⟩
  | .local _ .vmem, ⟨30, _⟩ => ⟨S256x256, .f32⟩
  | .local _ .vmem, ⟨31, _⟩ => ⟨S256x256, .f32⟩
  | .local _ .vmem, ⟨32, _⟩ => ⟨S256x256, .bf16⟩
  | .local _ .vmem, ⟨33, _⟩ => ⟨S256x256, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_scratch14 : Ref sig .tc := ⟨.vmem, 32, rfl⟩
abbrev cc0_scratch15 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MemBwdRefIdeal.lean ====
abbrev S2x2048x512 : Shape := ⟨3, ![2, 2048, 512]⟩
abbrev S2x256x1024 : Shape := ⟨3, ![2, 256, 1024]⟩
abbrev S2x256x512 : Shape := ⟨3, ![2, 256, 512]⟩
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 86
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x256x1024, .f32⟩
  | .hbm, ⟨2, _⟩ => ⟨S2x2048x512, .bf16⟩
  | .hbm, ⟨3, _⟩ => ⟨S2x256x512, .f32⟩
  | .hbm, ⟨4, _⟩ => ⟨S2x256x512, .f32⟩
  | .hbm, ⟨5, _⟩ => ⟨S2x2048x4x128, .f32⟩
  | .hbm, ⟨6, _⟩ => ⟨S2x256x4x128, .f32⟩
  | .hbm, ⟨7, _⟩ => ⟨S2x256x4x128, .f32⟩
  | .hbm, ⟨8, _⟩ => ⟨S2x4x2048x256, .f32⟩
  | .hbm, ⟨9, _⟩ => ⟨S_, .f32⟩
  | .hbm, ⟨10, _⟩ => ⟨S2x4x2048x256, .f32⟩
  | .hbm, ⟨11, _⟩ => ⟨S2x4x2048x256, .f32⟩
  | .hbm, ⟨12, _⟩ => ⟨S_, .f32⟩
  | .hbm, ⟨13, _⟩ => ⟨S2x4x2048, .f32⟩
  | .hbm, ⟨14, _⟩ => ⟨S2x4x2048x1, .f32⟩
  | .hbm, ⟨15, _⟩ => ⟨S2x4x2048x256, .f32⟩
  | .hbm, ⟨16, _⟩ => ⟨S2x4x2048x256, .i1⟩
  | .hbm, ⟨17, _⟩ => ⟨S2x4x2048x256, .f32⟩
  | .hbm, ⟨18, _⟩ => ⟨S_, .f32⟩
  | .hbm, ⟨19, _⟩ => ⟨S2x4x2048, .f32⟩
  | .hbm, ⟨20, _⟩ => ⟨S_, .f32⟩
  | .hbm, ⟨21, _⟩ => ⟨S2x4x2048, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .i1⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S2x4x2048, .f32⟩
  | .hbm, ⟨36, _⟩ => ⟨S2x4x2048, .f32⟩
  | .hbm, ⟨37, _⟩ => ⟨S2x4x2048x1, .f32⟩
  | .hbm, ⟨38, _⟩ => ⟨S2x4x2048x256, .f32⟩
  | .hbm, ⟨39, _⟩ => ⟨S2x4x2048x256, .f32⟩
  | .hbm, ⟨40, _⟩ => ⟨S2x4x2048x256, .f32⟩
  | .hbm, ⟨41, _⟩ => ⟨S_, .f32⟩
  | .hbm, ⟨42, _⟩ => ⟨S2x4x2048, .f32⟩
  | .hbm, ⟨43, _⟩ => ⟨S2x4x2048x1, .f32⟩
  | .hbm, ⟨44, _⟩ => ⟨S2x4x2048x256, .f32⟩
  | .hbm, ⟨45, _⟩ => ⟨S2x4x2048x256, .f32⟩
  | .hbm, ⟨46, _⟩ => ⟨S2x4x2048x1, .f32⟩
  | .hbm, ⟨47, _⟩ => ⟨S_, .f32⟩
  | .hbm, ⟨48, _⟩ => ⟨S2x4x2048x1, .f32⟩
  | .hbm, ⟨49, _⟩ => ⟨S2x4x2048x1, .f32⟩
  | .hbm, ⟨50, _⟩ => ⟨S2x4x128x2048, .f32⟩
  | .hbm, ⟨51, _⟩ => ⟨S2x2048x4x128, .f32⟩
  | .hbm, ⟨52, _⟩ => ⟨S2x2048x512, .f32⟩
  | .hbm, ⟨53, _⟩ => ⟨S2x2048x512, .f32⟩
  | .hbm, ⟨54, _⟩ => ⟨S2x2048x4x128, .f32⟩
  | .hbm, ⟨55, _⟩ => ⟨S2x4x128x2048, .f32⟩
  | .hbm, ⟨56, _⟩ => ⟨S2x4x2048x256, .f32⟩
  | .hbm, ⟨57, _⟩ => ⟨S2x4x128x256, .f32⟩
  | .hbm, ⟨58, _⟩ => ⟨S2x256x4x128, .f32⟩
  | .hbm, ⟨59, _⟩ => ⟨S2x4x2048x256, .f32⟩
  | .hbm, ⟨60, _⟩ => ⟨S2x4x2048x256, .f32⟩
  | .hbm, ⟨61, _⟩ => ⟨S2x4x2048x256, .f32⟩
  | .hbm, ⟨62, _⟩ => ⟨S_, .f32⟩
  | .hbm, ⟨63, _⟩ => ⟨S2x4x2048, .f32⟩
  | .hbm, ⟨64, _⟩ => ⟨S2x4x2048x1, .f32⟩
  | .hbm, ⟨65, _⟩ => ⟨S2x4x2048x1, .f32⟩
  | .hbm, ⟨66, _⟩ => ⟨S2x4x2048x256, .f32⟩
  | .hbm, ⟨67, _⟩ => ⟨S2x4x2048x256, .f32⟩
  | .hbm, ⟨68, _⟩ => ⟨S_, .f32⟩
  | .hbm, ⟨69, _⟩ => ⟨S2x4x2048, .f32⟩
  | .hbm, ⟨70, _⟩ => ⟨S2x4x2048x256, .f32⟩
  | .hbm, ⟨71, _⟩ => ⟨S2x4x2048x256, .f32⟩
  | .hbm, ⟨72, _⟩ => ⟨S2x4x2048x256, .f32⟩
  | .hbm, ⟨73, _⟩ => ⟨S_, .f32⟩
  | .hbm, ⟨74, _⟩ => ⟨S2x4x2048x256, .f32⟩
  | .hbm, ⟨75, _⟩ => ⟨S2x4x2048x256, .f32⟩
  | .hbm, ⟨76, _⟩ => ⟨S2x4x256x128, .f32⟩
  | .hbm, ⟨77, _⟩ => ⟨S2x256x4x128, .f32⟩
  | .hbm, ⟨78, _⟩ => ⟨S2x4x2048x128, .f32⟩
  | .hbm, ⟨79, _⟩ => ⟨S2x2048x4x128, .f32⟩
  | .hbm, ⟨80, _⟩ => ⟨S2x256x512, .f32⟩
  | .hbm, ⟨81, _⟩ => ⟨S2x256x512, .f32⟩
  | .hbm, ⟨82, _⟩ => ⟨S2x2048x512, .f32⟩
  | .hbm, ⟨83, _⟩ => ⟨S2x2048x512, .bf16⟩
  | .hbm, ⟨84, _⟩ => ⟨S2x256x512, .bf16⟩
  | .hbm, ⟨85, _⟩ => ⟨S2x256x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== FoxBwd.lean ====
abbrev S2x2048x768 : Shape := ⟨3, ![2, 2048, 768]⟩
abbrev S2x2048x12 : Shape := ⟨3, ![2, 2048, 12]⟩
abbrev S2x2048x6x128 : Shape := ⟨4, ![2, 2048, 6, 128]⟩
abbrev S2x2048x6x384 : Shape := ⟨4, ![2, 2048, 6, 384]⟩
abbrev S2x2048x2304 : Shape := ⟨3, ![2, 2048, 2304]⟩
abbrev S_ : Shape := ⟨0, ![]⟩
abbrev S2x2048x2432 : Shape := ⟨3, ![2, 2048, 2432]⟩
abbrev S2x2048x128 : Shape := ⟨3, ![2, 2048, 128]⟩
abbrev S2x2048x12x64 : Shape := ⟨4, ![2, 2048, 12, 64]⟩
abbrev S2x12x2048x2048 : Shape := ⟨4, ![2, 12, 2048, 2048]⟩
abbrev S2x12x2048 : Shape := ⟨3, ![2, 12, 2048]⟩
abbrev S2x12x2048x1 : Shape := ⟨4, ![2, 12, 2048, 1]⟩
abbrev S2x12x1x2048 : Shape := ⟨4, ![2, 12, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x12x64x2048 : Shape := ⟨4, ![2, 12, 64, 2048]⟩
abbrev S2x6x2x8x256 : Shape := ⟨5, ![2, 6, 2, 8, 256]⟩
abbrev S2x6x8x2x256 : Shape := ⟨5, ![2, 6, 8, 2, 256]⟩
abbrev S2x6x8x512 : Shape := ⟨4, ![2, 6, 8, 512]⟩
abbrev S1x2048x384 : Shape := ⟨3, ![1, 2048, 384]⟩
abbrev S1x2048x128 : Shape := ⟨3, ![1, 2048, 128]⟩
abbrev S1x1x8x512 : Shape := ⟨4, ![1, 1, 8, 512]⟩
abbrev S8x128x512 : Shape := ⟨3, ![8, 128, 512]⟩
abbrev S2048x128 : Shape := ⟨2, ![2048, 128]⟩
abbrev S8x128x256 : Shape := ⟨3, ![8, 128, 256]⟩
abbrev S8x512 : Shape := ⟨2, ![8, 512]⟩
abbrev S256x512 : Shape := ⟨2, ![256, 512]⟩
abbrev S256x256 : Shape := ⟨2, ![256, 256]⟩
abbrev S1x128 : Shape := ⟨2, ![1, 128]⟩
abbrev S1x256x128 : Shape := ⟨3, ![1, 256, 128]⟩
abbrev S256x128 : Shape := ⟨2, ![256, 128]⟩
abbrev S128x256 : Shape := ⟨2, ![128, 256]⟩
abbrev S128x1 : Shape := ⟨2, ![128, 1]⟩
abbrev S1x128x256 : Shape := ⟨3, ![1, 128, 256]⟩
abbrev S256 : Shape := ⟨1, ![256]⟩
abbrev S256x1 : Shape := ⟨2, ![256, 1]⟩
abbrev S1x256 : Shape := ⟨2, ![1, 256]⟩
abbrev S1x128x512 : Shape := ⟨3, ![1, 128, 512]⟩
abbrev S128x512 : Shape := ⟨2, ![128, 512]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 107
  | .vmem => 34
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S2x2048x12, .f32⟩
  | .hbm, ⟨4, _⟩ => ⟨S2x2048x768, .bf16⟩
  | .hbm, ⟨5, _⟩ => ⟨S2x2048x6x128, .f32⟩
  | .hbm, ⟨6, _⟩ => ⟨S2x2048x6x128, .f32⟩
  | .hbm, ⟨7, _⟩ => ⟨S2x2048x6x128, .f32⟩
  | .hbm, ⟨8, _⟩ => ⟨S2x2048x6x384, .f32⟩
  | .hbm, ⟨9, _⟩ => ⟨S2x2048x2304, .f32⟩
  | .hbm, ⟨10, _⟩ => ⟨S_, .i32⟩
  | .hbm, ⟨11, _⟩ => ⟨S_, .f32⟩
  | .hbm, ⟨12, _⟩ => ⟨S2x2048x2432, .f32⟩
  | .hbm, ⟨13, _⟩ => ⟨S2x2048x12, .f32⟩
  | .hbm, ⟨14, _⟩ => ⟨S_, .i32⟩
  | .hbm, ⟨15, _⟩ => ⟨S_, .f32⟩
  | .hbm, ⟨16, _⟩ => ⟨S2x2048x128, .f32⟩
  | .hbm, ⟨17, _⟩ => ⟨S2x2048x12x64, .f32⟩
  | .hbm, ⟨18, _⟩ => ⟨S2x2048x12x64, .f32⟩
  | .hbm, ⟨19, _⟩ => ⟨S2x12x2048x2048, .f32⟩
  | .hbm, ⟨20, _⟩ => ⟨S_, .f32⟩
  | .hbm, ⟨21, _⟩ => ⟨S2x12x2048x2048, .f32⟩
  | .hbm, ⟨22, _⟩ => ⟨S2x12x2048x2048, .f32⟩
  | .hbm, ⟨23, _⟩ => ⟨S2x12x2048, .f32⟩
  | .hbm, ⟨24, _⟩ => ⟨S2x12x2048x1, .f32⟩
  | .hbm, ⟨25, _⟩ => ⟨S2x12x2048x2048, .f32⟩
  | .hbm, ⟨26, _⟩ => ⟨S2x12x2048x2048, .f32⟩
  | .hbm, ⟨27, _⟩ => ⟨S2x12x2048, .f32⟩
  | .hbm, ⟨28, _⟩ => ⟨S2x12x1x2048, .f32⟩
  | .hbm, ⟨29, _⟩ => ⟨S2x12x2048x2048, .f32⟩
  | .hbm, ⟨30, _⟩ => ⟨S2x12x2048x2048, .f32⟩
  | .hbm, ⟨31, _⟩ => ⟨S2048, .i32⟩
  | .hbm, ⟨32, _⟩ => ⟨S2048x1, .i32⟩
  | .hbm, ⟨33, _⟩ => ⟨S2048, .i32⟩
  | .hbm, ⟨34, _⟩ => ⟨S1x2048, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S1x1x2048x2048, .i1⟩
  | .hbm, ⟨39, _⟩ => ⟨S_, .f32⟩
  | .hbm, ⟨40, _⟩ => ⟨S_, .f32⟩
  | .hbm, ⟨41, _⟩ => ⟨S2x12x2048x2048, .i1⟩
  | .hbm, ⟨42, _⟩ => ⟨S2x12x2048x2048, .f32⟩
  | .hbm, ⟨43, _⟩ => ⟨S2x12x2048x2048, .f32⟩
  | .hbm, ⟨44, _⟩ => ⟨S_, .f32⟩
  | .hbm, ⟨45, _⟩ => ⟨S2x12x2048, .f32⟩
  | .hbm, ⟨46, _⟩ => ⟨S_, .f32⟩
  | .hbm, ⟨47, _⟩ => ⟨S2x12x2048, .f32⟩
  | .hbm, ⟨48, _⟩ => ⟨S2x12x2048, .f32⟩
  | .hbm, ⟨49, _⟩ => ⟨S2x12x2048x1, .f32⟩
  | .hbm, ⟨50, _⟩ => ⟨S2x12x2048x2048, .f32⟩
  | .hbm, ⟨51, _⟩ => ⟨S2x12x2048x2048, .f32⟩
  | .hbm, ⟨52, _⟩ => ⟨S2x12x2048x2048, .f32⟩
  | .hbm, ⟨53, _⟩ => ⟨S_, .f32⟩
  | .hbm, ⟨54, _⟩ => ⟨S2x12x2048, .f32⟩
  | .hbm, ⟨55, _⟩ => ⟨S2x12x2048x1, .f32⟩
  | .hbm, ⟨56, _⟩ => ⟨S2x12x2048x2048, .f32⟩
  | .hbm, ⟨57, _⟩ => ⟨S2x12x2048x2048, .f32⟩
  | .hbm, ⟨58, _⟩ => ⟨S2x2048x12x64, .f32⟩
  | .hbm, ⟨59, _⟩ => ⟨S2x12x64x2048, .f32⟩
  | .hbm, ⟨60, _⟩ => ⟨S2x2048x12x64, .f32⟩
  | .hbm, ⟨61, _⟩ => ⟨S2x2048x768, .f32⟩
  | .hbm, ⟨62, _⟩ => ⟨S2x2048x12x64, .f32⟩
  | .hbm, ⟨63, _⟩ => ⟨S2x2048x12x64, .f32⟩
  | .hbm, ⟨64, _⟩ => ⟨S_, .f32⟩
  | .hbm, ⟨65, _⟩ => ⟨S2x2048x12, .f32⟩
  | .hbm, ⟨66, _⟩ => ⟨S2x12x2048x2048, .f32⟩
  | .hbm, ⟨67, _⟩ => ⟨S_, .f32⟩
  | .hbm, ⟨68, _⟩ => ⟨S2x12x2048x2048, .f32⟩
  | .hbm, ⟨69, _⟩ => ⟨S2x12x2048x2048, .f32⟩
  | .hbm, ⟨70, _⟩ => ⟨S2x12x2048, .f32⟩
  | .hbm, ⟨71, _⟩ => ⟨S2x12x2048x1, .f32⟩
  | .hbm, ⟨72, _⟩ => ⟨S2x12x2048x2048, .f32⟩
  | .hbm, ⟨73, _⟩ => ⟨S2x12x2048x2048, .f32⟩
  | .hbm, ⟨74, _⟩ => ⟨S2x12x2048, .f32⟩
  | .hbm, ⟨75, _⟩ => ⟨S2x12x1x2048, .f32⟩
  | .hbm, ⟨76, _⟩ => ⟨S2x12x2048x2048, .f32⟩
  | .hbm, ⟨77, _⟩ => ⟨S2x12x2048x2048, .f32⟩
  | .hbm, ⟨78, _⟩ => ⟨S2048, .i32⟩
  | .hbm, ⟨79, _⟩ => ⟨S2048x1, .i32⟩
  | .hbm, ⟨80, _⟩ => ⟨S2048, .i32⟩
  | .hbm, ⟨81, _⟩ => ⟨S1x2048, .i32⟩
  | .hbm, ⟨82, _⟩ => ⟨S2048x2048, .i32⟩
  | .hbm, ⟨83, _⟩ => ⟨S2048x2048, .i32⟩
  | .hbm, ⟨84, _⟩ => ⟨S2048x2048, .i1⟩
  | .hbm, ⟨85, _⟩ => ⟨S1x1x2048x2048, .i1⟩
  | .hbm, ⟨86, _⟩ => ⟨S_, .f32⟩
  | .hbm, ⟨87, _⟩ => ⟨S_, .f32⟩
  | .hbm, ⟨88, _⟩ => ⟨S2x12x2048x2048, .i1⟩
  | .hbm, ⟨89, _⟩ => ⟨S2x12x2048x2048, .f32⟩
  | .hbm, ⟨90, _⟩ => ⟨S2x12x2048x2048, .f32⟩
  | .hbm, ⟨91, _⟩ => ⟨S_, .f32⟩
  | .hbm, ⟨92, _⟩ => ⟨S2x12x2048, .f32⟩
  | .hbm, ⟨93, _⟩ => ⟨S2x12x2048x1, .f32⟩
  | .hbm, ⟨94, _⟩ => ⟨S2x12x2048x2048, .f32⟩
  | .hbm, ⟨95, _⟩ => ⟨S2x12x2048x2048, .f32⟩
  | .hbm, ⟨96, _⟩ => ⟨S2x12x2048x2048, .f32⟩
  | .hbm, ⟨97, _⟩ => ⟨S_, .f32⟩
  | .hbm, ⟨98, _⟩ => ⟨S2x12x2048, .f32⟩
  | .hbm, ⟨99, _⟩ => ⟨S2x12x2048, .f32⟩
  | .hbm, ⟨100, _⟩ => ⟨S2x12x2048, .f32⟩
  | .hbm, ⟨101, _⟩ => ⟨S2x6x2x8x256, .f32⟩
  | .hbm, ⟨102, _⟩ => ⟨S2x6x8x2x256, .f32⟩
  | .hbm, ⟨103, _⟩ => ⟨S2x6x8x512, .f32⟩
  | .hbm, ⟨104, _⟩ => ⟨S2x2048x2304, .bf16⟩
  | .hbm, ⟨105, _⟩ => ⟨S2x2048x768, .f32⟩
  | .hbm, ⟨106, _⟩ => ⟨S2x6x8x512, .f32⟩
  | .local _ .vmem, ⟨0, _⟩ => ⟨S1x2048x384, .f32⟩
  | .local _ .vmem, ⟨1, _⟩ => ⟨S1x2048x384, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x8x512, .f32⟩
  | .local _ .vmem, ⟨9, _⟩ => ⟨S1x1x8x512, .f32⟩
  | .local _ .vmem, ⟨10, _⟩ => ⟨S1x2048x384, .bf16⟩
  | .local _ .vmem, ⟨11, _⟩ => ⟨S1x2048x384, .bf16⟩
  | .local _ .vmem, ⟨12, _⟩ => ⟨S1x2048x128, .f32⟩
  | .local _ .vmem, ⟨13, _⟩ => ⟨S1x2048x128, .f32⟩
  | .local _ .vmem, ⟨14, _⟩ => ⟨S1x1x8x512, .f32⟩
  | .local _ .vmem, ⟨15, _⟩ => ⟨S1x1x8x512, .f32⟩
  | .local _ .vmem, ⟨16, _⟩ => ⟨S8x128x512, .bf16⟩
  | .local _ .vmem, ⟨17, _⟩ => ⟨S2048x128, .bf16⟩
  | .local _ .vmem, ⟨18, _⟩ => ⟨S2048x128, .bf16⟩
  | .local _ .vmem, ⟨19, _⟩ => ⟨S8x128x256, .bf16⟩
  | .local _ .vmem, ⟨20, _⟩ => ⟨S8x128x512, .bf16⟩
  | .local _ .vmem, ⟨21, _⟩ => ⟨S8x512, .f32⟩
  | .local _ .vmem, ⟨22, _⟩ => ⟨S8x128x256, .f32⟩
  | .local _ .vmem, ⟨23, _⟩ => ⟨S8x128x256, .f32⟩
  | .local _ .vmem, ⟨24, _⟩ => ⟨S256x512, .f32⟩
  | .local _ .vmem, ⟨25, _⟩ => ⟨S256x512, .f32⟩
  | .local _ .vmem, ⟨26, _⟩ => ⟨S256x512, .bf16⟩
  | .local _ .vmem, ⟨27, _⟩ => ⟨S256x512, .bf16⟩
  | .local _ .vmem, ⟨28, _⟩ => ⟨S256x512, .f32⟩
  | .local _ .vmem, ⟨29, _⟩ => ⟨S256x512, .f32⟩
  | .local _ .vmem, ⟨30, _⟩ => ⟨S256x512, .bf16⟩
  | .local _ .vmem, ⟨31, _⟩ => ⟨S256x512, .bf16⟩
  | .local _ .vmem, ⟨32, _⟩ => ⟨S2x2048x128, .f32⟩
  | .local _ .vmem, ⟨33, _⟩ => ⟨S2x2048x128, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v67 : Ref sig .tc := ⟨.hbm, 90, rfl⟩
abbrev main_cst_8 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_9 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79_0 : Ref sig .tc := ⟨.hbm, 104, rfl⟩
abbrev main_v79_1 : Ref sig .tc := ⟨.hbm, 105, rfl⟩
abbrev main_v79_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_scratch13 : Ref sig .tc := ⟨.vmem, 29, rfl⟩
abbrev cc0_scratch14 : Ref sig .tc := ⟨.vmem, 30, rfl⟩
abbrev cc0_scratch15 : Ref sig .tc := ⟨.vmem, 31, rfl⟩
abbrev cc0_scratch16 : Ref sig .tc := ⟨.vmem, 32, rfl⟩
abbrev cc0_scratch17 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FoxBwdIdeal.lean ====
variable {F : FTy → Type} [FloatOps F] [Named F]
def κ : String → Option EReal := fun
  | "mask" => some ⊥
  | _ => none
-- ==== FoxBwdRefIdeal.lean ====
abbrev S2x2048x768 : Shape := ⟨3, ![2, 2048, 768]⟩
abbrev S2x2048x12 : Shape := ⟨3, ![2, 2048, 12]⟩
abbrev S2x2048x12x64 : Shape := ⟨4, ![2, 2048, 12, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩
abbrev S2x12x1x2048 : Shape := ⟨4, ![2, 12, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x12x64x2048 : Shape := ⟨4, ![2, 12, 64, 2048]⟩
abbrev S2x12x2048x64 : Shape := ⟨4, ![2, 12, 2048, 64]⟩
abbrev S2x2048x6x128 : Shape := ⟨4, ![2, 2048, 6, 128]⟩
abbrev S2x2048x6x384 : Shape := ⟨4, ![2, 2048, 6, 384]⟩
abbrev S2x2048x6x2 : Shape := ⟨4, ![2, 2048, 6, 2]⟩
abbrev S2x8x256x6x2 : Shape := ⟨5, ![2, 8, 256, 6, 2]⟩
abbrev S2x6x8x2x256 : Shape := ⟨5, ![2, 6, 8, 2, 256]⟩
abbrev S2x2048x2304 : Shape := ⟨3, ![2, 2048, 2304]⟩
abbrev S2x6x8x512 : Shape := ⟨4, ![2, 6, 8, 512]⟩

abbrev nBuf : Space → Nat
  | .hbm => 139
  | .vmem => 0
  | .smem => 0
  | _ => 0

abbrev hbmTy0_0 (i : Nat) : BufTy := match i % 128 with
  | 0 => ⟨S2x2048x768, .f32⟩
  | 1 => ⟨S2x2048x768, .f32⟩
  | 2 => ⟨S2x2048x768, .f32⟩
  | 3 => ⟨S2x2048x12, .f32⟩
  | 4 => ⟨S2x2048x768, .bf16⟩
  | 5 => ⟨S2x2048x12x64, .f32⟩
  | 6 => ⟨S2x2048x12x64, .f32⟩
  | 7 => ⟨S2x12x2048x2048, .f32⟩
  | 8 => ⟨S_, .f32⟩
  | 9 => ⟨S2x12x2048x2048, .f32⟩
  | 10 => ⟨S2x12x2048x2048, .f32⟩
  | 11 => ⟨S2x12x2048, .f32⟩
  | 12 => ⟨S2x12x2048x1, .f32⟩
  | 13 => ⟨S2x12x2048x2048, .f32⟩
  | 14 => ⟨S2x12x2048x2048, .f32⟩
  | 15 => ⟨S2x12x2048, .f32⟩
  | 16 => ⟨S2x12x1x2048, .f32⟩
  | 17 => ⟨S2x12x2048x2048, .f32⟩
  | 18 => ⟨S2x12x2048x2048, .f32⟩
  | 19 => ⟨S2048, .i32⟩
  | 20 => ⟨S2048x1, .i32⟩
  | 21 => ⟨S2048, .i32⟩
  | 22 => ⟨S1x2048, .i32⟩
  | 23 => ⟨S2048x2048, .i32⟩
  | 24 => ⟨S2048x2048, .i32⟩
  | 25 => ⟨S2048x2048, .i1⟩
  | 26 => ⟨S1x1x2048x2048, .i1⟩
  | 27 => ⟨S_, .f32⟩
  | 28 => ⟨S_, .f32⟩
  | 29 => ⟨S2x12x2048x2048, .i1⟩
  | 30 => ⟨S2x12x2048x2048, .f32⟩
  | 31 => ⟨S2x12x2048x2048, .f32⟩
  | 32 => ⟨S_, .f32⟩
  | 33 => ⟨S2x12x2048x2048, .f32⟩
  | 34 => ⟨S_, .f32⟩
  | 35 => ⟨S2x12x2048, .f32⟩
  | 36 => ⟨S2x12x2048x1, .f32⟩
  | 37 => ⟨S2x12x2048x2048, .f32⟩
  | 38 => ⟨S2x12x2048x2048, .i1⟩
  | 39 => ⟨S2x12x2048x2048, .f32⟩
  | 40 => ⟨S_, .f32⟩
  | 41 => ⟨S2x12x2048, .f32⟩
  | 42 => ⟨S_, .f32⟩
  | 43 => ⟨S2x12x2048, .f32⟩
  | 44 => ⟨S2x12x2048, .f32⟩
  | 45 => ⟨S_, .f32⟩
  | 46 => ⟨S2x12x2048, .f32⟩
  | 47 => ⟨S2x12x2048, .i1⟩
  | 48 => ⟨S_, .f32⟩
  | 49 => ⟨S2x12x2048, .f32⟩
  | 50 => ⟨S2x12x2048, .i1⟩
  | 51 => ⟨S_, .f32⟩
  | 52 => ⟨S2x12x2048, .f32⟩
  | 53 => ⟨S_, .f32⟩
  | 54 => ⟨S2x12x2048, .f32⟩
  | 55 => ⟨S_, .f32⟩
  | 56 => ⟨S2x12x2048, .f32⟩
  | 57 => ⟨S2x12x2048, .f32⟩
  | 58 => ⟨S2x12x2048, .f32⟩
  | 59 => ⟨S2x12x2048x1, .f32⟩
  | 60 => ⟨S2x12x2048x2048, .f32⟩
  | 61 => ⟨S2x12x2048x2048, .f32⟩
  | 62 => ⟨S2x12x2048x2048, .f32⟩
  | 63 => ⟨S_, .f32⟩
  | 64 => ⟨S2x12x2048, .f32⟩
  | 65 => ⟨S2x12x2048x1, .f32⟩
  | 66 => ⟨S2x12x2048x2048, .f32⟩
  | 67 => ⟨S2x12x2048x2048, .f32⟩
  | 68 => ⟨S2x12x2048x1, .f32⟩
  | 69 => ⟨S_, .f32⟩
  | 70 => ⟨S2x12x2048x1, .f32⟩
  | 71 => ⟨S2x12x2048x1, .f32⟩
  | 72 => ⟨S2x2048x12x64, .f32⟩
  | 73 => ⟨S2x12x64x2048, .f32⟩
  | 74 => ⟨S2x2048x12x64, .f32⟩
  | 75 => ⟨S2x2048x768, .f32⟩
  | 76 => ⟨S2x2048x768, .f32⟩
  | 77 => ⟨S2x2048x12x64, .f32⟩
  | 78 => ⟨S2x12x64x2048, .f32⟩
  | 79 => ⟨S2x12x2048x2048, .f32⟩
  | 80 => ⟨S2x12x64x2048, .f32⟩
  | 81 => ⟨S2x2048x12x64, .f32⟩
  | 82 => ⟨S2x2048x768, .f32⟩
  | 83 => ⟨S2x12x2048x2048, .f32⟩
  | 84 => ⟨S2x12x2048x2048, .f32⟩
  | 85 => ⟨S2x12x2048x2048, .f32⟩
  | 86 => ⟨S_, .f32⟩
  | 87 => ⟨S2x12x2048, .f32⟩
  | 88 => ⟨S2x12x2048x1, .f32⟩
  | 89 => ⟨S2x12x2048x1, .f32⟩
  | 90 => ⟨S2x12x2048x2048, .f32⟩
  | 91 => ⟨S2x12x2048x2048, .f32⟩
  | 92 => ⟨S_, .f32⟩
  | 93 => ⟨S2x12x2048, .f32⟩
  | 94 => ⟨S2x12x2048x2048, .f32⟩
  | 95 => ⟨S2x12x2048x2048, .f32⟩
  | 96 => ⟨S2x12x2048x2048, .f32⟩
  | 97 => ⟨S_, .f32⟩
  | 98 => ⟨S2x12x2048x2048, .f32⟩
  | 99 => ⟨S2x12x2048x2048, .f32⟩
  | 100 => ⟨S2x12x2048x2048, .f32⟩
  | 101 => ⟨S_, .f32⟩
  | 102 => ⟨S2x12x2048, .f32⟩
  | 103 => ⟨S2x12x1x2048, .f32⟩
  | 104 => ⟨S_, .f32⟩
  | 105 => ⟨S2x12x2048, .f32⟩
  | 106 => ⟨S2x2048x12, .f32⟩
  | 107 => ⟨S_, .f32⟩
  | 108 => ⟨S2x12x2048, .f32⟩
  | 109 => ⟨S2x12x2048x1, .f32⟩
  | 110 => ⟨S_, .f32⟩
  | 111 => ⟨S2x12x2048, .f32⟩
  | 112 => ⟨S2x2048x12, .f32⟩
  | 113 => ⟨S_, .f32⟩
  | 114 => ⟨S2x12x2048x2048, .f32⟩
  | 115 => ⟨S2x12x2048x2048, .f32⟩
  | 116 => ⟨S2x12x2048x64, .f32⟩
  | 117 => ⟨S2x2048x12x64, .f32⟩
  | 118 => ⟨S2x12x2048x64, .f32⟩
  | 119 => ⟨S2x2048x12x64, .f32⟩
  | 120 => ⟨S2x2048x768, .f32⟩
  | 121 => ⟨S2x2048x768, .f32⟩
  | 122 => ⟨S2x2048x768, .bf16⟩
  | 123 => ⟨S2x2048x6x128, .bf16⟩
  | 124 => ⟨S2x2048x768, .bf16⟩
  | 125 => ⟨S2x2048x6x128, .bf16⟩
  | 126 => ⟨S2x2048x768, .bf16⟩
  | 127 => ⟨S2x2048x6x128, .bf16⟩
  | _ => ⟨S2x2048x768, .f32⟩

abbrev hbmTy0_1 (i : Nat) : BufTy := match i % 128 with
  | 0 => ⟨S2x2048x6x384, .bf16⟩
  | 1 => ⟨S2x2048x6x2, .f32⟩
  | 2 => ⟨S2x2048x6x2, .f32⟩
  | 3 => ⟨S_, .i32⟩
  | 4 => ⟨S_, .f32⟩
  | 5 => ⟨S2x2048x6x128, .f32⟩
  | 6 => ⟨S2x8x256x6x2, .f32⟩
  | 7 => ⟨S2x6x8x2x256, .f32⟩
  | 8 => ⟨S2x2048x2304, .bf16⟩
  | 9 => ⟨S2x2048x768, .f32⟩
  | 10 => ⟨S2x6x8x512, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c : Ref sig .tc := ⟨.hbm, 131, rfl⟩
abbrev main_call2_v0 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩

abbrev nD : Nat := 1
abbrev τ : Topo := Topo.v7x

variable {F : FTy → Type} [FloatOps F]
-- ==== ProjA.lean ====
abbrev S4096x1024 : Shape := ⟨2, ![4096, 1024]⟩
abbrev S1024x2432 : Shape := ⟨2, ![1024, 2432]⟩
abbrev S_ : Shape := ⟨0, ![]⟩
abbrev S8x128 : Shape := ⟨2, ![8, 128]⟩
abbrev S4096x2432 : Shape := ⟨2, ![4096, 2432]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2432, .bf16⟩
  | .hbm, ⟨2, _⟩ => ⟨S_, .f32⟩
  | .hbm, ⟨3, _⟩ => ⟨S8x128, .f32⟩
  | .hbm, ⟨4, _⟩ => ⟨S4096x2432, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S8x128, .f32⟩
  | .local _ .vmem, ⟨4, _⟩ => ⟨S1024x2432, .f32⟩
  | .local _ .vmem, ⟨5, _⟩ => ⟨S1024x2432, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S4096x1024 : Shape := ⟨2, ![4096, 1024]⟩
abbrev S1024x2432 : Shape := ⟨2, ![1024, 2432]⟩
abbrev S4096x2432 : Shape := ⟨2, ![4096, 2432]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2432, .bf16⟩
  | .hbm, ⟨2, _⟩ => ⟨S4096x1024, .f32⟩
  | .hbm, ⟨3, _⟩ => ⟨S1024x2432, .f32⟩
  | .hbm, ⟨4, _⟩ => ⟨S4096x2432, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjB.lean ====
abbrev S4096x1024 : Shape := ⟨2, ![4096, 1024]⟩
abbrev S1024x5120 : Shape := ⟨2, ![1024, 5120]⟩
abbrev S4096x5120 : Shape := ⟨2, ![4096, 5120]⟩
abbrev S1024x1024 : Shape := ⟨2, ![1024, 1024]⟩
abbrev S1024x2560 : Shape := ⟨2, ![1024, 2560]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .f32⟩
  | .local _ .vmem, ⟨5, _⟩ => ⟨S1024x2560, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S4096x1024 : Shape := ⟨2, ![4096, 1024]⟩
abbrev S1024x5120 : Shape := ⟨2, ![1024, 5120]⟩
abbrev S4096x5120 : Shape := ⟨2, ![4096, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x1024, .f32⟩
  | .hbm, ⟨3, _⟩ => ⟨S1024x5120, .f32⟩
  | .hbm, ⟨4, _⟩ => ⟨S4096x5120, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradGates.lean ====
abbrev S1024x4096 : Shape := ⟨2, ![1024, 4096]⟩
abbrev S4096x768 : Shape := ⟨2, ![4096, 768]⟩
abbrev S4096x512 : Shape := ⟨2, ![4096, 512]⟩
abbrev S1024x2048 : Shape := ⟨2, ![1024, 2048]⟩
abbrev S1024x1024 : Shape := ⟨2, ![1024, 1024]⟩
abbrev S1024x768 : Shape := ⟨2, ![1024, 768]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S1024x4096, .bf16⟩
  | .hbm, ⟨1, _⟩ => ⟨S4096x768, .bf16⟩
  | .hbm, ⟨2, _⟩ => ⟨S4096x768, .bf16⟩
  | .hbm, ⟨3, _⟩ => ⟨S4096x512, .bf16⟩
  | .hbm, ⟨4, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S1024x2048, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v25 : BitVec 1 := Scalar.cmpi .eq arg0 c3_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GradGatesRefIdeal.lean ====
abbrev S1024x4096 : Shape := ⟨2, ![1024, 4096]⟩
abbrev S4096x768 : Shape := ⟨2, ![4096, 768]⟩
abbrev S4096x512 : Shape := ⟨2, ![4096, 512]⟩
abbrev S4096x1024 : Shape := ⟨2, ![4096, 1024]⟩
abbrev S_ : Shape := ⟨0, ![]⟩
abbrev S1024x768 : Shape := ⟨2, ![1024, 768]⟩
abbrev S768x1024 : Shape := ⟨2, ![768, 1024]⟩
abbrev S1024x512 : Shape := ⟨2, ![1024, 512]⟩
abbrev S512x1024 : Shape := ⟨2, ![512, 1024]⟩
abbrev S1024x2048 : Shape := ⟨2, ![1024, 2048]⟩

abbrev nBuf : Space → Nat
  | .hbm => 26
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x768, .bf16⟩
  | .hbm, ⟨2, _⟩ => ⟨S4096x768, .bf16⟩
  | .hbm, ⟨3, _⟩ => ⟨S4096x512, .bf16⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S1024x768, .f32⟩
  | .hbm, ⟨8, _⟩ => ⟨S4096x768, .f32⟩
  | .hbm, ⟨9, _⟩ => ⟨S4096x768, .f32⟩
  | .hbm, ⟨10, _⟩ => ⟨S768x1024, .f32⟩
  | .hbm, ⟨11, _⟩ => ⟨S1024x768, .f32⟩
  | .hbm, ⟨12, _⟩ => ⟨S_, .f32⟩
  | .hbm, ⟨13, _⟩ => ⟨S1024x768, .f32⟩
  | .hbm, ⟨14, _⟩ => ⟨S4096x768, .f32⟩
  | .hbm, ⟨15, _⟩ => ⟨S4096x768, .f32⟩
  | .hbm, ⟨16, _⟩ => ⟨S768x1024, .f32⟩
  | .hbm, ⟨17, _⟩ => ⟨S1024x768, .f32⟩
  | .hbm, ⟨18, _⟩ => ⟨S_, .f32⟩
  | .hbm, ⟨19, _⟩ => ⟨S1024x512, .f32⟩
  | .hbm, ⟨20, _⟩ => ⟨S4096x512, .f32⟩
  | .hbm, ⟨21, _⟩ => ⟨S4096x512, .f32⟩
  | .hbm, ⟨22, _⟩ => ⟨S512x1024, .f32⟩
  | .hbm, ⟨23, _⟩ => ⟨S1024x512, .f32⟩
  | .hbm, ⟨24, _⟩ => ⟨S1024x2048, .f32⟩
  | .hbm, ⟨25, _⟩ => ⟨S1024x2048, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GradFox.lean ====
abbrev S1024x4096 : Shape := ⟨2, ![1024, 4096]⟩
abbrev S4096x2304 : Shape := ⟨2, ![4096, 2304]⟩
abbrev S4096x128 : Shape := ⟨2, ![4096, 128]⟩
abbrev S1024x2432 : Shape := ⟨2, ![1024, 2432]⟩
abbrev S1024x1024 : Shape := ⟨2, ![1024, 1024]⟩
abbrev S1024x2304 : Shape := ⟨2, ![1024, 2304]⟩
abbrev S1024x128 : Shape := ⟨2, ![1024, 128]⟩

abbrev nBuf : Space → Nat
  | .hbm => 4
  | .vmem => 8
  | .smem => 0
  | _ => 0

abbrev bufTy : (tb : Table) → Fin (tcTables nBuf tb) → BufTy
  | .hbm, ⟨0, _⟩ => ⟨S1024x4096, .bf16⟩
  | .hbm, ⟨1, _⟩ => ⟨S4096x2304, .bf16⟩
  | .hbm, ⟨2, _⟩ => ⟨S4096x128, .bf16⟩
  | .hbm, ⟨3, _⟩ => ⟨S1024x2432, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x128, .bf16⟩
  | .local _ .vmem, ⟨5, _⟩ => ⟨S1024x128, .bf16⟩
  | .local _ .vmem, ⟨6, _⟩ => ⟨S1024x2432, .bf16⟩
  | .local _ .vmem, ⟨7, _⟩ => ⟨S1024x2432, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v18 : BitVec 1 := Scalar.cmpi .eq arg0 c3_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GradFoxRefIdeal.lean ====
abbrev S1024x4096 : Shape := ⟨2, ![1024, 4096]⟩
abbrev S4096x2304 : Shape := ⟨2, ![4096, 2304]⟩
abbrev S4096x128 : Shape := ⟨2, ![4096, 128]⟩
abbrev S4096x1024 : Shape := ⟨2, ![4096, 1024]⟩
abbrev S_ : Shape := ⟨0, ![]⟩
abbrev S1024x2304 : Shape := ⟨2, ![1024, 2304]⟩
abbrev S2304x1024 : Shape := ⟨2, ![2304, 1024]⟩
abbrev S1024x128 : Shape := ⟨2, ![1024, 128]⟩
abbrev S128x1024 : Shape := ⟨2, ![128, 1024]⟩
abbrev S1024x2432 : Shape := ⟨2, ![1024, 2432]⟩

abbrev nBuf : Space → Nat
  | .hbm => 19
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x2304, .bf16⟩
  | .hbm, ⟨2, _⟩ => ⟨S4096x128, .bf16⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S1024x2304, .f32⟩
  | .hbm, ⟨7, _⟩ => ⟨S4096x2304, .f32⟩
  | .hbm, ⟨8, _⟩ => ⟨S4096x2304, .f32⟩
  | .hbm, ⟨9, _⟩ => ⟨S2304x1024, .f32⟩
  | .hbm, ⟨10, _⟩ => ⟨S1024x2304, .f32⟩
  | .hbm, ⟨11, _⟩ => ⟨S_, .f32⟩
  | .hbm, ⟨12, _⟩ => ⟨S1024x128, .f32⟩
  | .hbm, ⟨13, _⟩ => ⟨S4096x128, .f32⟩
  | .hbm, ⟨14, _⟩ => ⟨S4096x128, .f32⟩
  | .hbm, ⟨15, _⟩ => ⟨S128x1024, .f32⟩
  | .hbm, ⟨16, _⟩ => ⟨S1024x128, .f32⟩
  | .hbm, ⟨17, _⟩ => ⟨S1024x2432, .f32⟩
  | .hbm, ⟨18, _⟩ => ⟨S1024x2432, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GradDil.lean ====
abbrev S1024x4096 : Shape := ⟨2, ![1024, 4096]⟩
abbrev S4096x2304 : Shape := ⟨2, ![4096, 2304]⟩
abbrev S1024x2304 : Shape := ⟨2, ![1024, 2304]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S4096x2304, .bf16⟩
  | .hbm, ⟨2, _⟩ => ⟨S1024x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .bf16⟩
  | .local _ .vmem, ⟨5, _⟩ => ⟨S1024x2304, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradDilRefIdeal.lean ====
abbrev S1024x4096 : Shape := ⟨2, ![1024, 4096]⟩
abbrev S4096x2304 : Shape := ⟨2, ![4096, 2304]⟩
abbrev S4096x1024 : Shape := ⟨2, ![4096, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x2304, .bf16⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x2304, .f32⟩
  | .hbm, ⟨6, _⟩ => ⟨S4096x2304, .f32⟩
  | .hbm, ⟨7, _⟩ => ⟨S4096x2304, .f32⟩
  | .hbm, ⟨8, _⟩ => ⟨S2304x1024, .f32⟩
  | .hbm, ⟨9, _⟩ => ⟨S1024x2304, .f32⟩
  | .hbm, ⟨10, _⟩ => ⟨S1024x2304, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradMq.lean ====
abbrev S1024x4096 : Shape := ⟨2, ![1024, 4096]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradMqRefIdeal.lean ====
abbrev S1024x4096 : Shape := ⟨2, ![1024, 4096]⟩
abbrev S4096x512 : Shape := ⟨2, ![4096, 512]⟩
abbrev S4096x1024 : Shape := ⟨2, ![4096, 1024]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x512, .bf16⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x512, .f32⟩
  | .hbm, ⟨6, _⟩ => ⟨S4096x512, .f32⟩
  | .hbm, ⟨7, _⟩ => ⟨S4096x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InBwd.lean ====
abbrev S4096x768 : Shape := ⟨2, ![4096, 768]⟩
abbrev S4096x512 : Shape := ⟨2, ![4096, 512]⟩
abbrev S4096x2304 : Shape := ⟨2, ![4096, 2304]⟩
abbrev S4096x128 : Shape := ⟨2, ![4096, 128]⟩
abbrev S1024x768 : Shape := ⟨2, ![1024, 768]⟩
abbrev S1024x512 : Shape := ⟨2, ![1024, 512]⟩
abbrev S1024x2304 : Shape := ⟨2, ![1024, 2304]⟩
abbrev S1024x128 : Shape := ⟨2, ![1024, 128]⟩
abbrev S4096x1024 : Shape := ⟨2, ![4096, 1024]⟩
abbrev S1x1024 : Shape := ⟨2, ![1, 1024]⟩
abbrev S1024x2432 : Shape := ⟨2, ![1024, 2432]⟩
abbrev S_ : Shape := ⟨0, ![]⟩
abbrev S1024x256 : Shape := ⟨2, ![1024, 256]⟩
abbrev S1024x5120 : Shape := ⟨2, ![1024, 5120]⟩
abbrev S8x128 : Shape := ⟨2, ![8, 128]⟩
abbrev S8x1024 : Shape := ⟨2, ![8, 1024]⟩
abbrev S512x768 : Shape := ⟨2, ![512, 768]⟩
abbrev S512x512 : Shape := ⟨2, ![512, 512]⟩
abbrev S512x2304 : Shape := ⟨2, ![512, 2304]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 27
  | .vmem => 25
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x512, .bf16⟩
  | .hbm, ⟨3, _⟩ => ⟨S4096x2304, .bf16⟩
  | .hbm, ⟨4, _⟩ => ⟨S4096x128, .bf16⟩
  | .hbm, ⟨5, _⟩ => ⟨S4096x2304, .bf16⟩
  | .hbm, ⟨6, _⟩ => ⟨S4096x512, .bf16⟩
  | .hbm, ⟨7, _⟩ => ⟨S1024x768, .f32⟩
  | .hbm, ⟨8, _⟩ => ⟨S1024x768, .f32⟩
  | .hbm, ⟨9, _⟩ => ⟨S1024x512, .f32⟩
  | .hbm, ⟨10, _⟩ => ⟨S1024x2304, .f32⟩
  | .hbm, ⟨11, _⟩ => ⟨S1024x128, .f32⟩
  | .hbm, ⟨12, _⟩ => ⟨S1024x2304, .f32⟩
  | .hbm, ⟨13, _⟩ => ⟨S1024x512, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S1024x2432, .f32⟩
  | .hbm, ⟨18, _⟩ => ⟨S1024x2432, .bf16⟩
  | .hbm, ⟨19, _⟩ => ⟨S_, .f32⟩
  | .hbm, ⟨20, _⟩ => ⟨S1024x256, .f32⟩
  | .hbm, ⟨21, _⟩ => ⟨S1024x5120, .f32⟩
  | .hbm, ⟨22, _⟩ => ⟨S1024x5120, .bf16⟩
  | .hbm, ⟨23, _⟩ => ⟨S_, .f32⟩
  | .hbm, ⟨24, _⟩ => ⟨S8x128, .f32⟩
  | .hbm, ⟨25, _⟩ => ⟨S4096x1024, .f32⟩
  | .hbm, ⟨26, _⟩ => ⟨S8x1024, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S512x2304, .bf16⟩
  | .local _ .vmem, ⟨7, _⟩ => ⟨S512x2304, .bf16⟩
  | .local _ .vmem, ⟨8, _⟩ => ⟨S512x128, .bf16⟩
  | .local _ .vmem, ⟨9, _⟩ => ⟨S512x128, .bf16⟩
  | .local _ .vmem, ⟨10, _⟩ => ⟨S512x2304, .bf16⟩
  | .local _ .vmem, ⟨11, _⟩ => ⟨S512x2304, .bf16⟩
  | .local _ .vmem, ⟨12, _⟩ => ⟨S512x512, .bf16⟩
  | .local _ .vmem, ⟨13, _⟩ => ⟨S512x512, .bf16⟩
  | .local _ .vmem, ⟨14, _⟩ => ⟨S1024x2432, .bf16⟩
  | .local _ .vmem, ⟨15, _⟩ => ⟨S1024x5120, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S8x128, .f32⟩
  | .local _ .vmem, ⟨22, _⟩ => ⟨S512x1024, .f32⟩
  | .local _ .vmem, ⟨23, _⟩ => ⟨S512x1024, .f32⟩
  | .local _ .vmem, ⟨24, _⟩ => ⟨S8x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_43 : BitVec 32 := 0#32
  let v71 : BitVec 1 := Scalar.cmpi .eq arg0 c0_i32_43
  let v72 : BitVec 32 := Scalar.extui v71
  let c0_i32_44 : BitVec 32 := 0#32
  let v73 : BitVec 1 := Scalar.cmpi .ne v72 c0_i32_44
  v73

def k0_cond2 (i : grid0.Coords) : BitVec 1 :=
  let arg0 : BitVec 32 := BitVec.ofNat 32 (i 0).val
  let c0_i32_45 : BitVec 32 := 0#32
  let v74 : BitVec 1 := Scalar.cmpi .ne arg0 c0_i32_45
  let v75 : BitVec 32 := Scalar.extui v74
  let c0_i32_46 : BitVec 32 := 0#32
  let v76 : BitVec 1 := Scalar.cmpi .ne v75 c0_i32_46
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InBwdRefIdeal.lean ====
abbrev S4096x768 : Shape := ⟨2, ![4096, 768]⟩
abbrev S4096x512 : Shape := ⟨2, ![4096, 512]⟩
abbrev S4096x2304 : Shape := ⟨2, ![4096, 2304]⟩
abbrev S4096x128 : Shape := ⟨2, ![4096, 128]⟩
abbrev S1024x768 : Shape := ⟨2, ![1024, 768]⟩
abbrev S1024x512 : Shape := ⟨2, ![1024, 512]⟩
abbrev S1024x2304 : Shape := ⟨2, ![1024, 2304]⟩
abbrev S1024x128 : Shape := ⟨2, ![1024, 128]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x512, .bf16⟩
  | .hbm, ⟨3, _⟩ => ⟨S4096x2304, .bf16⟩
  | .hbm, ⟨4, _⟩ => ⟨S4096x128, .bf16⟩
  | .hbm, ⟨5, _⟩ => ⟨S4096x2304, .bf16⟩
  | .hbm, ⟨6, _⟩ => ⟨S4096x512, .bf16⟩
  | .hbm, ⟨7, _⟩ => ⟨S1024x768, .f32⟩
  | .hbm, ⟨8, _⟩ => ⟨S1024x768, .f32⟩
  | .hbm, ⟨9, _⟩ => ⟨S1024x512, .f32⟩
  | .hbm, ⟨10, _⟩ => ⟨S1024x2304, .f32⟩
  | .hbm, ⟨11, _⟩ => ⟨S1024x128, .f32⟩
  | .hbm, ⟨12, _⟩ => ⟨S1024x2304, .f32⟩
  | .hbm, ⟨13, _⟩ => ⟨S1024x512, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x768, .f32⟩
  | .hbm, ⟨18, _⟩ => ⟨S4096x768, .f32⟩
  | .hbm, ⟨19, _⟩ => ⟨S4096x512, .f32⟩
  | .hbm, ⟨20, _⟩ => ⟨S4096x2304, .f32⟩
  | .hbm, ⟨21, _⟩ => ⟨S4096x128, .f32⟩
  | .hbm, ⟨22, _⟩ => ⟨S4096x2304, .f32⟩
  | .hbm, ⟨23, _⟩ => ⟨S4096x512, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x768, .f32⟩
  | .hbm, ⟨44, _⟩ => ⟨S4096x768, .f32⟩
  | .hbm, ⟨45, _⟩ => ⟨S4096x512, .f32⟩
  | .hbm, ⟨46, _⟩ => ⟨S4096x2304, .f32⟩
  | .hbm, ⟨47, _⟩ => ⟨S4096x128, .f32⟩
  | .hbm, ⟨48, _⟩ => ⟨S4096x2304, .f32⟩
  | .hbm, ⟨49, _⟩ => ⟨S4096x512, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .i32⟩
  | .hbm, ⟨88, _⟩ => ⟨S_, .f32⟩
  | .hbm, ⟨89, _⟩ => ⟨S8x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_5 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call0_v0 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== OutStep.lean ====
abbrev S4096x768 : Shape := ⟨2, ![4096, 768]⟩
abbrev S4096x512 : Shape := ⟨2, ![4096, 512]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩
abbrev S4096x3072 : Shape := ⟨2, ![4096, 3072]⟩
abbrev S4096x5120 : Shape := ⟨2, ![4096, 5120]⟩
abbrev S8x1024 : Shape := ⟨2, ![8, 1024]⟩
abbrev S256x768 : Shape := ⟨2, ![256, 768]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 23
  | .vmem => 35
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x512, .f32⟩
  | .hbm, ⟨3, _⟩ => ⟨S4096x768, .f32⟩
  | .hbm, ⟨4, _⟩ => ⟨S4096x768, .f32⟩
  | .hbm, ⟨5, _⟩ => ⟨S4096x512, .f32⟩
  | .hbm, ⟨6, _⟩ => ⟨S2048x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S_, .f32⟩
  | .hbm, ⟨11, _⟩ => ⟨S4096x3072, .f32⟩
  | .hbm, ⟨12, _⟩ => ⟨S4096x5120, .f32⟩
  | .hbm, ⟨13, _⟩ => ⟨S2048x1024, .bf16⟩
  | .hbm, ⟨14, _⟩ => ⟨S4096x1024, .f32⟩
  | .hbm, ⟨15, _⟩ => ⟨S4096x768, .bf16⟩
  | .hbm, ⟨16, _⟩ => ⟨S4096x768, .bf16⟩
  | .hbm, ⟨17, _⟩ => ⟨S4096x512, .bf16⟩
  | .hbm, ⟨18, _⟩ => ⟨S4096x768, .bf16⟩
  | .hbm, ⟨19, _⟩ => ⟨S4096x768, .bf16⟩
  | .hbm, ⟨20, _⟩ => ⟨S4096x512, .bf16⟩
  | .hbm, ⟨21, _⟩ => ⟨S2048x1024, .bf16⟩
  | .hbm, ⟨22, _⟩ => ⟨S8x1024, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x512, .f32⟩
  | .local _ .vmem, ⟨5, _⟩ => ⟨S256x512, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x512, .f32⟩
  | .local _ .vmem, ⟨11, _⟩ => ⟨S256x512, .f32⟩
  | .local _ .vmem, ⟨12, _⟩ => ⟨S2048x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x768, .bf16⟩
  | .local _ .vmem, ⟨21, _⟩ => ⟨S256x768, .bf16⟩
  | .local _ .vmem, ⟨22, _⟩ => ⟨S256x768, .bf16⟩
  | .local _ .vmem, ⟨23, _⟩ => ⟨S256x768, .bf16⟩
  | .local _ .vmem, ⟨24, _⟩ => ⟨S256x512, .bf16⟩
  | .local _ .vmem, ⟨25, _⟩ => ⟨S256x512, .bf16⟩
  | .local _ .vmem, ⟨26, _⟩ => ⟨S256x768, .bf16⟩
  | .local _ .vmem, ⟨27, _⟩ => ⟨S256x768, .bf16⟩
  | .local _ .vmem, ⟨28, _⟩ => ⟨S256x768, .bf16⟩
  | .local _ .vmem, ⟨29, _⟩ => ⟨S256x768, .bf16⟩
  | .local _ .vmem, ⟨30, _⟩ => ⟨S256x512, .bf16⟩
  | .local _ .vmem, ⟨31, _⟩ => ⟨S256x512, .bf16⟩
  | .local _ .vmem, ⟨32, _⟩ => ⟨S2048x1024, .bf16⟩
  | .local _ .vmem, ⟨33, _⟩ => ⟨S8x1024, .f32⟩
  | .local _ .vmem, ⟨34, _⟩ => ⟨S2048x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev main_v3_7 : Ref sig .tc := ⟨.hbm, 21, rfl⟩
abbrev main_v3_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg18_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem18_0 : DmaSem sig := 33

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v162 : BitVec 1 := Scalar.cmpi .eq arg0 c15_i32
  let v163 : BitVec 32 := Scalar.extui v162
  let c0_i32_76 : BitVec 32 := 0#32
  let v164 : BitVec 1 := Scalar.cmpi .ne v163 c0_i32_76
  v164

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S2048x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== OutStepRefIdeal.lean ====
abbrev S4096x768 : Shape := ⟨2, ![4096, 768]⟩
abbrev S4096x512 : Shape := ⟨2, ![4096, 512]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1024 : Shape := ⟨1, ![1024]⟩
abbrev S1024x2048 : Shape := ⟨2, ![1024, 2048]⟩
abbrev S6x1024 : Shape := ⟨2, ![6, 1024]⟩
abbrev S8x1024 : Shape := ⟨2, ![8, 1024]⟩

abbrev nBuf : Space → Nat
  | .hbm => 155
  | .vmem => 0
  | .smem => 0
  | _ => 0

abbrev hbmTy0_0 (i : Nat) : BufTy := match i % 128 with
  | 0 => ⟨S4096x768, .f32⟩
  | 1 => ⟨S4096x768, .f32⟩
  | 2 => ⟨S4096x512, .f32⟩
  | 3 => ⟨S4096x768, .f32⟩
  | 4 => ⟨S4096x768, .f32⟩
  | 5 => ⟨S4096x512, .f32⟩
  | 6 => ⟨S2048x1024, .f32⟩
  | 7 => ⟨S4096x1024, .f32⟩
  | 8 => ⟨S4096x1024, .f32⟩
  | 9 => ⟨S1x1024, .f32⟩
  | 10 => ⟨S4096x768, .f32⟩
  | 11 => ⟨S4096x768, .f32⟩
  | 12 => ⟨S_, .f32⟩
  | 13 => ⟨S4096x768, .f32⟩
  | 14 => ⟨S4096x768, .f32⟩
  | 15 => ⟨S_, .f32⟩
  | 16 => ⟨S4096x768, .f32⟩
  | 17 => ⟨S4096x768, .f32⟩
  | 18 => ⟨S_, .f32⟩
  | 19 => ⟨S4096x768, .f32⟩
  | 20 => ⟨S4096x768, .f32⟩
  | 21 => ⟨S4096x768, .f32⟩
  | 22 => ⟨S4096x768, .f32⟩
  | 23 => ⟨S4096x768, .f32⟩
  | 24 => ⟨S4096x768, .f32⟩
  | 25 => ⟨S4096x768, .f32⟩
  | 26 => ⟨S_, .f32⟩
  | 27 => ⟨S4096x768, .f32⟩
  | 28 => ⟨S4096x768, .f32⟩
  | 29 => ⟨S_, .f32⟩
  | 30 => ⟨S4096x768, .f32⟩
  | 31 => ⟨S4096x768, .f32⟩
  | 32 => ⟨S_, .f32⟩
  | 33 => ⟨S4096x768, .f32⟩
  | 34 => ⟨S4096x768, .f32⟩
  | 35 => ⟨S4096x768, .f32⟩
  | 36 => ⟨S4096x768, .f32⟩
  | 37 => ⟨S4096x768, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x2048, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096, .f32⟩
  | 81 => ⟨S_, .f32⟩
  | 82 => ⟨S4096, .f32⟩
  | 83 => ⟨S4096, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S4096, .f32⟩
  | 92 => ⟨S_, .f32⟩
  | 93 => ⟨S4096, .f32⟩
  | 94 => ⟨S4096, .f32⟩
  | 95 => ⟨S4096x1024, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S1024x2048, .f32⟩
  | 121 => ⟨S2048x1024, .f32⟩
  | 122 => ⟨S4096x2048, .f32⟩
  | 123 => ⟨S4096x768, .f32⟩
  | 124 => ⟨S4096x768, .f32⟩
  | 125 => ⟨S4096x512, .f32⟩
  | 126 => ⟨S4096x512, .f32⟩
  | 127 => ⟨S4096x512, .f32⟩
  | _ => ⟨S4096x768, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x768, .f32⟩
  | 5 => ⟨S4096x768, .f32⟩
  | 6 => ⟨S4096x768, .f32⟩
  | 7 => ⟨S4096x768, .f32⟩
  | 8 => ⟨S4096x768, .f32⟩
  | 9 => ⟨S4096x768, .f32⟩
  | 10 => ⟨S4096x768, .f32⟩
  | 11 => ⟨S4096x768, .f32⟩
  | 12 => ⟨S4096x768, .f32⟩
  | 13 => ⟨S4096x768, .f32⟩
  | 14 => ⟨S4096x768, .f32⟩
  | 15 => ⟨S4096x768, .f32⟩
  | 16 => ⟨S1x1024, .f32⟩
  | 17 => ⟨S_, .f32⟩
  | 18 => ⟨S6x1024, .f32⟩
  | 19 => ⟨S8x1024, .f32⟩
  | 20 => ⟨S4096x768, .bf16⟩
  | 21 => ⟨S4096x768, .bf16⟩
  | 22 => ⟨S4096x512, .bf16⟩
  | 23 => ⟨S4096x768, .bf16⟩
  | 24 => ⟨S4096x768, .bf16⟩
  | 25 => ⟨S4096x512, .bf16⟩
  | 26 => ⟨S2048x1024, .bf16⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v0_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v0_1 : Ref sig .tc := ⟨.hbm, 21, rfl⟩
abbrev main_v0_0 : Ref sig .tc := ⟨.hbm, 22, rfl⟩
abbrev main_v1 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v2_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v2_1 : Ref sig .tc := ⟨.hbm, 35, rfl⟩
abbrev main_v2_0 : Ref sig .tc := ⟨.hbm, 36, rfl⟩
abbrev main_v3 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_v4_2 : Ref sig .tc := ⟨.hbm, 45, rfl⟩
abbrev main_call2_cst_1 : Ref sig .tc := ⟨.hbm, 46, rfl⟩
abbrev main_call2_v6 : Ref sig .tc := ⟨.hbm, 47, rfl⟩
abbrev main_call2_v7 : Ref sig .tc := ⟨.hbm, 48, rfl⟩
abbrev main_v4_1 : Ref sig .tc := ⟨.hbm, 49, rfl⟩
abbrev main_v4_0 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_cst : Ref sig .tc := ⟨.hbm, 56, rfl⟩
abbrev main_v10 : Ref sig .tc := ⟨.hbm, 57, rfl⟩
abbrev main_v11 : Ref sig .tc := ⟨.hbm, 58, rfl⟩
abbrev main_cst_0 : Ref sig .tc := ⟨.hbm, 59, rfl⟩
abbrev main_v12 : Ref sig .tc := ⟨.hbm, 60, rfl⟩
abbrev main_v13 : Ref sig .tc := ⟨.hbm, 61, rfl⟩
abbrev main_cst_1 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst_2 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_3 : Ref sig .tc := ⟨.hbm, 76, rfl⟩
abbrev main_v26 : Ref sig .tc := ⟨.hbm, 77, rfl⟩
abbrev main_v27 : Ref sig .tc := ⟨.hbm, 78, rfl⟩
abbrev main_cst_4 : Ref sig .tc := ⟨.hbm, 79, rfl⟩
abbrev main_v28 : Ref sig .tc := ⟨.hbm, 80, rfl⟩
abbrev main_cst_5 : Ref sig .tc := ⟨.hbm, 81, rfl⟩
abbrev main_v29 : Ref sig .tc := ⟨.hbm, 82, rfl⟩
abbrev main_v30 : Ref sig .tc := ⟨.hbm, 83, rfl⟩
abbrev main_cst_6 : Ref sig .tc := ⟨.hbm, 84, rfl⟩
abbrev main_v31 : Ref sig .tc := ⟨.hbm, 85, rfl⟩
abbrev main_cst_7 : Ref sig .tc := ⟨.hbm, 86, rfl⟩
abbrev main_v32 : Ref sig .tc := ⟨.hbm, 87, rfl⟩
abbrev main_cst_8 : Ref sig .tc := ⟨.hbm, 88, rfl⟩
abbrev main_cst_9 : Ref sig .tc := ⟨.hbm, 89, rfl⟩
abbrev main_v33 : Ref sig .tc := ⟨.hbm, 90, rfl⟩
abbrev main_v34 : Ref sig .tc := ⟨.hbm, 91, rfl⟩
abbrev main_cst_10 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_cst_11 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_12 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_13 : Ref sig .tc := ⟨.hbm, 110, rfl⟩
abbrev main_v50 : Ref sig .tc := ⟨.hbm, 111, rfl⟩
abbrev main_v51 : Ref sig .tc := ⟨.hbm, 112, rfl⟩
abbrev main_cst_14 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v72 : Ref sig .tc := ⟨.hbm, 143, rfl⟩
abbrev main_v73 : Ref sig .tc := ⟨.hbm, 144, rfl⟩
abbrev main_cst_15 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩

abbrev nD : Nat := 1
abbrev τ : Topo := Topo.v7x

variable {F : FTy → Type} [FloatOps F]
-- ==== AdamOut.lean ====
abbrev S1 : Shape := ⟨1, ![1]⟩
abbrev S2048x1024 : Shape := ⟨2, ![2048, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 11
  | .vmem => 9
  | .smem => 1
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x256x1024, .bf16⟩
  | .hbm, ⟨6, _⟩ => ⟨S8x256x1024, .bf16⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S1x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S1 : Shape := ⟨1, ![1]⟩
abbrev S2048x1024 : Shape := ⟨2, ![2048, 1024]⟩
abbrev S256x1024 : Shape := ⟨2, ![256, 1024]⟩
abbrev S8 : Shape := ⟨1, ![8]⟩
abbrev S8x1x1 : Shape := ⟨3, ![8, 1, 1]⟩
abbrev S8x256x1024 : Shape := ⟨3, ![8, 256, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1024, .bf16⟩
  | .hbm, ⟨2, _⟩ => ⟨S2048x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S8, .i32⟩
  | .hbm, ⟨7, _⟩ => ⟨S8x1x1, .i32⟩
  | .hbm, ⟨8, _⟩ => ⟨S8x256x1024, .bf16⟩
  | .hbm, ⟨9, _⟩ => ⟨S8x256x1024, .bf16⟩
  | .hbm, ⟨10, _⟩ => ⟨S_, .i32⟩
  | .hbm, ⟨11, _⟩ => ⟨S8x1x1, .i32⟩
  | .hbm, ⟨12, _⟩ => ⟨S8x1x1, .i1⟩
  | .hbm, ⟨13, _⟩ => ⟨S8x256x1024, .i1⟩
  | .hbm, ⟨14, _⟩ => ⟨S8x256x1024, .bf16⟩
  | .hbm, ⟨15, _⟩ => ⟨S8x256x1024, .f32⟩
  | .hbm, ⟨16, _⟩ => ⟨S_, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== AdamKv.lean ====
abbrev S1 : Shape := ⟨1, ![1]⟩
abbrev S1024x1024 : Shape := ⟨2, ![1024, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 11
  | .vmem => 9
  | .smem => 1
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S8x128x1024, .bf16⟩
  | .hbm, ⟨6, _⟩ => ⟨S8x128x1024, .bf16⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S1x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamKvRefIdeal.lean ====
abbrev S1 : Shape := ⟨1, ![1]⟩
abbrev S1024x1024 : Shape := ⟨2, ![1024, 1024]⟩
abbrev S128x1024 : Shape := ⟨2, ![128, 1024]⟩
abbrev S8 : Shape := ⟨1, ![8]⟩
abbrev S8x1x1 : Shape := ⟨3, ![8, 1, 1]⟩
abbrev S8x128x1024 : Shape := ⟨3, ![8, 128, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1024, .bf16⟩
  | .hbm, ⟨2, _⟩ => ⟨S1024x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8x1x1, .i32⟩
  | .hbm, ⟨8, _⟩ => ⟨S8x128x1024, .bf16⟩
  | .hbm, ⟨9, _⟩ => ⟨S8x128x1024, .bf16⟩
  | .hbm, ⟨10, _⟩ => ⟨S_, .i32⟩
  | .hbm, ⟨11, _⟩ => ⟨S8x1x1, .i32⟩
  | .hbm, ⟨12, _⟩ => ⟨S8x1x1, .i1⟩
  | .hbm, ⟨13, _⟩ => ⟨S8x128x1024, .i1⟩
  | .hbm, ⟨14, _⟩ => ⟨S8x128x1024, .bf16⟩
  | .hbm, ⟨15, _⟩ => ⟨S8x128x1024, .f32⟩
  | .hbm, ⟨16, _⟩ => ⟨S_, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== AdamSmall.lean ====
abbrev S1 : Shape := ⟨1, ![1]⟩
abbrev S64x1024 : Shape := ⟨2, ![64, 1024]⟩
abbrev S8x1024 : Shape := ⟨2, ![8, 1024]⟩
abbrev S8x8x1024 : Shape := ⟨3, ![8, 8, 1024]⟩
abbrev S1x8x1024 : Shape := ⟨3, ![1, 8, 1024]⟩

abbrev nBuf : Space → Nat
  | .hbm => 11
  | .vmem => 9
  | .smem => 1
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x8x1024, .f32⟩
  | .hbm, ⟨6, _⟩ => ⟨S8x8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .local _ .vmem, ⟨0, _⟩ => ⟨S1x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .smem, ⟨0, _⟩ => ⟨S1, .i32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamSmallRefIdeal.lean ====
abbrev S1 : Shape := ⟨1, ![1]⟩
abbrev S64x1024 : Shape := ⟨2, ![64, 1024]⟩
abbrev S8x1024 : Shape := ⟨2, ![8, 1024]⟩
abbrev S8 : Shape := ⟨1, ![8]⟩
abbrev S8x1x1 : Shape := ⟨3, ![8, 1, 1]⟩
abbrev S8x8x1024 : Shape := ⟨3, ![8, 8, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S64x1024, .f32⟩
  | .hbm, ⟨2, _⟩ => ⟨S64x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8, .i32⟩
  | .hbm, ⟨7, _⟩ => ⟨S8x1x1, .i32⟩
  | .hbm, ⟨8, _⟩ => ⟨S8x8x1024, .f32⟩
  | .hbm, ⟨9, _⟩ => ⟨S8x8x1024, .f32⟩
  | .hbm, ⟨10, _⟩ => ⟨S_, .i32⟩
  | .hbm, ⟨11, _⟩ => ⟨S8x1x1, .i32⟩
  | .hbm, ⟨12, _⟩ => ⟨S8x1x1, .i1⟩
  | .hbm, ⟨13, _⟩ => ⟨S8x8x1024, .i1⟩
  | .hbm, ⟨14, _⟩ => ⟨S8x8x1024, .f32⟩
  | .hbm, ⟨15, _⟩ => ⟨S_, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S_, .f32⟩
  | .hbm, ⟨36, _⟩ => ⟨S8x1024, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S8x1024, .f32⟩
  | .hbm, ⟨43, _⟩ => ⟨S_, .f32⟩
  | .hbm, ⟨44, _⟩ => ⟨S8x1024, .f32⟩
  | .hbm, ⟨45, _⟩ => ⟨S8x1024, .f32⟩
  | .hbm, ⟨46, _⟩ => ⟨S8x1024, .f32⟩
  | .hbm, ⟨47, _⟩ => ⟨S_, .f32⟩
  | .hbm, ⟨48, _⟩ => ⟨S8x1024, .f32⟩
  | .hbm, ⟨49, _⟩ => ⟨S8x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.Grad.Sum.lean ====
/-
  Sums over 4096 tokens in four tiles of 1024, and the columns of arrays side by side.
-/
module

public import Idealize.ShloMosaic.Lib.Pointwise
public import Idealize.ShloMosaic.Lib.Pipeline.ValueKit
public import Idealize.ShloMosaic.PureOps.Ideal.Laws

@[expose] public section
noncomputable section
namespace Cert.Grad
open Idealize.ShloMosaic Idealize.ShloMosaic.Pointwise

/-- Token `1024 n + t`. -/
def tok (n : Fin 4) (t : Fin 1024) : Fin 4096 := ⟨1024 * n.val + t.val, by omega⟩

/-- What four tiles add is the sum over all tokens. -/
theorem four (f : Fin 4096 → EReal) :
    (∑ t : Fin 1024, f (tok 0 t)) + (∑ t : Fin 1024, f (tok 1 t)) + (∑ t : Fin 1024, f (tok 2 t)) + (∑ t : Fin 1024, f (tok 3 t)) = ∑ k : Fin 4096, f k := by
  have h : ∑ n : Fin 4, ∑ t : Fin 1024, f (tok n t) = ∑ k : Fin 4096, f k :=
    Fin.sum_mul_add_congr fun n t hl => congrArg f (Fin.ext (by simp only [tok]; omega))
  rw [← h, Fin.sum_univ_four]

/-- One tile's part of an entry of a product: row `r` of a block of the left array by column `j` of a block of the right array. -/
def part {w : ℕ} (X : Fin 1024 → Fin 1024 → EReal) (Y : Fin 1024 → Fin w → EReal) (r : Fin 1024) (j : Fin w) : EReal := ∑ t : Fin 1024, X r t * Y t j

/-- Columns `o` to `o + w` of an array of 1024 rows. -/
def cols {W : ℕ} (w o : ℕ) (h : ∀ a, (![0, o] : Fin 2 → Nat) a + (![1024, w] : Fin 2 → Nat) a ≤ (⟨2, ![1024, W]⟩ : Shape).size a)
    (A : FVec Ideal ⟨2, ![1024, W]⟩ .f32) : FVec Ideal ⟨2, ![1024, w]⟩ .f32 :=
  View.ld (Val := Elt Ideal) (e' := .f32) A (Rect.unit (s := ⟨2, ![1024, W]⟩) ![0, o] ![1024, w] h)
theorem cols_apply {W w o : ℕ} (h) (A : FVec Ideal ⟨2, ![1024, W]⟩ .f32) (a : Fin 1024) (b : Fin w) (j : Fin W) (hj : j.val = o + b.val) :
    cols w o h A (ix2 a b) = A (ix2 a j) := by
  refine View.ld_unit_apply_of (Val := Elt Ideal) (e := .f32) A ![0, o] ![1024, w] h (ix2 a b) (ix2 a j) fun x => ?_
  match x with
  | ⟨0, _⟩ => show a.val = 0 + a.val; omega
  | ⟨1, _⟩ => exact hj
theorem emb_cols {W w o : ℕ} (h : ∀ a, (![0, o] : Fin 2 → Nat) a + (![1024, w] : Fin 2 → Nat) a ≤ (⟨2, ![1024, W]⟩ : Shape).size a) (a : Fin 1024) (b : Fin w)
    (j : Fin W) (hj : j.val = o + b.val) : (Rect.unit (s := ⟨2, ![1024, W]⟩) ![0, o] ![1024, w] h).emb (ix2 a b) = ix2 a j := by
  funext x
  match x with
  | ⟨0, _⟩ => exact Fin.ext (by show 0 + 1 * a.val = a.val; omega)
  | ⟨1, _⟩ => exact Fin.ext (by show o + 1 * b.val = j.val; omega)
theorem mem_cols {W w o : ℕ} (h : ∀ a, (![0, o] : Fin 2 → Nat) a + (![1024, w] : Fin 2 → Nat) a ≤ (⟨2, ![1024, W]⟩ : Shape).size a) (r : Fin 1024) (j : Fin W)
    (h0 : o ≤ j.val) (h1 : j.val < o + w) : ix2 r j ∈ (Rect.unit (s := ⟨2, ![1024, W]⟩) ![0, o] ![1024, w] h).set := by
  have e := emb_cols h r (⟨j.val - o, by omega⟩ : Fin w) j (by show j.val = o + (j.val - o); omega)
  rw [← e]
  exact LoadRect.idx_mem _ _

/-- A store of columns that adds `D` to what the accumulator held is a block of the accumulator plus `D`. -/
theorem stripe {W w o : ℕ} (h) (A : FVec Ideal ⟨2, ![1024, W]⟩ .f32) (D : Fin 1024 → Fin W → EReal) (ho : o + w ≤ W) (P : FVec Ideal ⟨2, ![1024, w]⟩ .f32)
    (hp : ∀ (a : Fin 1024) (b : Fin w) (j : Fin W), j.val = o + b.val → P (ix2 a b) = cols w o h A (ix2 a b) + D a j)
    (x : (⟨2, ![1024, w]⟩ : Shape).Idx) : P x = (fun i : (⟨2, ![1024, W]⟩ : Shape).Idx => A i + D (i 0) (i 1)) ((Rect.unit (s := ⟨2, ![1024, W]⟩) ![0, o] ![1024, w] h).emb x) := by
  obtain ⟨a, b, rfl⟩ : ∃ (a : Fin 1024) (b : Fin w), x = ix2 a b := ⟨x 0, x 1, eq_ix2 x⟩
  have hb : o + b.val < W := by omega
  rw [emb_cols h a b ⟨o + b.val, hb⟩ rfl]
  exact (hp a b ⟨o + b.val, hb⟩ rfl).trans (congrArg (· + _) (cols_apply h A a b ⟨o + b.val, hb⟩ rfl))

/-- A load of the whole buffer after stores reads what they leave. -/
theorem readCov_whole {W : ℕ} {sig : RefSig} {κ : Kind} {sp : Space} (v : View sig κ sp (⟨2, ![1024, W]⟩ : Shape) .f32) (L : List (View.Piece (Elt Ideal) (⟨2, ![1024, W]⟩ : Shape) .f32))
    (h : ∀ a, (![0, 0] : Fin 2 → Nat) a + (![1024, W] : Fin 2 → Nat) a ≤ (⟨2, ![1024, W]⟩ : Shape).size a) :
    v.readCov L (Rect.unit (s := ⟨2, ![1024, W]⟩) ![0, 0] ![1024, W] h).toLoadRect = View.canon L := by
  rw [View.readCov_eq_canon']
  funext j
  refine congrArg _ (funext fun a => Fin.ext ?_)
  match a with
  | ⟨0, _⟩ => show 0 + 1 * (j 0).val = (j 0).val; omega
  | ⟨1, _⟩ => show 0 + 1 * (j 1).val = (j 1).val; omega

/-- Two arrays of the same entries are the same. -/
theorem ext2 {m n : ℕ} {α : Type} (A B : (⟨2, ![m, n]⟩ : Shape).Idx → α) (h : ∀ x y, A (ix2 x y) = B (ix2 x y)) : A = B := by
  funext i
  have e : i = ix2 (i 0) (i 1) := by
    funext a
    match a with
    | ⟨0, _⟩ => rfl
    | ⟨1, _⟩ => rfl
  rw [e]
  exact h _ _
end Cert.Grad
-- ==== Proof.InProj.A.lean ====
/-
  The first of the two input projections: a product, four tiles of 1024 rows.
-/
module

public import proofs.«01_k».proof.Proof.Grad.Sum
public import proofs.«01_k».proof.Proof.Gen.ProjAIdeal.Value
public import proofs.«01_k».proof.Proof.Gen.ProjARefIdeal.Read
import Idealize.ShloMosaic.Lib.Pipeline.ReadBack

@[expose] public section
set_option maxRecDepth 65536
noncomputable section
namespace Cert.InProj.A
open Cert.ProjAIdeal Cert.ProjAIdeal.Gen Idealize.ShloMosaic Idealize.ShloMosaic.TcCoe Idealize.SL.Sem
open Idealize.ShloMosaic.Pointwise Cert.Grad

theorem pay1 (X Y) (a : Fin 1024) (b : Fin 2432) : k0_pay1 (F := Ideal) X Y (ix2 a b) = ∑ k : Fin 1024, X (ix2 a k) * Y (ix2 k b) := by
  pointwise [k0_pay1]
theorem block (X Y T) : out0_3 (F := Ideal) X Y T = k0_pay1 (F := Ideal) X Y := by
  unfold out0_3
  simp (discharger := decide) only [View.ld_unit_lit', View.canon_cons_unit_lit']

/-- The grid's point for rows `1024 n` to `1024 n + 1023`. -/
def pt (n : Fin 4) : Fin cfg0.N := (⟨n.val, by omega⟩ : Fin 4)
theorem idx0 (n : Fin 4) : win0_0.index (pt n) = ![n.val, 0] := by revert n; decide +kernel
theorem idx1 (n : Fin 4) : win0_1.index (pt n) = ![0, 0] := by revert n; decide +kernel
theorem idx3 (n : Fin 4) : win0_3.index (pt n) = ![n.val, 0] := by revert n; decide +kernel
theorem flush (n : Fin 4) : (cfg0.win 3).flush (pt n) = true := by revert n; decide +kernel
theorem rd0 (A : FVec Ideal S4096x1024 .bf16) (n : Fin 4) (t k : Fin 1024) :
    ((cfg0.win 0).blk (pt n)).view.read (Elt Ideal) A (ix2 t k) = A (ix2 (tok n t) k) := by
  unfold tok
  blk_ext [idx0 n]
theorem rd1 (A : FVec Ideal S1024x2432 .bf16) (n : Fin 4) (k : Fin 1024) (j : Fin 2432) :
    ((cfg0.win 1).blk (pt n)).view.read (Elt Ideal) A (ix2 k j) = A (ix2 k j) := by
  blk_ext [idx1 n]

variable (c : Dev nD) (m : (ℓ : Loc nD τ sig) → Buf (Elt Ideal) ℓ)
variable (X : FVec Ideal S4096x1024 .bf16) (Y : FVec Ideal S1024x2432 .bf16)

theorem array (h0 : V m c main_arg0 = X) (h1 : V m c main_arg1 = Y) (n : Fin 4) (t : Fin 1024) (j : Fin 2432) :
    (dats m 0 c).arrAt 3 cfg0.N (ix2 (tok n t) j) = ∑ k : Fin 1024, X (ix2 (tok n t) k) * Y (ix2 k j) := by
  have H := (dats m 0 c).arrAt_emb_eq_flushed 3 (Value.disjoint3) (pt n) (flush n) (ix2 t j)
  rw [Value.flushed3] at H
  have E : ((cfg0.win 3).blk (pt n)).view.emb (ix2 t j) = ix2 (tok n t) j := by
    unfold tok
    blk_ext [idx3 n]
  rw [E, block] at H
  subst h0 h1
  exact H.trans ((pay1 _ _ t j).trans (Finset.sum_congr rfl fun k _ => congrArg₂ (fun a b : EReal => a * b) (rd0 (V m c main_arg0) n t k) (rd1 (V m c main_arg1) n k j)))

open Cert.ProjARefIdeal.Read in
theorem reference (r : Fin 4096) (j : Fin 2432) : val_main_v2 (F := Ideal) X Y (ix2 r j) = ∑ k : Fin 1024, X (ix2 r k) * Y (ix2 k j) := by
  pointwise [val_main_v2, val_main_v1, val_main_v0]

open Cert.ProjARefIdeal.Read in
theorem eq (h0 : V m c main_arg0 = X) (h1 : V m c main_arg1 = Y) : (dats m 0 c).arrAt 3 cfg0.N = val_main_v2 (F := Ideal) X Y :=
  ext2 _ _ fun r j => by
    obtain ⟨n, t, rfl⟩ : ∃ n t, r = tok n t := ⟨⟨r.val / 1024, by omega⟩, ⟨r.val % 1024, by omega⟩, Fin.ext (by simp only [tok]; omega)⟩
    exact (array c m X Y h0 h1 n t j).trans (reference X Y (tok n t) j).symm
end Cert.InProj.A
-- ==== Proof.InProj.B.lean ====
/-
  The second of the two input projections: a product, four tiles of 1024 rows by two tiles of 2560 columns.
-/
module

public import proofs.«01_k».proof.Proof.Grad.Sum
public import proofs.«01_k».proof.Proof.Gen.ProjBIdeal.Value
public import proofs.«01_k».proof.Proof.Gen.ProjBRefIdeal.Read
import Idealize.ShloMosaic.Lib.Pipeline.ReadBack

@[expose] public section
set_option maxRecDepth 65536
noncomputable section
namespace Cert.InProj.B
open Cert.ProjBIdeal Cert.ProjBIdeal.Gen Idealize.ShloMosaic Idealize.ShloMosaic.TcCoe Idealize.SL.Sem
open Idealize.ShloMosaic.Pointwise Cert.Grad

theorem pay1 (X Y) (a : Fin 1024) (b : Fin 2560) : k0_pay1 (F := Ideal) X Y (ix2 a b) = ∑ k : Fin 1024, X (ix2 a k) * Y (ix2 k b) := by
  pointwise [k0_pay1]
theorem block (X Y) : out0_2 (F := Ideal) X Y = k0_pay1 (F := Ideal) X Y := by
  unfold out0_2
  simp (discharger := decide) only [View.ld_unit_lit', View.canon_cons_unit_lit']

/-- Column `2560 h + j`. -/
def col (h : Fin 2) (j : Fin 2560) : Fin 5120 := ⟨2560 * h.val + j.val, by omega⟩
/-- The grid's point for rows `1024 n` to `1024 n + 1023` and columns `2560 h` to `2560 h + 2559`. -/
def pt (n : Fin 4) (h : Fin 2) : Fin cfg0.N := (⟨4 * h.val + n.val, by omega⟩ : Fin 8)
theorem idx0 (n : Fin 4) (h : Fin 2) : win0_0.index (pt n h) = ![n.val, 0] := by revert n h; decide +kernel
theorem idx1 (n : Fin 4) (h : Fin 2) : win0_1.index (pt n h) = ![0, h.val] := by revert n h; decide +kernel
theorem idx2 (n : Fin 4) (h : Fin 2) : win0_2.index (pt n h) = ![n.val, h.val] := by revert n h; decide +kernel
theorem flush (n : Fin 4) (h : Fin 2) : (cfg0.win 2).flush (pt n h) = true := by revert n h; decide +kernel
theorem rd0 (A : FVec Ideal S4096x1024 .bf16) (n : Fin 4) (h : Fin 2) (t k : Fin 1024) :
    ((cfg0.win 0).blk (pt n h)).view.read (Elt Ideal) A (ix2 t k) = A (ix2 (tok n t) k) := by
  unfold tok
  blk_ext [idx0 n h]
theorem rd1 (A : FVec Ideal S1024x5120 .bf16) (n : Fin 4) (h : Fin 2) (k : Fin 1024) (j : Fin 2560) :
    ((cfg0.win 1).blk (pt n h)).view.read (Elt Ideal) A (ix2 k j) = A (ix2 k (col h j)) := by
  unfold col
  blk_ext [idx1 n h]

variable (c : Dev nD) (m : (ℓ : Loc nD τ sig) → Buf (Elt Ideal) ℓ)
variable (X : FVec Ideal S4096x1024 .bf16) (Y : FVec Ideal S1024x5120 .bf16)

theorem array (h0 : V m c main_arg0 = X) (h1 : V m c main_arg1 = Y) (n : Fin 4) (h : Fin 2) (t : Fin 1024) (j : Fin 2560) :
    (dats m 0 c).arrAt 2 cfg0.N (ix2 (tok n t) (col h j)) = ∑ k : Fin 1024, X (ix2 (tok n t) k) * Y (ix2 k (col h j)) := by
  have H := (dats m 0 c).arrAt_emb_eq_flushed 2 (Value.disjoint2) (pt n h) (flush n h) (ix2 t j)
  rw [Value.flushed2] at H
  have E : ((cfg0.win 2).blk (pt n h)).view.emb (ix2 t j) = ix2 (tok n t) (col h j) := by
    unfold tok col
    blk_ext [idx2 n h]
  rw [E, block] at H
  subst h0 h1
  exact H.trans ((pay1 _ _ t j).trans (Finset.sum_congr rfl fun k _ => congrArg₂ (fun a b : EReal => a * b) (rd0 (V m c main_arg0) n h t k) (rd1 (V m c main_arg1) n h k j)))

open Cert.ProjBRefIdeal.Read in
theorem reference (r : Fin 4096) (j : Fin 5120) : val_main_v2 (F := Ideal) X Y (ix2 r j) = ∑ k : Fin 1024, X (ix2 r k) * Y (ix2 k j) := by
  pointwise [val_main_v2, val_main_v1, val_main_v0]

open Cert.ProjBRefIdeal.Read in
theorem eq (h0 : V m c main_arg0 = X) (h1 : V m c main_arg1 = Y) : (dats m 0 c).arrAt 2 cfg0.N = val_main_v2 (F := Ideal) X Y :=
  ext2 _ _ fun r j => by
    obtain ⟨n, t, rfl⟩ : ∃ n t, r = tok n t := ⟨⟨r.val / 1024, by omega⟩, ⟨r.val % 1024, by omega⟩, Fin.ext (by simp only [tok]; omega)⟩
    obtain ⟨h, i, rfl⟩ : ∃ h i, j = col h i := ⟨⟨j.val / 2560, by omega⟩, ⟨j.val % 2560, by omega⟩, Fin.ext (by simp only [col]; omega)⟩
    exact (array c m X Y h0 h1 n h t i).trans (reference X Y (tok n t) (col h i)).symm
end Cert.InProj.B
-- ==== Proof.Grad.Gates.lean ====
/-
  The weight gradient of the three gates: the three products side by side, summed over four tiles of tokens.
-/
module

public import proofs.«01_k».proof.Proof.Grad.Sum
public import proofs.«01_k».proof.Proof.Gen.GradGatesIdeal.Value
public import proofs.«01_k».proof.Proof.Gen.GradGatesRefIdeal.Read
import Idealize.ShloMosaic.Lib.Pipeline.ReadBack

@[expose] public section
set_option maxRecDepth 65536
noncomputable section
namespace Cert.Grad.Gates
open Cert.GradGatesIdeal Cert.GradGatesIdeal.Gen Idealize.ShloMosaic Idealize.ShloMosaic.TcCoe Idealize.SL.Sem
open Idealize.ShloMosaic.Pointwise

/-- What a tile adds to the accumulator. -/
def adds (X : FVec Ideal S1024x1024 .bf16) (Y Z : FVec Ideal S1024x768 .bf16) (W : FVec Ideal S1024x512 .bf16) (r : Fin 1024) (j : Fin 2048) : EReal :=
  if h : j.val < 768 then ∑ t : Fin 1024, X (ix2 r t) * Y (ix2 t ⟨j.val, h⟩)
  else if h' : j.val - 768 < 768 then ∑ t : Fin 1024, X (ix2 r t) * Z (ix2 t ⟨j.val - 768, h'⟩)
  else ∑ t : Fin 1024, X (ix2 r t) * W (ix2 t ⟨j.val - 768 - 768, by omega⟩)

theorem adds_left (X Y Z W r) (j : Fin 2048) (h : j.val < 768) : adds X Y Z W r j = ∑ t : Fin 1024, X (ix2 r t) * Y (ix2 t ⟨j.val, h⟩) := dif_pos h
theorem adds_mid (X Y Z W r) (j : Fin 2048) (h : ¬j.val < 768) (h' : j.val - 768 < 768) : adds X Y Z W r j = ∑ t : Fin 1024, X (ix2 r t) * Z (ix2 t ⟨j.val - 768, h'⟩) :=
  (dif_neg h).trans (dif_pos h')
theorem adds_right (X Y Z W r) (j : Fin 2048) (h : ¬j.val < 768) (h' : ¬j.val - 768 < 768) :
    adds X Y Z W r j = ∑ t : Fin 1024, X (ix2 r t) * W (ix2 t ⟨j.val - 768 - 768, by omega⟩) := (dif_neg h).trans (dif_neg h')

theorem inL : ∀ a, (![0, 0] : Fin 2 → Nat) a + (![1024, 768] : Fin 2 → Nat) a ≤ S1024x2048.size a := by decide +kernel
theorem inM : ∀ a, (![0, 768] : Fin 2 → Nat) a + (![1024, 768] : Fin 2 → Nat) a ≤ S1024x2048.size a := by decide +kernel
theorem inR : ∀ a, (![0, 1536] : Fin 2 → Nat) a + (![1024, 512] : Fin 2 → Nat) a ≤ S1024x2048.size a := by decide +kernel

/-- The stores of a tile over what the accumulator held. -/
def step (A : FVec Ideal S1024x2048 .f32) (X : FVec Ideal S1024x1024 .bf16) (Y Z : FVec Ideal S1024x768 .bf16) (W : FVec Ideal S1024x512 .bf16) :
    List (View.Piece (Elt Ideal) S1024x2048 .f32) :=
  [⟨Rect.unit ![0, 1536] ![1024, 512] inR, k0_pay5 (F := Ideal) X (cols 512 1536 inR A) W⟩,
    ⟨Rect.unit ![0, 768] ![1024, 768] inM, k0_pay4 (F := Ideal) X (cols 768 768 inM A) Z⟩,
    ⟨Rect.unit ![0, 0] ![1024, 768] inL, k0_pay3 (F := Ideal) X (cols 768 0 inL A) Y⟩]

theorem pay5 (X A Z) (a : Fin 1024) (b : Fin 512) : k0_pay5 (F := Ideal) X A Z (ix2 a b) = A (ix2 a b) + ∑ t : Fin 1024, X (ix2 a t) * Z (ix2 t b) := by
  pointwise [k0_pay5]
theorem pay4 (X A Z) (a : Fin 1024) (b : Fin 768) : k0_pay4 (F := Ideal) X A Z (ix2 a b) = A (ix2 a b) + ∑ t : Fin 1024, X (ix2 a t) * Z (ix2 t b) := by
  pointwise [k0_pay4]
theorem pay3 (X A Y) (a : Fin 1024) (b : Fin 768) : k0_pay3 (F := Ideal) X A Y (ix2 a b) = A (ix2 a b) + ∑ t : Fin 1024, X (ix2 a t) * Y (ix2 t b) := by
  pointwise [k0_pay3]
theorem pay1 (A) (a : Fin 1024) (b : Fin 2048) : k0_pay1 (F := Ideal) A (ix2 a b) = A (ix2 a b) := by
  pointwise [k0_pay1]

theorem step_apply (A X Y Z W) (L) (r : Fin 1024) (j : Fin 2048) : View.canon (step A X Y Z W ++ L) (ix2 r j) = A (ix2 r j) + adds X Y Z W r j := by
  refine View.canon_append_of_piecesOf (fun i => A i + adds X Y Z W (i 0) (i 1)) L (step A X Y Z W) ?_ (ix2 r j) ?_
  · simp only [step, View.PiecesOf]
    refine ⟨stripe inR A (adds X Y Z W) (by decide) _ fun a b i hi => ?_, stripe inM A (adds X Y Z W) (by decide) _ fun a b i hi => ?_,
      stripe inL A (adds X Y Z W) (by decide) _ fun a b i hi => ?_, trivial⟩
    · rw [pay5, adds_right X Y Z W a i (by omega) (by omega)]
      refine congrArg (_ + ·) (Finset.sum_congr rfl fun t _ => ?_)
      congr 3
      exact Fin.ext (by show b.val = i.val - 768 - 768; omega)
    · rw [pay4, adds_mid X Y Z W a i (by omega) (by omega)]
      refine congrArg (_ + ·) (Finset.sum_congr rfl fun t _ => ?_)
      congr 3
      exact Fin.ext (by show b.val = i.val - 768; omega)
    · rw [pay3, adds_left X Y Z W a i (by omega)]
      refine congrArg (_ + ·) (Finset.sum_congr rfl fun t _ => ?_)
      congr 3
      exact Fin.ext (by show b.val = i.val; omega)
  · by_cases h : j.val < 768
    · exact ⟨_, List.mem_cons_of_mem _ (List.mem_cons_of_mem _ (List.mem_singleton_self _)), mem_cols inL r j (by omega) (by omega)⟩
    · by_cases h' : j.val < 1536
      · exact ⟨_, List.mem_cons_of_mem _ List.mem_cons_self, mem_cols inM r j (by omega) (by omega)⟩
      · exact ⟨_, List.mem_cons_self, mem_cols inR r j (by omega) (by omega)⟩

section
variable (c : Dev nD) (t : Fin cfg0.N) (m : (ℓ : Loc nD τ sig) → Buf (Elt Ideal) ℓ)
theorem first (h0 : t.val % 4 = 0) (h1 : ¬t.val % 4 = 3) (r : Fin 1024) (j : Fin 2048) :
    (outsAt0 m c t.val t.isLt).2 (ix2 r j) = adds (iblk m c 0 t) (iblk m c 1 t) (iblk m c 2 t) (iblk m c 3 t) r j := by
  rw [outsAt0_A m c t h0 h1]
  dsimp only
  unfold sout0_A_0
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  refine (step_apply (k0_pay2 (F := Ideal)) _ _ _ _ [_] r j).trans ?_
  have z : k0_pay2 (F := Ideal) (ix2 r j) = 0 := by pointwise [k0_pay2]
  rw [z, zero_add]
theorem next (h0 : ¬t.val % 4 = 0) (h1 : ¬t.val % 4 = 3) (r : Fin 1024) (j : Fin 2048) :
    (outsAt0 m c t.val t.isLt).2 (ix2 r j) = (outsAt0 m c (t.val - 1) (Nat.lt_of_le_of_lt (Nat.sub_le _ _) t.isLt)).2 (ix2 r j) + adds (iblk m c 0 t) (iblk m c 1 t) (iblk m c 2 t) (iblk m c 3 t) r j := by
  rw [outsAt0_B m c t h0 h1]
  dsimp only
  unfold sout0_B_0
  rw [View.read_writes_junk_eq_canon]
  unfold kernelRun0_B
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  exact step_apply _ _ _ _ _ [] r j
theorem last (h0 : ¬t.val % 4 = 0) (h1 : t.val % 4 = 3) (r : Fin 1024) (j : Fin 2048) :
    (outsAt0 m c t.val t.isLt).1 (ix2 r j) = (outsAt0 m c (t.val - 1) (Nat.lt_of_le_of_lt (Nat.sub_le _ _) t.isLt)).2 (ix2 r j) + adds (iblk m c 0 t) (iblk m c 1 t) (iblk m c 2 t) (iblk m c 3 t) r j := by
  rw [outsAt0_C m c t h0 h1]
  dsimp only
  unfold out0_C_4
  rw [View.read_writes_junk_eq_canon]
  unfold kernelRun0_C
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rw [pay1]
  exact (congrFun (readCov_whole _ _ _) (ix2 r j)).trans (step_apply _ _ _ _ _ [] r j)

/-- The grid's point for tile `n`. -/
def pt (n : Fin 4) : Fin cfg0.N := (⟨n.val, by omega⟩ : Fin 4)
theorem idx0 (n : Fin 4) : win0_0.index (pt n) = ![0, n.val] := by revert n; decide +kernel
theorem idx1 (n : Fin 4) : win0_1.index (pt n) = ![n.val, 0] := by revert n; decide +kernel
theorem idx3 (n : Fin 4) : win0_3.index (pt n) = ![n.val, 0] := by revert n; decide +kernel
theorem idx2 (n : Fin 4) : win0_2.index (pt n) = ![n.val, 0] := by revert n; decide +kernel
theorem rd0 (A : FVec Ideal S1024x4096 .bf16) (n : Fin 4) (r t : Fin 1024) :
    ((cfg0.win 0).blk (pt n)).view.read (Elt Ideal) A (ix2 r t) = A (ix2 r (tok n t)) := by
  unfold tok
  blk_ext [idx0 n]
theorem rd1 (A : FVec Ideal S4096x768 .bf16) (n : Fin 4) (t : Fin 1024) (j : Fin 768) :
    ((cfg0.win 1).blk (pt n)).view.read (Elt Ideal) A (ix2 t j) = A (ix2 (tok n t) j) := by
  unfold tok
  blk_ext [idx1 n]
theorem rd2 (A : FVec Ideal S4096x768 .bf16) (n : Fin 4) (t : Fin 1024) (j : Fin 768) :
    ((cfg0.win 2).blk (pt n)).view.read (Elt Ideal) A (ix2 t j) = A (ix2 (tok n t) j) := by
  unfold tok
  blk_ext [idx2 n]
theorem rd3 (A : FVec Ideal S4096x512 .bf16) (n : Fin 4) (t : Fin 1024) (j : Fin 512) :
    ((cfg0.win 3).blk (pt n)).view.read (Elt Ideal) A (ix2 t j) = A (ix2 (tok n t) j) := by
  unfold tok
  blk_ext [idx3 n]

variable (H : FVec Ideal S1024x4096 .bf16) (Y Z : FVec Ideal S4096x768 .bf16) (W : FVec Ideal S4096x512 .bf16)
/-- One token's part of an entry. -/
def term (r : Fin 1024) (j : Fin 2048) (k : Fin 4096) : EReal :=
  if h : j.val < 768 then H (ix2 r k) * Y (ix2 k ⟨j.val, h⟩) else if h' : j.val - 768 < 768 then H (ix2 r k) * Z (ix2 k ⟨j.val - 768, h'⟩)
  else H (ix2 r k) * W (ix2 k ⟨j.val - 768 - 768, by omega⟩)

theorem term_left (r j k) (h : j.val < 768) : term H Y Z W r j k = H (ix2 r k) * Y (ix2 k ⟨j.val, h⟩) := dif_pos h
theorem term_mid (r j k) (h : ¬j.val < 768) (h' : j.val - 768 < 768) : term H Y Z W r j k = H (ix2 r k) * Z (ix2 k ⟨j.val - 768, h'⟩) := (dif_neg h).trans (dif_pos h')
theorem term_right (r j k) (h : ¬j.val < 768) (h' : ¬j.val - 768 < 768) : term H Y Z W r j k = H (ix2 r k) * W (ix2 k ⟨j.val - 768 - 768, by omega⟩) :=
  (dif_neg h).trans (dif_neg h')

variable (h0 : V m c main_arg0 = H) (h1 : V m c main_arg1 = Y) (h2 : V m c main_arg2 = Z) (h3 : V m c main_arg3 = W)
include h0 h1 h2 h3
theorem adds_term (n : Fin 4) (r : Fin 1024) (j : Fin 2048) :
    adds (iblk m c 0 (pt n)) (iblk m c 1 (pt n)) (iblk m c 2 (pt n)) (iblk m c 3 (pt n)) r j = ∑ t : Fin 1024, term H Y Z W r j (tok n t) := by
  subst h0 h1 h2 h3
  by_cases h : j.val < 768
  · rw [adds_left _ _ _ _ _ _ h]
    exact Finset.sum_congr rfl fun t _ => (congrArg₂ (fun a b : EReal => a * b) (rd0 (V m c main_arg0) n r t) (rd1 (V m c main_arg1) n t _)).trans (term_left _ _ _ _ _ _ _ h).symm
  · by_cases h' : j.val - 768 < 768
    · rw [adds_mid _ _ _ _ _ _ h h']
      exact Finset.sum_congr rfl fun t _ => (congrArg₂ (fun a b : EReal => a * b) (rd0 (V m c main_arg0) n r t) (rd2 (V m c main_arg2) n t _)).trans (term_mid _ _ _ _ _ _ _ h h').symm
    · rw [adds_right _ _ _ _ _ _ h h']
      exact Finset.sum_congr rfl fun t _ => (congrArg₂ (fun a b : EReal => a * b) (rd0 (V m c main_arg0) n r t) (rd3 (V m c main_arg3) n t _)).trans (term_right _ _ _ _ _ _ _ h h').symm

theorem array (r : Fin 1024) (j : Fin 2048) : Value.G4 m c (ix2 r j) = ∑ k : Fin 4096, term H Y Z W r j k := by
  rw [Value.G4_last, ← Value.outsAt0_sweep m c 3 (pt 3).isLt]
  rw [← four]
  refine (last c (pt 3) m (by decide) (by decide) r j).trans (congrArg₂ (· + ·) ?_ (adds_term c m H Y Z W h0 h1 h2 h3 3 r j))
  refine (next c (pt 2) m (by decide) (by decide) r j).trans (congrArg₂ (· + ·) ?_ (adds_term c m H Y Z W h0 h1 h2 h3 2 r j))
  refine (next c (pt 1) m (by decide) (by decide) r j).trans (congrArg₂ (· + ·) ?_ (adds_term c m H Y Z W h0 h1 h2 h3 1 r j))
  exact (first c (pt 0) m (by decide) (by decide) r j).trans (adds_term c m H Y Z W h0 h1 h2 h3 0 r j)
omit h0 h1 h2 h3

open Cert.GradGatesRefIdeal.Read in
theorem reference (r : Fin 1024) (j : Fin 2048) : val_main_v18 (F := Ideal) H Y Z W (ix2 r j) = ∑ k : Fin 4096, term H Y Z W r j k := by
  by_cases h : j.val < 768
  · rw [Finset.sum_congr rfl fun k _ => term_left H Y Z W r j k h]
    pointwise [val_main_v18, val_main_v17, val_main_v6, val_main_v5, val_main_v4, val_main_v1, val_main_v0]
    rw [dif_pos h]
    exact Finset.sum_congr rfl fun k _ => mul_comm _ _
  · by_cases h' : j.val - 768 < 768
    · rw [Finset.sum_congr rfl fun k _ => term_mid H Y Z W r j k h h']
      pointwise [val_main_v18, val_main_v17, val_main_v11, val_main_v10, val_main_v9, val_main_v1, val_main_v0]
      rw [dif_neg h, dif_pos h']
      exact Finset.sum_congr rfl fun k _ => mul_comm _ _
    · rw [Finset.sum_congr rfl fun k _ => term_right H Y Z W r j k h h']
      pointwise [val_main_v18, val_main_v17, val_main_v16, val_main_v15, val_main_v14, val_main_v1, val_main_v0]
      rw [dif_neg h, dif_neg h']
      exact Finset.sum_congr rfl fun k _ => mul_comm _ _

open Cert.GradGatesRefIdeal.Read in
include h0 h1 h2 h3 in
theorem eq : Value.G4 m c = val_main_v18 (F := Ideal) H Y Z W :=
  ext2 _ _ fun r j => (array c m H Y Z W h0 h1 h2 h3 r j).trans (reference H Y Z W r j).symm
end
end Cert.Grad.Gates
-- ==== Proof.Grad.Fox.lean ====
/-
  The weight gradient of the forgetting attention's projections: the two products side by side, summed over four tiles of tokens.
-/
module

public import proofs.«01_k».proof.Proof.Grad.Sum
public import proofs.«01_k».proof.Proof.Gen.GradFoxIdeal.Value
public import proofs.«01_k».proof.Proof.Gen.GradFoxRefIdeal.Read
import Idealize.ShloMosaic.Lib.Pipeline.ReadBack

@[expose] public section
set_option maxRecDepth 65536
noncomputable section
namespace Cert.Grad.Fox
open Cert.GradFoxIdeal Cert.GradFoxIdeal.Gen Idealize.ShloMosaic Idealize.ShloMosaic.TcCoe Idealize.SL.Sem
open Idealize.ShloMosaic.Pointwise

/-- What a tile adds to the accumulator. -/
def adds (X : FVec Ideal S1024x1024 .bf16) (Y : FVec Ideal S1024x2304 .bf16) (Z : FVec Ideal S1024x128 .bf16) (r : Fin 1024) (j : Fin 2432) : EReal :=
  if h : j.val < 2304 then ∑ t : Fin 1024, X (ix2 r t) * Y (ix2 t ⟨j.val, h⟩) else ∑ t : Fin 1024, X (ix2 r t) * Z (ix2 t ⟨j.val - 2304, by omega⟩)

theorem adds_left (X Y Z r) (j : Fin 2432) (h : j.val < 2304) : adds X Y Z r j = ∑ t : Fin 1024, X (ix2 r t) * Y (ix2 t ⟨j.val, h⟩) := dif_pos h
theorem adds_right (X Y Z r) (j : Fin 2432) (h : ¬j.val < 2304) : adds X Y Z r j = ∑ t : Fin 1024, X (ix2 r t) * Z (ix2 t ⟨j.val - 2304, by omega⟩) := dif_neg h

theorem inL : ∀ a, (![0, 0] : Fin 2 → Nat) a + (![1024, 2304] : Fin 2 → Nat) a ≤ S1024x2432.size a := by decide +kernel
theorem inR : ∀ a, (![0, 2304] : Fin 2 → Nat) a + (![1024, 128] : Fin 2 → Nat) a ≤ S1024x2432.size a := by decide +kernel

/-- The stores of a tile over what the accumulator held. -/
def step (A : FVec Ideal S1024x2432 .f32) (X : FVec Ideal S1024x1024 .bf16) (Y : FVec Ideal S1024x2304 .bf16) (Z : FVec Ideal S1024x128 .bf16) :
    List (View.Piece (Elt Ideal) S1024x2432 .f32) :=
  [⟨Rect.unit ![0, 2304] ![1024, 128] inR, k0_pay3 (F := Ideal) X (cols 128 2304 inR A) Z⟩,
    ⟨Rect.unit ![0, 0] ![1024, 2304] inL, k0_pay2 (F := Ideal) X (cols 2304 0 inL A) Y⟩]

theorem pay3 (X A Z) (a : Fin 1024) (b : Fin 128) : k0_pay3 (F := Ideal) X A Z (ix2 a b) = A (ix2 a b) + ∑ t : Fin 1024, X (ix2 a t) * Z (ix2 t b) := by
  pointwise [k0_pay3]
theorem pay2 (X A Y) (a : Fin 1024) (b : Fin 2304) : k0_pay2 (F := Ideal) X A Y (ix2 a b) = A (ix2 a b) + ∑ t : Fin 1024, X (ix2 a t) * Y (ix2 t b) := by
  pointwise [k0_pay2]

theorem pay4 (A) (a : Fin 1024) (b : Fin 2432) : k0_pay4 (F := Ideal) A (ix2 a b) = A (ix2 a b) := by
  pointwise [k0_pay4]

theorem step_apply (A X Y Z) (L) (r : Fin 1024) (j : Fin 2432) : View.canon (step A X Y Z ++ L) (ix2 r j) = A (ix2 r j) + adds X Y Z r j := by
  refine View.canon_append_of_piecesOf (fun i => A i + adds X Y Z (i 0) (i 1)) L (step A X Y Z) ?_ (ix2 r j) ?_
  · simp only [step, View.PiecesOf]
    refine ⟨stripe inR A (adds X Y Z) (by decide) _ fun a b i hi => ?_, stripe inL A (adds X Y Z) (by decide) _ fun a b i hi => ?_, trivial⟩
    · rw [pay3, adds_right X Y Z a i (by omega)]
      refine congrArg (_ + ·) (Finset.sum_congr rfl fun t _ => ?_)
      congr 3
      exact Fin.ext (by show b.val = i.val - 2304; omega)
    · rw [pay2, adds_left X Y Z a i (by omega)]
      refine congrArg (_ + ·) (Finset.sum_congr rfl fun t _ => ?_)
      congr 3
      exact Fin.ext (by show b.val = i.val; omega)
  · by_cases h : j.val < 2304
    · exact ⟨_, List.mem_cons_of_mem _ (List.mem_singleton_self _), mem_cols inL r j (by omega) (by omega)⟩
    · exact ⟨_, List.mem_cons_self, mem_cols inR r j (by omega) (by omega)⟩

section
variable (c : Dev nD) (t : Fin cfg0.N) (m : (ℓ : Loc nD τ sig) → Buf (Elt Ideal) ℓ)
theorem first (h0 : t.val % 4 = 0) (h1 : ¬t.val % 4 = 3) (r : Fin 1024) (j : Fin 2432) :
    (outsAt0 m c t.val t.isLt).2 (ix2 r j) = adds (iblk m c 0 t) (iblk m c 1 t) (iblk m c 2 t) r j := by
  rw [outsAt0_A m c t h0 h1]
  dsimp only
  unfold sout0_A_0
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  refine (step_apply (k0_pay1 (F := Ideal)) _ _ _ [_] r j).trans ?_
  have z : k0_pay1 (F := Ideal) (ix2 r j) = 0 := by pointwise [k0_pay1]
  rw [z, zero_add]
theorem next (h0 : ¬t.val % 4 = 0) (h1 : ¬t.val % 4 = 3) (r : Fin 1024) (j : Fin 2432) :
    (outsAt0 m c t.val t.isLt).2 (ix2 r j) = (outsAt0 m c (t.val - 1) (Nat.lt_of_le_of_lt (Nat.sub_le _ _) t.isLt)).2 (ix2 r j) + adds (iblk m c 0 t) (iblk m c 1 t) (iblk m c 2 t) r j := by
  rw [outsAt0_B m c t h0 h1]
  dsimp only
  unfold sout0_B_0
  rw [View.read_writes_junk_eq_canon]
  unfold kernelRun0_B
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  exact step_apply _ _ _ _ [] r j
theorem last (h0 : ¬t.val % 4 = 0) (h1 : t.val % 4 = 3) (r : Fin 1024) (j : Fin 2432) :
    (outsAt0 m c t.val t.isLt).1 (ix2 r j) = (outsAt0 m c (t.val - 1) (Nat.lt_of_le_of_lt (Nat.sub_le _ _) t.isLt)).2 (ix2 r j) + adds (iblk m c 0 t) (iblk m c 1 t) (iblk m c 2 t) r j := by
  rw [outsAt0_C m c t h0 h1]
  dsimp only
  unfold out0_C_3
  rw [View.read_writes_junk_eq_canon]
  unfold kernelRun0_C
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rw [pay4]
  exact (congrFun (readCov_whole _ _ _) (ix2 r j)).trans (step_apply _ _ _ _ [] r j)

/-- The grid's point for tile `n`. -/
def pt (n : Fin 4) : Fin cfg0.N := (⟨n.val, by omega⟩ : Fin 4)
theorem idx0 (n : Fin 4) : win0_0.index (pt n) = ![0, n.val] := by revert n; decide +kernel
theorem idx1 (n : Fin 4) : win0_1.index (pt n) = ![n.val, 0] := by revert n; decide +kernel
theorem idx2 (n : Fin 4) : win0_2.index (pt n) = ![n.val, 0] := by revert n; decide +kernel
theorem rd0 (A : FVec Ideal S1024x4096 .bf16) (n : Fin 4) (r t : Fin 1024) :
    ((cfg0.win 0).blk (pt n)).view.read (Elt Ideal) A (ix2 r t) = A (ix2 r (tok n t)) := by
  unfold tok
  blk_ext [idx0 n]
theorem rd1 (A : FVec Ideal S4096x2304 .bf16) (n : Fin 4) (t : Fin 1024) (j : Fin 2304) :
    ((cfg0.win 1).blk (pt n)).view.read (Elt Ideal) A (ix2 t j) = A (ix2 (tok n t) j) := by
  unfold tok
  blk_ext [idx1 n]
theorem rd2 (A : FVec Ideal S4096x128 .bf16) (n : Fin 4) (t : Fin 1024) (j : Fin 128) :
    ((cfg0.win 2).blk (pt n)).view.read (Elt Ideal) A (ix2 t j) = A (ix2 (tok n t) j) := by
  unfold tok
  blk_ext [idx2 n]

variable (H : FVec Ideal S1024x4096 .bf16) (Y : FVec Ideal S4096x2304 .bf16) (Z : FVec Ideal S4096x128 .bf16)
/-- One token's part of an entry. -/
def term (r : Fin 1024) (j : Fin 2432) (k : Fin 4096) : EReal :=
  if h : j.val < 2304 then H (ix2 r k) * Y (ix2 k ⟨j.val, h⟩) else H (ix2 r k) * Z (ix2 k ⟨j.val - 2304, by omega⟩)

theorem term_left (r j k) (h : j.val < 2304) : term H Y Z r j k = H (ix2 r k) * Y (ix2 k ⟨j.val, h⟩) := dif_pos h
theorem term_right (r j k) (h : ¬j.val < 2304) : term H Y Z r j k = H (ix2 r k) * Z (ix2 k ⟨j.val - 2304, by omega⟩) := dif_neg h

theorem adds_term (n : Fin 4) (h0 : V m c main_arg0 = H) (h1 : V m c main_arg1 = Y) (h2 : V m c main_arg2 = Z) (r : Fin 1024) (j : Fin 2432) :
    adds (iblk m c 0 (pt n)) (iblk m c 1 (pt n)) (iblk m c 2 (pt n)) r j = ∑ t : Fin 1024, term H Y Z r j (tok n t) := by
  subst h0 h1 h2
  by_cases h : j.val < 2304
  · rw [adds_left _ _ _ _ _ h]
    exact Finset.sum_congr rfl fun t _ => (congrArg₂ (fun a b : EReal => a * b) (rd0 (V m c main_arg0) n r t) (rd1 (V m c main_arg1) n t _)).trans (term_left _ _ _ _ _ _ h).symm
  · rw [adds_right _ _ _ _ _ h]
    exact Finset.sum_congr rfl fun t _ => (congrArg₂ (fun a b : EReal => a * b) (rd0 (V m c main_arg0) n r t) (rd2 (V m c main_arg2) n t _)).trans (term_right _ _ _ _ _ _ h).symm

theorem array (h0 : V m c main_arg0 = H) (h1 : V m c main_arg1 = Y) (h2 : V m c main_arg2 = Z) (r : Fin 1024) (j : Fin 2432) :
    Value.G3 m c (ix2 r j) = ∑ k : Fin 4096, term H Y Z r j k := by
  rw [Value.G3_last, ← Value.outsAt0_sweep m c 3 (pt 3).isLt]
  rw [← four]
  refine (last c (pt 3) m (by decide) (by decide) r j).trans (congrArg₂ (· + ·) ?_ (adds_term c m H Y Z 3 h0 h1 h2 r j))
  refine (next c (pt 2) m (by decide) (by decide) r j).trans (congrArg₂ (· + ·) ?_ (adds_term c m H Y Z 2 h0 h1 h2 r j))
  refine (next c (pt 1) m (by decide) (by decide) r j).trans (congrArg₂ (· + ·) ?_ (adds_term c m H Y Z 1 h0 h1 h2 r j))
  exact (first c (pt 0) m (by decide) (by decide) r j).trans (adds_term c m H Y Z 0 h0 h1 h2 r j)

open Cert.GradFoxRefIdeal.Read in
theorem reference (r : Fin 1024) (j : Fin 2432) : val_main_v13 (F := Ideal) H Y Z (ix2 r j) = ∑ k : Fin 4096, term H Y Z r j k := by
  by_cases h : j.val < 2304
  · rw [Finset.sum_congr rfl fun k _ => term_left H Y Z r j k h]
    pointwise [val_main_v13, val_main_v12, val_main_v6, val_main_v5, val_main_v4, val_main_v1, val_main_v0]
    rw [dif_pos h]
    exact Finset.sum_congr rfl fun k _ => mul_comm _ _
  · rw [Finset.sum_congr rfl fun k _ => term_right H Y Z r j k h]
    pointwise [val_main_v13, val_main_v12, val_main_v11, val_main_v10, val_main_v9, val_main_v1, val_main_v0]
    rw [dif_neg h]
    exact Finset.sum_congr rfl fun k _ => mul_comm _ _

open Cert.GradFoxRefIdeal.Read in
theorem eq (h0 : V m c main_arg0 = H) (h1 : V m c main_arg1 = Y) (h2 : V m c main_arg2 = Z) : Value.G3 m c = val_main_v13 (F := Ideal) H Y Z :=
  ext2 _ _ fun r j => (array c m H Y Z h0 h1 h2 r j).trans (reference H Y Z r j).symm
end
end Cert.Grad.Fox
-- ==== Proof.Grad.Dil.lean ====
/-
  The weight gradient of the dilated attention's projections: one product, summed over four tiles of tokens.
-/
module

public import proofs.«01_k».proof.Proof.Grad.Sum
public import proofs.«01_k».proof.Proof.Gen.GradDilIdeal.Value
public import proofs.«01_k».proof.Proof.Gen.GradDilRefIdeal.Read
import Idealize.ShloMosaic.Lib.Pipeline.ReadBack

@[expose] public section
set_option maxRecDepth 65536
noncomputable section
namespace Cert.Grad.Dil
open Cert.GradDilIdeal Cert.GradDilIdeal.Gen Idealize.ShloMosaic Idealize.ShloMosaic.TcCoe Idealize.SL.Sem
open Idealize.ShloMosaic.Pointwise

theorem pay1 (a : Fin 1024) (b : Fin 2304) : k0_pay1 (F := Ideal) (ix2 a b) = 0 := by
  pointwise [k0_pay1]
theorem pay2 (X A Y) (a : Fin 1024) (b : Fin 2304) : k0_pay2 (F := Ideal) X A Y (ix2 a b) = A (ix2 a b) + ∑ t : Fin 1024, X (ix2 a t) * Y (ix2 t b) := by
  pointwise [k0_pay2]
theorem pay3 (A) (a : Fin 1024) (b : Fin 2304) : k0_pay3 (F := Ideal) A (ix2 a b) = A (ix2 a b) := by
  pointwise [k0_pay3]

/-- The grid's point for tile `n`. -/
def pt (n : Fin 4) : Fin cfg0.N := (⟨n.val, by omega⟩ : Fin 4)
theorem idx0 (n : Fin 4) : win0_0.index (pt n) = ![0, n.val] := by revert n; decide +kernel
theorem idx1 (n : Fin 4) : win0_1.index (pt n) = ![n.val, 0] := by revert n; decide +kernel
theorem rd0 (A : FVec Ideal S1024x4096 .bf16) (n : Fin 4) (r t : Fin 1024) :
    ((cfg0.win 0).blk (pt n)).view.read (Elt Ideal) A (ix2 r t) = A (ix2 r (tok n t)) := by
  unfold tok
  blk_ext [idx0 n]
theorem rd1 (A : FVec Ideal S4096x2304 .bf16) (n : Fin 4) (t : Fin 1024) (j : Fin 2304) :
    ((cfg0.win 1).blk (pt n)).view.read (Elt Ideal) A (ix2 t j) = A (ix2 (tok n t) j) := by
  unfold tok
  blk_ext [idx1 n]

variable (c : Dev nD) (t : Fin cfg0.N) (m : (ℓ : Loc nD τ sig) → Buf (Elt Ideal) ℓ)
variable (H : FVec Ideal S1024x4096 .bf16) (Y : FVec Ideal S4096x2304 .bf16) (r : Fin 1024) (j : Fin 2304)

/-- One token's part of an entry. -/
def term (k : Fin 4096) : EReal := H (ix2 r k) * Y (ix2 k j)

theorem adds (n : Fin 4) (h0 : V m c main_arg0 = H) (h1 : V m c main_arg1 = Y) (A) :
    k0_pay2 (F := Ideal) (iblk m c 0 (pt n)) A (iblk m c 1 (pt n)) (ix2 r j) = A (ix2 r j) + ∑ t : Fin 1024, term H Y r j (tok n t) := by
  subst h0 h1
  rw [pay2]
  exact congrArg (_ + ·) (Finset.sum_congr rfl fun t _ => congrArg₂ (fun a b : EReal => a * b) (rd0 (V m c main_arg0) n r t) (rd1 (V m c main_arg1) n t j))

theorem first (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
theorem next (h0 : ¬t.val % 4 = 0) (h1 : ¬t.val % 4 = 3) :
    (outsAt0 m c t.val t.isLt).2 = k0_pay2 (F := Ideal) (iblk m c 0 t) (outsAt0 m c (t.val - 1) (Nat.lt_of_le_of_lt (Nat.sub_le _ _) t.isLt)).2 (iblk m c 1 t) := by
  rw [outsAt0_B m c t h0 h1]
  dsimp only
  unfold sout0_B_0
  rw [View.read_writes_junk_eq_canon]
  unfold kernelRun0_B
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
theorem last (h0 : ¬t.val % 4 = 0) (h1 : t.val % 4 = 3) :
    (outsAt0 m c t.val t.isLt).1 = k0_pay3 (F := Ideal) (k0_pay2 (F := Ideal) (iblk m c 0 t) (outsAt0 m c (t.val - 1) (Nat.lt_of_le_of_lt (Nat.sub_le _ _) t.isLt)).2 (iblk m c 1 t)) := by
  rw [outsAt0_C m c t h0 h1]
  dsimp only
  unfold out0_C_2
  rw [View.read_writes_junk_eq_canon]
  unfold kernelRun0_C
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]

theorem next_apply (n : Fin 4) (h0 : V m c main_arg0 = H) (h1 : V m c main_arg1 = Y) (g0 : ¬(pt n).val % 4 = 0) (g1 : ¬(pt n).val % 4 = 3) :
    (outsAt0 m c (pt n).val (pt n).isLt).2 (ix2 r j) =
      (outsAt0 m c ((pt n).val - 1) (Nat.lt_of_le_of_lt (Nat.sub_le _ _) (pt n).isLt)).2 (ix2 r j) + ∑ t : Fin 1024, term H Y r j (tok n t) := by
  rw [next c (pt n) m g0 g1]
  exact adds c m H Y r j n h0 h1 _

theorem array (h0 : V m c main_arg0 = H) (h1 : V m c main_arg1 = Y) : Value.G2 m c (ix2 r j) = ∑ k : Fin 4096, term H Y r j k := by
  rw [Value.G2_last, ← Value.outsAt0_sweep m c 3 (pt 3).isLt, ← four]
  have e3 : (outsAt0 m c (pt 3).val (pt 3).isLt).1 (ix2 r j) =
      (outsAt0 m c ((pt 3).val - 1) (Nat.lt_of_le_of_lt (Nat.sub_le _ _) (pt 3).isLt)).2 (ix2 r j) + ∑ t : Fin 1024, term H Y r j (tok 3 t) := by
    rw [last c (pt 3) m (by decide) (by decide), pay3]
    exact adds c m H Y r j 3 h0 h1 _
  have e0 : (outsAt0 m c (pt 0).val (pt 0).isLt).2 (ix2 r j) = ∑ t : Fin 1024, term H Y r j (tok 0 t) := by
    rw [first c (pt 0) m (by decide) (by decide)]
    exact (adds c m H Y r j 0 h0 h1 _).trans (by rw [pay1, zero_add])
  refine e3.trans (congrArg₂ (· + ·) ?_ rfl)
  refine (next_apply c m H Y r j 2 h0 h1 (by decide) (by decide)).trans (congrArg₂ (· + ·) ?_ rfl)
  exact (next_apply c m H Y r j 1 h0 h1 (by decide) (by decide)).trans (congrArg₂ (· + ·) e0 rfl)

open Cert.GradDilRefIdeal.Read in
theorem reference : val_main_v7 (F := Ideal) H Y (ix2 r j) = ∑ k : Fin 4096, H (ix2 r k) * Y (ix2 k j) := by
  pointwise [val_main_v7, val_main_v6, val_main_v5, val_main_v4, val_main_v1, val_main_v0]
  exact Finset.sum_congr rfl fun k _ => mul_comm _ _

open Cert.GradDilRefIdeal.Read in
theorem eq (h0 : V m c main_arg0 = H) (h1 : V m c main_arg1 = Y) : Value.G2 m c = val_main_v7 (F := Ideal) H Y :=
  ext2 _ _ fun r j => (array c m H Y r j h0 h1).trans (reference H Y r j).symm
end Cert.Grad.Dil
-- ==== Proof.Grad.Mq.lean ====
/-
  The weight gradient of the memory attention's queries: one product, summed over four tiles of tokens.
-/
module

public import proofs.«01_k».proof.Proof.Grad.Sum
public import proofs.«01_k».proof.Proof.Gen.GradMqIdeal.Value
public import proofs.«01_k».proof.Proof.Gen.GradMqRefIdeal.Read
import Idealize.ShloMosaic.Lib.Pipeline.ReadBack

@[expose] public section
set_option maxRecDepth 65536
noncomputable section
namespace Cert.Grad.Mq
open Cert.GradMqIdeal Cert.GradMqIdeal.Gen Idealize.ShloMosaic Idealize.ShloMosaic.TcCoe Idealize.SL.Sem
open Idealize.ShloMosaic.Pointwise

theorem pay1 (a : Fin 1024) (b : Fin 512) : k0_pay1 (F := Ideal) (ix2 a b) = 0 := by
  pointwise [k0_pay1]
theorem pay2 (X A Y) (a : Fin 1024) (b : Fin 512) : k0_pay2 (F := Ideal) X A Y (ix2 a b) = A (ix2 a b) + ∑ t : Fin 1024, X (ix2 a t) * Y (ix2 t b) := by
  pointwise [k0_pay2]
theorem pay3 (A) (a : Fin 1024) (b : Fin 512) : k0_pay3 (F := Ideal) A (ix2 a b) = A (ix2 a b) := by
  pointwise [k0_pay3]

/-- The grid's point for tile `n`. -/
def pt (n : Fin 4) : Fin cfg0.N := (⟨n.val, by omega⟩ : Fin 4)
theorem idx0 (n : Fin 4) : win0_0.index (pt n) = ![0, n.val] := by revert n; decide +kernel
theorem idx1 (n : Fin 4) : win0_1.index (pt n) = ![n.val, 0] := by revert n; decide +kernel
theorem rd0 (A : FVec Ideal S1024x4096 .bf16) (n : Fin 4) (r t : Fin 1024) :
    ((cfg0.win 0).blk (pt n)).view.read (Elt Ideal) A (ix2 r t) = A (ix2 r (tok n t)) := by
  unfold tok
  blk_ext [idx0 n]
theorem rd1 (A : FVec Ideal S4096x512 .bf16) (n : Fin 4) (t : Fin 1024) (j : Fin 512) :
    ((cfg0.win 1).blk (pt n)).view.read (Elt Ideal) A (ix2 t j) = A (ix2 (tok n t) j) := by
  unfold tok
  blk_ext [idx1 n]

variable (c : Dev nD) (t : Fin cfg0.N) (m : (ℓ : Loc nD τ sig) → Buf (Elt Ideal) ℓ)
variable (H : FVec Ideal S1024x4096 .bf16) (Y : FVec Ideal S4096x512 .bf16) (r : Fin 1024) (j : Fin 512)

/-- One token's part of an entry. -/
def term (k : Fin 4096) : EReal := H (ix2 r k) * Y (ix2 k j)

theorem adds (n : Fin 4) (h0 : V m c main_arg0 = H) (h1 : V m c main_arg1 = Y) (A) :
    k0_pay2 (F := Ideal) (iblk m c 0 (pt n)) A (iblk m c 1 (pt n)) (ix2 r j) = A (ix2 r j) + ∑ t : Fin 1024, term H Y r j (tok n t) := by
  subst h0 h1
  rw [pay2]
  exact congrArg (_ + ·) (Finset.sum_congr rfl fun t _ => congrArg₂ (fun a b : EReal => a * b) (rd0 (V m c main_arg0) n r t) (rd1 (V m c main_arg1) n t j))

theorem first (h0 : t.val % 4 = 0) (h1 : ¬t.val % 4 = 3) :
    (outsAt0 m c t.val t.isLt).2 = k0_pay2 (F := Ideal) (iblk m c 0 t) (k0_pay1 (F := Ideal)) (iblk m c 1 t) := by
  rw [outsAt0_A m c t h0 h1]
  dsimp only
  unfold sout0_A_0
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
theorem next (h0 : ¬t.val % 4 = 0) (h1 : ¬t.val % 4 = 3) :
    (outsAt0 m c t.val t.isLt).2 = k0_pay2 (F := Ideal) (iblk m c 0 t) (outsAt0 m c (t.val - 1) (Nat.lt_of_le_of_lt (Nat.sub_le _ _) t.isLt)).2 (iblk m c 1 t) := by
  rw [outsAt0_B m c t h0 h1]
  dsimp only
  unfold sout0_B_0
  rw [View.read_writes_junk_eq_canon]
  unfold kernelRun0_B
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
theorem last (h0 : ¬t.val % 4 = 0) (h1 : t.val % 4 = 3) :
    (outsAt0 m c t.val t.isLt).1 = k0_pay3 (F := Ideal) (k0_pay2 (F := Ideal) (iblk m c 0 t) (outsAt0 m c (t.val - 1) (Nat.lt_of_le_of_lt (Nat.sub_le _ _) t.isLt)).2 (iblk m c 1 t)) := by
  rw [outsAt0_C m c t h0 h1]
  dsimp only
  unfold out0_C_2
  rw [View.read_writes_junk_eq_canon]
  unfold kernelRun0_C
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]

theorem next_apply (n : Fin 4) (h0 : V m c main_arg0 = H) (h1 : V m c main_arg1 = Y) (g0 : ¬(pt n).val % 4 = 0) (g1 : ¬(pt n).val % 4 = 3) :
    (outsAt0 m c (pt n).val (pt n).isLt).2 (ix2 r j) =
      (outsAt0 m c ((pt n).val - 1) (Nat.lt_of_le_of_lt (Nat.sub_le _ _) (pt n).isLt)).2 (ix2 r j) + ∑ t : Fin 1024, term H Y r j (tok n t) := by
  rw [next c (pt n) m g0 g1]
  exact adds c m H Y r j n h0 h1 _

theorem array (h0 : V m c main_arg0 = H) (h1 : V m c main_arg1 = Y) : Value.G2 m c (ix2 r j) = ∑ k : Fin 4096, term H Y r j k := by
  rw [Value.G2_last, ← Value.outsAt0_sweep m c 3 (pt 3).isLt, ← four]
  have e3 : (outsAt0 m c (pt 3).val (pt 3).isLt).1 (ix2 r j) =
      (outsAt0 m c ((pt 3).val - 1) (Nat.lt_of_le_of_lt (Nat.sub_le _ _) (pt 3).isLt)).2 (ix2 r j) + ∑ t : Fin 1024, term H Y r j (tok 3 t) := by
    rw [last c (pt 3) m (by decide) (by decide), pay3]
    exact adds c m H Y r j 3 h0 h1 _
  have e0 : (outsAt0 m c (pt 0).val (pt 0).isLt).2 (ix2 r j) = ∑ t : Fin 1024, term H Y r j (tok 0 t) := by
    rw [first c (pt 0) m (by decide) (by decide)]
    exact (adds c m H Y r j 0 h0 h1 _).trans (by rw [pay1, zero_add])
  refine e3.trans (congrArg₂ (· + ·) ?_ rfl)
  refine (next_apply c m H Y r j 2 h0 h1 (by decide) (by decide)).trans (congrArg₂ (· + ·) ?_ rfl)
  exact (next_apply c m H Y r j 1 h0 h1 (by decide) (by decide)).trans (congrArg₂ (· + ·) e0 rfl)

open Cert.GradMqRefIdeal.Read in
theorem reference : val_main_v7 (F := Ideal) H Y (ix2 r j) = ∑ k : Fin 4096, H (ix2 r k) * Y (ix2 k j) := by
  pointwise [val_main_v7, val_main_v6, val_main_v5, val_main_v4, val_main_v1, val_main_v0]
  exact Finset.sum_congr rfl fun k _ => mul_comm _ _

open Cert.GradMqRefIdeal.Read in
theorem eq (h0 : V m c main_arg0 = H) (h1 : V m c main_arg1 = Y) : Value.G2 m c = val_main_v7 (F := Ideal) H Y :=
  ext2 _ _ fun r j => (array c m H Y r j h0 h1).trans (reference H Y r j).symm
end Cert.Grad.Mq
-- ==== Proof.Mem.Tile.lean ====
/-
  One tile of queries of the backward pass of the memory attention, at an index, over the extended reals.

  A grid point of the kernel has one head of one sequence: 256 keys `K`, 256 values `W` (both of 128 features), and 2048 queries in
  eight tiles of 256. This module says what one tile adds: the weights `p`, the score gradients `ds`, and the three products.
-/
module

public import proofs.«01_k».proof.Proof.Gen.MemBwdIdeal.Frame
public import Idealize.ShloMosaic.Lib.Pointwise

@[expose] public section
set_option maxRecDepth 65536
noncomputable section
namespace Cert.Mem
open Cert.MemBwdIdeal Cert.MemBwdIdeal.Gen Idealize.ShloMosaic Idealize.ShloMosaic.TcCoe
open Idealize.ShloMosaic.Pointwise

/-- The scale of the scores, as the constant that both programs hold. -/
def scl : EReal := Ideal.ofBits .f32 0x3DB504F3#32

abbrev Rows (φ : FTy) := FVec Ideal S1x256x128 φ
abbrev Plane (φ : FTy) := FVec Ideal S256x256 φ
abbrev Cols (φ : FTy) := FVec Ideal S1x128x256 φ

/-- The queries of a tile with the features in front. -/
def qT (Q : Rows .f32) : Cols .bf16 := k0_pay13 (k0_pay12 Q)
/-- The keys with the features in front. -/
def kT (K : Rows .f32) : Cols .bf16 := k0_pay17 K
/-- The output gradient of a tile with the features in front. -/
def doT (D : Rows .bf16) : Cols .bf16 := k0_pay58 (k0_pay56 (F := Ideal) D)
/-- The scaled scores of a tile, keys by queries. -/
def raw (K Q : Rows .f32) : Plane .f32 := k0_pay124 (k0_pay15 (F := Ideal) K) (qT Q)
/-- The weights of a tile from the saved log sum of exponentials. -/
def wgt (K Q : Rows .f32) (L : FVec Ideal S1x1x1x256 .f32) : Plane .f32 := k0_pay130 (raw K Q) L
/-- The gradient of the score of a tile. -/
def dsc (K W Q : Rows .f32) (D : Rows .bf16) (O : Rows .f32) (L : FVec Ideal S1x1x1x256 .f32) : Plane .bf16 :=
  k0_pay134 (k0_pay131 (raw K Q) L (k0_pay125 (F := Ideal) (k0_pay16 (F := Ideal) W) (doT D)) (k0_pay59 (F := Ideal) (k0_pay56 (F := Ideal) D) O)) k0_pay132
/-- The weights as the products read them. -/
def wgtB (K Q : Rows .f32) (L : FVec Ideal S1x1x1x256 .f32) : Plane .bf16 := k0_pay133 (wgt K Q L)
/-- One step of an accumulator of the keys: the tile's columns by the plane, summed over the tile's queries. -/
def stp (A : Cols .f32) (X : Cols .bf16) (P : Plane .bf16) : Cols .f32 := k0_pay136 A X P
/-- The query gradient of a tile. -/
def dqt (X : Cols .bf16) (P : Plane .bf16) : Rows .bf16 := k0_pay137 X P

/-- A lane of the first 128 is at or above lane zero, so the mask of the lanes keeps it. -/
theorem lane_mask {α : Type} (e : Fin 128) (x y : α) : Scalar.select (IntOp.cmpi CmpIPredicate.sge (BitVec.ofNat 32 e.val) 0#32) x y = x := by
  have h : IntOp.cmpi CmpIPredicate.sge (BitVec.ofNat 32 e.val) 0#32 = 1#1 := by revert e; decide +kernel
  rw [h]; rfl

theorem qT_apply (Q : Rows .f32) (e : Fin 128) (t : Fin 256) : qT Q (ix3 0 e t) = Q (ix3 0 t e) := by
  pointwise [qT, k0_pay13, k0_pay12, lane_mask]
theorem kT_apply (K : Rows .f32) (e : Fin 128) (t : Fin 256) : kT K (ix3 0 e t) = K (ix3 0 t e) := by
  pointwise [kT, k0_pay17, k0_pay14]
theorem doT_apply (D : Rows .bf16) (e : Fin 128) (t : Fin 256) : doT D (ix3 0 e t) = D (ix3 0 t e) := by
  pointwise [doT, k0_pay58, k0_pay56, k0_pay57, lane_mask]
theorem raw_apply (K Q : Rows .f32) (s t : Fin 256) : raw K Q (ix2 s t) = (∑ e : Fin 128, K (ix3 0 s e) * Q (ix3 0 t e)) * scl := by
  pointwise [raw, k0_pay124, k0_pay15, k0_pay14]
  simp only [qT_apply]
  rfl
theorem wgt_apply (K Q : Rows .f32) (L) (s t : Fin 256) : wgt K Q L (ix2 s t) = Ideal.exp (raw K Q (ix2 s t) - L (ix4 0 0 0 t)) := by
  pointwise [wgt, k0_pay130]
theorem wgtB_apply (K Q : Rows .f32) (L) (s t : Fin 256) : wgtB K Q L (ix2 s t) = wgt K Q L (ix2 s t) := by
  pointwise [wgtB, k0_pay133]
theorem delta_apply (D : Rows .bf16) (O : Rows .f32) (t : Fin 256) : k0_pay59 (F := Ideal) (k0_pay56 (F := Ideal) D) O (ix2 0 t) = ∑ e : Fin 128, D (ix3 0 t e) * O (ix3 0 t e) := by
  pointwise [k0_pay59, k0_pay56, k0_pay57]
  simp only [lane_mask]
theorem dsc_apply (K W Q : Rows .f32) (D O L) (s t : Fin 256) :
    dsc K W Q D O L (ix2 s t) = wgt K Q L (ix2 s t) * ((∑ e : Fin 128, W (ix3 0 s e) * D (ix3 0 t e)) - ∑ e : Fin 128, D (ix3 0 t e) * O (ix3 0 t e)) * scl := by
  pointwise [dsc, k0_pay134, k0_pay132, k0_pay131, k0_pay125, k0_pay16]
  simp only [doT_apply]
  rw [← delta_apply]
  rfl
theorem stp_apply (A : Cols .f32) (X : Cols .bf16) (P : Plane .bf16) (e : Fin 128) (s : Fin 256) :
    stp A X P (ix3 0 e s) = A (ix3 0 e s) + ∑ t : Fin 256, X (ix3 0 e t) * P (ix2 s t) := by
  pointwise [stp, k0_pay136]
theorem dqt_apply (X : Cols .bf16) (P : Plane .bf16) (e : Fin 128) (t : Fin 256) :
    dqt X P (ix3 0 t e) = ∑ s : Fin 256, X (ix3 0 e s) * P (ix2 s t) := by
  pointwise [dqt, k0_pay137]
end Cert.Mem
-- ==== Proof.Mem.Block.lean ====
/-
  What one grid point of the memory attention's backward pass leaves in its three blocks.
-/
module

public import proofs.«01_k».proof.Proof.Mem.Tile
public import Idealize.ShloMosaic.Lib.Pipeline.ValueKit
import Idealize.ShloMosaic.Lib.Pipeline.ReadBack

@[expose] public section
set_option maxRecDepth 65536
set_option maxHeartbeats 4000000
noncomputable section
namespace Cert.Mem
open Cert.MemBwdIdeal Cert.MemBwdIdeal.Gen Idealize.ShloMosaic Idealize.ShloMosaic.TcCoe Idealize.SL.Sem
open Idealize.ShloMosaic.Pipeline (Dat)
open Idealize.ShloMosaic.Pointwise

theorem row_in (n : Fin 8) : ∀ a, (![0, 256 * n.val, 0] : Fin 3 → Nat) a + (![1, 256, 128] : Fin 3 → Nat) a ≤ S1x2048x128.size a := by
  revert n; decide +kernel
theorem lse_in (n : Fin 8) : ∀ a, (![0, 0, n.val, 0] : Fin 4 → Nat) a + (![1, 1, 1, 256] : Fin 4 → Nat) a ≤ S1x1x8x256.size a := by
  revert n; decide +kernel

/-- The rows of tile `n` of a block of 2048 rows. -/
def rows {φ : EltTy} (X : Vec Ideal S1x2048x128 φ) (n : Fin 8) : Vec Ideal S1x256x128 φ :=
  View.ld X (Rect.unit ![0, 256 * n.val, 0] ![1, 256, 128] (row_in n))
/-- The saved log sums of tile `n`. -/
def lse (X : Vec Ideal S1x1x8x256 .f32) (n : Fin 8) : Vec Ideal S1x1x1x256 .f32 :=
  View.ld X (Rect.unit ![0, 0, n.val, 0] ![1, 1, 1, 256] (lse_in n))

/-- Row `256 n + t`. -/
def row (n : Fin 8) (t : Fin 256) : Fin 2048 := ⟨256 * n.val + t.val, by omega⟩

theorem rows_apply {φ : EltTy} (X : Vec Ideal S1x2048x128 φ) (n : Fin 8) (t : Fin 256) (e : Fin 128) :
    rows X n (ix3 0 t e) = X (ix3 0 (row n t) e) := by
  refine View.ld_unit_apply_of _ _ _ _ _ _ fun a => ?_
  fin_cases a <;> simp [row]
theorem lse_apply (X : Vec Ideal S1x1x8x256 .f32) (n : Fin 8) (t : Fin 256) : lse X n (ix4 0 0 0 t) = X (ix4 0 0 n t) := by
  refine View.ld_unit_apply_of _ _ _ _ _ _ fun a => ?_
  fin_cases a <;> simp

/-- An accumulator after the eight tiles. -/
def acc8 (X : Fin 8 → Cols .bf16) (P : Fin 8 → Plane .bf16) : Cols .f32 :=
  stp (stp (stp (stp (stp (stp (stp (stp (k0_pay60 (F := Ideal)) (X 0) (P 0)) (X 1) (P 1)) (X 2) (P 2)) (X 3) (P 3)) (X 4) (P 4)) (X 5) (P 5)) (X 6) (P 6)) (X 7) (P 7)

/-- An accumulator as the rows of a result block. -/
def outRows (A : Cols .f32) : Rows .bf16 := shapeCast S1x256x128 (truncf .bf16 (k0_pay138 (F := Ideal) A) bitsLt_bf16_f32) shapeCasts_S256x128_S1x256x128

variable (m : (ℓ : Loc nD τ sig) → Buf (Elt Ideal) ℓ)

section
variable (X0 : Vec Ideal S1x2048x128 .f32) (X1 X2 : Vec Ideal S1x256x128 .f32) (X3 : Vec Ideal S1x2048x128 .bf16) (X4 : Vec Ideal S1x2048x128 .f32)
  (X5 : Vec Ideal S1x1x8x256 .f32)
/-- The score gradients of tile `n` from the point's blocks. -/
def dsN (n : Fin 8) : Plane .bf16 := dsc X1 X2 (rows X0 n) (rows X3 n) (rows X4 n) (lse X5 n)
/-- The weights of tile `n` from the point's blocks. -/
def wgtN (n : Fin 8) : Plane .bf16 := wgtB X1 (rows X0 n) (lse X5 n)
end

theorem acc8_apply (X : Fin 8 → Cols .bf16) (P : Fin 8 → Plane .bf16) (e : Fin 128) (s : Fin 256) :
    acc8 X P (ix3 0 e s) = ∑ n : Fin 8, ∑ t : Fin 256, X n (ix3 0 e t) * P n (ix2 s t) := by
  have z : k0_pay60 (F := Ideal) (ix3 0 e s) = 0 := by pointwise [k0_pay60]
  simp only [acc8, stp_apply, z, zero_add, Fin.sum_univ_eight]

theorem outRows_apply (A : Cols .f32) (s : Fin 256) (e : Fin 128) : outRows A (ix3 0 s e) = A (ix3 0 e s) := by
  pointwise [outRows, k0_pay138]

/-- The query tiles of a block, read at a row. -/
theorem tiles_apply (P : Fin 8 → Rows .bf16) (n : Fin 8) (t : Fin 256) (e : Fin 128) :
    View.canon (List.ofFn fun k : Fin 8 => (⟨Rect.unit ![0, 256 * (k.rev).val, 0] ![1, 256, 128] (row_in k.rev), P k.rev⟩ :
      View.Piece (Elt Ideal) S1x2048x128 .bf16)) (ix3 0 (row n t) e) = P n (ix3 0 t e) := by
  refine View.canon_ofFn_unit_eq_of_forall (Val := Elt Ideal) (S := S1x2048x128) (e := .bf16) (fun k : Fin 8 => ![0, 256 * (k.rev).val, 0]) ![1, 256, 128] (fun k => row_in k.rev) (fun k => P k.rev) _ _
    ⟨n.rev, fun a => ?_⟩ ?_
  · fin_cases a <;> simp [row]
  · intro k x hx
    have h1 := hx 1
    have h2 := hx 2
    have x1 := (x 1).isLt
    have x0 := (x 0).isLt
    simp [row] at h1 h2 x1 x0
    have hk : k.rev = n := by ext; simp only [Fin.val_rev]; omega
    rw [hk]
    congr 1
    funext a
    fin_cases a
    · ext; simpa using x0
    · ext; simp; have := congrArg Fin.val hk; simp at this; omega
    · ext; simpa using h2.symm

theorem dk_block (c : Dev nD) (t : Fin cfg0.N) (X0 X1 X2 X3 X4 X5) (h0 : iblk m c 0 t = X0) (h1 : iblk m c 1 t = X1) (h2 : iblk m c 2 t = X2)
    (h3 : iblk m c 3 t = X3) (h4 : iblk m c 4 t = X4) (h5 : iblk m c 5 t = X5) :
    (outsAt0 (F := Ideal) m c t).2.1 = outRows (acc8 (fun n => qT (rows X0 n)) (dsN X0 X1 X2 X3 X4 X5)) := by
  unfold outsAt0
  dsimp only
  rw [h0, h1, h2, h3, h4, h5]
  unfold out0_A_7
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.ld_unit_lit', View.canon_cons_unit_lit', View.readCov_cons_toLoadRect]
  rfl

theorem dv_block (c : Dev nD) (t : Fin cfg0.N) (X0 X1 X2 X3 X4 X5) (h0 : iblk m c 0 t = X0) (h1 : iblk m c 1 t = X1) (h2 : iblk m c 2 t = X2)
    (h3 : iblk m c 3 t = X3) (h4 : iblk m c 4 t = X4) (h5 : iblk m c 5 t = X5) :
    (outsAt0 (F := Ideal) m c t).2.2 = outRows (acc8 (fun n => doT (rows X3 n)) (wgtN X0 X1 X5)) := by
  unfold outsAt0
  dsimp only
  rw [h0, h1, h2, h3, h4, h5]
  unfold out0_A_8
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.ld_unit_lit', View.canon_cons_unit_lit', View.readCov_cons_toLoadRect]
  rfl

theorem dq_block (c : Dev nD) (t : Fin cfg0.N) (X0 X1 X2 X3 X4 X5) (h0 : iblk m c 0 t = X0) (h1 : iblk m c 1 t = X1) (h2 : iblk m c 2 t = X2)
    (h3 : iblk m c 3 t = X3) (h4 : iblk m c 4 t = X4) (h5 : iblk m c 5 t = X5) :
    (outsAt0 (F := Ideal) m c t).1 = View.canon (List.ofFn fun k : Fin 8 => (⟨Rect.unit ![0, 256 * (k.rev).val, 0] ![1, 256, 128] (row_in k.rev),
      dqt (kT X1) (dsN X0 X1 X2 X3 X4 X5 k.rev)⟩ : View.Piece (Elt Ideal) S1x2048x128 .bf16)) := by
  unfold outsAt0
  dsimp only
  rw [h0, h1, h2, h3, h4, h5]
  unfold out0_A_6
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.ld_unit_lit', View.canon_cons_unit_lit', View.readCov_cons_toLoadRect]
  rfl

end Cert.Mem
-- ==== Proof.Mem.Array.lean ====
/-
  The three arrays that the memory attention's backward pass leaves, at an index, from the arrays that the launch finds.
-/
module

public import proofs.«01_k».proof.Proof.Mem.Block
public import proofs.«01_k».proof.Proof.Gen.MemBwdIdeal.Value

@[expose] public section
set_option maxRecDepth 65536
noncomputable section
namespace Cert.Mem
open Cert.MemBwdIdeal Cert.MemBwdIdeal.Gen Idealize.ShloMosaic Idealize.ShloMosaic.TcCoe Idealize.SL.Sem
open Idealize.ShloMosaic.Pipeline (Dat)
open Idealize.ShloMosaic.Pointwise

variable (m : (ℓ : Loc nD τ sig) → Buf (Elt Ideal) ℓ) (c : Dev nD)

/-- Feature `e` of head `h` among the 512 columns of the four heads. -/
def col (h : Fin 4) (e : Fin 128) : Fin 512 := ⟨128 * h.val + e.val, by omega⟩

/-- The grid's point for sequence `b` and head `h`. -/
def pt (b : Fin 2) (h : Fin 4) : Fin cfg0.N := (⟨4 * b.val + h.val, by omega⟩ : Fin 8)

theorem idx0 (b : Fin 2) (h : Fin 4) : win0_0.index (pt b h) = ![b.val, 0, 30 + h.val] := by revert b h; decide +kernel
theorem idx1 (b : Fin 2) (h : Fin 4) : win0_1.index (pt b h) = ![b.val, 0, h.val] := by revert b h; decide +kernel
theorem idx2 (b : Fin 2) (h : Fin 4) : win0_2.index (pt b h) = ![b.val, 0, 4 + h.val] := by revert b h; decide +kernel
theorem idx3 (b : Fin 2) (h : Fin 4) : win0_3.index (pt b h) = ![b.val, 0, h.val] := by revert b h; decide +kernel
theorem idx4 (b : Fin 2) (h : Fin 4) : win0_4.index (pt b h) = ![b.val, 0, h.val] := by revert b h; decide +kernel
theorem idx5 (b : Fin 2) (h : Fin 4) : win0_5.index (pt b h) = ![b.val, h.val, 0, 0] := by revert b h; decide +kernel
theorem idx6 (b : Fin 2) (h : Fin 4) : win0_6.index (pt b h) = ![b.val, 0, h.val] := by revert b h; decide +kernel
theorem idx7 (b : Fin 2) (h : Fin 4) : win0_7.index (pt b h) = ![b.val, 0, h.val] := by revert b h; decide +kernel
theorem idx8 (b : Fin 2) (h : Fin 4) : win0_8.index (pt b h) = ![b.val, 0, h.val] := by revert b h; decide +kernel
theorem flush6 (b : Fin 2) (h : Fin 4) : (cfg0.win 6).flush (pt b h) = true := by revert b h; decide +kernel
theorem flush7 (b : Fin 2) (h : Fin 4) : (cfg0.win 7).flush (pt b h) = true := by revert b h; decide +kernel
theorem flush8 (b : Fin 2) (h : Fin 4) : (cfg0.win 8).flush (pt b h) = true := by revert b h; decide +kernel

/-- The queries of head `h`, as the launch finds them among the projected columns. -/
def kq (b : Fin 2) (h : Fin 4) (t : Fin 2048) (e : Fin 128) : EReal := V m c main_v0 (ix3 b t (⟨3840 + 128 * h.val + e.val, by omega⟩ : Fin 5120))
/-- The keys of head `h`. -/
def kk (b : Fin 2) (h : Fin 4) (s : Fin 256) (e : Fin 128) : EReal := V m c main_arg1 (ix3 b s (⟨128 * h.val + e.val, by omega⟩ : Fin 1024))
/-- The values of head `h`. -/
def kv (b : Fin 2) (h : Fin 4) (s : Fin 256) (e : Fin 128) : EReal := V m c main_arg1 (ix3 b s (⟨512 + 128 * h.val + e.val, by omega⟩ : Fin 1024))
/-- The output gradient of head `h`. -/
def kd (b : Fin 2) (h : Fin 4) (t : Fin 2048) (e : Fin 128) : EReal := V m c main_arg2 (ix3 b t (col h e))
/-- The saved output of head `h`. -/
def ko (b : Fin 2) (h : Fin 4) (t : Fin 2048) (e : Fin 128) : EReal := V m c main_v22 (ix3 b t (col h e))
/-- The saved log sum of exponentials of head `h`, in tiles of 256 queries. -/
def kl (b : Fin 2) (h : Fin 4) (n : Fin 8) (t : Fin 256) : EReal := V m c main_v36 (ix4 b h n t)

theorem rd0 (A : FVec Ideal S2x2048x5120 .f32) (b : Fin 2) (h : Fin 4) (t : Fin 2048) (e : Fin 128) :
    ((cfg0.win 0).blk (pt b h)).view.read (Elt Ideal) A (ix3 0 t e) = A (ix3 b t (⟨3840 + 128 * h.val + e.val, by omega⟩ : Fin 5120)) := by
  blk_ext [idx0 b h]
theorem blk0 (b : Fin 2) (h : Fin 4) (t : Fin 2048) (e : Fin 128) : iblk m c 0 (pt b h) (ix3 0 t e) = kq m c b h t e :=
  rd0 (V m c main_v0) b h t e
theorem rd1 (A : FVec Ideal S2x256x1024 .f32) (b : Fin 2) (h : Fin 4) (t : Fin 256) (e : Fin 128) :
    ((cfg0.win 1).blk (pt b h)).view.read (Elt Ideal) A (ix3 0 t e) = A (ix3 b t (⟨128 * h.val + e.val, by omega⟩ : Fin 1024)) := by
  blk_ext [idx1 b h]
theorem blk1 (b : Fin 2) (h : Fin 4) (t : Fin 256) (e : Fin 128) : iblk m c 1 (pt b h) (ix3 0 t e) = kk m c b h t e :=
  rd1 (V m c main_arg1) b h t e
theorem rd2 (A : FVec Ideal S2x256x1024 .f32) (b : Fin 2) (h : Fin 4) (t : Fin 256) (e : Fin 128) :
    ((cfg0.win 2).blk (pt b h)).view.read (Elt Ideal) A (ix3 0 t e) = A (ix3 b t (⟨512 + 128 * h.val + e.val, by omega⟩ : Fin 1024)) := by
  blk_ext [idx2 b h]
theorem blk2 (b : Fin 2) (h : Fin 4) (t : Fin 256) (e : Fin 128) : iblk m c 2 (pt b h) (ix3 0 t e) = kv m c b h t e :=
  rd2 (V m c main_arg1) b h t e
theorem rd3 (A : FVec Ideal S2x2048x512 .bf16) (b : Fin 2) (h : Fin 4) (t : Fin 2048) (e : Fin 128) :
    ((cfg0.win 3).blk (pt b h)).view.read (Elt Ideal) A (ix3 0 t e) = A (ix3 b t (col h e)) := by
  unfold col
  blk_ext [idx3 b h]
theorem blk3 (b : Fin 2) (h : Fin 4) (t : Fin 2048) (e : Fin 128) : iblk m c 3 (pt b h) (ix3 0 t e) = kd m c b h t e :=
  rd3 (V m c main_arg2) b h t e
theorem rd4 (A : FVec Ideal S2x2048x512 .f32) (b : Fin 2) (h : Fin 4) (t : Fin 2048) (e : Fin 128) :
    ((cfg0.win 4).blk (pt b h)).view.read (Elt Ideal) A (ix3 0 t e) = A (ix3 b t (col h e)) := by
  unfold col
  blk_ext [idx4 b h]
theorem blk4 (b : Fin 2) (h : Fin 4) (t : Fin 2048) (e : Fin 128) : iblk m c 4 (pt b h) (ix3 0 t e) = ko m c b h t e :=
  rd4 (V m c main_v22) b h t e
theorem rd5 (A : FVec Ideal S2x4x8x256 .f32) (b : Fin 2) (h : Fin 4) (n : Fin 8) (t : Fin 256) :
    ((cfg0.win 5).blk (pt b h)).view.read (Elt Ideal) A (ix4 0 0 n t) = A (ix4 b h n t) := by
  blk_ext [idx5 b h]
theorem blk5 (b : Fin 2) (h : Fin 4) (n : Fin 8) (t : Fin 256) : iblk m c 5 (pt b h) (ix4 0 0 n t) = kl m c b h n t :=
  rd5 (V m c main_v36) b h n t

/-- The weight of key `s` for query `256 n + t`. -/
def kp (b : Fin 2) (h : Fin 4) (n : Fin 8) (t s : Fin 256) : EReal :=
  Ideal.exp ((∑ e : Fin 128, kk m c b h s e * kq m c b h (row n t) e) * scl - kl m c b h n t)
/-- The gradient of the score of key `s` for query `256 n + t`. -/
def kds (b : Fin 2) (h : Fin 4) (n : Fin 8) (t s : Fin 256) : EReal :=
  kp m c b h n t s * ((∑ e : Fin 128, kv m c b h s e * kd m c b h (row n t) e) - ∑ e : Fin 128, kd m c b h (row n t) e * ko m c b h (row n t) e) * scl

theorem wgtN_apply (b : Fin 2) (h : Fin 4) (n : Fin 8) (t s : Fin 256) :
    wgtN (iblk m c 0 (pt b h)) (iblk m c 1 (pt b h)) (iblk m c 5 (pt b h)) n (ix2 s t) = kp m c b h n t s := by
  simp only [wgtN, wgtB_apply, wgt_apply, raw_apply, rows_apply, lse_apply, blk0, blk1, blk5, kp]
theorem dsN_apply (b : Fin 2) (h : Fin 4) (n : Fin 8) (t s : Fin 256) :
    dsN (iblk m c 0 (pt b h)) (iblk m c 1 (pt b h)) (iblk m c 2 (pt b h)) (iblk m c 3 (pt b h)) (iblk m c 4 (pt b h)) (iblk m c 5 (pt b h)) n (ix2 s t) =
      kds m c b h n t s := by
  simp only [dsN, dsc_apply, wgt_apply, raw_apply, rows_apply, lse_apply, blk0, blk1, blk2, blk3, blk4, blk5, kds, kp]

theorem at6 (b : Fin 2) (h : Fin 4) (t : Fin 2048) (e : Fin 128) :
    (dats m 0 c).arrAt 6 cfg0.N (ix3 b t (col h e)) = (outsAt0 (F := Ideal) m c (pt b h)).1 (ix3 0 t e) := by
  have H := (dats m 0 c).arrAt_emb_eq_flushed 6 (Value.disjoint6) (pt b h) (flush6 b h) (ix3 0 t e)
  rw [Value.flushed6] at H
  have E : ((cfg0.win 6).blk (pt b h)).view.emb (ix3 0 t e) = ix3 b t (col h e) := by
    unfold col
    blk_ext [idx6 b h]
  rw [E] at H
  exact H
theorem at7 (b : Fin 2) (h : Fin 4) (t : Fin 256) (e : Fin 128) :
    (dats m 0 c).arrAt 7 cfg0.N (ix3 b t (col h e)) = (outsAt0 (F := Ideal) m c (pt b h)).2.1 (ix3 0 t e) := by
  have H := (dats m 0 c).arrAt_emb_eq_flushed 7 (Value.disjoint7) (pt b h) (flush7 b h) (ix3 0 t e)
  rw [Value.flushed7] at H
  have E : ((cfg0.win 7).blk (pt b h)).view.emb (ix3 0 t e) = ix3 b t (col h e) := by
    unfold col
    blk_ext [idx7 b h]
  rw [E] at H
  exact H
theorem at8 (b : Fin 2) (h : Fin 4) (t : Fin 256) (e : Fin 128) :
    (dats m 0 c).arrAt 8 cfg0.N (ix3 b t (col h e)) = (outsAt0 (F := Ideal) m c (pt b h)).2.2 (ix3 0 t e) := by
  have H := (dats m 0 c).arrAt_emb_eq_flushed 8 (Value.disjoint8) (pt b h) (flush8 b h) (ix3 0 t e)
  rw [Value.flushed8] at H
  have E : ((cfg0.win 8).blk (pt b h)).view.emb (ix3 0 t e) = ix3 b t (col h e) := by
    unfold col
    blk_ext [idx8 b h]
  rw [E] at H
  exact H

theorem dq_array (b : Fin 2) (h : Fin 4) (n : Fin 8) (t : Fin 256) (e : Fin 128) :
    (dats m 0 c).arrAt 6 cfg0.N (ix3 b (row n t) (col h e)) = ∑ s : Fin 256, kk m c b h s e * kds m c b h n t s := by
  rw [at6, dq_block m c (pt b h) _ _ _ _ _ _ rfl rfl rfl rfl rfl rfl]
  rw [tiles_apply (fun n => dqt (kT (iblk m c 1 (pt b h))) (dsN (iblk m c 0 (pt b h)) (iblk m c 1 (pt b h)) (iblk m c 2 (pt b h)) (iblk m c 3 (pt b h)) (iblk m c 4 (pt b h)) (iblk m c 5 (pt b h)) n))]
  simp only [dqt_apply, kT_apply, dsN_apply, blk1]

theorem dk_array (b : Fin 2) (h : Fin 4) (s : Fin 256) (e : Fin 128) :
    (dats m 0 c).arrAt 7 cfg0.N (ix3 b s (col h e)) = ∑ n : Fin 8, ∑ t : Fin 256, kq m c b h (row n t) e * kds m c b h n t s := by
  rw [at7, dk_block m c (pt b h) _ _ _ _ _ _ rfl rfl rfl rfl rfl rfl, outRows_apply, acc8_apply]
  simp only [qT_apply, rows_apply, dsN_apply, blk0]

theorem dv_array (b : Fin 2) (h : Fin 4) (s : Fin 256) (e : Fin 128) :
    (dats m 0 c).arrAt 8 cfg0.N (ix3 b s (col h e)) = ∑ n : Fin 8, ∑ t : Fin 256, kd m c b h (row n t) e * kp m c b h n t s := by
  rw [at8, dv_block m c (pt b h) _ _ _ _ _ _ rfl rfl rfl rfl rfl rfl, outRows_apply, acc8_apply]
  simp only [doT_apply, rows_apply, wgtN_apply, blk3]
end Cert.Mem
-- ==== Proof.Mem.Host.lean ====
/-
  What the host lines before the memory attention's backward pass compute: the queries among the projected columns, the saved output and the saved log sums.
-/
module

public import proofs.«01_k».proof.Proof.Mem.Array
public import Idealize.ShloMosaic.Lib.StableHlo.ReadAt

@[expose] public section
set_option maxRecDepth 65536
set_option maxHeartbeats 4000000
noncomputable section
namespace Cert.Mem
open Cert.MemBwdIdeal Cert.MemBwdIdeal.Gen Idealize.ShloMosaic Idealize.ShloMosaic.TcCoe Idealize.SL.Sem
open Idealize.ShloMosaic.Pointwise

variable (m : (ℓ : Loc nD τ sig) → Buf (Elt Ideal) ℓ) (c : Dev nD)

section
variable (x0 : FVec Ideal S2x2048x512 .f32) (x1 : FVec Ideal S2x256x1024 .f32)
/-- The queries among the projected columns. -/
def hQ : FVec Ideal S2x2048x5120 .f32 :=
  pad S2x2048x5120 ![0, 0, 3840] ![0, 0, 768] ![0, 0, 0] x0 (sitofp (F := Ideal) .f32 (constantI S_ 32 0#32)) pads_S2x2048x512_S2x2048x5120_000_000_38407680 h_S_
/-- The keys by heads. -/
def hK : FVec Ideal S2x256x4x128 .f32 :=
  shapeCast S2x256x4x128 (extractStridedSlice S2x256x512 ![0, 0, 0] x1 slices_S2x256x1024_S2x256x512_0_0_0) shapeCasts_S2x256x512_S2x256x4x128
/-- The values by heads. -/
def hW : FVec Ideal S2x256x4x128 .f32 :=
  shapeCast S2x256x4x128 (extractStridedSlice S2x256x512 ![0, 0, 512] x1 slices_S2x256x1024_S2x256x512_0_0_512) shapeCasts_S2x256x512_S2x256x4x128
/-- The scaled scores. -/
def hS : FVec Ideal S2x4x2048x256 .f32 :=
  mulf (Host.dotGeneral dot_S2x2048x4x128_S2x256x4x128_S2x4x2048x256_3_3_1_1_02_02 none (shapeCast S2x2048x4x128 x0 shapeCasts_S2x2048x512_S2x2048x4x128) (hK x1))
    (broadcastInDim S2x4x2048x256 ![] bcast_S_S2x4x2048x256 (constant S_ .f32 0x3DB504F3#32))
/-- The largest score of each query. -/
def hM (Sc : FVec Ideal S2x4x2048x256 .f32) : FVec Ideal S2x4x2048 .f32 :=
  Host.reduce FloatOps.maximumf Sc (constant S_ .f32 0xFF800000#32) reducesTo_S2x4x2048x256_S2x4x2048_d3 h_S_
/-- The exponentials of the scores less `M`. -/
def hE (Sc : FVec Ideal S2x4x2048x256 .f32) (M : FVec Ideal S2x4x2048 .f32) : FVec Ideal S2x4x2048x256 .f32 :=
  Host.exp (subf Sc (broadcastInDim S2x4x2048x256 ![0, 1, 2, 3] bcast_S2x4x2048x1_S2x4x2048x256_0_1_2_3
    (broadcastInDim S2x4x2048x1 ![0, 1, 2] bcast_S2x4x2048_S2x4x2048x1_0_1_2 M)))
/-- The sums of the exponentials. -/
def hD (E : FVec Ideal S2x4x2048x256 .f32) : FVec Ideal S2x4x2048 .f32 :=
  Host.reduceAdd E (constant S_ .f32 0x00000000#32) reducesTo_S2x4x2048x256_S2x4x2048_d3 h_S_
/-- The weights from the exponentials. -/
def hP (E : FVec Ideal S2x4x2048x256 .f32) : FVec Ideal S2x4x2048x256 .f32 :=
  Host.divf E (broadcastInDim S2x4x2048x256 ![0, 1, 2, 3] bcast_S2x4x2048x1_S2x4x2048x256_0_1_2_3
    (broadcastInDim S2x4x2048x1 ![0, 1, 2] bcast_S2x4x2048_S2x4x2048x1_0_1_2 (hD E)))
/-- The saved output from the weights. -/
def hO (P : FVec Ideal S2x4x2048x256 .f32) : FVec Ideal S2x2048x512 .f32 :=
  shapeCast S2x2048x512 (transpose S2x2048x4x128 [0, 3, 1, 2] (Host.dotGeneral dot_S2x256x4x128_S2x4x2048x256_S2x4x128x2048_1_3_3_2_02_01 none (hW x1) P)
    transposes_S2x4x128x2048_S2x2048x4x128_0_3_1_2) shapeCasts_S2x2048x4x128_S2x2048x512
/-- The logs of the sums of exponentials, from the largest scores and the sums. -/
def hL (M D : FVec Ideal S2x4x2048 .f32) : FVec Ideal S2x4x8x256 .f32 :=
  shapeCast S2x4x8x256 (addf M (Host.log D)) shapeCasts_S2x4x2048_S2x4x8x256
/-- The largest score as the weights take it. -/
def hM' (M : FVec Ideal S2x4x2048 .f32) : FVec Ideal S2x4x2048 .f32 :=
  maximumf (broadcastInDim S2x4x2048 ![] bcast_S_S2x4x2048 (constant S_ .f32 0xFF800000#32)) M
end

theorem V_v0 : V m c main_v0 = hQ (m (c, main_arg0)) := by
  unfold V
  after_reads_simp
  simp -implicitDefEqProofs only [StableHlo.TRef.toBuf, StableHlo.TRef.ofBuf, cast_cast, cast_eq]
  rfl
theorem V_v22 : V m c main_v22 = hO (m (c, main_arg1))
    (hP (hE (hS (m (c, main_arg0)) (m (c, main_arg1))) (hM' (hM (hS (m (c, main_arg0)) (m (c, main_arg1))))))) := by
  unfold V
  after_reads_simp
  rfl
theorem V_v36 : V m c main_v36 = hL (hM (hS (m (c, main_arg0)) (m (c, main_arg1))))
    (hD (hE (hS (m (c, main_arg0)) (m (c, main_arg1))) (hM (hS (m (c, main_arg0)) (m (c, main_arg1)))))) := by
  unfold V
  after_reads_simp
  rfl
end Cert.Mem
-- ==== Proof.Mem.HostAt.lean ====
/-
  The host lines' arrays at an index.
-/
module

public import proofs.«01_k».proof.Proof.Mem.Host

@[expose] public section
set_option maxRecDepth 65536
set_option maxHeartbeats 4000000
noncomputable section
namespace Cert.Mem
open Cert.MemBwdIdeal Cert.MemBwdIdeal.Gen Idealize.ShloMosaic Idealize.ShloMosaic.TcCoe Idealize.SL.Sem
open Idealize.ShloMosaic.Pointwise

section
variable (x0 : FVec Ideal S2x2048x512 .f32) (x1 : FVec Ideal S2x256x1024 .f32)
variable (Sc E P : FVec Ideal S2x4x2048x256 .f32) (M D : FVec Ideal S2x4x2048 .f32)

/-- The column of feature `e` of head `h` among the keys, and among the values, of the projected memory. -/
def kcol (h : Fin 4) (e : Fin 128) : Fin 1024 := ⟨128 * h.val + e.val, by omega⟩
def vcol (h : Fin 4) (e : Fin 128) : Fin 1024 := ⟨512 + 128 * h.val + e.val, by omega⟩

theorem hQ_at (b : Fin 2) (t : Fin 2048) (h : Fin 4) (e : Fin 128) :
    hQ x0 (ix3 b t (⟨3840 + 128 * h.val + e.val, by omega⟩ : Fin 5120)) = x0 (ix3 b t (col h e)) := by
  pointwise [hQ]
  rw [dif_pos (by omega)]
  congr 2
  exact Fin.ext (by simp only [col]; omega)
theorem hK_at (b : Fin 2) (s : Fin 256) (h : Fin 4) (e : Fin 128) : hK x1 (ix4 b s h e) = x1 (ix3 b s (kcol h e)) := by
  pointwise [hK]
  congr 2
  exact Fin.ext (by simp only [kcol]; omega)
theorem hW_at (b : Fin 2) (s : Fin 256) (h : Fin 4) (e : Fin 128) : hW x1 (ix4 b s h e) = x1 (ix3 b s (vcol h e)) := by
  pointwise [hW]
  congr 2
  exact Fin.ext (by simp only [vcol]; omega)
theorem hS_at (b : Fin 2) (h : Fin 4) (t : Fin 2048) (s : Fin 256) :
    hS x0 x1 (ix4 b h t s) = (∑ e : Fin 128, x0 (ix3 b t (col h e)) * hK x1 (ix4 b s h e)) * scl := by
  pointwise [hS]
  refine congrArg (· * _) (Finset.sum_congr rfl fun e _ => congrArg (x0 · * _) ?_)
  congr 1
  exact Fin.ext (by simp only [col]; omega)
theorem hM_at (b : Fin 2) (h : Fin 4) (t : Fin 2048) :
    hM Sc (ix3 b h t) = Finset.fold max (Ideal.ofBits .f32 0xFF800000#32) (fun s : Fin 256 => Sc (ix4 b h t s)) Finset.univ := by
  pointwise [hM]
theorem hM'_at (b : Fin 2) (h : Fin 4) (t : Fin 2048) : hM' M (ix3 b h t) = max (Ideal.ofBits .f32 0xFF800000#32) (M (ix3 b h t)) := by
  pointwise [hM']
theorem hE_at (b : Fin 2) (h : Fin 4) (t : Fin 2048) (s : Fin 256) : hE Sc M (ix4 b h t s) = Ideal.exp (Sc (ix4 b h t s) - M (ix3 b h t)) := by
  pointwise [hE]
theorem hD_at (b : Fin 2) (h : Fin 4) (t : Fin 2048) : hD E (ix3 b h t) = ∑ s : Fin 256, E (ix4 b h t s) := by
  pointwise [hD]
theorem hP_at (b : Fin 2) (h : Fin 4) (t : Fin 2048) (s : Fin 256) : hP E (ix4 b h t s) = Ideal.div (E (ix4 b h t s)) (hD E (ix3 b h t)) := by
  pointwise [hP]
theorem hO_at (b : Fin 2) (h : Fin 4) (t : Fin 2048) (e : Fin 128) :
    hO x1 P (ix3 b t (col h e)) = ∑ s : Fin 256, hW x1 (ix4 b s h e) * P (ix4 b h t s) := by
  have H : ∀ c : Fin 512, ∀ (c1 : Fin 4) (c2 : Fin 128), c.val / 128 = c1.val → c.val % 128 = c2.val →
      hO x1 P (ix3 b t c) = ∑ s : Fin 256, hW x1 (ix4 b s c1 c2) * P (ix4 b c1 t s) := by
    intro c c1 c2 h1 h2
    generalize hw : hW x1 = W
    pointwise [hO]
    rw [hw]
    refine Finset.sum_congr rfl fun s _ => ?_
    congr 2 <;> congr 1 <;> exact Fin.ext ‹_›
  exact H _ _ _ (by simp only [col]; omega) (by simp only [col]; omega)
theorem hL_at (b : Fin 2) (h : Fin 4) (n : Fin 8) (t : Fin 256) :
    hL M D (ix4 b h n t) = M (ix3 b h (row n t)) + Ideal.log (D (ix3 b h (row n t))) := by
  pointwise [hL]
  have E : (⟨n.val * 256 + t.val, by omega⟩ : Fin 2048) = row n t := Fin.ext (by simp only [row]; omega)
  rw [E]
end
end Cert.Mem
-- ==== Proof.Mem.Ref.lean ====
/-
  The reference's arrays at an index: the scores, their exponentials, the weights, the gradients of the scores, and the three results.
-/
module

public import proofs.«01_k».proof.Proof.Mem.HostAt
public import proofs.«01_k».proof.Proof.Gen.MemBwdRefIdeal.Read

@[expose] public section
set_option maxRecDepth 65536
set_option maxHeartbeats 4000000
noncomputable section
namespace Cert.Mem.Ref
open Cert.MemBwdRefIdeal Cert.MemBwdRefIdeal.Gen Cert.MemBwdRefIdeal.Read Idealize.ShloMosaic Idealize.ShloMosaic.TcCoe Idealize.SL.Sem
open Idealize.ShloMosaic.Pointwise

variable (x0 : FVec Ideal S2x2048x512 .f32) (x1 : FVec Ideal S2x256x1024 .f32) (x2 : FVec Ideal S2x2048x512 .bf16)

theorem r2 (b : Fin 2) (t : Fin 2048) (h : Fin 4) (e : Fin 128) : val_main_v2 (F := Ideal) x0 (ix4 b t h e) = x0 (ix3 b t (col h e)) := by
  pointwise [val_main_v2]
  congr 2
  exact Fin.ext (by simp only [col]; omega)
theorem r3 (b : Fin 2) (s : Fin 256) (h : Fin 4) (e : Fin 128) : val_main_v3 (F := Ideal) x1 (ix4 b s h e) = x1 (ix3 b s (kcol h e)) := by
  pointwise [val_main_v3, val_main_v0]
  congr 2
  exact Fin.ext (by simp only [kcol]; omega)
theorem r4 (b : Fin 2) (s : Fin 256) (h : Fin 4) (e : Fin 128) : val_main_v4 (F := Ideal) x1 (ix4 b s h e) = x1 (ix3 b s (vcol h e)) := by
  pointwise [val_main_v4, val_main_v1]
  congr 2
  exact Fin.ext (by simp only [vcol]; omega)
theorem r7 (b : Fin 2) (h : Fin 4) (t : Fin 2048) (s : Fin 256) : val_main_v7 (F := Ideal) x0 x1 (ix4 b h t s) =
    (∑ e : Fin 128, val_main_v2 (F := Ideal) x0 (ix4 b t h e) * val_main_v3 (F := Ideal) x1 (ix4 b s h e)) * scl := by
  unfold val_main_v7 val_main_v5
  generalize val_main_v2 (F := Ideal) x0 = A
  generalize val_main_v3 (F := Ideal) x1 = B
  pointwise [val_main_v6, val_main_cst, scl]
theorem r8 (b : Fin 2) (h : Fin 4) (t : Fin 2048) : val_main_v8 (F := Ideal) x0 x1 (ix3 b h t) =
    Finset.fold max (Ideal.ofBits .f32 0xFF800000#32) (fun s : Fin 256 => val_main_v7 (F := Ideal) x0 x1 (ix4 b h t s)) Finset.univ := by
  have E : val_main_v8 (F := Ideal) x0 x1 = hM (val_main_v7 (F := Ideal) x0 x1) := by
    unfold val_main_v8 val_main_cst_0 hM
    rfl
  rw [E]
  exact hM_at _ b h t
theorem r15 (b : Fin 2) (h : Fin 4) (t : Fin 2048) : val_main_v15 (F := Ideal) x0 x1 (ix3 b h t) =
    max (Ideal.ofBits .f32 0xFF800000#32) (val_main_v8 (F := Ideal) x0 x1 (ix3 b h t)) := by
  have E : val_main_v15 (F := Ideal) x0 x1 = hM' (val_main_v8 (F := Ideal) x0 x1) := by
    unfold val_main_v15 val_main_v14 val_main_cst_2 hM'
    rfl
  rw [E]
  exact hM'_at _ b h t
theorem r28 (b : Fin 2) (h : Fin 4) (t : Fin 2048) (s : Fin 256) : val_main_v28 (F := Ideal) x0 x1 (ix4 b h t s) =
    Ideal.exp (val_main_v7 (F := Ideal) x0 x1 (ix4 b h t s) - val_main_v15 (F := Ideal) x0 x1 (ix3 b h t)) := by
  unfold val_main_v28 val_main_v27 val_main_v26 val_main_v25
  generalize val_main_v15 (F := Ideal) x0 x1 = A
  generalize val_main_v7 (F := Ideal) x0 x1 = B
  pointwise []
theorem r29 (b : Fin 2) (h : Fin 4) (t : Fin 2048) : val_main_v29 (F := Ideal) x0 x1 (ix3 b h t) =
    ∑ s : Fin 256, val_main_v28 (F := Ideal) x0 x1 (ix4 b h t s) := by
  unfold val_main_v29
  generalize val_main_v28 (F := Ideal) x0 x1 = A
  pointwise [val_main_cst_8]
theorem r32 (b : Fin 2) (h : Fin 4) (t : Fin 2048) (s : Fin 256) : val_main_v32 (F := Ideal) x0 x1 (ix4 b h t s) =
    Ideal.div (val_main_v28 (F := Ideal) x0 x1 (ix4 b h t s)) (val_main_v29 (F := Ideal) x0 x1 (ix3 b h t)) := by
  unfold val_main_v32 val_main_v31 val_main_v30
  generalize val_main_v29 (F := Ideal) x0 x1 = A
  generalize val_main_v28 (F := Ideal) x0 x1 = B
  pointwise []
theorem r41 (b : Fin 2) (h : Fin 4) (e : Fin 128) (t : Fin 2048) : val_main_v41 (F := Ideal) x2 (ix4 b h e t) = x2 (ix3 b t (col h e)) := by
  pointwise [val_main_v41, val_main_v40, val_main_v39]
  congr 2
  exact Fin.ext (by simp only [col]; omega)
theorem r42 (b : Fin 2) (h : Fin 4) (t : Fin 2048) (s : Fin 256) : val_main_v42 (F := Ideal) x1 x2 (ix4 b h t s) =
    ∑ e : Fin 128, val_main_v41 (F := Ideal) x2 (ix4 b h e t) * val_main_v4 (F := Ideal) x1 (ix4 b s h e) := by
  unfold val_main_v42
  generalize val_main_v41 (F := Ideal) x2 = A
  generalize val_main_v4 (F := Ideal) x1 = B
  pointwise []
theorem r35 (b : Fin 2) (h : Fin 4) (t : Fin 2048) : val_main_v35 (F := Ideal) x0 x1 (ix4 b h t 0) =
    Ideal.div (Ideal.ofBits .f32 0x3F800000#32) (val_main_v29 (F := Ideal) x0 x1 (ix3 b h t) * val_main_v29 (F := Ideal) x0 x1 (ix3 b h t)) := by
  unfold val_main_v35 val_main_v33 val_main_v30
  generalize val_main_v29 (F := Ideal) x0 x1 = A
  pointwise [val_main_v34, val_main_cst_9]
theorem r47 (b : Fin 2) (h : Fin 4) (t : Fin 2048) (s : Fin 256) : val_main_v47 (F := Ideal) x0 x1 x2 (ix4 b h t s) =
    val_main_v42 (F := Ideal) x1 x2 (ix4 b h t s) * val_main_v35 (F := Ideal) x0 x1 (ix4 b h t 0) * val_main_v28 (F := Ideal) x0 x1 (ix4 b h t s) := by
  unfold val_main_v47 val_main_v46 val_main_v45
  generalize val_main_v42 (F := Ideal) x1 x2 = A
  generalize val_main_v35 (F := Ideal) x0 x1 = B
  generalize val_main_v28 (F := Ideal) x0 x1 = C
  pointwise []
theorem r48 (b : Fin 2) (h : Fin 4) (t : Fin 2048) : val_main_v48 (F := Ideal) x0 x1 x2 (ix3 b h t) =
    ∑ s : Fin 256, val_main_v47 (F := Ideal) x0 x1 x2 (ix4 b h t s) := by
  unfold val_main_v48
  generalize val_main_v47 (F := Ideal) x0 x1 x2 = A
  pointwise [val_main_cst_10]
theorem r53 (b : Fin 2) (h : Fin 4) (t : Fin 2048) : val_main_v53 (F := Ideal) x0 x1 x2 (ix3 b h t) =
    -(val_main_v48 (F := Ideal) x0 x1 x2 (ix3 b h t)) := by
  unfold val_main_v53 val_main_v50 val_main_v49
  generalize val_main_v48 (F := Ideal) x0 x1 x2 = A
  pointwise [val_main_cst_11]
  exact Fintype.sum_unique _
theorem r58 (b : Fin 2) (h : Fin 4) (t : Fin 2048) (s : Fin 256) : val_main_v58 (F := Ideal) x0 x1 x2 (ix4 b h t s) =
    (Ideal.div (val_main_v42 (F := Ideal) x1 x2 (ix4 b h t s)) (val_main_v29 (F := Ideal) x0 x1 (ix3 b h t)) + val_main_v53 (F := Ideal) x0 x1 x2 (ix3 b h t))
      * val_main_v28 (F := Ideal) x0 x1 (ix4 b h t s) * scl := by
  unfold val_main_v58 val_main_v56 val_main_v55 val_main_v54 val_main_v52 val_main_v51 val_main_v30
  generalize val_main_v42 (F := Ideal) x1 x2 = A
  generalize val_main_v29 (F := Ideal) x0 x1 = B
  generalize val_main_v28 (F := Ideal) x0 x1 = C
  generalize val_main_v53 (F := Ideal) x0 x1 x2 = D
  pointwise [val_main_v57, val_main_cst_12, scl]
theorem r62 (b : Fin 2) (h : Fin 4) (t : Fin 2048) (e : Fin 128) : val_main_v62 (F := Ideal) x0 x1 x2 (ix4 b t h e) =
    ∑ s : Fin 256, val_main_v58 (F := Ideal) x0 x1 x2 (ix4 b h t s) * val_main_v3 (F := Ideal) x1 (ix4 b s h e) := by
  unfold val_main_v62 val_main_v61
  generalize val_main_v58 (F := Ideal) x0 x1 x2 = A
  generalize val_main_v3 (F := Ideal) x1 = B
  pointwise []
theorem r60 (b : Fin 2) (h : Fin 4) (s : Fin 256) (e : Fin 128) : val_main_v60 (F := Ideal) x0 x1 x2 (ix4 b s h e) =
    ∑ t : Fin 2048, val_main_v58 (F := Ideal) x0 x1 x2 (ix4 b h t s) * val_main_v2 (F := Ideal) x0 (ix4 b t h e) := by
  unfold val_main_v60 val_main_v59
  generalize val_main_v58 (F := Ideal) x0 x1 x2 = A
  generalize val_main_v2 (F := Ideal) x0 = B
  pointwise []
theorem r44 (b : Fin 2) (h : Fin 4) (s : Fin 256) (e : Fin 128) : val_main_v44 (F := Ideal) x0 x1 x2 (ix4 b s h e) =
    ∑ t : Fin 2048, val_main_v41 (F := Ideal) x2 (ix4 b h e t) * val_main_v32 (F := Ideal) x0 x1 (ix4 b h t s) := by
  unfold val_main_v44 val_main_v43
  generalize val_main_v41 (F := Ideal) x2 = A
  generalize val_main_v32 (F := Ideal) x0 x1 = B
  pointwise []
theorem r66 (b : Fin 2) (h : Fin 4) (t : Fin 2048) (e : Fin 128) : val_main_v66 (F := Ideal) x0 x1 x2 (ix3 b t (col h e)) = val_main_v62 (F := Ideal) x0 x1 x2 (ix4 b t h e) := by
  unfold val_main_v66 val_main_v65
  generalize val_main_v62 (F := Ideal) x0 x1 x2 = A
  generalize hc : col h e = k
  pointwise []
  congr 2 <;> refine Fin.ext ?_ <;> subst hc <;> simp only [col] <;> omega
theorem r67 (b : Fin 2) (h : Fin 4) (t : Fin 256) (e : Fin 128) : val_main_v67 (F := Ideal) x0 x1 x2 (ix3 b t (col h e)) = val_main_v60 (F := Ideal) x0 x1 x2 (ix4 b t h e) := by
  unfold val_main_v67 val_main_v64
  generalize val_main_v60 (F := Ideal) x0 x1 x2 = A
  generalize hc : col h e = k
  pointwise []
  congr 2 <;> refine Fin.ext ?_ <;> subst hc <;> simp only [col] <;> omega
theorem r68 (b : Fin 2) (h : Fin 4) (t : Fin 256) (e : Fin 128) : val_main_v68 (F := Ideal) x0 x1 x2 (ix3 b t (col h e)) = val_main_v44 (F := Ideal) x0 x1 x2 (ix4 b t h e) := by
  unfold val_main_v68 val_main_v63
  generalize val_main_v44 (F := Ideal) x0 x1 x2 = A
  generalize hc : col h e = k
  pointwise []
  congr 2 <;> refine Fin.ext ?_ <;> subst hc <;> simp only [col] <;> omega
end Cert.Mem.Ref
-- ==== Proof.Mem.Softmax.lean ====
/-
  The weights of one row of scores, and the gradient of the scores, over the reals.

  `wt s i` is the weight of entry `i` in a row `s`. Exponentials shifted by any real, or by the log of their sum, give it, and the
  gradient of the row is the same whether the row's correction is taken from the weights or from the attention's output.
-/
module

public import Idealize.ShloMosaic.PureOps.Ideal.Laws
public import Mathlib.Analysis.SpecialFunctions.Log.Basic

@[expose] public section
noncomputable section
namespace Cert.Soft
open Idealize.ShloMosaic

/-- A sum of reals in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, at least one, is a real. -/
theorem fold_max_coe {ι : Type*} [Fintype ι] [Nonempty ι] (f : ι → ℝ) :
    ∃ r : ℝ, Finset.fold max (⊥ : EReal) (fun i => (f i : EReal)) Finset.univ = r := by
  classical
  have H : ∀ s : Finset ι, Finset.fold max (⊥ : EReal) (fun i => (f i : EReal)) s = ⊥ ∧ s = ∅ ∨
      ∃ r : ℝ, Finset.fold max (⊥ : EReal) (fun i => (f i : EReal)) s = r := by
    intro s
    induction s using Finset.induction_on with
    | empty => exact Or.inl ⟨rfl, rfl⟩
    | insert a s ha ih =>
      right
      rw [Finset.fold_insert ha]
      rcases ih with ⟨h, _⟩ | ⟨r, h⟩
      · exact ⟨f a, by rw [h]; exact max_eq_left bot_le⟩
      · exact ⟨max (f a) r, by rw [h]; exact (EReal.coe_strictMono.monotone.map_max).symm⟩
  rcases H Finset.univ with ⟨_, h⟩ | h
  · exact absurd h Finset.univ_nonempty.ne_empty
  · exact h

section
variable {ι : Type*} [Fintype ι]

/-- The sum of the exponentials of a row less `M`. -/
def den (s : ι → ℝ) (M : ℝ) : ℝ := ∑ i, Real.exp (s i - M)
/-- The weight of entry `i`. -/
def wt (s : ι → ℝ) (i : ι) : ℝ := Real.exp (s i) / ∑ j, Real.exp (s j)
/-- The gradient of score `i`, from the gradients `p` of the weights. -/
def gr (s p : ι → ℝ) (i : ι) : ℝ := wt s i * (p i - ∑ j, wt s j * p j)

theorem den_pos [Nonempty ι] (s : ι → ℝ) (M : ℝ) : 0 < den s M := Finset.sum_pos (fun _ _ => Real.exp_pos _) Finset.univ_nonempty
theorem den_eq (s : ι → ℝ) (M : ℝ) : den s M = (∑ j, Real.exp (s j)) / Real.exp M := by
  simp only [den, Real.exp_sub, Finset.sum_div]
theorem wt_shift [Nonempty ι] (s : ι → ℝ) (M : ℝ) (i : ι) : Real.exp (s i - M) / den s M = wt s i := by
  rw [den_eq, Real.exp_sub, div_div_div_cancel_right₀ (Real.exp_ne_zero _), wt]
theorem wt_log [Nonempty ι] (s : ι → ℝ) (M : ℝ) (i : ι) : Real.exp (s i - (M + Real.log (den s M))) = wt s i := by
  rw [← sub_sub, Real.exp_sub, Real.exp_log (den_pos s M), wt_shift]

/-- The gradient as the derivative of the quotient gives it. -/
theorem gr_quot [Nonempty ι] (s p : ι → ℝ) (M : ℝ) (i : ι) :
    (p i / den s M + -(∑ j, p j * (1 / (den s M * den s M)) * Real.exp (s j - M))) * Real.exp (s i - M) = gr s p i := by
  have h := (den_pos s M).ne'
  have e : ∀ j, Real.exp (s j - M) = wt s j * den s M := fun j => by rw [← wt_shift s M, div_mul_cancel₀ _ h]
  have e2 : ∑ j, p j * (1 / (den s M * den s M)) * Real.exp (s j - M) = (∑ j, wt s j * p j) / den s M := by
    rw [Finset.sum_div]
    exact Finset.sum_congr rfl fun j _ => by rw [e]; field_simp
  rw [e2, e, gr]
  field_simp
  ring

/-- The correction of a row from the attention's output: `v` are the values, `d` the gradient of the output. -/
theorem row_dot {κ : Type*} [Fintype κ] (w : ι → ℝ) (v : ι → κ → ℝ) (d : κ → ℝ) :
    ∑ e, d e * (∑ i, v i e * w i) = ∑ i, w i * (∑ e, v i e * d e) := by
  simp only [Finset.mul_sum]
  rw [Finset.sum_comm]
  exact Finset.sum_congr rfl fun i _ => Finset.sum_congr rfl fun e _ => by ring
end

/-- A quotient of reals in the extended reals. -/
theorem div_real (x y : ℝ) (h : y ≠ 0) : Ideal.div (x : EReal) (y : EReal) = ((x / y : ℝ) : EReal) := by
  rw [Ideal.div_coe h, ← EReal.coe_mul]
  congr 1
  ring
theorem exp_real (x : ℝ) : Ideal.exp (x : EReal) = (Real.exp x : EReal) := Ideal.exp_coe x
theorem log_real (x : ℝ) (h : 0 < x) : Ideal.log (x : EReal) = (Real.log x : EReal) := by
  rw [Ideal.log_coe, if_neg (not_le.mpr h)]
theorem negInf : Ideal.ofBits .f32 0xFF800000#32 = ⊥ := by
  simp [Ideal.ofBits, Ideal.ieee, -EReal.coe_mul]
theorem one_f32 : Ideal.ofBits .f32 0x3F800000#32 = ((1 : ℝ) : EReal) := by
  simp [Ideal.ofBits, Ideal.ieee, -EReal.coe_mul]
  norm_num
end Cert.Soft
-- ==== Proof.Mem.Real.lean ====
/-
  What both programs compute when every entry of the arguments is a real.

  `r0` are the queries, `r1` the projected memory (keys in the first half of the columns, values in the second), `r2` the gradient of the
  output. The reference's scores are `sr`, the gradients of its weights `dp`, and the gradients of its scores `dsr`.
-/
module

public import proofs.«01_k».proof.Proof.Mem.Ref
public import proofs.«01_k».proof.Proof.Mem.Softmax

@[expose] public section
set_option maxRecDepth 65536
noncomputable section
namespace Cert.Mem
open Cert.MemBwdIdeal Cert.MemBwdIdeal.Gen Idealize.ShloMosaic Idealize.ShloMosaic.TcCoe Idealize.SL.Sem
open Cert.Soft Cert.Mem.Ref Cert.MemBwdRefIdeal.Read

/-- The scale of the scores as a real. -/
def sclR : ℝ := 11863283 * 2⁻¹ ^ 27
theorem scl_real : scl = (sclR : EReal) := by
  unfold scl sclR
  simp [Ideal.ofBits, Ideal.ieee, -EReal.coe_mul]

section
variable (r0 : S2x2048x512.Idx → ℝ) (r1 : S2x256x1024.Idx → ℝ) (r2 : S2x2048x512.Idx → ℝ) (b : Fin 2) (h : Fin 4)

/-- The scores. -/
def sr (t : Fin 2048) (s : Fin 256) : ℝ := (∑ e : Fin 128, r0 (ix3 b t (col h e)) * r1 (ix3 b s (kcol h e))) * sclR
/-- The gradients of the weights. -/
def dp (t : Fin 2048) (s : Fin 256) : ℝ := ∑ e : Fin 128, r1 (ix3 b s (vcol h e)) * r2 (ix3 b t (col h e))
/-- The gradients of the scores before the scale, times the scale. -/
def dsr (t : Fin 2048) (s : Fin 256) : ℝ := gr (sr r0 r1 b h t) (dp r1 r2 b h t) s * sclR
/-- The attention's output. -/
def outR (t : Fin 2048) (e : Fin 128) : ℝ := ∑ s : Fin 256, r1 (ix3 b s (vcol h e)) * wt (sr r0 r1 b h t) s
end

section
variable {x0 : FVec Ideal S2x2048x512 .f32} {x1 : FVec Ideal S2x256x1024 .f32} {x2 : FVec Ideal S2x2048x512 .bf16}
variable {r0 : S2x2048x512.Idx → ℝ} {r1 : S2x256x1024.Idx → ℝ} {r2 : S2x2048x512.Idx → ℝ}
variable (h0 : ∀ i, x0 i = (r0 i : EReal)) (h1 : ∀ i, x1 i = (r1 i : EReal)) (h2 : ∀ i, x2 i = (r2 i : EReal))
include h0 h1

theorem score_ref (b : Fin 2) (h : Fin 4) (t : Fin 2048) (s : Fin 256) :
    val_main_v7 (F := Ideal) x0 x1 (ix4 b h t s) = (sr r0 r1 b h t s : EReal) := by
  rw [r7, sr, EReal.coe_mul, coe_sum, scl_real]
  exact congrArg (· * _) (Finset.sum_congr rfl fun e _ => by rw [Ref.r2, r3, h0, h1, EReal.coe_mul])
theorem max_ref (b : Fin 2) (h : Fin 4) (t : Fin 2048) : ∃ M : ℝ, val_main_v15 (F := Ideal) x0 x1 (ix3 b h t) = (M : EReal) := by
  obtain ⟨M, hM⟩ := fold_max_coe (sr r0 r1 b h t)
  refine ⟨M, ?_⟩
  rw [r15, r8, negInf, max_eq_right bot_le, ← hM]
  exact congrArg (fun f => Finset.fold max ⊥ f Finset.univ) (funext fun s => score_ref h0 h1 b h t s)
theorem exp_ref {b : Fin 2} {h : Fin 4} {t : Fin 2048} {M : ℝ} (hM : val_main_v15 (F := Ideal) x0 x1 (ix3 b h t) = (M : EReal)) (s : Fin 256) :
    val_main_v28 (F := Ideal) x0 x1 (ix4 b h t s) = (Real.exp (sr r0 r1 b h t s - M) : EReal) := by
  rw [r28, score_ref h0 h1, hM, ← EReal.coe_sub, exp_real]
theorem den_ref {b : Fin 2} {h : Fin 4} {t : Fin 2048} {M : ℝ} (hM : val_main_v15 (F := Ideal) x0 x1 (ix3 b h t) = (M : EReal)) :
    val_main_v29 (F := Ideal) x0 x1 (ix3 b h t) = (den (sr r0 r1 b h t) M : EReal) := by
  rw [r29, den, coe_sum]
  exact Finset.sum_congr rfl fun s _ => exp_ref h0 h1 hM s
theorem wt_ref (b : Fin 2) (h : Fin 4) (t : Fin 2048) (s : Fin 256) :
    val_main_v32 (F := Ideal) x0 x1 (ix4 b h t s) = (wt (sr r0 r1 b h t) s : EReal) := by
  obtain ⟨M, hM⟩ := max_ref h0 h1 b h t
  rw [r32, exp_ref h0 h1 hM, den_ref h0 h1 hM, div_real _ _ (den_pos _ _).ne', wt_shift]
include h2
omit h0 in
theorem dp_ref (b : Fin 2) (h : Fin 4) (t : Fin 2048) (s : Fin 256) :
    val_main_v42 (F := Ideal) x1 x2 (ix4 b h t s) = (dp r1 r2 b h t s : EReal) := by
  rw [r42, dp, coe_sum]
  exact Finset.sum_congr rfl fun e _ => by rw [r41, r4, h1, h2, ← EReal.coe_mul, mul_comm]
theorem ds_ref (b : Fin 2) (h : Fin 4) (t : Fin 2048) (s : Fin 256) :
    val_main_v58 (F := Ideal) x0 x1 x2 (ix4 b h t s) = (dsr r0 r1 r2 b h t s : EReal) := by
  obtain ⟨M, hM⟩ := max_ref h0 h1 b h t
  have hd := (den_pos (sr r0 r1 b h t) M).ne'
  have e48 : val_main_v48 (F := Ideal) x0 x1 x2 (ix3 b h t) =
      ((∑ j, dp r1 r2 b h t j * (1 / (den (sr r0 r1 b h t) M * den (sr r0 r1 b h t) M)) * Real.exp (sr r0 r1 b h t j - M) : ℝ) : EReal) := by
    rw [r48, coe_sum]
    refine Finset.sum_congr rfl fun j _ => ?_
    rw [r47, r35, dp_ref h1 h2, den_ref h0 h1 hM, exp_ref h0 h1 hM, one_f32, ← EReal.coe_mul, div_real _ _ (mul_ne_zero hd hd), ← EReal.coe_mul, ← EReal.coe_mul]
  rw [r58, r53, e48, dp_ref h1 h2, den_ref h0 h1 hM, exp_ref h0 h1 hM, div_real _ _ hd, scl_real, ← EReal.coe_neg, ← EReal.coe_add, ← EReal.coe_mul,
    ← EReal.coe_mul, gr_quot, dsr]

theorem dq_ref (b : Fin 2) (h : Fin 4) (t : Fin 2048) (e : Fin 128) : val_main_v66 (F := Ideal) x0 x1 x2 (ix3 b t (col h e)) =
    ((∑ s : Fin 256, r1 (ix3 b s (kcol h e)) * dsr r0 r1 r2 b h t s : ℝ) : EReal) := by
  rw [r66, r62, coe_sum]
  exact Finset.sum_congr rfl fun s _ => by rw [ds_ref h0 h1 h2, r3, h1, ← EReal.coe_mul, mul_comm]
theorem dk_ref (b : Fin 2) (h : Fin 4) (s : Fin 256) (e : Fin 128) : val_main_v67 (F := Ideal) x0 x1 x2 (ix3 b s (col h e)) =
    ((∑ t : Fin 2048, r0 (ix3 b t (col h e)) * dsr r0 r1 r2 b h t s : ℝ) : EReal) := by
  rw [r67, r60, coe_sum]
  exact Finset.sum_congr rfl fun t _ => by rw [ds_ref h0 h1 h2, Ref.r2, h0, ← EReal.coe_mul, mul_comm]
theorem dv_ref (b : Fin 2) (h : Fin 4) (s : Fin 256) (e : Fin 128) : val_main_v68 (F := Ideal) x0 x1 x2 (ix3 b s (col h e)) =
    ((∑ t : Fin 2048, r2 (ix3 b t (col h e)) * wt (sr r0 r1 b h t) s : ℝ) : EReal) := by
  rw [r68, r44, coe_sum]
  exact Finset.sum_congr rfl fun t _ => by rw [r41, wt_ref h0 h1, h2, EReal.coe_mul]
end

section
variable {x0 : FVec Ideal S2x2048x512 .f32} {x1 : FVec Ideal S2x256x1024 .f32} {r0 : S2x2048x512.Idx → ℝ} {r1 : S2x256x1024.Idx → ℝ}
variable (h0 : ∀ i, x0 i = (r0 i : EReal)) (h1 : ∀ i, x1 i = (r1 i : EReal))
include h0 h1

theorem score_host (b : Fin 2) (h : Fin 4) (t : Fin 2048) (s : Fin 256) : hS x0 x1 (ix4 b h t s) = (sr r0 r1 b h t s : EReal) := by
  rw [hS_at, sr, EReal.coe_mul, coe_sum, scl_real]
  exact congrArg (· * _) (Finset.sum_congr rfl fun e _ => by rw [hK_at, h0, h1, EReal.coe_mul])
theorem max_host (b : Fin 2) (h : Fin 4) (t : Fin 2048) : ∃ M : ℝ, hM (hS x0 x1) (ix3 b h t) = (M : EReal) := by
  obtain ⟨M, e⟩ := fold_max_coe (sr r0 r1 b h t)
  refine ⟨M, ?_⟩
  rw [hM_at, negInf, ← e]
  exact congrArg (fun f => Finset.fold max ⊥ f Finset.univ) (funext fun s => score_host h0 h1 b h t s)
theorem exp_host {b : Fin 2} {h : Fin 4} {t : Fin 2048} {M : ℝ} {A : FVec Ideal S2x4x2048 .f32} (hA : A (ix3 b h t) = (M : EReal)) (s : Fin 256) :
    hE (hS x0 x1) A (ix4 b h t s) = (Real.exp (sr r0 r1 b h t s - M) : EReal) := by
  rw [hE_at, score_host h0 h1, hA, ← EReal.coe_sub, exp_real]
theorem den_host {b : Fin 2} {h : Fin 4} {t : Fin 2048} {M : ℝ} {A : FVec Ideal S2x4x2048 .f32} (hA : A (ix3 b h t) = (M : EReal)) :
    hD (hE (hS x0 x1) A) (ix3 b h t) = (den (sr r0 r1 b h t) M : EReal) := by
  rw [hD_at, den, coe_sum]
  exact Finset.sum_congr rfl fun s _ => exp_host h0 h1 hA s
/-- The saved output. -/
theorem out_host (b : Fin 2) (h : Fin 4) (t : Fin 2048) (e : Fin 128) :
    hO x1 (hP (hE (hS x0 x1) (hM' (hM (hS x0 x1))))) (ix3 b t (col h e)) = (outR r0 r1 b h t e : EReal) := by
  obtain ⟨M, hM⟩ := max_host h0 h1 b h t
  have hA : hM' (Cert.Mem.hM (hS x0 x1)) (ix3 b h t) = (M : EReal) := by rw [hM'_at, negInf, max_eq_right bot_le, hM]
  rw [hO_at, outR, coe_sum]
  refine Finset.sum_congr rfl fun s _ => ?_
  rw [hP_at, hW_at, h1, exp_host h0 h1 hA, den_host h0 h1 hA, div_real _ _ (den_pos _ _).ne', wt_shift, EReal.coe_mul]
/-- The saved log sums give the weights. -/
theorem log_host (b : Fin 2) (h : Fin 4) (n : Fin 8) (t : Fin 256) : ∃ M : ℝ, hL (hM (hS x0 x1)) (hD (hE (hS x0 x1) (hM (hS x0 x1)))) (ix4 b h n t) =
    ((M + Real.log (den (sr r0 r1 b h (row n t)) M) : ℝ) : EReal) := by
  obtain ⟨M, hM⟩ := max_host h0 h1 b h (row n t)
  refine ⟨M, ?_⟩
  rw [hL_at, hM, den_host h0 h1 hM, log_real _ (den_pos _ _), EReal.coe_add]
end
end Cert.Mem
-- ==== Proof.Mem.Equation.lean ====
/-
  The kernel's three results are the reference's, when every entry of the arguments is a real.
-/
module

public import proofs.«01_k».proof.Proof.Mem.Real

@[expose] public section
set_option maxRecDepth 65536
noncomputable section
namespace Cert.Mem
open Cert.MemBwdIdeal Cert.MemBwdIdeal.Gen Idealize.ShloMosaic Idealize.ShloMosaic.TcCoe Idealize.SL.Sem
open Cert.Soft Cert.Mem.Ref Cert.MemBwdRefIdeal.Read

/-- A sum over tiles of 256 queries is a sum over all queries. -/
theorem sum_rows (f : Fin 2048 → ℝ) : ∑ n : Fin 8, ∑ t : Fin 256, f (row n t) = ∑ t : Fin 2048, f t := by
  refine Fin.sum_mul_add_congr fun n t hl => congrArg f (Fin.ext ?_)
  simp only [row]
  omega
theorem idx_rows (i : S2x2048x512.Idx) : ∃ (b : Fin 2) (n : Fin 8) (t : Fin 256) (h : Fin 4) (e : Fin 128), i = ix3 b (row n t) (col h e) := by
  have h1 : (i 1).val < 2048 := (i 1).isLt
  have h2 : (i 2).val < 512 := (i 2).isLt
  refine ⟨i 0, ⟨(i 1).val / 256, by omega⟩, ⟨(i 1).val % 256, by omega⟩, ⟨(i 2).val / 128, by omega⟩, ⟨(i 2).val % 128, by omega⟩, ?_⟩
  funext a
  match a with
  | ⟨0, _⟩ => rfl
  | ⟨1, _⟩ => exact Fin.ext (by simp only [row, ix3]; show (i 1).val = _; omega)
  | ⟨2, _⟩ => exact Fin.ext (by simp only [col, ix3]; show (i 2).val = _; omega)
theorem idx_mem (i : S2x256x512.Idx) : ∃ (b : Fin 2) (s : Fin 256) (h : Fin 4) (e : Fin 128), i = ix3 b s (col h e) := by
  have h2 : (i 2).val < 512 := (i 2).isLt
  refine ⟨i 0, i 1, ⟨(i 2).val / 128, by omega⟩, ⟨(i 2).val % 128, by omega⟩, ?_⟩
  funext a
  match a with
  | ⟨0, _⟩ => rfl
  | ⟨1, _⟩ => rfl
  | ⟨2, _⟩ => exact Fin.ext (by simp only [col, ix3]; show (i 2).val = _; omega)
section
variable (m : (ℓ : Loc nD τ sig) → Buf (Elt Ideal) ℓ) (c : Dev nD)
variable {x0 : FVec Ideal S2x2048x512 .f32} {x1 : FVec Ideal S2x256x1024 .f32} {x2 : FVec Ideal S2x2048x512 .bf16}
variable (e0 : m (c, main_arg0) = x0) (e1 : m (c, main_arg1) = x1) (e2 : m (c, main_arg2) = x2)
variable {r0 : S2x2048x512.Idx → ℝ} {r1 : S2x256x1024.Idx → ℝ} {r2 : S2x2048x512.Idx → ℝ}
variable (h0 : ∀ i, x0 i = (r0 i : EReal)) (h1 : ∀ i, x1 i = (r1 i : EReal)) (h2 : ∀ i, x2 i = (r2 i : EReal))

include e0 h0 in
theorem kq_real (b : Fin 2) (h : Fin 4) (t : Fin 2048) (e : Fin 128) : kq m c b h t e = (r0 (ix3 b t (col h e)) : EReal) := by
  rw [kq, V_v0, e0, hQ_at, h0]
include e1 h1 in
theorem kk_real (b : Fin 2) (h : Fin 4) (s : Fin 256) (e : Fin 128) : kk m c b h s e = (r1 (ix3 b s (kcol h e)) : EReal) := by
  rw [kk, V_main_arg1, ← h1, ← e1]
  rfl
include e1 h1 in
theorem kv_real (b : Fin 2) (h : Fin 4) (s : Fin 256) (e : Fin 128) : kv m c b h s e = (r1 (ix3 b s (vcol h e)) : EReal) := by
  rw [kv, V_main_arg1, ← h1, ← e1]
  rfl
include e2 h2 in
theorem kd_real (b : Fin 2) (h : Fin 4) (t : Fin 2048) (e : Fin 128) : kd m c b h t e = (r2 (ix3 b t (col h e)) : EReal) := by
  rw [kd, V_main_arg2, ← h2, ← e2]
include e0 e1 h0 h1
theorem ko_real (b : Fin 2) (h : Fin 4) (t : Fin 2048) (e : Fin 128) : ko m c b h t e = (outR r0 r1 b h t e : EReal) := by
  rw [ko, V_v22, e0, e1, out_host h0 h1]
theorem kl_real (b : Fin 2) (h : Fin 4) (n : Fin 8) (t : Fin 256) :
    ∃ M : ℝ, kl m c b h n t = ((M + Real.log (den (sr r0 r1 b h (row n t)) M) : ℝ) : EReal) := by
  obtain ⟨M, hM⟩ := log_host h0 h1 b h n t
  exact ⟨M, by rw [kl, V_v36, e0, e1, hM]⟩

theorem kp_real (b : Fin 2) (h : Fin 4) (n : Fin 8) (t s : Fin 256) : kp m c b h n t s = (wt (sr r0 r1 b h (row n t)) s : EReal) := by
  obtain ⟨M, hM⟩ := kl_real m c e0 e1 h0 h1 b h n t
  have hs : (∑ e : Fin 128, kk m c b h s e * kq m c b h (row n t) e) * scl = (sr r0 r1 b h (row n t) s : EReal) := by
    rw [sr, EReal.coe_mul, coe_sum, scl_real]
    exact congrArg (· * _) (Finset.sum_congr rfl fun e _ => by rw [kk_real m c e1 h1, kq_real m c e0 h0, ← EReal.coe_mul, mul_comm])
  rw [kp, hs, hM, ← EReal.coe_sub, exp_real, wt_log]
include e2 h2
theorem kds_real (b : Fin 2) (h : Fin 4) (n : Fin 8) (t s : Fin 256) : kds m c b h n t s = (dsr r0 r1 r2 b h (row n t) s : EReal) := by
  have hp : ∑ e : Fin 128, kv m c b h s e * kd m c b h (row n t) e = (dp r1 r2 b h (row n t) s : EReal) := by
    rw [dp, coe_sum]
    exact Finset.sum_congr rfl fun e _ => by rw [kv_real m c e1 h1, kd_real m c e2 h2, EReal.coe_mul]
  have ho : ∑ e : Fin 128, kd m c b h (row n t) e * ko m c b h (row n t) e =
      ((∑ j, wt (sr r0 r1 b h (row n t)) j * dp r1 r2 b h (row n t) j : ℝ) : EReal) := by
    have : ∀ e, kd m c b h (row n t) e * ko m c b h (row n t) e = ((r2 (ix3 b (row n t) (col h e)) * outR r0 r1 b h (row n t) e : ℝ) : EReal) := fun e => by
      rw [kd_real m c e2 h2, ko_real m c e0 e1 h0 h1, EReal.coe_mul]
    rw [Finset.sum_congr rfl fun e _ => this e, ← coe_sum]
    exact congrArg _ (row_dot _ _ _)
  rw [kds, kp_real m c e0 e1 h0 h1, hp, ho, scl_real, ← EReal.coe_sub, ← EReal.coe_mul, ← EReal.coe_mul, dsr, gr]

theorem dq_eq : (dats m 0 c).arrAt 6 cfg0.N = val_main_v66 (F := Ideal) x0 x1 x2 := by
  refine funext fun i => ?_
  obtain ⟨b, n, t, h, e, rfl⟩ := idx_rows i
  have E : ∑ s : Fin 256, kk m c b h s e * kds m c b h n t s = ((∑ s : Fin 256, r1 (ix3 b s (kcol h e)) * dsr r0 r1 r2 b h (row n t) s : ℝ) : EReal) := by
    rw [coe_sum]
    exact Finset.sum_congr rfl fun s _ => by rw [kk_real m c e1 h1, kds_real m c e0 e1 e2 h0 h1 h2, EReal.coe_mul]
  exact (dq_array m c b h n t e).trans (E.trans (dq_ref h0 h1 h2 b h (row n t) e).symm)
theorem dk_eq : (dats m 0 c).arrAt 7 cfg0.N = val_main_v67 (F := Ideal) x0 x1 x2 := by
  refine funext fun i => ?_
  obtain ⟨b, s, h, e, rfl⟩ := idx_mem i
  have E : ∑ n : Fin 8, ∑ t : Fin 256, kq m c b h (row n t) e * kds m c b h n t s =
      ((∑ t : Fin 2048, r0 (ix3 b t (col h e)) * dsr r0 r1 r2 b h t s : ℝ) : EReal) := by
    rw [← sum_rows, coe_sum]
    refine Finset.sum_congr rfl fun n _ => ?_
    rw [coe_sum]
    exact Finset.sum_congr rfl fun t _ => by rw [kq_real m c e0 h0, kds_real m c e0 e1 e2 h0 h1 h2, EReal.coe_mul]
  exact (dk_array m c b h s e).trans (E.trans (dk_ref h0 h1 h2 b h s e).symm)
theorem dv_eq : (dats m 0 c).arrAt 8 cfg0.N = val_main_v68 (F := Ideal) x0 x1 x2 := by
  refine funext fun i => ?_
  obtain ⟨b, s, h, e, rfl⟩ := idx_mem i
  have E : ∑ n : Fin 8, ∑ t : Fin 256, kd m c b h (row n t) e * kp m c b h n t s =
      ((∑ t : Fin 2048, r2 (ix3 b t (col h e)) * wt (sr r0 r1 b h t) s : ℝ) : EReal) := by
    rw [← sum_rows, coe_sum]
    refine Finset.sum_congr rfl fun n _ => ?_
    rw [coe_sum]
    exact Finset.sum_congr rfl fun t _ => by rw [kd_real m c e2 h2, kp_real m c e0 e1 h0 h1, EReal.coe_mul]
  exact (dv_array m c b h s e).trans (E.trans (dv_ref h0 h1 h2 b h s e).symm)
end
end Cert.Mem
-- ==== Proof.Mem.Finite.lean ====
/-
  The precondition says that every entry of the arguments is a real.
-/
module

public import proofs.«01_k».proof.Defs
public import Idealize.ShloMosaic.Lib.ReduceAll
public import Idealize.ShloMosaic.PureOps.Ideal.Laws
public import Idealize.ShloMosaic.Lib.Pointwise

@[expose] public section
set_option maxRecDepth 65536
noncomputable section
namespace Cert.Mem
open Idealize.ShloMosaic Idealize.ShloMosaic.TcCoe Idealize.SL.Sem

/-- The side conditions of the precondition's operations. -/
theorem preFacts : Cert.Pre_mem_finite.Facts where
  bcast_S_S2x2048x512 := by decide
  reducesTo_S2x2048x512_S_d0_1_2 := by decide
  h_S_ := by decide
  bcast_S_S2x256x1024 := by decide
  reducesTo_S2x256x1024_S_d0_1_2 := by decide
  bitsLt_bf16_f32 := by decide

/-- A number whose absolute value is below infinity is a real. -/
theorem real_of_abs (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee, -EReal.coe_mul]
  rw [e] at h
  induction x using EReal.rec with
  | coe r => exact ⟨r, rfl⟩
  | bot => simp [Ideal.cmp] at h
  | top => simp [Ideal.cmp] at h

open Cert.Pre_mem_finite in
theorem finite_of_pre (x0 : FVec Ideal S2x2048x512 .f32) (x1 : FVec Ideal S2x256x1024 .f32) (x2 : FVec Ideal S2x2048x512 .bf16)
    (h : @Cert.Pre_mem_finite.fn preFacts Ideal _ x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have two : ∀ a b : BitVec 1, IntOp.andi a b = 1#1 → a = 1#1 ∧ b = 1#1 := by decide
  have hs : Subsingleton S_.Idx := ⟨fun a b => funext fun k => k.elim0⟩
  have H := congrFun h (fun k => k.elim0)
  obtain ⟨H01, H2⟩ := two _ _ H
  obtain ⟨H0, H1⟩ := two _ _ H01
  exact ⟨fun i => real_of_abs _ (Host.reduce_andi_all _ _ _ _ _ H0 i), fun i => real_of_abs _ (Host.reduce_andi_all _ _ _ _ _ H1 i),
    fun i => real_of_abs _ (Host.reduce_andi_all _ _ _ _ _ H2 i)⟩
end Cert.Mem
-- ==== Proof.Fox.Index.lean ====
/-
  Columns, rows, heads and lanes of the forgetting attention, and the comparison of two positions below 2048.

  A grid point of the kernel has one pair of heads of 64 features each, side by side in 128 lanes, and 2048 positions in eight tiles of
  256. The two heads' 256 queries of a tile stand side by side in 512 columns.
-/
module

public import Idealize.ShloMosaic.Lib.Pointwise

@[expose] public section
noncomputable section
namespace Cert.Fox
open Idealize.ShloMosaic

/-- Row `256 n + t`. -/
def row (n : Fin 8) (t : Fin 256) : Fin 2048 := ⟨256 * n.val + t.val, by omega⟩
/-- Feature `e` of head `h` among the 768 columns of the twelve heads. -/
def hcol (h : Fin 12) (e : Fin 64) : Fin 768 := ⟨64 * h.val + e.val, by omega⟩
/-- Head `u` of pair `p`. -/
def hd (p : Fin 6) (u : Fin 2) : Fin 12 := ⟨2 * p.val + u.val, by omega⟩
/-- The lane of feature `e` of head `u` of a pair. -/
def lane (u : Fin 2) (e : Fin 64) : Fin 128 := ⟨64 * u.val + e.val, by omega⟩
/-- The column of query `t` of head `u`. -/
def qcol (u : Fin 2) (t : Fin 256) : Fin 512 := ⟨256 * u.val + t.val, by omega⟩
/-- Lane `e` of pair `p` among the 768 columns. -/
def pcol (p : Fin 6) (e : Fin 128) : Fin 768 := ⟨128 * p.val + e.val, by omega⟩

theorem pcol_lane (p : Fin 6) (u : Fin 2) (e : Fin 64) : pcol p (lane u e) = hcol (hd p u) e :=
  Fin.ext (by simp only [pcol, lane, hcol, hd]; omega)

/-- The comparison of two positions below 2048. -/
theorem sge_pos (t s : ℕ) (ht : t < 2048) (hs : s < 2048) :
    IntOp.cmpi CmpIPredicate.sge (BitVec.ofNat 32 t) (BitVec.ofNat 32 s) = if s ≤ t then 1#1 else 0#1 := by
  have e1 : (BitVec.ofNat 32 t).toInt = t := by
    rw [BitVec.toInt_eq_toNat_cond, BitVec.toNat_ofNat, Nat.mod_eq_of_lt (by omega), if_pos (by omega)]
  have e2 : (BitVec.ofNat 32 s).toInt = s := by
    rw [BitVec.toInt_eq_toNat_cond, BitVec.toNat_ofNat, Nat.mod_eq_of_lt (by omega), if_pos (by omega)]
  simp only [IntOp.cmpi, BitVec.sle, e1, e2]
  by_cases h : s ≤ t
  · simp [h]
  · simp [h]
theorem slt_pos (t s : ℕ) (ht : t < 2048) (hs : s < 2048) :
    IntOp.cmpi CmpIPredicate.slt (BitVec.ofNat 32 t) (BitVec.ofNat 32 s) = if t < s then 1#1 else 0#1 := by
  have e1 : (BitVec.ofNat 32 t).toInt = t := by
    rw [BitVec.toInt_eq_toNat_cond, BitVec.toNat_ofNat, Nat.mod_eq_of_lt (by omega), if_pos (by omega)]
  have e2 : (BitVec.ofNat 32 s).toInt = s := by
    rw [BitVec.toInt_eq_toNat_cond, BitVec.toNat_ofNat, Nat.mod_eq_of_lt (by omega), if_pos (by omega)]
  simp only [IntOp.cmpi, BitVec.slt, e1, e2]
  by_cases h : t < s
  · simp [h]
  · simp [h]
theorem select_if {α : Type} (p : Prop) [Decidable p] (x y : α) : Scalar.select (if p then 1#1 else 0#1) x y = if p then x else y := by
  by_cases h : p <;> simp [h, Scalar.select]
end Cert.Fox
-- ==== Proof.Fox.Ref.lean ====
/-
  The reference's arrays at an index: the scores, their exponentials, the weights, the gradients of the scores, and the three results.
-/
module

public import proofs.«01_k».proof.Proof.Fox.Index
public import proofs.«01_k».proof.Proof.Gen.FoxBwdRefIdeal.Read

@[expose] public section
set_option maxRecDepth 65536
set_option maxHeartbeats 4000000
noncomputable section
namespace Cert.Fox.Ref
open Cert.FoxBwdRefIdeal Cert.FoxBwdRefIdeal.Gen Cert.FoxBwdRefIdeal.Read Idealize.ShloMosaic Idealize.ShloMosaic.TcCoe Idealize.SL.Sem
open Idealize.ShloMosaic.Pointwise

/-- One eighth, the scale of the scores, as the constant that both programs hold. -/
def scl : EReal := Ideal.ofBits .f32 0x3E000000#32

variable (x0 x1 x2 : FVec Ideal S2x2048x768 .f32) (x3 : FVec Ideal S2x2048x12 .f32) (x4 : FVec Ideal S2x2048x768 .bf16)

theorem r0 (b : Fin 2) (t : Fin 2048) (h : Fin 12) (e : Fin 64) : val_main_v0 (F := Ideal) x0 (ix4 b t h e) = x0 (ix3 b t (hcol h e)) := by
  pointwise [val_main_v0]
  congr 2
  exact Fin.ext (by simp only [hcol]; omega)
theorem r1 (b : Fin 2) (t : Fin 2048) (h : Fin 12) (e : Fin 64) : val_main_v1 (F := Ideal) x1 (ix4 b t h e) = x1 (ix3 b t (hcol h e)) := by
  pointwise [val_main_v1]
  congr 2
  exact Fin.ext (by simp only [hcol]; omega)
theorem r50 (b : Fin 2) (t : Fin 2048) (h : Fin 12) (e : Fin 64) : val_main_v50 (F := Ideal) x2 (ix4 b t h e) = x2 (ix3 b t (hcol h e)) := by
  pointwise [val_main_v50]
  congr 2
  exact Fin.ext (by simp only [hcol]; omega)
theorem r56 (b : Fin 2) (h : Fin 12) (e : Fin 64) (t : Fin 2048) : val_main_v56 (F := Ideal) x4 (ix4 b h e t) = x4 (ix3 b t (hcol h e)) := by
  pointwise [val_main_v56, val_main_v55, val_main_v54]
  congr 2
  exact Fin.ext (by simp only [hcol]; omega)
theorem r12 (b : Fin 2) (h : Fin 12) (t s : Fin 2048) : val_main_v12 (F := Ideal) x0 x1 x3 (ix4 b h t s) =
    (∑ e : Fin 64, val_main_v0 (F := Ideal) x0 (ix4 b t h e) * val_main_v1 (F := Ideal) x1 (ix4 b s h e)) * scl + x3 (ix3 b t h) - x3 (ix3 b s h) := by
  unfold val_main_v12 val_main_v8 val_main_v4 val_main_v2
  generalize val_main_v0 (F := Ideal) x0 = A
  generalize val_main_v1 (F := Ideal) x1 = B
  pointwise [val_main_v3, val_main_cst, scl, val_main_v7, val_main_v6, val_main_v5, val_main_v11, val_main_v10, val_main_v9]
theorem r21m (b : Fin 2) (h : Fin 12) (t s : Fin 2048) : val_main_v21_1 (F := Ideal) (ix4 b h t s) = if s ≤ t then 1#1 else 0#1 := by
  pointwise [val_main_v21_1, val_main_v20, val_main_v19, val_main_v17, val_main_v18, val_main_v14, val_main_v16, val_main_v13, val_main_v15]
  rw [sge_pos _ _ t.isLt s.isLt]
  rfl
theorem r21 (b : Fin 2) (h : Fin 12) (t s : Fin 2048) : val_main_v21_0 (F := Ideal) x0 x1 x3 (ix4 b h t s) =
    if s ≤ t then val_main_v12 (F := Ideal) x0 x1 x3 (ix4 b h t s) else Ideal.ofBits .f32 0xFF800000#32 := by
  rw [val_main_v21_0_apply, r21m, select_if]
  rfl
/-- The largest entry of each row. -/
def hM (Sc : FVec Ideal S2x12x2048x2048 .f32) : FVec Ideal S2x12x2048 .f32 :=
  Host.reduce FloatOps.maximumf Sc (constant S_ .f32 0xFF800000#32) reducesTo_S2x12x2048x2048_S2x12x2048_d3 h_S_
/-- The largest entry as the weights take it. -/
def hM' (M : FVec Ideal S2x12x2048 .f32) : FVec Ideal S2x12x2048 .f32 :=
  maximumf (broadcastInDim S2x12x2048 ![] bcast_S_S2x12x2048 (constant S_ .f32 0xFF800000#32)) M
theorem hM_at (Sc : FVec Ideal S2x12x2048x2048 .f32) (b : Fin 2) (h : Fin 12) (t : Fin 2048) :
    hM Sc (ix3 b h t) = Finset.fold max (Ideal.ofBits .f32 0xFF800000#32) (fun s : Fin 2048 => Sc (ix4 b h t s)) Finset.univ := by
  pointwise [hM]
theorem hM'_at (M : FVec Ideal S2x12x2048 .f32) (b : Fin 2) (h : Fin 12) (t : Fin 2048) :
    hM' M (ix3 b h t) = max (Ideal.ofBits .f32 0xFF800000#32) (M (ix3 b h t)) := by
  pointwise [hM']
theorem r22 (b : Fin 2) (h : Fin 12) (t : Fin 2048) : val_main_v22 (F := Ideal) x0 x1 x3 (ix3 b h t) =
    Finset.fold max (Ideal.ofBits .f32 0xFF800000#32) (fun s : Fin 2048 => val_main_v21_0 (F := Ideal) x0 x1 x3 (ix4 b h t s)) Finset.univ := by
  have E : val_main_v22 (F := Ideal) x0 x1 x3 = hM (val_main_v21_0 (F := Ideal) x0 x1 x3) := by
    unfold val_main_v22 val_main_cst_1 hM
    rfl
  rw [E]
  exact hM_at _ b h t
theorem r29 (b : Fin 2) (h : Fin 12) (t : Fin 2048) : val_main_v29 (F := Ideal) x0 x1 x3 (ix3 b h t) =
    max (Ideal.ofBits .f32 0xFF800000#32) (val_main_v22 (F := Ideal) x0 x1 x3 (ix3 b h t)) := by
  have E : val_main_v29 (F := Ideal) x0 x1 x3 = hM' (val_main_v22 (F := Ideal) x0 x1 x3) := by
    unfold val_main_v29 val_main_v28 val_main_cst_3 hM'
    rfl
  rw [E]
  exact hM'_at _ b h t
theorem r42 (b : Fin 2) (h : Fin 12) (t s : Fin 2048) : val_main_v42 (F := Ideal) x0 x1 x3 (ix4 b h t s) =
    Ideal.exp (val_main_v21_0 (F := Ideal) x0 x1 x3 (ix4 b h t s) - val_main_v29 (F := Ideal) x0 x1 x3 (ix3 b h t)) := by
  unfold val_main_v42 val_main_v41 val_main_v40 val_main_v39
  generalize val_main_v29 (F := Ideal) x0 x1 x3 = A
  generalize val_main_v21_0 (F := Ideal) x0 x1 x3 = B
  pointwise []
theorem r43 (b : Fin 2) (h : Fin 12) (t : Fin 2048) : val_main_v43 (F := Ideal) x0 x1 x3 (ix3 b h t) =
    ∑ s : Fin 2048, val_main_v42 (F := Ideal) x0 x1 x3 (ix4 b h t s) := by
  unfold val_main_v43
  generalize val_main_v42 (F := Ideal) x0 x1 x3 = A
  pointwise [val_main_cst_9]
theorem r46 (b : Fin 2) (h : Fin 12) (t s : Fin 2048) : val_main_v46 (F := Ideal) x0 x1 x3 (ix4 b h t s) =
    Ideal.div (val_main_v42 (F := Ideal) x0 x1 x3 (ix4 b h t s)) (val_main_v43 (F := Ideal) x0 x1 x3 (ix3 b h t)) := by
  unfold val_main_v46 val_main_v45 val_main_v44
  generalize val_main_v43 (F := Ideal) x0 x1 x3 = A
  generalize val_main_v42 (F := Ideal) x0 x1 x3 = B
  pointwise []
theorem r57 (b : Fin 2) (h : Fin 12) (t s : Fin 2048) : val_main_v57 (F := Ideal) x2 x4 (ix4 b h t s) =
    ∑ e : Fin 64, val_main_v56 (F := Ideal) x4 (ix4 b h e t) * val_main_v50 (F := Ideal) x2 (ix4 b s h e) := by
  unfold val_main_v57
  generalize val_main_v56 (F := Ideal) x4 = A
  generalize val_main_v50 (F := Ideal) x2 = B
  pointwise []
theorem r49 (b : Fin 2) (h : Fin 12) (t : Fin 2048) : val_main_v49 (F := Ideal) x0 x1 x3 (ix4 b h t 0) =
    Ideal.div (Ideal.ofBits .f32 0x3F800000#32) (val_main_v43 (F := Ideal) x0 x1 x3 (ix3 b h t) * val_main_v43 (F := Ideal) x0 x1 x3 (ix3 b h t)) := by
  unfold val_main_v49 val_main_v47 val_main_v44
  generalize val_main_v43 (F := Ideal) x0 x1 x3 = A
  pointwise [val_main_v48, val_main_cst_10]
theorem r63 (b : Fin 2) (h : Fin 12) (t s : Fin 2048) : val_main_v63 (F := Ideal) x0 x1 x2 x3 x4 (ix4 b h t s) =
    val_main_v57 (F := Ideal) x2 x4 (ix4 b h t s) * val_main_v49 (F := Ideal) x0 x1 x3 (ix4 b h t 0) * val_main_v42 (F := Ideal) x0 x1 x3 (ix4 b h t s) := by
  unfold val_main_v63 val_main_v62 val_main_v61
  generalize val_main_v57 (F := Ideal) x2 x4 = A
  generalize val_main_v49 (F := Ideal) x0 x1 x3 = B
  generalize val_main_v42 (F := Ideal) x0 x1 x3 = C
  pointwise []
theorem r64 (b : Fin 2) (h : Fin 12) (t : Fin 2048) : val_main_v64 (F := Ideal) x0 x1 x2 x3 x4 (ix3 b h t) =
    ∑ s : Fin 2048, val_main_v63 (F := Ideal) x0 x1 x2 x3 x4 (ix4 b h t s) := by
  unfold val_main_v64
  generalize val_main_v63 (F := Ideal) x0 x1 x2 x3 x4 = A
  pointwise [val_main_cst_11]
theorem r69 (b : Fin 2) (h : Fin 12) (t : Fin 2048) : val_main_v69 (F := Ideal) x0 x1 x2 x3 x4 (ix3 b h t) =
    -(val_main_v64 (F := Ideal) x0 x1 x2 x3 x4 (ix3 b h t)) := by
  unfold val_main_v69 val_main_v66 val_main_v65
  generalize val_main_v64 (F := Ideal) x0 x1 x2 x3 x4 = A
  pointwise [val_main_cst_12]
  exact Fintype.sum_unique _
theorem r72 (b : Fin 2) (h : Fin 12) (t s : Fin 2048) : val_main_v72 (F := Ideal) x0 x1 x2 x3 x4 (ix4 b h t s) =
    (Ideal.div (val_main_v57 (F := Ideal) x2 x4 (ix4 b h t s)) (val_main_v43 (F := Ideal) x0 x1 x3 (ix3 b h t)) + val_main_v69 (F := Ideal) x0 x1 x2 x3 x4 (ix3 b h t))
      * val_main_v42 (F := Ideal) x0 x1 x3 (ix4 b h t s) := by
  unfold val_main_v72 val_main_v71 val_main_v70 val_main_v68 val_main_v67 val_main_v44
  generalize val_main_v57 (F := Ideal) x2 x4 = A
  generalize val_main_v43 (F := Ideal) x0 x1 x3 = B
  generalize val_main_v42 (F := Ideal) x0 x1 x3 = C
  generalize val_main_v69 (F := Ideal) x0 x1 x2 x3 x4 = D
  pointwise []
theorem r73 (b : Fin 2) (h : Fin 12) (t s : Fin 2048) : val_main_v73 (F := Ideal) x0 x1 x2 x3 x4 (ix4 b h t s) =
    if s ≤ t then val_main_v72 (F := Ideal) x0 x1 x2 x3 x4 (ix4 b h t s) else Ideal.ofBits .f32 0x00000000#32 := by
  rw [val_main_v73_apply, r21m, select_if]
  rfl
theorem r84 (b : Fin 2) (h : Fin 12) (t s : Fin 2048) : val_main_v84 (F := Ideal) x0 x1 x2 x3 x4 (ix4 b h t s) =
    val_main_v73 (F := Ideal) x0 x1 x2 x3 x4 (ix4 b h t s) * scl := by
  unfold val_main_v84
  generalize val_main_v73 (F := Ideal) x0 x1 x2 x3 x4 = A
  pointwise [val_main_v83, val_main_cst_17, scl]
theorem r88 (b : Fin 2) (h : Fin 12) (t : Fin 2048) (e : Fin 64) : val_main_v88 (F := Ideal) x0 x1 x2 x3 x4 (ix4 b t h e) =
    ∑ s : Fin 2048, val_main_v84 (F := Ideal) x0 x1 x2 x3 x4 (ix4 b h t s) * val_main_v1 (F := Ideal) x1 (ix4 b s h e) := by
  unfold val_main_v88 val_main_v87
  generalize val_main_v84 (F := Ideal) x0 x1 x2 x3 x4 = A
  generalize val_main_v1 (F := Ideal) x1 = B
  pointwise []
theorem r86 (b : Fin 2) (h : Fin 12) (s : Fin 2048) (e : Fin 64) : val_main_v86 (F := Ideal) x0 x1 x2 x3 x4 (ix4 b s h e) =
    ∑ t : Fin 2048, val_main_v84 (F := Ideal) x0 x1 x2 x3 x4 (ix4 b h t s) * val_main_v0 (F := Ideal) x0 (ix4 b t h e) := by
  unfold val_main_v86 val_main_v85
  generalize val_main_v84 (F := Ideal) x0 x1 x2 x3 x4 = A
  generalize val_main_v0 (F := Ideal) x0 = B
  pointwise []
theorem r59 (b : Fin 2) (h : Fin 12) (s : Fin 2048) (e : Fin 64) : val_main_v59 (F := Ideal) x0 x1 x3 x4 (ix4 b s h e) =
    ∑ t : Fin 2048, val_main_v56 (F := Ideal) x4 (ix4 b h e t) * val_main_v46 (F := Ideal) x0 x1 x3 (ix4 b h t s) := by
  unfold val_main_v59 val_main_v58
  generalize val_main_v56 (F := Ideal) x4 = A
  generalize val_main_v46 (F := Ideal) x0 x1 x3 = B
  pointwise []
theorem r78 (b : Fin 2) (s : Fin 2048) (h : Fin 12) : val_main_v78 (F := Ideal) x0 x1 x2 x3 x4 (ix3 b s h) =
    ∑ t : Fin 2048, -(val_main_v73 (F := Ideal) x0 x1 x2 x3 x4 (ix4 b h t s)) := by
  unfold val_main_v78 val_main_v77 val_main_v76 val_main_v75 val_main_v74
  generalize val_main_v73 (F := Ideal) x0 x1 x2 x3 x4 = A
  pointwise [val_main_cst_13, val_main_cst_14]
  exact Fintype.sum_unique _
theorem r82 (b : Fin 2) (t : Fin 2048) (h : Fin 12) : val_main_v82 (F := Ideal) x0 x1 x2 x3 x4 (ix3 b t h) =
    ∑ s : Fin 2048, val_main_v73 (F := Ideal) x0 x1 x2 x3 x4 (ix4 b h t s) := by
  unfold val_main_v82 val_main_v81 val_main_v80 val_main_v79
  generalize val_main_v73 (F := Ideal) x0 x1 x2 x3 x4 = A
  pointwise [val_main_cst_15, val_main_cst_16]
  exact Fintype.sum_unique _
end Cert.Fox.Ref
-- ==== Proof.Fox.RefOut.lean ====
/-
  The reference's three results at an index: the packed gradients of queries, keys and values, the packed sums over queries, the packed sums over keys.
-/
module

public import proofs.«01_k».proof.Proof.Fox.Ref

@[expose] public section
set_option maxRecDepth 65536
set_option maxHeartbeats 4000000
noncomputable section
namespace Cert.Fox.Ref
open Cert.FoxBwdRefIdeal Cert.FoxBwdRefIdeal.Gen Cert.FoxBwdRefIdeal.Read Idealize.ShloMosaic Idealize.ShloMosaic.TcCoe Idealize.SL.Sem
open Idealize.ShloMosaic.Pointwise

/-- A gradient in lanes of pairs of heads. -/
def pack (X : FVec Ideal S2x2048x12x64 .f32) : FVec Ideal S2x2048x6x128 .bf16 :=
  shapeCast S2x2048x6x128 (truncf .bf16 (shapeCast S2x2048x768 X shapeCasts_S2x2048x12x64_S2x2048x768) bitsLt_bf16_f32) shapeCasts_S2x2048x768_S2x2048x6x128
theorem pack_at (X : FVec Ideal S2x2048x12x64 .f32) (b : Fin 2) (t : Fin 2048) (p : Fin 6) (u : Fin 2) (e : Fin 64) :
    pack X (ix4 b t p (lane u e)) = X (ix4 b t (hd p u) e) := by
  have Q : ∀ l : Fin 128, l.val = 64 * u.val + e.val → pack X (ix4 b t p l) = X (ix4 b t (hd p u) e) := by
    intro l hl
    pointwise [pack]
    congr 2
    · exact Fin.ext (by simp only [hd]; omega)
    · exact Fin.ext (by simp only []; omega)
  exact Q _ rfl
/-- Three gradients side by side, pair by pair. -/
def cat (A B C : FVec Ideal S2x2048x6x128 .bf16) : FVec Ideal S2x2048x6x384 .bf16 :=
  concatenate S2x2048x6x384 3 [⟨S2x2048x6x128, A⟩, ⟨S2x2048x6x128, B⟩, ⟨S2x2048x6x128, C⟩] concatenates_S2x2048x6x128_S2x2048x6x128_S2x2048x6x128_S2x2048x6x384_d3
def flat (X : FVec Ideal S2x2048x6x384 .bf16) : FVec Ideal S2x2048x2304 .bf16 := shapeCast S2x2048x2304 X shapeCasts_S2x2048x6x384_S2x2048x2304
theorem flat_at (X : FVec Ideal S2x2048x6x384 .bf16) (b : Fin 2) (t : Fin 2048) (p : Fin 6) (z : Fin 384) (q : Fin 2304) (h : q.val = 384 * p.val + z.val) :
    flat X (ix3 b t q) = X (ix4 b t p z) := by
  pointwise [flat]
  congr 2 <;> exact Fin.ext (by simp only []; omega)
theorem cat_at0 (A B C : FVec Ideal S2x2048x6x128 .bf16) (b : Fin 2) (t : Fin 2048) (p : Fin 6) (e : Fin 128) (z : Fin 384) (h : z.val = e.val) :
    cat A B C (ix4 b t p z) = A (ix4 b t p e) := by
  pointwise [cat]
  rw [dif_pos (by omega)]
  congr 2
  exact Fin.ext (by simp only []; omega)
theorem cat_at1 (A B C : FVec Ideal S2x2048x6x128 .bf16) (b : Fin 2) (t : Fin 2048) (p : Fin 6) (e : Fin 128) (z : Fin 384) (h : z.val = 128 + e.val) :
    cat A B C (ix4 b t p z) = B (ix4 b t p e) := by
  pointwise [cat]
  rw [dif_neg (by omega), dif_pos (by omega)]
  congr 2
  exact Fin.ext (by simp only []; omega)
theorem cat_at2 (A B C : FVec Ideal S2x2048x6x128 .bf16) (b : Fin 2) (t : Fin 2048) (p : Fin 6) (e : Fin 128) (z : Fin 384) (h : z.val = 256 + e.val) :
    cat A B C (ix4 b t p z) = C (ix4 b t p e) := by
  pointwise [cat]
  rw [dif_neg (by omega), dif_neg (by omega)]
  congr 2
  exact Fin.ext (by simp only []; omega)
/-- The sums over queries, two lanes for each pair of heads. -/
def packN (X : FVec Ideal S2x2048x12 .f32) : FVec Ideal S2x2048x768 .f32 :=
  shapeCast S2x2048x768 (pad S2x2048x6x128 ![0, 0, 0, 0] ![0, 0, 0, 126] ![0, 0, 0, 0] (Host.negf (shapeCast S2x2048x6x2 X shapeCasts_S2x2048x12_S2x2048x6x2) : FVec Ideal S2x2048x6x2 .f32)
    (sitofp (F := Ideal) .f32 (constantI S_ 32 0#32)) pads_S2x2048x6x2_S2x2048x6x128_000_000_000_01260 h_S_) shapeCasts_S2x2048x6x128_S2x2048x768
theorem packN_at (X : FVec Ideal S2x2048x12 .f32) (b : Fin 2) (t : Fin 2048) (p : Fin 6) (l : Fin 128) :
    packN X (ix3 b t (pcol p l)) = if l = 0 then -(X (ix3 b t (hd p 0))) else if l = 1 then -(X (ix3 b t (hd p 1))) else ((0 : ℝ) : EReal) := by
  have Q : ∀ q : Fin 768, q.val = 128 * p.val + l.val → packN X (ix3 b t q) =
      if h : l.val < 2 then -(X (ix3 b t (⟨2 * p.val + l.val, by omega⟩ : Fin 12))) else ((0 : ℝ) : EReal) := by
    intro q hq
    pointwise [packN]
    by_cases hl : l.val < 2
    · rw [dif_pos (by omega), dif_pos hl]
      congr 3
      exact Fin.ext (by simp only []; omega)
    · rw [dif_neg (by omega), dif_neg hl]
      simp [FloatOps.sitofp]
  rw [Q _ rfl]
  by_cases h0 : l = 0
  · subst h0; rfl
  · by_cases h1 : l = 1
    · subst h1; rfl
    · have : 2 ≤ l.val := by
        have a0 : l.val ≠ 0 := fun h => h0 (Fin.ext h)
        have a1 : l.val ≠ 1 := fun h => h1 (Fin.ext h)
        omega
      rw [dif_neg (by omega), if_neg h0, if_neg h1]
/-- The sums over keys, in tiles of 256 rows, the two heads of a pair side by side. -/
def packR (X : FVec Ideal S2x2048x12 .f32) : FVec Ideal S2x6x8x512 .f32 :=
  shapeCast S2x6x8x512 (transpose S2x6x8x2x256 [0, 3, 1, 4, 2] (shapeCast S2x8x256x6x2 X shapeCasts_S2x2048x12_S2x8x256x6x2)
    transposes_S2x8x256x6x2_S2x6x8x2x256_0_3_1_4_2) shapeCasts_S2x6x8x2x256_S2x6x8x512
theorem packR_at (X : FVec Ideal S2x2048x12 .f32) (b : Fin 2) (p : Fin 6) (n : Fin 8) (u : Fin 2) (t : Fin 256) :
    packR X (ix4 b p n (qcol u t)) = X (ix3 b (row n t) (hd p u)) := by
  have Q : ∀ q : Fin 512, q.val / 256 = u.val → q.val % 256 = t.val → packR X (ix4 b p n q) = X (ix3 b (row n t) (hd p u)) := by
    intro q h1 h2
    pointwise [packR]
    congr 2
    · exact Fin.ext (by simp only [row]; omega)
    · exact Fin.ext (by simp only [hd]; omega)
  exact Q _ (by simp only [qcol]; omega) (by simp only [qcol]; omega)

variable (x0 x1 x2 : FVec Ideal S2x2048x768 .f32) (x3 : FVec Ideal S2x2048x12 .f32) (x4 : FVec Ideal S2x2048x768 .bf16)

theorem r103 : val_main_v103 (F := Ideal) x0 x1 x2 x3 x4 = flat (cat (pack (val_main_v88 (F := Ideal) x0 x1 x2 x3 x4)) (pack (val_main_v86 (F := Ideal) x0 x1 x2 x3 x4))
    (pack (val_main_v59 (F := Ideal) x0 x1 x3 x4))) := by
  unfold val_main_v103 val_main_v97 val_main_v92 val_main_v91 val_main_v90 val_main_v94 val_main_v93 val_main_v89 val_main_v96 val_main_v95 val_main_v60 flat cat pack
  rfl
theorem r104 : val_main_v104 (F := Ideal) x0 x1 x2 x3 x4 = packN (val_main_v78 (F := Ideal) x0 x1 x2 x3 x4) := by
  unfold val_main_v104 val_main_v100 val_main_v99 val_main_v98 packN
  rfl
theorem r105 : val_main_v105 (F := Ideal) x0 x1 x2 x3 x4 = packR (val_main_v82 (F := Ideal) x0 x1 x2 x3 x4) := by
  unfold val_main_v105 val_main_v102 val_main_v101 packR
  rfl
theorem r103_dq (b : Fin 2) (t : Fin 2048) (p : Fin 6) (u : Fin 2) (e : Fin 64) (q : Fin 2304) (h : q.val = 384 * p.val + (128 * 0 + (64 * u.val + e.val))) :
    val_main_v103 (F := Ideal) x0 x1 x2 x3 x4 (ix3 b t q) = val_main_v88 (F := Ideal) x0 x1 x2 x3 x4 (ix4 b t (hd p u) e) := by
  rw [r103, flat_at _ b t p (⟨64 * u.val + e.val, by omega⟩ : Fin 384) q (by simp only []; omega), cat_at0 _ _ _ b t p (lane u e) _ (by simp only [lane]), pack_at]
theorem r103_dk (b : Fin 2) (t : Fin 2048) (p : Fin 6) (u : Fin 2) (e : Fin 64) (q : Fin 2304) (h : q.val = 384 * p.val + (128 * 1 + (64 * u.val + e.val))) :
    val_main_v103 (F := Ideal) x0 x1 x2 x3 x4 (ix3 b t q) = val_main_v86 (F := Ideal) x0 x1 x2 x3 x4 (ix4 b t (hd p u) e) := by
  rw [r103, flat_at _ b t p (⟨128 + (64 * u.val + e.val), by omega⟩ : Fin 384) q (by simp only []; omega), cat_at1 _ _ _ b t p (lane u e) _ (by simp only [lane]), pack_at]
theorem r103_dv (b : Fin 2) (t : Fin 2048) (p : Fin 6) (u : Fin 2) (e : Fin 64) (q : Fin 2304) (h : q.val = 384 * p.val + (128 * 2 + (64 * u.val + e.val))) :
    val_main_v103 (F := Ideal) x0 x1 x2 x3 x4 (ix3 b t q) = val_main_v59 (F := Ideal) x0 x1 x3 x4 (ix4 b t (hd p u) e) := by
  rw [r103, flat_at _ b t p (⟨256 + (64 * u.val + e.val), by omega⟩ : Fin 384) q (by simp only []; omega), cat_at2 _ _ _ b t p (lane u e) _ (by simp only [lane]), pack_at]
end Cert.Fox.Ref
-- ==== Proof.Fox.Beside.lean ====
/-
  A load of two blocks that were stored side by side.
-/
module

public import proofs.«01_k».proof.Proof.Fox.Index
public import proofs.«01_k».proof.Proof.Gen.FoxBwdIdeal.Frame
public import Idealize.ShloMosaic.Lib.Pipeline.ValueKit
public import Idealize.ShloMosaic.Lib.Pipeline.ReadBack

@[expose] public section
set_option maxRecDepth 65536
noncomputable section
namespace Cert.Fox
open Cert.FoxBwdIdeal Cert.FoxBwdIdeal.Gen Idealize.ShloMosaic Idealize.ShloMosaic.TcCoe Idealize.SL.Sem
open Idealize.ShloMosaic.Pointwise

/-- Two blocks of 256 columns side by side. -/
def beside {φ : EltTy} (A B : Vec Ideal S1x128x256 φ) : Vec Ideal S1x128x512 φ := fun i =>
  if h : (i 2).val < 256 then A (ix3 0 ⟨(i 1).val, (i 1).isLt⟩ ⟨(i 2).val, h⟩)
  else B (ix3 0 ⟨(i 1).val, (i 1).isLt⟩ ⟨(i 2).val - 256, by have h2 : (i 2).val < 512 := (i 2).isLt; omega⟩)
/-- Two rows of 256 columns side by side. -/
def beside2 {φ : EltTy} (A B : Vec Ideal S1x256 φ) : Vec Ideal S1x512 φ := fun i =>
  if h : (i 1).val < 256 then A (ix2 0 ⟨(i 1).val, h⟩)
  else B (ix2 0 ⟨(i 1).val - 256, by have h2 : (i 1).val < 512 := (i 1).isLt; omega⟩)

theorem beside_apply0 {φ : EltTy} (A B : Vec Ideal S1x128x256 φ) (e : Fin 128) (t : Fin 256) : beside A B (ix3 0 e (qcol 0 t)) = A (ix3 0 e t) := by
  have h : (qcol 0 t).val < 256 := by simp only [qcol]; have := t.isLt; simp
  have e1 : (⟨(qcol 0 t).val, h⟩ : Fin 256) = t := Fin.ext (by simp [qcol])
  unfold beside
  rw [dif_pos (show ((ix3 (0 : Fin 1) e (qcol 0 t) : S1x128x512.Idx) 2).val < 256 from h)]
  exact congrArg (fun z => A (ix3 0 e z)) e1
theorem beside_apply1 {φ : EltTy} (A B : Vec Ideal S1x128x256 φ) (e : Fin 128) (t : Fin 256) : beside A B (ix3 0 e (qcol 1 t)) = B (ix3 0 e t) := by
  have h : ¬ (qcol 1 t).val < 256 := by simp [qcol]
  have e1 : (⟨(qcol 1 t).val - 256, by simp only [qcol]; have := t.isLt; simp⟩ : Fin 256) = t := Fin.ext (by simp [qcol])
  unfold beside
  rw [dif_neg (show ¬ ((ix3 (0 : Fin 1) e (qcol 1 t) : S1x128x512.Idx) 2).val < 256 from h)]
  exact congrArg (fun z => B (ix3 0 e z)) e1
theorem beside2_apply0 {φ : EltTy} (A B : Vec Ideal S1x256 φ) (t : Fin 256) : beside2 A B (ix2 0 (qcol 0 t)) = A (ix2 0 t) := by
  have h : (qcol 0 t).val < 256 := by simp only [qcol]; have := t.isLt; simp
  have e1 : (⟨(qcol 0 t).val, h⟩ : Fin 256) = t := Fin.ext (by simp [qcol])
  unfold beside2
  rw [dif_pos (show ((ix2 (0 : Fin 1) (qcol 0 t) : S1x512.Idx) 1).val < 256 from h)]
  exact congrArg (fun z => A (ix2 0 z)) e1
theorem beside2_apply1 {φ : EltTy} (A B : Vec Ideal S1x256 φ) (t : Fin 256) : beside2 A B (ix2 0 (qcol 1 t)) = B (ix2 0 t) := by
  have h : ¬ (qcol 1 t).val < 256 := by simp [qcol]
  have e1 : (⟨(qcol 1 t).val - 256, by simp only [qcol]; have := t.isLt; simp⟩ : Fin 256) = t := Fin.ext (by simp [qcol])
  unfold beside2
  rw [dif_neg (show ¬ ((ix2 (0 : Fin 1) (qcol 1 t) : S1x512.Idx) 1).val < 256 from h)]
  exact congrArg (fun z => B (ix2 0 z)) e1

theorem readCov_beside {κ : Kind} {sp : Space} {φ : EltTy} (v : View sig κ sp S8x128x512 φ) (n : ℕ)
    (h1 : ∀ a, (![n, 0, 256] : Fin 3 → ℕ) a + (![1, 128, 256] : Fin 3 → ℕ) a ≤ S8x128x512.size a)
    (h0 : ∀ a, (![n, 0, 0] : Fin 3 → ℕ) a + (![1, 128, 256] : Fin 3 → ℕ) a ≤ S8x128x512.size a)
    (h : ∀ a, (![n, 0, 0] : Fin 3 → ℕ) a + (![1, 128, 512] : Fin 3 → ℕ) a ≤ S8x128x512.size a)
    (A B : Vec Ideal S1x128x256 φ) (L : List (View.Piece (Elt Ideal) S8x128x512 φ)) :
    v.readCov (Val := Elt Ideal) (⟨Rect.unit ![n, 0, 256] ![1, 128, 256] h1, B⟩ :: ⟨Rect.unit ![n, 0, 0] ![1, 128, 256] h0, A⟩ :: L)
      (Rect.unit ![n, 0, 0] ![1, 128, 512] h).toLoadRect = beside A B := by
  rw [View.readCov_eq_canon']
  funext x
  have x0 : (x 0).val < 1 := (x 0).isLt
  have x1 : (x 1).val < 128 := (x 1).isLt
  have x2 : (x 2).val < 512 := (x 2).isLt
  unfold beside
  by_cases hx : (x 2).val < 256
  · rw [View.canon_cons_of_not_mem, dif_pos hx]
    · have e1 : (Rect.unit ![n, 0, 0] ![1, 128, 512] h).toLoadRect.idx x =
          (Rect.unit (s := S8x128x512) ![n, 0, 0] ![1, 128, 256] h0).emb (ix3 (0 : Fin 1) ⟨(x 1).val, x1⟩ ⟨(x 2).val, hx⟩) := by
        funext a
        fin_cases a <;> refine Fin.ext ?_ <;> simp [Rect.emb_apply, LoadRect.idx] <;> omega
      rw [e1, View.canon_cons_emb]
    · rw [Rect.mem_set_unit]
      intro H
      have := H 2
      simp [LoadRect.idx] at this
      omega
  · rw [dif_neg hx]
    have e1 : (Rect.unit ![n, 0, 0] ![1, 128, 512] h).toLoadRect.idx x =
        (Rect.unit (s := S8x128x512) ![n, 0, 256] ![1, 128, 256] h1).emb (ix3 (0 : Fin 1) ⟨(x 1).val, x1⟩ ⟨(x 2).val - 256, by omega⟩) := by
      funext a
      fin_cases a <;> refine Fin.ext ?_ <;> simp [Rect.emb_apply, LoadRect.idx] <;> omega
    rw [e1, View.canon_cons_emb]

theorem readCov_beside2 {κ : Kind} {sp : Space} {φ : EltTy} (v : View sig κ sp S8x512 φ) (n : ℕ)
    (h1 : ∀ a, (![n, 256] : Fin 2 → ℕ) a + (![1, 256] : Fin 2 → ℕ) a ≤ S8x512.size a)
    (h0 : ∀ a, (![n, 0] : Fin 2 → ℕ) a + (![1, 256] : Fin 2 → ℕ) a ≤ S8x512.size a)
    (h : ∀ a, (![n, 0] : Fin 2 → ℕ) a + (![1, 512] : Fin 2 → ℕ) a ≤ S8x512.size a)
    (A B : Vec Ideal S1x256 φ) (L : List (View.Piece (Elt Ideal) S8x512 φ)) :
    v.readCov (Val := Elt Ideal) (⟨Rect.unit ![n, 256] ![1, 256] h1, B⟩ :: ⟨Rect.unit ![n, 0] ![1, 256] h0, A⟩ :: L)
      (Rect.unit ![n, 0] ![1, 512] h).toLoadRect = beside2 A B := by
  rw [View.readCov_eq_canon']
  funext x
  have x0 : (x 0).val < 1 := (x 0).isLt
  have x1 : (x 1).val < 512 := (x 1).isLt
  unfold beside2
  by_cases hx : (x 1).val < 256
  · rw [View.canon_cons_of_not_mem, dif_pos hx]
    · have e1 : (Rect.unit ![n, 0] ![1, 512] h).toLoadRect.idx x =
          (Rect.unit (s := S8x512) ![n, 0] ![1, 256] h0).emb (ix2 (0 : Fin 1) ⟨(x 1).val, hx⟩) := by
        funext a
        fin_cases a <;> refine Fin.ext ?_ <;> simp [Rect.emb_apply, LoadRect.idx] <;> omega
      rw [e1, View.canon_cons_emb]
    · rw [Rect.mem_set_unit]
      intro H
      have := H 1
      simp [LoadRect.idx] at this
      omega
  · rw [dif_neg hx]
    have e1 : (Rect.unit ![n, 0] ![1, 512] h).toLoadRect.idx x =
        (Rect.unit (s := S8x512) ![n, 256] ![1, 256] h1).emb (ix2 (0 : Fin 1) ⟨(x 1).val - 256, by omega⟩) := by
      funext a
      fin_cases a <;> refine Fin.ext ?_ <;> simp [Rect.emb_apply, LoadRect.idx] <;> omega
    rw [e1, View.canon_cons_emb]

/-- Two tiles of 256 columns side by side. -/
def tiles2 (A B : S256x256.Idx → EReal) : S256x512.Idx → EReal :=
  concatenate S256x512 1 [⟨S256x256, A⟩, ⟨S256x256, B⟩] concatenates_S256x256_S256x256_S256x512_d1
/-- A column of 128 lanes twice. -/
def lanes2 (A B : S256x128.Idx → EReal) : S256x256.Idx → EReal :=
  concatenate S256x256 1 [⟨S256x128, A⟩, ⟨S256x128, B⟩] concatenates_S256x128_S256x128_S256x256_d1
theorem tiles2_eq (A B : S256x256.Idx → EReal) (h) : concatenate S256x512 1 [⟨S256x256, A⟩, ⟨S256x256, B⟩] h = tiles2 A B := rfl
theorem lanes2_eq (A B : S256x128.Idx → EReal) (h) : concatenate S256x256 1 [⟨S256x128, A⟩, ⟨S256x128, B⟩] h = lanes2 A B := rfl
end Cert.Fox
-- ==== Proof.Fox.Tile.lean ====
/-
  One tile of keys and queries of the backward pass of the forgetting attention, as the kernel's operations compute it.

  A grid point has one pair of heads of one sequence: its columns `X0` (queries, keys and values, 128 lanes each), the negated biases `X1`
  of all heads, the output gradient `X2`, the saved output `X3` and the saved log sums `X4`. A tile has 256 keys and the 256 queries of
  both heads, side by side in 512 columns.
-/
module

public import proofs.«01_k».proof.Proof.Fox.Beside
public import Idealize.ShloMosaic.Lib.Pointwise

@[expose] public section
set_option maxRecDepth 65536
noncomputable section
namespace Cert.Fox
open Cert.FoxBwdIdeal Cert.FoxBwdIdeal.Gen Idealize.ShloMosaic Idealize.ShloMosaic.TcCoe
open Idealize.ShloMosaic.Pointwise

abbrev Rows (φ : FTy) := FVec Ideal S1x256x128 φ
abbrev Plane (φ : FTy) := FVec Ideal S256x512 φ
abbrev Cols (φ : FTy) := FVec Ideal S1x128x256 φ
abbrev Wide (φ : FTy) := FVec Ideal S1x128x512 φ

theorem part_in (n : Fin 8) (g : Fin 3) : ∀ a, (![0, 256 * n.val, 128 * g.val] : Fin 3 → Nat) a + (![1, 256, 128] : Fin 3 → Nat) a ≤ S1x2048x384.size a := by
  revert n g; decide +kernel
theorem row_in (n : Fin 8) : ∀ a, (![0, 256 * n.val, 0] : Fin 3 → Nat) a + (![1, 256, 128] : Fin 3 → Nat) a ≤ S1x2048x128.size a := by
  revert n; decide +kernel
theorem vec_in (n : Fin 8) : ∀ a, (![0, 0, n.val, 0] : Fin 4 → Nat) a + (![1, 1, 1, 512] : Fin 4 → Nat) a ≤ S1x1x8x512.size a := by
  revert n; decide +kernel
theorem acc_in (n : Fin 8) : ∀ a, (![n.val, 0, 0] : Fin 3 → Nat) a + (![1, 128, 256] : Fin 3 → Nat) a ≤ S8x128x256.size a := by
  revert n; decide +kernel
theorem neg_in (u : Fin 2) (n : Fin 8) : ∀ a, (![u.val, 256 * n.val, 0] : Fin 3 → Nat) a + (![1, 256, 128] : Fin 3 → Nat) a ≤ S2x2048x128.size a := by
  revert u n; decide +kernel

/-- The rows of tile `n` of part `g` (queries, keys, values) of a block of columns. -/
def part (X : Vec Ideal S1x2048x384 .f32) (g : Fin 3) (n : Fin 8) : Rows .f32 :=
  View.ld X (Rect.unit ![0, 256 * n.val, 128 * g.val] ![1, 256, 128] (part_in n g))
/-- The rows of tile `n` of a block of 2048 rows. -/
def rows {φ : EltTy} (X : Vec Ideal S1x2048x128 φ) (n : Fin 8) : Vec Ideal S1x256x128 φ :=
  View.ld X (Rect.unit ![0, 256 * n.val, 0] ![1, 256, 128] (row_in n))
/-- The saved log sums of tile `n`. -/
def vec (X : Vec Ideal S1x1x8x512 .f32) (n : Fin 8) : Vec Ideal S1x1x1x512 .f32 :=
  View.ld X (Rect.unit ![0, 0, n.val, 0] ![1, 1, 1, 512] (vec_in n))

/-- The accumulator of tile `j`, and the column sums of head `u` of tile `j`. -/
def accAt (Z : Vec Ideal S8x128x256 .f32) (j : Fin 8) : Cols .f32 := View.ld Z (Rect.unit ![j.val, 0, 0] ![1, 128, 256] (acc_in j))
def negAt (Z : Vec Ideal S2x2048x128 .f32) (u : Fin 2) (j : Fin 8) : Rows .f32 :=
  View.ld Z (Rect.unit ![u.val, 256 * j.val, 0] ![1, 256, 128] (neg_in u j))

/-- The scaled queries of a tile with the features in front, each head's in its own columns. -/
def qT (Q : Rows .f32) : Wide .bf16 := beside (φ := .bf16) (k0_pay4 (F := Ideal) Q) (shapeCast S1x128x256 (k0_pay5 (F := Ideal) Q) shapeCasts_S128x256_S1x128x256)
/-- The output gradient of a tile with the features in front, each head's in its own columns. -/
def doT (D : Rows .bf16) : Wide .bf16 := beside (φ := .bf16) (k0_pay162 (F := Ideal) D) (k0_pay166 (F := Ideal) (k0_pay160 (F := Ideal) D))
/-- The products of the output and its gradient, summed over each head's features. -/
def delta (D : Rows .bf16) (O : Rows .f32) : FVec Ideal S1x512 .f32 :=
  beside2 (φ := .f32) (shapeCast S1x256 (k0_pay163 (F := Ideal) D O) shapeCasts_S1x256_S1x256) (k0_pay167 (F := Ideal) (k0_pay159 (F := Ideal) D O))
/-- The scores of a tile, keys by queries. -/
def raw (K Q : Rows .f32) : Plane .f32 := k0_pay180 (F := Ideal) (k0_pay43 (F := Ideal) K) (qT Q)
/-- The gradients of the weights of a tile. -/
def dpt (W : Rows .f32) (D : Rows .bf16) : Plane .f32 := k0_pay181 (F := Ideal) (k0_pay44 (F := Ideal) W) (doT D)
/-- The lanes of a row. -/
def lanes : IVec S1x128 32 := iota .tc S1x128 32 [1] (by decide)
/-- The negated biases of the first head and of the second head of pair `a`. -/
def nb0 (a : BitVec 32) (N : Rows .f32) : Rows .f32 := k0_pay56 (F := Ideal) a lanes N
def nb1 (a : BitVec 32) (N : Rows .f32) : Rows .f32 := k0_pay57 (F := Ideal) a lanes N
/-- The weights of a tile below the diagonal, and of a tile on it. -/
def wOff (R : Plane .f32) (N0 N1 : Rows .f32) (L : FVec Ideal S1x1x1x512 .f32) : Plane .f32 := k0_pay199 (F := Ideal) R N0 N1 L
def wDiag (R : Plane .f32) (N0 N1 : Rows .f32) (L : FVec Ideal S1x1x1x512 .f32) : Plane .f32 := k0_pay208 (F := Ideal) (k0_pay2 (F := Ideal)) R N0 N1 L

section
variable (a : BitVec 32) (X0 : Vec Ideal S1x2048x384 .f32) (X1 : Vec Ideal S1x2048x128 .f32) (X2 : Vec Ideal S1x2048x128 .bf16)
  (X3 : Vec Ideal S1x2048x128 .f32) (X4 : Vec Ideal S1x1x8x512 .f32) (i j : Fin 8)

/-- The weights of the keys of tile `j` for the queries of tile `i`. -/
def wgt : Plane .f32 :=
  cond (Nat.beq j.val i.val) (wDiag (raw (part X0 1 j) (part X0 0 i)) (nb0 a (rows X1 j)) (nb1 a (rows X1 j)) (vec X4 i))
    (wOff (raw (part X0 1 j) (part X0 0 i)) (nb0 a (rows X1 j)) (nb1 a (rows X1 j)) (vec X4 i))
/-- The gradients of the scores. -/
def dsc : Plane .f32 := k0_pay200 (F := Ideal) (wgt a X0 X1 X4 i j) (dpt (part X0 2 j) (rows X2 i)) (delta (rows X2 i) (rows X3 i))
def wgtB : Plane .bf16 := k0_pay204 (F := Ideal) (wgt a X0 X1 X4 i j)
def dscB : Plane .bf16 := k0_pay205 (F := Ideal) (wgt a X0 X1 X4 i j) (dpt (part X0 2 j) (rows X2 i)) (delta (rows X2 i) (rows X3 i))
/-- A tile's share of the query gradients. -/
def dqp : FVec Ideal S128x512 .f32 := k0_pay195 (F := Ideal) (k0_pay45 (F := Ideal) (part X0 1 j)) (dscB a X0 X1 X2 X3 X4 i j)
/-- A tile's share of the row sums. -/
def rsp : FVec Ideal S1x512 .f32 := k0_pay201 (F := Ideal) (wgt a X0 X1 X4 i j) (dpt (part X0 2 j) (rows X2 i)) (delta (rows X2 i) (rows X3 i))
end

/-- The tiles after the first up to tile `i`, and the tiles from tile `j` on. -/
def upTo : Fin 8 → List (Fin 8) := ![[], [1], [1, 2], [1, 2, 3], [1, 2, 3, 4], [1, 2, 3, 4, 5], [1, 2, 3, 4, 5, 6], [1, 2, 3, 4, 5, 6, 7]]
def since : Fin 8 → List (Fin 8) := ![[0, 1, 2, 3, 4, 5, 6, 7], [1, 2, 3, 4, 5, 6, 7], [2, 3, 4, 5, 6, 7], [3, 4, 5, 6, 7], [4, 5, 6, 7], [5, 6, 7], [6, 7], [7]]

/-- Rows of a result block from an accumulator with the features in front. -/
def outRows (A : Cols .f32) : Rows .bf16 := k0_pay724 (F := Ideal) A
/-- Each head's own lanes of the query gradients, scaled. -/
def outQ (A : FVec Ideal S128x512 .f32) : Rows .bf16 :=
  shapeCast S1x256x128 (truncf .bf16 (mulf (transpose S256x128 [1, 0]
    (select (broadcastTo S128x256 (shapeCast S128x1 (andi (cmpi .sge (iota .tc S128x1 32 [0] iota_S128x1_d0_w32) (broadcast S128x1 0#32))
        (cmpi .slt (iota .tc S128x1 32 [0] iota_S128x1_d0_w32) (broadcast S128x1 64#32))) shapeCasts_S128x1_S128x1) broadcasts_S128x1_S128x256)
      (extractStridedSlice S128x256 ![0, 0] A slices_S128x512_o0_0_S128x256) (extractStridedSlice S128x256 ![0, 256] A slices_S128x512_o0_256_S128x256))
    transposes_S128x256_p1_0_S256x128) (broadcast S256x128 (Scalar.ofBits (F := Ideal) .f32 0x3E000000#32))) bitsLt_bf16_f32) shapeCasts_S256x128_S1x256x128

section
variable (a : BitVec 32) (X0 : Vec Ideal S1x2048x384 .f32) (X1 : Vec Ideal S1x2048x128 .f32) (X2 : Vec Ideal S1x2048x128 .bf16)
  (X3 : Vec Ideal S1x2048x128 .f32) (X4 : Vec Ideal S1x1x8x512 .f32)
/-- The query gradients of tile `i`, before the scale. -/
def dqA (i : Fin 8) : FVec Ideal S128x512 .f32 :=
  (upTo i).foldl (fun A j => addf A (dqp a X0 X1 X2 X3 X4 i j)) (dqp a X0 X1 X2 X3 X4 i 0)
/-- The row sums of tile `i`. -/
def rsA (i : Fin 8) : FVec Ideal S1x512 .f32 :=
  (upTo i).foldl (fun A j => addf A (rsp a X0 X1 X2 X3 X4 i j)) (rsp a X0 X1 X2 X3 X4 i 0)
/-- The key gradients of tile `j`, features in front. -/
def dkA (j : Fin 8) : Cols .f32 :=
  (since j).foldl (fun A i => k0_pay194 (F := Ideal) A (qT (part X0 0 i)) (dscB a X0 X1 X2 X3 X4 i j))
    (accAt (k0_pay177 (F := Ideal)) j)
/-- The value gradients of tile `j`, features in front. -/
def dvA (j : Fin 8) : Cols .f32 :=
  (since j).foldl (fun A i => k0_pay193 (F := Ideal) A (doT (rows X2 i)) (wgtB a X0 X1 X4 i j))
    (accAt (k0_pay178 (F := Ideal)) j)
/-- The sums over queries of tile `j`, in 128 lanes, of the first head and of the second head. -/
def cs0 (j : Fin 8) : Rows .f32 :=
  (since j).foldl (fun A i => k0_pay202 (F := Ideal) (wgt a X0 X1 X4 i j) (dpt (part X0 2 j) (rows X2 i)) (delta (rows X2 i) (rows X3 i)) A)
    (negAt (k0_pay179 (F := Ideal)) 0 j)
def cs1 (j : Fin 8) : Rows .f32 :=
  (since j).foldl (fun A i => k0_pay203 (F := Ideal) (wgt a X0 X1 X4 i j) (dpt (part X0 2 j) (rows X2 i)) (delta (rows X2 i) (rows X3 i)) A)
    (negAt (k0_pay179 (F := Ideal)) 1 j)
/-- The sums over queries of tile `j`, one lane for each head. -/
def outN (j : Fin 8) : Rows .f32 := k0_pay726 (F := Ideal) lanes (k0_pay725 (F := Ideal) (cs0 a X0 X1 X2 X3 X4 j)) (cs1 a X0 X1 X2 X3 X4 j)
/-- A result tile: the query, key and value gradients. -/
def outP : Fin 3 → Fin 8 → Rows .bf16 :=
  ![fun i => outQ (dqA a X0 X1 X2 X3 X4 i), fun j => outRows (dkA a X0 X1 X2 X3 X4 j), fun j => outRows (dvA a X0 X1 X2 X4 j)]
end
end Cert.Fox
-- ==== Proof.Fox.Block.lean ====
/-
  What one grid point of the forgetting attention's backward pass leaves in its three blocks.
-/
module

public import proofs.«01_k».proof.Proof.Fox.Tile
public import Idealize.ShloMosaic.Lib.Pipeline.ValueKit
import Idealize.ShloMosaic.Lib.Pipeline.ReadBack

@[expose] public section
set_option maxRecDepth 65536
set_option maxHeartbeats 4000000
noncomputable section
namespace Cert.Fox
open Cert.FoxBwdIdeal Cert.FoxBwdIdeal.Gen Idealize.ShloMosaic Idealize.ShloMosaic.TcCoe Idealize.SL.Sem
open Idealize.ShloMosaic.Pointwise
variable (m : (ℓ : Loc nD τ sig) → Buf (Elt Ideal) ℓ)

/-- The second coordinate of a grid point, as the kernel holds it. -/
def arg (t : Fin cfg0.N) : BitVec 32 := BitVec.ofNat 32 ((grid0.coords t) 1).val

theorem neg_block (c : Dev nD) (t : Fin cfg0.N) (X0 X1 X2 X3 X4) (h0 : X0_0 m c t = X0) (h1 : iblk m c 1 t = X1) (h2 : iblk m c 2 t = X2)
    (h3 : iblk m c 3 t = X3) (h4 : iblk m c 4 t = X4) :
    (outsAt0 (F := Ideal) m c t).2.1 = View.canon (List.ofFn fun k : Fin 8 => (⟨Rect.unit ![0, 256 * (k.rev).val, 0] ![1, 256, 128] (row_in k.rev),
      outN (arg t) X0 X1 X2 X3 X4 k.rev⟩ : View.Piece (Elt Ideal) S1x2048x128 .f32)) := by
  unfold outsAt0
  dsimp only
  rw [h0, h1, h2, h3, h4]
  unfold out0_A_6
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.ld_unit_lit', View.canon_cons_unit_lit', View.readCov_cons_toLoadRect, tiles2_eq, lanes2_eq, readCov_beside, readCov_beside2, View.readCov_fill]
  rfl

/-- The tile and the part of each store of the first block, the latest first. -/
def tn : Fin 24 → Fin 8 := ![7, 7, 6, 6, 5, 5, 4, 4, 3, 3, 2, 2, 1, 1, 0, 0, 7, 6, 5, 4, 3, 2, 1, 0]
def tp : Fin 24 → Fin 3 := ![2, 1, 2, 1, 2, 1, 2, 1, 2, 1, 2, 1, 2, 1, 2, 1, 0, 0, 0, 0, 0, 0, 0, 0]

theorem qkv_block (c : Dev nD) (t : Fin cfg0.N) (X0 X1 X2 X3 X4) (h0 : X0_0 m c t = X0) (h1 : iblk m c 1 t = X1) (h2 : iblk m c 2 t = X2)
    (h3 : iblk m c 3 t = X3) (h4 : iblk m c 4 t = X4) :
    (outsAt0 (F := Ideal) m c t).1 = View.canon (List.ofFn fun k : Fin 24 => (⟨Rect.unit ![0, 256 * (tn k).val, 128 * (tp k).val] ![1, 256, 128] (part_in (tn k) (tp k)),
      outP (arg t) X0 X1 X2 X3 X4 (tp k) (tn k)⟩ : View.Piece (Elt Ideal) S1x2048x384 .bf16)) := by
  unfold outsAt0
  dsimp only
  rw [h0, h1, h2, h3, h4]
  unfold out0_A_5
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.ld_unit_lit', View.canon_cons_unit_lit', View.readCov_cons_toLoadRect, tiles2_eq, lanes2_eq, readCov_beside, readCov_beside2, View.readCov_fill]
  rfl

theorem row_block (c : Dev nD) (t : Fin cfg0.N) (X0 X1 X2 X3 X4) (h0 : X0_0 m c t = X0) (h1 : iblk m c 1 t = X1) (h2 : iblk m c 2 t = X2)
    (h3 : iblk m c 3 t = X3) (h4 : iblk m c 4 t = X4) :
    (outsAt0 (F := Ideal) m c t).2.2 = View.canon (List.ofFn fun k : Fin 8 => (⟨Rect.unit ![0, 0, (k.rev).val, 0] ![1, 1, 1, 512] (vec_in k.rev),
      k0_pay198 (F := Ideal) (rsA (arg t) X0 X1 X2 X3 X4 k.rev)⟩ : View.Piece (Elt Ideal) S1x1x8x512 .f32)) := by
  unfold outsAt0
  dsimp only
  rw [h0, h1, h2, h3, h4]
  unfold out0_A_7
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.ld_unit_lit', View.canon_cons_unit_lit', View.readCov_cons_toLoadRect, tiles2_eq, lanes2_eq, readCov_beside, readCov_beside2, View.readCov_fill]
  rfl
end Cert.Fox
-- ==== Proof.Fox.TileAt.lean ====
/-
  One tile of the forgetting attention's backward pass at an index, over the extended reals.
-/
module

public import proofs.«01_k».proof.Proof.Fox.Tile

@[expose] public section
set_option maxRecDepth 65536
set_option maxHeartbeats 4000000
noncomputable section
namespace Cert.Fox
open Cert.FoxBwdIdeal Cert.FoxBwdIdeal.Gen Idealize.ShloMosaic Idealize.ShloMosaic.TcCoe
open Idealize.ShloMosaic.Pointwise

/-- One eighth, the scale of the scores, as the constant that both programs hold. -/
def scl : EReal := Ideal.ofBits .f32 0x3E000000#32
/-- Lane `e` belongs to head `u` of the pair. -/
def own (u : Fin 2) (e : Fin 128) : Prop := e.val / 64 = u.val
instance (u : Fin 2) (e : Fin 128) : Decidable (own u e) := by unfold own; infer_instance

theorem zero16 : Ideal.ofBits .bf16 0x0000#16 = 0 := by simp [Ideal.ofBits, Ideal.ieee]
theorem zero32 : Ideal.ofBits .f32 0x00000000#32 = 0 := by simp [Ideal.ofBits, Ideal.ieee]

theorem head0 {α : Type} (e : Fin 128) (x y : α) :
    Scalar.select (IntOp.andi (IntOp.cmpi CmpIPredicate.sge (BitVec.ofNat 32 e.val) 0#32) (IntOp.cmpi CmpIPredicate.slt (BitVec.ofNat 32 e.val) 64#32)) x y =
      if own 0 e then x else y := by
  have h : IntOp.andi (IntOp.cmpi CmpIPredicate.sge (BitVec.ofNat 32 e.val) 0#32) (IntOp.cmpi CmpIPredicate.slt (BitVec.ofNat 32 e.val) 64#32) =
      if own 0 e then 1#1 else 0#1 := by revert e; decide +kernel
  rw [h, select_if]
theorem head1 {α : Type} (e : Fin 128) (x y : α) :
    Scalar.select (IntOp.andi (IntOp.cmpi CmpIPredicate.sge (BitVec.ofNat 32 e.val) 64#32) (IntOp.cmpi CmpIPredicate.slt (BitVec.ofNat 32 e.val) 128#32)) x y =
      if own 1 e then x else y := by
  have h : IntOp.andi (IntOp.cmpi CmpIPredicate.sge (BitVec.ofNat 32 e.val) 64#32) (IntOp.cmpi CmpIPredicate.slt (BitVec.ofNat 32 e.val) 128#32) =
      if own 1 e then 1#1 else 0#1 := by revert e; decide +kernel
  rw [h, select_if]

theorem part_apply (X : Vec Ideal S1x2048x384 .f32) (g : Fin 3) (n : Fin 8) (t : Fin 256) (e : Fin 128) :
    part X g n (ix3 0 t e) = X (ix3 0 (row n t) (⟨128 * g.val + e.val, by omega⟩ : Fin 384)) := by
  refine View.ld_unit_apply_of _ _ _ _ _ _ fun a => ?_
  fin_cases a <;> simp [row]
theorem rows_apply {φ : EltTy} (X : Vec Ideal S1x2048x128 φ) (n : Fin 8) (t : Fin 256) (e : Fin 128) :
    rows X n (ix3 0 t e) = X (ix3 0 (row n t) e) := by
  refine View.ld_unit_apply_of _ _ _ _ _ _ fun a => ?_
  fin_cases a <;> simp [row]
theorem vec_apply (X : Vec Ideal S1x1x8x512 .f32) (n : Fin 8) (q : Fin 512) : vec X n (ix4 0 0 0 q) = X (ix4 0 0 n q) := by
  refine View.ld_unit_apply_of _ _ _ _ _ _ fun a => ?_
  fin_cases a <;> simp

theorem q0 (Q : Rows .f32) (e : Fin 128) (t : Fin 256) : k0_pay4 (F := Ideal) Q (ix3 0 e t) = if own 0 e then Q (ix3 0 t e) * scl else 0 := by
  rw [← zero16]
  pointwise [k0_pay4, k0_pay3]
  exact head0 e _ _
theorem q1 (Q : Rows .f32) (e : Fin 128) (t : Fin 256) :
    (shapeCast S1x128x256 (k0_pay5 (F := Ideal) Q) shapeCasts_S128x256_S1x128x256) (ix3 0 e t) = if own 1 e then Q (ix3 0 t e) * scl else 0 := by
  rw [← zero16]
  pointwise [k0_pay5, k0_pay3]
  exact head1 e _ _
theorem qT_apply (Q : Rows .f32) (u : Fin 2) (e : Fin 128) (t : Fin 256) : qT Q (ix3 0 e (qcol u t)) = if own u e then Q (ix3 0 t e) * scl else 0 := by
  fin_cases u
  · exact (beside_apply0 _ _ e t).trans (q0 Q e t)
  · exact (beside_apply1 _ _ e t).trans (q1 Q e t)
theorem d0 (D : Rows .bf16) (e : Fin 128) (t : Fin 256) : k0_pay162 (F := Ideal) D (ix3 0 e t) = if own 0 e then D (ix3 0 t e) else 0 := by
  rw [← zero16]
  pointwise [k0_pay162, k0_pay161, k0_pay160, k0_pay158]
  exact head0 e _ _
theorem d1 (D : Rows .bf16) (e : Fin 128) (t : Fin 256) : k0_pay166 (F := Ideal) (k0_pay160 (F := Ideal) D) (ix3 0 e t) = if own 1 e then D (ix3 0 t e) else 0 := by
  rw [← zero16]
  pointwise [k0_pay166, k0_pay165, k0_pay160, k0_pay158]
  exact head1 e _ _
theorem doT_apply (D : Rows .bf16) (u : Fin 2) (e : Fin 128) (t : Fin 256) : doT D (ix3 0 e (qcol u t)) = if own u e then D (ix3 0 t e) else 0 := by
  fin_cases u
  · exact (beside_apply0 _ _ e t).trans (d0 D e t)
  · exact (beside_apply1 _ _ e t).trans (d1 D e t)
theorem delta_apply (D : Rows .bf16) (O : Rows .f32) (u : Fin 2) (t : Fin 256) :
    delta D O (ix2 0 (qcol u t)) = ∑ e : Fin 128, if own u e then D (ix3 0 t e) * O (ix3 0 t e) else 0 := by
  fin_cases u
  · refine (beside2_apply0 _ _ t).trans ?_
    pointwise [k0_pay163, k0_pay161, k0_pay159, k0_pay158]
    exact Finset.sum_congr rfl fun e _ => by rw [← zero32]; exact head0 e _ _
  · refine (beside2_apply1 _ _ t).trans ?_
    pointwise [k0_pay167, k0_pay165, k0_pay159, k0_pay158]
    exact Finset.sum_congr rfl fun e _ => by rw [← zero32]; exact head1 e _ _
theorem raw_apply (K Q : Rows .f32) (s : Fin 256) (q : Fin 512) : raw K Q (ix2 s q) = ∑ e : Fin 128, K (ix3 0 s e) * qT Q (ix3 0 e q) := by
  unfold raw
  generalize qT Q = A
  pointwise [k0_pay180, k0_pay43, k0_pay42]
theorem dpt_apply (W : Rows .f32) (D : Rows .bf16) (s : Fin 256) (q : Fin 512) : dpt W D (ix2 s q) = ∑ e : Fin 128, W (ix3 0 s e) * doT D (ix3 0 e q) := by
  unfold dpt
  generalize doT D = A
  pointwise [k0_pay181, k0_pay44]

/-- The negated bias of head `u` of pair `p`, picked out of the lanes. -/
theorem nb0_apply (p : Fin 6) (N : Rows .f32) (s : Fin 256) (l : Fin 128) :
    nb0 (BitVec.ofNat 32 p.val) N (ix3 0 s l) = N (ix3 0 s (⟨(hd p 0).val, by omega⟩ : Fin 128)) := by
  have H : nb0 (BitVec.ofNat 32 p.val) N (ix3 0 s l) = ∑ e : Fin 128, if e = (⟨(hd p 0).val, by omega⟩ : Fin 128) then N (ix3 0 s e) else 0 := by
    pointwise [nb0, lanes, k0_pay56, k0_pay55]
    refine Finset.sum_congr rfl fun e _ => ?_
    have h : IntOp.cmpi CmpIPredicate.eq (BitVec.ofNat 32 e.val) (Scalar.addi (Scalar.muli 2#32 (BitVec.ofNat 32 p.val)) 0#32) =
        if e = (⟨(hd p 0).val, by omega⟩ : Fin 128) then 1#1 else 0#1 := by revert e p; decide +kernel
    rw [← zero32, ← select_if, ← h]
  rw [H, Finset.sum_ite_eq' Finset.univ, if_pos (Finset.mem_univ _)]
theorem nb1_apply (p : Fin 6) (N : Rows .f32) (s : Fin 256) (l : Fin 128) :
    nb1 (BitVec.ofNat 32 p.val) N (ix3 0 s l) = N (ix3 0 s (⟨(hd p 1).val, by omega⟩ : Fin 128)) := by
  have H : nb1 (BitVec.ofNat 32 p.val) N (ix3 0 s l) = ∑ e : Fin 128, if e = (⟨(hd p 1).val, by omega⟩ : Fin 128) then N (ix3 0 s e) else 0 := by
    pointwise [nb1, lanes, k0_pay57, k0_pay55]
    refine Finset.sum_congr rfl fun e _ => ?_
    have h : IntOp.cmpi CmpIPredicate.eq (BitVec.ofNat 32 e.val) (Scalar.addi (Scalar.muli 2#32 (BitVec.ofNat 32 p.val)) 1#32) =
        if e = (⟨(hd p 1).val, by omega⟩ : Fin 128) then 1#1 else 0#1 := by revert e p; decide +kernel
    rw [← zero32, ← select_if, ← h]
  rw [H, Finset.sum_ite_eq' Finset.univ, if_pos (Finset.mem_univ _)]

theorem lanes2_apply (A : S256x128.Idx → EReal) (s t : Fin 256) : lanes2 A A (ix2 s t) = A (ix2 s (⟨t.val % 128, by omega⟩ : Fin 128)) := by
  pointwise [lanes2]
  by_cases h : t.val < 128
  · rw [dif_pos h]; congr 2; exact Fin.ext (by simp only []; omega)
  · rw [dif_neg h]; congr 2; exact Fin.ext (by simp only []; omega)
theorem tiles2_apply0 (A B : S256x256.Idx → EReal) (s t : Fin 256) : tiles2 A B (ix2 s (qcol 0 t)) = A (ix2 s t) := by
  have h : (qcol 0 t).val < 256 := by simp only [qcol]; have := t.isLt; simp
  have e1 : (⟨(qcol 0 t).val, h⟩ : Fin 256) = t := Fin.ext (by simp [qcol])
  generalize qcol 0 t = q at h e1
  pointwise [tiles2]
  rw [dif_pos h, e1]
theorem tiles2_apply1 (A B : S256x256.Idx → EReal) (s t : Fin 256) : tiles2 A B (ix2 s (qcol 1 t)) = B (ix2 s t) := by
  have H : ∀ q : Fin 512, q.val = 256 + t.val → tiles2 A B (ix2 s q) = B (ix2 s t) := by
    intro q hq
    have h : ¬ q.val < 256 := by omega
    pointwise [tiles2]
    rw [dif_neg h]
    congr 2
    exact Fin.ext (by simp only []; omega)
  exact H _ (by simp [qcol])

/-- The negated bias of a head, one of two. -/
def pick (u : Fin 2) (A B : Rows .f32) : Rows .f32 := ![A, B] u

theorem off0 (R : Plane .f32) (N0 N1 : Rows .f32) (L : FVec Ideal S1x1x1x512 .f32) (A B : S256x256.Idx → EReal)
    (hA : A = addf (extractStridedSlice S256x256 ![0, 0] R slices_S256x512_o0_0_S256x256) (lanes2 (shapeCast S256x128 N0 shapeCasts_S1x256x128_S256x128) (shapeCast S256x128 N0 shapeCasts_S1x256x128_S256x128)))
    (hB : B = addf (extractStridedSlice S256x256 ![0, 256] R slices_S256x512_o0_256_S256x256) (lanes2 (shapeCast S256x128 N1 shapeCasts_S1x256x128_S256x128) (shapeCast S256x128 N1 shapeCasts_S1x256x128_S256x128)))
    (q : Fin 512) (s : Fin 256) : wOff R N0 N1 L (ix2 s q) = Ideal.exp (tiles2 A B (ix2 s q) - L (ix4 0 0 0 q)) := by
  have e : wOff R N0 N1 L = exp (subf (tiles2 A B) (broadcastTo S256x512 (shapeCast S1x512 L shapeCasts_S1x1x1x512_S1x512) broadcasts_S1x512_S256x512)) := by
    rw [hA, hB]; rfl
  rw [e]
  generalize tiles2 A B = T
  pointwise []
theorem lane0 (N : Rows .f32) (s t : Fin 256) (x : EReal) (h : ∀ l, N (ix3 0 s l) = x) :
    lanes2 (shapeCast S256x128 N shapeCasts_S1x256x128_S256x128) (shapeCast S256x128 N shapeCasts_S1x256x128_S256x128) (ix2 s t) = x := by
  rw [lanes2_apply, ← h (⟨t.val % 128, by omega⟩ : Fin 128)]
  pointwise []
theorem left_apply (R : Plane .f32) (s t : Fin 256) : extractStridedSlice S256x256 ![0, 0] R slices_S256x512_o0_0_S256x256 (ix2 s t) = R (ix2 s (qcol 0 t)) := by
  pointwise []
  congr 2
  exact Fin.ext (by simp [qcol])
theorem right_apply (R : Plane .f32) (s t : Fin 256) : extractStridedSlice S256x256 ![0, 256] R slices_S256x512_o0_256_S256x256 (ix2 s t) = R (ix2 s (qcol 1 t)) := by
  pointwise []
  congr 2
theorem wOff_apply (R : Plane .f32) (N0 N1 : Rows .f32) (L : FVec Ideal S1x1x1x512 .f32) (u : Fin 2) (s t : Fin 256) (x : EReal)
    (h : ∀ l, pick u N0 N1 (ix3 0 s l) = x) : wOff R N0 N1 L (ix2 s (qcol u t)) = Ideal.exp (R (ix2 s (qcol u t)) + x - L (ix4 0 0 0 (qcol u t))) := by
  rw [off0 R N0 N1 L _ _ rfl rfl]
  refine congrArg (fun z => Ideal.exp (z - _)) ?_
  fin_cases u
  · refine (tiles2_apply0 _ _ s t).trans ?_
    exact congrArg₂ (· + ·) (left_apply R s t) (lane0 N0 s t x h)
  · refine (tiles2_apply1 _ _ s t).trans ?_
    exact congrArg₂ (· + ·) (right_apply R s t) (lane0 N1 s t x h)
theorem mask_apply (s t : Fin 256) : k0_pay2 (F := Ideal) (ix2 s t) = if s ≤ t then 0 else ⊥ := by
  have e : k0_pay2 (F := Ideal) (ix2 s t) = Scalar.select (IntOp.cmpi CmpIPredicate.sge (BitVec.ofNat 32 t.val) (BitVec.ofNat 32 s.val)) (Ideal.ofBits .f32 0x00000000#32) ⊥ := by
    pointwise [k0_pay2]
    rfl
  rw [e, sge_pos _ _ (by omega) (by omega), select_if, zero32]
  rfl
theorem diag0 (R : Plane .f32) (N0 N1 : Rows .f32) (L : FVec Ideal S1x1x1x512 .f32) (A B : S256x256.Idx → EReal)
    (hA : A = addf (addf (extractStridedSlice S256x256 ![0, 0] R slices_S256x512_o0_0_S256x256) (lanes2 (shapeCast S256x128 N0 shapeCasts_S1x256x128_S256x128) (shapeCast S256x128 N0 shapeCasts_S1x256x128_S256x128))) (k0_pay2 (F := Ideal)))
    (hB : B = addf (addf (extractStridedSlice S256x256 ![0, 256] R slices_S256x512_o0_256_S256x256) (lanes2 (shapeCast S256x128 N1 shapeCasts_S1x256x128_S256x128) (shapeCast S256x128 N1 shapeCasts_S1x256x128_S256x128))) (k0_pay2 (F := Ideal)))
    (q : Fin 512) (s : Fin 256) : wDiag R N0 N1 L (ix2 s q) = Ideal.exp (tiles2 A B (ix2 s q) - L (ix4 0 0 0 q)) := by
  have e : wDiag R N0 N1 L = exp (subf (tiles2 A B) (broadcastTo S256x512 (shapeCast S1x512 L shapeCasts_S1x1x1x512_S1x512) broadcasts_S1x512_S256x512)) := by
    rw [hA, hB]; rfl
  rw [e]
  generalize tiles2 A B = T
  pointwise []
theorem wDiag_apply (R : Plane .f32) (N0 N1 : Rows .f32) (L : FVec Ideal S1x1x1x512 .f32) (u : Fin 2) (s t : Fin 256) (x : EReal)
    (h : ∀ l, pick u N0 N1 (ix3 0 s l) = x) :
    wDiag R N0 N1 L (ix2 s (qcol u t)) = Ideal.exp (R (ix2 s (qcol u t)) + x + (if s ≤ t then 0 else ⊥) - L (ix4 0 0 0 (qcol u t))) := by
  rw [diag0 R N0 N1 L _ _ rfl rfl, ← mask_apply]
  refine congrArg (fun z => Ideal.exp (z - _)) ?_
  fin_cases u
  · refine (tiles2_apply0 _ _ s t).trans ?_
    exact congrArg₂ (· + ·) (congrArg₂ (· + ·) (left_apply R s t) (lane0 N0 s t x h)) rfl
  · refine (tiles2_apply1 _ _ s t).trans ?_
    exact congrArg₂ (· + ·) (congrArg₂ (· + ·) (right_apply R s t) (lane0 N1 s t x h)) rfl

theorem ds_apply (P Dp : Plane .f32) (Dl : FVec Ideal S1x512 .f32) (s : Fin 256) (q : Fin 512) :
    k0_pay200 (F := Ideal) P Dp Dl (ix2 s q) = P (ix2 s q) * (Dp (ix2 s q) - Dl (ix2 0 q)) := by
  pointwise [k0_pay200]
theorem dsB_apply (P Dp : Plane .f32) (Dl : FVec Ideal S1x512 .f32) (s : Fin 256) (q : Fin 512) :
    k0_pay205 (F := Ideal) P Dp Dl (ix2 s q) = k0_pay200 (F := Ideal) P Dp Dl (ix2 s q) := by
  pointwise [k0_pay205]
theorem wB_apply (P : Plane .f32) (s : Fin 256) (q : Fin 512) : k0_pay204 (F := Ideal) P (ix2 s q) = P (ix2 s q) := by
  pointwise [k0_pay204]
theorem rs_apply (P Dp : Plane .f32) (Dl : FVec Ideal S1x512 .f32) (q : Fin 512) :
    k0_pay201 (F := Ideal) P Dp Dl (ix2 0 q) = ∑ s : Fin 256, k0_pay200 (F := Ideal) P Dp Dl (ix2 s q) := by
  unfold k0_pay201
  generalize k0_pay200 (F := Ideal) P Dp Dl = A
  pointwise []
theorem cs0_apply (P Dp : Plane .f32) (Dl : FVec Ideal S1x512 .f32) (A : Rows .f32) (s : Fin 256) (l : Fin 128) :
    k0_pay202 (F := Ideal) P Dp Dl A (ix3 0 s l) = A (ix3 0 s l) +
      (k0_pay200 (F := Ideal) P Dp Dl (ix2 s (qcol 0 (⟨l.val, by omega⟩ : Fin 256))) + k0_pay200 (F := Ideal) P Dp Dl (ix2 s (qcol 0 (⟨128 + l.val, by omega⟩ : Fin 256)))) := by
  unfold k0_pay202
  generalize k0_pay200 (F := Ideal) P Dp Dl = B
  pointwise []
  congr 3 <;> congr 1 <;> exact Fin.ext (by simp [qcol])
theorem cs1_apply (P Dp : Plane .f32) (Dl : FVec Ideal S1x512 .f32) (A : Rows .f32) (s : Fin 256) (l : Fin 128) :
    k0_pay203 (F := Ideal) P Dp Dl A (ix3 0 s l) = A (ix3 0 s l) +
      (k0_pay200 (F := Ideal) P Dp Dl (ix2 s (qcol 1 (⟨l.val, by omega⟩ : Fin 256))) + k0_pay200 (F := Ideal) P Dp Dl (ix2 s (qcol 1 (⟨128 + l.val, by omega⟩ : Fin 256)))) := by
  unfold k0_pay203
  generalize k0_pay200 (F := Ideal) P Dp Dl = B
  pointwise []
  congr 3 <;> congr 1 <;> exact Fin.ext (by simp [qcol]; try omega)
theorem dvs_apply (A : Cols .f32) (X : Wide .bf16) (P : Plane .bf16) (e : Fin 128) (s : Fin 256) :
    k0_pay193 (F := Ideal) A X P (ix3 0 e s) = A (ix3 0 e s) + ∑ q : Fin 512, X (ix3 0 e q) * P (ix2 s q) := by
  pointwise [k0_pay193]
theorem dks_apply (A : Cols .f32) (X : Wide .bf16) (P : Plane .bf16) (e : Fin 128) (s : Fin 256) :
    k0_pay194 (F := Ideal) A X P (ix3 0 e s) = A (ix3 0 e s) + ∑ q : Fin 512, X (ix3 0 e q) * P (ix2 s q) := by
  pointwise [k0_pay194]
theorem dqs_apply (K : Rows .f32) (P : Plane .bf16) (e : Fin 128) (q : Fin 512) :
    k0_pay195 (F := Ideal) (k0_pay45 (F := Ideal) K) P (ix2 e q) = ∑ s : Fin 256, K (ix3 0 s e) * P (ix2 s q) := by
  pointwise [k0_pay195, k0_pay45, k0_pay42]
theorem outRows_apply (A : Cols .f32) (s : Fin 256) (e : Fin 128) : outRows A (ix3 0 s e) = A (ix3 0 e s) := by
  pointwise [outRows, k0_pay724]
theorem outQ_apply (A : FVec Ideal S128x512 .f32) (t : Fin 256) (e : Fin 128) :
    outQ A (ix3 0 t e) = (if own 0 e then A (ix2 e (qcol 0 t)) else A (ix2 e (qcol 1 t))) * scl := by
  have H : outQ A (ix3 0 t e) = Scalar.select (IntOp.andi (IntOp.cmpi CmpIPredicate.sge (BitVec.ofNat 32 e.val) 0#32) (IntOp.cmpi CmpIPredicate.slt (BitVec.ofNat 32 e.val) 64#32))
      (A (ix2 e (qcol 0 t))) (A (ix2 e (qcol 1 t))) * scl := by
    have e0 : (⟨t.val, by omega⟩ : Fin 512) = qcol 0 t := Fin.ext (by simp [qcol])
    rw [← e0]
    pointwise [outQ]
    rfl
  rw [H, head0]
theorem row_apply (A : FVec Ideal S1x512 .f32) (q : Fin 512) : k0_pay198 (F := Ideal) A (ix4 0 0 0 q) = A (ix2 0 q) := by
  pointwise [k0_pay198]
theorem outN_apply (A B : Rows .f32) (s : Fin 256) (l : Fin 128) :
    k0_pay726 (F := Ideal) lanes (k0_pay725 (F := Ideal) A) B (ix3 0 s l) =
      if l = 0 then ∑ z : Fin 128, A (ix3 0 s z) else if l = 1 then ∑ z : Fin 128, B (ix3 0 s z) else 0 := by
  have h0 : IntOp.cmpi CmpIPredicate.eq (BitVec.ofNat 32 l.val) 0#32 = if l = 0 then 1#1 else 0#1 := by revert l; decide +kernel
  have h1 : IntOp.cmpi CmpIPredicate.eq (BitVec.ofNat 32 l.val) 1#32 = if l = 1 then 1#1 else 0#1 := by revert l; decide +kernel
  have H : k0_pay726 (F := Ideal) lanes (k0_pay725 (F := Ideal) A) B (ix3 0 s l) =
      Scalar.select (IntOp.cmpi CmpIPredicate.eq (BitVec.ofNat 32 l.val) 0#32) (∑ z : Fin 128, A (ix3 0 s z))
        (Scalar.select (IntOp.cmpi CmpIPredicate.eq (BitVec.ofNat 32 l.val) 1#32) (∑ z : Fin 128, B (ix3 0 s z)) (Ideal.ofBits .f32 0x00000000#32)) := by
    pointwise [lanes, k0_pay726, k0_pay725]
  rw [H, h0, h1, select_if, select_if, zero32]
end Cert.Fox
-- ==== Proof.Fox.Point.lean ====
/-
  What one grid point of the forgetting attention's backward pass leaves, when every entry of its blocks is a real.

  For the pair of heads of the point: `Q`, `K`, `W` are the queries, keys and values, `N` the negated biases, `D` the output gradient, `O` the
  saved output and `L` the saved log sums. The weights are `pw`, the gradients of the scores `pg`.
-/
module

public import proofs.«01_k».proof.Proof.Fox.TileAt
public import proofs.«01_k».proof.Proof.Mem.Softmax

@[expose] public section
set_option maxRecDepth 65536
noncomputable section
namespace Cert.Fox
open Cert.FoxBwdIdeal Cert.FoxBwdIdeal.Gen Idealize.ShloMosaic Idealize.ShloMosaic.TcCoe
open Cert.Soft

/-- The scale of the scores as a real. -/
def sclR : ℝ := 1 / 8
theorem scl_real : scl = (sclR : EReal) := by
  unfold scl sclR
  simp [Ideal.ofBits, Ideal.ieee, -EReal.coe_mul]
  norm_num

theorem lt384 (g : Fin 3) (e : Fin 128) : 128 * g.val + e.val < 384 := by omega
theorem lt128 (p : Fin 6) (u : Fin 2) : (hd p u).val < 128 := by omega
theorem own_lane (u v : Fin 2) (e : Fin 64) : own v (lane u e) ↔ v = u := by
  unfold own lane
  constructor
  · intro h; exact Fin.ext (by simp only [] at h; omega)
  · rintro rfl; simp only []; omega

theorem sum_rows {M : Type*} [AddCommMonoid M] (f : Fin 2048 → M) : ∑ n : Fin 8, ∑ t : Fin 256, f (row n t) = ∑ t : Fin 2048, f t := by
  refine Fin.sum_mul_add_congr fun n t hl => congrArg f (Fin.ext ?_)
  simp only [row]
  omega
theorem sum_qcol {M : Type*} [AddCommMonoid M] (f : Fin 512 → M) : ∑ u : Fin 2, ∑ t : Fin 256, f (qcol u t) = ∑ q : Fin 512, f q := by
  refine Fin.sum_mul_add_congr fun n t hl => congrArg f (Fin.ext ?_)
  simp only [qcol]
  omega
theorem sum_lane {M : Type*} [AddCommMonoid M] (f : Fin 128 → M) : ∑ u : Fin 2, ∑ e : Fin 64, f (lane u e) = ∑ e : Fin 128, f e := by
  refine Fin.sum_mul_add_congr fun n t hl => congrArg f (Fin.ext ?_)
  simp only [lane]
  omega
/-- A sum over a head's own lanes. -/
theorem sum_own (u : Fin 2) (f : Fin 128 → ℝ) : (∑ e : Fin 128, if own u e then f e else 0) = ∑ e : Fin 64, f (lane u e) := by
  rw [← sum_lane]
  simp only [own_lane]
  rw [Finset.sum_eq_single u]
  · simp
  · intro v _ hv
    simp [Ne.symm hv]
  · simp

theorem row_le (i j : Fin 8) (s t : Fin 256) (h : j < i) : row j s ≤ row i t := by
  simp only [row, Fin.mk_le_mk]
  have : j.val < i.val := h
  omega
theorem row_le_same (i : Fin 8) (s t : Fin 256) : row i s ≤ row i t ↔ s ≤ t := by
  simp only [row, Fin.mk_le_mk]
  constructor
  · intro h; exact Fin.mk_le_mk.mpr (by omega)
  · intro h; have : s.val ≤ t.val := h; omega
theorem row_not_le (i j : Fin 8) (s t : Fin 256) (h : i < j) : ¬ row j s ≤ row i t := by
  simp only [row, Fin.mk_le_mk]
  have : i.val < j.val := h
  omega

theorem fold_real {I : Type*} (step : (I → EReal) → Fin 8 → (I → EReal)) (x : I) (r : Fin 8 → ℝ) :
    ∀ (l : List (Fin 8)) (_ : ∀ A, ∀ i ∈ l, step A i x = A x + (r i : EReal)) (Z : I → EReal) (z : ℝ) (_ : Z x = (z : EReal)),
      l.foldl step Z x = ((z + (l.map r).sum : ℝ) : EReal)
  | [], _, Z, z, hz => by simpa using hz
  | i :: l, h, Z, z, hz => by
    have := fold_real step x r l (fun A k hk => h A k (List.mem_cons_of_mem _ hk)) (step Z i) (z + r i)
      (by rw [h Z i (List.mem_cons_self), hz, EReal.coe_add])
    rw [List.foldl_cons, this, List.map_cons, List.sum_cons, add_assoc]
theorem since_mem (i j : Fin 8) : i ∈ since j → j ≤ i := by revert i j; decide
theorem upTo_mem (i j : Fin 8) : j ∈ upTo i → j ≤ i := by revert i j; decide
theorem since_sum (j : Fin 8) (r : Fin 8 → ℝ) (h : ∀ i, i < j → r i = 0) : (((since j).map r).sum : ℝ) = ∑ i, r i := by
  have H : ∀ i, r i = if j ≤ i then r i else 0 := fun i => by
    by_cases hi : j ≤ i
    · rw [if_pos hi]
    · rw [if_neg hi, h i (not_le.mp hi)]
  rw [Finset.sum_congr rfl fun i _ => H i, Fin.sum_univ_eight]
  clear H h
  fin_cases j <;> simp [since] <;> ring
theorem upTo_sum (i : Fin 8) (r : Fin 8 → ℝ) (h : ∀ j, i < j → r j = 0) : (r 0 + ((upTo i).map r).sum : ℝ) = ∑ j, r j := by
  have H : ∀ j, r j = if j ≤ i then r j else 0 := fun j => by
    by_cases hi : j ≤ i
    · rw [if_pos hi]
    · rw [if_neg hi, h j (not_le.mp hi)]
  rw [Finset.sum_congr rfl fun i _ => H i, Fin.sum_univ_eight]
  clear H h
  fin_cases i <;> simp [upTo] <;> ring

section
variable (p : Fin 6) (Q K W N D O : Fin 2048 → Fin 128 → ℝ) (L : Fin 2 → Fin 2048 → ℝ)

/-- The scores of head `u`, with the bias of the key. -/
def ps (u : Fin 2) (t s : Fin 2048) : ℝ := (∑ e : Fin 64, K s (lane u e) * (Q t (lane u e) * sclR)) + N s (⟨(hd p u).val, lt128 p u⟩ : Fin 128)
/-- The weights. -/
def pw (u : Fin 2) (t s : Fin 2048) : ℝ := if s ≤ t then Real.exp (ps p Q K N u t s - L u t) else 0
/-- The gradients of the weights. -/
def pp (u : Fin 2) (t s : Fin 2048) : ℝ := ∑ e : Fin 64, W s (lane u e) * D t (lane u e)
/-- The correction of a row. -/
def pd (u : Fin 2) (t : Fin 2048) : ℝ := ∑ e : Fin 64, D t (lane u e) * O t (lane u e)
/-- The gradients of the scores. -/
def pg (u : Fin 2) (t s : Fin 2048) : ℝ := pw p Q K N L u t s * (pp W D u t s - pd D O u t)

theorem pw_off (u : Fin 2) (t s : Fin 2048) (h : ¬ s ≤ t) : pw p Q K N L u t s = 0 := by rw [pw, if_neg h]
theorem pg_off (u : Fin 2) (t s : Fin 2048) (h : ¬ s ≤ t) : pg p Q K W N D O L u t s = 0 := by rw [pg, pw_off _ _ _ _ _ _ _ _ h, zero_mul]
end

section
variable {p : Fin 6} {Q K W N D O : Fin 2048 → Fin 128 → ℝ} {L : Fin 2 → Fin 2048 → ℝ}
variable {X0 : Vec Ideal S1x2048x384 .f32} {X1 : Vec Ideal S1x2048x128 .f32} {X2 : Vec Ideal S1x2048x128 .bf16}
  {X3 : Vec Ideal S1x2048x128 .f32} {X4 : Vec Ideal S1x1x8x512 .f32}
variable (hQ : ∀ t (e : Fin 128), X0 (ix3 0 t (⟨128 * (0 : Fin 3).val + e.val, lt384 0 e⟩ : Fin 384)) = (Q t e : EReal))
variable (hK : ∀ t (e : Fin 128), X0 (ix3 0 t (⟨128 * (1 : Fin 3).val + e.val, lt384 1 e⟩ : Fin 384)) = (K t e : EReal))
variable (hW : ∀ t (e : Fin 128), X0 (ix3 0 t (⟨128 * (2 : Fin 3).val + e.val, lt384 2 e⟩ : Fin 384)) = (W t e : EReal))
variable (hN : ∀ t e, X1 (ix3 0 t e) = (N t e : EReal)) (hD : ∀ t e, X2 (ix3 0 t e) = (D t e : EReal)) (hO : ∀ t e, X3 (ix3 0 t e) = (O t e : EReal))
variable (hL : ∀ n u t, X4 (ix4 0 0 n (qcol u t)) = (L u (row n t) : EReal))
variable (i j : Fin 8) (u : Fin 2) (s t : Fin 256)

include hQ in
theorem qT_real (e : Fin 128) : qT (part X0 0 i) (ix3 0 e (qcol u t)) = ((if own u e then Q (row i t) e * sclR else 0 : ℝ) : EReal) := by
  rw [qT_apply, part_apply, hQ, scl_real]
  split
  · rw [EReal.coe_mul]
  · rfl
include hD in
theorem doT_real (e : Fin 128) : doT (rows X2 i) (ix3 0 e (qcol u t)) = ((if own u e then D (row i t) e else 0 : ℝ) : EReal) := by
  rw [doT_apply, rows_apply, hD]
  split <;> rfl
include hQ hK in
theorem raw_real : raw (part X0 1 j) (part X0 0 i) (ix2 s (qcol u t)) =
    ((∑ e : Fin 64, K (row j s) (lane u e) * (Q (row i t) (lane u e) * sclR) : ℝ) : EReal) := by
  rw [raw_apply, ← sum_own u (fun e => K (row j s) e * (Q (row i t) e * sclR)), coe_sum]
  refine Finset.sum_congr rfl fun e _ => ?_
  rw [qT_real hQ, part_apply, hK, ← EReal.coe_mul]
  congr 1
  split
  · rfl
  · rw [mul_zero]
include hW hD in
theorem dpt_real : dpt (part X0 2 j) (rows X2 i) (ix2 s (qcol u t)) = (pp W D u (row i t) (row j s) : EReal) := by
  rw [dpt_apply, pp, ← sum_own u (fun e => W (row j s) e * D (row i t) e), coe_sum]
  refine Finset.sum_congr rfl fun e _ => ?_
  rw [doT_real hD, part_apply, hW, ← EReal.coe_mul]
  congr 1
  split
  · rfl
  · rw [mul_zero]
include hD hO in
theorem delta_real : delta (rows X2 i) (rows X3 i) (ix2 0 (qcol u t)) = (pd D O u (row i t) : EReal) := by
  rw [delta_apply, pd, ← sum_own u (fun e => D (row i t) e * O (row i t) e), coe_sum]
  refine Finset.sum_congr rfl fun e _ => ?_
  rw [rows_apply, rows_apply, hD, hO]
  split
  · rw [EReal.coe_mul]
  · rfl
include hN in
theorem nb_real (l : Fin 128) : pick u (nb0 (BitVec.ofNat 32 p.val) (rows X1 j)) (nb1 (BitVec.ofNat 32 p.val) (rows X1 j)) (ix3 0 s l) =
    (N (row j s) (⟨(hd p u).val, lt128 p u⟩ : Fin 128) : EReal) := by
  fin_cases u
  · exact (nb0_apply p _ s l).trans ((rows_apply _ _ _ _).trans (hN _ _))
  · exact (nb1_apply p _ s l).trans ((rows_apply _ _ _ _).trans (hN _ _))

include hQ hK hN hL
theorem wgt_real (h : j ≤ i) : wgt (BitVec.ofNat 32 p.val) X0 X1 X4 i j (ix2 s (qcol u t)) = (pw p Q K N L u (row i t) (row j s) : EReal) := by
  unfold wgt
  by_cases hij : j = i
  · subst hij
    have e : Nat.beq j.val j.val = true := Nat.beq_refl _
    rw [e, cond_true, wDiag_apply _ _ _ _ u s t _ (fun l => nb_real hN j u s l), raw_real hQ hK, vec_apply, hL, ← EReal.coe_add, pw, ps]
    by_cases hst : s ≤ t
    · rw [if_pos hst, if_pos ((row_le_same j s t).mpr hst), add_zero, ← EReal.coe_sub, exp_real]
    · rw [if_neg hst, if_neg (fun c => hst ((row_le_same j s t).mp c)), EReal.add_bot, sub_eq_add_neg, EReal.bot_add]
      rfl
  · have hlt : j < i := lt_of_le_of_ne h hij
    have e : Nat.beq j.val i.val = false := by
      rw [Bool.eq_false_iff]
      intro c
      exact hij (Fin.ext (Nat.eq_of_beq_eq_true c))
    rw [e, cond_false, wOff_apply _ _ _ _ u s t _ (fun l => nb_real hN j u s l), raw_real hQ hK, vec_apply, hL, ← EReal.coe_add, pw, ps,
      if_pos (row_le i j s t hlt), ← EReal.coe_sub, exp_real]
theorem wgtB_real (h : j ≤ i) : wgtB (BitVec.ofNat 32 p.val) X0 X1 X4 i j (ix2 s (qcol u t)) = (pw p Q K N L u (row i t) (row j s) : EReal) := by
  rw [wgtB, wB_apply, wgt_real hQ hK hN hL i j u s t h]
include hW hD hO
theorem dsc_real (h : j ≤ i) : k0_pay200 (F := Ideal) (wgt (BitVec.ofNat 32 p.val) X0 X1 X4 i j) (dpt (part X0 2 j) (rows X2 i)) (delta (rows X2 i) (rows X3 i)) (ix2 s (qcol u t)) =
    (pg p Q K W N D O L u (row i t) (row j s) : EReal) := by
  rw [ds_apply, wgt_real hQ hK hN hL i j u s t h, dpt_real hW hD, delta_real hD hO, ← EReal.coe_sub, ← EReal.coe_mul, pg]
theorem dscB_real (h : j ≤ i) : dscB (BitVec.ofNat 32 p.val) X0 X1 X2 X3 X4 i j (ix2 s (qcol u t)) = (pg p Q K W N D O L u (row i t) (row j s) : EReal) := by
  rw [dscB, dsB_apply, dsc_real hQ hK hW hN hD hO hL i j u s t h]

/-- The query gradients. -/
theorem dq_real (e : Fin 64) : outQ (dqA (BitVec.ofNat 32 p.val) X0 X1 X2 X3 X4 i) (ix3 0 t (lane u e)) =
    (((∑ s : Fin 2048, K s (lane u e) * pg p Q K W N D O L u (row i t) s) * sclR : ℝ) : EReal) := by
  have H : ∀ v : Fin 2, dqA (BitVec.ofNat 32 p.val) X0 X1 X2 X3 X4 i (ix2 (lane u e) (qcol v t)) =
      ((∑ s : Fin 2048, K s (lane u e) * pg p Q K W N D O L v (row i t) s : ℝ) : EReal) := by
    intro v
    have P : ∀ j : Fin 8, j ≤ i → dqp (BitVec.ofNat 32 p.val) X0 X1 X2 X3 X4 i j (ix2 (lane u e) (qcol v t)) =
        ((∑ s : Fin 256, K (row j s) (lane u e) * pg p Q K W N D O L v (row i t) (row j s) : ℝ) : EReal) := fun j hj => by
      rw [dqp, dqs_apply, coe_sum]
      refine Finset.sum_congr rfl fun s _ => ?_
      rw [part_apply, hK, dscB_real hQ hK hW hN hD hO hL i j v s t hj, EReal.coe_mul]
    have F := fold_real (fun A j => addf A (dqp (BitVec.ofNat 32 p.val) X0 X1 X2 X3 X4 i j)) (ix2 (lane u e) (qcol v t))
      (fun j => ∑ s : Fin 256, K (row j s) (lane u e) * pg p Q K W N D O L v (row i t) (row j s)) (upTo i)
      (fun A j hj => congrArg (A _ + ·) (P j (upTo_mem i j hj))) _ _ (P 0 (Fin.zero_le _))
    have E := upTo_sum i (fun j => ∑ s : Fin 256, K (row j s) (lane u e) * pg p Q K W N D O L v (row i t) (row j s))
      (fun j hj => Finset.sum_eq_zero fun s _ => by rw [pg_off _ _ _ _ _ _ _ _ _ _ _ (row_not_le i j s t hj), mul_zero])
    exact F.trans (congrArg _ (E.trans (sum_rows (fun s => K s (lane u e) * pg p Q K W N D O L v (row i t) s))))
  rw [outQ_apply, H, H, scl_real, EReal.coe_mul]
  refine congrArg (· * _) ?_
  have two := (by decide : ∀ u : Fin 2, u = 0 ∨ u = 1) u
  rcases two with rfl | rfl
  · rw [if_pos ((own_lane _ _ _).mpr rfl)]
  · rw [if_neg (fun c => absurd ((own_lane _ _ _).mp c) (by decide))]
/-- The row sums. -/
theorem rs_real : k0_pay198 (F := Ideal) (rsA (BitVec.ofNat 32 p.val) X0 X1 X2 X3 X4 i) (ix4 0 0 0 (qcol u t)) =
    ((∑ s : Fin 2048, pg p Q K W N D O L u (row i t) s : ℝ) : EReal) := by
  have P : ∀ j : Fin 8, j ≤ i → rsp (BitVec.ofNat 32 p.val) X0 X1 X2 X3 X4 i j (ix2 0 (qcol u t)) =
      ((∑ s : Fin 256, pg p Q K W N D O L u (row i t) (row j s) : ℝ) : EReal) := fun j hj => by
    rw [rsp, rs_apply, coe_sum]
    exact Finset.sum_congr rfl fun s _ => dsc_real hQ hK hW hN hD hO hL i j u s t hj
  have F := fold_real (fun A j => addf A (rsp (BitVec.ofNat 32 p.val) X0 X1 X2 X3 X4 i j)) (ix2 0 (qcol u t))
    (fun j => ∑ s : Fin 256, pg p Q K W N D O L u (row i t) (row j s)) (upTo i)
    (fun A j hj => congrArg (A _ + ·) (P j (upTo_mem i j hj))) _ _ (P 0 (Fin.zero_le _))
  have E := upTo_sum i (fun j => ∑ s : Fin 256, pg p Q K W N D O L u (row i t) (row j s))
    (fun j hj => Finset.sum_eq_zero fun s _ => by rw [pg_off _ _ _ _ _ _ _ _ _ _ _ (row_not_le i j s t hj)])
  rw [row_apply]
  exact F.trans (congrArg _ (E.trans (sum_rows (fun s => pg p Q K W N D O L u (row i t) s))))
/-- The key gradients. -/
theorem dk_real (e : Fin 64) : outRows (dkA (BitVec.ofNat 32 p.val) X0 X1 X2 X3 X4 j) (ix3 0 s (lane u e)) =
    ((∑ t : Fin 2048, Q t (lane u e) * sclR * pg p Q K W N D O L u t (row j s) : ℝ) : EReal) := by
  have P : ∀ i : Fin 8, j ≤ i → ∑ q : Fin 512, qT (part X0 0 i) (ix3 0 (lane u e) q) * dscB (BitVec.ofNat 32 p.val) X0 X1 X2 X3 X4 i j (ix2 s q) =
      ((∑ t : Fin 256, Q (row i t) (lane u e) * sclR * pg p Q K W N D O L u (row i t) (row j s) : ℝ) : EReal) := fun i hi => by
    rw [← sum_qcol, Finset.sum_eq_single u, coe_sum]
    · refine Finset.sum_congr rfl fun t _ => ?_
      rw [qT_real hQ, dscB_real hQ hK hW hN hD hO hL i j u s t hi, if_pos ((own_lane _ _ _).mpr rfl), ← EReal.coe_mul]
    · intro v _ hv
      refine Finset.sum_eq_zero fun t _ => ?_
      rw [qT_real hQ, if_neg (fun c => hv ((own_lane _ _ _).mp c)), EReal.coe_zero, zero_mul]
    · simp
  have F := fold_real (fun A i => k0_pay194 (F := Ideal) A (qT (part X0 0 i)) (dscB (BitVec.ofNat 32 p.val) X0 X1 X2 X3 X4 i j)) (ix3 0 (lane u e) s)
    (fun i => ∑ t : Fin 256, Q (row i t) (lane u e) * sclR * pg p Q K W N D O L u (row i t) (row j s)) (since j)
    (fun A i hi => (dks_apply A _ _ _ _).trans (congrArg (A _ + ·) (P i (since_mem i j hi)))) (accAt (k0_pay177 (F := Ideal)) j) 0 zero32
  have E := since_sum j (fun i => ∑ t : Fin 256, Q (row i t) (lane u e) * sclR * pg p Q K W N D O L u (row i t) (row j s))
    (fun i hi => Finset.sum_eq_zero fun t _ => by rw [pg_off _ _ _ _ _ _ _ _ _ _ _ (row_not_le i j s t hi), mul_zero])
  rw [outRows_apply]
  exact F.trans (congrArg _ ((zero_add _).trans (E.trans (sum_rows (fun t => Q t (lane u e) * sclR * pg p Q K W N D O L u t (row j s))))))
/-- The value gradients. -/
theorem dv_real (e : Fin 64) : outRows (dvA (BitVec.ofNat 32 p.val) X0 X1 X2 X4 j) (ix3 0 s (lane u e)) =
    ((∑ t : Fin 2048, D t (lane u e) * pw p Q K N L u t (row j s) : ℝ) : EReal) := by
  have P : ∀ i : Fin 8, j ≤ i → ∑ q : Fin 512, doT (rows X2 i) (ix3 0 (lane u e) q) * wgtB (BitVec.ofNat 32 p.val) X0 X1 X4 i j (ix2 s q) =
      ((∑ t : Fin 256, D (row i t) (lane u e) * pw p Q K N L u (row i t) (row j s) : ℝ) : EReal) := fun i hi => by
    rw [← sum_qcol, Finset.sum_eq_single u, coe_sum]
    · refine Finset.sum_congr rfl fun t _ => ?_
      rw [doT_real hD, wgtB_real hQ hK hN hL i j u s t hi, if_pos ((own_lane _ _ _).mpr rfl), ← EReal.coe_mul]
    · intro v _ hv
      refine Finset.sum_eq_zero fun t _ => ?_
      rw [doT_real hD, if_neg (fun c => hv ((own_lane _ _ _).mp c)), EReal.coe_zero, zero_mul]
    · simp
  have F := fold_real (fun A i => k0_pay193 (F := Ideal) A (doT (rows X2 i)) (wgtB (BitVec.ofNat 32 p.val) X0 X1 X4 i j)) (ix3 0 (lane u e) s)
    (fun i => ∑ t : Fin 256, D (row i t) (lane u e) * pw p Q K N L u (row i t) (row j s)) (since j)
    (fun A i hi => (dvs_apply A _ _ _ _).trans (congrArg (A _ + ·) (P i (since_mem i j hi)))) (accAt (k0_pay178 (F := Ideal)) j) 0 zero32
  have E := since_sum j (fun i => ∑ t : Fin 256, D (row i t) (lane u e) * pw p Q K N L u (row i t) (row j s))
    (fun i hi => Finset.sum_eq_zero fun t _ => by rw [pw_off _ _ _ _ _ _ _ _ (row_not_le i j s t hi), mul_zero])
  rw [outRows_apply]
  exact F.trans (congrArg _ ((zero_add _).trans (E.trans (sum_rows (fun t => D t (lane u e) * pw p Q K N L u t (row j s))))))
theorem cs_step (l : Fin 128) (h : j ≤ i) :
    dsc (BitVec.ofNat 32 p.val) X0 X1 X2 X3 X4 i j (ix2 s (qcol u (⟨l.val, by omega⟩ : Fin 256))) +
      dsc (BitVec.ofNat 32 p.val) X0 X1 X2 X3 X4 i j (ix2 s (qcol u (⟨128 + l.val, by omega⟩ : Fin 256))) =
    ((pg p Q K W N D O L u (row i ⟨l.val, by omega⟩) (row j s) + pg p Q K W N D O L u (row i ⟨128 + l.val, by omega⟩) (row j s) : ℝ) : EReal) := by
  rw [dsc, dsc_real hQ hK hW hN hD hO hL i j u s _ h, dsc_real hQ hK hW hN hD hO hL i j u s _ h, EReal.coe_add]
theorem cs0_real (l : Fin 128) : cs0 (BitVec.ofNat 32 p.val) X0 X1 X2 X3 X4 j (ix3 0 s l) =
    ((∑ i : Fin 8, (pg p Q K W N D O L 0 (row i ⟨l.val, by omega⟩) (row j s) + pg p Q K W N D O L 0 (row i ⟨128 + l.val, by omega⟩) (row j s)) : ℝ) : EReal) := by
  have F := fold_real (fun A i => k0_pay202 (F := Ideal) (wgt (BitVec.ofNat 32 p.val) X0 X1 X4 i j) (dpt (part X0 2 j) (rows X2 i)) (delta (rows X2 i) (rows X3 i)) A) (ix3 0 s l)
    (fun i => pg p Q K W N D O L 0 (row i ⟨l.val, by omega⟩) (row j s) + pg p Q K W N D O L 0 (row i ⟨128 + l.val, by omega⟩) (row j s)) (since j)
    (fun A i hi => (cs0_apply _ _ _ A _ _).trans (congrArg (A _ + ·) (cs_step hQ hK hW hN hD hO hL i j 0 s l (since_mem i j hi)))) (negAt (k0_pay179 (F := Ideal)) 0 j) 0 zero32
  have E := since_sum j (fun i => pg p Q K W N D O L 0 (row i ⟨l.val, by omega⟩) (row j s) + pg p Q K W N D O L 0 (row i ⟨128 + l.val, by omega⟩) (row j s))
    (fun i hi => by rw [pg_off _ _ _ _ _ _ _ _ _ _ _ (row_not_le i j s _ hi), pg_off _ _ _ _ _ _ _ _ _ _ _ (row_not_le i j s _ hi), add_zero])
  exact F.trans (congrArg _ ((zero_add _).trans E))
theorem cs1_real (l : Fin 128) : cs1 (BitVec.ofNat 32 p.val) X0 X1 X2 X3 X4 j (ix3 0 s l) =
    ((∑ i : Fin 8, (pg p Q K W N D O L 1 (row i ⟨l.val, by omega⟩) (row j s) + pg p Q K W N D O L 1 (row i ⟨128 + l.val, by omega⟩) (row j s)) : ℝ) : EReal) := by
  have F := fold_real (fun A i => k0_pay203 (F := Ideal) (wgt (BitVec.ofNat 32 p.val) X0 X1 X4 i j) (dpt (part X0 2 j) (rows X2 i)) (delta (rows X2 i) (rows X3 i)) A) (ix3 0 s l)
    (fun i => pg p Q K W N D O L 1 (row i ⟨l.val, by omega⟩) (row j s) + pg p Q K W N D O L 1 (row i ⟨128 + l.val, by omega⟩) (row j s)) (since j)
    (fun A i hi => (cs1_apply _ _ _ A _ _).trans (congrArg (A _ + ·) (cs_step hQ hK hW hN hD hO hL i j 1 s l (since_mem i j hi)))) (negAt (k0_pay179 (F := Ideal)) 1 j) 0 zero32
  have E := since_sum j (fun i => pg p Q K W N D O L 1 (row i ⟨l.val, by omega⟩) (row j s) + pg p Q K W N D O L 1 (row i ⟨128 + l.val, by omega⟩) (row j s))
    (fun i hi => by rw [pg_off _ _ _ _ _ _ _ _ _ _ _ (row_not_le i j s _ hi), pg_off _ _ _ _ _ _ _ _ _ _ _ (row_not_le i j s _ hi), add_zero])
  exact F.trans (congrArg _ ((zero_add _).trans E))
omit hQ hK hW hN hD hO hL in
theorem sum_halves (f : Fin 2048 → ℝ) :
    ∑ l : Fin 128, ∑ i : Fin 8, (f (row i ⟨l.val, by omega⟩) + f (row i ⟨128 + l.val, by omega⟩)) = ∑ t, f t := by
  rw [Finset.sum_comm, ← sum_rows]
  refine Finset.sum_congr rfl fun i _ => ?_
  have H : ∑ k : Fin 2, ∑ z : Fin 128, f (row i ⟨128 * k.val + z.val, by omega⟩) = ∑ t : Fin 256, f (row i t) :=
    Fin.sum_mul_add_congr fun k z hl => congrArg f (congrArg (row i) (Fin.ext (by simp only []; omega)))
  rw [← H, Fin.sum_univ_two, ← Finset.sum_add_distrib]
  refine Finset.sum_congr rfl fun z _ => ?_
  congr 3
  exact Fin.ext (by simp)
/-- The sums over the queries. -/
theorem cs_real (l : Fin 128) : outN (BitVec.ofNat 32 p.val) X0 X1 X2 X3 X4 j (ix3 0 s l) =
    ((if l = 0 then ∑ t : Fin 2048, pg p Q K W N D O L 0 t (row j s) else if l = 1 then ∑ t : Fin 2048, pg p Q K W N D O L 1 t (row j s) else 0 : ℝ) : EReal) := by
  rw [outN, outN_apply]
  split
  · rw [← sum_halves, coe_sum]
    exact Finset.sum_congr rfl fun z _ => cs0_real hQ hK hW hN hD hO hL j s z
  · split
    · rw [← sum_halves, coe_sum]
      exact Finset.sum_congr rfl fun z _ => cs1_real hQ hK hW hN hD hO hL j s z
    · rfl
end
end Cert.Fox
-- ==== Proof.Fox.Array.lean ====
/-
  The three arrays that the forgetting attention's backward pass leaves, at an index, when the arrays that the launch finds are real.
-/
module

public import proofs.«01_k».proof.Proof.Fox.Block
public import proofs.«01_k».proof.Proof.Fox.Point
public import proofs.«01_k».proof.Proof.Gen.FoxBwdIdeal.Value

@[expose] public section
set_option maxRecDepth 65536
noncomputable section
namespace Cert.Fox
open Cert.FoxBwdIdeal Cert.FoxBwdIdeal.Gen Idealize.ShloMosaic Idealize.ShloMosaic.TcCoe Idealize.SL.Sem
open Idealize.ShloMosaic.Pipeline (Dat)
open Idealize.ShloMosaic.Pointwise

variable (m : (ℓ : Loc nD τ sig) → Buf (Elt Ideal) ℓ) (c : Dev nD)

/-- The grid's point for sequence `b` and pair of heads `p`. -/
def pt (b : Fin 2) (p : Fin 6) : Fin cfg0.N := (⟨6 * b.val + p.val, by omega⟩ : Fin 12)

theorem idx0 (b : Fin 2) (p : Fin 6) : win0_0.index (pt b p) = ![b.val, 0, p.val] := by revert b p; decide +kernel
theorem idx1 (b : Fin 2) (p : Fin 6) : win0_1.index (pt b p) = ![b.val, 0, 0] := by revert b p; decide +kernel
theorem idx2 (b : Fin 2) (p : Fin 6) : win0_2.index (pt b p) = ![b.val, 0, p.val] := by revert b p; decide +kernel
theorem idx3 (b : Fin 2) (p : Fin 6) : win0_3.index (pt b p) = ![b.val, 0, p.val] := by revert b p; decide +kernel
theorem idx4 (b : Fin 2) (p : Fin 6) : win0_4.index (pt b p) = ![b.val, p.val, 0, 0] := by revert b p; decide +kernel
theorem idx5 (b : Fin 2) (p : Fin 6) : win0_5.index (pt b p) = ![b.val, 0, p.val] := by revert b p; decide +kernel
theorem idx6 (b : Fin 2) (p : Fin 6) : win0_6.index (pt b p) = ![b.val, 0, p.val] := by revert b p; decide +kernel
theorem idx7 (b : Fin 2) (p : Fin 6) : win0_7.index (pt b p) = ![b.val, p.val, 0, 0] := by revert b p; decide +kernel
theorem flush5 (b : Fin 2) (p : Fin 6) : (cfg0.win 5).flush (pt b p) = true := by revert b p; decide +kernel
theorem flush6 (b : Fin 2) (p : Fin 6) : (cfg0.win 6).flush (pt b p) = true := by revert b p; decide +kernel
theorem flush7 (b : Fin 2) (p : Fin 6) : (cfg0.win 7).flush (pt b p) = true := by revert b p; decide +kernel
theorem arg_pt (b : Fin 2) (p : Fin 6) : arg (pt b p) = BitVec.ofNat 32 p.val := by revert b p; decide +kernel

theorem rd0 (A : FVec Ideal S2x2048x2432 .f32) (b : Fin 2) (p : Fin 6) (j : ((cfg0.win 0).xblock (cfg0.grid.coords (pt b p))).Idx) (t : Fin 2048) (e : Fin 384)
    (h0 : (j 0).val = 0) (h1 : (j 1).val = t.val) (h2 : (j 2).val = e.val) :
    ((cfg0.win 0).blk (pt b p)).view.read (Elt Ideal) A j = A (ix3 b t (⟨384 * p.val + e.val, by omega⟩ : Fin 2432)) := by
  blk_ext [idx0 b p]
theorem blk0 (b : Fin 2) (p : Fin 6) (t : Fin 2048) (e : Fin 384) : X0_0 m c (pt b p) (ix3 0 t e) = V m c main_v5 (ix3 b t (⟨384 * p.val + e.val, by omega⟩ : Fin 2432)) := by
  unfold X0_0 Pipeline.Window.fill
  rw [dif_pos (moved0_0 (pt b p) _)]
  exact rd0 (V m c main_v5) b p _ t e rfl rfl rfl
theorem rd1 (A : FVec Ideal S2x2048x128 .f32) (b : Fin 2) (p : Fin 6) (t : Fin 2048) (e : Fin 128) :
    ((cfg0.win 1).blk (pt b p)).view.read (Elt Ideal) A (ix3 0 t e) = A (ix3 b t e) := by
  blk_ext [idx1 b p]
theorem blk1 (b : Fin 2) (p : Fin 6) (t : Fin 2048) (e : Fin 128) : iblk m c 1 (pt b p) (ix3 0 t e) = V m c main_v7 (ix3 b t e) :=
  rd1 (V m c main_v7) b p t e
theorem rd2 (A : FVec Ideal S2x2048x768 .bf16) (b : Fin 2) (p : Fin 6) (t : Fin 2048) (e : Fin 128) :
    ((cfg0.win 2).blk (pt b p)).view.read (Elt Ideal) A (ix3 0 t e) = A (ix3 b t (pcol p e)) := by
  unfold pcol
  blk_ext [idx2 b p]
theorem blk2 (b : Fin 2) (p : Fin 6) (t : Fin 2048) (e : Fin 128) : iblk m c 2 (pt b p) (ix3 0 t e) = V m c main_arg4 (ix3 b t (pcol p e)) :=
  rd2 (V m c main_arg4) b p t e
theorem rd3 (A : FVec Ideal S2x2048x768 .f32) (b : Fin 2) (p : Fin 6) (t : Fin 2048) (e : Fin 128) :
    ((cfg0.win 3).blk (pt b p)).view.read (Elt Ideal) A (ix3 0 t e) = A (ix3 b t (pcol p e)) := by
  unfold pcol
  blk_ext [idx3 b p]
theorem blk3 (b : Fin 2) (p : Fin 6) (t : Fin 2048) (e : Fin 128) : iblk m c 3 (pt b p) (ix3 0 t e) = V m c main_v44 (ix3 b t (pcol p e)) :=
  rd3 (V m c main_v44) b p t e
theorem rd4 (A : FVec Ideal S2x6x8x512 .f32) (b : Fin 2) (p : Fin 6) (n : Fin 8) (q : Fin 512) :
    ((cfg0.win 4).blk (pt b p)).view.read (Elt Ideal) A (ix4 0 0 n q) = A (ix4 b p n q) := by
  blk_ext [idx4 b p]
theorem blk4 (b : Fin 2) (p : Fin 6) (n : Fin 8) (q : Fin 512) : iblk m c 4 (pt b p) (ix4 0 0 n q) = V m c main_v78 (ix4 b p n q) :=
  rd4 (V m c main_v78) b p n q

/-- Lane `e` of part `g` (queries, keys, values) of pair `p`, among the 2304 columns. -/
def qkvcol (p : Fin 6) (g : Fin 3) (e : Fin 128) : Fin 2304 := ⟨384 * p.val + (128 * g.val + e.val), by omega⟩

theorem at5 (b : Fin 2) (p : Fin 6) (t : Fin 2048) (g : Fin 3) (e : Fin 128) :
    (dats m 0 c).arrAt 5 cfg0.N (ix3 b t (qkvcol p g e)) = (outsAt0 (F := Ideal) m c (pt b p)).1 (ix3 0 t (⟨128 * g.val + e.val, by omega⟩ : Fin 384)) := by
  have H := (dats m 0 c).arrAt_emb_eq_flushed 5 (Value.disjoint5) (pt b p) (flush5 b p) (ix3 0 t (⟨128 * g.val + e.val, by omega⟩ : Fin 384))
  rw [Value.flushed5] at H
  have E : ((cfg0.win 5).blk (pt b p)).view.emb (ix3 0 t (⟨128 * g.val + e.val, by omega⟩ : Fin 384)) = ix3 b t (qkvcol p g e) := by
    unfold qkvcol
    blk_ext [idx5 b p]
  rw [E] at H
  exact H
theorem at6 (b : Fin 2) (p : Fin 6) (t : Fin 2048) (e : Fin 128) :
    (dats m 0 c).arrAt 6 cfg0.N (ix3 b t (pcol p e)) = (outsAt0 (F := Ideal) m c (pt b p)).2.1 (ix3 0 t e) := by
  have H := (dats m 0 c).arrAt_emb_eq_flushed 6 (Value.disjoint6) (pt b p) (flush6 b p) (ix3 0 t e)
  rw [Value.flushed6] at H
  have E : ((cfg0.win 6).blk (pt b p)).view.emb (ix3 0 t e) = ix3 b t (pcol p e) := by
    unfold pcol
    blk_ext [idx6 b p]
  rw [E] at H
  exact H
theorem at7 (b : Fin 2) (p : Fin 6) (n : Fin 8) (q : Fin 512) :
    (dats m 0 c).arrAt 7 cfg0.N (ix4 b p n q) = (outsAt0 (F := Ideal) m c (pt b p)).2.2 (ix4 0 0 n q) := by
  have H := (dats m 0 c).arrAt_emb_eq_flushed 7 (Value.disjoint7) (pt b p) (flush7 b p) (ix4 0 0 n q)
  rw [Value.flushed7] at H
  have E : ((cfg0.win 7).blk (pt b p)).view.emb (ix4 0 0 n q) = ix4 b p n q := by
    blk_ext [idx7 b p]
  rw [E] at H
  exact H

/-- The tiles of a block of rows, read at a row. -/
theorem rows_canon (P : Fin 8 → Rows .f32) (n : Fin 8) (t : Fin 256) (e : Fin 128) :
    View.canon (List.ofFn fun k : Fin 8 => (⟨Rect.unit ![0, 256 * (k.rev).val, 0] ![1, 256, 128] (row_in k.rev), P k.rev⟩ :
      View.Piece (Elt Ideal) S1x2048x128 .f32)) (ix3 0 (row n t) e) = P n (ix3 0 t e) := by
  refine View.canon_ofFn_unit_eq_of_forall (Val := Elt Ideal) (S := S1x2048x128) (e := .f32) (fun k : Fin 8 => ![0, 256 * (k.rev).val, 0]) ![1, 256, 128] (fun k => row_in k.rev) (fun k => P k.rev) _ _
    ⟨n.rev, fun a => ?_⟩ ?_
  · fin_cases a <;> simp [row]
  · intro k x hx
    have h1 := hx 1
    have h2 := hx 2
    have x1 := (x 1).isLt
    have x0 := (x 0).isLt
    simp [row] at h1 h2 x1 x0
    have hk : k.rev = n := by ext; simp only [Fin.val_rev]; omega
    rw [hk]
    congr 1
    funext a
    fin_cases a
    · ext; simpa using x0
    · ext; simp; have := congrArg Fin.val hk; simp at this; omega
    · ext; simpa using h2.symm
/-- The tiles of the row sums, read at a tile. -/
theorem vec_canon (P : Fin 8 → FVec Ideal S1x1x1x512 .f32) (n : Fin 8) (q : Fin 512) :
    View.canon (List.ofFn fun k : Fin 8 => (⟨Rect.unit ![0, 0, (k.rev).val, 0] ![1, 1, 1, 512] (vec_in k.rev), P k.rev⟩ :
      View.Piece (Elt Ideal) S1x1x8x512 .f32)) (ix4 0 0 n q) = P n (ix4 0 0 0 q) := by
  refine View.canon_ofFn_unit_eq_of_forall (Val := Elt Ideal) (S := S1x1x8x512) (e := .f32) (fun k : Fin 8 => ![0, 0, (k.rev).val, 0]) ![1, 1, 1, 512] (fun k => vec_in k.rev) (fun k => P k.rev) _ _
    ⟨n.rev, fun a => ?_⟩ ?_
  · fin_cases a <;> simp
  · intro k x hx
    have h2 := hx 2
    have h3 := hx 3
    have x0 := (x 0).isLt
    have x1 := (x 1).isLt
    have x2 := (x 2).isLt
    simp at h2 h3 x0 x1 x2
    have hk : k.rev = n := by ext; simp only [Fin.val_rev]; omega
    rw [hk]
    congr 1
    funext a
    fin_cases a
    · ext; simpa using x0
    · ext; simpa using x1
    · ext; simpa using x2
    · ext; simpa using h3.symm
theorem part_ex (g : Fin 3) (n : Fin 8) : ∃ k : Fin 24, tn k = n ∧ tp k = g := by revert g n; decide
/-- The tiles of the query, key and value gradients, read at a row and a part. -/
theorem part_canon (P : Fin 3 → Fin 8 → Rows .bf16) (g : Fin 3) (n : Fin 8) (t : Fin 256) (e : Fin 128) :
    View.canon (List.ofFn fun k : Fin 24 => (⟨Rect.unit ![0, 256 * (tn k).val, 128 * (tp k).val] ![1, 256, 128] (part_in (tn k) (tp k)), P (tp k) (tn k)⟩ :
      View.Piece (Elt Ideal) S1x2048x384 .bf16)) (ix3 0 (row n t) (⟨128 * g.val + e.val, by omega⟩ : Fin 384)) = P g n (ix3 0 t e) := by
  refine View.canon_ofFn_unit_eq_of_forall (Val := Elt Ideal) (S := S1x2048x384) (e := .bf16) (fun k : Fin 24 => ![0, 256 * (tn k).val, 128 * (tp k).val]) ![1, 256, 128]
    (fun k => part_in (tn k) (tp k)) (fun k => P (tp k) (tn k)) _ _ ?_ ?_
  · obtain ⟨k, hn, hg⟩ := part_ex g n
    refine ⟨k, fun a => ?_⟩
    simp only [hn, hg]
    fin_cases a <;> simp [row]
  · intro k x hx
    have h1 := hx 1
    have h2 := hx 2
    have x2 := (x 2).isLt
    have x1 := (x 1).isLt
    have x0 := (x 0).isLt
    simp [row] at h1 h2 x1 x0 x2
    have hn : tn k = n := by ext; omega
    have hg : tp k = g := by ext; omega
    rw [hn] at h1
    rw [hg] at h2
    rw [hn, hg]
    congr 1
    funext a
    fin_cases a
    · ext; simpa using x0
    · ext; simp; omega
    · ext; simp; omega

/-- What the launch finds, as reals. -/
structure Reals (Q K W : Fin 2 → Fin 6 → Fin 2048 → Fin 128 → ℝ) (N : Fin 2 → Fin 2048 → Fin 128 → ℝ) (D O : Fin 2 → Fin 6 → Fin 2048 → Fin 128 → ℝ)
    (L : Fin 2 → Fin 6 → Fin 2 → Fin 2048 → ℝ) : Prop where
  q : ∀ b p t (e : Fin 128), V m c main_v5 (ix3 b t (⟨384 * p.val + (128 * (0 : Fin 3).val + e.val), by omega⟩ : Fin 2432)) = (Q b p t e : EReal)
  k : ∀ b p t (e : Fin 128), V m c main_v5 (ix3 b t (⟨384 * p.val + (128 * (1 : Fin 3).val + e.val), by omega⟩ : Fin 2432)) = (K b p t e : EReal)
  w : ∀ b p t (e : Fin 128), V m c main_v5 (ix3 b t (⟨384 * p.val + (128 * (2 : Fin 3).val + e.val), by omega⟩ : Fin 2432)) = (W b p t e : EReal)
  n : ∀ b t e, V m c main_v7 (ix3 b t e) = (N b t e : EReal)
  d : ∀ b p t e, V m c main_arg4 (ix3 b t (pcol p e)) = (D b p t e : EReal)
  o : ∀ b p t e, V m c main_v44 (ix3 b t (pcol p e)) = (O b p t e : EReal)
  l : ∀ b p n u t, V m c main_v78 (ix4 b p n (qcol u t)) = (L b p u (row n t) : EReal)

section
variable {m c} {Q K W : Fin 2 → Fin 6 → Fin 2048 → Fin 128 → ℝ} {N : Fin 2 → Fin 2048 → Fin 128 → ℝ} {D O : Fin 2 → Fin 6 → Fin 2048 → Fin 128 → ℝ}
  {L : Fin 2 → Fin 6 → Fin 2 → Fin 2048 → ℝ} (R : Reals m c Q K W N D O L) (b : Fin 2) (p : Fin 6) (u : Fin 2) (n : Fin 8) (t : Fin 256)
include R

/-- The gradients of the scores. -/
abbrev _root_.Cert.Fox.Reals.g (_ : Reals m c Q K W N D O L) (b : Fin 2) (p : Fin 6) := pg p (Q b p) (K b p) (W b p) (N b) (D b p) (O b p) (L b p)

theorem dq_array (e : Fin 64) : (dats m 0 c).arrAt 5 cfg0.N (ix3 b (row n t) (qkvcol p 0 (lane u e))) =
    (((∑ s : Fin 2048, K b p s (lane u e) * R.g b p u (row n t) s) * sclR : ℝ) : EReal) := by
  rw [at5, qkv_block m c (pt b p) _ _ _ _ _ rfl rfl rfl rfl rfl, arg_pt, part_canon (outP _ _ _ _ _ _)]
  exact dq_real (fun t e => (blk0 m c b p t _).trans (R.q b p t e)) (fun t e => (blk0 m c b p t _).trans (R.k b p t e)) (fun t e => (blk0 m c b p t _).trans (R.w b p t e))
    (fun t e => (blk1 m c b p t e).trans (R.n b t e)) (fun t e => (blk2 m c b p t e).trans (R.d b p t e)) (fun t e => (blk3 m c b p t e).trans (R.o b p t e))
    (fun n u t => (blk4 m c b p n _).trans (R.l b p n u t)) n u t e
theorem dk_array (e : Fin 64) : (dats m 0 c).arrAt 5 cfg0.N (ix3 b (row n t) (qkvcol p 1 (lane u e))) =
    ((∑ i : Fin 2048, Q b p i (lane u e) * sclR * R.g b p u i (row n t) : ℝ) : EReal) := by
  rw [at5, qkv_block m c (pt b p) _ _ _ _ _ rfl rfl rfl rfl rfl, arg_pt, part_canon (outP _ _ _ _ _ _)]
  exact dk_real (fun t e => (blk0 m c b p t _).trans (R.q b p t e)) (fun t e => (blk0 m c b p t _).trans (R.k b p t e)) (fun t e => (blk0 m c b p t _).trans (R.w b p t e))
    (fun t e => (blk1 m c b p t e).trans (R.n b t e)) (fun t e => (blk2 m c b p t e).trans (R.d b p t e)) (fun t e => (blk3 m c b p t e).trans (R.o b p t e))
    (fun n u t => (blk4 m c b p n _).trans (R.l b p n u t)) n u t e
theorem dv_array (e : Fin 64) : (dats m 0 c).arrAt 5 cfg0.N (ix3 b (row n t) (qkvcol p 2 (lane u e))) =
    ((∑ i : Fin 2048, D b p i (lane u e) * pw p (Q b p) (K b p) (N b) (L b p) u i (row n t) : ℝ) : EReal) := by
  rw [at5, qkv_block m c (pt b p) _ _ _ _ _ rfl rfl rfl rfl rfl, arg_pt, part_canon (outP _ _ _ _ _ _)]
  exact dv_real (fun t e => (blk0 m c b p t _).trans (R.q b p t e)) (fun t e => (blk0 m c b p t _).trans (R.k b p t e)) (fun t e => (blk0 m c b p t _).trans (R.w b p t e))
    (fun t e => (blk1 m c b p t e).trans (R.n b t e)) (fun t e => (blk2 m c b p t e).trans (R.d b p t e)) (fun t e => (blk3 m c b p t e).trans (R.o b p t e))
    (fun n u t => (blk4 m c b p n _).trans (R.l b p n u t)) n u t e
theorem dn_array (l : Fin 128) : (dats m 0 c).arrAt 6 cfg0.N (ix3 b (row n t) (pcol p l)) =
    ((if l = 0 then ∑ i : Fin 2048, R.g b p 0 i (row n t) else if l = 1 then ∑ i : Fin 2048, R.g b p 1 i (row n t) else 0 : ℝ) : EReal) := by
  rw [at6, neg_block m c (pt b p) _ _ _ _ _ rfl rfl rfl rfl rfl, arg_pt, rows_canon (outN _ _ _ _ _ _)]
  exact cs_real (fun t e => (blk0 m c b p t _).trans (R.q b p t e)) (fun t e => (blk0 m c b p t _).trans (R.k b p t e)) (fun t e => (blk0 m c b p t _).trans (R.w b p t e))
    (fun t e => (blk1 m c b p t e).trans (R.n b t e)) (fun t e => (blk2 m c b p t e).trans (R.d b p t e)) (fun t e => (blk3 m c b p t e).trans (R.o b p t e))
    (fun n u t => (blk4 m c b p n _).trans (R.l b p n u t)) n t l
theorem dr_array : (dats m 0 c).arrAt 7 cfg0.N (ix4 b p n (qcol u t)) = ((∑ s : Fin 2048, R.g b p u (row n t) s : ℝ) : EReal) := by
  rw [at7, row_block m c (pt b p) _ _ _ _ _ rfl rfl rfl rfl rfl, arg_pt, vec_canon (fun n => k0_pay198 (F := Ideal) (rsA _ _ _ _ _ _ n))]
  exact rs_real (fun t e => (blk0 m c b p t _).trans (R.q b p t e)) (fun t e => (blk0 m c b p t _).trans (R.k b p t e)) (fun t e => (blk0 m c b p t _).trans (R.w b p t e))
    (fun t e => (blk1 m c b p t e).trans (R.n b t e)) (fun t e => (blk2 m c b p t e).trans (R.d b p t e)) (fun t e => (blk3 m c b p t e).trans (R.o b p t e))
    (fun n u t => (blk4 m c b p n _).trans (R.l b p n u t)) n u t
end
end Cert.Fox
-- ==== Proof.Fox.Host.lean ====
/-
  What the host lines before the forgetting attention's backward pass compute: the packed projections, the negated biases, the saved output
  and the saved log sums.
-/
module

public import proofs.«01_k».proof.Proof.Fox.Array
public import Idealize.ShloMosaic.Lib.StableHlo.ReadAt

@[expose] public section
set_option maxRecDepth 65536
set_option maxHeartbeats 4000000
noncomputable section
namespace Cert.Fox
open Cert.FoxBwdIdeal Cert.FoxBwdIdeal.Gen Idealize.ShloMosaic Idealize.ShloMosaic.TcCoe Idealize.SL.Sem
open Idealize.ShloMosaic.Pointwise

variable (m : (ℓ : Loc nD τ sig) → Buf (Elt Ideal) ℓ) (c : Dev nD)

section
variable (x0 x1 x2 : FVec Ideal S2x2048x768 .f32) (x3 : FVec Ideal S2x2048x12 .f32)
/-- Lanes of pairs of heads. -/
def hPair : FVec Ideal S2x2048x6x128 .f32 := shapeCast S2x2048x6x128 x0 shapeCasts_S2x2048x768_S2x2048x6x128
/-- The three projections side by side, pair by pair. -/
def hCat (A B C : FVec Ideal S2x2048x6x128 .f32) : FVec Ideal S2x2048x6x384 .f32 :=
  concatenate S2x2048x6x384 3 [⟨S2x2048x6x128, A⟩, ⟨S2x2048x6x128, B⟩, ⟨S2x2048x6x128, C⟩] concatenates_S2x2048x6x128_S2x2048x6x128_S2x2048x6x128_S2x2048x6x384_d3
/-- The packed projections. -/
def hSrc (A : FVec Ideal S2x2048x6x384 .f32) : FVec Ideal S2x2048x2432 .f32 :=
  pad S2x2048x2432 ![0, 0, 0] ![0, 0, 128] ![0, 0, 0] (shapeCast S2x2048x2304 A shapeCasts_S2x2048x6x384_S2x2048x2304) (sitofp (F := Ideal) .f32 (constantI S_ 32 0#32))
    pads_S2x2048x2304_S2x2048x2432_000_000_01280 h_S_
/-- The negated biases. -/
def hNeg : FVec Ideal S2x2048x128 .f32 :=
  pad S2x2048x128 ![0, 0, 0] ![0, 0, 116] ![0, 0, 0] (Host.negf x3 : FVec Ideal S2x2048x12 .f32) (sitofp (F := Ideal) .f32 (constantI S_ 32 0#32)) pads_S2x2048x12_S2x2048x128_000_000_01160 h_S_
/-- The heads apart. -/
def hHead : FVec Ideal S2x2048x12x64 .f32 := shapeCast S2x2048x12x64 x0 shapeCasts_S2x2048x768_S2x2048x12x64
/-- The biases of the rows. -/
def hRowB (a : FVec Ideal S2x2048x12 .f32) : FVec Ideal S2x12x2048x2048 .f32 :=
  broadcastInDim S2x12x2048x2048 ![0, 1, 2, 3] bcast_S2x12x2048x1_S2x12x2048x2048_0_1_2_3 (broadcastInDim S2x12x2048x1 ![0, 1, 2] bcast_S2x12x2048_S2x12x2048x1_0_1_2
    (transpose S2x12x2048 [0, 2, 1] a transposes_S2x2048x12_S2x12x2048_0_2_1))
/-- The biases of the columns. -/
def hColB : FVec Ideal S2x12x2048x2048 .f32 :=
  broadcastInDim S2x12x2048x2048 ![0, 1, 2, 3] bcast_S2x12x1x2048_S2x12x2048x2048_0_1_2_3 (broadcastInDim S2x12x1x2048 ![0, 1, 3] bcast_S2x12x2048_S2x12x1x2048_0_1_3
    (transpose S2x12x2048 [0, 2, 1] x3 transposes_S2x2048x12_S2x12x2048_0_2_1))
/-- The scaled products of queries and keys. -/
def hDot (A B : FVec Ideal S2x2048x12x64 .f32) : FVec Ideal S2x12x2048x2048 .f32 :=
  mulf (Host.dotGeneral dot_S2x2048x12x64_S2x2048x12x64_S2x12x2048x2048_3_3_1_1_02_02 none A B) (broadcastInDim S2x12x2048x2048 ![] bcast_S_S2x12x2048x2048 (constant S_ .f32 0x3E000000#32))
/-- The scores before the mask. -/
def hSum (A R C : FVec Ideal S2x12x2048x2048 .f32) : FVec Ideal S2x12x2048x2048 .f32 := subf (addf A R) C
/-- The mask: a key is seen from its own position on. -/
def hSeen : IVec S2x12x2048x2048 1 :=
  broadcastInDim S2x12x2048x2048 ![0, 1, 2, 3] bcast_S1x1x2048x2048_S2x12x2048x2048_0_1_2_3 (broadcastInDim S1x1x2048x2048 ![2, 3] bcast_S2048x2048_S1x1x2048x2048_2_3
    (cmpi .sge (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
/-- The scores. -/
def hS (A : FVec Ideal S2x12x2048x2048 .f32) : FVec Ideal S2x12x2048x2048 .f32 :=
  select hSeen A (broadcastInDim S2x12x2048x2048 ![] bcast_S_S2x12x2048x2048 (constant S_ .f32 0xFF800000#32))
/-- The largest score of each query. -/
def hM (Sc : FVec Ideal S2x12x2048x2048 .f32) : FVec Ideal S2x12x2048 .f32 :=
  Host.reduce FloatOps.maximumf Sc (constant S_ .f32 0xFF800000#32) reducesTo_S2x12x2048x2048_S2x12x2048_d3 h_S_
/-- The exponentials of the scores less `M`. -/
def hE (Sc : FVec Ideal S2x12x2048x2048 .f32) (M : FVec Ideal S2x12x2048 .f32) : FVec Ideal S2x12x2048x2048 .f32 :=
  Host.exp (subf Sc (broadcastInDim S2x12x2048x2048 ![0, 1, 2, 3] bcast_S2x12x2048x1_S2x12x2048x2048_0_1_2_3
    (broadcastInDim S2x12x2048x1 ![0, 1, 2] bcast_S2x12x2048_S2x12x2048x1_0_1_2 M)))
/-- The sums of the exponentials. -/
def hD (E : FVec Ideal S2x12x2048x2048 .f32) : FVec Ideal S2x12x2048 .f32 :=
  Host.reduceAdd E (constant S_ .f32 0x00000000#32) reducesTo_S2x12x2048x2048_S2x12x2048_d3 h_S_
/-- The weights from the exponentials. -/
def hP (E : FVec Ideal S2x12x2048x2048 .f32) : FVec Ideal S2x12x2048x2048 .f32 :=
  Host.divf E (broadcastInDim S2x12x2048x2048 ![0, 1, 2, 3] bcast_S2x12x2048x1_S2x12x2048x2048_0_1_2_3
    (broadcastInDim S2x12x2048x1 ![0, 1, 2] bcast_S2x12x2048_S2x12x2048x1_0_1_2 (hD E)))
/-- The saved output from the weights. -/
def hO (W : FVec Ideal S2x2048x12x64 .f32) (P : FVec Ideal S2x12x2048x2048 .f32) : FVec Ideal S2x2048x768 .f32 :=
  shapeCast S2x2048x768 (transpose S2x2048x12x64 [0, 3, 1, 2] (Host.dotGeneral dot_S2x2048x12x64_S2x12x2048x2048_S2x12x64x2048_1_3_3_2_02_01 none W P)
    transposes_S2x12x64x2048_S2x2048x12x64_0_3_1_2) shapeCasts_S2x2048x12x64_S2x2048x768
/-- The logs of the sums of exponentials, from the largest scores and the sums. -/
def hL (M D : FVec Ideal S2x12x2048 .f32) : FVec Ideal S2x6x8x512 .f32 :=
  shapeCast S2x6x8x512 (transpose S2x6x8x2x256 [0, 1, 3, 2, 4] (shapeCast S2x6x2x8x256 (addf M (Host.log D)) shapeCasts_S2x12x2048_S2x6x2x8x256)
    transposes_S2x6x2x8x256_S2x6x8x2x256_0_1_3_2_4) shapeCasts_S2x6x8x2x256_S2x6x8x512
/-- The largest score as the weights take it. -/
def hM' (M : FVec Ideal S2x12x2048 .f32) : FVec Ideal S2x12x2048 .f32 :=
  maximumf (broadcastInDim S2x12x2048 ![] bcast_S_S2x12x2048 (constant S_ .f32 0xFF800000#32)) M
/-- No bias. -/
def hZero : FVec Ideal S2x2048x12 .f32 := broadcastInDim S2x2048x12 ![] bcast_S_S2x2048x12 (constant S_ .f32 0x00000000#32)
/-- The scores that the output is made with. -/
def hSo : FVec Ideal S2x12x2048x2048 .f32 := hS (hSum (hDot (hHead x0) (hHead x1)) (hRowB x3) (hColB x3))
/-- The scores that the log sums are made with. -/
def hSl : FVec Ideal S2x12x2048x2048 .f32 := hS (hSum (hDot (hHead x0) (hHead x1)) (hRowB hZero) (hColB x3))
end

theorem V_v5 : V m c main_v5 = hSrc (hCat (hPair (m (c, main_arg0))) (hPair (m (c, main_arg1))) (hPair (m (c, main_arg2)))) := by
  unfold V
  after_reads_simp
  simp -implicitDefEqProofs only [StableHlo.TRef.toBuf, StableHlo.TRef.ofBuf, cast_cast, cast_eq]
  rfl
theorem V_v7 : V m c main_v7 = hNeg (m (c, main_arg3)) := by
  unfold V
  after_reads_simp
  simp -implicitDefEqProofs only [StableHlo.TRef.toBuf, StableHlo.TRef.ofBuf, cast_cast, cast_eq]
  rfl
theorem V_arg4 : V m c main_arg4 = m (c, main_arg4) := by
  unfold V
  after_reads_simp
theorem V_v44 : V m c main_v44 = hO (hHead (m (c, main_arg2)))
    (hP (hE (hSo (m (c, main_arg0)) (m (c, main_arg1)) (m (c, main_arg3))) (hM' (hM (hSo (m (c, main_arg0)) (m (c, main_arg1)) (m (c, main_arg3))))))) := by
  unfold V
  after_reads_simp
  simp -implicitDefEqProofs only [StableHlo.TRef.toBuf, StableHlo.TRef.ofBuf, cast_cast, cast_eq]
  rfl
theorem V_v78 : V m c main_v78 = hL (hM (hSl (m (c, main_arg0)) (m (c, main_arg1)) (m (c, main_arg3))))
    (hD (hE (hSl (m (c, main_arg0)) (m (c, main_arg1)) (m (c, main_arg3))) (hM (hSl (m (c, main_arg0)) (m (c, main_arg1)) (m (c, main_arg3)))))) := by
  unfold V
  after_reads_simp
  simp -implicitDefEqProofs only [StableHlo.TRef.toBuf, StableHlo.TRef.ofBuf, cast_cast, cast_eq]
  rfl
end Cert.Fox
-- ==== Proof.Fox.HostAt.lean ====
/-
  The host lines' arrays at an index.
-/
module

public import proofs.«01_k».proof.Proof.Fox.Host

@[expose] public section
set_option maxRecDepth 65536
set_option maxHeartbeats 4000000
noncomputable section
namespace Cert.Fox
open Cert.FoxBwdIdeal Cert.FoxBwdIdeal.Gen Idealize.ShloMosaic Idealize.ShloMosaic.TcCoe Idealize.SL.Sem
open Idealize.ShloMosaic.Pointwise

section
variable (x0 x1 x2 : FVec Ideal S2x2048x768 .f32) (x3 : FVec Ideal S2x2048x12 .f32)
variable (A B C : FVec Ideal S2x2048x6x128 .f32) (H G : FVec Ideal S2x2048x12x64 .f32)
variable (Sc R T E P : FVec Ideal S2x12x2048x2048 .f32) (M D : FVec Ideal S2x12x2048 .f32)

theorem hPair_at (b : Fin 2) (t : Fin 2048) (p : Fin 6) (e : Fin 128) : hPair x0 (ix4 b t p e) = x0 (ix3 b t (pcol p e)) := by
  pointwise [hPair]
  congr 2
  exact Fin.ext (by simp only [pcol]; omega)
theorem hCat_at0 (b : Fin 2) (t : Fin 2048) (p : Fin 6) (e : Fin 128) : hCat A B C (ix4 b t p (⟨128 * (0 : Fin 3).val + e.val, lt384 0 e⟩ : Fin 384)) = A (ix4 b t p e) := by
  pointwise [hCat]
theorem hCat_at1 (b : Fin 2) (t : Fin 2048) (p : Fin 6) (e : Fin 128) : hCat A B C (ix4 b t p (⟨128 * (1 : Fin 3).val + e.val, lt384 1 e⟩ : Fin 384)) = B (ix4 b t p e) := by
  pointwise [hCat]
theorem hCat_at2 (b : Fin 2) (t : Fin 2048) (p : Fin 6) (e : Fin 128) : hCat A B C (ix4 b t p (⟨128 * (2 : Fin 3).val + e.val, lt384 2 e⟩ : Fin 384)) = C (ix4 b t p e) := by
  pointwise [hCat]
  rw [dif_neg (by omega), dif_neg (by omega)]
  congr 2
  exact Fin.ext (by simp only []; omega)
theorem hSrc_at (X : FVec Ideal S2x2048x6x384 .f32) (b : Fin 2) (t : Fin 2048) (p : Fin 6) (z : Fin 384) :
    hSrc X (ix3 b t (⟨384 * p.val + z.val, by omega⟩ : Fin 2432)) = X (ix4 b t p z) := by
  pointwise [hSrc]
  rw [dif_pos (by omega)]
theorem hNeg_at (b : Fin 2) (t : Fin 2048) (h : Fin 12) : hNeg x3 (ix3 b t (⟨h.val, by omega⟩ : Fin 128)) = -(x3 (ix3 b t h)) := by
  pointwise [hNeg]
theorem hNeg_off (b : Fin 2) (t : Fin 2048) (l : Fin 128) (h : 12 ≤ l.val) : hNeg x3 (ix3 b t l) = ((0 : ℝ) : EReal) := by
  pointwise [hNeg]
  rw [dif_neg (by omega)]
  simp [FloatOps.sitofp]
theorem hHead_at (b : Fin 2) (t : Fin 2048) (h : Fin 12) (e : Fin 64) : hHead x0 (ix4 b t h e) = x0 (ix3 b t (hcol h e)) := by
  pointwise [hHead]
  congr 2
  exact Fin.ext (by simp only [hcol]; omega)
theorem hRowB_at (b : Fin 2) (h : Fin 12) (t s : Fin 2048) : hRowB x3 (ix4 b h t s) = x3 (ix3 b t h) := by
  pointwise [hRowB]
theorem hColB_at (b : Fin 2) (h : Fin 12) (t s : Fin 2048) : hColB x3 (ix4 b h t s) = x3 (ix3 b s h) := by
  pointwise [hColB]
theorem hZero_at (b : Fin 2) (t : Fin 2048) (h : Fin 12) : hZero (ix3 b t h) = 0 := by
  pointwise [hZero]
theorem hDot_at (b : Fin 2) (h : Fin 12) (t s : Fin 2048) :
    hDot H G (ix4 b h t s) = (∑ e : Fin 64, H (ix4 b t h e) * G (ix4 b s h e)) * scl := by
  pointwise [hDot, scl]
theorem hSum_at (b : Fin 2) (h : Fin 12) (t s : Fin 2048) : hSum Sc R T (ix4 b h t s) = Sc (ix4 b h t s) + R (ix4 b h t s) - T (ix4 b h t s) := by
  pointwise [hSum]
theorem hSeen_at (b : Fin 2) (h : Fin 12) (t s : Fin 2048) : hSeen (ix4 b h t s) = if s ≤ t then 1#1 else 0#1 := by
  pointwise [hSeen]
  rw [sge_pos _ _ t.isLt s.isLt]
  rfl
theorem hS_at (b : Fin 2) (h : Fin 12) (t s : Fin 2048) : hS Sc (ix4 b h t s) = if s ≤ t then Sc (ix4 b h t s) else Ideal.ofBits .f32 0xFF800000#32 := by
  have H : hS Sc (ix4 b h t s) = Scalar.select (hSeen (ix4 b h t s)) (Sc (ix4 b h t s)) (Ideal.ofBits .f32 0xFF800000#32) := by
    unfold hS
    generalize hSeen = X
    pointwise []
  rw [H, hSeen_at, select_if]
theorem hM_at (b : Fin 2) (h : Fin 12) (t : Fin 2048) :
    hM Sc (ix3 b h t) = Finset.fold max (Ideal.ofBits .f32 0xFF800000#32) (fun s : Fin 2048 => Sc (ix4 b h t s)) Finset.univ := by
  pointwise [hM]
theorem hM'_at (b : Fin 2) (h : Fin 12) (t : Fin 2048) : hM' M (ix3 b h t) = max (Ideal.ofBits .f32 0xFF800000#32) (M (ix3 b h t)) := by
  pointwise [hM']
theorem hE_at (b : Fin 2) (h : Fin 12) (t s : Fin 2048) : hE Sc M (ix4 b h t s) = Ideal.exp (Sc (ix4 b h t s) - M (ix3 b h t)) := by
  pointwise [hE]
theorem hD_at (b : Fin 2) (h : Fin 12) (t : Fin 2048) : hD E (ix3 b h t) = ∑ s : Fin 2048, E (ix4 b h t s) := by
  pointwise [hD]
theorem hP_at (b : Fin 2) (h : Fin 12) (t s : Fin 2048) : hP E (ix4 b h t s) = Ideal.div (E (ix4 b h t s)) (hD E (ix3 b h t)) := by
  pointwise [hP]
theorem hO_at (b : Fin 2) (h : Fin 12) (t : Fin 2048) (e : Fin 64) :
    hO H P (ix3 b t (hcol h e)) = ∑ s : Fin 2048, H (ix4 b s h e) * P (ix4 b h t s) := by
  have Q : ∀ c : Fin 768, ∀ (c1 : Fin 12) (c2 : Fin 64), c.val / 64 = c1.val → c.val % 64 = c2.val →
      hO H P (ix3 b t c) = ∑ s : Fin 2048, H (ix4 b s c1 c2) * P (ix4 b c1 t s) := by
    intro c c1 c2 h1 h2
    pointwise [hO]
    refine Finset.sum_congr rfl fun s _ => ?_
    congr 2 <;> congr 1 <;> exact Fin.ext ‹_›
  exact Q _ _ _ (by simp only [hcol]; omega) (by simp only [hcol]; omega)
theorem hL_at (b : Fin 2) (p : Fin 6) (n : Fin 8) (u : Fin 2) (t : Fin 256) :
    hL M D (ix4 b p n (qcol u t)) = M (ix3 b (hd p u) (row n t)) + Ideal.log (D (ix3 b (hd p u) (row n t))) := by
  have Q : ∀ q : Fin 512, q.val / 256 = u.val → q.val % 256 = t.val →
      hL M D (ix4 b p n q) = M (ix3 b (hd p u) (row n t)) + Ideal.log (D (ix3 b (hd p u) (row n t))) := by
    intro q h1 h2
    pointwise [hL]
    have E1 : (⟨p.val * 2 + q.val / 256, by omega⟩ : Fin 12) = hd p u := Fin.ext (by simp only [hd]; omega)
    have E2 : (⟨n.val * 256 + q.val % 256, by omega⟩ : Fin 2048) = row n t := Fin.ext (by simp only [row]; omega)
    rw [E1, E2]
  exact Q _ (by simp only [qcol]; omega) (by simp only [qcol]; omega)
end
end Cert.Fox
-- ==== Proof.Fox.Masked.lean ====
/-
  The weights of one row of scores of which only some entries are kept, and the gradient of the scores, over the reals.

  `k` says which entries are kept; a dropped entry has the score minus infinity, and its exponential is zero. The facts are those of a row
  that keeps every entry, in the module on the softmax.
-/
module

public import proofs.«01_k».proof.Proof.Mem.Softmax

@[expose] public section
noncomputable section
namespace Cert.Soft
open Idealize.ShloMosaic

/-- The largest of finitely many entries, each a real or minus infinity and at least one a real, is a real. -/
theorem fold_max_kept {ι : Type*} [Fintype ι] (k : ι → Prop) [DecidablePred k] (f : ι → ℝ) (i0 : ι) (h0 : k i0) :
    ∃ r : ℝ, Finset.fold max (⊥ : EReal) (fun i => if k i then (f i : EReal) else ⊥) Finset.univ = r := by
  classical
  have H : ∀ s : Finset ι, Finset.fold max (⊥ : EReal) (fun i => if k i then (f i : EReal) else ⊥) s = ⊥ ∧ i0 ∉ s ∨
      ∃ r : ℝ, Finset.fold max (⊥ : EReal) (fun i => if k i then (f i : EReal) else ⊥) s = r := by
    intro s
    induction s using Finset.induction_on with
    | empty => exact Or.inl ⟨rfl, by simp⟩
    | insert a s ha ih =>
      rw [Finset.fold_insert ha]
      by_cases hk : k a
      · right
        simp only [hk, if_true]
        rcases ih with ⟨h, _⟩ | ⟨r, h⟩
        · exact ⟨f a, by rw [h]; exact max_eq_left bot_le⟩
        · exact ⟨max (f a) r, by rw [h]; exact (EReal.coe_strictMono.monotone.map_max).symm⟩
      · simp only [hk, if_false]
        rcases ih with ⟨h, h1⟩ | ⟨r, h⟩
        · exact Or.inl ⟨by rw [h]; exact max_self _, by
            rw [Finset.mem_insert, not_or]
            exact ⟨fun e => hk (e ▸ h0), h1⟩⟩
        · exact Or.inr ⟨r, by rw [h]; exact max_eq_right bot_le⟩
  rcases H Finset.univ with ⟨_, h⟩ | h
  · exact absurd (Finset.mem_univ i0) h
  · exact h

section
variable {ι : Type*} [Fintype ι] (k : ι → Prop) [DecidablePred k]

/-- The exponential of a score less `M`, zero at a dropped entry. -/
def kex (s : ι → ℝ) (M : ℝ) (i : ι) : ℝ := if k i then Real.exp (s i - M) else 0
/-- The sum of the exponentials of a row less `M`. -/
def kden (s : ι → ℝ) (M : ℝ) : ℝ := ∑ i, kex k s M i
/-- The weight of entry `i`. -/
def kwt (s : ι → ℝ) (i : ι) : ℝ := kex k s 0 i / kden k s 0
/-- The gradient of score `i`, from the gradients `p` of the weights. -/
def kgr (s p : ι → ℝ) (i : ι) : ℝ := kwt k s i * (p i - ∑ j, kwt k s j * p j)

theorem kex_nonneg (s : ι → ℝ) (M : ℝ) (i : ι) : 0 ≤ kex k s M i := by
  unfold kex
  split
  · exact (Real.exp_pos _).le
  · exact le_refl _
theorem kden_pos (s : ι → ℝ) (M : ℝ) (i0 : ι) (h0 : k i0) : 0 < kden k s M := by
  refine Finset.sum_pos' (fun i _ => kex_nonneg k s M i) ⟨i0, Finset.mem_univ _, ?_⟩
  unfold kex
  rw [if_pos h0]
  exact Real.exp_pos _
theorem kex_eq (s : ι → ℝ) (M : ℝ) (i : ι) : kex k s M i = kex k s 0 i / Real.exp M := by
  unfold kex
  split
  · rw [sub_zero, Real.exp_sub]
  · rw [zero_div]
theorem kden_eq (s : ι → ℝ) (M : ℝ) : kden k s M = kden k s 0 / Real.exp M := by
  unfold kden
  rw [Finset.sum_div]
  exact Finset.sum_congr rfl fun i _ => kex_eq k s M i
theorem kwt_shift (s : ι → ℝ) (M : ℝ) (i : ι) : kex k s M i / kden k s M = kwt k s i := by
  rw [kden_eq, kex_eq, div_div_div_cancel_right₀ (Real.exp_ne_zero _), kwt]
/-- A row bias leaves the weights. -/
theorem kwt_add (s : ι → ℝ) (c : ℝ) (i : ι) : kwt k (fun j => s j + c) i = kwt k s i := by
  have e : ∀ j, kex k (fun j => s j + c) c j = kex k s 0 j := fun j => by simp only [kex, add_sub_cancel_right, sub_zero]
  rw [← kwt_shift k (fun j => s j + c) c, kden, e, Finset.sum_congr rfl fun j _ => e j]
  rfl
theorem kgr_add (s p : ι → ℝ) (c : ℝ) (i : ι) : kgr k (fun j => s j + c) p i = kgr k s p i := by
  simp only [kgr, kwt_add]
theorem kwt_log (s : ι → ℝ) (M : ℝ) (i i0 : ι) (h0 : k i0) : kex k s (M + Real.log (kden k s M)) i = kwt k s i := by
  rw [← kwt_shift k s M]
  unfold kex
  split
  · rw [← sub_sub, Real.exp_sub, Real.exp_log (kden_pos k s M i0 h0)]
  · rw [zero_div]
theorem kwt_off (s : ι → ℝ) (i : ι) (h : ¬ k i) : kwt k s i = 0 := by
  unfold kwt kex
  rw [if_neg h, zero_div]
theorem kgr_off (s p : ι → ℝ) (i : ι) (h : ¬ k i) : kgr k s p i = 0 := by
  rw [kgr, kwt_off k s i h, zero_mul]

/-- The gradient as the derivative of the quotient gives it. -/
theorem kgr_quot (s p : ι → ℝ) (M : ℝ) (i i0 : ι) (h0 : k i0) :
    (p i / kden k s M + -(∑ j, p j * (1 / (kden k s M * kden k s M)) * kex k s M j)) * kex k s M i = kgr k s p i := by
  have h := (kden_pos k s M i0 h0).ne'
  have e : ∀ j, kex k s M j = kwt k s j * kden k s M := fun j => by rw [← kwt_shift k s M, div_mul_cancel₀ _ h]
  have e2 : ∑ j, p j * (1 / (kden k s M * kden k s M)) * kex k s M j = (∑ j, kwt k s j * p j) / kden k s M := by
    rw [Finset.sum_div]
    exact Finset.sum_congr rfl fun j _ => by rw [e]; field_simp
  rw [e2, e, kgr]
  field_simp
  ring
/-- The exponential of a kept score less a real, over the extended reals. -/
theorem kexp (s : ι → ℝ) (M : ℝ) (i : ι) : Ideal.exp ((if k i then (s i : EReal) else ⊥) - (M : EReal)) = (kex k s M i : EReal) := by
  unfold kex
  split
  · rw [← EReal.coe_sub, exp_real]
  · rw [sub_eq_add_neg, EReal.bot_add]
    rfl
end
end Cert.Soft
-- ==== Proof.Fox.Real.lean ====
/-
  What both programs compute when every entry of the arguments is a real.

  `r0`, `r1`, `r2` are the queries, keys and values, `r3` the biases, `r4` the gradient of the output. The scores without the row's own bias
  are `sr`, the gradients of the weights `dp`, and the gradients of the scores `gsr`; a row keeps the keys up to its own position.
-/
module

public import proofs.«01_k».proof.Proof.Fox.RefOut
public import proofs.«01_k».proof.Proof.Fox.HostAt
public import proofs.«01_k».proof.Proof.Fox.Masked

@[expose] public section
set_option maxRecDepth 65536
noncomputable section
namespace Cert.Fox
open Cert.FoxBwdIdeal Cert.FoxBwdIdeal.Gen Idealize.ShloMosaic Idealize.ShloMosaic.TcCoe Idealize.SL.Sem
open Cert.Soft Cert.Fox.Ref Cert.FoxBwdRefIdeal.Read

section
variable (r0 r1 r2 : S2x2048x768.Idx → ℝ) (r3 : S2x2048x12.Idx → ℝ) (r4 : S2x2048x768.Idx → ℝ) (b : Fin 2) (h : Fin 12)

/-- The scores, less the bias of the row. -/
def sr (t s : Fin 2048) : ℝ := (∑ e : Fin 64, r0 (ix3 b t (hcol h e)) * r1 (ix3 b s (hcol h e))) * sclR - r3 (ix3 b s h)
/-- The weights. -/
def wr (t s : Fin 2048) : ℝ := kwt (· ≤ t) (sr r0 r1 r3 b h t) s
/-- The gradients of the weights. -/
def dp (t s : Fin 2048) : ℝ := ∑ e : Fin 64, r2 (ix3 b s (hcol h e)) * r4 (ix3 b t (hcol h e))
/-- The gradients of the scores. -/
def gsr (t s : Fin 2048) : ℝ := kgr (· ≤ t) (sr r0 r1 r3 b h t) (dp r2 r4 b h t) s
/-- The attention's output. -/
def outR (t : Fin 2048) (e : Fin 64) : ℝ := ∑ s : Fin 2048, r2 (ix3 b s (hcol h e)) * wr r0 r1 r3 b h t s
end

section
variable {x0 x1 x2 : FVec Ideal S2x2048x768 .f32} {x3 : FVec Ideal S2x2048x12 .f32} {x4 : FVec Ideal S2x2048x768 .bf16}
variable {r0 r1 r2 : S2x2048x768.Idx → ℝ} {r3 : S2x2048x12.Idx → ℝ} {r4 : S2x2048x768.Idx → ℝ}
variable (h0 : ∀ i, x0 i = (r0 i : EReal)) (h1 : ∀ i, x1 i = (r1 i : EReal)) (h2 : ∀ i, x2 i = (r2 i : EReal)) (h3 : ∀ i, x3 i = (r3 i : EReal))
  (h4 : ∀ i, x4 i = (r4 i : EReal))

section
include h0 h1 h3
theorem score_ref (b : Fin 2) (h : Fin 12) (t s : Fin 2048) :
    val_main_v21_0 (F := Ideal) x0 x1 x3 (ix4 b h t s) = if s ≤ t then ((sr r0 r1 r3 b h t s + r3 (ix3 b t h) : ℝ) : EReal) else ⊥ := by
  rw [r21, negInf]
  refine if_congr Iff.rfl ?_ rfl
  have E : ∑ e : Fin 64, val_main_v0 (F := Ideal) x0 (ix4 b t h e) * val_main_v1 (F := Ideal) x1 (ix4 b s h e) =
      ((∑ e : Fin 64, r0 (ix3 b t (hcol h e)) * r1 (ix3 b s (hcol h e)) : ℝ) : EReal) := by
    rw [coe_sum]
    exact Finset.sum_congr rfl fun e _ => by rw [Ref.r0, Ref.r1, h0, h1, EReal.coe_mul]
  rw [r12, E, show Ref.scl = (sclR : EReal) from scl_real, h3, h3, ← EReal.coe_mul, ← EReal.coe_add, ← EReal.coe_sub, sr]
  congr 1
  ring
theorem max_ref (b : Fin 2) (h : Fin 12) (t : Fin 2048) : ∃ M : ℝ, val_main_v29 (F := Ideal) x0 x1 x3 (ix3 b h t) = (M : EReal) := by
  obtain ⟨M, hM⟩ := fold_max_kept (· ≤ t) (fun s => sr r0 r1 r3 b h t s + r3 (ix3 b t h)) t le_rfl
  refine ⟨M, ?_⟩
  rw [r29, r22, negInf, max_eq_right bot_le, ← hM]
  exact congrArg (fun f => Finset.fold max ⊥ f Finset.univ) (funext fun s => score_ref h0 h1 h3 b h t s)
theorem exp_ref {b : Fin 2} {h : Fin 12} {t : Fin 2048} {M : ℝ} (hM : val_main_v29 (F := Ideal) x0 x1 x3 (ix3 b h t) = (M : EReal)) (s : Fin 2048) :
    val_main_v42 (F := Ideal) x0 x1 x3 (ix4 b h t s) = (kex (· ≤ t) (fun s => sr r0 r1 r3 b h t s + r3 (ix3 b t h)) M s : EReal) := by
  rw [r42, score_ref h0 h1 h3, hM]
  exact kexp (· ≤ t) (fun s => sr r0 r1 r3 b h t s + r3 (ix3 b t h)) M s
theorem den_ref {b : Fin 2} {h : Fin 12} {t : Fin 2048} {M : ℝ} (hM : val_main_v29 (F := Ideal) x0 x1 x3 (ix3 b h t) = (M : EReal)) :
    val_main_v43 (F := Ideal) x0 x1 x3 (ix3 b h t) = (kden (· ≤ t) (fun s => sr r0 r1 r3 b h t s + r3 (ix3 b t h)) M : EReal) := by
  rw [r43, kden, coe_sum]
  exact Finset.sum_congr rfl fun s _ => exp_ref h0 h1 h3 hM s
theorem wt_ref (b : Fin 2) (h : Fin 12) (t s : Fin 2048) :
    val_main_v46 (F := Ideal) x0 x1 x3 (ix4 b h t s) = (wr r0 r1 r3 b h t s : EReal) := by
  obtain ⟨M, hM⟩ := max_ref h0 h1 h3 b h t
  rw [r46, exp_ref h0 h1 h3 hM, den_ref h0 h1 h3 hM, div_real _ _ (kden_pos (· ≤ t) _ _ t le_rfl).ne', kwt_shift, kwt_add, wr]
end
section
include h2 h4
theorem dp_ref (b : Fin 2) (h : Fin 12) (t s : Fin 2048) :
    val_main_v57 (F := Ideal) x2 x4 (ix4 b h t s) = (dp r2 r4 b h t s : EReal) := by
  rw [r57, dp, coe_sum]
  exact Finset.sum_congr rfl fun e _ => by rw [r56, r50, h2, h4, ← EReal.coe_mul, mul_comm]
end
include h0 h1 h2 h3 h4
theorem gs_ref (b : Fin 2) (h : Fin 12) (t s : Fin 2048) :
    val_main_v73 (F := Ideal) x0 x1 x2 x3 x4 (ix4 b h t s) = (gsr r0 r1 r2 r3 r4 b h t s : EReal) := by
  obtain ⟨M, hM⟩ := max_ref h0 h1 h3 b h t
  have hd := (kden_pos (· ≤ t) (fun s => sr r0 r1 r3 b h t s + r3 (ix3 b t h)) M t le_rfl).ne'
  have e64 : val_main_v64 (F := Ideal) x0 x1 x2 x3 x4 (ix3 b h t) =
      ((∑ j, dp r2 r4 b h t j * (1 / (kden (· ≤ t) (fun s => sr r0 r1 r3 b h t s + r3 (ix3 b t h)) M * kden (· ≤ t) (fun s => sr r0 r1 r3 b h t s + r3 (ix3 b t h)) M)) *
        kex (· ≤ t) (fun s => sr r0 r1 r3 b h t s + r3 (ix3 b t h)) M j : ℝ) : EReal) := by
    rw [r64, coe_sum]
    refine Finset.sum_congr rfl fun j _ => ?_
    rw [r63, r49, dp_ref h2 h4, den_ref h0 h1 h3 hM, exp_ref h0 h1 h3 hM, one_f32, ← EReal.coe_mul, div_real _ _ (mul_ne_zero hd hd), ← EReal.coe_mul, ← EReal.coe_mul]
  rw [r73, gsr]
  by_cases hst : s ≤ t
  · rw [if_pos hst, r72, r69, e64, dp_ref h2 h4, den_ref h0 h1 h3 hM, exp_ref h0 h1 h3 hM, div_real _ _ hd, ← EReal.coe_neg, ← EReal.coe_add, ← EReal.coe_mul,
      kgr_quot (· ≤ t) _ _ _ _ t le_rfl, kgr_add]
  · rw [if_neg hst, zero32, kgr_off (· ≤ t) _ _ _ hst]
    rfl
theorem dq_ref (b : Fin 2) (h : Fin 12) (t : Fin 2048) (e : Fin 64) : val_main_v88 (F := Ideal) x0 x1 x2 x3 x4 (ix4 b t h e) =
    ((∑ s : Fin 2048, gsr r0 r1 r2 r3 r4 b h t s * sclR * r1 (ix3 b s (hcol h e)) : ℝ) : EReal) := by
  rw [r88, coe_sum]
  exact Finset.sum_congr rfl fun s _ => by rw [r84, gs_ref h0 h1 h2 h3 h4, Ref.r1, h1, show Ref.scl = (sclR : EReal) from scl_real, EReal.coe_mul, EReal.coe_mul]
theorem dk_ref (b : Fin 2) (h : Fin 12) (s : Fin 2048) (e : Fin 64) : val_main_v86 (F := Ideal) x0 x1 x2 x3 x4 (ix4 b s h e) =
    ((∑ t : Fin 2048, gsr r0 r1 r2 r3 r4 b h t s * sclR * r0 (ix3 b t (hcol h e)) : ℝ) : EReal) := by
  rw [r86, coe_sum]
  exact Finset.sum_congr rfl fun t _ => by rw [r84, gs_ref h0 h1 h2 h3 h4, Ref.r0, h0, show Ref.scl = (sclR : EReal) from scl_real, EReal.coe_mul, EReal.coe_mul]
omit h2 in
theorem dv_ref (b : Fin 2) (h : Fin 12) (s : Fin 2048) (e : Fin 64) : val_main_v59 (F := Ideal) x0 x1 x3 x4 (ix4 b s h e) =
    ((∑ t : Fin 2048, r4 (ix3 b t (hcol h e)) * wr r0 r1 r3 b h t s : ℝ) : EReal) := by
  rw [r59, coe_sum]
  exact Finset.sum_congr rfl fun t _ => by rw [r56, wt_ref h0 h1 h3, h4, EReal.coe_mul]
theorem dcol_ref (b : Fin 2) (h : Fin 12) (s : Fin 2048) : -(val_main_v78 (F := Ideal) x0 x1 x2 x3 x4 (ix3 b s h)) =
    ((∑ t : Fin 2048, gsr r0 r1 r2 r3 r4 b h t s : ℝ) : EReal) := by
  have E : val_main_v78 (F := Ideal) x0 x1 x2 x3 x4 (ix3 b s h) = ((∑ t : Fin 2048, -(gsr r0 r1 r2 r3 r4 b h t s) : ℝ) : EReal) := by
    rw [r78, coe_sum]
    exact Finset.sum_congr rfl fun t _ => by rw [gs_ref h0 h1 h2 h3 h4, EReal.coe_neg]
  rw [E, ← EReal.coe_neg, Finset.sum_neg_distrib, neg_neg]
theorem drow_ref (b : Fin 2) (h : Fin 12) (t : Fin 2048) : val_main_v82 (F := Ideal) x0 x1 x2 x3 x4 (ix3 b t h) =
    ((∑ s : Fin 2048, gsr r0 r1 r2 r3 r4 b h t s : ℝ) : EReal) := by
  rw [r82, coe_sum]
  exact Finset.sum_congr rfl fun s _ => gs_ref h0 h1 h2 h3 h4 b h t s
end

section
variable {x0 x1 x2 : FVec Ideal S2x2048x768 .f32} {x3 a : FVec Ideal S2x2048x12 .f32}
variable {r0 r1 r2 : S2x2048x768.Idx → ℝ} {r3 ra : S2x2048x12.Idx → ℝ}
variable (h0 : ∀ i, x0 i = (r0 i : EReal)) (h1 : ∀ i, x1 i = (r1 i : EReal)) (h2 : ∀ i, x2 i = (r2 i : EReal)) (h3 : ∀ i, x3 i = (r3 i : EReal))
  (ha : ∀ i, a i = (ra i : EReal))

section
include h0 h1 h3 ha
/-- The host's scores with row biases `a`. -/
theorem score_host (b : Fin 2) (h : Fin 12) (t s : Fin 2048) : hS (hSum (hDot (hHead x0) (hHead x1)) (hRowB a) (hColB x3)) (ix4 b h t s) =
    if s ≤ t then ((sr r0 r1 r3 b h t s + ra (ix3 b t h) : ℝ) : EReal) else ⊥ := by
  rw [hS_at, negInf]
  refine if_congr Iff.rfl ?_ rfl
  have E : ∑ e : Fin 64, hHead x0 (ix4 b t h e) * hHead x1 (ix4 b s h e) =
      ((∑ e : Fin 64, r0 (ix3 b t (hcol h e)) * r1 (ix3 b s (hcol h e)) : ℝ) : EReal) := by
    rw [coe_sum]
    exact Finset.sum_congr rfl fun e _ => by rw [hHead_at, hHead_at, h0, h1, EReal.coe_mul]
  rw [hSum_at, hDot_at, E, hRowB_at, hColB_at, scl_real, h3, ha, ← EReal.coe_mul, ← EReal.coe_add, ← EReal.coe_sub, sr]
  congr 1
  ring
theorem max_host (b : Fin 2) (h : Fin 12) (t : Fin 2048) : ∃ M : ℝ, hM (hS (hSum (hDot (hHead x0) (hHead x1)) (hRowB a) (hColB x3))) (ix3 b h t) = (M : EReal) := by
  obtain ⟨M, e⟩ := fold_max_kept (· ≤ t) (fun s => sr r0 r1 r3 b h t s + ra (ix3 b t h)) t le_rfl
  refine ⟨M, ?_⟩
  rw [hM_at, negInf, ← e]
  exact congrArg (fun f => Finset.fold max ⊥ f Finset.univ) (funext fun s => score_host h0 h1 h3 ha b h t s)
theorem exp_host {b : Fin 2} {h : Fin 12} {t : Fin 2048} {M : ℝ} {A : FVec Ideal S2x12x2048 .f32} (hA : A (ix3 b h t) = (M : EReal)) (s : Fin 2048) :
    hE (hS (hSum (hDot (hHead x0) (hHead x1)) (hRowB a) (hColB x3))) A (ix4 b h t s) = (kex (· ≤ t) (fun s => sr r0 r1 r3 b h t s + ra (ix3 b t h)) M s : EReal) := by
  rw [hE_at, score_host h0 h1 h3 ha, hA]
  exact kexp (· ≤ t) (fun s => sr r0 r1 r3 b h t s + ra (ix3 b t h)) M s
theorem den_host {b : Fin 2} {h : Fin 12} {t : Fin 2048} {M : ℝ} {A : FVec Ideal S2x12x2048 .f32} (hA : A (ix3 b h t) = (M : EReal)) :
    hD (hE (hS (hSum (hDot (hHead x0) (hHead x1)) (hRowB a) (hColB x3))) A) (ix3 b h t) = (kden (· ≤ t) (fun s => sr r0 r1 r3 b h t s + ra (ix3 b t h)) M : EReal) := by
  rw [hD_at, kden, coe_sum]
  exact Finset.sum_congr rfl fun s _ => exp_host h0 h1 h3 ha hA s
end
include h0 h1 h3
/-- The saved log sums. -/
theorem log_host (b : Fin 2) (h : Fin 12) (t : Fin 2048) : ∃ M : ℝ, hM (hSl x0 x1 x3) (ix3 b h t) + Ideal.log (hD (hE (hSl x0 x1 x3) (hM (hSl x0 x1 x3))) (ix3 b h t)) =
    ((M + Real.log (kden (· ≤ t) (sr r0 r1 r3 b h t) M) : ℝ) : EReal) := by
  have hz : ∀ i, hZero i = ((fun _ => 0 : S2x2048x12.Idx → ℝ) i : EReal) := fun i => zero32
  obtain ⟨M, e⟩ := max_host h0 h1 h3 hz b h t
  refine ⟨M, ?_⟩
  unfold hSl
  rw [e, den_host h0 h1 h3 hz e, log_real _ (kden_pos (· ≤ t) _ _ t le_rfl), EReal.coe_add]
  simp only [add_zero]
include h2
/-- The saved output. -/
theorem out_host (b : Fin 2) (h : Fin 12) (t : Fin 2048) (e : Fin 64) :
    hO (hHead x2) (hP (hE (hSo x0 x1 x3) (hM' (hM (hSo x0 x1 x3))))) (ix3 b t (hcol h e)) = (outR r0 r1 r2 r3 b h t e : EReal) := by
  unfold hSo
  obtain ⟨M, hM⟩ := max_host h0 h1 h3 h3 b h t
  have hA := (hM'_at _ b h t).trans ((congrArg (max _) hM).trans (by rw [negInf, max_eq_right bot_le]))
  rw [hO_at, outR, coe_sum]
  refine Finset.sum_congr rfl fun s _ => ?_
  rw [hP_at, hHead_at, h2, exp_host h0 h1 h3 h3 hA, den_host h0 h1 h3 h3 hA, div_real _ _ (kden_pos (· ≤ t) _ _ t le_rfl).ne', kwt_shift, kwt_add, wr, EReal.coe_mul]
end
end Cert.Fox
-- ==== Proof.Fox.Equation.lean ====
/-
  The kernel's three results are the reference's, when every entry of the arguments is a real.
-/
module

public import proofs.«01_k».proof.Proof.Fox.Real
public import proofs.«01_k».proof.Proof.Fox.Array
public import proofs.«01_k».proof.Proof.Fox.Host

@[expose] public section
set_option maxRecDepth 65536
noncomputable section
namespace Cert.Fox
open Cert.FoxBwdIdeal Cert.FoxBwdIdeal.Gen Idealize.ShloMosaic Idealize.ShloMosaic.TcCoe Idealize.SL.Sem
open Cert.Soft Cert.Fox.Ref Cert.FoxBwdRefIdeal.Read

theorem idx_row (t : Fin 2048) : ∃ (n : Fin 8) (w : Fin 256), t = row n w :=
  ⟨⟨t.val / 256, by omega⟩, ⟨t.val % 256, by omega⟩, Fin.ext (by simp only [row]; omega)⟩
theorem idx_lane (l : Fin 128) : ∃ (u : Fin 2) (e : Fin 64), l = lane u e :=
  ⟨⟨l.val / 64, by omega⟩, ⟨l.val % 64, by omega⟩, Fin.ext (by simp only [lane]; omega)⟩
theorem idx_qcol (q : Fin 512) : ∃ (u : Fin 2) (t : Fin 256), q = qcol u t :=
  ⟨⟨q.val / 256, by omega⟩, ⟨q.val % 256, by omega⟩, Fin.ext (by simp only [qcol]; omega)⟩
theorem idx_pcol (q : Fin 768) : ∃ (p : Fin 6) (l : Fin 128), q = pcol p l :=
  ⟨⟨q.val / 128, by omega⟩, ⟨q.val % 128, by omega⟩, Fin.ext (by simp only [pcol]; omega)⟩
theorem idx_qkv (q : Fin 2304) : ∃ (p : Fin 6) (g : Fin 3) (l : Fin 128), q = qkvcol p g l :=
  ⟨⟨q.val / 384, by omega⟩, ⟨q.val % 384 / 128, by omega⟩, ⟨q.val % 128, by omega⟩, Fin.ext (by simp only [qkvcol]; omega)⟩

/-- Arrays that agree at every index agree. -/
theorem ext3 {α : Type} {a b d : ℕ} (f g : Shape.Idx ⟨3, ![a, b, d]⟩ → α) (h : ∀ x y z, f (ix3 x y z) = g (ix3 x y z)) : f = g := by
  refine funext fun i => ?_
  have E : i = ix3 (i 0) (i 1) (i 2) := funext fun a => match a with | ⟨0, _⟩ => rfl | ⟨1, _⟩ => rfl | ⟨2, _⟩ => rfl
  rw [E]
  exact h _ _ _
theorem ext4 {α : Type} {a b d e : ℕ} (f g : Shape.Idx ⟨4, ![a, b, d, e]⟩ → α) (h : ∀ x y z w, f (ix4 x y z w) = g (ix4 x y z w)) : f = g := by
  refine funext fun i => ?_
  have E : i = ix4 (i 0) (i 1) (i 2) (i 3) := funext fun a => match a with | ⟨0, _⟩ => rfl | ⟨1, _⟩ => rfl | ⟨2, _⟩ => rfl | ⟨3, _⟩ => rfl
  rw [E]
  exact h _ _ _ _

/-- The head of a lane. -/
def lhd (l : Fin 128) : Fin 2 := ⟨l.val / 64, by omega⟩
def lpos (l : Fin 128) : Fin 64 := ⟨l.val % 64, by omega⟩
theorem lhd_lane (u : Fin 2) (e : Fin 64) : lhd (lane u e) = u := Fin.ext (by simp only [lhd, lane]; omega)
theorem lpos_lane (u : Fin 2) (e : Fin 64) : lpos (lane u e) = e := Fin.ext (by simp only [lpos, lane]; omega)

section
variable (r0 r1 r2 : S2x2048x768.Idx → ℝ) (r3 : S2x2048x12.Idx → ℝ) (r4 : S2x2048x768.Idx → ℝ) (M : Fin 2 → Fin 12 → Fin 2048 → ℝ)

/-- The entries of an argument at the lanes of a pair of heads. -/
def rP (r : S2x2048x768.Idx → ℝ) (b : Fin 2) (p : Fin 6) (t : Fin 2048) (e : Fin 128) : ℝ := r (ix3 b t (pcol p e))
/-- The negated biases. -/
def rN (b : Fin 2) (t : Fin 2048) (l : Fin 128) : ℝ := if h : l.val < 12 then -r3 (ix3 b t (⟨l.val, h⟩ : Fin 12)) else 0
/-- The saved output. -/
def rO (b : Fin 2) (p : Fin 6) (t : Fin 2048) (l : Fin 128) : ℝ := outR r0 r1 r2 r3 b (hd p (lhd l)) t (lpos l)
/-- The saved log sums, `M` the greatest scores. -/
def rL (b : Fin 2) (p : Fin 6) (u : Fin 2) (t : Fin 2048) : ℝ := M b (hd p u) t + Real.log (kden (· ≤ t) (sr r0 r1 r3 b (hd p u) t) (M b (hd p u) t))

theorem ps_sr (b : Fin 2) (p : Fin 6) (u : Fin 2) (t s : Fin 2048) : ps p (rP r0 b p) (rP r1 b p) (rN r3 b) u t s = sr r0 r1 r3 b (hd p u) t s := by
  have hN : rN r3 b s (⟨(hd p u).val, lt128 p u⟩ : Fin 128) = -r3 (ix3 b s (hd p u)) := dif_pos (hd p u).isLt
  rw [ps, sr, hN, sub_eq_add_neg, Finset.sum_mul]
  refine congrArg (· + _) (Finset.sum_congr rfl fun e _ => ?_)
  rw [rP, rP, pcol_lane]
  ring
theorem pw_wr (b : Fin 2) (p : Fin 6) (u : Fin 2) (t s : Fin 2048) :
    pw p (rP r0 b p) (rP r1 b p) (rN r3 b) (rL r0 r1 r3 M b p) u t s = wr r0 r1 r3 b (hd p u) t s := by
  have E := kwt_log (· ≤ t) (sr r0 r1 r3 b (hd p u) t) (M b (hd p u) t) s t le_rfl
  rw [pw, ps_sr, wr, ← E]
  rfl
theorem pp_dp (b : Fin 2) (p : Fin 6) (u : Fin 2) (t s : Fin 2048) : pp (rP r2 b p) (rP r4 b p) u t s = dp r2 r4 b (hd p u) t s := by
  rw [pp, dp]
  exact Finset.sum_congr rfl fun e _ => by rw [rP, rP, pcol_lane]
theorem pg_gsr (b : Fin 2) (p : Fin 6) (u : Fin 2) (t s : Fin 2048) :
    pg p (rP r0 b p) (rP r1 b p) (rP r2 b p) (rN r3 b) (rP r4 b p) (rO r0 r1 r2 r3 b p) (rL r0 r1 r3 M b p) u t s = gsr r0 r1 r2 r3 r4 b (hd p u) t s := by
  have E : pd (rP r4 b p) (rO r0 r1 r2 r3 b p) u t = ∑ j, wr r0 r1 r3 b (hd p u) t j * dp r2 r4 b (hd p u) t j := by
    refine Eq.trans ?_ (row_dot (wr r0 r1 r3 b (hd p u) t) (fun j (e : Fin 64) => r2 (ix3 b j (hcol (hd p u) e))) fun e => r4 (ix3 b t (hcol (hd p u) e)))
    rw [pd]
    exact Finset.sum_congr rfl fun e _ => by rw [rP, pcol_lane, rO, lhd_lane, lpos_lane, outR]
  rw [pg, pw_wr, pp_dp, E, gsr, kgr]
  rfl
end

section
variable (m : (ℓ : Loc nD τ sig) → Buf (Elt Ideal) ℓ) (c : Dev nD)
variable {x0 x1 x2 : FVec Ideal S2x2048x768 .f32} {x3 : FVec Ideal S2x2048x12 .f32} {x4 : FVec Ideal S2x2048x768 .bf16}
variable (e0 : m (c, main_arg0) = x0) (e1 : m (c, main_arg1) = x1) (e2 : m (c, main_arg2) = x2) (e3 : m (c, main_arg3) = x3) (e4 : m (c, main_arg4) = x4)
variable {r0 r1 r2 : S2x2048x768.Idx → ℝ} {r3 : S2x2048x12.Idx → ℝ} {r4 : S2x2048x768.Idx → ℝ}
variable (h0 : ∀ i, x0 i = (r0 i : EReal)) (h1 : ∀ i, x1 i = (r1 i : EReal)) (h2 : ∀ i, x2 i = (r2 i : EReal)) (h3 : ∀ i, x3 i = (r3 i : EReal))
  (h4 : ∀ i, x4 i = (r4 i : EReal))
include e0 e1 e2 e3 e4 h0 h1 h2 h3 h4

/-- What the kernel reads are reals. -/
theorem reals : ∃ M : Fin 2 → Fin 12 → Fin 2048 → ℝ,
    Reals m c (rP r0) (rP r1) (rP r2) (rN r3) (rP r4) (rO r0 r1 r2 r3) (rL r0 r1 r3 M) := by
  have H : ∀ (b : Fin 2) (h : Fin 12) (t : Fin 2048), _ := fun b h t => log_host h0 h1 h3 b h t
  choose M hM using H
  refine ⟨M, ?_, ?_, ?_, ?_, ?_, ?_, ?_⟩
  · intro b p t e
    rw [V_v5, e0, e1, e2]
    exact (hSrc_at _ b t p (⟨128 * (0 : Fin 3).val + e.val, lt384 0 e⟩ : Fin 384)).trans ((hCat_at0 _ _ _ b t p e).trans ((hPair_at x0 b t p e).trans (h0 _)))
  · intro b p t e
    rw [V_v5, e0, e1, e2]
    exact (hSrc_at _ b t p (⟨128 * (1 : Fin 3).val + e.val, lt384 1 e⟩ : Fin 384)).trans ((hCat_at1 _ _ _ b t p e).trans ((hPair_at x1 b t p e).trans (h1 _)))
  · intro b p t e
    rw [V_v5, e0, e1, e2]
    exact (hSrc_at _ b t p (⟨128 * (2 : Fin 3).val + e.val, lt384 2 e⟩ : Fin 384)).trans ((hCat_at2 _ _ _ b t p e).trans ((hPair_at x2 b t p e).trans (h2 _)))
  · intro b t l
    rw [V_v7, e3]
    by_cases hl : l.val < 12
    · rw [rN, dif_pos hl, EReal.coe_neg, ← h3]
      exact hNeg_at x3 b t (⟨l.val, hl⟩ : Fin 12)
    · rw [rN, dif_neg hl]
      exact hNeg_off x3 b t l (by omega)
  · intro b p t e
    rw [V_arg4, e4, h4, rP]
  · intro b p t l
    obtain ⟨u, e, rfl⟩ := idx_lane l
    rw [V_v44, e0, e1, e2, e3, pcol_lane, out_host h0 h1 h2 h3, rO, lhd_lane, lpos_lane]
  · intro b p n u t
    rw [V_v78, e0, e1, e3, hL_at]
    exact hM b (hd p u) (row n t)

theorem dq_at (b : Fin 2) (t : Fin 2048) (p : Fin 6) (u : Fin 2) (e : Fin 64) :
    (dats m 0 c).arrAt 5 cfg0.N (ix3 b t (qkvcol p 0 (lane u e))) = val_main_v103 (F := Ideal) x0 x1 x2 x3 x4 (ix3 b t (qkvcol p 0 (lane u e))) := by
  obtain ⟨M, R⟩ := reals m c e0 e1 e2 e3 e4 h0 h1 h2 h3 h4
  obtain ⟨n, w, rfl⟩ := idx_row t
  refine (dq_array R b p u n w e).trans (Eq.trans ?_ ((r103_dq x0 x1 x2 x3 x4 b (row n w) p u e _ rfl).trans (dq_ref h0 h1 h2 h3 h4 b (hd p u) (row n w) e)).symm)
  rw [Finset.sum_mul]
  refine congrArg _ (Finset.sum_congr rfl fun s _ => ?_)
  rw [Reals.g, pg_gsr, rP, pcol_lane]
  ring
theorem dk_at (b : Fin 2) (t : Fin 2048) (p : Fin 6) (u : Fin 2) (e : Fin 64) :
    (dats m 0 c).arrAt 5 cfg0.N (ix3 b t (qkvcol p 1 (lane u e))) = val_main_v103 (F := Ideal) x0 x1 x2 x3 x4 (ix3 b t (qkvcol p 1 (lane u e))) := by
  obtain ⟨M, R⟩ := reals m c e0 e1 e2 e3 e4 h0 h1 h2 h3 h4
  obtain ⟨n, w, rfl⟩ := idx_row t
  refine (dk_array R b p u n w e).trans (Eq.trans ?_ ((r103_dk x0 x1 x2 x3 x4 b (row n w) p u e _ rfl).trans (dk_ref h0 h1 h2 h3 h4 b (hd p u) (row n w) e)).symm)
  refine congrArg _ (Finset.sum_congr rfl fun s _ => ?_)
  rw [Reals.g, pg_gsr, rP, pcol_lane]
  ring
theorem dv_at (b : Fin 2) (t : Fin 2048) (p : Fin 6) (u : Fin 2) (e : Fin 64) :
    (dats m 0 c).arrAt 5 cfg0.N (ix3 b t (qkvcol p 2 (lane u e))) = val_main_v103 (F := Ideal) x0 x1 x2 x3 x4 (ix3 b t (qkvcol p 2 (lane u e))) := by
  obtain ⟨M, R⟩ := reals m c e0 e1 e2 e3 e4 h0 h1 h2 h3 h4
  obtain ⟨n, w, rfl⟩ := idx_row t
  refine (dv_array R b p u n w e).trans (Eq.trans ?_ ((r103_dv x0 x1 x2 x3 x4 b (row n w) p u e _ rfl).trans (dv_ref h0 h1 h3 h4 b (hd p u) (row n w) e)).symm)
  refine congrArg _ (Finset.sum_congr rfl fun s _ => ?_)
  rw [pw_wr, rP, pcol_lane]
theorem qkv_at : ∀ (b : Fin 2) (t : Fin 2048) (q : Fin 2304), (dats m 0 c).arrAt 5 cfg0.N (ix3 b t q) = val_main_v103 (F := Ideal) x0 x1 x2 x3 x4 (ix3 b t q) := by
  intro b t q
  obtain ⟨p, g, l, rfl⟩ := idx_qkv q
  obtain ⟨u, e, rfl⟩ := idx_lane l
  rcases (by decide : ∀ g : Fin 3, g = 0 ∨ g = 1 ∨ g = 2) g with rfl | rfl | rfl
  · exact dq_at m c e0 e1 e2 e3 e4 h0 h1 h2 h3 h4 b t p u e
  · exact dk_at m c e0 e1 e2 e3 e4 h0 h1 h2 h3 h4 b t p u e
  · exact dv_at m c e0 e1 e2 e3 e4 h0 h1 h2 h3 h4 b t p u e
theorem qkv_eq : (dats m 0 c).arrAt 5 cfg0.N = val_main_v103 (F := Ideal) x0 x1 x2 x3 x4 :=
  ext3 _ _ (qkv_at m c e0 e1 e2 e3 e4 h0 h1 h2 h3 h4)
theorem neg_at : ∀ (b : Fin 2) (t : Fin 2048) (q : Fin 768), (dats m 0 c).arrAt 6 cfg0.N (ix3 b t q) = val_main_v104 (F := Ideal) x0 x1 x2 x3 x4 (ix3 b t q) := by
  obtain ⟨M, R⟩ := reals m c e0 e1 e2 e3 e4 h0 h1 h2 h3 h4
  intro b t q
  obtain ⟨p, l, rfl⟩ := idx_pcol q
  obtain ⟨n, w, rfl⟩ := idx_row t
  have G : ∀ u, (∑ i : Fin 2048, R.g b p u i (row n w)) = ∑ i : Fin 2048, gsr r0 r1 r2 r3 r4 b (hd p u) i (row n w) := fun u =>
    Finset.sum_congr rfl fun i _ => by rw [Reals.g, pg_gsr]
  refine (dn_array R b p n w l).trans ?_
  rw [r104, packN_at, dcol_ref h0 h1 h2 h3 h4, dcol_ref h0 h1 h2 h3 h4, G, G]
  split
  · rfl
  · split <;> rfl
theorem neg_eq : (dats m 0 c).arrAt 6 cfg0.N = val_main_v104 (F := Ideal) x0 x1 x2 x3 x4 :=
  ext3 _ _ (neg_at m c e0 e1 e2 e3 e4 h0 h1 h2 h3 h4)
theorem row_at : ∀ (b : Fin 2) (p : Fin 6) (n : Fin 8) (q : Fin 512), (dats m 0 c).arrAt 7 cfg0.N (ix4 b p n q) = val_main_v105 (F := Ideal) x0 x1 x2 x3 x4 (ix4 b p n q) := by
  obtain ⟨M, R⟩ := reals m c e0 e1 e2 e3 e4 h0 h1 h2 h3 h4
  intro b p n q
  obtain ⟨u, t, rfl⟩ := idx_qcol q
  refine (dr_array R b p u n t).trans ?_
  rw [r105, packR_at, drow_ref h0 h1 h2 h3 h4]
  exact congrArg _ (Finset.sum_congr rfl fun s _ => by rw [Reals.g, pg_gsr])
theorem row_eq : (dats m 0 c).arrAt 7 cfg0.N = val_main_v105 (F := Ideal) x0 x1 x2 x3 x4 :=
  ext4 _ _ (row_at m c e0 e1 e2 e3 e4 h0 h1 h2 h3 h4)
end
end Cert.Fox
-- ==== Proof.Fox.Finite.lean ====
/-
  The precondition says that every entry of the arguments is a real.
-/
module

public import proofs.«01_k».proof.Defs
public import proofs.«01_k».proof.Proof.Mem.Finite

@[expose] public section
set_option maxRecDepth 65536
noncomputable section
namespace Cert.Fox
open Idealize.ShloMosaic Idealize.ShloMosaic.TcCoe Idealize.SL.Sem

/-- The side conditions of the precondition's operations. -/
theorem preFacts : Cert.Pre_fox_finite.Facts where
  bcast_S_S2x2048x768 := by decide
  reducesTo_S2x2048x768_S_d0_1_2 := by decide
  h_S_ := by decide
  bcast_S_S2x2048x12 := by decide
  reducesTo_S2x2048x12_S_d0_1_2 := by decide
  bitsLt_bf16_f32 := by decide

open Cert.Pre_fox_finite in
theorem finite_of_pre (x0 x1 x2 : FVec Ideal S2x2048x768 .f32) (x3 : FVec Ideal S2x2048x12 .f32) (x4 : FVec Ideal S2x2048x768 .bf16)
    (h : @Cert.Pre_fox_finite.fn preFacts Ideal _ x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧
      (∀ i, ∃ r : ℝ, x3 i = (r : EReal)) ∧ (∀ i, ∃ r : ℝ, x4 i = (r : EReal)) := by
  have two : ∀ a b : BitVec 1, IntOp.andi a b = 1#1 → a = 1#1 ∧ b = 1#1 := by decide
  have hs : Subsingleton S_.Idx := ⟨fun a b => funext fun k => k.elim0⟩
  have H := congrFun h (fun k => k.elim0)
  obtain ⟨H0123, H4⟩ := two _ _ H
  obtain ⟨H012, H3⟩ := two _ _ H0123
  obtain ⟨H01, H2⟩ := two _ _ H012
  obtain ⟨H0, H1⟩ := two _ _ H01
  exact ⟨fun i => Mem.real_of_abs _ (Host.reduce_andi_all _ _ _ _ _ H0 i), fun i => Mem.real_of_abs _ (Host.reduce_andi_all _ _ _ _ _ H1 i),
    fun i => Mem.real_of_abs _ (Host.reduce_andi_all _ _ _ _ _ H2 i), fun i => Mem.real_of_abs _ (Host.reduce_andi_all _ _ _ _ _ H3 i),
    fun i => Mem.real_of_abs _ (Host.reduce_andi_all _ _ _ _ _ H4 i)⟩
end Cert.Fox
-- ==== Proof.Adam.Sum.lean ====
/-
  The place of a device among the eight, and the sum of the eight parts of a gradient.
-/
module

public import Idealize.ShloMosaic.Lib.Pointwise
public import Idealize.ShloMosaic.Lib.Pipeline.ValueKit
public import Idealize.ShloMosaic.PureOps.Ideal.Laws
public import Idealize.ShloMosaic.Lib.StableHlo.Predicate

@[expose] public section
noncomputable section
namespace Cert.Adam
open Idealize.ShloMosaic Idealize.ShloMosaic.Pointwise

/-- A word that is at least 0 and less than 8 is a place. -/
theorem place (w : BitVec 32) (h : IntOp.andi (IntOp.cmpi .sge w 0#32) (IntOp.cmpi .slt w 8#32) = 1#1) : ∃ k : Fin 8, w = BitVec.ofNat 32 k.val := by
  have two : ∀ a b : BitVec 1, IntOp.andi a b = 1#1 → a = 1#1 ∧ b = 1#1 := by decide
  obtain ⟨h0, h1⟩ := two _ _ h
  have h0 : (0#32).sle w = true := (StableHlo.Predicate.ofBool_eq_one_iff _).1 h0
  have h1 : w.slt 8#32 = true := (StableHlo.Predicate.ofBool_eq_one_iff _).1 h1
  have h0 : (0#32).toInt ≤ w.toInt := of_decide_eq_true h0
  have h1 : w.toInt < (8#32).toInt := of_decide_eq_true h1
  have e0 : (0#32).toInt = 0 := by decide
  have e1 : (8#32).toInt = 8 := by decide
  rw [e0] at h0
  rw [e1] at h1
  rw [BitVec.toInt_eq_toNat_cond] at h0 h1
  have hw := w.isLt
  have hl : w.toNat < 8 := by
    split at h0 <;> split at h1 <;> omega
  exact ⟨⟨w.toNat, hl⟩, (BitVec.ofNat_toNat 32 w).symm ▸ (by simp)⟩

/-- So is a table of one such word. -/
theorem place_of (x : (⟨1, ![1]⟩ : Shape).Idx → BitVec 32) (h : ∀ i, IntOp.andi (IntOp.cmpi .sge (x i) 0#32) (IntOp.cmpi .slt (x i) 8#32) = 1#1) :
    ∃ k : Fin 8, x = fun _ => BitVec.ofNat 32 k.val := by
  obtain ⟨k, hk⟩ := place _ (h (ix1 (0 : Fin 1)))
  refine ⟨k, funext fun i => (congrArg x ?_).trans hk⟩
  funext a
  match a with
  | ⟨0, _⟩ => exact Subsingleton.elim (α := Fin 1) _ _

theorem same : ∀ k d : Fin 8, IntOp.cmpi .eq (BitVec.ofNat 32 k.val) (BitVec.ofNat 32 d.val) = if k = d then 1#1 else 0#1 := by decide
/-- The part is the device's own where the places agree. -/
theorem pick {α : Type} (k d : Fin 8) (u v : BitVec 32) (hu : u = BitVec.ofNat 32 k.val) (hv : v = BitVec.ofNat 32 d.val) (a b : α) :
    Scalar.select (Scalar.cmpi .eq u v) a b = if k = d then a else b := by
  show Scalar.select (IntOp.cmpi .eq u v) a b = _
  rw [hu, hv, same k d]
  by_cases h : k = d
  · rw [if_pos h, if_pos h]
    rfl
  · rw [if_neg h, if_neg h]
    rfl

theorem zero : Ideal.ofBits .f32 0x00000000#32 = (0 : EReal) := by simp [Ideal.ofBits, Ideal.ieee]
/-- One step of the optimiser at an entry: the means and the step from the gradient `g`, the weight `w` and the old means `a` and `b`. -/
def mean1 (g a : EReal) : EReal := Ideal.ofBits .f32 0x3F666666#32 * a + Ideal.ofBits .f32 0x3DCCCCCD#32 * g
def mean2 (g b : EReal) : EReal := Ideal.ofBits .f32 0x3F7FBE77#32 * b + Ideal.ofBits .f32 0x3A83126F#32 * (g * g)
def delta (g w a b : EReal) : EReal :=
  Ideal.ofBits .f32 0xBA83126F#32 * (Ideal.div (Ideal.div (mean1 g a) (Ideal.ofBits .f32 0x3F26BD02#32)) (Ideal.sqrt (Ideal.div (mean2 g b) (Ideal.ofBits .f32 0x3C231ACC#32)) + Ideal.ofBits .f32 0x322BCC77#32) + Ideal.ofBits .f32 0x3C23D70A#32 * w)
/-- The gradient at an entry: the sum of the parts of the eight devices, of which `A` holds the part of device `k` and `B` the others. -/
def grad {a b : ℕ} (k : Fin 8) (A B : (⟨3, ![8, a, b]⟩ : Shape).Idx → EReal) (r : Fin a) (j : Fin b) : EReal :=
  ∑ d : Fin 8, if k = d then A (ix3 d r j) else B (ix3 d r j)
/-- The same with the own part alone. -/
def own {a b : ℕ} (k : Fin 8) (S : (⟨3, ![1, a, b]⟩ : Shape).Idx → EReal) (B : (⟨3, ![8, a, b]⟩ : Shape).Idx → EReal) (r : Fin a) (j : Fin b) : EReal :=
  ∑ d : Fin 8, if k = d then S (ix3 (0 : Fin 1) r j) else B (ix3 d r j)
theorem own_eq {a b : ℕ} (k : Fin 8) (S A B) (h : ∀ (r : Fin a) (j : Fin b), S (ix3 (0 : Fin 1) r j) = A (ix3 k r j)) (r : Fin a) (j : Fin b) : own k S B r j = grad k A B r j :=
  Finset.sum_congr rfl fun d _ => by
    by_cases e : k = d
    · rw [if_pos e, if_pos e, h, e]
    · rw [if_neg e, if_neg e]
end Cert.Adam
-- ==== Proof.Adam.Small.lean ====
/-
  The sum of the eight parts of the small weights' gradients and one step of the optimiser on them.
-/
module

public import proofs.«01_k».proof.Proof.Adam.Sum
public import proofs.«01_k».proof.Proof.Gen.AdamSmallIdeal.Frame
public import proofs.«01_k».proof.Proof.Gen.AdamSmallRefIdeal.Read
public import Idealize.ShloMosaic.Lib.StableHlo.ReadAt
public import proofs.«01_k».proof.Proof.Grad.Sum
import Idealize.ShloMosaic.Lib.Pipeline.ReadBack

@[expose] public section
set_option maxRecDepth 65536
noncomputable section
namespace Cert.Adam.Small
open Cert.AdamSmallIdeal Cert.AdamSmallIdeal.Gen Idealize.ShloMosaic Idealize.ShloMosaic.TcCoe Idealize.SL.Sem
open Idealize.ShloMosaic.Pointwise Cert.Grad

/-- The sum of the first seven parts, the last device's bit and the part of the last device. -/
def sum7 (w : BitVec 32) (S : Vec Ideal S1x8x1024 .f32) (L : Vec Ideal S8x8x1024 .f32) : FVec Ideal S8x1024 .f32 :=
  k0_pay3 (k0_pay1 w S (View.ld L (Rect.unit ![0, 0, 0] ![1, 8, 1024] inb_S8x8x1024_S1x8x1024_0_0_0)) w S (View.ld L (Rect.unit ![1, 0, 0] ![1, 8, 1024] inb_S8x8x1024_S1x8x1024_1_0_0))
      w S (View.ld L (Rect.unit ![2, 0, 0] ![1, 8, 1024] inb_S8x8x1024_S1x8x1024_2_0_0))) (Scalar.cmpi .eq w 3#32) (k0_pay2 S) (View.ld L (Rect.unit ![3, 0, 0] ![1, 8, 1024] inb_S8x8x1024_S1x8x1024_3_0_0))
    w S (View.ld L (Rect.unit ![4, 0, 0] ![1, 8, 1024] inb_S8x8x1024_S1x8x1024_4_0_0)) w S (View.ld L (Rect.unit ![5, 0, 0] ![1, 8, 1024] inb_S8x8x1024_S1x8x1024_5_0_0))
    w S (View.ld L (Rect.unit ![6, 0, 0] ![1, 8, 1024] inb_S8x8x1024_S1x8x1024_6_0_0))
def last (L : Vec Ideal S8x8x1024 .f32) : Vec Ideal S1x8x1024 .f32 := View.ld L (Rect.unit ![7, 0, 0] ![1, 8, 1024] inb_S8x8x1024_S1x8x1024_7_0_0)
def total (w : BitVec 32) (S : Vec Ideal S1x8x1024 .f32) (L : Vec Ideal S8x8x1024 .f32) : FVec Ideal S8x1024 .f32 :=
  k0_pay4 (sum7 w S L) (Scalar.cmpi .eq w 7#32) S (last L)

theorem total_apply (k : Fin 8) (w : BitVec 32) (hw : w = BitVec.ofNat 32 k.val) (S L) (r : Fin 8) (j : Fin 1024) : total w S L (ix2 r j) = own k S L r j := by
  unfold own
  rw [Fin.sum_univ_eight]
  unfold total sum7 last
  pointwise [k0_pay4, k0_pay3, k0_pay2, k0_pay1]
  rw [pick k 0 w 0#32 hw rfl, pick k 1 w 1#32 hw rfl, pick k 2 w 2#32 hw rfl, pick k 3 w 3#32 hw rfl, pick k 4 w 4#32 hw rfl, pick k 5 w 5#32 hw rfl, pick k 6 w 6#32 hw rfl, pick k 7 w 7#32 hw rfl]
theorem mean1_pay (w S L x3) (i : S8x1024.Idx) : k0_pay5 (F := Ideal) (sum7 w S L) (Scalar.cmpi .eq w 7#32) S (last L) x3 i = mean1 (total w S L i) (x3 i) := rfl
theorem mean2_pay (w S L x4) (i : S8x1024.Idx) : k0_pay6 (F := Ideal) (sum7 w S L) (Scalar.cmpi .eq w 7#32) S (last L) x4 i = mean2 (total w S L i) (x4 i) := rfl
theorem delta_pay (w S L x2 x3 x4) (i : S8x1024.Idx) : k0_pay7 (F := Ideal) (sum7 w S L) (Scalar.cmpi .eq w 7#32) S (last L) x2 x3 x4 i = delta (total w S L i) (x2 i) (x3 i) (x4 i) := rfl

section
variable {c : Dev nD} {i : grid0.Coords} {arg2 : Memref sig .tc .vmem S1x8x1024 .f32} {harg2 : arg2.IsWhole} {arg3 : Memref sig .tc .vmem S8x8x1024 .f32} {harg3 : arg3.IsWhole}
  {arg4 : Memref sig .tc .vmem S8x1024 .f32} {harg4 : arg4.IsWhole} {arg5 : Memref sig .tc .vmem S8x1024 .f32} {harg5 : arg5.IsWhole} {arg6 : Memref sig .tc .vmem S8x1024 .f32} {harg6 : arg6.IsWhole}
  {arg7 : Memref sig .tc .vmem S8x1024 .f32} {harg7 : arg7.IsWhole} {arg8 : Memref sig .tc .vmem S8x1024 .f32} {harg8 : arg8.IsWhole} {arg9 : Memref sig .tc .vmem S8x1024 .f32} {harg9 : arg9.IsWhole}
  {arg10 : Memref sig .tc .vmem S8x1024 .f32} {harg10 : arg10.IsWhole}
  {S : Vec Ideal S1x8x1024 .f32} {L : Vec Ideal S8x8x1024 .f32} {x2 x3 x4 : Vec Ideal S8x1024 .f32} {w : BitVec 32}
theorem out5 : out0_A_5 (F := Ideal) c i arg2 harg2 arg3 harg3 arg4 harg4 arg5 harg5 arg6 harg6 arg7 harg7 arg8 harg8 arg9 harg9 arg10 harg10 S L x2 x3 x4 (fun _ => w) = total w S L := by
  unfold out0_A_5
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out6 : out0_A_6 (F := Ideal) c i arg2 harg2 arg3 harg3 arg4 harg4 arg5 harg5 arg6 harg6 arg7 harg7 arg8 harg8 arg9 harg9 arg10 harg10 S L x2 x3 x4 (fun _ => w) = k0_pay7 (F := Ideal) (sum7 w S L) (Scalar.cmpi .eq w 7#32) S (last L) x2 x3 x4 := by
  unfold out0_A_6
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out7 : out0_A_7 (F := Ideal) c i arg2 harg2 arg3 harg3 arg4 harg4 arg5 harg5 arg6 harg6 arg7 harg7 arg8 harg8 arg9 harg9 arg10 harg10 S L x2 x3 x4 (fun _ => w) = k0_pay5 (F := Ideal) (sum7 w S L) (Scalar.cmpi .eq w 7#32) S (last L) x3 := by
  unfold out0_A_7
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out8 : out0_A_8 (F := Ideal) c i arg2 harg2 arg3 harg3 arg4 harg4 arg5 harg5 arg6 harg6 arg7 harg7 arg8 harg8 arg9 harg9 arg10 harg10 S L x2 x3 x4 (fun _ => w) = k0_pay6 (F := Ideal) (sum7 w S L) (Scalar.cmpi .eq w 7#32) S (last L) x4 := by
  unfold out0_A_8
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
end
variable (m : (ℓ : Loc nD τ sig) → Buf (Elt Ideal) ℓ) (hO : Ok m) (c : Dev nD)
/-- The one point of the grid. -/
def pt : Fin (cfgM m hO).N := (⟨0, by decide⟩ : Fin grid0.N)
theorem host0 : V m c main_v0 = (shapeCast S8x8x1024 (V m c main_arg1 : FVec Ideal S64x1024 .f32) shapeCasts_S64x1024_S8x8x1024 : FVec Ideal S8x8x1024 .f32) := by
  unfold V
  after_reads_simp
  rfl
theorem host1 : V m c main_v1 = (shapeCast S8x8x1024 (V m c main_arg2 : FVec Ideal S64x1024 .f32) shapeCasts_S64x1024_S8x8x1024 : FVec Ideal S8x8x1024 .f32) := by
  unfold V
  after_reads_simp
  rfl
/-- A table of one place. -/
def places (k : Fin 8) : pre0.Contents (Elt Ideal) := fun | ⟨0, _⟩ => fun _ => BitVec.ofNat 32 k.val | ⟨_ + 1, h⟩ => absurd h (by simp)
theorem tbl_eq (k : Fin 8) (hk : tbl m 0 = fun _ => BitVec.ofNat 32 k.val) : tbl m = places k := by
  funext j
  match j with
  | ⟨0, _⟩ => exact hk
theorem ok_places : ∀ k : Fin 8, ok0 (F := Ideal) (places k) := by decide +kernel
theorem ok (k : Fin 8) (hk : tbl m 0 = fun _ => BitVec.ofNat 32 k.val) : Ok m := by
  unfold Ok
  rw [tbl_eq m k hk]
  exact ok_places k
theorem one (t : Fin (cfgM m hO).N) : t = pt m hO := (by decide +kernel : ∀ t : Fin grid0.N, t = (⟨0, by decide⟩ : Fin grid0.N)) t
theorem idx2 : ((cfgM m hO).win 2).index (pt m hO) = ![0, 0] := by
  show cc0_transform_2 (grid0.coords (⟨0, by decide⟩ : Fin grid0.N)) = _
  decide +kernel
theorem idx3 : ((cfgM m hO).win 3).index (pt m hO) = ![0, 0] := by
  show cc0_transform_3 (grid0.coords (⟨0, by decide⟩ : Fin grid0.N)) = _
  decide +kernel
theorem idx4 : ((cfgM m hO).win 4).index (pt m hO) = ![0, 0] := by
  show cc0_transform_4 (grid0.coords (⟨0, by decide⟩ : Fin grid0.N)) = _
  decide +kernel
theorem whole5 : ((cfgM m hO).win 5).WholeAt (pt m hO) :=
  ⟨flush0_5 _ _, fun t _ => one m hO t, (by decide +kernel : ∀ a, cc0_transform_5 (grid0.coords (⟨0, by decide⟩ : Fin grid0.N)) a = 0 ∧ S8x1024.size a = S8x1024.size a)⟩
theorem whole6 : ((cfgM m hO).win 6).WholeAt (pt m hO) :=
  ⟨flush0_6 _ _, fun t _ => one m hO t, (by decide +kernel : ∀ a, cc0_transform_6 (grid0.coords (⟨0, by decide⟩ : Fin grid0.N)) a = 0 ∧ S8x1024.size a = S8x1024.size a)⟩
theorem whole7 : ((cfgM m hO).win 7).WholeAt (pt m hO) :=
  ⟨flush0_7 _ _, fun t _ => one m hO t, (by decide +kernel : ∀ a, cc0_transform_7 (grid0.coords (⟨0, by decide⟩ : Fin grid0.N)) a = 0 ∧ S8x1024.size a = S8x1024.size a)⟩
theorem whole8 : ((cfgM m hO).win 8).WholeAt (pt m hO) :=
  ⟨flush0_8 _ _, fun t _ => one m hO t, (by decide +kernel : ∀ a, cc0_transform_8 (grid0.coords (⟨0, by decide⟩ : Fin grid0.N)) a = 0 ∧ S8x1024.size a = S8x1024.size a)⟩
theorem blk2 : (iblk m hO c 2 (pt m hO) : Vec Ideal S8x1024 .f32) = V m c main_arg3 := by
  funext i
  unfold iblk
  blk_ext [idx2 m hO]
theorem blk3 : (iblk m hO c 3 (pt m hO) : Vec Ideal S8x1024 .f32) = V m c main_arg4 := by
  funext i
  unfold iblk
  blk_ext [idx3 m hO]
theorem blk4 : (iblk m hO c 4 (pt m hO) : Vec Ideal S8x1024 .f32) = V m c main_arg5 := by
  funext i
  unfold iblk
  blk_ext [idx4 m hO]
theorem idx0 : ∀ k : Fin 8, cc0_transform_0 (F := Ideal) inb_S1_S1_0 numel1_S1 (places k) (grid0.coords (⟨0, by decide⟩ : Fin grid0.N)) = ![k.val, 0, 0] := by decide +kernel
theorem blk0 (k : Fin 8) (hk : tbl m 0 = fun _ => BitVec.ofNat 32 k.val) (r : Fin 8) (j : Fin 1024) : (iblk m hO c 0 (pt m hO) : Vec Ideal S1x8x1024 .f32) (ix3 (0 : Fin 1) r j) = (V m c main_v0 : Vec Ideal S8x8x1024 .f32) (ix3 k r j) := by
  have e : ((cfgM m hO).win 0).index (pt m hO) = ![k.val, 0, 0] := by
    show cc0_transform_0 inb_S1_S1_0 numel1_S1 (tbl m) (grid0.coords (⟨0, by decide⟩ : Fin grid0.N)) = _
    rw [tbl_eq m k hk]
    exact idx0 k
  unfold iblk
  blk_ext [e]
open Cert.AdamSmallRefIdeal.Read in
theorem reference (k : Fin 8) (x0 : IVec S1 32) (h0 : x0 = fun _ => BitVec.ofNat 32 k.val) (x1 x2 : FVec Ideal S64x1024 .f32) (r : Fin 8) (j : Fin 1024) :
    val_main_v8 (F := Ideal) x0 x1 x2 (ix2 r j) = grad k (val_main_v2 (F := Ideal) x1) (val_main_v3 (F := Ideal) x2) r j := by
  subst h0
  pointwise [val_main_v8, val_main_v7, val_main_call0_v0, val_main_v6, val_main_v5, val_main_v4, val_main_v1, val_main_v0]
  rw [show val_main_cst (F := Ideal) (Shape.Idx.first Cert.AdamSmallRefIdeal.Gen.h_S_) = (0 : EReal) by unfold val_main_cst; exact Cert.Adam.zero, zero_add]
  exact Finset.sum_congr rfl fun d _ => (pick d k _ _ rfl rfl _ _).trans (if_congr eq_comm rfl rfl)
theorem blk1 : (iblk m hO c 1 (pt m hO) : Vec Ideal S8x8x1024 .f32) = V m c main_v1 := by
  have e : ((cfgM m hO).win 1).index (pt m hO) = ![0, 0, 0] := (by decide +kernel : cc0_transform_1 (grid0.coords (⟨0, by decide⟩ : Fin grid0.N)) = _)
  funext i
  unfold iblk
  blk_ext [e]

open Cert.AdamSmallRefIdeal.Read

/-- The device's own part and the parts of the others. -/
def own0 : Vec Ideal S1x8x1024 .f32 := iblk m hO c 0 (pt m hO)
def others0 : Vec Ideal S8x8x1024 .f32 := iblk m hO c 1 (pt m hO)
theorem others0_eq : others0 m hO c = (shapeCast S8x8x1024 (V m c main_arg2 : FVec Ideal S64x1024 .f32) shapeCasts_S64x1024_S8x8x1024 : FVec Ideal S8x8x1024 .f32) := (blk1 m hO c).trans (host1 m c)
/-- The gradient that the call leaves is the reference's. -/
theorem grad_eq (k : Fin 8) (hk : tbl m 0 = fun _ => BitVec.ofNat 32 k.val) (h0 : V m c main_arg0 = fun _ => BitVec.ofNat 32 k.val) :
    total (BitVec.ofNat 32 k.val) (own0 m hO c) (others0 m hO c) = val_main_v8 (F := Ideal) (V m c main_arg0) (V m c main_arg1) (V m c main_arg2) := by
  refine ext2 _ _ fun r j => ?_
  rw [total_apply k _ rfl, reference k _ h0, own_eq k (own0 m hO c) (val_main_v2 (F := Ideal) (V m c main_arg1)) _ fun r j => (blk0 m hO c k hk r j).trans (congrFun (host0 m c) _), others0_eq]
  rfl
theorem array5 (k : Fin 8) (hk : tbl m 0 = fun _ => BitVec.ofNat 32 k.val) (h0 : V m c main_arg0 = fun _ => BitVec.ofNat 32 k.val) :
    (dats m hO 0 c).arrAt 5 (cfgM m hO).N = val_main_v8 (F := Ideal) (V m c main_arg0) (V m c main_arg1) (V m c main_arg2) := by
  refine (dats m hO 0 c).arrAt_eq_of_after_last 5 (pt m hO) (whole5 m hO) _ fun i => ?_
  refine Eq.trans ?_ (congrFun (grad_eq m hO c k hk h0) i)
  show (dats m hO 0 c).after 5 (pt m hO) i = _
  rw [after0_5]
  unfold outsAt0
  dsimp only
  rw [hk]
  exact congrFun out5 i
theorem array6 (k : Fin 8) (hk : tbl m 0 = fun _ => BitVec.ofNat 32 k.val) (h0 : V m c main_arg0 = fun _ => BitVec.ofNat 32 k.val) :
    (dats m hO 0 c).arrAt 6 (cfgM m hO).N = val_main_v32 (F := Ideal) (V m c main_arg0) (V m c main_arg1) (V m c main_arg2) (V m c main_arg3) (V m c main_arg4) (V m c main_arg5) := by
  refine (dats m hO 0 c).arrAt_eq_of_after_last 6 (pt m hO) (whole6 m hO) _ fun i => ?_
  have e : delta (total (BitVec.ofNat 32 k.val) (own0 m hO c) (others0 m hO c) i) ((iblk m hO c 2 (pt m hO) : Vec Ideal S8x1024 .f32) i) ((iblk m hO c 3 (pt m hO) : Vec Ideal S8x1024 .f32) i) ((iblk m hO c 4 (pt m hO) : Vec Ideal S8x1024 .f32) i) = delta (val_main_v8 (F := Ideal) (V m c main_arg0) (V m c main_arg1) (V m c main_arg2) i) (V m c main_arg3 i) (V m c main_arg4 i) (V m c main_arg5 i) :=
    congr (congr (congr (congrArg delta (congrFun (grad_eq m hO c k hk h0) i)) (congrFun (blk2 m hO c) i)) (congrFun (blk3 m hO c) i)) (congrFun (blk4 m hO c) i)
  refine Eq.trans ?_ e
  show (dats m hO 0 c).after 6 (pt m hO) i = _
  rw [after0_6]
  unfold outsAt0
  dsimp only
  rw [hk]
  exact (congrFun out6 i).trans (delta_pay _ _ _ _ _ _ i)
theorem array7 (k : Fin 8) (hk : tbl m 0 = fun _ => BitVec.ofNat 32 k.val) (h0 : V m c main_arg0 = fun _ => BitVec.ofNat 32 k.val) :
    (dats m hO 0 c).arrAt 7 (cfgM m hO).N = val_main_v13 (F := Ideal) (V m c main_arg0) (V m c main_arg1) (V m c main_arg2) (V m c main_arg4) := by
  refine (dats m hO 0 c).arrAt_eq_of_after_last 7 (pt m hO) (whole7 m hO) _ fun i => ?_
  have e : mean1 (total (BitVec.ofNat 32 k.val) (own0 m hO c) (others0 m hO c) i) ((iblk m hO c 3 (pt m hO) : Vec Ideal S8x1024 .f32) i) = mean1 (val_main_v8 (F := Ideal) (V m c main_arg0) (V m c main_arg1) (V m c main_arg2) i) (V m c main_arg4 i) :=
    congr (congrArg mean1 (congrFun (grad_eq m hO c k hk h0) i)) (congrFun (blk3 m hO c) i)
  refine Eq.trans ?_ e
  show (dats m hO 0 c).after 7 (pt m hO) i = _
  rw [after0_7]
  unfold outsAt0
  dsimp only
  rw [hk]
  exact (congrFun out7 i).trans (mean1_pay _ _ _ _ i)
theorem array8 (k : Fin 8) (hk : tbl m 0 = fun _ => BitVec.ofNat 32 k.val) (h0 : V m c main_arg0 = fun _ => BitVec.ofNat 32 k.val) :
    (dats m hO 0 c).arrAt 8 (cfgM m hO).N = val_main_v19 (F := Ideal) (V m c main_arg0) (V m c main_arg1) (V m c main_arg2) (V m c main_arg5) := by
  refine (dats m hO 0 c).arrAt_eq_of_after_last 8 (pt m hO) (whole8 m hO) _ fun i => ?_
  have e : mean2 (total (BitVec.ofNat 32 k.val) (own0 m hO c) (others0 m hO c) i) ((iblk m hO c 4 (pt m hO) : Vec Ideal S8x1024 .f32) i) = mean2 (val_main_v8 (F := Ideal) (V m c main_arg0) (V m c main_arg1) (V m c main_arg2) i) (V m c main_arg5 i) :=
    congr (congrArg mean2 (congrFun (grad_eq m hO c k hk h0) i)) (congrFun (blk4 m hO c) i)
  refine Eq.trans ?_ e
  show (dats m hO 0 c).after 8 (pt m hO) i = _
  rw [after0_8]
  unfold outsAt0
  dsimp only
  rw [hk]
  exact (congrFun out8 i).trans (mean2_pay _ _ _ _ i)
/-- The table is the call's first argument. -/
theorem table (k : Fin 8) (h0 : m ((c.tc : Thread nD τ).loc main_arg0) = fun _ => BitVec.ofNat 32 k.val) : tbl m 0 = fun _ => BitVec.ofNat 32 k.val :=
  (V_pre m c 0).symm.trans ((V_main_arg0 m c).trans h0)
theorem ok_of_place (h : ∃ k : Fin 8, m ((c.tc : Thread nD τ).loc main_arg0) = fun _ => BitVec.ofNat 32 k.val) : Ok m := by
  obtain ⟨k, h0⟩ := h
  exact ok m k (table m c k h0)
/-- The call ends with the reference's gradient, step and means, and its arguments as they were. -/
theorem run (ρ : Dev nD → PrngReg) (hp : ∀ c : Dev nD, ∃ k : Fin 8, m ((c.tc : Thread nD τ).loc main_arg0) = fun _ => BitVec.ofNat 32 k.val) :
    θ_run defs (onTc (τ := τ) (main (F := Ideal))) ⟨m, fun _ => 0, ρ⟩ fun r => ∀ c : Dev nD,
      r.2.mem ((c.tc : Thread nD τ).loc main_v2_0) = val_main_v8 (F := Ideal) (V m c main_arg0) (V m c main_arg1) (V m c main_arg2)
      ∧ r.2.mem ((c.tc : Thread nD τ).loc main_v2_1) = val_main_v32 (F := Ideal) (V m c main_arg0) (V m c main_arg1) (V m c main_arg2) (V m c main_arg3) (V m c main_arg4) (V m c main_arg5)
      ∧ r.2.mem ((c.tc : Thread nD τ).loc main_v2_2) = val_main_v13 (F := Ideal) (V m c main_arg0) (V m c main_arg1) (V m c main_arg2) (V m c main_arg4)
      ∧ r.2.mem ((c.tc : Thread nD τ).loc main_v2_3) = val_main_v19 (F := Ideal) (V m c main_arg0) (V m c main_arg1) (V m c main_arg2) (V m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hO : Ok m := ok_of_place m 0 (hp 0)
  refine (θ_run defs _ _).mono (fun r h c => ?_) (run_main m ρ hO)
  obtain ⟨k, h0⟩ := hp c
  have hk := table m c k h0
  have h0 := (V_main_arg0 m c).trans h0
  exact ⟨((h c).1 5).trans (array5 m hO c k hk h0), ((h c).1 6).trans (array6 m hO c k hk h0), ((h c).1 7).trans (array7 m hO c k hk h0), ((h c).1 8).trans (array8 m hO c k hk h0),
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).1 2).trans (((dats m hO 0 c).arrAt_in 2 rfl _).trans ((A_eq m hO c 2).trans (V_main_arg3 m c))),
    ((h c).1 3).trans (((dats m hO 0 c).arrAt_in 3 rfl _).trans ((A_eq m hO c 3).trans (V_main_arg4 m c))),
    ((h c).1 4).trans (((dats m hO 0 c).arrAt_in 4 rfl _).trans ((A_eq m hO c 4).trans (V_main_arg5 m c)))⟩
end Cert.Adam.Small
-- ==== Proof.Adam.Kv.lean ====
/-
  The sum of the eight parts of the gradient of the keys' and values' projection and one step of the optimiser on them.
-/
module

public import proofs.«01_k».proof.Proof.Adam.Sum
public import proofs.«01_k».proof.Proof.Gen.AdamKvIdeal.Frame
public import proofs.«01_k».proof.Proof.Gen.AdamKvRefIdeal.Read
public import Idealize.ShloMosaic.Lib.StableHlo.ReadAt
public import proofs.«01_k».proof.Proof.Grad.Sum
import Idealize.ShloMosaic.Lib.Pipeline.ReadBack

@[expose] public section
set_option maxRecDepth 65536
noncomputable section
namespace Cert.Adam.Kv
open Cert.AdamKvIdeal Cert.AdamKvIdeal.Gen Idealize.ShloMosaic Idealize.ShloMosaic.TcCoe Idealize.SL.Sem
open Idealize.ShloMosaic.Pointwise Cert.Grad

/-- The sum of the first seven parts, and the part of the last device. -/
def sum7 (w : BitVec 32) (S : Vec Ideal S1x128x1024 .bf16) (L : Vec Ideal S8x128x1024 .bf16) : FVec Ideal S128x1024 .f32 :=
  k0_pay4 (k0_pay2 w S (View.ld L (Rect.unit ![0, 0, 0] ![1, 128, 1024] inb_S8x128x1024_S1x128x1024_0_0_0)) w S (View.ld L (Rect.unit ![1, 0, 0] ![1, 128, 1024] inb_S8x128x1024_S1x128x1024_1_0_0))
      w S (View.ld L (Rect.unit ![2, 0, 0] ![1, 128, 1024] inb_S8x128x1024_S1x128x1024_2_0_0))) (Scalar.cmpi .eq w 3#32) (k0_pay3 S) (View.ld L (Rect.unit ![3, 0, 0] ![1, 128, 1024] inb_S8x128x1024_S1x128x1024_3_0_0))
    w S (View.ld L (Rect.unit ![4, 0, 0] ![1, 128, 1024] inb_S8x128x1024_S1x128x1024_4_0_0)) w S (View.ld L (Rect.unit ![5, 0, 0] ![1, 128, 1024] inb_S8x128x1024_S1x128x1024_5_0_0))
    w S (View.ld L (Rect.unit ![6, 0, 0] ![1, 128, 1024] inb_S8x128x1024_S1x128x1024_6_0_0))
def last (L : Vec Ideal S8x128x1024 .bf16) : Vec Ideal S1x128x1024 .bf16 := View.ld L (Rect.unit ![7, 0, 0] ![1, 128, 1024] inb_S8x128x1024_S1x128x1024_7_0_0)
def total (w : BitVec 32) (S : Vec Ideal S1x128x1024 .bf16) (L : Vec Ideal S8x128x1024 .bf16) : FVec Ideal S128x1024 .f32 :=
  k0_pay5 (sum7 w S L) w S (last L)

theorem total_apply (k : Fin 8) (w : BitVec 32) (hw : w = BitVec.ofNat 32 k.val) (S L) (r : Fin 128) (j : Fin 1024) : total w S L (ix2 r j) = own k S L r j := by
  unfold own
  rw [Fin.sum_univ_eight]
  unfold total sum7 last
  pointwise [k0_pay5, k0_pay4, k0_pay3, k0_pay2]
  rw [pick k 0 w 0#32 hw rfl, pick k 1 w 1#32 hw rfl, pick k 2 w 2#32 hw rfl, pick k 3 w 3#32 hw rfl, pick k 4 w 4#32 hw rfl, pick k 5 w 5#32 hw rfl, pick k 6 w 6#32 hw rfl, pick k 7 w 7#32 hw rfl]
theorem mean1_pay (w S L x3) (i : S128x1024.Idx) : k0_pay6 (F := Ideal) (sum7 w S L) w S (last L) x3 i = mean1 (total w S L i) (x3 i) := rfl
theorem mean2_pay (w S L x4) (i : S128x1024.Idx) : k0_pay7 (F := Ideal) (sum7 w S L) w S (last L) x4 i = mean2 (total w S L i) (x4 i) := rfl
theorem delta_pay (w S L x2 x3 x4) (i : S128x1024.Idx) : k0_pay1 (F := Ideal) (k0_pay8 (sum7 w S L) w S (last L) x2 x3 x4) (Scalar.ofBits .f32 0xBA83126F#32) i = delta (total w S L i) (x2 i) (x3 i) (x4 i) := rfl

section
variable {c : Dev nD} {i : grid0.Coords} {arg2 : Memref sig .tc .vmem S1x128x1024 .bf16} {harg2 : arg2.IsWhole} {arg3 : Memref sig .tc .vmem S8x128x1024 .bf16} {harg3 : arg3.IsWhole}
  {arg4 : Memref sig .tc .vmem S128x1024 .f32} {harg4 : arg4.IsWhole} {arg5 : Memref sig .tc .vmem S128x1024 .f32} {harg5 : arg5.IsWhole} {arg6 : Memref sig .tc .vmem S128x1024 .f32} {harg6 : arg6.IsWhole}
  {arg7 : Memref sig .tc .vmem S128x1024 .f32} {harg7 : arg7.IsWhole} {arg8 : Memref sig .tc .vmem S128x1024 .f32} {harg8 : arg8.IsWhole} {arg9 : Memref sig .tc .vmem S128x1024 .f32} {harg9 : arg9.IsWhole}
  {arg10 : Memref sig .tc .vmem S128x1024 .f32} {harg10 : arg10.IsWhole}
  {S : Vec Ideal S1x128x1024 .bf16} {L : Vec Ideal S8x128x1024 .bf16} {x2 x3 x4 : Vec Ideal S128x1024 .f32} {w : BitVec 32}
theorem out5 : out0_A_5 (F := Ideal) c i arg2 harg2 arg3 harg3 arg4 harg4 arg5 harg5 arg6 harg6 arg7 harg7 arg8 harg8 arg9 harg9 arg10 harg10 S L x2 x3 x4 (fun _ => w) = total w S L := by
  unfold out0_A_5
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out6 : out0_A_6 (F := Ideal) c i arg2 harg2 arg3 harg3 arg4 harg4 arg5 harg5 arg6 harg6 arg7 harg7 arg8 harg8 arg9 harg9 arg10 harg10 S L x2 x3 x4 (fun _ => w) = k0_pay1 (F := Ideal) (k0_pay8 (sum7 w S L) w S (last L) x2 x3 x4) (Scalar.ofBits .f32 0xBA83126F#32) := by
  unfold out0_A_6
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out7 : out0_A_7 (F := Ideal) c i arg2 harg2 arg3 harg3 arg4 harg4 arg5 harg5 arg6 harg6 arg7 harg7 arg8 harg8 arg9 harg9 arg10 harg10 S L x2 x3 x4 (fun _ => w) = k0_pay6 (F := Ideal) (sum7 w S L) w S (last L) x3 := by
  unfold out0_A_7
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out8 : out0_A_8 (F := Ideal) c i arg2 harg2 arg3 harg3 arg4 harg4 arg5 harg5 arg6 harg6 arg7 harg7 arg8 harg8 arg9 harg9 arg10 harg10 S L x2 x3 x4 (fun _ => w) = k0_pay7 (F := Ideal) (sum7 w S L) w S (last L) x4 := by
  unfold out0_A_8
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
end
variable (m : (ℓ : Loc nD τ sig) → Buf (Elt Ideal) ℓ) (hO : Ok m) (c : Dev nD)
/-- The one point of the grid. -/
def pt : Fin (cfgM m hO).N := (⟨0, by decide⟩ : Fin grid0.N)
theorem host0 : V m c main_v0 = (shapeCast S8x128x1024 (V m c main_arg1 : FVec Ideal S1024x1024 .bf16) shapeCasts_S1024x1024_S8x128x1024 : FVec Ideal S8x128x1024 .bf16) := by
  unfold V
  after_reads_simp
  rfl
theorem host1 : V m c main_v1 = (shapeCast S8x128x1024 (V m c main_arg2 : FVec Ideal S1024x1024 .bf16) shapeCasts_S1024x1024_S8x128x1024 : FVec Ideal S8x128x1024 .bf16) := by
  unfold V
  after_reads_simp
  rfl
/-- A table of one place. -/
def places (k : Fin 8) : pre0.Contents (Elt Ideal) := fun | ⟨0, _⟩ => fun _ => BitVec.ofNat 32 k.val | ⟨_ + 1, h⟩ => absurd h (by simp)
theorem tbl_eq (k : Fin 8) (hk : tbl m 0 = fun _ => BitVec.ofNat 32 k.val) : tbl m = places k := by
  funext j
  match j with
  | ⟨0, _⟩ => exact hk
theorem ok_places : ∀ k : Fin 8, ok0 (F := Ideal) (places k) := by decide +kernel
theorem ok (k : Fin 8) (hk : tbl m 0 = fun _ => BitVec.ofNat 32 k.val) : Ok m := by
  unfold Ok
  rw [tbl_eq m k hk]
  exact ok_places k
theorem one (t : Fin (cfgM m hO).N) : t = pt m hO := (by decide +kernel : ∀ t : Fin grid0.N, t = (⟨0, by decide⟩ : Fin grid0.N)) t
theorem idx2 : ((cfgM m hO).win 2).index (pt m hO) = ![0, 0] := by
  show cc0_transform_2 (grid0.coords (⟨0, by decide⟩ : Fin grid0.N)) = _
  decide +kernel
theorem idx3 : ((cfgM m hO).win 3).index (pt m hO) = ![0, 0] := by
  show cc0_transform_3 (grid0.coords (⟨0, by decide⟩ : Fin grid0.N)) = _
  decide +kernel
theorem idx4 : ((cfgM m hO).win 4).index (pt m hO) = ![0, 0] := by
  show cc0_transform_4 (grid0.coords (⟨0, by decide⟩ : Fin grid0.N)) = _
  decide +kernel
theorem whole5 : ((cfgM m hO).win 5).WholeAt (pt m hO) :=
  ⟨flush0_5 _ _, fun t _ => one m hO t, (by decide +kernel : ∀ a, cc0_transform_5 (grid0.coords (⟨0, by decide⟩ : Fin grid0.N)) a = 0 ∧ S128x1024.size a = S128x1024.size a)⟩
theorem whole6 : ((cfgM m hO).win 6).WholeAt (pt m hO) :=
  ⟨flush0_6 _ _, fun t _ => one m hO t, (by decide +kernel : ∀ a, cc0_transform_6 (grid0.coords (⟨0, by decide⟩ : Fin grid0.N)) a = 0 ∧ S128x1024.size a = S128x1024.size a)⟩
theorem whole7 : ((cfgM m hO).win 7).WholeAt (pt m hO) :=
  ⟨flush0_7 _ _, fun t _ => one m hO t, (by decide +kernel : ∀ a, cc0_transform_7 (grid0.coords (⟨0, by decide⟩ : Fin grid0.N)) a = 0 ∧ S128x1024.size a = S128x1024.size a)⟩
theorem whole8 : ((cfgM m hO).win 8).WholeAt (pt m hO) :=
  ⟨flush0_8 _ _, fun t _ => one m hO t, (by decide +kernel : ∀ a, cc0_transform_8 (grid0.coords (⟨0, by decide⟩ : Fin grid0.N)) a = 0 ∧ S128x1024.size a = S128x1024.size a)⟩
theorem blk2 : (iblk m hO c 2 (pt m hO) : Vec Ideal S128x1024 .f32) = V m c main_arg3 := by
  funext i
  unfold iblk
  blk_ext [idx2 m hO]
theorem blk3 : (iblk m hO c 3 (pt m hO) : Vec Ideal S128x1024 .f32) = V m c main_arg4 := by
  funext i
  unfold iblk
  blk_ext [idx3 m hO]
theorem blk4 : (iblk m hO c 4 (pt m hO) : Vec Ideal S128x1024 .f32) = V m c main_arg5 := by
  funext i
  unfold iblk
  blk_ext [idx4 m hO]
theorem idx0 : ∀ k : Fin 8, cc0_transform_0 (F := Ideal) inb_S1_S1_0 numel1_S1 (places k) (grid0.coords (⟨0, by decide⟩ : Fin grid0.N)) = ![k.val, 0, 0] := by decide +kernel
theorem blk0 (k : Fin 8) (hk : tbl m 0 = fun _ => BitVec.ofNat 32 k.val) (r : Fin 128) (j : Fin 1024) : (iblk m hO c 0 (pt m hO) : Vec Ideal S1x128x1024 .bf16) (ix3 (0 : Fin 1) r j) = (V m c main_v0 : Vec Ideal S8x128x1024 .bf16) (ix3 k r j) := by
  have e : ((cfgM m hO).win 0).index (pt m hO) = ![k.val, 0, 0] := by
    show cc0_transform_0 inb_S1_S1_0 numel1_S1 (tbl m) (grid0.coords (⟨0, by decide⟩ : Fin grid0.N)) = _
    rw [tbl_eq m k hk]
    exact idx0 k
  unfold iblk
  blk_ext [e]
open Cert.AdamKvRefIdeal.Read in
theorem reference (k : Fin 8) (x0 : IVec S1 32) (h0 : x0 = fun _ => BitVec.ofNat 32 k.val) (x1 x2 : FVec Ideal S1024x1024 .bf16) (r : Fin 128) (j : Fin 1024) :
    val_main_v9 (F := Ideal) x0 x1 x2 (ix2 r j) = grad k (val_main_v2 (F := Ideal) x1) (val_main_v3 (F := Ideal) x2) r j := by
  subst h0
  pointwise [val_main_v9, val_main_v8, val_main_v7, val_main_call0_v0, val_main_v6, val_main_v5, val_main_v4, val_main_v1, val_main_v0]
  rw [show val_main_cst (F := Ideal) (Shape.Idx.first Cert.AdamKvRefIdeal.Gen.h_S_) = (0 : EReal) by unfold val_main_cst; exact Cert.Adam.zero, zero_add]
  exact Finset.sum_congr rfl fun d _ => (pick d k _ _ rfl rfl _ _).trans (if_congr eq_comm rfl rfl)
theorem blk1 : (iblk m hO c 1 (pt m hO) : Vec Ideal S8x128x1024 .bf16) = V m c main_v1 := by
  have e : ((cfgM m hO).win 1).index (pt m hO) = ![0, 0, 0] := (by decide +kernel : cc0_transform_1 (grid0.coords (⟨0, by decide⟩ : Fin grid0.N)) = _)
  funext i
  unfold iblk
  blk_ext [e]

open Cert.AdamKvRefIdeal.Read

/-- The device's own part and the parts of the others. -/
def own0 : Vec Ideal S1x128x1024 .bf16 := iblk m hO c 0 (pt m hO)
def others0 : Vec Ideal S8x128x1024 .bf16 := iblk m hO c 1 (pt m hO)
theorem others0_eq : others0 m hO c = (shapeCast S8x128x1024 (V m c main_arg2 : FVec Ideal S1024x1024 .bf16) shapeCasts_S1024x1024_S8x128x1024 : FVec Ideal S8x128x1024 .bf16) := (blk1 m hO c).trans (host1 m c)
/-- The gradient that the call leaves is the reference's. -/
theorem grad_eq (k : Fin 8) (hk : tbl m 0 = fun _ => BitVec.ofNat 32 k.val) (h0 : V m c main_arg0 = fun _ => BitVec.ofNat 32 k.val) :
    total (BitVec.ofNat 32 k.val) (own0 m hO c) (others0 m hO c) = val_main_v9 (F := Ideal) (V m c main_arg0) (V m c main_arg1) (V m c main_arg2) := by
  refine ext2 _ _ fun r j => ?_
  rw [total_apply k _ rfl, reference k _ h0, own_eq k (own0 m hO c) (val_main_v2 (F := Ideal) (V m c main_arg1)) _ fun r j => (blk0 m hO c k hk r j).trans (congrFun (host0 m c) _), others0_eq]
  rfl
theorem array5 (k : Fin 8) (hk : tbl m 0 = fun _ => BitVec.ofNat 32 k.val) (h0 : V m c main_arg0 = fun _ => BitVec.ofNat 32 k.val) :
    (dats m hO 0 c).arrAt 5 (cfgM m hO).N = val_main_v9 (F := Ideal) (V m c main_arg0) (V m c main_arg1) (V m c main_arg2) := by
  refine (dats m hO 0 c).arrAt_eq_of_after_last 5 (pt m hO) (whole5 m hO) _ fun i => ?_
  refine Eq.trans ?_ (congrFun (grad_eq m hO c k hk h0) i)
  show (dats m hO 0 c).after 5 (pt m hO) i = _
  rw [after0_5]
  unfold outsAt0
  dsimp only
  rw [hk]
  exact congrFun out5 i
theorem array6 (k : Fin 8) (hk : tbl m 0 = fun _ => BitVec.ofNat 32 k.val) (h0 : V m c main_arg0 = fun _ => BitVec.ofNat 32 k.val) :
    (dats m hO 0 c).arrAt 6 (cfgM m hO).N = val_main_v33 (F := Ideal) (V m c main_arg0) (V m c main_arg1) (V m c main_arg2) (V m c main_arg3) (V m c main_arg4) (V m c main_arg5) := by
  refine (dats m hO 0 c).arrAt_eq_of_after_last 6 (pt m hO) (whole6 m hO) _ fun i => ?_
  have e : delta (total (BitVec.ofNat 32 k.val) (own0 m hO c) (others0 m hO c) i) ((iblk m hO c 2 (pt m hO) : Vec Ideal S128x1024 .f32) i) ((iblk m hO c 3 (pt m hO) : Vec Ideal S128x1024 .f32) i) ((iblk m hO c 4 (pt m hO) : Vec Ideal S128x1024 .f32) i) = delta (val_main_v9 (F := Ideal) (V m c main_arg0) (V m c main_arg1) (V m c main_arg2) i) (V m c main_arg3 i) (V m c main_arg4 i) (V m c main_arg5 i) :=
    congr (congr (congr (congrArg delta (congrFun (grad_eq m hO c k hk h0) i)) (congrFun (blk2 m hO c) i)) (congrFun (blk3 m hO c) i)) (congrFun (blk4 m hO c) i)
  refine Eq.trans ?_ e
  show (dats m hO 0 c).after 6 (pt m hO) i = _
  rw [after0_6]
  unfold outsAt0
  dsimp only
  rw [hk]
  exact (congrFun out6 i).trans (delta_pay _ _ _ _ _ _ i)
theorem array7 (k : Fin 8) (hk : tbl m 0 = fun _ => BitVec.ofNat 32 k.val) (h0 : V m c main_arg0 = fun _ => BitVec.ofNat 32 k.val) :
    (dats m hO 0 c).arrAt 7 (cfgM m hO).N = val_main_v14 (F := Ideal) (V m c main_arg0) (V m c main_arg1) (V m c main_arg2) (V m c main_arg4) := by
  refine (dats m hO 0 c).arrAt_eq_of_after_last 7 (pt m hO) (whole7 m hO) _ fun i => ?_
  have e : mean1 (total (BitVec.ofNat 32 k.val) (own0 m hO c) (others0 m hO c) i) ((iblk m hO c 3 (pt m hO) : Vec Ideal S128x1024 .f32) i) = mean1 (val_main_v9 (F := Ideal) (V m c main_arg0) (V m c main_arg1) (V m c main_arg2) i) (V m c main_arg4 i) :=
    congr (congrArg mean1 (congrFun (grad_eq m hO c k hk h0) i)) (congrFun (blk3 m hO c) i)
  refine Eq.trans ?_ e
  show (dats m hO 0 c).after 7 (pt m hO) i = _
  rw [after0_7]
  unfold outsAt0
  dsimp only
  rw [hk]
  exact (congrFun out7 i).trans (mean1_pay _ _ _ _ i)
theorem array8 (k : Fin 8) (hk : tbl m 0 = fun _ => BitVec.ofNat 32 k.val) (h0 : V m c main_arg0 = fun _ => BitVec.ofNat 32 k.val) :
    (dats m hO 0 c).arrAt 8 (cfgM m hO).N = val_main_v20 (F := Ideal) (V m c main_arg0) (V m c main_arg1) (V m c main_arg2) (V m c main_arg5) := by
  refine (dats m hO 0 c).arrAt_eq_of_after_last 8 (pt m hO) (whole8 m hO) _ fun i => ?_
  have e : mean2 (total (BitVec.ofNat 32 k.val) (own0 m hO c) (others0 m hO c) i) ((iblk m hO c 4 (pt m hO) : Vec Ideal S128x1024 .f32) i) = mean2 (val_main_v9 (F := Ideal) (V m c main_arg0) (V m c main_arg1) (V m c main_arg2) i) (V m c main_arg5 i) :=
    congr (congrArg mean2 (congrFun (grad_eq m hO c k hk h0) i)) (congrFun (blk4 m hO c) i)
  refine Eq.trans ?_ e
  show (dats m hO 0 c).after 8 (pt m hO) i = _
  rw [after0_8]
  unfold outsAt0
  dsimp only
  rw [hk]
  exact (congrFun out8 i).trans (mean2_pay _ _ _ _ i)
/-- The table is the call's first argument. -/
theorem table (k : Fin 8) (h0 : m ((c.tc : Thread nD τ).loc main_arg0) = fun _ => BitVec.ofNat 32 k.val) : tbl m 0 = fun _ => BitVec.ofNat 32 k.val :=
  (V_pre m c 0).symm.trans ((V_main_arg0 m c).trans h0)
theorem ok_of_place (h : ∃ k : Fin 8, m ((c.tc : Thread nD τ).loc main_arg0) = fun _ => BitVec.ofNat 32 k.val) : Ok m := by
  obtain ⟨k, h0⟩ := h
  exact ok m k (table m c k h0)
/-- The call ends with the reference's gradient, step and means, and its arguments as they were. -/
theorem run (ρ : Dev nD → PrngReg) (hp : ∀ c : Dev nD, ∃ k : Fin 8, m ((c.tc : Thread nD τ).loc main_arg0) = fun _ => BitVec.ofNat 32 k.val) :
    θ_run defs (onTc (τ := τ) (main (F := Ideal))) ⟨m, fun _ => 0, ρ⟩ fun r => ∀ c : Dev nD,
      r.2.mem ((c.tc : Thread nD τ).loc main_v2_0) = val_main_v9 (F := Ideal) (V m c main_arg0) (V m c main_arg1) (V m c main_arg2)
      ∧ r.2.mem ((c.tc : Thread nD τ).loc main_v2_1) = val_main_v33 (F := Ideal) (V m c main_arg0) (V m c main_arg1) (V m c main_arg2) (V m c main_arg3) (V m c main_arg4) (V m c main_arg5)
      ∧ r.2.mem ((c.tc : Thread nD τ).loc main_v2_2) = val_main_v14 (F := Ideal) (V m c main_arg0) (V m c main_arg1) (V m c main_arg2) (V m c main_arg4)
      ∧ r.2.mem ((c.tc : Thread nD τ).loc main_v2_3) = val_main_v20 (F := Ideal) (V m c main_arg0) (V m c main_arg1) (V m c main_arg2) (V m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hO : Ok m := ok_of_place m 0 (hp 0)
  refine (θ_run defs _ _).mono (fun r h c => ?_) (run_main m ρ hO)
  obtain ⟨k, h0⟩ := hp c
  have hk := table m c k h0
  have h0 := (V_main_arg0 m c).trans h0
  exact ⟨((h c).1 5).trans (array5 m hO c k hk h0), ((h c).1 6).trans (array6 m hO c k hk h0), ((h c).1 7).trans (array7 m hO c k hk h0), ((h c).1 8).trans (array8 m hO c k hk h0),
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).1 2).trans (((dats m hO 0 c).arrAt_in 2 rfl _).trans ((A_eq m hO c 2).trans (V_main_arg3 m c))),
    ((h c).1 3).trans (((dats m hO 0 c).arrAt_in 3 rfl _).trans ((A_eq m hO c 3).trans (V_main_arg4 m c))),
    ((h c).1 4).trans (((dats m hO 0 c).arrAt_in 4 rfl _).trans ((A_eq m hO c 4).trans (V_main_arg5 m c)))⟩
end Cert.Adam.Kv
-- ==== Proof.Adam.Out.lean ====
/-
  The sum of the eight parts of the gradient of the output projection and one step of the optimiser on them.
-/
module

public import proofs.«01_k».proof.Proof.Adam.Sum
public import proofs.«01_k».proof.Proof.Gen.AdamOutIdeal.Frame
public import proofs.«01_k».proof.Proof.Gen.AdamOutRefIdeal.Read
public import Idealize.ShloMosaic.Lib.StableHlo.ReadAt
public import proofs.«01_k».proof.Proof.Grad.Sum
import Idealize.ShloMosaic.Lib.Pipeline.ReadBack

@[expose] public section
set_option maxRecDepth 65536
noncomputable section
namespace Cert.Adam.Out
open Cert.AdamOutIdeal Cert.AdamOutIdeal.Gen Idealize.ShloMosaic Idealize.ShloMosaic.TcCoe Idealize.SL.Sem
open Idealize.ShloMosaic.Pointwise Cert.Grad

/-- The sum of the first seven parts, and the part of the last device. -/
def sum7 (w : BitVec 32) (S : Vec Ideal S1x256x1024 .bf16) (L : Vec Ideal S8x256x1024 .bf16) : FVec Ideal S256x1024 .f32 :=
  k0_pay4 (k0_pay2 w S (View.ld L (Rect.unit ![0, 0, 0] ![1, 256, 1024] inb_S8x256x1024_S1x256x1024_0_0_0)) w S (View.ld L (Rect.unit ![1, 0, 0] ![1, 256, 1024] inb_S8x256x1024_S1x256x1024_1_0_0))
      w S (View.ld L (Rect.unit ![2, 0, 0] ![1, 256, 1024] inb_S8x256x1024_S1x256x1024_2_0_0))) (Scalar.cmpi .eq w 3#32) (k0_pay3 S) (View.ld L (Rect.unit ![3, 0, 0] ![1, 256, 1024] inb_S8x256x1024_S1x256x1024_3_0_0))
    w S (View.ld L (Rect.unit ![4, 0, 0] ![1, 256, 1024] inb_S8x256x1024_S1x256x1024_4_0_0)) w S (View.ld L (Rect.unit ![5, 0, 0] ![1, 256, 1024] inb_S8x256x1024_S1x256x1024_5_0_0))
    w S (View.ld L (Rect.unit ![6, 0, 0] ![1, 256, 1024] inb_S8x256x1024_S1x256x1024_6_0_0))
def last (L : Vec Ideal S8x256x1024 .bf16) : Vec Ideal S1x256x1024 .bf16 := View.ld L (Rect.unit ![7, 0, 0] ![1, 256, 1024] inb_S8x256x1024_S1x256x1024_7_0_0)
def total (w : BitVec 32) (S : Vec Ideal S1x256x1024 .bf16) (L : Vec Ideal S8x256x1024 .bf16) : FVec Ideal S256x1024 .f32 :=
  k0_pay5 (sum7 w S L) w S (last L)

theorem total_apply (k : Fin 8) (w : BitVec 32) (hw : w = BitVec.ofNat 32 k.val) (S L) (r : Fin 256) (j : Fin 1024) : total w S L (ix2 r j) = own k S L r j := by
  unfold own
  rw [Fin.sum_univ_eight]
  unfold total sum7 last
  pointwise [k0_pay5, k0_pay4, k0_pay3, k0_pay2]
  rw [pick k 0 w 0#32 hw rfl, pick k 1 w 1#32 hw rfl, pick k 2 w 2#32 hw rfl, pick k 3 w 3#32 hw rfl, pick k 4 w 4#32 hw rfl, pick k 5 w 5#32 hw rfl, pick k 6 w 6#32 hw rfl, pick k 7 w 7#32 hw rfl]
theorem mean1_pay (w S L x3) (i : S256x1024.Idx) : k0_pay6 (F := Ideal) (sum7 w S L) w S (last L) x3 i = mean1 (total w S L i) (x3 i) := rfl
theorem mean2_pay (w S L x4) (i : S256x1024.Idx) : k0_pay7 (F := Ideal) (sum7 w S L) w S (last L) x4 i = mean2 (total w S L i) (x4 i) := rfl
theorem delta_pay (w S L x2 x3 x4) (i : S256x1024.Idx) : k0_pay1 (F := Ideal) (k0_pay8 (sum7 w S L) w S (last L) x2 x3 x4) (Scalar.ofBits .f32 0xBA83126F#32) i = delta (total w S L i) (x2 i) (x3 i) (x4 i) := rfl

section
variable {c : Dev nD} {i : grid0.Coords} {arg2 : Memref sig .tc .vmem S1x256x1024 .bf16} {harg2 : arg2.IsWhole} {arg3 : Memref sig .tc .vmem S8x256x1024 .bf16} {harg3 : arg3.IsWhole}
  {arg4 : Memref sig .tc .vmem S256x1024 .f32} {harg4 : arg4.IsWhole} {arg5 : Memref sig .tc .vmem S256x1024 .f32} {harg5 : arg5.IsWhole} {arg6 : Memref sig .tc .vmem S256x1024 .f32} {harg6 : arg6.IsWhole}
  {arg7 : Memref sig .tc .vmem S256x1024 .f32} {harg7 : arg7.IsWhole} {arg8 : Memref sig .tc .vmem S256x1024 .f32} {harg8 : arg8.IsWhole} {arg9 : Memref sig .tc .vmem S256x1024 .f32} {harg9 : arg9.IsWhole}
  {arg10 : Memref sig .tc .vmem S256x1024 .f32} {harg10 : arg10.IsWhole}
  {S : Vec Ideal S1x256x1024 .bf16} {L : Vec Ideal S8x256x1024 .bf16} {x2 x3 x4 : Vec Ideal S256x1024 .f32} {w : BitVec 32}
theorem out5 : out0_A_5 (F := Ideal) c i arg2 harg2 arg3 harg3 arg4 harg4 arg5 harg5 arg6 harg6 arg7 harg7 arg8 harg8 arg9 harg9 arg10 harg10 S L x2 x3 x4 (fun _ => w) = total w S L := by
  unfold out0_A_5
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out6 : out0_A_6 (F := Ideal) c i arg2 harg2 arg3 harg3 arg4 harg4 arg5 harg5 arg6 harg6 arg7 harg7 arg8 harg8 arg9 harg9 arg10 harg10 S L x2 x3 x4 (fun _ => w) = k0_pay1 (F := Ideal) (k0_pay8 (sum7 w S L) w S (last L) x2 x3 x4) (Scalar.ofBits .f32 0xBA83126F#32) := by
  unfold out0_A_6
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out7 : out0_A_7 (F := Ideal) c i arg2 harg2 arg3 harg3 arg4 harg4 arg5 harg5 arg6 harg6 arg7 harg7 arg8 harg8 arg9 harg9 arg10 harg10 S L x2 x3 x4 (fun _ => w) = k0_pay6 (F := Ideal) (sum7 w S L) w S (last L) x3 := by
  unfold out0_A_7
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
theorem out8 : out0_A_8 (F := Ideal) c i arg2 harg2 arg3 harg3 arg4 harg4 arg5 harg5 arg6 harg6 arg7 harg7 arg8 harg8 arg9 harg9 arg10 harg10 S L x2 x3 x4 (fun _ => w) = k0_pay7 (F := Ideal) (sum7 w S L) w S (last L) x4 := by
  unfold out0_A_8
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  rfl
end
variable (m : (ℓ : Loc nD τ sig) → Buf (Elt Ideal) ℓ) (hO : Ok m) (c : Dev nD)
/-- The one point of the grid. -/
def pt : Fin (cfgM m hO).N := (⟨0, by decide⟩ : Fin grid0.N)
theorem host0 : V m c main_v0 = (shapeCast S8x256x1024 (V m c main_arg1 : FVec Ideal S2048x1024 .bf16) shapeCasts_S2048x1024_S8x256x1024 : FVec Ideal S8x256x1024 .bf16) := by
  unfold V
  after_reads_simp
  rfl
theorem host1 : V m c main_v1 = (shapeCast S8x256x1024 (V m c main_arg2 : FVec Ideal S2048x1024 .bf16) shapeCasts_S2048x1024_S8x256x1024 : FVec Ideal S8x256x1024 .bf16) := by
  unfold V
  after_reads_simp
  rfl
/-- A table of one place. -/
def places (k : Fin 8) : pre0.Contents (Elt Ideal) := fun | ⟨0, _⟩ => fun _ => BitVec.ofNat 32 k.val | ⟨_ + 1, h⟩ => absurd h (by simp)
theorem tbl_eq (k : Fin 8) (hk : tbl m 0 = fun _ => BitVec.ofNat 32 k.val) : tbl m = places k := by
  funext j
  match j with
  | ⟨0, _⟩ => exact hk
theorem ok_places : ∀ k : Fin 8, ok0 (F := Ideal) (places k) := by decide +kernel
theorem ok (k : Fin 8) (hk : tbl m 0 = fun _ => BitVec.ofNat 32 k.val) : Ok m := by
  unfold Ok
  rw [tbl_eq m k hk]
  exact ok_places k
theorem one (t : Fin (cfgM m hO).N) : t = pt m hO := (by decide +kernel : ∀ t : Fin grid0.N, t = (⟨0, by decide⟩ : Fin grid0.N)) t
theorem idx2 : ((cfgM m hO).win 2).index (pt m hO) = ![0, 0] := by
  show cc0_transform_2 (grid0.coords (⟨0, by decide⟩ : Fin grid0.N)) = _
  decide +kernel
theorem idx3 : ((cfgM m hO).win 3).index (pt m hO) = ![0, 0] := by
  show cc0_transform_3 (grid0.coords (⟨0, by decide⟩ : Fin grid0.N)) = _
  decide +kernel
theorem idx4 : ((cfgM m hO).win 4).index (pt m hO) = ![0, 0] := by
  show cc0_transform_4 (grid0.coords (⟨0, by decide⟩ : Fin grid0.N)) = _
  decide +kernel
theorem whole5 : ((cfgM m hO).win 5).WholeAt (pt m hO) :=
  ⟨flush0_5 _ _, fun t _ => one m hO t, (by decide +kernel : ∀ a, cc0_transform_5 (grid0.coords (⟨0, by decide⟩ : Fin grid0.N)) a = 0 ∧ S256x1024.size a = S256x1024.size a)⟩
theorem whole6 : ((cfgM m hO).win 6).WholeAt (pt m hO) :=
  ⟨flush0_6 _ _, fun t _ => one m hO t, (by decide +kernel : ∀ a, cc0_transform_6 (grid0.coords (⟨0, by decide⟩ : Fin grid0.N)) a = 0 ∧ S256x1024.size a = S256x1024.size a)⟩
theorem whole7 : ((cfgM m hO).win 7).WholeAt (pt m hO) :=
  ⟨flush0_7 _ _, fun t _ => one m hO t, (by decide +kernel : ∀ a, cc0_transform_7 (grid0.coords (⟨0, by decide⟩ : Fin grid0.N)) a = 0 ∧ S256x1024.size a = S256x1024.size a)⟩
theorem whole8 : ((cfgM m hO).win 8).WholeAt (pt m hO) :=
  ⟨flush0_8 _ _, fun t _ => one m hO t, (by decide +kernel : ∀ a, cc0_transform_8 (grid0.coords (⟨0, by decide⟩ : Fin grid0.N)) a = 0 ∧ S256x1024.size a = S256x1024.size a)⟩
theorem blk2 : (iblk m hO c 2 (pt m hO) : Vec Ideal S256x1024 .f32) = V m c main_arg3 := by
  funext i
  unfold iblk
  blk_ext [idx2 m hO]
theorem blk3 : (iblk m hO c 3 (pt m hO) : Vec Ideal S256x1024 .f32) = V m c main_arg4 := by
  funext i
  unfold iblk
  blk_ext [idx3 m hO]
theorem blk4 : (iblk m hO c 4 (pt m hO) : Vec Ideal S256x1024 .f32) = V m c main_arg5 := by
  funext i
  unfold iblk
  blk_ext [idx4 m hO]
theorem idx0 : ∀ k : Fin 8, cc0_transform_0 (F := Ideal) inb_S1_S1_0 numel1_S1 (places k) (grid0.coords (⟨0, by decide⟩ : Fin grid0.N)) = ![k.val, 0, 0] := by decide +kernel
theorem blk0 (k : Fin 8) (hk : tbl m 0 = fun _ => BitVec.ofNat 32 k.val) (r : Fin 256) (j : Fin 1024) : (iblk m hO c 0 (pt m hO) : Vec Ideal S1x256x1024 .bf16) (ix3 (0 : Fin 1) r j) = (V m c main_v0 : Vec Ideal S8x256x1024 .bf16) (ix3 k r j) := by
  have e : ((cfgM m hO).win 0).index (pt m hO) = ![k.val, 0, 0] := by
    show cc0_transform_0 inb_S1_S1_0 numel1_S1 (tbl m) (grid0.coords (⟨0, by decide⟩ : Fin grid0.N)) = _
    rw [tbl_eq m k hk]
    exact idx0 k
  unfold iblk
  blk_ext [e]
open Cert.AdamOutRefIdeal.Read in
theorem reference (k : Fin 8) (x0 : IVec S1 32) (h0 : x0 = fun _ => BitVec.ofNat 32 k.val) (x1 x2 : FVec Ideal S2048x1024 .bf16) (r : Fin 256) (j : Fin 1024) :
    val_main_v9 (F := Ideal) x0 x1 x2 (ix2 r j) = grad k (val_main_v2 (F := Ideal) x1) (val_main_v3 (F := Ideal) x2) r j := by
  subst h0
  pointwise [val_main_v9, val_main_v8, val_main_v7, val_main_call0_v0, val_main_v6, val_main_v5, val_main_v4, val_main_v1, val_main_v0]
  rw [show val_main_cst (F := Ideal) (Shape.Idx.first Cert.AdamOutRefIdeal.Gen.h_S_) = (0 : EReal) by unfold val_main_cst; exact Cert.Adam.zero, zero_add]
  exact Finset.sum_congr rfl fun d _ => (pick d k _ _ rfl rfl _ _).trans (if_congr eq_comm rfl rfl)
theorem blk1 : (iblk m hO c 1 (pt m hO) : Vec Ideal S8x256x1024 .bf16) = V m c main_v1 := by
  have e : ((cfgM m hO).win 1).index (pt m hO) = ![0, 0, 0] := (by decide +kernel : cc0_transform_1 (grid0.coords (⟨0, by decide⟩ : Fin grid0.N)) = _)
  funext i
  unfold iblk
  blk_ext [e]

open Cert.AdamOutRefIdeal.Read

/-- The device's own part and the parts of the others. -/
def own0 : Vec Ideal S1x256x1024 .bf16 := iblk m hO c 0 (pt m hO)
def others0 : Vec Ideal S8x256x1024 .bf16 := iblk m hO c 1 (pt m hO)
theorem others0_eq : others0 m hO c = (shapeCast S8x256x1024 (V m c main_arg2 : FVec Ideal S2048x1024 .bf16) shapeCasts_S2048x1024_S8x256x1024 : FVec Ideal S8x256x1024 .bf16) := (blk1 m hO c).trans (host1 m c)
/-- The gradient that the call leaves is the reference's. -/
theorem grad_eq (k : Fin 8) (hk : tbl m 0 = fun _ => BitVec.ofNat 32 k.val) (h0 : V m c main_arg0 = fun _ => BitVec.ofNat 32 k.val) :
    total (BitVec.ofNat 32 k.val) (own0 m hO c) (others0 m hO c) = val_main_v9 (F := Ideal) (V m c main_arg0) (V m c main_arg1) (V m c main_arg2) := by
  refine ext2 _ _ fun r j => ?_
  rw [total_apply k _ rfl, reference k _ h0, own_eq k (own0 m hO c) (val_main_v2 (F := Ideal) (V m c main_arg1)) _ fun r j => (blk0 m hO c k hk r j).trans (congrFun (host0 m c) _), others0_eq]
  rfl
theorem array5 (k : Fin 8) (hk : tbl m 0 = fun _ => BitVec.ofNat 32 k.val) (h0 : V m c main_arg0 = fun _ => BitVec.ofNat 32 k.val) :
    (dats m hO 0 c).arrAt 5 (cfgM m hO).N = val_main_v9 (F := Ideal) (V m c main_arg0) (V m c main_arg1) (V m c main_arg2) := by
  refine (dats m hO 0 c).arrAt_eq_of_after_last 5 (pt m hO) (whole5 m hO) _ fun i => ?_
  refine Eq.trans ?_ (congrFun (grad_eq m hO c k hk h0) i)
  show (dats m hO 0 c).after 5 (pt m hO) i = _
  rw [after0_5]
  unfold outsAt0
  dsimp only
  rw [hk]
  exact congrFun out5 i
theorem array6 (k : Fin 8) (hk : tbl m 0 = fun _ => BitVec.ofNat 32 k.val) (h0 : V m c main_arg0 = fun _ => BitVec.ofNat 32 k.val) :
    (dats m hO 0 c).arrAt 6 (cfgM m hO).N = val_main_v33 (F := Ideal) (V m c main_arg0) (V m c main_arg1) (V m c main_arg2) (V m c main_arg3) (V m c main_arg4) (V m c main_arg5) := by
  refine (dats m hO 0 c).arrAt_eq_of_after_last 6 (pt m hO) (whole6 m hO) _ fun i => ?_
  have e : delta (total (BitVec.ofNat 32 k.val) (own0 m hO c) (others0 m hO c) i) ((iblk m hO c 2 (pt m hO) : Vec Ideal S256x1024 .f32) i) ((iblk m hO c 3 (pt m hO) : Vec Ideal S256x1024 .f32) i) ((iblk m hO c 4 (pt m hO) : Vec Ideal S256x1024 .f32) i) = delta (val_main_v9 (F := Ideal) (V m c main_arg0) (V m c main_arg1) (V m c main_arg2) i) (V m c main_arg3 i) (V m c main_arg4 i) (V m c main_arg5 i) :=
    congr (congr (congr (congrArg delta (congrFun (grad_eq m hO c k hk h0) i)) (congrFun (blk2 m hO c) i)) (congrFun (blk3 m hO c) i)) (congrFun (blk4 m hO c) i)
  refine Eq.trans ?_ e
  show (dats m hO 0 c).after 6 (pt m hO) i = _
  rw [after0_6]
  unfold outsAt0
  dsimp only
  rw [hk]
  exact (congrFun out6 i).trans (delta_pay _ _ _ _ _ _ i)
theorem array7 (k : Fin 8) (hk : tbl m 0 = fun _ => BitVec.ofNat 32 k.val) (h0 : V m c main_arg0 = fun _ => BitVec.ofNat 32 k.val) :
    (dats m hO 0 c).arrAt 7 (cfgM m hO).N = val_main_v14 (F := Ideal) (V m c main_arg0) (V m c main_arg1) (V m c main_arg2) (V m c main_arg4) := by
  refine (dats m hO 0 c).arrAt_eq_of_after_last 7 (pt m hO) (whole7 m hO) _ fun i => ?_
  have e : mean1 (total (BitVec.ofNat 32 k.val) (own0 m hO c) (others0 m hO c) i) ((iblk m hO c 3 (pt m hO) : Vec Ideal S256x1024 .f32) i) = mean1 (val_main_v9 (F := Ideal) (V m c main_arg0) (V m c main_arg1) (V m c main_arg2) i) (V m c main_arg4 i) :=
    congr (congrArg mean1 (congrFun (grad_eq m hO c k hk h0) i)) (congrFun (blk3 m hO c) i)
  refine Eq.trans ?_ e
  show (dats m hO 0 c).after 7 (pt m hO) i = _
  rw [after0_7]
  unfold outsAt0
  dsimp only
  rw [hk]
  exact (congrFun out7 i).trans (mean1_pay _ _ _ _ i)
theorem array8 (k : Fin 8) (hk : tbl m 0 = fun _ => BitVec.ofNat 32 k.val) (h0 : V m c main_arg0 = fun _ => BitVec.ofNat 32 k.val) :
    (dats m hO 0 c).arrAt 8 (cfgM m hO).N = val_main_v20 (F := Ideal) (V m c main_arg0) (V m c main_arg1) (V m c main_arg2) (V m c main_arg5) := by
  refine (dats m hO 0 c).arrAt_eq_of_after_last 8 (pt m hO) (whole8 m hO) _ fun i => ?_
  have e : mean2 (total (BitVec.ofNat 32 k.val) (own0 m hO c) (others0 m hO c) i) ((iblk m hO c 4 (pt m hO) : Vec Ideal S256x1024 .f32) i) = mean2 (val_main_v9 (F := Ideal) (V m c main_arg0) (V m c main_arg1) (V m c main_arg2) i) (V m c main_arg5 i) :=
    congr (congrArg mean2 (congrFun (grad_eq m hO c k hk h0) i)) (congrFun (blk4 m hO c) i)
  refine Eq.trans ?_ e
  show (dats m hO 0 c).after 8 (pt m hO) i = _
  rw [after0_8]
  unfold outsAt0
  dsimp only
  rw [hk]
  exact (congrFun out8 i).trans (mean2_pay _ _ _ _ i)
/-- The table is the call's first argument. -/
theorem table (k : Fin 8) (h0 : m ((c.tc : Thread nD τ).loc main_arg0) = fun _ => BitVec.ofNat 32 k.val) : tbl m 0 = fun _ => BitVec.ofNat 32 k.val :=
  (V_pre m c 0).symm.trans ((V_main_arg0 m c).trans h0)
theorem ok_of_place (h : ∃ k : Fin 8, m ((c.tc : Thread nD τ).loc main_arg0) = fun _ => BitVec.ofNat 32 k.val) : Ok m := by
  obtain ⟨k, h0⟩ := h
  exact ok m k (table m c k h0)
/-- The call ends with the reference's gradient, step and means, and its arguments as they were. -/
theorem run (ρ : Dev nD → PrngReg) (hp : ∀ c : Dev nD, ∃ k : Fin 8, m ((c.tc : Thread nD τ).loc main_arg0) = fun _ => BitVec.ofNat 32 k.val) :
    θ_run defs (onTc (τ := τ) (main (F := Ideal))) ⟨m, fun _ => 0, ρ⟩ fun r => ∀ c : Dev nD,
      r.2.mem ((c.tc : Thread nD τ).loc main_v2_0) = val_main_v9 (F := Ideal) (V m c main_arg0) (V m c main_arg1) (V m c main_arg2)
      ∧ r.2.mem ((c.tc : Thread nD τ).loc main_v2_1) = val_main_v33 (F := Ideal) (V m c main_arg0) (V m c main_arg1) (V m c main_arg2) (V m c main_arg3) (V m c main_arg4) (V m c main_arg5)
      ∧ r.2.mem ((c.tc : Thread nD τ).loc main_v2_2) = val_main_v14 (F := Ideal) (V m c main_arg0) (V m c main_arg1) (V m c main_arg2) (V m c main_arg4)
      ∧ r.2.mem ((c.tc : Thread nD τ).loc main_v2_3) = val_main_v20 (F := Ideal) (V m c main_arg0) (V m c main_arg1) (V m c main_arg2) (V m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hO : Ok m := ok_of_place m 0 (hp 0)
  refine (θ_run defs _ _).mono (fun r h c => ?_) (run_main m ρ hO)
  obtain ⟨k, h0⟩ := hp c
  have hk := table m c k h0
  have h0 := (V_main_arg0 m c).trans h0
  exact ⟨((h c).1 5).trans (array5 m hO c k hk h0), ((h c).1 6).trans (array6 m hO c k hk h0), ((h c).1 7).trans (array7 m hO c k hk h0), ((h c).1 8).trans (array8 m hO c k hk h0),
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).1 2).trans (((dats m hO 0 c).arrAt_in 2 rfl _).trans ((A_eq m hO c 2).trans (V_main_arg3 m c))),
    ((h c).1 3).trans (((dats m hO 0 c).arrAt_in 3 rfl _).trans ((A_eq m hO c 3).trans (V_main_arg4 m c))),
    ((h c).1 4).trans (((dats m hO 0 c).arrAt_in 4 rfl _).trans ((A_eq m hO c 4).trans (V_main_arg5 m c)))⟩
end Cert.Adam.Out
-- ==== Proof.Adam.Pre.lean ====
/-
  What the preconditions of the three calls say: the word is a place among the eight.
-/
module

public import proofs.«01_k».proof.Proof.Adam.Sum
public import proofs.«01_k».proof.Pre_small_place
public import proofs.«01_k».proof.Pre_kv_place
public import proofs.«01_k».proof.Pre_out_place

@[expose] public section
noncomputable section
namespace Cert.Adam
open Idealize.ShloMosaic

variable {F : FTy → Type} [FloatOps F]
/-- The side conditions of the preconditions' operations. -/
theorem smallFacts : Cert.Pre_small_place.Facts where
  bcast_S_S1 := by decide
theorem kvFacts : Cert.Pre_kv_place.Facts where
  bcast_S_S1 := by decide
theorem outFacts : Cert.Pre_out_place.Facts where
  bcast_S_S1 := by decide
theorem small_place {x0 x1 x2 x3 x4 x5} (h : @Cert.Pre_small_place.fn smallFacts F _ x0 x1 x2 x3 x4 x5 = fun _ => 1#1) : ∃ k : Fin 8, x0 = fun _ => BitVec.ofNat 32 k.val :=
  place_of x0 fun i => congrFun h i
theorem kv_place {x0 x1 x2 x3 x4 x5} (h : @Cert.Pre_kv_place.fn kvFacts F _ x0 x1 x2 x3 x4 x5 = fun _ => 1#1) : ∃ k : Fin 8, x0 = fun _ => BitVec.ofNat 32 k.val :=
  place_of x0 fun i => congrFun h i
theorem out_place {x0 x1 x2 x3 x4 x5} (h : @Cert.Pre_out_place.fn outFacts F _ x0 x1 x2 x3 x4 x5 = fun _ => 1#1) : ∃ k : Fin 8, x0 = fun _ => BitVec.ofNat 32 k.val :=
  place_of x0 fun i => congrFun h i
end Cert.Adam
-- ==== Proof.Adam.Ok.lean ====
/-
  At a place among the eight every block of the three calls lies inside its array.
-/
module

public import proofs.«01_k».proof.Proof.Gen.AdamSmall.Frame
public import proofs.«01_k».proof.Proof.Gen.AdamKv.Frame
public import proofs.«01_k».proof.Proof.Gen.AdamOut.Frame
public import Idealize.ShloMosaic.PureOps.BitExact

@[expose] public section
noncomputable section
namespace Cert.Adam.SmallBits
open Cert.AdamSmall Cert.AdamSmall.Gen Idealize.ShloMosaic Idealize.ShloMosaic.TcCoe Idealize.SL.Sem
/-- A table of one place. -/
def places (k : Fin 8) : pre0.Contents (Elt Bits) := fun | ⟨0, _⟩ => fun _ => BitVec.ofNat 32 k.val | ⟨_ + 1, h⟩ => absurd h (by simp)
theorem ok_places : ∀ k : Fin 8, ok0 (F := Bits) (places k) := by decide +kernel
theorem ok (m : (ℓ : Loc nD τ sig) → Buf (Elt Bits) ℓ) (c : Dev nD) (h : ∃ k : Fin 8, m ((c.tc : Thread nD τ).loc main_arg0) = fun _ => BitVec.ofNat 32 k.val) : Ok m := by
  obtain ⟨k, h0⟩ := h
  have e : tbl m = places k := by
    funext j
    match j with
    | ⟨0, _⟩ => exact (V_pre m c 0).symm.trans ((V_main_arg0 m c).trans h0)
  unfold Ok
  rw [e]
  exact ok_places k
end Cert.Adam.SmallBits

namespace Cert.Adam.KvBits
open Cert.AdamKv Cert.AdamKv.Gen Idealize.ShloMosaic Idealize.ShloMosaic.TcCoe Idealize.SL.Sem
/-- A table of one place. -/
def places (k : Fin 8) : pre0.Contents (Elt Bits) := fun | ⟨0, _⟩ => fun _ => BitVec.ofNat 32 k.val | ⟨_ + 1, h⟩ => absurd h (by simp)
theorem ok_places : ∀ k : Fin 8, ok0 (F := Bits) (places k) := by decide +kernel
theorem ok (m : (ℓ : Loc nD τ sig) → Buf (Elt Bits) ℓ) (c : Dev nD) (h : ∃ k : Fin 8, m ((c.tc : Thread nD τ).loc main_arg0) = fun _ => BitVec.ofNat 32 k.val) : Ok m := by
  obtain ⟨k, h0⟩ := h
  have e : tbl m = places k := by
    funext j
    match j with
    | ⟨0, _⟩ => exact (V_pre m c 0).symm.trans ((V_main_arg0 m c).trans h0)
  unfold Ok
  rw [e]
  exact ok_places k
end Cert.Adam.KvBits

namespace Cert.Adam.OutBits
open Cert.AdamOut Cert.AdamOut.Gen Idealize.ShloMosaic Idealize.ShloMosaic.TcCoe Idealize.SL.Sem
/-- A table of one place. -/
def places (k : Fin 8) : pre0.Contents (Elt Bits) := fun | ⟨0, _⟩ => fun _ => BitVec.ofNat 32 k.val | ⟨_ + 1, h⟩ => absurd h (by simp)
theorem ok_places : ∀ k : Fin 8, ok0 (F := Bits) (places k) := by decide +kernel
theorem ok (m : (ℓ : Loc nD τ sig) → Buf (Elt Bits) ℓ) (c : Dev nD) (h : ∃ k : Fin 8, m ((c.tc : Thread nD τ).loc main_arg0) = fun _ => BitVec.ofNat 32 k.val) : Ok m := by
  obtain ⟨k, h0⟩ := h
  have e : tbl m = places k := by
    funext j
    match j with
    | ⟨0, _⟩ => exact (V_pre m c 0).symm.trans ((V_main_arg0 m c).trans h0)
  unfold Ok
  rw [e]
  exact ok_places k
end Cert.Adam.OutBits
-- ==== Proof.In.Pay.lean ====
/-
  The entries that the input projection's backward kernel computes from the blocks it has read.
-/
module

public import proofs.«01_k».proof.Proof.Gen.InBwdIdeal.Value
public import Idealize.ShloMosaic.PureOps.Ideal.Laws
public import Idealize.ShloMosaic.Lib.Pointwise
public import Idealize.ShloMosaic.Lib.Pipeline.ValueKit
import Idealize.ShloMosaic.Lib.Pipeline.ReadBack

@[expose] public section
set_option maxRecDepth 65536
noncomputable section
namespace Cert.In
open Cert.InBwdIdeal Cert.InBwdIdeal.Gen Idealize.ShloMosaic Idealize.ShloMosaic.TcCoe Idealize.SL.Sem
open Idealize.ShloMosaic.Pointwise

/-- The products of row `t` of a gradient with row `k` of its weights. -/
def prod {A B W : ℕ} (p : FVec Ideal (⟨2, ![A, W]⟩ : Shape) .bf16) (w : FVec Ideal (⟨2, ![B, W]⟩ : Shape) .bf16) (t : Fin A) (k : Fin B) : EReal :=
  ∑ j : Fin W, p (ix2 t j) * w (ix2 k j)

theorem pay3 (a0 b0 a1 b1 a2 b2 a3 b3 a4 b4 a5 b5) (t : Fin 512) (k : Fin 1024) : k0_pay3 (F := Ideal) a0 b0 a1 b1 a2 b2 a3 b3 a4 b4 a5 b5 (ix2 t k) =
    prod a0 b0 t k + prod a1 b1 t k + prod a2 b2 t k + prod a3 b3 t k + prod a4 b4 t k + prod a5 b5 t k := by
  unfold prod
  pointwise [k0_pay3]
theorem pay4 (s a b) (t : Fin 512) (k : Fin 1024) : k0_pay4 (F := Ideal) s a b (ix2 t k) = s (ix2 t k) + prod a b t k := by
  unfold prod
  pointwise [k0_pay4]
/-- The reciprocal of the root of a row's mean square. -/
def inv (x : Fin 1024 → EReal) : EReal := Ideal.rsqrt (Ideal.div (∑ k, x k * x k) (Ideal.ofBits .f32 0x44800000#32) + Ideal.ofBits .f32 0x358637BD#32)
theorem pay5 (x) (t : Fin 512) (z : Fin 1) : k0_pay5 (F := Ideal) x (ix2 t z) = inv fun k => x (ix2 t k) := by
  unfold inv
  pointwise [k0_pay5]
theorem pay6 (x) (t : Fin 512) (k : Fin 1024) : k0_pay6 (F := Ideal) x (ix2 t k) = x (ix2 t k) * k0_pay5 (F := Ideal) x (ix2 t (0 : Fin 1)) := by
  pointwise [k0_pay6]
theorem pay7 (s a b x g d) (t : Fin 512) (k : Fin 1024) : k0_pay7 (F := Ideal) s a b x g d (ix2 t k) =
    k0_pay5 (F := Ideal) x (ix2 t (0 : Fin 1)) * (k0_pay4 (F := Ideal) s a b (ix2 t k) * g (ix2 (0 : Fin 1) k) - k0_pay6 (F := Ideal) x (ix2 t k) *
      Ideal.div (∑ l : Fin 1024, k0_pay4 (F := Ideal) s a b (ix2 t l) * g (ix2 (0 : Fin 1) l) * k0_pay6 (F := Ideal) x (ix2 t l)) (Ideal.ofBits .f32 0x44800000#32)) + d (ix2 t k) := by
  pointwise [k0_pay7]
theorem pay9 (s a b x) (z : Fin 1) (k : Fin 1024) : k0_pay9 (F := Ideal) s a b x (ix2 z k) =
    ∑ t : Fin 512, k0_pay4 (F := Ideal) s a b (ix2 t k) * k0_pay6 (F := Ideal) x (ix2 t k) := by
  pointwise [k0_pay9]
theorem pay1 (v : FVec Ideal S1x1024 .f32) (r : Fin 8) (k : Fin 1024) : k0_pay1 (F := Ideal) k0_pay8 v (Ideal.ofBits .f32 0x00000000#32) (ix2 r k) = if r.val = 0 then v (ix2 (0 : Fin 1) k) else 0 := by
  have e : IntOp.cmpi CmpIPredicate.eq (BitVec.ofNat 32 r.val) 0#32 = if r.val = 0 then 1#1 else 0#1 := by
    revert r
    decide
  have h : k0_pay1 (F := Ideal) k0_pay8 v (Ideal.ofBits .f32 0x00000000#32) (ix2 r k) =
      Scalar.select (IntOp.cmpi CmpIPredicate.eq (BitVec.ofNat 32 r.val) 0#32) (v (ix2 (0 : Fin 1) k)) 0 := by
    pointwise [k0_pay1, k0_pay8]
  rw [h, e]
  by_cases hr : r.val = 0
  · rw [if_pos hr, if_pos hr]; rfl
  · rw [if_neg hr, if_neg hr]; rfl
theorem pay2 (u) (v : FVec Ideal S1x1024 .f32) (w z) (r : Fin 8) (k : Fin 1024) : k0_pay2 (F := Ideal) u v z w (ix2 r k) = w (ix2 r k) + k0_pay1 (F := Ideal) u v z (ix2 r k) := by
  pointwise [k0_pay2]
end Cert.In
-- ==== Proof.In.Case.lean ====
/-
  What the two outputs' blocks hold after each tile of 512 tokens.
-/
module

public import proofs.«01_k».proof.Proof.In.Pay

import Idealize.ShloMosaic.Lib.Pipeline.ReadBack

@[expose] public section
set_option maxRecDepth 65536
noncomputable section
namespace Cert.In
open Cert.InBwdIdeal Cert.InBwdIdeal.Gen Idealize.ShloMosaic Idealize.ShloMosaic.TcCoe Idealize.SL.Sem
open Idealize.ShloMosaic.Pointwise

/-- The products of row `t` of a gradient with row `k` of the weights' columns from `o` on. -/
def prodAt {A W V : ℕ} (o : ℕ) (h : o + W ≤ V) (p : FVec Ideal (⟨2, ![A, W]⟩ : Shape) .bf16) (w : FVec Ideal (⟨2, ![1024, V]⟩ : Shape) .bf16) (t : Fin A) (k : Fin 1024) : EReal :=
  ∑ j : Fin W, p (ix2 t j) * w (ix2 k ⟨o + j.val, by omega⟩)
theorem prod_ld {A W V : ℕ} (o : ℕ) (h : o + W ≤ V) (p : FVec Ideal (⟨2, ![A, W]⟩ : Shape) .bf16) (w : FVec Ideal (⟨2, ![1024, V]⟩ : Shape) .bf16)
    (hr : ∀ a, (![0, o] : Fin 2 → Nat) a + (![1024, W] : Fin 2 → Nat) a ≤ (⟨2, ![1024, V]⟩ : Shape).size a) (t : Fin A) (k : Fin 1024) :
    prod (B := 1024) p (View.ld (Val := Elt Ideal) (e' := .bf16) w (Rect.unit (s := ⟨2, ![1024, V]⟩) ![0, o] ![1024, W] hr)) t k = prodAt o h p w t k := by
  refine Finset.sum_congr rfl fun j _ => congrArg (fun a : EReal => p (ix2 t j) * a) (congrArg w (funext fun a => Fin.ext ?_))
  match a with
  | ⟨0, _⟩ => show 0 + 1 * k.val = k.val; omega
  | ⟨1, _⟩ => show o + 1 * j.val = o + j.val; omega

/-- The gradient of the normalised row: all seven products. -/
def rows {A : ℕ} (x0 x1 : FVec Ideal (⟨2, ![A, 768]⟩ : Shape) .bf16) (x2 : FVec Ideal (⟨2, ![A, 512]⟩ : Shape) .bf16) (x3 : FVec Ideal (⟨2, ![A, 2304]⟩ : Shape) .bf16)
    (x4 : FVec Ideal (⟨2, ![A, 128]⟩ : Shape) .bf16) (x5 : FVec Ideal (⟨2, ![A, 2304]⟩ : Shape) .bf16) (x6 : FVec Ideal (⟨2, ![A, 512]⟩ : Shape) .bf16)
    (a : FVec Ideal S1024x2432 .bf16) (b : FVec Ideal S1024x5120 .bf16) (t : Fin A) (k : Fin 1024) : EReal :=
  prodAt 0 (by omega) x0 b t k + prodAt 768 (by omega) x1 b t k + prodAt 4608 (by omega) x2 b t k + prodAt 0 (by omega) x3 a t k +
    prodAt 2304 (by omega) x4 a t k + prodAt 1536 (by omega) x5 b t k + prodAt 3840 (by omega) x6 b t k

/-- The gradient of a row of the input. -/
def dx (d x g e : Fin 1024 → EReal) (k : Fin 1024) : EReal :=
  inv x * (d k * g k - x k * inv x * Ideal.div (∑ l, d l * g l * (x l * inv x)) (Ideal.ofBits .f32 0x44800000#32)) + e k
/-- A row's part of the gradient of the scales. -/
def dg (d x : Fin 1024 → EReal) (k : Fin 1024) : EReal := d k * (x k * inv x)

/-- Sums of seven equal numbers. -/
theorem add7 {a b c d e f g a' b' c' d' e' f' g' : EReal} (ha : a = a') (hb : b = b') (hc : c = c') (hd : d = d') (he : e = e') (hf : f = f') (hg : g = g') :
    a + b + c + d + e + f + g = a' + b' + c' + d' + e' + f' + g' := by
  rw [ha, hb, hc, hd, he, hf, hg]
theorem pay_rows (x0 x1 : FVec Ideal S512x768 .bf16) (x2 : FVec Ideal S512x512 .bf16) (x3 : FVec Ideal S512x2304 .bf16) (x4 : FVec Ideal S512x128 .bf16)
    (x5 : FVec Ideal S512x2304 .bf16) (x6 : FVec Ideal S512x512 .bf16) (a : FVec Ideal S1024x2432 .bf16) (b : FVec Ideal S1024x5120 .bf16) (r : Fin 512) (k : Fin 1024) :
    k0_pay4 (F := Ideal) (k0_pay3 (F := Ideal) x0 (View.ld (Val := Elt Ideal) (e' := .bf16) b (Rect.unit (s := S1024x5120) ![0, 0] ![1024, 768] inb_S1024x5120_S1024x768_0_0)) x1
      (View.ld (Val := Elt Ideal) (e' := .bf16) b (Rect.unit (s := S1024x5120) ![0, 768] ![1024, 768] inb_S1024x5120_S1024x768_0_768)) x2
      (View.ld (Val := Elt Ideal) (e' := .bf16) b (Rect.unit (s := S1024x5120) ![0, 4608] ![1024, 512] inb_S1024x5120_S1024x512_0_4608)) x3
      (View.ld (Val := Elt Ideal) (e' := .bf16) a (Rect.unit (s := S1024x2432) ![0, 0] ![1024, 2304] inb_S1024x2432_S1024x2304_0_0)) x4
      (View.ld (Val := Elt Ideal) (e' := .bf16) a (Rect.unit (s := S1024x2432) ![0, 2304] ![1024, 128] inb_S1024x2432_S1024x128_0_2304)) x5
      (View.ld (Val := Elt Ideal) (e' := .bf16) b (Rect.unit (s := S1024x5120) ![0, 1536] ![1024, 2304] inb_S1024x5120_S1024x2304_0_1536))) x6
      (View.ld (Val := Elt Ideal) (e' := .bf16) b (Rect.unit (s := S1024x5120) ![0, 3840] ![1024, 512] inb_S1024x5120_S1024x512_0_3840)) (ix2 r k) =
      rows x0 x1 x2 x3 x4 x5 x6 a b r k := by
  rw [pay4, pay3]
  exact add7 (prod_ld _ _ _ _ _ r k) (prod_ld _ _ _ _ _ r k) (prod_ld _ _ _ _ _ r k) (prod_ld _ _ _ _ _ r k) (prod_ld _ _ _ _ _ r k) (prod_ld _ _ _ _ _ r k)
    (prod_ld _ _ _ _ _ r k)

variable (c : Dev nD) (t : Fin cfg0.N) (m : (ℓ : Loc nD τ sig) → Buf (Elt Ideal) ℓ)
/-- Row `r` of the tile's gradient of the normalised input. -/
def dt (r : Fin 512) : Fin 1024 → EReal :=
  rows (iblk m c 0 t) (iblk m c 1 t) (iblk m c 2 t) (iblk m c 3 t) (iblk m c 4 t) (iblk m c 5 t) (iblk m c 6 t) (iblk m c 7 t) (iblk m c 8 t) r
/-- Row `r` of the tile's input. -/
def xt (r : Fin 512) (k : Fin 1024) : EReal := (iblk m c 9 t : FVec Ideal S512x1024 .f32) (ix2 r k)

theorem pay_x (x0 x1 : FVec Ideal S512x768 .bf16) (x2 : FVec Ideal S512x512 .bf16) (x3 : FVec Ideal S512x2304 .bf16) (x4 : FVec Ideal S512x128 .bf16)
    (x5 : FVec Ideal S512x2304 .bf16) (x6 : FVec Ideal S512x512 .bf16) (b0 b1 b2 b3 b4 b5 b6) (x : FVec Ideal S512x1024 .f32) (g e) (D : Fin 1024 → EReal) (r : Fin 512)
    (hD : ∀ k, k0_pay4 (F := Ideal) (k0_pay3 (F := Ideal) x0 b0 x1 b1 x2 b2 x3 b3 x4 b4 x5 b5) x6 b6 (ix2 r k) = D k) (k : Fin 1024) :
    k0_pay7 (F := Ideal) (k0_pay3 (F := Ideal) x0 b0 x1 b1 x2 b2 x3 b3 x4 b4 x5 b5) x6 b6 x g e (ix2 r k) =
      dx D (fun l => x (ix2 r l)) (fun l => g (ix2 (0 : Fin 1) l)) (fun l => e (ix2 r l)) k := by
  rw [pay7]
  simp only [hD, pay6, pay5]
  rfl

theorem pay_g (x0 x1 : FVec Ideal S512x768 .bf16) (x2 : FVec Ideal S512x512 .bf16) (x3 : FVec Ideal S512x2304 .bf16) (x4 : FVec Ideal S512x128 .bf16)
    (x5 : FVec Ideal S512x2304 .bf16) (x6 : FVec Ideal S512x512 .bf16) (b0 b1 b2 b3 b4 b5 b6) (x : FVec Ideal S512x1024 .f32) (D : Fin 512 → Fin 1024 → EReal)
    (hD : ∀ r k, k0_pay4 (F := Ideal) (k0_pay3 (F := Ideal) x0 b0 x1 b1 x2 b2 x3 b3 x4 b4 x5 b5) x6 b6 (ix2 r k) = D r k) (q : Fin 8) (k : Fin 1024) :
    k0_pay1 (F := Ideal) k0_pay8 (k0_pay9 (F := Ideal) (k0_pay3 (F := Ideal) x0 b0 x1 b1 x2 b2 x3 b3 x4 b4 x5 b5) x6 b6 x) (Ideal.ofBits .f32 0x00000000#32) (ix2 q k) =
      if q.val = 0 then ∑ r, dg (D r) (fun l => x (ix2 r l)) k else 0 := by
  rw [pay1, pay9]
  simp only [hD, pay6, pay5]
  rfl

theorem firstX (h0 : t.val % 8 = 0) (h1 : ¬1 ≤ t.val) (r : Fin 512) (k : Fin 1024) : (outsAt0 m c t.val t.isLt).1 (ix2 r k) =
    dx (dt c t m r) (xt c t m r) (fun l => (iblk m c 10 t : FVec Ideal S1x1024 .f32) (ix2 (0 : Fin 1) l)) (fun l => (iblk m c 11 t : FVec Ideal S512x1024 .f32) (ix2 r l)) k := by
  rw [outsAt0_A m c t h0 h1]
  dsimp only
  unfold out0_A_13
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect]
  exact pay_x _ _ _ _ _ _ _ _ _ _ _ _ _ _ _ _ _ _ r (fun k => pay_rows _ _ _ _ _ _ _ _ _ r k) k
theorem nextX (h0 : ¬t.val % 8 = 0) (h1 : 1 ≤ t.val) (r : Fin 512) (k : Fin 1024) : (outsAt0 m c t.val t.isLt).1 (ix2 r k) =
    dx (dt c t m r) (xt c t m r) (fun l => (iblk m c 10 t : FVec Ideal S1x1024 .f32) (ix2 (0 : Fin 1) l)) (fun l => (iblk m c 11 t : FVec Ideal S512x1024 .f32) (ix2 r l)) k := by
  rw [outsAt0_B m c t h0 h1]
  dsimp only
  unfold out0_B_13
  rw [View.read_writes_junk_eq_canon]
  unfold kernelRun0_B
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect]
  exact pay_x _ _ _ _ _ _ _ _ _ _ _ _ _ _ _ _ _ _ r (fun k => pay_rows _ _ _ _ _ _ _ _ _ r k) k
theorem firstG (h0 : t.val % 8 = 0) (h1 : ¬1 ≤ t.val) (q : Fin 8) (k : Fin 1024) : (outsAt0 m c t.val t.isLt).2 (ix2 q k) =
    (if q.val = 0 then ∑ r, dg (dt c t m r) (xt c t m r) k else 0) := by
  rw [outsAt0_A m c t h0 h1]
  dsimp only
  unfold out0_A_14
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect]
  exact pay_g _ _ _ _ _ _ _ _ _ _ _ _ _ _ _ _ (fun r k => pay_rows _ _ _ _ _ _ _ _ _ r k) q k
theorem nextG (h0 : ¬t.val % 8 = 0) (h1 : 1 ≤ t.val) (q : Fin 8) (k : Fin 1024) : (outsAt0 m c t.val t.isLt).2 (ix2 q k) =
    (outsAt0 m c (t.val - 1) (Nat.lt_of_le_of_lt (Nat.sub_le _ _) t.isLt)).2 (ix2 q k) + (if q.val = 0 then ∑ r, dg (dt c t m r) (xt c t m r) k else 0) := by
  rw [outsAt0_B m c t h0 h1]
  dsimp only
  unfold out0_B_14
  rw [View.read_writes_junk_eq_canon]
  unfold kernelRun0_B
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect]
  exact (pay2 _ _ _ _ q k).trans (congrArg₂ (· + ·) rfl (pay_g _ _ _ _ _ _ _ _ _ _ _ _ _ _ _ _ (fun r k => pay_rows _ _ _ _ _ _ _ _ _ r k) q k))
theorem allX (r : Fin 512) (k : Fin 1024) : (outsAt0 m c t.val t.isLt).1 (ix2 r k) =
    dx (dt c t m r) (xt c t m r) (fun l => (iblk m c 10 t : FVec Ideal S1x1024 .f32) (ix2 (0 : Fin 1) l)) (fun l => (iblk m c 11 t : FVec Ideal S512x1024 .f32) (ix2 r l)) k := by
  have ht : t.val < 8 := t.isLt
  by_cases h : t.val = 0
  · exact firstX c t m (by omega) (by omega) r k
  · exact nextX c t m (by omega) (by omega) r k
end Cert.In
-- ==== Proof.In.Array.lean ====
/-
  The blocks that a tile of 512 tokens reads, as entries of the arguments.
-/
module

public import proofs.«01_k».proof.Proof.In.Case
public import Idealize.ShloMosaic.Lib.StableHlo.ReadAt
import Idealize.ShloMosaic.Lib.Pipeline.ReadBack

@[expose] public section
set_option maxRecDepth 65536
noncomputable section
namespace Cert.In
open Cert.InBwdIdeal Cert.InBwdIdeal.Gen Idealize.ShloMosaic Idealize.ShloMosaic.TcCoe Idealize.SL.Sem
open Idealize.ShloMosaic.Pointwise

/-- Token `512 n + r`. -/
def tk (n : Fin 8) (r : Fin 512) : Fin 4096 := ⟨512 * n.val + r.val, by omega⟩
/-- The grid's point for tile `n`. -/
def pt (n : Fin 8) : Fin cfg0.N := (⟨n.val, by omega⟩ : Fin 8)
theorem idx0 (n : Fin 8) : win0_0.index (pt n) = ![n.val, 0] := by revert n; decide +kernel
theorem idx1 (n : Fin 8) : win0_1.index (pt n) = ![n.val, 0] := by revert n; decide +kernel
theorem idx2 (n : Fin 8) : win0_2.index (pt n) = ![n.val, 0] := by revert n; decide +kernel
theorem idx3 (n : Fin 8) : win0_3.index (pt n) = ![n.val, 0] := by revert n; decide +kernel
theorem idx4 (n : Fin 8) : win0_4.index (pt n) = ![n.val, 0] := by revert n; decide +kernel
theorem idx5 (n : Fin 8) : win0_5.index (pt n) = ![n.val, 0] := by revert n; decide +kernel
theorem idx6 (n : Fin 8) : win0_6.index (pt n) = ![n.val, 0] := by revert n; decide +kernel
theorem idx9 (n : Fin 8) : win0_9.index (pt n) = ![n.val, 0] := by revert n; decide +kernel
theorem idx11 (n : Fin 8) : win0_11.index (pt n) = ![n.val, 0] := by revert n; decide +kernel
theorem idx13 (n : Fin 8) : win0_13.index (pt n) = ![n.val, 0] := by revert n; decide +kernel
theorem idx7 (n : Fin 8) : win0_7.index (pt n) = ![0, 0] := by revert n; decide +kernel
theorem idx8 (n : Fin 8) : win0_8.index (pt n) = ![0, 0] := by revert n; decide +kernel
theorem idx10 (n : Fin 8) : win0_10.index (pt n) = ![0, 0] := by revert n; decide +kernel
theorem idx14 (n : Fin 8) : win0_14.index (pt n) = ![0, 0] := by revert n; decide +kernel
theorem flush13 (n : Fin 8) : (cfg0.win 13).flush (pt n) = true := by revert n; decide +kernel
theorem only14 (n : Fin 8) : (cfg0.win 14).flush (pt n) = true → n = 7 := by revert n; decide +kernel
theorem last14 (t : Fin cfg0.N) (h : (cfg0.win 14).flush t = true) : t = pt 7 := congrArg pt (only14 (⟨t.val, t.isLt⟩ : Fin 8) h)
theorem flush14 : (cfg0.win 14).flush (pt 7) = true := by decide +kernel
theorem rd0 (A : FVec Ideal S4096x768 .bf16) (n : Fin 8) (r : Fin 512) (j : Fin 768) :
    ((cfg0.win 0).blk (pt n)).view.read (Elt Ideal) A (ix2 r j) = A (ix2 (tk n r) j) := by
  unfold tk
  blk_ext [idx0 n]
theorem rd1 (A : FVec Ideal S4096x768 .bf16) (n : Fin 8) (r : Fin 512) (j : Fin 768) :
    ((cfg0.win 1).blk (pt n)).view.read (Elt Ideal) A (ix2 r j) = A (ix2 (tk n r) j) := by
  unfold tk
  blk_ext [idx1 n]
theorem rd2 (A : FVec Ideal S4096x512 .bf16) (n : Fin 8) (r : Fin 512) (j : Fin 512) :
    ((cfg0.win 2).blk (pt n)).view.read (Elt Ideal) A (ix2 r j) = A (ix2 (tk n r) j) := by
  unfold tk
  blk_ext [idx2 n]
theorem rd3 (A : FVec Ideal S4096x2304 .bf16) (n : Fin 8) (r : Fin 512) (j : Fin 2304) :
    ((cfg0.win 3).blk (pt n)).view.read (Elt Ideal) A (ix2 r j) = A (ix2 (tk n r) j) := by
  unfold tk
  blk_ext [idx3 n]
theorem rd4 (A : FVec Ideal S4096x128 .bf16) (n : Fin 8) (r : Fin 512) (j : Fin 128) :
    ((cfg0.win 4).blk (pt n)).view.read (Elt Ideal) A (ix2 r j) = A (ix2 (tk n r) j) := by
  unfold tk
  blk_ext [idx4 n]
theorem rd5 (A : FVec Ideal S4096x2304 .bf16) (n : Fin 8) (r : Fin 512) (j : Fin 2304) :
    ((cfg0.win 5).blk (pt n)).view.read (Elt Ideal) A (ix2 r j) = A (ix2 (tk n r) j) := by
  unfold tk
  blk_ext [idx5 n]
theorem rd6 (A : FVec Ideal S4096x512 .bf16) (n : Fin 8) (r : Fin 512) (j : Fin 512) :
    ((cfg0.win 6).blk (pt n)).view.read (Elt Ideal) A (ix2 r j) = A (ix2 (tk n r) j) := by
  unfold tk
  blk_ext [idx6 n]
theorem rd9 (A : FVec Ideal S4096x1024 .f32) (n : Fin 8) (r : Fin 512) (j : Fin 1024) :
    ((cfg0.win 9).blk (pt n)).view.read (Elt Ideal) A (ix2 r j) = A (ix2 (tk n r) j) := by
  unfold tk
  blk_ext [idx9 n]
theorem rd11 (A : FVec Ideal S4096x1024 .f32) (n : Fin 8) (r : Fin 512) (j : Fin 1024) :
    ((cfg0.win 11).blk (pt n)).view.read (Elt Ideal) A (ix2 r j) = A (ix2 (tk n r) j) := by
  unfold tk
  blk_ext [idx11 n]
theorem rd7 (A : FVec Ideal S1024x2432 .bf16) (n : Fin 8) (r : Fin 1024) (j : Fin 2432) :
    ((cfg0.win 7).blk (pt n)).view.read (Elt Ideal) A (ix2 r j) = A (ix2 r j) := by
  blk_ext [idx7 n]
theorem rd8 (A : FVec Ideal S1024x5120 .bf16) (n : Fin 8) (r : Fin 1024) (j : Fin 5120) :
    ((cfg0.win 8).blk (pt n)).view.read (Elt Ideal) A (ix2 r j) = A (ix2 r j) := by
  blk_ext [idx8 n]
theorem rd10 (A : FVec Ideal S1x1024 .f32) (n : Fin 8) (r : Fin 1) (j : Fin 1024) :
    ((cfg0.win 10).blk (pt n)).view.read (Elt Ideal) A (ix2 r j) = A (ix2 r j) := by
  blk_ext [idx10 n]

/-- The weights of the forgetting attention side by side. -/
def packA (u : FVec Ideal S1024x2304 .f32) (v : FVec Ideal S1024x128 .f32) : FVec Ideal S1024x2432 .bf16 :=
  truncf .bf16 (concatenate S1024x2432 1 [⟨S1024x2304, u⟩, ⟨S1024x128, v⟩] concatenates_S1024x2304_S1024x128_S1024x2432_d1) bitsLt_bf16_f32
theorem packA_apply (u v) (k : Fin 1024) (j : Fin 2432) : packA u v (ix2 k j) = if h : j.val < 2304 then u (ix2 k ⟨j.val, h⟩) else v (ix2 k ⟨j.val - 2304, by omega⟩) := by
  pointwise [packA]
variable (c : Dev nD) (m : (ℓ : Loc nD τ sig) → Buf (Elt Ideal) ℓ)
theorem host_a : V m c main_v1 = packA (V m c main_arg10) (V m c main_arg11) := by
  unfold V packA
  after_reads_simp
  rfl
/-- The other weights side by side, 256 columns of zeros before the last. -/
def packB (p q : FVec Ideal S1024x768 .f32) (r : FVec Ideal S1024x2304 .f32) (s t : FVec Ideal S1024x512 .f32) : FVec Ideal S1024x5120 .bf16 :=
  truncf .bf16 (concatenate S1024x5120 1 [⟨S1024x768, p⟩, ⟨S1024x768, q⟩, ⟨S1024x2304, r⟩, ⟨S1024x512, s⟩,
    ⟨S1024x256, broadcastInDim S1024x256 ![] bcast_S_S1024x256 (constant S_ .f32 0x00000000#32)⟩, ⟨S1024x512, t⟩] concatenates_S1024x768_S1024x768_S1024x2304_S1024x512_S1024x256_S1024x512_S1024x5120_d1) bitsLt_bf16_f32
theorem packB_apply (p q r s t) (k : Fin 1024) (j : Fin 5120) : packB p q r s t (ix2 k j) = (if h : j.val < 768 then p (ix2 k ⟨j.val, h⟩) else if h : j.val - 768 < 768 then q (ix2 k ⟨j.val - 768, h⟩)
    else if h : j.val - 768 - 768 < 2304 then r (ix2 k ⟨j.val - 768 - 768, h⟩) else if h : j.val - 768 - 768 - 2304 < 512 then s (ix2 k ⟨j.val - 768 - 768 - 2304, h⟩)
    else if h : j.val - 768 - 768 - 2304 - 512 < 256 then 0 else t (ix2 k ⟨j.val - 768 - 768 - 2304 - 512 - 256, by omega⟩)) := by
  pointwise [packB]
theorem host_b : V m c main_v4 = packB (V m c main_arg7) (V m c main_arg8) (V m c main_arg12) (V m c main_arg13) (V m c main_arg9) := by
  unfold V packB
  after_reads_simp
  rfl

/-- The products of row `t` of a gradient with row `k` of its weights. -/
def prodR {W : ℕ} (p : FVec Ideal (⟨2, ![4096, W]⟩ : Shape) .bf16) (w : FVec Ideal (⟨2, ![1024, W]⟩ : Shape) .f32) (t : Fin 4096) (k : Fin 1024) : EReal :=
  ∑ j : Fin W, p (ix2 t j) * w (ix2 k j)
/-- The gradient of the normalised row, from the arguments. -/
def rowsR (x0 x1 : FVec Ideal S4096x768 .bf16) (x2 : FVec Ideal S4096x512 .bf16) (x3 : FVec Ideal S4096x2304 .bf16) (x4 : FVec Ideal S4096x128 .bf16)
    (x5 : FVec Ideal S4096x2304 .bf16) (x6 : FVec Ideal S4096x512 .bf16) (x7 x8 : FVec Ideal S1024x768 .f32) (x9 : FVec Ideal S1024x512 .f32)
    (x10 : FVec Ideal S1024x2304 .f32) (x11 : FVec Ideal S1024x128 .f32) (x12 : FVec Ideal S1024x2304 .f32) (x13 : FVec Ideal S1024x512 .f32)
    (t : Fin 4096) (k : Fin 1024) : EReal :=
  prodR x0 x7 t k + prodR x1 x8 t k + prodR x2 x9 t k + prodR x3 x10 t k + prodR x4 x11 t k + prodR x5 x12 t k + prodR x6 x13 t k

theorem prodAt_eq {W V : ℕ} (o : ℕ) (h : o + W ≤ V) (p : FVec Ideal (⟨2, ![512, W]⟩ : Shape) .bf16) (w : FVec Ideal (⟨2, ![1024, V]⟩ : Shape) .bf16)
    (P : FVec Ideal (⟨2, ![4096, W]⟩ : Shape) .bf16) (Q : FVec Ideal (⟨2, ![1024, W]⟩ : Shape) .f32) (r : Fin 512) (t : Fin 4096) (k : Fin 1024)
    (hp : ∀ j, p (ix2 r j) = P (ix2 t j)) (hw : ∀ j : Fin W, w (ix2 k ⟨o + j.val, by omega⟩) = Q (ix2 k j)) : prodAt o h p w r k = prodR P Q t k :=
  Finset.sum_congr rfl fun j _ => congrArg₂ (fun a b : EReal => a * b) (hp j) (hw j)
section
variable (p q : FVec Ideal S1024x768 .f32) (r : FVec Ideal S1024x2304 .f32) (s t : FVec Ideal S1024x512 .f32) (k : Fin 1024)
theorem packA_0 (u v) (j : Fin 2304) : packA u v (ix2 k (⟨0 + j.val, by omega⟩ : Fin 2432)) = u (ix2 k j) := by
  rw [packA_apply, dif_pos (by simp only []; omega)]
  exact congrArg u (congrArg (ix2 k) (Fin.ext (by simp only []; omega)))
theorem packA_1 (u v) (j : Fin 128) : packA u v (ix2 k (⟨2304 + j.val, by omega⟩ : Fin 2432)) = v (ix2 k j) := by
  rw [packA_apply, dif_neg (by simp only []; omega)]
  exact congrArg v (congrArg (ix2 k) (Fin.ext (by simp only []; omega)))
theorem packB_0 (j : Fin 768) : packB p q r s t (ix2 k (⟨0 + j.val, by omega⟩ : Fin 5120)) = p (ix2 k j) := by
  rw [packB_apply, dif_pos (by simp only []; omega)]
  exact congrArg p (congrArg (ix2 k) (Fin.ext (by simp only []; omega)))
theorem packB_1 (j : Fin 768) : packB p q r s t (ix2 k (⟨768 + j.val, by omega⟩ : Fin 5120)) = q (ix2 k j) := by
  rw [packB_apply, dif_neg (by simp only []; omega), dif_pos (by simp only []; omega)]
  exact congrArg q (congrArg (ix2 k) (Fin.ext (by simp only []; omega)))
theorem packB_2 (j : Fin 2304) : packB p q r s t (ix2 k (⟨1536 + j.val, by omega⟩ : Fin 5120)) = r (ix2 k j) := by
  rw [packB_apply, dif_neg (by simp only []; omega), dif_neg (by simp only []; omega), dif_pos (by simp only []; omega)]
  exact congrArg r (congrArg (ix2 k) (Fin.ext (by simp only []; omega)))
theorem packB_3 (j : Fin 512) : packB p q r s t (ix2 k (⟨3840 + j.val, by omega⟩ : Fin 5120)) = s (ix2 k j) := by
  rw [packB_apply, dif_neg (by simp only []; omega), dif_neg (by simp only []; omega), dif_neg (by simp only []; omega), dif_pos (by simp only []; omega)]
  exact congrArg s (congrArg (ix2 k) (Fin.ext (by simp only []; omega)))
theorem packB_5 (j : Fin 512) : packB p q r s t (ix2 k (⟨4608 + j.val, by omega⟩ : Fin 5120)) = t (ix2 k j) := by
  rw [packB_apply, dif_neg (by simp only []; omega), dif_neg (by simp only []; omega), dif_neg (by simp only []; omega), dif_neg (by simp only []; omega),
    dif_neg (by simp only []; omega)]
  exact congrArg t (congrArg (ix2 k) (Fin.ext (by simp only []; omega)))
end

/-- The gradient of the normalised input, row `t`. -/
def drow (t : Fin 4096) : Fin 1024 → EReal :=
  rowsR (V m c main_arg0) (V m c main_arg1) (V m c main_arg2) (V m c main_arg3) (V m c main_arg4) (V m c main_arg5) (V m c main_arg6) (V m c main_arg7)
    (V m c main_arg8) (V m c main_arg9) (V m c main_arg10) (V m c main_arg11) (V m c main_arg12) (V m c main_arg13) t
theorem wa (n : Fin 8) (k : Fin 1024) (j : Fin 2432) : (iblk m c 7 (pt n) : FVec Ideal S1024x2432 .bf16) (ix2 k j) = packA (V m c main_arg10) (V m c main_arg11) (ix2 k j) :=
  (rd7 (V m c main_v1) n k j).trans (congrFun (host_a c m) _)
theorem wb (n : Fin 8) (k : Fin 1024) (j : Fin 5120) : (iblk m c 8 (pt n) : FVec Ideal S1024x5120 .bf16) (ix2 k j) =
    packB (V m c main_arg7) (V m c main_arg8) (V m c main_arg12) (V m c main_arg13) (V m c main_arg9) (ix2 k j) :=
  (rd8 (V m c main_v4) n k j).trans (congrFun (host_b c m) _)
theorem dt_eq (n : Fin 8) (r : Fin 512) (k : Fin 1024) : dt c (pt n) m r k = drow c m (tk n r) k :=
  add7 (prodAt_eq _ _ _ _ _ _ r _ k (fun j => rd0 (V m c main_arg0) n r j) fun j => (wb c m n k _).trans (packB_0 _ _ _ _ _ k j))
    (prodAt_eq _ _ _ _ _ _ r _ k (fun j => rd1 (V m c main_arg1) n r j) fun j => (wb c m n k _).trans (packB_1 _ _ _ _ _ k j))
    (prodAt_eq _ _ _ _ _ _ r _ k (fun j => rd2 (V m c main_arg2) n r j) fun j => (wb c m n k _).trans (packB_5 _ _ _ _ _ k j))
    (prodAt_eq _ _ _ _ _ _ r _ k (fun j => rd3 (V m c main_arg3) n r j) fun j => (wa c m n k _).trans (packA_0 k _ _ j))
    (prodAt_eq _ _ _ _ _ _ r _ k (fun j => rd4 (V m c main_arg4) n r j) fun j => (wa c m n k _).trans (packA_1 k _ _ j))
    (prodAt_eq _ _ _ _ _ _ r _ k (fun j => rd5 (V m c main_arg5) n r j) fun j => (wb c m n k _).trans (packB_2 _ _ _ _ _ k j))
    (prodAt_eq _ _ _ _ _ _ r _ k (fun j => rd6 (V m c main_arg6) n r j) fun j => (wb c m n k _).trans (packB_3 _ _ _ _ _ k j))
/-- Row `t` of the input. -/
def xrow (t : Fin 4096) (k : Fin 1024) : EReal := (V m c main_arg14 : FVec Ideal S4096x1024 .f32) (ix2 t k)
theorem xt_eq (n : Fin 8) (r : Fin 512) (k : Fin 1024) : xt c (pt n) m r k = xrow c m (tk n r) k := rd9 (V m c main_arg14) n r k

theorem array_x (n : Fin 8) (r : Fin 512) (k : Fin 1024) : (dats m 0 c).arrAt 13 cfg0.N (ix2 (tk n r) k) =
    dx (drow c m (tk n r)) (xrow c m (tk n r)) (fun l => (V m c main_arg15 : FVec Ideal S1x1024 .f32) (ix2 (0 : Fin 1) l))
      (fun l => (V m c main_arg16 : FVec Ideal S4096x1024 .f32) (ix2 (tk n r) l)) k := by
  have H := (dats m 0 c).arrAt_emb_eq_flushed 13 (Value.disjoint13) (pt n) (flush13 n) (ix2 r k)
  rw [Value.flushed13] at H
  have E : ((cfg0.win 13).blk (pt n)).view.emb (ix2 r k) = ix2 (tk n r) k := by
    unfold tk
    blk_ext [idx13 n]
  rw [E] at H
  refine H.trans ((allX c (pt n) m r k).trans ?_)
  have e0 : dt c (pt n) m r = drow c m (tk n r) := funext (dt_eq c m n r)
  have e1 : xt c (pt n) m r = xrow c m (tk n r) := funext (xt_eq c m n r)
  have e2 : (fun l => (iblk m c 10 (pt n) : FVec Ideal S1x1024 .f32) (ix2 (0 : Fin 1) l)) = fun l => (V m c main_arg15 : FVec Ideal S1x1024 .f32) (ix2 (0 : Fin 1) l) :=
    funext fun l => rd10 (V m c main_arg15) n 0 l
  have e3 : (fun l => (iblk m c 11 (pt n) : FVec Ideal S512x1024 .f32) (ix2 r l)) = fun l => (V m c main_arg16 : FVec Ideal S4096x1024 .f32) (ix2 (tk n r) l) :=
    funext fun l => rd11 (V m c main_arg16) n r l
  rw [e0, e1, e2, e3]

/-- What tile `n` adds to the gradient of the scales. -/
def dgt (n : Fin 8) (q : Fin 8) (k : Fin 1024) : EReal := if q.val = 0 then ∑ r : Fin 512, dg (drow c m (tk n r)) (xrow c m (tk n r)) k else 0
theorem dgt_eq (n : Fin 8) (q : Fin 8) (k : Fin 1024) : (if q.val = 0 then ∑ r, dg (dt c (pt n) m r) (xt c (pt n) m r) k else 0) = dgt c m n q k := by
  unfold dgt
  simp only [funext (dt_eq c m n _), funext (xt_eq c m n _)]
theorem zeroG (q : Fin 8) (k : Fin 1024) : (outsAt0 m c 0 (by decide)).2 (ix2 q k) = dgt c m 0 q k :=
  (firstG c (pt 0) m (by decide) (by decide) q k).trans (dgt_eq c m 0 q k)
theorem succG (n : ℕ) (h : n + 1 < 8) (q : Fin 8) (k : Fin 1024) :
    (outsAt0 m c (n + 1) h).2 (ix2 q k) = (outsAt0 m c n (by show n < 8; omega)).2 (ix2 q k) + dgt c m ⟨n + 1, h⟩ q k :=
  (nextG c (pt ⟨n + 1, h⟩) m (by show ¬(n + 1) % 8 = 0; omega) (by show 1 ≤ n + 1; omega) q k).trans (congrArg₂ (· + ·) rfl (dgt_eq c m ⟨n + 1, h⟩ q k))
/-- The last of a run of eight partial sums. -/
theorem sum8 (a : (n : ℕ) → n < 8 → EReal) (f : Fin 8 → EReal) (h0 : a 0 (by omega) = f 0) (h : ∀ n (hn : n + 1 < 8), a (n + 1) hn = a n (by omega) + f ⟨n + 1, hn⟩) :
    a 7 (by omega) = ∑ n, f n := by
  rw [h 6 (by omega), h 5 (by omega), h 4 (by omega), h 3 (by omega), h 2 (by omega), h 1 (by omega), h 0 (by omega), h0]
  exact (Fin.sum_univ_eight f).symm
theorem total (q : Fin 8) (k : Fin 1024) : (outsAt0 m c 7 (by decide)).2 (ix2 q k) = ∑ n : Fin 8, dgt c m n q k :=
  sum8 (fun n hn => (outsAt0 m c n hn).2 (ix2 q k)) (fun n => dgt c m n q k) (zeroG c m q k) fun n hn => succG c m n hn q k
theorem array_g (q : Fin 8) (k : Fin 1024) : (dats m 0 c).arrAt 14 cfg0.N (ix2 q k) = ∑ n : Fin 8, dgt c m n q k := by
  have H := (dats m 0 c).arrAt_emb_eq_flushed 14 (fun t t' h h' e => absurd ((last14 t h).trans (last14 t' h').symm) e) (pt 7) flush14 (ix2 q k)
  rw [Value.flushed14] at H
  have E : ((cfg0.win 14).blk (pt 7)).view.emb (ix2 q k) = ix2 q k := by
    blk_ext [idx14 7]
  rw [E] at H
  exact H.trans (total c m q k)
end Cert.In
-- ==== Proof.In.Ref.lean ====
/-
  The reference's arrays at an index.
-/
module

public import proofs.«01_k».proof.Proof.In.Array
public import proofs.«01_k».proof.Proof.Gen.InBwdRefIdeal.Read

@[expose] public section
set_option maxRecDepth 65536
noncomputable section
namespace Cert.In.Ref
open Cert.InBwdRefIdeal Cert.InBwdRefIdeal.Gen Cert.InBwdRefIdeal.Read Idealize.ShloMosaic Idealize.ShloMosaic.TcCoe Idealize.SL.Sem
open Idealize.ShloMosaic.Pointwise

variable (x0 : FVec Ideal S4096x768 .bf16) (x1 : FVec Ideal S4096x768 .bf16) (x2 : FVec Ideal S4096x512 .bf16) (x3 : FVec Ideal S4096x2304 .bf16) (x4 : FVec Ideal S4096x128 .bf16) (x5 : FVec Ideal S4096x2304 .bf16) (x6 : FVec Ideal S4096x512 .bf16)
  (x7 : FVec Ideal S1024x768 .f32) (x8 : FVec Ideal S1024x768 .f32) (x9 : FVec Ideal S1024x512 .f32) (x10 : FVec Ideal S1024x2304 .f32) (x11 : FVec Ideal S1024x128 .f32) (x12 : FVec Ideal S1024x2304 .f32) (x13 : FVec Ideal S1024x512 .f32)
variable (x14 : FVec Ideal S4096x1024 .f32) (x15 : FVec Ideal S1x1024 .f32) (x16 : FVec Ideal S4096x1024 .f32)

theorem p0 (t : Fin 4096) (k : Fin 1024) : val_main_v40 (F := Ideal) x0 x7 (ix2 t k) = prodR x0 x7 t k := by
  unfold prodR
  pointwise [val_main_v40, val_main_v0]
theorem p1 (t : Fin 4096) (k : Fin 1024) : val_main_v38 (F := Ideal) x1 x8 (ix2 t k) = prodR x1 x8 t k := by
  unfold prodR
  pointwise [val_main_v38, val_main_v1]
theorem p2 (t : Fin 4096) (k : Fin 1024) : val_main_v36 (F := Ideal) x2 x9 (ix2 t k) = prodR x2 x9 t k := by
  unfold prodR
  pointwise [val_main_v36, val_main_v2]
theorem p3 (t : Fin 4096) (k : Fin 1024) : val_main_v34 (F := Ideal) x3 x10 (ix2 t k) = prodR x3 x10 t k := by
  unfold prodR
  pointwise [val_main_v34, val_main_v3]
theorem p4 (t : Fin 4096) (k : Fin 1024) : val_main_v32 (F := Ideal) x4 x11 (ix2 t k) = prodR x4 x11 t k := by
  unfold prodR
  pointwise [val_main_v32, val_main_v4]
theorem p5 (t : Fin 4096) (k : Fin 1024) : val_main_v30 (F := Ideal) x5 x12 (ix2 t k) = prodR x5 x12 t k := by
  unfold prodR
  pointwise [val_main_v30, val_main_v5]
theorem p6 (t : Fin 4096) (k : Fin 1024) : val_main_v29 (F := Ideal) x6 x13 (ix2 t k) = prodR x6 x13 t k := by
  unfold prodR
  pointwise [val_main_v29, val_main_v6]
/-- Seven numbers added from the last to the first. -/
theorem rev7 (a b c d e f g : EReal) : g + f + e + d + c + b + a = a + b + c + d + e + f + g := by ac_rfl
/-- The gradient of the normalised input. -/
theorem r41 (t : Fin 4096) (k : Fin 1024) : val_main_v41 (F := Ideal) x0 x1 x2 x3 x4 x5 x6 x7 x8 x9 x10 x11 x12 x13 (ix2 t k) = rowsR x0 x1 x2 x3 x4 x5 x6 x7 x8 x9 x10 x11 x12 x13 t k := by
  rw [val_main_v41_apply, val_main_v39_apply, val_main_v37_apply, val_main_v35_apply, val_main_v33_apply, val_main_v31_apply, p0, p1, p2, p3, p4, p5, p6]
  exact rev7 _ _ _ _ _ _ _

/-- The mean of a row's squares, and a small number. -/
def ms (x : Fin 1024 → EReal) : EReal := Ideal.div (∑ k, x k * x k) (Ideal.ofBits .f32 0x44800000#32) + Ideal.ofBits .f32 0x358637BD#32
theorem inv_eq (x : Fin 1024 → EReal) : inv x = Ideal.rsqrt (ms x) := rfl
theorem r13 (t : Fin 4096) (z : Fin 1) : val_main_v13 (F := Ideal) x14 (ix2 t z) = ms fun k => x14 (ix2 t k) := by
  unfold ms
  pointwise [val_main_v13, val_main_v12, val_main_cst_1, val_main_v11, val_main_v10, val_main_cst_0, val_main_v9, val_main_v8, val_main_v7, val_main_cst]
theorem r14 (t : Fin 4096) (z : Fin 1) : val_main_v14 (F := Ideal) x14 (ix2 t z) = inv fun k => x14 (ix2 t k) := by
  rw [inv_eq, ← r13 x14 t z]
  unfold val_main_v14
  generalize val_main_v13 (F := Ideal) x14 = A
  pointwise []
theorem r17 (t : Fin 4096) (z : Fin 1) : val_main_v17 (F := Ideal) x14 (ix2 t z) =
    Ideal.ofBits .f32 0xBF000000#32 * Ideal.div (inv fun k => x14 (ix2 t k)) (ms fun k => x14 (ix2 t k)) := by
  rw [← r14 x14 t z, ← r13 x14 t z]
  unfold val_main_v17 val_main_v15
  generalize val_main_v14 (F := Ideal) x14 = A
  generalize val_main_v13 (F := Ideal) x14 = B
  pointwise [val_main_v16, val_main_cst_2]
theorem r42 (t : Fin 4096) (k : Fin 1024) : val_main_v42 (F := Ideal) x0 x1 x2 x3 x4 x5 x6 x7 x8 x9 x10 x11 x12 x13 x14 (ix2 t k) = x14 (ix2 t k) * (inv fun k => x14 (ix2 t k)) * rowsR x0 x1 x2 x3 x4 x5 x6 x7 x8 x9 x10 x11 x12 x13 t k := by
  rw [← r14 x14 t 0, ← r41]
  unfold val_main_v42 val_main_v19 val_main_v18
  generalize val_main_v14 (F := Ideal) x14 = A
  generalize val_main_v41 (F := Ideal) x0 x1 x2 x3 x4 x5 x6 x7 x8 x9 x10 x11 x12 x13 = B
  pointwise []
theorem r44 (z : Fin 1) (k : Fin 1024) : val_main_v44 (F := Ideal) x0 x1 x2 x3 x4 x5 x6 x7 x8 x9 x10 x11 x12 x13 x14 (ix2 z k) =
    ∑ t : Fin 4096, x14 (ix2 t k) * (inv fun k => x14 (ix2 t k)) * rowsR x0 x1 x2 x3 x4 x5 x6 x7 x8 x9 x10 x11 x12 x13 t k := by
  rw [← funext fun t => r42 x0 x1 x2 x3 x4 x5 x6 x7 x8 x9 x10 x11 x12 x13 x14 t k]
  unfold val_main_v44 val_main_v43
  generalize val_main_v42 (F := Ideal) x0 x1 x2 x3 x4 x5 x6 x7 x8 x9 x10 x11 x12 x13 x14 = A
  pointwise [val_main_cst_3]
/-- The integer zero as a number. -/
theorem zero_int : FloatOps.sitofp (F := Ideal) .f32 (0#32) = (0 : EReal) := by
  show (((0#32 : BitVec 32).toInt : ℝ) : EReal) = 0
  simp
theorem r62 (q : Fin 8) (k : Fin 1024) : val_main_v62 (F := Ideal) x0 x1 x2 x3 x4 x5 x6 x7 x8 x9 x10 x11 x12 x13 x14 (ix2 q k) =
    if q.val = 0 then val_main_v44 (F := Ideal) x0 x1 x2 x3 x4 x5 x6 x7 x8 x9 x10 x11 x12 x13 x14 (ix2 (0 : Fin 1) k) else 0 := by
  unfold val_main_v62
  generalize val_main_v44 (F := Ideal) x0 x1 x2 x3 x4 x5 x6 x7 x8 x9 x10 x11 x12 x13 x14 = A
  pointwise [val_main_call0_v0, val_main_c]
  by_cases h : q.val = 0
  · rw [if_pos h, dif_pos (by omega)]
    exact congrArg A (congrArg (fun z : Fin 1 => ix2 z k) (Fin.ext h))
  · rw [if_neg h, dif_neg (by omega)]
    exact zero_int
theorem r46 (t : Fin 4096) (k : Fin 1024) : val_main_v46 (F := Ideal) x0 x1 x2 x3 x4 x5 x6 x7 x8 x9 x10 x11 x12 x13 x15 (ix2 t k) = rowsR x0 x1 x2 x3 x4 x5 x6 x7 x8 x9 x10 x11 x12 x13 t k * x15 (ix2 (0 : Fin 1) k) := by
  rw [← r41]
  unfold val_main_v46 val_main_v45
  generalize val_main_v41 (F := Ideal) x0 x1 x2 x3 x4 x5 x6 x7 x8 x9 x10 x11 x12 x13 = B
  pointwise []
theorem r49 (t : Fin 4096) (z : Fin 1) : val_main_v49 (F := Ideal) x0 x1 x2 x3 x4 x5 x6 x7 x8 x9 x10 x11 x12 x13 x14 x15 (ix2 t z) =
    ∑ k : Fin 1024, x14 (ix2 t k) * (rowsR x0 x1 x2 x3 x4 x5 x6 x7 x8 x9 x10 x11 x12 x13 t k * x15 (ix2 (0 : Fin 1) k)) := by
  rw [← funext fun k => congrArg (fun a : EReal => x14 (ix2 t k) * a) (r46 x0 x1 x2 x3 x4 x5 x6 x7 x8 x9 x10 x11 x12 x13 x15 t k)]
  unfold val_main_v49 val_main_v48 val_main_v47
  generalize val_main_v46 (F := Ideal) x0 x1 x2 x3 x4 x5 x6 x7 x8 x9 x10 x11 x12 x13 x15 = B
  pointwise [val_main_cst_4]
theorem r57 (t : Fin 4096) (k : Fin 1024) : val_main_v57 (F := Ideal) x0 x1 x2 x3 x4 x5 x6 x7 x8 x9 x10 x11 x12 x13 x14 x15 (ix2 t k) =
    Ideal.div (val_main_v49 (F := Ideal) x0 x1 x2 x3 x4 x5 x6 x7 x8 x9 x10 x11 x12 x13 x14 x15 (ix2 t (0 : Fin 1)) * val_main_v17 (F := Ideal) x14 (ix2 t (0 : Fin 1))) (Ideal.ofBits .f32 0x44800000#32) := by
  unfold val_main_v57 val_main_v56 val_main_v55 val_main_v53
  generalize val_main_v49 (F := Ideal) x0 x1 x2 x3 x4 x5 x6 x7 x8 x9 x10 x11 x12 x13 x14 x15 = A
  generalize val_main_v17 (F := Ideal) x14 = B
  pointwise [val_main_v54, val_main_cst_5, val_main_cst_6]
  exact Fin.sum_univ_one _
theorem r61 (t : Fin 4096) (k : Fin 1024) : val_main_v61 (F := Ideal) x0 x1 x2 x3 x4 x5 x6 x7 x8 x9 x10 x11 x12 x13 x14 x15 x16 (ix2 t k) =
    x16 (ix2 t k) + val_main_v46 (F := Ideal) x0 x1 x2 x3 x4 x5 x6 x7 x8 x9 x10 x11 x12 x13 x15 (ix2 t k) * val_main_v14 (F := Ideal) x14 (ix2 t (0 : Fin 1)) +
      x14 (ix2 t k) * val_main_v57 (F := Ideal) x0 x1 x2 x3 x4 x5 x6 x7 x8 x9 x10 x11 x12 x13 x14 x15 (ix2 t k) + val_main_v57 (F := Ideal) x0 x1 x2 x3 x4 x5 x6 x7 x8 x9 x10 x11 x12 x13 x14 x15 (ix2 t k) * x14 (ix2 t k) := by
  unfold val_main_v61 val_main_v59 val_main_v60 val_main_v58 val_main_v52 val_main_v51 val_main_v50
  generalize val_main_v57 (F := Ideal) x0 x1 x2 x3 x4 x5 x6 x7 x8 x9 x10 x11 x12 x13 x14 x15 = A
  generalize val_main_v46 (F := Ideal) x0 x1 x2 x3 x4 x5 x6 x7 x8 x9 x10 x11 x12 x13 x15 = B
  generalize val_main_v14 (F := Ideal) x14 = C
  pointwise []
end Cert.In.Ref
-- ==== Proof.In.Real.lean ====
/-
  The normalisation's backward pass on a row of reals: the kernel's formula and the reference's give the same numbers.
-/
module

public import proofs.«01_k».proof.Proof.In.Ref
public import proofs.«01_k».proof.Proof.Mem.Softmax

@[expose] public section
set_option maxRecDepth 65536
noncomputable section
namespace Cert.In
open Idealize.ShloMosaic Idealize.ShloMosaic.TcCoe Idealize.SL.Sem
open Cert.Soft Cert.In.Ref

theorem c1024 : Ideal.ofBits .f32 0x44800000#32 = ((1024 : ℝ) : EReal) := by
  simp [Ideal.ofBits, Ideal.ieee, -EReal.coe_mul]
  norm_num
theorem cNegHalf : Ideal.ofBits .f32 0xBF000000#32 = ((-(1 / 2) : ℝ) : EReal) := by
  simp [Ideal.ofBits, Ideal.ieee, -EReal.coe_mul]
  norm_num
/-- The small number added to the mean of the squares. -/
def eps : ℝ := 8796093 * 2⁻¹ ^ 43
theorem cEps : Ideal.ofBits .f32 0x358637BD#32 = (eps : EReal) := by
  unfold eps
  simp [Ideal.ofBits, Ideal.ieee, -EReal.coe_mul]

section
variable (d x g e : Fin 1024 → ℝ)
/-- The mean of a row's squares, and the small number. -/
def msR : ℝ := (∑ k, x k * x k) / 1024 + eps
theorem ms_pos : 0 < msR x := by
  have : 0 ≤ ∑ k, x k * x k := Finset.sum_nonneg fun k _ => mul_self_nonneg _
  have h : (0 : ℝ) < eps := by unfold eps; positivity
  unfold msR
  positivity
theorem ms_real : ms (fun k => (x k : EReal)) = (msR x : EReal) := by
  have h : (∑ k, (x k : EReal) * (x k : EReal)) = ((∑ k, x k * x k : ℝ) : EReal) := by
    rw [coe_sum]
    exact Finset.sum_congr rfl fun k _ => (EReal.coe_mul _ _).symm
  unfold ms msR
  rw [h, c1024, cEps, div_real _ _ (by norm_num), ← EReal.coe_add]
/-- The reciprocal of its root. -/
def invR : ℝ := (√(msR x))⁻¹
theorem inv_real : inv (fun k => (x k : EReal)) = (invR x : EReal) := by
  rw [inv_eq, ms_real, Ideal.rsqrt_coe, if_neg (ms_pos x).le.not_gt, if_neg (ms_pos x).ne']
  rfl
theorem inv_sq : (msR x)⁻¹ = invR x * invR x := by
  unfold invR
  rw [← mul_inv, Real.mul_self_sqrt (ms_pos x).le]

/-- The reference's coefficient of a row's entries. -/
def coefR : ℝ := (∑ k, x k * (d k * g k)) * (-(1 / 2) * (invR x / msR x)) / 1024
theorem coef_real : Ideal.div ((∑ k, (x k : EReal) * ((d k : EReal) * (g k : EReal))) *
    (Ideal.ofBits .f32 0xBF000000#32 * Ideal.div (inv fun k => (x k : EReal)) (ms fun k => (x k : EReal)))) (Ideal.ofBits .f32 0x44800000#32) = (coefR d x g : EReal) := by
  have h : (∑ k, (x k : EReal) * ((d k : EReal) * (g k : EReal))) = ((∑ k, x k * (d k * g k) : ℝ) : EReal) := by
    rw [coe_sum]
    exact Finset.sum_congr rfl fun k _ => by rw [EReal.coe_mul, EReal.coe_mul]
  rw [h, ms_real, inv_real, cNegHalf, c1024, div_real _ _ (ms_pos x).ne', ← EReal.coe_mul, ← EReal.coe_mul, div_real _ _ (by norm_num)]
  rfl
/-- The kernel's mean of a row's products. -/
theorem mean_real : Ideal.div (∑ l, (d l : EReal) * (g l : EReal) * ((x l : EReal) * inv fun k => (x k : EReal))) (Ideal.ofBits .f32 0x44800000#32) =
    (((∑ k, x k * (d k * g k)) * invR x / 1024 : ℝ) : EReal) := by
  have h : (∑ l, (d l : EReal) * (g l : EReal) * ((x l : EReal) * inv fun k => (x k : EReal))) = (((∑ k, x k * (d k * g k)) * invR x : ℝ) : EReal) := by
    rw [inv_real, Finset.sum_mul, coe_sum]
    refine Finset.sum_congr rfl fun k _ => ?_
    rw [← EReal.coe_mul, ← EReal.coe_mul, ← EReal.coe_mul]
    exact congrArg Real.toEReal (by ring)
  rw [h, c1024, div_real _ _ (by norm_num)]

theorem dx_real (k : Fin 1024) : dx (fun l => (d l : EReal)) (fun l => (x l : EReal)) (fun l => (g l : EReal)) (fun l => (e l : EReal)) k =
    (e k : EReal) + (d k : EReal) * (g k : EReal) * (inv fun l => (x l : EReal)) + (x k : EReal) * (coefR d x g : EReal) + (coefR d x g : EReal) * (x k : EReal) := by
  unfold dx
  rw [mean_real, inv_real]
  simp only [← EReal.coe_mul, ← EReal.coe_add, ← EReal.coe_sub]
  refine congrArg Real.toEReal ?_
  unfold coefR
  rw [div_eq_mul_inv (invR x), inv_sq]
  ring
end
end Cert.In
-- ==== Proof.In.Finite.lean ====
/-
  The precondition says that every entry of the arguments is a real.
-/
module

public import proofs.«01_k».proof.Defs
public import Idealize.ShloMosaic.Lib.ReduceAll
public import Idealize.ShloMosaic.PureOps.Ideal.Laws
public import Idealize.ShloMosaic.Lib.Pointwise
public import proofs.«01_k».proof.Proof.Mem.Finite

@[expose] public section
set_option maxRecDepth 65536
noncomputable section
namespace Cert.In
open Idealize.ShloMosaic Idealize.ShloMosaic.TcCoe Idealize.SL.Sem

/-- The side conditions of the precondition's operations. -/
theorem preFacts : Cert.Pre_in_proj_finite.Facts where
  h_S_ := by decide
  bitsLt_bf16_f32 := by decide
  bcast_S_S4096x1024 := by decide
  reducesTo_S4096x1024_S_d0_1 := by decide
  bcast_S_S1x1024 := by decide
  reducesTo_S1x1024_S_d0_1 := by decide
  bcast_S_S4096x768 := by decide
  reducesTo_S4096x768_S_d0_1 := by decide
  bcast_S_S4096x512 := by decide
  reducesTo_S4096x512_S_d0_1 := by decide
  bcast_S_S4096x2304 := by decide
  reducesTo_S4096x2304_S_d0_1 := by decide
  bcast_S_S4096x128 := by decide
  reducesTo_S4096x128_S_d0_1 := by decide
  bcast_S_S1024x768 := by decide
  reducesTo_S1024x768_S_d0_1 := by decide
  bcast_S_S1024x512 := by decide
  reducesTo_S1024x512_S_d0_1 := by decide
  bcast_S_S1024x2304 := by decide
  reducesTo_S1024x2304_S_d0_1 := by decide
  bcast_S_S1024x128 := by decide
  reducesTo_S1024x128_S_d0_1 := by decide

/-- Every entry is a real. -/
def Finite {s : Shape} {t : FTy} (x : FVec Ideal s t) : Prop := ∀ i, ∃ r : ℝ, x i = (r : EReal)

theorem finite_of_eq {s : Shape} {t : FTy} {x y : FVec Ideal s t} (e : x = y) (h : Finite y) : Finite x := e ▸ h

open Cert.Pre_in_proj_finite in
theorem finite_of_pre (x0 : FVec Ideal S4096x768 .bf16) (x1 : FVec Ideal S4096x768 .bf16) (x2 : FVec Ideal S4096x512 .bf16) (x3 : FVec Ideal S4096x2304 .bf16) (x4 : FVec Ideal S4096x128 .bf16) (x5 : FVec Ideal S4096x2304 .bf16) (x6 : FVec Ideal S4096x512 .bf16)
    (x7 : FVec Ideal S1024x768 .f32) (x8 : FVec Ideal S1024x768 .f32) (x9 : FVec Ideal S1024x512 .f32) (x10 : FVec Ideal S1024x2304 .f32) (x11 : FVec Ideal S1024x128 .f32) (x12 : FVec Ideal S1024x2304 .f32) (x13 : FVec Ideal S1024x512 .f32)
    (x14 : FVec Ideal S4096x1024 .f32) (x15 : FVec Ideal S1x1024 .f32) (x16 : FVec Ideal S4096x1024 .f32)
    (h : @Cert.Pre_in_proj_finite.fn preFacts Ideal _ x0 x1 x2 x3 x4 x5 x6 x7 x8 x9 x10 x11 x12 x13 x14 x15 x16 = fun _ => 1#1) :
    Finite x0 ∧ Finite x1 ∧ Finite x2 ∧ Finite x3 ∧ Finite x4 ∧ Finite x5 ∧ Finite x6 ∧ Finite x7 ∧ Finite x8 ∧ Finite x9 ∧ Finite x10 ∧ Finite x11 ∧ Finite x12 ∧ Finite x13 ∧ Finite x14 ∧ Finite x15 ∧ Finite x16 := by
  have two : ∀ a b : BitVec 1, IntOp.andi a b = 1#1 → a = 1#1 ∧ b = 1#1 := by decide
  have hs : Subsingleton S_.Idx := ⟨fun a b => funext fun k => k.elim0⟩
  have H := congrFun h (fun k => k.elim0)
  obtain ⟨H, H13⟩ := two _ _ H
  obtain ⟨H, H12⟩ := two _ _ H
  obtain ⟨H, H11⟩ := two _ _ H
  obtain ⟨H, H10⟩ := two _ _ H
  obtain ⟨H, H9⟩ := two _ _ H
  obtain ⟨H, H8⟩ := two _ _ H
  obtain ⟨H, H7⟩ := two _ _ H
  obtain ⟨H, H6⟩ := two _ _ H
  obtain ⟨H, H5⟩ := two _ _ H
  obtain ⟨H, H4⟩ := two _ _ H
  obtain ⟨H, H3⟩ := two _ _ H
  obtain ⟨H, H2⟩ := two _ _ H
  obtain ⟨H, H1⟩ := two _ _ H
  obtain ⟨H, H0⟩ := two _ _ H
  obtain ⟨H, H16⟩ := two _ _ H
  obtain ⟨H14, H15⟩ := two _ _ H
  exact ⟨fun i => Mem.real_of_abs _ (Host.reduce_andi_all _ _ _ _ _ H0 i),
    fun i => Mem.real_of_abs _ (Host.reduce_andi_all _ _ _ _ _ H1 i),
    fun i => Mem.real_of_abs _ (Host.reduce_andi_all _ _ _ _ _ H2 i),
    fun i => Mem.real_of_abs _ (Host.reduce_andi_all _ _ _ _ _ H3 i),
    fun i => Mem.real_of_abs _ (Host.reduce_andi_all _ _ _ _ _ H4 i),
    fun i => Mem.real_of_abs _ (Host.reduce_andi_all _ _ _ _ _ H5 i),
    fun i => Mem.real_of_abs _ (Host.reduce_andi_all _ _ _ _ _ H6 i),
    fun i => Mem.real_of_abs _ (Host.reduce_andi_all _ _ _ _ _ H7 i),
    fun i => Mem.real_of_abs _ (Host.reduce_andi_all _ _ _ _ _ H8 i),
    fun i => Mem.real_of_abs _ (Host.reduce_andi_all _ _ _ _ _ H9 i),
    fun i => Mem.real_of_abs _ (Host.reduce_andi_all _ _ _ _ _ H10 i),
    fun i => Mem.real_of_abs _ (Host.reduce_andi_all _ _ _ _ _ H11 i),
    fun i => Mem.real_of_abs _ (Host.reduce_andi_all _ _ _ _ _ H12 i),
    fun i => Mem.real_of_abs _ (Host.reduce_andi_all _ _ _ _ _ H13 i),
    fun i => Mem.real_of_abs _ (Host.reduce_andi_all _ _ _ _ _ H14 i),
    fun i => Mem.real_of_abs _ (Host.reduce_andi_all _ _ _ _ _ H15 i),
    fun i => Mem.real_of_abs _ (Host.reduce_andi_all _ _ _ _ _ H16 i)⟩
end Cert.In
-- ==== Proof.In.Equation.lean ====
/-
  The kernel's two results are the reference's.
-/
module

public import proofs.«01_k».proof.Proof.In.Real
public import proofs.«01_k».proof.Proof.In.Finite
public import proofs.«01_k».proof.Proof.Grad.Sum

@[expose] public section
set_option maxRecDepth 65536
noncomputable section
namespace Cert.In
open Cert.InBwdIdeal Cert.InBwdIdeal.Gen Idealize.ShloMosaic Idealize.ShloMosaic.TcCoe Idealize.SL.Sem
open Idealize.ShloMosaic.Pointwise Cert.Grad Cert.Soft Cert.In.Ref Cert.InBwdRefIdeal.Read

/-- Products of reals add up to a real. -/
theorem prod_real {W : ℕ} (p : FVec Ideal (⟨2, ![4096, W]⟩ : Shape) .bf16) (w : FVec Ideal (⟨2, ![1024, W]⟩ : Shape) .f32) (hp : Finite p) (hw : Finite w)
    (t : Fin 4096) (k : Fin 1024) : ∃ r : ℝ, prodR p w t k = (r : EReal) := by
  choose a ha using hp
  choose b hb using hw
  refine ⟨∑ j : Fin W, a (ix2 t j) * b (ix2 k j), ?_⟩
  unfold prodR
  rw [coe_sum]
  exact Finset.sum_congr rfl fun j _ => by rw [ha, hb, EReal.coe_mul]
theorem add_real {a b : EReal} (ha : ∃ r : ℝ, a = (r : EReal)) (hb : ∃ r : ℝ, b = (r : EReal)) : ∃ r : ℝ, a + b = (r : EReal) := by
  obtain ⟨r, rfl⟩ := ha
  obtain ⟨s, rfl⟩ := hb
  exact ⟨r + s, (EReal.coe_add r s).symm⟩

section
variable {x0 : FVec Ideal S4096x768 .bf16} {x1 : FVec Ideal S4096x768 .bf16} {x2 : FVec Ideal S4096x512 .bf16} {x3 : FVec Ideal S4096x2304 .bf16} {x4 : FVec Ideal S4096x128 .bf16} {x5 : FVec Ideal S4096x2304 .bf16} {x6 : FVec Ideal S4096x512 .bf16}
  {x7 : FVec Ideal S1024x768 .f32} {x8 : FVec Ideal S1024x768 .f32} {x9 : FVec Ideal S1024x512 .f32} {x10 : FVec Ideal S1024x2304 .f32} {x11 : FVec Ideal S1024x128 .f32} {x12 : FVec Ideal S1024x2304 .f32} {x13 : FVec Ideal S1024x512 .f32}
  (x14 : FVec Ideal S4096x1024 .f32) (x15 : FVec Ideal S1x1024 .f32) (x16 : FVec Ideal S4096x1024 .f32)
theorem row_eq (hd : ∀ t k, ∃ r : ℝ, rowsR x0 x1 x2 x3 x4 x5 x6 x7 x8 x9 x10 x11 x12 x13 t k = (r : EReal)) (h14 : Finite x14) (h15 : Finite x15) (h16 : Finite x16) (t : Fin 4096) (k : Fin 1024) :
    dx (rowsR x0 x1 x2 x3 x4 x5 x6 x7 x8 x9 x10 x11 x12 x13 t) (fun l => x14 (ix2 t l)) (fun l => x15 (ix2 (0 : Fin 1) l)) (fun l => x16 (ix2 t l)) k =
      val_main_v61 (F := Ideal) x0 x1 x2 x3 x4 x5 x6 x7 x8 x9 x10 x11 x12 x13 x14 x15 x16 (ix2 t k) := by
  rw [r61, r57, r46, r14, r49, r17]
  generalize rowsR x0 x1 x2 x3 x4 x5 x6 x7 x8 x9 x10 x11 x12 x13 = D at hd ⊢
  choose d hd using hd
  choose x hx using h14
  choose g hg using h15
  choose e he using h16
  rw [show D t = fun l => (d t l : EReal) from funext (hd t)]
  simp only [hx, hg, he]
  rw [coef_real (d t) (fun l => x (ix2 t l)) (fun l => g (ix2 (0 : Fin 1) l))]
  exact dx_real (d t) (fun l => x (ix2 t l)) (fun l => g (ix2 (0 : Fin 1) l)) (fun l => e (ix2 t l)) k
end

/-- What eight tiles add is the sum over all tokens. -/
theorem eight (f : Fin 4096 → EReal) : ∑ n : Fin 8, ∑ r : Fin 512, f (tk n r) = ∑ t : Fin 4096, f t :=
  Fin.sum_mul_add_congr fun n t hl => congrArg f (Fin.ext (by simp only [tk]; omega))

variable (c : Dev nD) (m : (ℓ : Loc nD τ sig) → Buf (Elt Ideal) ℓ)
/-- The tiles' sum, over all tokens. -/
theorem sum_g (q : Fin 8) (k : Fin 1024) : ∑ n : Fin 8, dgt c m n q k = if q.val = 0 then ∑ t : Fin 4096, xrow c m t k * inv (xrow c m t) * drow c m t k else 0 := by
  unfold dgt
  by_cases h : q.val = 0
  · simp only [if_pos h]
    exact (eight fun t => dg (drow c m t) (xrow c m t) k).trans (Finset.sum_congr rfl fun t _ => mul_comm _ _)
  · simp only [if_neg h]
    exact Finset.sum_const_zero
variable {x0 : FVec Ideal S4096x768 .bf16} {x1 : FVec Ideal S4096x768 .bf16} {x2 : FVec Ideal S4096x512 .bf16} {x3 : FVec Ideal S4096x2304 .bf16} {x4 : FVec Ideal S4096x128 .bf16} {x5 : FVec Ideal S4096x2304 .bf16} {x6 : FVec Ideal S4096x512 .bf16}
  {x7 : FVec Ideal S1024x768 .f32} {x8 : FVec Ideal S1024x768 .f32} {x9 : FVec Ideal S1024x512 .f32} {x10 : FVec Ideal S1024x2304 .f32} {x11 : FVec Ideal S1024x128 .f32} {x12 : FVec Ideal S1024x2304 .f32} {x13 : FVec Ideal S1024x512 .f32}
  {x14 : FVec Ideal S4096x1024 .f32} {x15 : FVec Ideal S1x1024 .f32} {x16 : FVec Ideal S4096x1024 .f32}
  (e0 : V m c main_arg0 = x0)  (e1 : V m c main_arg1 = x1)  (e2 : V m c main_arg2 = x2)  (e3 : V m c main_arg3 = x3)  (e4 : V m c main_arg4 = x4)  (e5 : V m c main_arg5 = x5)  (e6 : V m c main_arg6 = x6)  (e7 : V m c main_arg7 = x7)  (e8 : V m c main_arg8 = x8)  (e9 : V m c main_arg9 = x9)  (e10 : V m c main_arg10 = x10)  (e11 : V m c main_arg11 = x11)  (e12 : V m c main_arg12 = x12)  (e13 : V m c main_arg13 = x13)  (e14 : V m c main_arg14 = x14)  (e15 : V m c main_arg15 = x15)  (e16 : V m c main_arg16 = x16)
include e0 e1 e2 e3 e4 e5 e6 e7 e8 e9 e10 e11 e12 e13 e14
theorem g_eq : (dats m 0 c).arrAt 14 cfg0.N = val_main_v62 (F := Ideal) x0 x1 x2 x3 x4 x5 x6 x7 x8 x9 x10 x11 x12 x13 x14 :=
  ext2 _ _ fun q k => by
    refine (array_g c m q k).trans ((sum_g c m q k).trans ?_)
    rw [r62, r44]
    subst e0 e1 e2 e3 e4 e5 e6 e7 e8 e9 e10 e11 e12 e13 e14
    rfl
include e15 e16
theorem x_eq (h0 : Finite x0) (h1 : Finite x1) (h2 : Finite x2) (h3 : Finite x3) (h4 : Finite x4) (h5 : Finite x5) (h6 : Finite x6) (h7 : Finite x7) (h8 : Finite x8) (h9 : Finite x9) (h10 : Finite x10) (h11 : Finite x11) (h12 : Finite x12) (h13 : Finite x13) (h14 : Finite x14) (h15 : Finite x15) (h16 : Finite x16) :
    (dats m 0 c).arrAt 13 cfg0.N = val_main_v61 (F := Ideal) x0 x1 x2 x3 x4 x5 x6 x7 x8 x9 x10 x11 x12 x13 x14 x15 x16 :=
  ext2 _ _ fun t k => by
    obtain ⟨n, r, rfl⟩ : ∃ n r, t = tk n r := ⟨⟨t.val / 512, by omega⟩, ⟨t.val % 512, by omega⟩, Fin.ext (by simp only [tk]; omega)⟩
    refine (array_x c m n r k).trans ?_
    subst e0 e1 e2 e3 e4 e5 e6 e7 e8 e9 e10 e11 e12 e13 e14 e15 e16
    refine row_eq _ _ _ (fun t k => ?_) h14 h15 h16 (tk n r) k
    exact add_real (add_real (add_real (add_real (add_real (add_real (prod_real _ _ h0 h7 t k) (prod_real _ _ h1 h8 t k)) (prod_real _ _ h2 h9 t k)) (prod_real _ _ h3 h10 t k))
      (prod_real _ _ h4 h11 t k)) (prod_real _ _ h5 h12 t k)) (prod_real _ _ h6 h13 t k)
end Cert.In
-- ==== Proof.Out.Pay.lean ====
/-
  The output projection's step on a row, and the entries that its kernel computes from the blocks it has read.
-/
module

public import proofs.«01_k».proof.Proof.Gen.OutStepIdeal.Skeleton
public import proofs.«01_k».proof.Proof.In.Pay

@[expose] public section
set_option maxRecDepth 65536
noncomputable section
namespace Cert.Out
open Cert.OutStepIdeal Cert.OutStepIdeal.Gen Idealize.ShloMosaic Idealize.ShloMosaic.TcCoe Idealize.SL.Sem
open Idealize.ShloMosaic.Pointwise Cert.In

/-- One token: its gates and attentions' outputs side by side, its input and its target. -/
structure Row where
  g : Fin 2048 → EReal
  o : Fin 2048 → EReal
  x : Fin 1024 → EReal
  t : Fin 1024 → EReal

/-- Three rows side by side. -/
def cat (a b : Fin 768 → EReal) (c : Fin 512 → EReal) (j : Fin 2048) : EReal :=
  if h : j.val < 768 then a ⟨j.val, h⟩ else if h : j.val - 768 < 768 then b ⟨j.val - 768, h⟩ else c ⟨j.val - 768 - 768, by omega⟩
theorem cat_zip (f : EReal → EReal → EReal) (a b : Fin 768 → EReal) (c : Fin 512 → EReal) (a' b' : Fin 768 → EReal) (c' : Fin 512 → EReal) (j : Fin 2048) :
    cat (fun i => f (a i) (a' i)) (fun i => f (b i) (b' i)) (fun i => f (c i) (c' i)) j = f (cat a b c j) (cat a' b' c' j) := by
  unfold cat
  by_cases h : j.val < 768
  · simp only [dif_pos h]
  · simp only [dif_neg h]
    by_cases h' : j.val - 768 < 768
    · simp only [dif_pos h']
    · simp only [dif_neg h']

/-- The logistic function. -/
def sg (g : EReal) : EReal := Ideal.div (Ideal.ofBits .f32 0x3F800000#32) (Ideal.ofBits .f32 0x3F800000#32 + Ideal.exp (Ideal.ofBits .f32 0x00000000#32 - g))
/-- The gated outputs. -/
def mix (R : Row) (j : Fin 2048) : EReal := R.o j * (R.g j * sg (R.g j))
section
variable (W : Fin 2048 → Fin 1024 → EReal) (G : Fin 1024 → EReal) (R : Row)
/-- The row before the last normalisation. -/
def pre (k : Fin 1024) : EReal := R.x k + ∑ j, mix R j * W j k
/-- The normalised row less the target. -/
def err (k : Fin 1024) : EReal := pre W R k * inv (pre W R) * G k - R.t k
/-- The row's part of the loss, twice. -/
def loss : EReal := Ideal.div (∑ k, err W G R k * err W G R k) (Ideal.ofBits .f32 0x44800000#32)
/-- The gradient of the normalised row. -/
def dy (k : Fin 1024) : EReal := Ideal.div (err W G R k) (Ideal.ofBits .f32 0x44800000#32)
/-- The gradient of the row before the normalisation. -/
def dpre (k : Fin 1024) : EReal :=
  inv (pre W R) * (dy W G R k * G k - pre W R k * inv (pre W R) * Ideal.div (∑ l, dy W G R l * G l * (pre W R l * inv (pre W R))) (Ideal.ofBits .f32 0x44800000#32))
/-- The gradient of the gated outputs. -/
def dmix (j : Fin 2048) : EReal := ∑ k, dpre W G R k * W j k
/-- The gradient of the attentions' outputs. -/
def dout (j : Fin 2048) : EReal := dmix W G R j * (R.g j * sg (R.g j))
/-- The gradient of the gates. -/
def dgate (j : Fin 2048) : EReal :=
  dmix W G R j * R.o j * (sg (R.g j) * (Ideal.ofBits .f32 0x3F800000#32 + R.g j * (Ideal.ofBits .f32 0x3F800000#32 - sg (R.g j))))
end

theorem pay3 (v) (r : Fin 256) (j : Fin 768) : k0_pay3 (F := Ideal) v (ix2 r j) = v (ix2 r j) := by
  pointwise [k0_pay3]
theorem pay5 (v) (r : Fin 256) (j : Fin 768) : k0_pay5 (F := Ideal) v (ix2 r j) = v (ix2 r j) := by
  pointwise [k0_pay5]
theorem pay7 (v) (r : Fin 256) (j : Fin 512) : k0_pay7 (F := Ideal) v (ix2 r j) = v (ix2 r j) := by
  pointwise [k0_pay7]
theorem pay4 (v) (r : Fin 256) (j : Fin 768) : k0_pay4 (F := Ideal) v (ix2 r j) = sg (v (ix2 r j)) := by
  rw [← pay3 v r j]
  unfold sg k0_pay4
  generalize k0_pay3 (F := Ideal) v = A
  pointwise []
theorem pay6 (v) (r : Fin 256) (j : Fin 768) : k0_pay6 (F := Ideal) v (ix2 r j) = sg (v (ix2 r j)) := by
  rw [← pay5 v r j]
  unfold sg k0_pay6
  generalize k0_pay5 (F := Ideal) v = A
  pointwise []
theorem pay8 (v) (r : Fin 256) (j : Fin 512) : k0_pay8 (F := Ideal) v (ix2 r j) = sg (v (ix2 r j)) := by
  rw [← pay7 v r j]
  unfold sg k0_pay8
  generalize k0_pay7 (F := Ideal) v = A
  pointwise []
theorem pay9 (v o) (r : Fin 256) (j : Fin 768) : k0_pay9 (F := Ideal) v o (ix2 r j) = o (ix2 r j) * (v (ix2 r j) * sg (v (ix2 r j))) := by
  rw [← pay4 v r j, ← pay3 v r j]
  unfold k0_pay9
  generalize k0_pay4 (F := Ideal) v = B
  generalize k0_pay3 (F := Ideal) v = A
  pointwise []
theorem pay10 (v o) (r : Fin 256) (j : Fin 768) : k0_pay10 (F := Ideal) v o (ix2 r j) = o (ix2 r j) * (v (ix2 r j) * sg (v (ix2 r j))) := by
  rw [← pay6 v r j, ← pay5 v r j]
  unfold k0_pay10
  generalize k0_pay6 (F := Ideal) v = B
  generalize k0_pay5 (F := Ideal) v = A
  pointwise []
theorem pay11 (v o) (r : Fin 256) (j : Fin 512) : k0_pay11 (F := Ideal) v o (ix2 r j) = o (ix2 r j) * (v (ix2 r j) * sg (v (ix2 r j))) := by
  rw [← pay8 v r j, ← pay7 v r j]
  unfold k0_pay11
  generalize k0_pay8 (F := Ideal) v = B
  generalize k0_pay7 (F := Ideal) v = A
  pointwise []
theorem pay12 (a b c) (r : Fin 256) (j : Fin 2048) : k0_pay12 (F := Ideal) a b c (ix2 r j) = cat (fun i => a (ix2 r i)) (fun i => b (ix2 r i)) (fun i => c (ix2 r i)) j := by
  unfold cat
  pointwise [k0_pay12]
/-- The gated outputs of a tile. -/
theorem pay_mix (g0 g1 g2 o0 o1 o2) (r : Fin 256) (j : Fin 2048) :
    k0_pay12 (F := Ideal) (k0_pay9 (F := Ideal) g0 o0) (k0_pay10 (F := Ideal) g1 o1) (k0_pay11 (F := Ideal) g2 o2) (ix2 r j) =
      cat (fun i => o0 (ix2 r i)) (fun i => o1 (ix2 r i)) (fun i => o2 (ix2 r i)) j *
        (cat (fun i => g0 (ix2 r i)) (fun i => g1 (ix2 r i)) (fun i => g2 (ix2 r i)) j * sg (cat (fun i => g0 (ix2 r i)) (fun i => g1 (ix2 r i)) (fun i => g2 (ix2 r i)) j)) := by
  rw [pay12]
  simp only [pay9, pay10, pay11]
  exact cat_zip (fun o g => o * (g * sg g)) _ _ _ _ _ _ j

theorem raw13 (a b c x w) (r : Fin 256) (k : Fin 1024) : k0_pay13 (F := Ideal) a b c x w (ix2 r k) =
    x (ix2 r k) + ∑ j : Fin 2048, k0_pay12 (F := Ideal) a b c (ix2 r j) * w (ix2 j k) := by
  unfold k0_pay13
  generalize k0_pay12 (F := Ideal) a b c = A
  pointwise []
theorem raw14 (a b c x w) (r : Fin 256) (z : Fin 1) : k0_pay14 (F := Ideal) a b c x w (ix2 r z) = Cert.In.inv fun k => k0_pay13 (F := Ideal) a b c x w (ix2 r k) := by
  unfold Cert.In.inv k0_pay14
  generalize k0_pay13 (F := Ideal) a b c x w = A
  pointwise []
theorem raw15 (a b c x w) (r : Fin 256) (k : Fin 1024) : k0_pay15 (F := Ideal) a b c x w (ix2 r k) =
    k0_pay13 (F := Ideal) a b c x w (ix2 r k) * k0_pay14 (F := Ideal) a b c x w (ix2 r (0 : Fin 1)) := by
  unfold k0_pay15
  generalize k0_pay13 (F := Ideal) a b c x w = A
  generalize k0_pay14 (F := Ideal) a b c x w = B
  pointwise []
theorem raw16 (a b c x w g t) (r : Fin 256) (k : Fin 1024) : k0_pay16 (F := Ideal) a b c x w g t (ix2 r k) =
    k0_pay15 (F := Ideal) a b c x w (ix2 r k) * g (ix2 (0 : Fin 1) k) - t (ix2 r k) := by
  unfold k0_pay16
  generalize k0_pay15 (F := Ideal) a b c x w = A
  pointwise []
theorem raw17 (a b c x w g t) (y z : Fin 1) : k0_pay17 (F := Ideal) a b c x w g t (ix2 y z) =
    Ideal.ofBits .f32 0x3F000000#32 * ∑ r : Fin 256, Ideal.div (∑ k : Fin 1024, k0_pay16 (F := Ideal) a b c x w g t (ix2 r k) * k0_pay16 (F := Ideal) a b c x w g t (ix2 r k)) (Ideal.ofBits .f32 0x44800000#32) := by
  unfold k0_pay17
  generalize k0_pay16 (F := Ideal) a b c x w g t = A
  pointwise []
theorem raw18 (a b c x w g t) (r : Fin 256) (k : Fin 1024) : k0_pay18 (F := Ideal) a b c x w g t (ix2 r k) =
    Ideal.div (k0_pay16 (F := Ideal) a b c x w g t (ix2 r k)) (Ideal.ofBits .f32 0x44800000#32) := by
  unfold k0_pay18
  generalize k0_pay16 (F := Ideal) a b c x w g t = A
  pointwise []
theorem raw19 (a b c x w g t) (z : Fin 1) (k : Fin 1024) : k0_pay19 (F := Ideal) a b c x w g t (ix2 z k) =
    ∑ r : Fin 256, k0_pay18 (F := Ideal) a b c x w g t (ix2 r k) * k0_pay15 (F := Ideal) a b c x w (ix2 r k) := by
  unfold k0_pay19
  generalize k0_pay18 (F := Ideal) a b c x w g t = A
  generalize k0_pay15 (F := Ideal) a b c x w = B
  pointwise []
theorem raw20 (a b c x w g t g') (r : Fin 256) (k : Fin 1024) : k0_pay20 (F := Ideal) a b c x w g t g' (ix2 r k) =
    k0_pay18 (F := Ideal) a b c x w g t (ix2 r k) * g' (ix2 (0 : Fin 1) k) := by
  unfold k0_pay20
  generalize k0_pay18 (F := Ideal) a b c x w g t = A
  pointwise []
theorem raw21 (a b c x w g t g') (r : Fin 256) (k : Fin 1024) : k0_pay21 (F := Ideal) a b c x w g t g' (ix2 r k) =
    k0_pay20 (F := Ideal) a b c x w g t g' (ix2 r k) * k0_pay15 (F := Ideal) a b c x w (ix2 r k) := by
  unfold k0_pay21
  generalize k0_pay20 (F := Ideal) a b c x w g t g' = A
  generalize k0_pay15 (F := Ideal) a b c x w = B
  pointwise []
theorem raw22 (p q u v) (r : Fin 256) (k : Fin 1024) : k0_pay22 (F := Ideal) p q u v (ix2 r k) =
    p (ix2 r (0 : Fin 1)) * (u (ix2 r k) - q (ix2 r k) * Ideal.div (∑ l : Fin 1024, v (ix2 r l)) (Ideal.ofBits .f32 0x44800000#32)) := by
  pointwise [k0_pay22]
theorem raw23 (p q u v) (r : Fin 256) (k : Fin 1024) : k0_pay23 (F := Ideal) p q u v (ix2 r k) = k0_pay22 (F := Ideal) p q u v (ix2 r k) := by
  unfold k0_pay23
  generalize k0_pay22 (F := Ideal) p q u v = A
  pointwise []
theorem raw24 (p q u v w) (r : Fin 256) (j : Fin 2048) : k0_pay24 (F := Ideal) p q u v w (ix2 r j) =
    ∑ k : Fin 1024, k0_pay22 (F := Ideal) p q u v (ix2 r k) * w (ix2 j k) := by
  simp only [← raw23]
  unfold k0_pay24
  generalize k0_pay23 (F := Ideal) p q u v = A
  pointwise []
theorem raw25 (p q u v w) (r : Fin 256) (j : Fin 768) : k0_pay25 (F := Ideal) p q u v w (ix2 r j) = k0_pay24 (F := Ideal) p q u v w (ix2 r ⟨0 + j.val, by omega⟩) := by
  unfold k0_pay25
  generalize k0_pay24 (F := Ideal) p q u v w = A
  pointwise []
theorem raw28 (p q u v w) (r : Fin 256) (j : Fin 768) : k0_pay28 (F := Ideal) p q u v w (ix2 r j) = k0_pay24 (F := Ideal) p q u v w (ix2 r ⟨768 + j.val, by omega⟩) := by
  unfold k0_pay28
  generalize k0_pay24 (F := Ideal) p q u v w = A
  pointwise []
theorem raw34 (A) (r : Fin 256) (j : Fin 512) : k0_pay34 (F := Ideal) A (ix2 r j) = A (ix2 r ⟨1536 + j.val, by omega⟩) := by
  unfold k0_pay34
  pointwise []
theorem raw26 (a s p q u v w) (r : Fin 256) (j : Fin 768) : k0_pay26 (F := Ideal) a s p q u v w (ix2 r j) =
    k0_pay24 (F := Ideal) p q u v w (ix2 r ⟨0 + j.val, by omega⟩) * (a (ix2 r j) * s (ix2 r j)) := by
  rw [← raw25]
  unfold k0_pay26
  generalize k0_pay25 (F := Ideal) p q u v w = A
  pointwise []
theorem raw27 (a s o p q u v w) (r : Fin 256) (j : Fin 768) : k0_pay27 (F := Ideal) a s o p q u v w (ix2 r j) =
    k0_pay24 (F := Ideal) p q u v w (ix2 r ⟨0 + j.val, by omega⟩) * o (ix2 r j) *
      (s (ix2 r j) * (Ideal.ofBits .f32 0x3F800000#32 + a (ix2 r j) * (Ideal.ofBits .f32 0x3F800000#32 - s (ix2 r j)))) := by
  rw [← raw25]
  unfold k0_pay27
  generalize k0_pay25 (F := Ideal) p q u v w = A
  pointwise []
theorem raw29 (a s p q u v w) (r : Fin 256) (j : Fin 768) : k0_pay29 (F := Ideal) a s p q u v w (ix2 r j) =
    k0_pay24 (F := Ideal) p q u v w (ix2 r ⟨768 + j.val, by omega⟩) * (a (ix2 r j) * s (ix2 r j)) := by
  rw [← raw28]
  unfold k0_pay29
  generalize k0_pay28 (F := Ideal) p q u v w = A
  pointwise []
theorem raw33 (a s o p q u v w) (r : Fin 256) (j : Fin 768) :
    k0_pay33 (F := Ideal) s (k0_pay30 (F := Ideal) o p q u v w) (k0_pay31 (F := Ideal) a s) (k0_pay32 (F := Ideal)) (ix2 r j) =
    k0_pay24 (F := Ideal) p q u v w (ix2 r ⟨768 + j.val, by omega⟩) * o (ix2 r j) *
      (s (ix2 r j) * (Ideal.ofBits .f32 0x3F800000#32 + a (ix2 r j) * (Ideal.ofBits .f32 0x3F800000#32 - s (ix2 r j)))) := by
  rw [← raw28]
  unfold k0_pay33 k0_pay30 k0_pay31 k0_pay32
  generalize k0_pay28 (F := Ideal) p q u v w = A
  pointwise []
theorem raw35 (a s A) (r : Fin 256) (j : Fin 512) : k0_pay35 (F := Ideal) a s A (ix2 r j) = A (ix2 r ⟨1536 + j.val, by omega⟩) * (a (ix2 r j) * s (ix2 r j)) := by
  pointwise [k0_pay35, k0_pay34]
theorem raw36 (a s o A) (r : Fin 256) (j : Fin 512) : k0_pay36 (F := Ideal) a s o A (ix2 r j) = A (ix2 r ⟨1536 + j.val, by omega⟩) * o (ix2 r j) *
      (s (ix2 r j) * (Ideal.ofBits .f32 0x3F800000#32 + a (ix2 r j) * (Ideal.ofBits .f32 0x3F800000#32 - s (ix2 r j)))) := by
  pointwise [k0_pay36, k0_pay34]
theorem raw1 (a d s) (j : Fin 2048) (k : Fin 1024) : k0_pay1 (F := Ideal) a d s (ix2 j k) = s (ix2 j k) + ∑ r : Fin 256, a (ix2 r j) * d (ix2 r k) := by
  pointwise [k0_pay1]
theorem raw2 (s) (j : Fin 2048) (k : Fin 1024) : k0_pay2 (F := Ideal) s (ix2 j k) = s (ix2 j k) := by
  pointwise [k0_pay2]
theorem raw37 (q : Fin 8) (k : Fin 1024) : k0_pay37 (F := Ideal) (ix2 q k) = 0 := by
  pointwise [k0_pay37]
theorem raw38 (j : Fin 2048) (k : Fin 1024) : k0_pay38 (F := Ideal) (ix2 j k) = 0 := by
  pointwise [k0_pay38]
theorem raw39 (l g s) (q : Fin 8) (k : Fin 1024) : k0_pay39 (F := Ideal) l g s (ix2 q k) =
    s (ix2 q k) + (if q.val = 0 then g (ix2 (0 : Fin 1) k) else if q.val = 1 then l (ix2 (0 : Fin 1) (0 : Fin 1)) else 0) := by
  have e0 : IntOp.cmpi CmpIPredicate.eq (BitVec.ofNat 32 q.val) 0#32 = if q.val = 0 then 1#1 else 0#1 := by
    revert q
    decide
  have e1 : IntOp.cmpi CmpIPredicate.eq (BitVec.ofNat 32 q.val) 1#32 = if q.val = 1 then 1#1 else 0#1 := by
    revert q
    decide
  have h : k0_pay39 (F := Ideal) l g s (ix2 q k) = s (ix2 q k) +
      Scalar.select (IntOp.cmpi CmpIPredicate.eq (BitVec.ofNat 32 q.val) 0#32) (g (ix2 (0 : Fin 1) k))
        (Scalar.select (IntOp.cmpi CmpIPredicate.eq (BitVec.ofNat 32 q.val) 1#32) (l (ix2 (0 : Fin 1) (0 : Fin 1))) 0) := by
    pointwise [k0_pay39]
  rw [h, e0, e1]
  by_cases h0 : q.val = 0
  · rw [if_pos h0, if_pos h0]; rfl
  · rw [if_neg h0, if_neg h0]
    by_cases h1 : q.val = 1
    · rw [if_pos h1, if_pos h1]; rfl
    · rw [if_neg h1, if_neg h1]; rfl
end Cert.Out
-- ==== Proof.Out.Ref.lean ====
/-
  The output projection's reference at an index.
-/
module

public import proofs.«01_k».proof.Proof.Out.Pay
public import proofs.«01_k».proof.Proof.In.Ref
public import proofs.«01_k».proof.Proof.Gen.OutStepRefIdeal.Read

@[expose] public section
set_option maxRecDepth 65536
noncomputable section
namespace Cert.Out.Ref
open Cert.OutStepRefIdeal Cert.OutStepRefIdeal.Gen Cert.OutStepRefIdeal.Read Idealize.ShloMosaic Idealize.ShloMosaic.TcCoe Idealize.SL.Sem
open Idealize.ShloMosaic.Pointwise

/-- A token's row of the arguments. -/
def row (x0 x1 : FVec Ideal S4096x768 .f32) (x2 : FVec Ideal S4096x512 .f32) (x3 x4 : FVec Ideal S4096x768 .f32) (x5 : FVec Ideal S4096x512 .f32) (x7 x8 : FVec Ideal S4096x1024 .f32) (p : Fin 4096) : Row :=
  ⟨cat (fun j => x0 (ix2 p j)) (fun j => x1 (ix2 p j)) (fun j => x2 (ix2 p j)), cat (fun j => x3 (ix2 p j)) (fun j => x4 (ix2 p j)) (fun j => x5 (ix2 p j)), fun k => x7 (ix2 p k), fun k => x8 (ix2 p k)⟩
/-- The logistic function with a negation. -/
theorem sg_neg (g : EReal) : Ideal.div (Ideal.ofBits .f32 0x3F800000#32) (Ideal.ofBits .f32 0x3F800000#32 + Ideal.exp (-g)) = sg g := by
  have e : Ideal.ofBits .f32 0x00000000#32 - g = -g := by
    rw [show Ideal.ofBits .f32 0x00000000#32 = (0 : EReal) by simp [Ideal.ofBits, Ideal.ieee]]
    exact zero_sub g
  unfold sg
  rw [e]

section
variable (x : FVec Ideal S4096x768 .f32) (y : FVec Ideal S4096x512 .f32) (p : Fin 4096)
theorem s0 (j : Fin 768) : val_main_v0_2 (F := Ideal) x (ix2 p j) = sg (x (ix2 p j)) := by
  rw [← sg_neg]
  pointwise [val_main_v0_2, val_main_call0_v4, val_main_call0_cst_0, val_main_call0_v3, val_main_call0_v2, val_main_call0_cst, val_main_call0_v1, val_main_call0_v0]
theorem s2 (j : Fin 768) : val_main_v2_2 (F := Ideal) x (ix2 p j) = sg (x (ix2 p j)) := by
  rw [← sg_neg]
  pointwise [val_main_v2_2, val_main_call1_v4, val_main_call1_cst_0, val_main_call1_v3, val_main_call1_v2, val_main_call1_cst, val_main_call1_v1, val_main_call1_v0]
theorem s4 (j : Fin 512) : val_main_v4_2 (F := Ideal) y (ix2 p j) = sg (y (ix2 p j)) := by
  rw [← sg_neg]
  pointwise [val_main_v4_2, val_main_call2_v4, val_main_call2_cst_0, val_main_call2_v3, val_main_call2_v2, val_main_call2_cst, val_main_call2_v1, val_main_call2_v0]
theorem d0 (j : Fin 768) : val_main_v0_1 (F := Ideal) x (ix2 p j) = sg (x (ix2 p j)) * (Ideal.ofBits .f32 0x3F800000#32 - sg (x (ix2 p j))) := by
  rw [← s0]
  unfold val_main_v0_1 val_main_call0_v7
  generalize val_main_v0_2 (F := Ideal) x = A
  pointwise [val_main_call0_v6, val_main_call0_cst_1]
theorem d2 (j : Fin 768) : val_main_v2_1 (F := Ideal) x (ix2 p j) = sg (x (ix2 p j)) * (Ideal.ofBits .f32 0x3F800000#32 - sg (x (ix2 p j))) := by
  rw [← s2]
  unfold val_main_v2_1 val_main_call1_v7
  generalize val_main_v2_2 (F := Ideal) x = A
  pointwise [val_main_call1_v6, val_main_call1_cst_1]
theorem d4 (j : Fin 512) : val_main_v4_1 (F := Ideal) y (ix2 p j) = sg (y (ix2 p j)) * (Ideal.ofBits .f32 0x3F800000#32 - sg (y (ix2 p j))) := by
  rw [← s4]
  unfold val_main_v4_1 val_main_call2_v7
  generalize val_main_v4_2 (F := Ideal) y = A
  pointwise [val_main_call2_v6, val_main_call2_cst_1]
end

variable (x0 x1 : FVec Ideal S4096x768 .f32) (x2 : FVec Ideal S4096x512 .f32) (x3 x4 : FVec Ideal S4096x768 .f32) (x5 : FVec Ideal S4096x512 .f32) (x6 : FVec Ideal S2048x1024 .f32) (x7 x8 : FVec Ideal S4096x1024 .f32) (x9 : FVec Ideal S1x1024 .f32)
variable (p : Fin 4096)

theorem r6 (j : Fin 2048) : val_main_v6 (F := Ideal) x0 x1 x2 x3 x4 x5 (ix2 p j) = mix (row x0 x1 x2 x3 x4 x5 x7 x8 p) j := by
  have e0 : ∀ j, val_main_v1 (F := Ideal) x0 x3 (ix2 p j) = x3 (ix2 p j) * (x0 (ix2 p j) * sg (x0 (ix2 p j))) := fun j => by rw [← s0, val_main_v1_apply, val_main_v0_0_apply]; rfl
  have e1 : ∀ j, val_main_v3 (F := Ideal) x1 x4 (ix2 p j) = x4 (ix2 p j) * (x1 (ix2 p j) * sg (x1 (ix2 p j))) := fun j => by rw [← s2, val_main_v3_apply, val_main_v2_0_apply]; rfl
  have e2 : ∀ j, val_main_v5 (F := Ideal) x2 x5 (ix2 p j) = x5 (ix2 p j) * (x2 (ix2 p j) * sg (x2 (ix2 p j))) := fun j => by rw [← s4, val_main_v5_apply, val_main_v4_0_apply]; rfl
  refine Eq.trans ?_ (cat_zip (fun o g => o * (g * sg g)) (fun j => x3 (ix2 p j)) (fun j => x4 (ix2 p j)) (fun j => x5 (ix2 p j)) (fun j => x0 (ix2 p j)) (fun j => x1 (ix2 p j)) (fun j => x2 (ix2 p j)) j)
  simp only [← e0, ← e1, ← e2]
  unfold val_main_v6 cat
  generalize val_main_v1 (F := Ideal) x0 x3 = A
  generalize val_main_v3 (F := Ideal) x1 x4 = B
  generalize val_main_v5 (F := Ideal) x2 x5 = C
  pointwise []
/-- The weights and the scales as functions. -/
def W (j : Fin 2048) (k : Fin 1024) : EReal := x6 (ix2 j k)
def G (k : Fin 1024) : EReal := x9 (ix2 (0 : Fin 1) k)
theorem r8 (k : Fin 1024) : val_main_v8 (F := Ideal) x0 x1 x2 x3 x4 x5 x6 x7 (ix2 p k) = pre (W x6) (row x0 x1 x2 x3 x4 x5 x7 x8 p) k := by
  unfold pre
  simp only [← r6 x0 x1 x2 x3 x4 x5]
  unfold val_main_v8 val_main_v7 W
  generalize val_main_v6 (F := Ideal) x0 x1 x2 x3 x4 x5 = A
  pointwise []
  rfl
theorem r15 (z : Fin 1) : val_main_v15 (F := Ideal) x0 x1 x2 x3 x4 x5 x6 x7 (ix2 p z) = Cert.In.Ref.ms (pre (W x6) (row x0 x1 x2 x3 x4 x5 x7 x8 p)) := by
  rw [← funext fun k => r8 x0 x1 x2 x3 x4 x5 x6 x7 x8 p k]
  unfold Cert.In.Ref.ms val_main_v15 val_main_v13 val_main_v11 val_main_v10 val_main_v9
  generalize val_main_v8 (F := Ideal) x0 x1 x2 x3 x4 x5 x6 x7 = A
  pointwise [val_main_v14, val_main_cst_1, val_main_v12, val_main_cst_0, val_main_cst]
theorem r16 (z : Fin 1) : val_main_v16 (F := Ideal) x0 x1 x2 x3 x4 x5 x6 x7 (ix2 p z) = Cert.In.inv (pre (W x6) (row x0 x1 x2 x3 x4 x5 x7 x8 p)) := by
  rw [Cert.In.Ref.inv_eq, ← r15 x0 x1 x2 x3 x4 x5 x6 x7 x8 p z]
  unfold val_main_v16
  generalize val_main_v15 (F := Ideal) x0 x1 x2 x3 x4 x5 x6 x7 = A
  pointwise []
theorem r19 (z : Fin 1) : val_main_v19 (F := Ideal) x0 x1 x2 x3 x4 x5 x6 x7 (ix2 p z) =
    Ideal.ofBits .f32 0xBF000000#32 * Ideal.div (Cert.In.inv (pre (W x6) (row x0 x1 x2 x3 x4 x5 x7 x8 p))) (Cert.In.Ref.ms (pre (W x6) (row x0 x1 x2 x3 x4 x5 x7 x8 p))) := by
  rw [← r16 x0 x1 x2 x3 x4 x5 x6 x7 x8 p z, ← r15 x0 x1 x2 x3 x4 x5 x6 x7 x8 p z]
  unfold val_main_v19 val_main_v17
  generalize val_main_v16 (F := Ideal) x0 x1 x2 x3 x4 x5 x6 x7 = A
  generalize val_main_v15 (F := Ideal) x0 x1 x2 x3 x4 x5 x6 x7 = B
  pointwise [val_main_v18, val_main_cst_2]
theorem r21 (k : Fin 1024) : val_main_v21 (F := Ideal) x0 x1 x2 x3 x4 x5 x6 x7 (ix2 p k) =
    pre (W x6) (row x0 x1 x2 x3 x4 x5 x7 x8 p) k * Cert.In.inv (pre (W x6) (row x0 x1 x2 x3 x4 x5 x7 x8 p)) := by
  rw [← r16 x0 x1 x2 x3 x4 x5 x6 x7 x8 p 0, ← r8]
  unfold val_main_v21 val_main_v20
  generalize val_main_v16 (F := Ideal) x0 x1 x2 x3 x4 x5 x6 x7 = A
  generalize val_main_v8 (F := Ideal) x0 x1 x2 x3 x4 x5 x6 x7 = B
  pointwise []
theorem r24 (k : Fin 1024) : val_main_v24 (F := Ideal) x0 x1 x2 x3 x4 x5 x6 x7 x8 x9 (ix2 p k) = err (W x6) (G x9) (row x0 x1 x2 x3 x4 x5 x7 x8 p) k := by
  unfold err
  rw [← r21]
  unfold val_main_v24 val_main_v23 G
  generalize val_main_v21 (F := Ideal) x0 x1 x2 x3 x4 x5 x6 x7 = A
  pointwise [val_main_v22]
  rfl
theorem r30 : val_main_v30 (F := Ideal) x0 x1 x2 x3 x4 x5 x6 x7 x8 x9 (ix1 p) = loss (W x6) (G x9) (row x0 x1 x2 x3 x4 x5 x7 x8 p) := by
  unfold loss
  simp only [← r24]
  unfold val_main_v30 val_main_v28 val_main_v25
  generalize val_main_v24 (F := Ideal) x0 x1 x2 x3 x4 x5 x6 x7 x8 x9 = A
  pointwise [val_main_v29, val_main_cst_5, val_main_cst_4]
/-- The reference's gradient of the normalised row. -/
def dyR (w : Fin 2048 → Fin 1024 → EReal) (g : Fin 1024 → EReal) (R : Row) (k : Fin 1024) : EReal :=
  Ideal.div (Ideal.ofBits .f32 0x3F000000#32 * Ideal.ofBits .f32 0x3F800000#32) (Ideal.ofBits .f32 0x44800000#32) * (Ideal.ofBits .f32 0x40000000#32 * err w g R k)
theorem r38 (k : Fin 1024) : val_main_v38 (F := Ideal) x0 x1 x2 x3 x4 x5 x6 x7 x8 x9 (ix2 p k) = dyR (W x6) (G x9) (row x0 x1 x2 x3 x4 x5 x7 x8 p) k := by
  unfold dyR
  rw [← r24]
  unfold val_main_v38 val_main_v27
  generalize val_main_v24 (F := Ideal) x0 x1 x2 x3 x4 x5 x6 x7 x8 x9 = A
  pointwise [val_main_v37, val_main_v36, val_main_v34, val_main_v33, val_main_cst_8, val_main_cst_9, val_main_v35, val_main_cst_10, val_main_v26, val_main_cst_3]
theorem r41 (z : Fin 1) (k : Fin 1024) : val_main_v41 (F := Ideal) x0 x1 x2 x3 x4 x5 x6 x7 x8 x9 (ix2 z k) =
    ∑ p, pre (W x6) (row x0 x1 x2 x3 x4 x5 x7 x8 p) k * Cert.In.inv (pre (W x6) (row x0 x1 x2 x3 x4 x5 x7 x8 p)) * dyR (W x6) (G x9) (row x0 x1 x2 x3 x4 x5 x7 x8 p) k := by
  simp only [← r38, ← r21]
  unfold val_main_v41 val_main_v40 val_main_v39
  generalize val_main_v38 (F := Ideal) x0 x1 x2 x3 x4 x5 x6 x7 x8 x9 = A
  generalize val_main_v21 (F := Ideal) x0 x1 x2 x3 x4 x5 x6 x7 = B
  pointwise [val_main_cst_11]
theorem r73 (z : Fin 1) (k : Fin 1024) : val_main_v73 (F := Ideal) x0 x1 x2 x3 x4 x5 x6 x7 x8 x9 (ix2 z k) =
    Ideal.ofBits .f32 0x3F000000#32 * ∑ p, loss (W x6) (G x9) (row x0 x1 x2 x3 x4 x5 x7 x8 p) := by
  simp only [← r30]
  unfold val_main_v73 val_main_v32 val_main_v31
  generalize val_main_v30 (F := Ideal) x0 x1 x2 x3 x4 x5 x6 x7 x8 x9 = A
  pointwise [val_main_cst_7, val_main_cst_6]
theorem r43 (k : Fin 1024) : val_main_v43 (F := Ideal) x0 x1 x2 x3 x4 x5 x6 x7 x8 x9 (ix2 p k) = dyR (W x6) (G x9) (row x0 x1 x2 x3 x4 x5 x7 x8 p) k * G x9 k := by
  rw [← r38]
  unfold val_main_v43 G
  generalize val_main_v38 (F := Ideal) x0 x1 x2 x3 x4 x5 x6 x7 x8 x9 = A
  pointwise [val_main_v42]
/-- The reference's coefficient of a row's entries. -/
def coef (w : Fin 2048 → Fin 1024 → EReal) (g : Fin 1024 → EReal) (R : Row) : EReal :=
  Ideal.div ((∑ k, pre w R k * (dyR w g R k * g k)) * (Ideal.ofBits .f32 0xBF000000#32 * Ideal.div (Cert.In.inv (pre w R)) (Cert.In.Ref.ms (pre w R)))) (Ideal.ofBits .f32 0x44800000#32)
theorem r53 (k : Fin 1024) : val_main_v53 (F := Ideal) x0 x1 x2 x3 x4 x5 x6 x7 x8 x9 (ix2 p k) = coef (W x6) (G x9) (row x0 x1 x2 x3 x4 x5 x7 x8 p) := by
  unfold coef
  rw [← r19 x0 x1 x2 x3 x4 x5 x6 x7 x8 p 0]
  simp only [← r43, ← r8]
  unfold val_main_v53 val_main_v52 val_main_v51 val_main_v49 val_main_v46 val_main_v45 val_main_v44
  generalize val_main_v43 (F := Ideal) x0 x1 x2 x3 x4 x5 x6 x7 x8 x9 = A
  generalize val_main_v19 (F := Ideal) x0 x1 x2 x3 x4 x5 x6 x7 = B
  generalize val_main_v8 (F := Ideal) x0 x1 x2 x3 x4 x5 x6 x7 = C
  pointwise [val_main_v50, val_main_cst_13, val_main_cst_14, val_main_cst_12]
  exact Fin.sum_univ_one _
/-- The reference's gradient of the row before the normalisation. -/
def dpreR (w : Fin 2048 → Fin 1024 → EReal) (g : Fin 1024 → EReal) (R : Row) (k : Fin 1024) : EReal :=
  dyR w g R k * g k * Cert.In.inv (pre w R) + pre w R k * coef w g R + coef w g R * pre w R k
theorem r57 (k : Fin 1024) : val_main_v57 (F := Ideal) x0 x1 x2 x3 x4 x5 x6 x7 x8 x9 (ix2 p k) = dpreR (W x6) (G x9) (row x0 x1 x2 x3 x4 x5 x7 x8 p) k := by
  unfold dpreR
  rw [← r16 x0 x1 x2 x3 x4 x5 x6 x7 x8 p 0, ← r53 x0 x1 x2 x3 x4 x5 x6 x7 x8 x9 p k, ← r43, ← r8]
  unfold val_main_v57 val_main_v56 val_main_v55 val_main_v54 val_main_v48 val_main_v47
  generalize val_main_v53 (F := Ideal) x0 x1 x2 x3 x4 x5 x6 x7 x8 x9 = D
  generalize val_main_v43 (F := Ideal) x0 x1 x2 x3 x4 x5 x6 x7 x8 x9 = A
  generalize val_main_v16 (F := Ideal) x0 x1 x2 x3 x4 x5 x6 x7 = B
  generalize val_main_v8 (F := Ideal) x0 x1 x2 x3 x4 x5 x6 x7 = C
  pointwise []
theorem r82 (j : Fin 2048) (k : Fin 1024) : val_main_v82 (F := Ideal) x0 x1 x2 x3 x4 x5 x6 x7 x8 x9 (ix2 j k) =
    ∑ p, dpreR (W x6) (G x9) (row x0 x1 x2 x3 x4 x5 x7 x8 p) k * mix (row x0 x1 x2 x3 x4 x5 x7 x8 p) j := by
  simp only [← r57, ← r6]
  unfold val_main_v82 val_main_v59 val_main_v58
  generalize val_main_v57 (F := Ideal) x0 x1 x2 x3 x4 x5 x6 x7 x8 x9 = A
  generalize val_main_v6 (F := Ideal) x0 x1 x2 x3 x4 x5 = B
  pointwise []
theorem r60 (j : Fin 2048) : val_main_v60 (F := Ideal) x0 x1 x2 x3 x4 x5 x6 x7 x8 x9 (ix2 p j) = ∑ k, dpreR (W x6) (G x9) (row x0 x1 x2 x3 x4 x5 x7 x8 p) k * W x6 j k := by
  simp only [← r57]
  unfold val_main_v60 W
  generalize val_main_v57 (F := Ideal) x0 x1 x2 x3 x4 x5 x6 x7 x8 x9 = A
  pointwise []
theorem r75 (q : Fin 8) (k : Fin 1024) : val_main_v75 (F := Ideal) x0 x1 x2 x3 x4 x5 x6 x7 x8 x9 (ix2 q k) =
    if q.val = 0 then val_main_v41 (F := Ideal) x0 x1 x2 x3 x4 x5 x6 x7 x8 x9 (ix2 (0 : Fin 1) k) else if q.val = 1 then val_main_v73 (F := Ideal) x0 x1 x2 x3 x4 x5 x6 x7 x8 x9 (ix2 (0 : Fin 1) k) else 0 := by
  unfold val_main_v75
  generalize val_main_v41 (F := Ideal) x0 x1 x2 x3 x4 x5 x6 x7 x8 x9 = A
  generalize val_main_v73 (F := Ideal) x0 x1 x2 x3 x4 x5 x6 x7 x8 x9 = B
  pointwise [val_main_v74, val_main_cst_15]
  by_cases h : q.val = 0
  · rw [if_pos h, dif_pos (by omega)]
    exact congrArg A (congrArg (fun z : Fin 1 => ix2 z k) (Fin.ext h))
  · rw [if_neg h, dif_neg (by omega)]
    by_cases h' : q.val = 1
    · rw [if_pos h', dif_pos (by omega)]
      exact congrArg B (congrArg (fun z : Fin 1 => ix2 z k) (Fin.ext (by show q.val - 1 = 0; omega)))
    · rw [if_neg h', dif_neg (by omega)]
/-- The reference's gradients of the attentions' outputs and of the gates, from that of the gated outputs. -/
def doutR (g d : EReal) : EReal := d * (g * sg g)
def dgateR (g o d : EReal) : EReal := o * d * sg g + g * (o * d) * (sg g * (Ideal.ofBits .f32 0x3F800000#32 - sg g))
theorem r76 (j : Fin 768) : val_main_v76 (F := Ideal) x0 x1 x2 x3 x4 x5 x6 x7 x8 x9 (ix2 p j) =
    doutR (x0 (ix2 p j)) (val_main_v60 (F := Ideal) x0 x1 x2 x3 x4 x5 x6 x7 x8 x9 (ix2 p ⟨0 + j.val, by omega⟩)) := by
  unfold doutR
  rw [← s0]
  unfold val_main_v76 val_main_v71 val_main_v61 val_main_v0_0
  generalize val_main_v60 (F := Ideal) x0 x1 x2 x3 x4 x5 x6 x7 x8 x9 = A
  generalize val_main_v0_2 (F := Ideal) x0 = B
  pointwise []
theorem r77 (j : Fin 768) : val_main_v77 (F := Ideal) x0 x1 x2 x3 x4 x5 x6 x7 x8 x9 (ix2 p j) =
    doutR (x1 (ix2 p j)) (val_main_v60 (F := Ideal) x0 x1 x2 x3 x4 x5 x6 x7 x8 x9 (ix2 p ⟨768 + j.val, by omega⟩)) := by
  unfold doutR
  rw [← s2]
  unfold val_main_v77 val_main_v68 val_main_v62 val_main_v2_0
  generalize val_main_v60 (F := Ideal) x0 x1 x2 x3 x4 x5 x6 x7 x8 x9 = A
  generalize val_main_v2_2 (F := Ideal) x1 = B
  pointwise []
theorem r78 (j : Fin 512) : val_main_v78 (F := Ideal) x0 x1 x2 x3 x4 x5 x6 x7 x8 x9 (ix2 p j) =
    doutR (x2 (ix2 p j)) (val_main_v60 (F := Ideal) x0 x1 x2 x3 x4 x5 x6 x7 x8 x9 (ix2 p ⟨1536 + j.val, by omega⟩)) := by
  unfold doutR
  rw [← s4]
  unfold val_main_v78 val_main_v65 val_main_v63 val_main_v4_0
  generalize val_main_v60 (F := Ideal) x0 x1 x2 x3 x4 x5 x6 x7 x8 x9 = A
  generalize val_main_v4_2 (F := Ideal) x2 = B
  pointwise []
theorem r79 (j : Fin 768) : val_main_v79 (F := Ideal) x0 x1 x2 x3 x4 x5 x6 x7 x8 x9 (ix2 p j) =
    dgateR (x0 (ix2 p j)) (x3 (ix2 p j)) (val_main_v60 (F := Ideal) x0 x1 x2 x3 x4 x5 x6 x7 x8 x9 (ix2 p ⟨0 + j.val, by omega⟩)) := by
  unfold dgateR
  rw [← d0, ← s0]
  unfold val_main_v79 val_main_v72 val_main_call5_v2 val_main_call5_v1 val_main_call5_v0 val_main_v70 val_main_v61
  generalize val_main_v60 (F := Ideal) x0 x1 x2 x3 x4 x5 x6 x7 x8 x9 = A
  generalize val_main_v0_2 (F := Ideal) x0 = B
  generalize val_main_v0_1 (F := Ideal) x0 = C
  pointwise []
theorem r80 (j : Fin 768) : val_main_v80 (F := Ideal) x0 x1 x2 x3 x4 x5 x6 x7 x8 x9 (ix2 p j) =
    dgateR (x1 (ix2 p j)) (x4 (ix2 p j)) (val_main_v60 (F := Ideal) x0 x1 x2 x3 x4 x5 x6 x7 x8 x9 (ix2 p ⟨768 + j.val, by omega⟩)) := by
  unfold dgateR
  rw [← d2, ← s2]
  unfold val_main_v80 val_main_v69 val_main_call4_v2 val_main_call4_v1 val_main_call4_v0 val_main_v67 val_main_v62
  generalize val_main_v60 (F := Ideal) x0 x1 x2 x3 x4 x5 x6 x7 x8 x9 = A
  generalize val_main_v2_2 (F := Ideal) x1 = B
  generalize val_main_v2_1 (F := Ideal) x1 = C
  pointwise []
theorem r81 (j : Fin 512) : val_main_v81 (F := Ideal) x0 x1 x2 x3 x4 x5 x6 x7 x8 x9 (ix2 p j) =
    dgateR (x2 (ix2 p j)) (x5 (ix2 p j)) (val_main_v60 (F := Ideal) x0 x1 x2 x3 x4 x5 x6 x7 x8 x9 (ix2 p ⟨1536 + j.val, by omega⟩)) := by
  unfold dgateR
  rw [← d4, ← s4]
  unfold val_main_v81 val_main_v66 val_main_call3_v2 val_main_call3_v1 val_main_call3_v0 val_main_v64 val_main_v63
  generalize val_main_v60 (F := Ideal) x0 x1 x2 x3 x4 x5 x6 x7 x8 x9 = A
  generalize val_main_v4_2 (F := Ideal) x2 = B
  generalize val_main_v4_1 (F := Ideal) x2 = C
  pointwise []
end Cert.Out.Ref
-- ==== Proof.Out.Real.lean ====
/-
  The step on a row of reals: the kernel's formulas and the reference's give the same numbers.
-/
module

public import proofs.«01_k».proof.Proof.Out.Ref
public import proofs.«01_k».proof.Proof.In.Real

@[expose] public section
set_option maxRecDepth 65536
noncomputable section
namespace Cert.Out
open Idealize.ShloMosaic Idealize.ShloMosaic.TcCoe Idealize.SL.Sem
open Cert.Soft Cert.Out.Ref

theorem cHalf : Ideal.ofBits .f32 0x3F000000#32 = ((1 / 2 : ℝ) : EReal) := by
  simp [Ideal.ofBits, Ideal.ieee, -EReal.coe_mul]
  norm_num
theorem cTwo : Ideal.ofBits .f32 0x40000000#32 = ((2 : ℝ) : EReal) := by
  simp [Ideal.ofBits, Ideal.ieee, -EReal.coe_mul]
  norm_num
theorem cZero : Ideal.ofBits .f32 0x00000000#32 = ((0 : ℝ) : EReal) := by
  simp [Ideal.ofBits, Ideal.ieee]

/-- The logistic function of a real. -/
def sgR (g : ℝ) : ℝ := 1 / (1 + Real.exp (0 - g))
theorem sg_real (g : ℝ) : sg (g : EReal) = (sgR g : EReal) := by
  have h : (1 : ℝ) + Real.exp (0 - g) ≠ 0 := by positivity
  unfold sg sgR
  rw [one_f32, cZero, ← EReal.coe_sub, exp_real, ← EReal.coe_add, div_real _ _ h]

/-- Every entry is a real. -/
def Fn {α : Type} (f : α → EReal) : Prop := ∃ a : α → ℝ, f = fun i => (a i : EReal)
theorem Fn.sum {α : Type} [Fintype α] {f g : α → EReal} (hf : Fn f) (hg : Fn g) : ∃ r : ℝ, ∑ i, f i * g i = (r : EReal) := by
  obtain ⟨a, rfl⟩ := hf
  obtain ⟨b, rfl⟩ := hg
  refine ⟨∑ i, a i * b i, ?_⟩
  rw [coe_sum]
  exact Finset.sum_congr rfl fun i _ => (EReal.coe_mul _ _).symm
/-- Every number of a token is a real. -/
structure RealRow (R : Row) : Prop where
  g : Fn R.g
  o : Fn R.o
  x : Fn R.x
  t : Fn R.t

section
variable {W : Fin 2048 → Fin 1024 → EReal} {G : Fin 1024 → EReal} {R : Row} (hW : ∀ k, Fn fun j => W j k) (hW' : ∀ j, Fn (W j)) (hG : Fn G) (hR : RealRow R)
include hR
theorem mix_fn : Fn (mix R) := by
  obtain ⟨g, hg⟩ := hR.g
  obtain ⟨o, ho⟩ := hR.o
  refine ⟨fun j => o j * (g j * sgR (g j)), funext fun j => ?_⟩
  unfold mix
  rw [ho, hg, sg_real, EReal.coe_mul, EReal.coe_mul]
include hW
theorem pre_fn : Fn (pre W R) := by
  obtain ⟨x, hx⟩ := hR.x
  choose s hs using fun k => (mix_fn hR).sum (hW k)
  refine ⟨fun k => x k + s k, funext fun k => ?_⟩
  unfold pre
  rw [hx, hs, EReal.coe_add]
include hG
theorem err_fn : Fn (err W G R) := by
  obtain ⟨x, hx⟩ := pre_fn hW hR
  obtain ⟨g, hg⟩ := hG
  obtain ⟨t, ht⟩ := hR.t
  refine ⟨fun k => x k * Cert.In.invR x * g k - t k, funext fun k => ?_⟩
  unfold err
  rw [hx, hg, ht, Cert.In.inv_real, EReal.coe_sub, EReal.coe_mul, EReal.coe_mul]
theorem loss_real : ∃ r : ℝ, loss W G R = (r : EReal) := by
  obtain ⟨s, hs⟩ := (err_fn hW hG hR).sum (err_fn hW hG hR)
  refine ⟨s / 1024, ?_⟩
  unfold loss
  rw [hs, Cert.In.c1024, div_real _ _ (by norm_num)]
theorem dy_fn : Fn (dy W G R) := by
  obtain ⟨e, he⟩ := err_fn hW hG hR
  refine ⟨fun k => e k / 1024, funext fun k => ?_⟩
  unfold dy
  rw [he, Cert.In.c1024, div_real _ _ (by norm_num)]
theorem dy_eq : dyR W G R = dy W G R := by
  obtain ⟨e, he⟩ := err_fn hW hG hR
  refine funext fun k => ?_
  unfold dyR dy
  rw [he, cHalf, cTwo, one_f32, Cert.In.c1024, div_real _ _ (by norm_num), ← EReal.coe_mul, ← EReal.coe_mul, div_real _ _ (by norm_num), ← EReal.coe_mul]
  exact congrArg Real.toEReal (by ring)
theorem dpre_eq : dpreR W G R = dpre W G R := by
  unfold dpreR coef dpre
  rw [dy_eq hW hG hR]
  obtain ⟨d, hd⟩ := dy_fn hW hG hR
  obtain ⟨x, hx⟩ := pre_fn hW hR
  obtain ⟨g, hg⟩ := hG
  rw [hd, hx, hg]
  refine funext fun k => ?_
  have H := Cert.In.dx_real d x g (fun _ => 0) k
  unfold Cert.In.dx at H
  rw [EReal.coe_zero, add_zero, zero_add] at H
  rw [Cert.In.coef_real d x g]
  exact H.symm
theorem dpre_fn : Fn (dpre W G R) := by
  rw [← dpre_eq hW hG hR]
  unfold dpreR coef
  rw [dy_eq hW hG hR]
  obtain ⟨d, hd⟩ := dy_fn hW hG hR
  obtain ⟨x, hx⟩ := pre_fn hW hR
  obtain ⟨g, hg⟩ := hG
  rw [hd, hx, hg]
  refine ⟨fun k => d k * g k * Cert.In.invR x + x k * Cert.In.coefR d x g + Cert.In.coefR d x g * x k, funext fun k => ?_⟩
  rw [Cert.In.coef_real d x g, Cert.In.inv_real]
  simp only [EReal.coe_mul, EReal.coe_add]
theorem dmix_eq (j : Fin 2048) : ∑ k, dpreR W G R k * W j k = dmix W G R j := by
  unfold dmix
  rw [dpre_eq hW hG hR]
theorem dout_eq (j : Fin 2048) : doutR (R.g j) (∑ k, dpreR W G R k * W j k) = dout W G R j := by
  rw [dmix_eq hW hG hR]
  rfl
include hW'
theorem dgate_eq (j : Fin 2048) : dgateR (R.g j) (R.o j) (∑ k, dpreR W G R k * W j k) = dgate W G R j := by
  rw [dmix_eq hW hG hR]
  obtain ⟨d, hd⟩ := (dpre_fn hW hG hR).sum (hW' j)
  obtain ⟨g, hg⟩ := hR.g
  obtain ⟨o, ho⟩ := hR.o
  unfold dgateR dgate dmix
  rw [hd, hg, ho, sg_real, one_f32]
  simp only [← EReal.coe_mul, ← EReal.coe_add, ← EReal.coe_sub]
  exact congrArg Real.toEReal (by ring)
end
end Cert.Out
-- ==== Proof.Out.Tile.lean ====
/-
  The results of a tile of 256 tokens, row by row.
-/
module

public import proofs.«01_k».proof.Proof.Out.Pay

@[expose] public section
set_option maxRecDepth 65536
noncomputable section
namespace Cert.Out
open Cert.OutStepIdeal Cert.OutStepIdeal.Gen Idealize.ShloMosaic Idealize.ShloMosaic.TcCoe Idealize.SL.Sem
open Idealize.ShloMosaic.Pointwise Cert.In

variable {g0 g1 o0 o1 : FVec Ideal S256x768 .f32} {g2 o2 : FVec Ideal S256x512 .f32} {w : FVec Ideal S2048x1024 .bf16} {x t : FVec Ideal S256x1024 .f32} {g : FVec Ideal S1x1024 .f32}
variable {a b : FVec Ideal S256x768 .bf16} {c : FVec Ideal S256x512 .f32} {R : Fin 256 → Row} {W : Fin 2048 → Fin 1024 → EReal} {G : Fin 1024 → EReal}

/-- What a tile's blocks hold. -/
structure Holds (a b : FVec Ideal S256x768 .bf16) (c : FVec Ideal S256x512 .f32) (w : FVec Ideal S2048x1024 .bf16) (x t : FVec Ideal S256x1024 .f32) (g : FVec Ideal S1x1024 .f32)
    (R : Fin 256 → Row) (W : Fin 2048 → Fin 1024 → EReal) (G : Fin 1024 → EReal) : Prop where
  mix : ∀ r j, k0_pay12 (F := Ideal) a b c (ix2 r j) = mix (R r) j
  w : ∀ j k, w (ix2 j k) = W j k
  x : ∀ r k, x (ix2 r k) = (R r).x k
  t : ∀ r k, t (ix2 r k) = (R r).t k
  g : ∀ k, g (ix2 (0 : Fin 1) k) = G k

section
variable (H : Holds a b c w x t g R W G)
include H
theorem tile13 (r : Fin 256) (k : Fin 1024) : k0_pay13 (F := Ideal) a b c x w (ix2 r k) = pre W (R r) k := by
  rw [raw13]
  exact congrArg₂ (fun a b : EReal => a + b) (H.x r k) (Finset.sum_congr rfl fun j _ => congrArg₂ (fun a b : EReal => a * b) (H.mix r j) (H.w j k))
theorem tile14 (r : Fin 256) (z : Fin 1) : k0_pay14 (F := Ideal) a b c x w (ix2 r z) = Cert.In.inv (pre W (R r)) := by
  rw [raw14]
  exact congrArg Cert.In.inv (funext fun k => tile13 H r k)
theorem tile15 (r : Fin 256) (k : Fin 1024) : k0_pay15 (F := Ideal) a b c x w (ix2 r k) = pre W (R r) k * Cert.In.inv (pre W (R r)) := by
  rw [raw15, tile13 H, tile14 H]
theorem tile16 (r : Fin 256) (k : Fin 1024) : k0_pay16 (F := Ideal) a b c x w g t (ix2 r k) = err W G (R r) k := by
  rw [raw16, tile15 H, H.g, H.t]
  rfl
theorem tile17 (y z : Fin 1) : k0_pay17 (F := Ideal) a b c x w g t (ix2 y z) = Ideal.ofBits .f32 0x3F000000#32 * ∑ r, loss W G (R r) := by
  rw [raw17]
  simp only [tile16 H]
  rfl
theorem tile18 (r : Fin 256) (k : Fin 1024) : k0_pay18 (F := Ideal) a b c x w g t (ix2 r k) = dy W G (R r) k := by
  rw [raw18, tile16 H]
  rfl
theorem tile19 (z : Fin 1) (k : Fin 1024) : k0_pay19 (F := Ideal) a b c x w g t (ix2 z k) = ∑ r, dy W G (R r) k * (pre W (R r) k * Cert.In.inv (pre W (R r))) := by
  rw [raw19]
  simp only [tile18 H, tile15 H]
theorem tile20 (r : Fin 256) (k : Fin 1024) : k0_pay20 (F := Ideal) a b c x w g t g (ix2 r k) = dy W G (R r) k * G k := by
  rw [raw20, tile18 H, H.g]
theorem tile22 (r : Fin 256) (k : Fin 1024) :
    k0_pay22 (F := Ideal) (k0_pay14 (F := Ideal) a b c x w) (k0_pay15 (F := Ideal) a b c x w) (k0_pay20 (F := Ideal) a b c x w g t g) (k0_pay21 (F := Ideal) a b c x w g t g) (ix2 r k) =
      dpre W G (R r) k := by
  rw [raw22]
  simp only [raw21, tile14 H, tile15 H, tile20 H]
  rfl
theorem tile24 (r : Fin 256) (j : Fin 2048) :
    k0_pay24 (F := Ideal) (k0_pay14 (F := Ideal) a b c x w) (k0_pay15 (F := Ideal) a b c x w) (k0_pay20 (F := Ideal) a b c x w g t g) (k0_pay21 (F := Ideal) a b c x w g t g) w (ix2 r j) =
      dmix W G (R r) j := by
  rw [raw24]
  simp only [tile22 H, H.w]
  rfl
/-- What the tile adds to the gradient of the weights. -/
theorem tile1 (s) (j : Fin 2048) (k : Fin 1024) :
    k0_pay1 (F := Ideal) (k0_pay12 (F := Ideal) a b c) (k0_pay23 (F := Ideal) (k0_pay14 (F := Ideal) a b c x w) (k0_pay15 (F := Ideal) a b c x w)
      (k0_pay20 (F := Ideal) a b c x w g t g) (k0_pay21 (F := Ideal) a b c x w g t g)) s (ix2 j k) = s (ix2 j k) + ∑ r, mix (R r) j * dpre W G (R r) k := by
  rw [raw1]
  simp only [raw23, tile22 H, H.mix]
/-- What the tile adds to the small sums: the scales' gradient in the first row, the loss in the second. -/
theorem tile39 (s) (q : Fin 8) (k : Fin 1024) :
    k0_pay39 (F := Ideal) (k0_pay17 (F := Ideal) a b c x w g t) (k0_pay19 (F := Ideal) a b c x w g t) s (ix2 q k) = s (ix2 q k) +
      (if q.val = 0 then ∑ r, dy W G (R r) k * (pre W (R r) k * Cert.In.inv (pre W (R r))) else if q.val = 1 then Ideal.ofBits .f32 0x3F000000#32 * ∑ r, loss W G (R r) else 0) := by
  rw [raw39, tile19 H, tile17 H]

section
theorem tile26 (hg0 : ∀ r j, g0 (ix2 r j) = (R r).g ⟨0 + j.val, by omega⟩)  (r : Fin 256) (j : Fin 768) : k0_pay26 (F := Ideal) (k0_pay3 (F := Ideal) g0) (k0_pay4 (F := Ideal) g0) (k0_pay14 (F := Ideal) a b c x w) (k0_pay15 (F := Ideal) a b c x w)
    (k0_pay20 (F := Ideal) a b c x w g t g) (k0_pay21 (F := Ideal) a b c x w g t g) w (ix2 r j) = dout W G (R r) ⟨0 + j.val, by omega⟩ := by
  rw [raw26, tile24 H, pay3, pay4, hg0]
  rfl
theorem tile27 (hg0 : ∀ r j, g0 (ix2 r j) = (R r).g ⟨0 + j.val, by omega⟩) (ho0 : ∀ r j, o0 (ix2 r j) = (R r).o ⟨0 + j.val, by omega⟩)  (r : Fin 256) (j : Fin 768) : k0_pay27 (F := Ideal) (k0_pay3 (F := Ideal) g0) (k0_pay4 (F := Ideal) g0) o0 (k0_pay14 (F := Ideal) a b c x w) (k0_pay15 (F := Ideal) a b c x w)
    (k0_pay20 (F := Ideal) a b c x w g t g) (k0_pay21 (F := Ideal) a b c x w g t g) w (ix2 r j) = dgate W G (R r) ⟨0 + j.val, by omega⟩ := by
  rw [raw27, tile24 H, pay3, pay4, hg0, ho0]
  rfl
theorem tile29 (hg1 : ∀ r j, g1 (ix2 r j) = (R r).g ⟨768 + j.val, by omega⟩)  (r : Fin 256) (j : Fin 768) : k0_pay29 (F := Ideal) (k0_pay5 (F := Ideal) g1) (k0_pay6 (F := Ideal) g1) (k0_pay14 (F := Ideal) a b c x w) (k0_pay15 (F := Ideal) a b c x w)
    (k0_pay20 (F := Ideal) a b c x w g t g) (k0_pay21 (F := Ideal) a b c x w g t g) w (ix2 r j) = dout W G (R r) ⟨768 + j.val, by omega⟩ := by
  rw [raw29, tile24 H, pay5, pay6, hg1]
  rfl
theorem tile33 (hg1 : ∀ r j, g1 (ix2 r j) = (R r).g ⟨768 + j.val, by omega⟩) (ho1 : ∀ r j, o1 (ix2 r j) = (R r).o ⟨768 + j.val, by omega⟩)  (r : Fin 256) (j : Fin 768) : k0_pay33 (F := Ideal) (k0_pay6 (F := Ideal) g1) (k0_pay30 (F := Ideal) o1 (k0_pay14 (F := Ideal) a b c x w) (k0_pay15 (F := Ideal) a b c x w)
    (k0_pay20 (F := Ideal) a b c x w g t g) (k0_pay21 (F := Ideal) a b c x w g t g) w) (k0_pay31 (F := Ideal) (k0_pay5 (F := Ideal) g1) (k0_pay6 (F := Ideal) g1)) (k0_pay32 (F := Ideal)) (ix2 r j) =
      dgate W G (R r) ⟨768 + j.val, by omega⟩ := by
  rw [raw33, tile24 H, pay5, pay6, hg1, ho1]
  rfl
theorem tile35 (hg2 : ∀ r j, g2 (ix2 r j) = (R r).g ⟨1536 + j.val, by omega⟩)  (r : Fin 256) (j : Fin 512) : k0_pay35 (F := Ideal) (k0_pay7 (F := Ideal) g2) (k0_pay8 (F := Ideal) g2) (k0_pay24 (F := Ideal) (k0_pay14 (F := Ideal) a b c x w)
    (k0_pay15 (F := Ideal) a b c x w) (k0_pay20 (F := Ideal) a b c x w g t g) (k0_pay21 (F := Ideal) a b c x w g t g) w) (ix2 r j) = dout W G (R r) ⟨1536 + j.val, by omega⟩ := by
  rw [raw35, tile24 H, pay7, pay8, hg2]
  rfl
theorem tile36 (hg2 : ∀ r j, g2 (ix2 r j) = (R r).g ⟨1536 + j.val, by omega⟩) (ho2 : ∀ r j, o2 (ix2 r j) = (R r).o ⟨1536 + j.val, by omega⟩)  (r : Fin 256) (j : Fin 512) : k0_pay36 (F := Ideal) (k0_pay7 (F := Ideal) g2) (k0_pay8 (F := Ideal) g2) o2 (k0_pay24 (F := Ideal) (k0_pay14 (F := Ideal) a b c x w)
    (k0_pay15 (F := Ideal) a b c x w) (k0_pay20 (F := Ideal) a b c x w g t g) (k0_pay21 (F := Ideal) a b c x w g t g) w) (ix2 r j) = dgate W G (R r) ⟨1536 + j.val, by omega⟩ := by
  rw [raw36, tile24 H, pay7, pay8, hg2, ho2]
  rfl
end
end
end Cert.Out
-- ==== Proof.Out.Case.lean ====
/-
  What the outputs' blocks hold after each tile of 256 tokens.
-/
module

public import proofs.«01_k».proof.Proof.Out.Tile
public import proofs.«01_k».proof.Proof.Gen.OutStepIdeal.Frame
public import proofs.«01_k».proof.Proof.Grad.Sum
import Idealize.ShloMosaic.Lib.Pipeline.ReadBack

@[expose] public section
set_option maxRecDepth 65536
noncomputable section
namespace Cert.Out
open Cert.OutStepIdeal Cert.OutStepIdeal.Gen Idealize.ShloMosaic Idealize.ShloMosaic.TcCoe Idealize.SL.Sem
open Idealize.ShloMosaic.Pointwise Cert.Grad

theorem cat0 (a b : Fin 768 → EReal) (c : Fin 512 → EReal) (j : Fin 768) : cat a b c ⟨0 + j.val, by omega⟩ = a j := by
  unfold cat
  rw [dif_pos (by show 0 + j.val < 768; omega)]
  exact congrArg a (Fin.ext (Nat.zero_add _))
theorem cat1 (a b : Fin 768 → EReal) (c : Fin 512 → EReal) (j : Fin 768) : cat a b c ⟨768 + j.val, by omega⟩ = b j := by
  unfold cat
  rw [dif_neg (by show ¬768 + j.val < 768; omega), dif_pos (by show 768 + j.val - 768 < 768; omega)]
  exact congrArg b (Fin.ext (by show 768 + j.val - 768 = j.val; omega))
theorem cat2 (a b : Fin 768 → EReal) (c : Fin 512 → EReal) (j : Fin 512) : cat a b c ⟨1536 + j.val, by omega⟩ = c j := by
  unfold cat
  rw [dif_neg (by show ¬1536 + j.val < 768; omega), dif_neg (by show ¬1536 + j.val - 768 < 768; omega)]
  exact congrArg c (Fin.ext (by show 1536 + j.val - 768 - 768 = j.val; omega))

variable (c : Dev nD) (t : Fin cfg0.N) (m : (ℓ : Loc nD τ sig) → Buf (Elt Ideal) ℓ)
/-- Row `r` of the tile. -/
def rt (r : Fin 256) : Row :=
  ⟨cat (fun j => (X0_0 m c t : FVec Ideal S256x768 .f32) (ix2 r j)) (fun j => (X0_1 m c t : FVec Ideal S256x768 .f32) (ix2 r j)) (fun j => (iblk m c 2 t : FVec Ideal S256x512 .f32) (ix2 r j)),
    cat (fun j => (iblk m c 3 t : FVec Ideal S256x768 .f32) (ix2 r j)) (fun j => (iblk m c 4 t : FVec Ideal S256x768 .f32) (ix2 r j)) (fun j => (iblk m c 5 t : FVec Ideal S256x512 .f32) (ix2 r j)),
    fun k => (iblk m c 7 t : FVec Ideal S256x1024 .f32) (ix2 r k), fun k => (iblk m c 8 t : FVec Ideal S256x1024 .f32) (ix2 r k)⟩
/-- The weights and the scales. -/
def wt (j : Fin 2048) (k : Fin 1024) : EReal := (iblk m c 6 t : FVec Ideal S2048x1024 .bf16) (ix2 j k)
def gt (k : Fin 1024) : EReal := (iblk m c 9 t : FVec Ideal S1x1024 .f32) (ix2 (0 : Fin 1) k)
theorem holds : Holds (k0_pay9 (F := Ideal) (X0_0 m c t) (iblk m c 3 t)) (k0_pay10 (F := Ideal) (X0_1 m c t) (iblk m c 4 t)) (k0_pay11 (F := Ideal) (iblk m c 2 t) (iblk m c 5 t))
    (iblk m c 6 t) (iblk m c 7 t) (iblk m c 8 t) (iblk m c 9 t) (rt c t m) (wt c t m) (gt c t m) where
  mix r j := pay_mix _ _ _ _ _ _ r j
  w j k := rfl
  x r k := rfl
  t r k := rfl
  g k := rfl

theorem rt_g0 (r : Fin 256) (j : Fin 768) : (X0_0 m c t : FVec Ideal S256x768 .f32) (ix2 r j) = (rt c t m r).g ⟨0 + j.val, by omega⟩ := by
  unfold rt
  dsimp only
  rw [cat0]
theorem rt_g1 (r : Fin 256) (j : Fin 768) : (X0_1 m c t : FVec Ideal S256x768 .f32) (ix2 r j) = (rt c t m r).g ⟨768 + j.val, by omega⟩ := by
  unfold rt
  dsimp only
  rw [cat1]
theorem rt_g2 (r : Fin 256) (j : Fin 512) : (iblk m c 2 t : FVec Ideal S256x512 .f32) (ix2 r j) = (rt c t m r).g ⟨1536 + j.val, by omega⟩ := by
  unfold rt
  dsimp only
  rw [cat2]
theorem rt_o0 (r : Fin 256) (j : Fin 768) : (iblk m c 3 t : FVec Ideal S256x768 .f32) (ix2 r j) = (rt c t m r).o ⟨0 + j.val, by omega⟩ := by
  unfold rt
  dsimp only
  rw [cat0]
theorem rt_o1 (r : Fin 256) (j : Fin 768) : (iblk m c 4 t : FVec Ideal S256x768 .f32) (ix2 r j) = (rt c t m r).o ⟨768 + j.val, by omega⟩ := by
  unfold rt
  dsimp only
  rw [cat1]
theorem rt_o2 (r : Fin 256) (j : Fin 512) : (iblk m c 5 t : FVec Ideal S256x512 .f32) (ix2 r j) = (rt c t m r).o ⟨1536 + j.val, by omega⟩ := by
  unfold rt
  dsimp only
  rw [cat2]

/-- A tile is the first one, one in the middle or the last one. -/
theorem three : (t.val % 16 = 0 ∧ ¬t.val % 16 = 15) ∨ (¬t.val % 16 = 0 ∧ ¬t.val % 16 = 15) ∨ (¬t.val % 16 = 0 ∧ t.val % 16 = 15) := by omega

/-- The tile's part of the small sums. -/
def small (W : Fin 2048 → Fin 1024 → EReal) (G : Fin 1024 → EReal) (R : Fin 256 → Row) (q : Fin 8) (k : Fin 1024) : EReal :=
  if q.val = 0 then ∑ r, dy W G (R r) k * (pre W (R r) k * Cert.In.inv (pre W (R r))) else if q.val = 1 then Ideal.ofBits .f32 0x3F000000#32 * ∑ r, loss W G (R r) else 0
/-- The tile's part of the weights' gradient. -/
def dwt (W : Fin 2048 → Fin 1024 → EReal) (G : Fin 1024 → EReal) (R : Fin 256 → Row) (j : Fin 2048) (k : Fin 1024) : EReal := ∑ r, mix (R r) j * dpre W G (R r) k

theorem out10 (r : Fin 256) (k : Fin 1024) : (outsAt0 m c t.val t.isLt).1 (ix2 r k) = dpre (wt c t m) (gt c t m) (rt c t m r) k := by
  obtain ⟨h0, h1⟩ | ⟨h0, h1⟩ | ⟨h0, h1⟩ := three t
  on_goal 1 => rw [outsAt0_A m c t h0 h1]
  on_goal 2 => rw [outsAt0_B m c t h0 h1]
  on_goal 3 => rw [outsAt0_C m c t h0 h1]
  all_goals
    dsimp only
    first | unfold out0_A_10 | unfold out0_B_10 | unfold out0_C_10
    rw [View.read_writes_junk_eq_canon]
    first | unfold kernelRun0_A | unfold kernelRun0_B | unfold kernelRun0_C
    dsimp only
    sl_unfold_words
    simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
    exact tile22 (holds c t m) r k
theorem out11 (r : Fin 256) (j : Fin 768) : (outsAt0 m c t.val t.isLt).2.1 (ix2 r j) = dout (wt c t m) (gt c t m) (rt c t m r) ⟨0 + j.val, by omega⟩ := by
  obtain ⟨h0, h1⟩ | ⟨h0, h1⟩ | ⟨h0, h1⟩ := three t
  on_goal 1 => rw [outsAt0_A m c t h0 h1]
  on_goal 2 => rw [outsAt0_B m c t h0 h1]
  on_goal 3 => rw [outsAt0_C m c t h0 h1]
  all_goals
    dsimp only
    first | unfold out0_A_11 | unfold out0_B_11 | unfold out0_C_11
    rw [View.read_writes_junk_eq_canon]
    first | unfold kernelRun0_A | unfold kernelRun0_B | unfold kernelRun0_C
    dsimp only
    sl_unfold_words
    simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
    exact tile26 (holds c t m) (rt_g0 c t m) r j
theorem out12 (r : Fin 256) (j : Fin 768) : (outsAt0 m c t.val t.isLt).2.2.1 (ix2 r j) = dout (wt c t m) (gt c t m) (rt c t m r) ⟨768 + j.val, by omega⟩ := by
  obtain ⟨h0, h1⟩ | ⟨h0, h1⟩ | ⟨h0, h1⟩ := three t
  on_goal 1 => rw [outsAt0_A m c t h0 h1]
  on_goal 2 => rw [outsAt0_B m c t h0 h1]
  on_goal 3 => rw [outsAt0_C m c t h0 h1]
  all_goals
    dsimp only
    first | unfold out0_A_12 | unfold out0_B_12 | unfold out0_C_12
    rw [View.read_writes_junk_eq_canon]
    first | unfold kernelRun0_A | unfold kernelRun0_B | unfold kernelRun0_C
    dsimp only
    sl_unfold_words
    simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
    exact tile29 (holds c t m) (rt_g1 c t m) r j
theorem out13 (r : Fin 256) (j : Fin 512) : (outsAt0 m c t.val t.isLt).2.2.2.1 (ix2 r j) = dout (wt c t m) (gt c t m) (rt c t m r) ⟨1536 + j.val, by omega⟩ := by
  obtain ⟨h0, h1⟩ | ⟨h0, h1⟩ | ⟨h0, h1⟩ := three t
  on_goal 1 => rw [outsAt0_A m c t h0 h1]
  on_goal 2 => rw [outsAt0_B m c t h0 h1]
  on_goal 3 => rw [outsAt0_C m c t h0 h1]
  all_goals
    dsimp only
    first | unfold out0_A_13 | unfold out0_B_13 | unfold out0_C_13
    rw [View.read_writes_junk_eq_canon]
    first | unfold kernelRun0_A | unfold kernelRun0_B | unfold kernelRun0_C
    dsimp only
    sl_unfold_words
    simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
    exact tile35 (holds c t m) (rt_g2 c t m) r j
theorem out14 (r : Fin 256) (j : Fin 768) : (outsAt0 m c t.val t.isLt).2.2.2.2.1 (ix2 r j) = dgate (wt c t m) (gt c t m) (rt c t m r) ⟨0 + j.val, by omega⟩ := by
  obtain ⟨h0, h1⟩ | ⟨h0, h1⟩ | ⟨h0, h1⟩ := three t
  on_goal 1 => rw [outsAt0_A m c t h0 h1]
  on_goal 2 => rw [outsAt0_B m c t h0 h1]
  on_goal 3 => rw [outsAt0_C m c t h0 h1]
  all_goals
    dsimp only
    first | unfold out0_A_14 | unfold out0_B_14 | unfold out0_C_14
    rw [View.read_writes_junk_eq_canon]
    first | unfold kernelRun0_A | unfold kernelRun0_B | unfold kernelRun0_C
    dsimp only
    sl_unfold_words
    simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
    exact tile27 (holds c t m) (rt_g0 c t m) (rt_o0 c t m) r j
theorem out15 (r : Fin 256) (j : Fin 768) : (outsAt0 m c t.val t.isLt).2.2.2.2.2.1 (ix2 r j) = dgate (wt c t m) (gt c t m) (rt c t m r) ⟨768 + j.val, by omega⟩ := by
  obtain ⟨h0, h1⟩ | ⟨h0, h1⟩ | ⟨h0, h1⟩ := three t
  on_goal 1 => rw [outsAt0_A m c t h0 h1]
  on_goal 2 => rw [outsAt0_B m c t h0 h1]
  on_goal 3 => rw [outsAt0_C m c t h0 h1]
  all_goals
    dsimp only
    first | unfold out0_A_15 | unfold out0_B_15 | unfold out0_C_15
    rw [View.read_writes_junk_eq_canon]
    first | unfold kernelRun0_A | unfold kernelRun0_B | unfold kernelRun0_C
    dsimp only
    sl_unfold_words
    simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
    exact tile33 (holds c t m) (rt_g1 c t m) (rt_o1 c t m) r j
theorem out16 (r : Fin 256) (j : Fin 512) : (outsAt0 m c t.val t.isLt).2.2.2.2.2.2.1 (ix2 r j) = dgate (wt c t m) (gt c t m) (rt c t m r) ⟨1536 + j.val, by omega⟩ := by
  obtain ⟨h0, h1⟩ | ⟨h0, h1⟩ | ⟨h0, h1⟩ := three t
  on_goal 1 => rw [outsAt0_A m c t h0 h1]
  on_goal 2 => rw [outsAt0_B m c t h0 h1]
  on_goal 3 => rw [outsAt0_C m c t h0 h1]
  all_goals
    dsimp only
    first | unfold out0_A_16 | unfold out0_B_16 | unfold out0_C_16
    rw [View.read_writes_junk_eq_canon]
    first | unfold kernelRun0_A | unfold kernelRun0_B | unfold kernelRun0_C
    dsimp only
    sl_unfold_words
    simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
    exact tile36 (holds c t m) (rt_g2 c t m) (rt_o2 c t m) r j
theorem first18 (h0 : t.val % 16 = 0) (h1 : ¬t.val % 16 = 15) (q : Fin 8) (k : Fin 1024) : (outsAt0 m c t.val t.isLt).2.2.2.2.2.2.2.2.1 (ix2 q k) = small (wt c t m) (gt c t m) (rt c t m) q k := by
  rw [outsAt0_A m c t h0 h1]
  dsimp only
  unfold out0_A_18
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  exact (tile39 (holds c t m) _ q k).trans (by rw [raw37, zero_add]; rfl)
theorem next18 (h0 : ¬t.val % 16 = 0) (q : Fin 8) (k : Fin 1024) : (outsAt0 m c t.val t.isLt).2.2.2.2.2.2.2.2.1 (ix2 q k) = (outsAt0 m c (t.val - 1) (Nat.lt_of_le_of_lt (Nat.sub_le _ _) t.isLt)).2.2.2.2.2.2.2.2.1 (ix2 q k) + small (wt c t m) (gt c t m) (rt c t m) q k := by
  by_cases h1 : t.val % 16 = 15
  on_goal 1 => rw [outsAt0_C m c t h0 h1]
  on_goal 2 => rw [outsAt0_B m c t h0 h1]
  all_goals
    dsimp only
    first | unfold out0_B_18 | unfold out0_C_18
    rw [View.read_writes_junk_eq_canon]
    first | unfold kernelRun0_B | unfold kernelRun0_C
    dsimp only
    sl_unfold_words
    simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
    exact tile39 (holds c t m) _ q k
theorem first17 (h0 : t.val % 16 = 0) (h1 : ¬t.val % 16 = 15) (j : Fin 2048) (k : Fin 1024) : (outsAt0 m c t.val t.isLt).2.2.2.2.2.2.2.2.2 (ix2 j k) = dwt (wt c t m) (gt c t m) (rt c t m) j k := by
  rw [outsAt0_A m c t h0 h1]
  dsimp only
  unfold sout0_A_0
  rw [View.read_writes_junk_eq_canon]
  unfold kernelRun0_A
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  exact (tile1 (holds c t m) _ j k).trans (by rw [raw38, zero_add]; rfl)
theorem next17 (h0 : ¬t.val % 16 = 0) (h1 : ¬t.val % 16 = 15) (j : Fin 2048) (k : Fin 1024) : (outsAt0 m c t.val t.isLt).2.2.2.2.2.2.2.2.2 (ix2 j k) = (outsAt0 m c (t.val - 1) (Nat.lt_of_le_of_lt (Nat.sub_le _ _) t.isLt)).2.2.2.2.2.2.2.2.2 (ix2 j k) + dwt (wt c t m) (gt c t m) (rt c t m) j k := by
  rw [outsAt0_B m c t h0 h1]
  dsimp only
  unfold sout0_B_0
  rw [View.read_writes_junk_eq_canon]
  unfold kernelRun0_B
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  exact tile1 (holds c t m) _ j k
theorem last17 (h0 : ¬t.val % 16 = 0) (h1 : t.val % 16 = 15) (j : Fin 2048) (k : Fin 1024) : (outsAt0 m c t.val t.isLt).2.2.2.2.2.2.2.1 (ix2 j k) = (outsAt0 m c (t.val - 1) (Nat.lt_of_le_of_lt (Nat.sub_le _ _) t.isLt)).2.2.2.2.2.2.2.2.2 (ix2 j k) + dwt (wt c t m) (gt c t m) (rt c t m) j k := by
  rw [outsAt0_C m c t h0 h1]
  dsimp only
  unfold out0_C_17
  rw [View.read_writes_junk_eq_canon]
  unfold kernelRun0_C
  dsimp only
  sl_unfold_words
  simp (discharger := decide) only [View.readAt_eq_ld, Memref.IsWhole.read_unread, View.readCov_cons_unit_lit', View.readCov_unit_lit', ↓ View.readCov_skip, View.readCov_fill, View.ld_unit_lit', View.canon_cons_unit_lit', View.readCov_cons_toLoadRect, read_unread_whole]
  exact (raw2 _ j k).trans (tile1 (holds c t m) _ j k)
end Cert.Out
-- ==== Proof.Out.Array.lean ====
/-
  The blocks that a tile of 256 tokens reads, as entries of the arguments, and the results' arrays.
-/
module

public import proofs.«01_k».proof.Proof.Out.Case
public import proofs.«01_k».proof.Proof.Out.Ref
public import proofs.«01_k».proof.Proof.Gen.OutStepIdeal.Value
public import Idealize.ShloMosaic.Lib.StableHlo.ReadAt
import Idealize.ShloMosaic.Lib.Pipeline.ReadBack

@[expose] public section
set_option maxRecDepth 65536
noncomputable section
namespace Cert.Out
open Cert.OutStepIdeal Cert.OutStepIdeal.Gen Idealize.ShloMosaic Idealize.ShloMosaic.TcCoe Idealize.SL.Sem
open Idealize.ShloMosaic.Pointwise

/-- Token `256 n + r`. -/
def tk (n : Fin 16) (r : Fin 256) : Fin 4096 := ⟨256 * n.val + r.val, by omega⟩
/-- The grid's point for tile `n`. -/
def pt (n : Fin 16) : Fin cfg0.N := (⟨n.val, by omega⟩ : Fin 16)
theorem idx0 (n : Fin 16) : win0_0.index (pt n) = ![n.val, 0] := by revert n; decide +kernel
theorem idx1 (n : Fin 16) : win0_1.index (pt n) = ![n.val, 1] := by revert n; decide +kernel
theorem idx2 (n : Fin 16) : win0_2.index (pt n) = ![n.val, 9] := by revert n; decide +kernel
theorem idx3 (n : Fin 16) : win0_3.index (pt n) = ![n.val, 0] := by revert n; decide +kernel
theorem idx4 (n : Fin 16) : win0_4.index (pt n) = ![n.val, 0] := by revert n; decide +kernel
theorem idx5 (n : Fin 16) : win0_5.index (pt n) = ![n.val, 0] := by revert n; decide +kernel
theorem idx6 (n : Fin 16) : win0_6.index (pt n) = ![0, 0] := by revert n; decide +kernel
theorem idx7 (n : Fin 16) : win0_7.index (pt n) = ![n.val, 0] := by revert n; decide +kernel
theorem idx8 (n : Fin 16) : win0_8.index (pt n) = ![n.val, 0] := by revert n; decide +kernel
theorem idx9 (n : Fin 16) : win0_9.index (pt n) = ![0, 0] := by revert n; decide +kernel
theorem idx10 (n : Fin 16) : win0_10.index (pt n) = ![n.val, 0] := by revert n; decide +kernel
theorem idx11 (n : Fin 16) : win0_11.index (pt n) = ![n.val, 0] := by revert n; decide +kernel
theorem idx12 (n : Fin 16) : win0_12.index (pt n) = ![n.val, 0] := by revert n; decide +kernel
theorem idx13 (n : Fin 16) : win0_13.index (pt n) = ![n.val, 0] := by revert n; decide +kernel
theorem idx14 (n : Fin 16) : win0_14.index (pt n) = ![n.val, 0] := by revert n; decide +kernel
theorem idx15 (n : Fin 16) : win0_15.index (pt n) = ![n.val, 0] := by revert n; decide +kernel
theorem idx16 (n : Fin 16) : win0_16.index (pt n) = ![n.val, 0] := by revert n; decide +kernel
theorem idx17 (n : Fin 16) : win0_17.index (pt n) = ![0, 0] := by revert n; decide +kernel
theorem idx18 (n : Fin 16) : win0_18.index (pt n) = ![0, 0] := by revert n; decide +kernel
theorem flush10 (n : Fin 16) : (cfg0.win 10).flush (pt n) = true := by revert n; decide +kernel
theorem flush11 (n : Fin 16) : (cfg0.win 11).flush (pt n) = true := by revert n; decide +kernel
theorem flush12 (n : Fin 16) : (cfg0.win 12).flush (pt n) = true := by revert n; decide +kernel
theorem flush13 (n : Fin 16) : (cfg0.win 13).flush (pt n) = true := by revert n; decide +kernel
theorem flush14 (n : Fin 16) : (cfg0.win 14).flush (pt n) = true := by revert n; decide +kernel
theorem flush15 (n : Fin 16) : (cfg0.win 15).flush (pt n) = true := by revert n; decide +kernel
theorem flush16 (n : Fin 16) : (cfg0.win 16).flush (pt n) = true := by revert n; decide +kernel
theorem only17 (n : Fin 16) : (cfg0.win 17).flush (pt n) = true → n = 15 := by revert n; decide +kernel
theorem only18 (n : Fin 16) : (cfg0.win 18).flush (pt n) = true → n = 15 := by revert n; decide +kernel
theorem last_17 (t : Fin cfg0.N) (h : (cfg0.win 17).flush t = true) : t = pt 15 := congrArg pt (only17 (⟨t.val, t.isLt⟩ : Fin 16) h)
theorem last_18 (t : Fin cfg0.N) (h : (cfg0.win 18).flush t = true) : t = pt 15 := congrArg pt (only18 (⟨t.val, t.isLt⟩ : Fin 16) h)
theorem flush17 : (cfg0.win 17).flush (pt 15) = true := by decide +kernel
theorem flush18 : (cfg0.win 18).flush (pt 15) = true := by decide +kernel

theorem rd2 (A : FVec Ideal S4096x5120 .f32) (n : Fin 16) (r : Fin 256) (j : Fin 512) :
    ((cfg0.win 2).blk (pt n)).view.read (Elt Ideal) A (ix2 r j) = A (ix2 (tk n r) (⟨4608 + j.val, by omega⟩ : Fin 5120)) := by
  unfold tk
  blk_ext [idx2 n]
theorem rd3 (A : FVec Ideal S4096x768 .f32) (n : Fin 16) (r : Fin 256) (j : Fin 768) :
    ((cfg0.win 3).blk (pt n)).view.read (Elt Ideal) A (ix2 r j) = A (ix2 (tk n r) j) := by
  unfold tk
  blk_ext [idx3 n]
theorem rd4 (A : FVec Ideal S4096x768 .f32) (n : Fin 16) (r : Fin 256) (j : Fin 768) :
    ((cfg0.win 4).blk (pt n)).view.read (Elt Ideal) A (ix2 r j) = A (ix2 (tk n r) j) := by
  unfold tk
  blk_ext [idx4 n]
theorem rd5 (A : FVec Ideal S4096x512 .f32) (n : Fin 16) (r : Fin 256) (j : Fin 512) :
    ((cfg0.win 5).blk (pt n)).view.read (Elt Ideal) A (ix2 r j) = A (ix2 (tk n r) j) := by
  unfold tk
  blk_ext [idx5 n]
theorem rd6 (A : FVec Ideal S2048x1024 .bf16) (n : Fin 16) (r : Fin 2048) (j : Fin 1024) :
    ((cfg0.win 6).blk (pt n)).view.read (Elt Ideal) A (ix2 r j) = A (ix2 r j) := by
  blk_ext [idx6 n]
theorem rd7 (A : FVec Ideal S4096x1024 .f32) (n : Fin 16) (r : Fin 256) (j : Fin 1024) :
    ((cfg0.win 7).blk (pt n)).view.read (Elt Ideal) A (ix2 r j) = A (ix2 (tk n r) j) := by
  unfold tk
  blk_ext [idx7 n]
theorem rd8 (A : FVec Ideal S4096x1024 .f32) (n : Fin 16) (r : Fin 256) (j : Fin 1024) :
    ((cfg0.win 8).blk (pt n)).view.read (Elt Ideal) A (ix2 r j) = A (ix2 (tk n r) j) := by
  unfold tk
  blk_ext [idx8 n]
theorem rd9 (A : FVec Ideal S1x1024 .f32) (n : Fin 16) (r : Fin 1) (j : Fin 1024) :
    ((cfg0.win 9).blk (pt n)).view.read (Elt Ideal) A (ix2 r j) = A (ix2 r j) := by
  blk_ext [idx9 n]

/-- The gates side by side, 3072 columns of zeros before the last. -/
def packP (p q : FVec Ideal S4096x768 .f32) (s : FVec Ideal S4096x512 .f32) : FVec Ideal S4096x5120 .f32 :=
  concatenate S4096x5120 1 [⟨S4096x768, p⟩, ⟨S4096x768, q⟩, ⟨S4096x3072, broadcastInDim S4096x3072 ![] bcast_S_S4096x3072 (constant S_ .f32 0x00000000#32)⟩, ⟨S4096x512, s⟩]
    concatenates_S4096x768_S4096x768_S4096x3072_S4096x512_S4096x5120_d1
theorem packP_apply (p q s) (t : Fin 4096) (j : Fin 5120) : packP p q s (ix2 t j) = (if h : j.val < 768 then p (ix2 t ⟨j.val, h⟩) else if h : j.val - 768 < 768 then q (ix2 t ⟨j.val - 768, h⟩)
    else if h : j.val - 768 - 768 < 3072 then 0 else s (ix2 t ⟨j.val - 768 - 768 - 3072, by omega⟩)) := by
  pointwise [packP]
section
variable (p q : FVec Ideal S4096x768 .f32) (s : FVec Ideal S4096x512 .f32) (t : Fin 4096)
theorem packP_0 (j : Fin 768) : packP p q s (ix2 t (⟨0 + j.val, by omega⟩ : Fin 5120)) = p (ix2 t j) := by
  rw [packP_apply, dif_pos (by simp only []; omega)]
  exact congrArg p (congrArg (ix2 t) (Fin.ext (by simp only []; omega)))
theorem packP_1 (j : Fin 768) : packP p q s (ix2 t (⟨768 + j.val, by omega⟩ : Fin 5120)) = q (ix2 t j) := by
  rw [packP_apply, dif_neg (by simp only []; omega), dif_pos (by simp only []; omega)]
  exact congrArg q (congrArg (ix2 t) (Fin.ext (by simp only []; omega)))
theorem packP_3 (j : Fin 512) : packP p q s (ix2 t (⟨4608 + j.val, by omega⟩ : Fin 5120)) = s (ix2 t j) := by
  rw [packP_apply, dif_neg (by simp only []; omega), dif_neg (by simp only []; omega), dif_neg (by simp only []; omega)]
  exact congrArg s (congrArg (ix2 t) (Fin.ext (by simp only []; omega)))
end

variable (c : Dev nD) (m : (ℓ : Loc nD τ sig) → Buf (Elt Ideal) ℓ)
theorem host_p : V m c main_v1 = packP (V m c main_arg0) (V m c main_arg1) (V m c main_arg2) := by
  unfold V packP
  after_reads_simp
  rfl
theorem host_w : V m c main_v2 = (truncf .bf16 (V m c main_arg6 : FVec Ideal S2048x1024 .f32) bitsLt_bf16_f32 : FVec Ideal S2048x1024 .bf16) := by
  unfold V
  after_reads_simp
theorem x0_eq (n : Fin 16) (r : Fin 256) (j : Fin 768) : (X0_0 m c (pt n) : FVec Ideal S256x768 .f32) (ix2 r j) = (V m c main_v1 : FVec Ideal S4096x5120 .f32) (ix2 (tk n r) (⟨0 + j.val, by omega⟩ : Fin 5120)) := by
  unfold X0_0 tk Pipeline.Window.fill
  rw [dif_pos (moved0_0 (pt n) (ix2 r j))]
  unfold iblk
  blk_ext [idx0 n]
theorem x1_eq (n : Fin 16) (r : Fin 256) (j : Fin 768) : (X0_1 m c (pt n) : FVec Ideal S256x768 .f32) (ix2 r j) = (V m c main_v1 : FVec Ideal S4096x5120 .f32) (ix2 (tk n r) (⟨768 + j.val, by omega⟩ : Fin 5120)) := by
  unfold X0_1 tk Pipeline.Window.fill
  rw [dif_pos (moved0_1 (pt n) (ix2 r j))]
  unfold iblk
  blk_ext [idx1 n]

/-- Token `p`, the weights and the scales, from the arguments. -/
def rowK (p : Fin 4096) : Row :=
  Ref.row (V m c main_arg0) (V m c main_arg1) (V m c main_arg2) (V m c main_arg3) (V m c main_arg4) (V m c main_arg5) (V m c main_arg7) (V m c main_arg8) p
def wK : Fin 2048 → Fin 1024 → EReal := Ref.W (V m c main_arg6)
def gK : Fin 1024 → EReal := Ref.G (V m c main_arg9)
theorem rt_eq (n : Fin 16) (r : Fin 256) : rt c (pt n) m r = rowK c m (tk n r) := by
  unfold rt rowK Ref.row
  have e0 : (fun j => (X0_0 m c (pt n) : FVec Ideal S256x768 .f32) (ix2 r j)) = fun j => (V m c main_arg0 : FVec Ideal S4096x768 .f32) (ix2 (tk n r) j) :=
    funext fun j => (x0_eq c m n r j).trans ((congrFun (host_p c m) _).trans (packP_0 _ _ _ _ j))
  have e1 : (fun j => (X0_1 m c (pt n) : FVec Ideal S256x768 .f32) (ix2 r j)) = fun j => (V m c main_arg1 : FVec Ideal S4096x768 .f32) (ix2 (tk n r) j) :=
    funext fun j => (x1_eq c m n r j).trans ((congrFun (host_p c m) _).trans (packP_1 _ _ _ _ j))
  have e2 : (fun j => (iblk m c 2 (pt n) : FVec Ideal S256x512 .f32) (ix2 r j)) = fun j => (V m c main_arg2 : FVec Ideal S4096x512 .f32) (ix2 (tk n r) j) :=
    funext fun j => (rd2 (V m c main_v1) n r j).trans ((congrFun (host_p c m) _).trans (packP_3 _ _ _ _ j))
  have e3 : (fun j => (iblk m c 3 (pt n) : FVec Ideal S256x768 .f32) (ix2 r j)) = fun j => (V m c main_arg3 : FVec Ideal S4096x768 .f32) (ix2 (tk n r) j) :=
    funext fun j => rd3 (V m c main_arg3) n r j
  have e4 : (fun j => (iblk m c 4 (pt n) : FVec Ideal S256x768 .f32) (ix2 r j)) = fun j => (V m c main_arg4 : FVec Ideal S4096x768 .f32) (ix2 (tk n r) j) :=
    funext fun j => rd4 (V m c main_arg4) n r j
  have e5 : (fun j => (iblk m c 5 (pt n) : FVec Ideal S256x512 .f32) (ix2 r j)) = fun j => (V m c main_arg5 : FVec Ideal S4096x512 .f32) (ix2 (tk n r) j) :=
    funext fun j => rd5 (V m c main_arg5) n r j
  have e7 : (fun j => (iblk m c 7 (pt n) : FVec Ideal S256x1024 .f32) (ix2 r j)) = fun j => (V m c main_arg7 : FVec Ideal S4096x1024 .f32) (ix2 (tk n r) j) :=
    funext fun j => rd7 (V m c main_arg7) n r j
  have e8 : (fun j => (iblk m c 8 (pt n) : FVec Ideal S256x1024 .f32) (ix2 r j)) = fun j => (V m c main_arg8 : FVec Ideal S4096x1024 .f32) (ix2 (tk n r) j) :=
    funext fun j => rd8 (V m c main_arg8) n r j
  rw [e0, e1, e2, e3, e4, e5, e7, e8]
theorem wt_eq (n : Fin 16) : wt c (pt n) m = wK c m :=
  funext fun j => funext fun k => (rd6 (V m c main_v2) n j k).trans (congrFun (host_w c m) _)
theorem gt_eq (n : Fin 16) : gt c (pt n) m = gK c m :=
  funext fun k => rd9 (V m c main_arg9) n 0 k

theorem array10 (n : Fin 16) (r : Fin 256) (k : Fin 1024) : (dats m 0 c).arrAt 10 cfg0.N (ix2 (tk n r) k) = dpre (wK c m) (gK c m) (rowK c m (tk n r)) k := by
  have H := (dats m 0 c).arrAt_emb_eq_flushed 10 (Value.disjoint10) (pt n) (flush10 n) (ix2 r k)
  rw [Value.flushed10] at H
  have E : ((cfg0.win 10).blk (pt n)).view.emb (ix2 r k) = ix2 (tk n r) k := by
    unfold tk
    blk_ext [idx10 n]
  rw [E] at H
  refine H.trans ((out10 c (pt n) m r k).trans ?_)
  rw [rt_eq, wt_eq, gt_eq]
theorem array11 (n : Fin 16) (r : Fin 256) (j : Fin 768) : (dats m 0 c).arrAt 11 cfg0.N (ix2 (tk n r) j) = dout (wK c m) (gK c m) (rowK c m (tk n r)) ⟨0 + j.val, by omega⟩ := by
  have H := (dats m 0 c).arrAt_emb_eq_flushed 11 (Value.disjoint11) (pt n) (flush11 n) (ix2 r j)
  rw [Value.flushed11] at H
  have E : ((cfg0.win 11).blk (pt n)).view.emb (ix2 r j) = ix2 (tk n r) j := by
    unfold tk
    blk_ext [idx11 n]
  rw [E] at H
  refine H.trans ((out11 c (pt n) m r j).trans ?_)
  rw [rt_eq, wt_eq, gt_eq]
theorem array12 (n : Fin 16) (r : Fin 256) (j : Fin 768) : (dats m 0 c).arrAt 12 cfg0.N (ix2 (tk n r) j) = dout (wK c m) (gK c m) (rowK c m (tk n r)) ⟨768 + j.val, by omega⟩ := by
  have H := (dats m 0 c).arrAt_emb_eq_flushed 12 (Value.disjoint12) (pt n) (flush12 n) (ix2 r j)
  rw [Value.flushed12] at H
  have E : ((cfg0.win 12).blk (pt n)).view.emb (ix2 r j) = ix2 (tk n r) j := by
    unfold tk
    blk_ext [idx12 n]
  rw [E] at H
  refine H.trans ((out12 c (pt n) m r j).trans ?_)
  rw [rt_eq, wt_eq, gt_eq]
theorem array13 (n : Fin 16) (r : Fin 256) (j : Fin 512) : (dats m 0 c).arrAt 13 cfg0.N (ix2 (tk n r) j) = dout (wK c m) (gK c m) (rowK c m (tk n r)) ⟨1536 + j.val, by omega⟩ := by
  have H := (dats m 0 c).arrAt_emb_eq_flushed 13 (Value.disjoint13) (pt n) (flush13 n) (ix2 r j)
  rw [Value.flushed13] at H
  have E : ((cfg0.win 13).blk (pt n)).view.emb (ix2 r j) = ix2 (tk n r) j := by
    unfold tk
    blk_ext [idx13 n]
  rw [E] at H
  refine H.trans ((out13 c (pt n) m r j).trans ?_)
  rw [rt_eq, wt_eq, gt_eq]
theorem array14 (n : Fin 16) (r : Fin 256) (j : Fin 768) : (dats m 0 c).arrAt 14 cfg0.N (ix2 (tk n r) j) = dgate (wK c m) (gK c m) (rowK c m (tk n r)) ⟨0 + j.val, by omega⟩ := by
  have H := (dats m 0 c).arrAt_emb_eq_flushed 14 (Value.disjoint14) (pt n) (flush14 n) (ix2 r j)
  rw [Value.flushed14] at H
  have E : ((cfg0.win 14).blk (pt n)).view.emb (ix2 r j) = ix2 (tk n r) j := by
    unfold tk
    blk_ext [idx14 n]
  rw [E] at H
  refine H.trans ((out14 c (pt n) m r j).trans ?_)
  rw [rt_eq, wt_eq, gt_eq]
theorem array15 (n : Fin 16) (r : Fin 256) (j : Fin 768) : (dats m 0 c).arrAt 15 cfg0.N (ix2 (tk n r) j) = dgate (wK c m) (gK c m) (rowK c m (tk n r)) ⟨768 + j.val, by omega⟩ := by
  have H := (dats m 0 c).arrAt_emb_eq_flushed 15 (Value.disjoint15) (pt n) (flush15 n) (ix2 r j)
  rw [Value.flushed15] at H
  have E : ((cfg0.win 15).blk (pt n)).view.emb (ix2 r j) = ix2 (tk n r) j := by
    unfold tk
    blk_ext [idx15 n]
  rw [E] at H
  refine H.trans ((out15 c (pt n) m r j).trans ?_)
  rw [rt_eq, wt_eq, gt_eq]
theorem array16 (n : Fin 16) (r : Fin 256) (j : Fin 512) : (dats m 0 c).arrAt 16 cfg0.N (ix2 (tk n r) j) = dgate (wK c m) (gK c m) (rowK c m (tk n r)) ⟨1536 + j.val, by omega⟩ := by
  have H := (dats m 0 c).arrAt_emb_eq_flushed 16 (Value.disjoint16) (pt n) (flush16 n) (ix2 r j)
  rw [Value.flushed16] at H
  have E : ((cfg0.win 16).blk (pt n)).view.emb (ix2 r j) = ix2 (tk n r) j := by
    unfold tk
    blk_ext [idx16 n]
  rw [E] at H
  refine H.trans ((out16 c (pt n) m r j).trans ?_)
  rw [rt_eq, wt_eq, gt_eq]

/-- The last of a run of partial sums. -/
theorem partial_sum : (N : ℕ) → (a : (n : ℕ) → n < N + 1 → EReal) → (f : Fin (N + 1) → EReal) → a 0 (Nat.succ_pos N) = f 0 →
    (∀ n (hn : n + 1 < N + 1), a (n + 1) hn = a n (Nat.lt_of_succ_lt hn) + f ⟨n + 1, hn⟩) → a N (Nat.lt_succ_self N) = ∑ n, f n
  | 0, a, f, h0, _ => h0.trans (Fin.sum_univ_one f).symm
  | N + 1, a, f, h0, h => by
    rw [Fin.sum_univ_castSucc]
    exact (h N (Nat.lt_succ_self _)).trans (congrArg (· + f ⟨N + 1, Nat.lt_succ_self _⟩)
      (partial_sum N (fun n hn => a n (Nat.lt_succ_of_lt hn)) (fun n => f n.castSucc) h0 fun n hn => h n (Nat.lt_succ_of_lt hn)))

/-- What tile `n` adds to the small sums and to the gradient of the weights. -/
def smallK (n : Fin 16) (q : Fin 8) (k : Fin 1024) : EReal := small (wK c m) (gK c m) (fun r => rowK c m (tk n r)) q k
def dwK (n : Fin 16) (j : Fin 2048) (k : Fin 1024) : EReal := dwt (wK c m) (gK c m) (fun r => rowK c m (tk n r)) j k
theorem small_eq (n : Fin 16) (q : Fin 8) (k : Fin 1024) : small (wt c (pt n) m) (gt c (pt n) m) (rt c (pt n) m) q k = smallK c m n q k := by
  unfold smallK
  rw [wt_eq, gt_eq, ← funext fun r => rt_eq c m n r]
theorem dw_eq (n : Fin 16) (j : Fin 2048) (k : Fin 1024) : dwt (wt c (pt n) m) (gt c (pt n) m) (rt c (pt n) m) j k = dwK c m n j k := by
  unfold dwK
  rw [wt_eq, gt_eq, ← funext fun r => rt_eq c m n r]
theorem total18 (q : Fin 8) (k : Fin 1024) : (outsAt0 m c 15 (by decide)).2.2.2.2.2.2.2.2.1 (ix2 q k) = ∑ n : Fin 16, smallK c m n q k :=
  partial_sum 15 (fun n hn => (outsAt0 m c n hn).2.2.2.2.2.2.2.2.1 (ix2 q k)) (fun n => smallK c m n q k)
    ((first18 c (pt 0) m (by decide) (by decide) q k).trans (small_eq c m 0 q k)) fun n hn =>
      (next18 c (pt ⟨n + 1, hn⟩) m (by show ¬(n + 1) % 16 = 0; omega) q k).trans (congrArg₂ (· + ·) rfl (small_eq c m ⟨n + 1, hn⟩ q k))
theorem part17 (j : Fin 2048) (k : Fin 1024) : (outsAt0 m c 14 (by decide)).2.2.2.2.2.2.2.2.2 (ix2 j k) = ∑ n : Fin 15, dwK c m n.castSucc j k :=
  partial_sum 14 (fun n hn => (outsAt0 m c n (Nat.lt_succ_of_lt hn)).2.2.2.2.2.2.2.2.2 (ix2 j k)) (fun n => dwK c m n.castSucc j k)
    ((first17 c (pt 0) m (by decide) (by decide) j k).trans (dw_eq c m 0 j k)) fun n hn =>
      (next17 c (pt ⟨n + 1, Nat.lt_succ_of_lt hn⟩) m (by show ¬(n + 1) % 16 = 0; omega) (by show ¬(n + 1) % 16 = 15; omega) j k).trans
        (congrArg₂ (· + ·) rfl (dw_eq c m ⟨n + 1, Nat.lt_succ_of_lt hn⟩ j k))
theorem total17 (j : Fin 2048) (k : Fin 1024) : (outsAt0 m c 15 (by decide)).2.2.2.2.2.2.2.1 (ix2 j k) = ∑ n : Fin 16, dwK c m n j k := by
  rw [Fin.sum_univ_castSucc]
  exact (last17 c (pt 15) m (by decide) (by decide) j k).trans (congrArg₂ (· + ·) (part17 c m j k) (dw_eq c m 15 j k))
theorem array17 (j : Fin 2048) (k : Fin 1024) : (dats m 0 c).arrAt 17 cfg0.N (ix2 j k) = ∑ n : Fin 16, dwK c m n j k := by
  have H := (dats m 0 c).arrAt_emb_eq_flushed 17 (fun t t' h h' e => absurd ((last_17 t h).trans (last_17 t' h').symm) e) (pt 15) flush17 (ix2 j k)
  rw [Value.flushed17] at H
  have E : ((cfg0.win 17).blk (pt 15)).view.emb (ix2 j k) = ix2 j k := by
    blk_ext [idx17 15]
  rw [E] at H
  exact H.trans (total17 c m j k)
theorem array18 (q : Fin 8) (k : Fin 1024) : (dats m 0 c).arrAt 18 cfg0.N (ix2 q k) = ∑ n : Fin 16, smallK c m n q k := by
  have H := (dats m 0 c).arrAt_emb_eq_flushed 18 (fun t t' h h' e => absurd ((last_18 t h).trans (last_18 t' h').symm) e) (pt 15) flush18 (ix2 q k)
  rw [Value.flushed18] at H
  have E : ((cfg0.win 18).blk (pt 15)).view.emb (ix2 q k) = ix2 q k := by
    blk_ext [idx18 15]
  rw [E] at H
  exact H.trans (total18 c m q k)
end Cert.Out
-- ==== Proof.Out.Finite.lean ====
/-
  The output projection's precondition says that every entry of its arguments is a real.
-/
module

public import proofs.«01_k».proof.Proof.In.Finite

@[expose] public section
set_option maxRecDepth 65536
noncomputable section
namespace Cert.Out
open Idealize.ShloMosaic Idealize.ShloMosaic.TcCoe Idealize.SL.Sem Cert.In

/-- The side conditions of the precondition's operations. -/
theorem preFacts : Cert.Pre_out_finite.Facts where
  bcast_S_S4096x768 := by decide
  reducesTo_S4096x768_S_d0_1 := by decide
  h_S_ := by decide
  bcast_S_S4096x512 := by decide
  reducesTo_S4096x512_S_d0_1 := by decide
  bcast_S_S2048x1024 := by decide
  reducesTo_S2048x1024_S_d0_1 := by decide
  bcast_S_S4096x1024 := by decide
  reducesTo_S4096x1024_S_d0_1 := by decide
  bcast_S_S1x1024 := by decide
  reducesTo_S1x1024_S_d0_1 := by decide

open Cert.Pre_out_finite in
theorem finite_of_pre (x0 : FVec Ideal S4096x768 .f32) (x1 : FVec Ideal S4096x768 .f32) (x2 : FVec Ideal S4096x512 .f32) (x3 : FVec Ideal S4096x768 .f32) (x4 : FVec Ideal S4096x768 .f32) (x5 : FVec Ideal S4096x512 .f32)
    (x6 : FVec Ideal S2048x1024 .f32) (x7 : FVec Ideal S4096x1024 .f32) (x8 : FVec Ideal S4096x1024 .f32) (x9 : FVec Ideal S1x1024 .f32)
    (h : @Cert.Pre_out_finite.fn preFacts Ideal _ x0 x1 x2 x3 x4 x5 x6 x7 x8 x9 = fun _ => 1#1) :
    Finite x0 ∧ Finite x1 ∧ Finite x2 ∧ Finite x3 ∧ Finite x4 ∧ Finite x5 ∧ Finite x6 ∧ Finite x7 ∧ Finite x8 ∧ Finite x9 := by
  have two : ∀ a b : BitVec 1, IntOp.andi a b = 1#1 → a = 1#1 ∧ b = 1#1 := by decide
  have hs : Subsingleton S_.Idx := ⟨fun a b => funext fun k => k.elim0⟩
  have H := congrFun h (fun k => k.elim0)
  obtain ⟨H, H9⟩ := two _ _ H
  obtain ⟨H, H8⟩ := two _ _ H
  obtain ⟨H, H7⟩ := two _ _ H
  obtain ⟨H, H6⟩ := two _ _ H
  obtain ⟨H, H5⟩ := two _ _ H
  obtain ⟨H, H4⟩ := two _ _ H
  obtain ⟨H, H3⟩ := two _ _ H
  obtain ⟨H, H2⟩ := two _ _ H
  obtain ⟨H0, H1⟩ := two _ _ H
  exact ⟨fun i => Mem.real_of_abs _ (Host.reduce_andi_all _ _ _ _ _ H0 i),
    fun i => Mem.real_of_abs _ (Host.reduce_andi_all _ _ _ _ _ H1 i),
    fun i => Mem.real_of_abs _ (Host.reduce_andi_all _ _ _ _ _ H2 i),
    fun i => Mem.real_of_abs _ (Host.reduce_andi_all _ _ _ _ _ H3 i),
    fun i => Mem.real_of_abs _ (Host.reduce_andi_all _ _ _ _ _ H4 i),
    fun i => Mem.real_of_abs _ (Host.reduce_andi_all _ _ _ _ _ H5 i),
    fun i => Mem.real_of_abs _ (Host.reduce_andi_all _ _ _ _ _ H6 i),
    fun i => Mem.real_of_abs _ (Host.reduce_andi_all _ _ _ _ _ H7 i),
    fun i => Mem.real_of_abs _ (Host.reduce_andi_all _ _ _ _ _ H8 i),
    fun i => Mem.real_of_abs _ (Host.reduce_andi_all _ _ _ _ _ H9 i)⟩
end Cert.Out
-- ==== Proof.Out.Equation.lean ====
/-
  The kernel's nine results are the reference's.
-/
module

public import proofs.«01_k».proof.Proof.Out.Real
public import proofs.«01_k».proof.Proof.Out.Array
public import proofs.«01_k».proof.Proof.Out.Finite

@[expose] public section
set_option maxRecDepth 65536
noncomputable section
namespace Cert.Out
open Cert.OutStepIdeal Cert.OutStepIdeal.Gen Idealize.ShloMosaic Idealize.ShloMosaic.TcCoe Idealize.SL.Sem
open Idealize.ShloMosaic.Pointwise Cert.Grad Cert.Soft Cert.Out.Ref Cert.OutStepRefIdeal.Read
open Cert.In (Finite)

theorem cat_fn {a b : Fin 768 → EReal} {c : Fin 512 → EReal} (ha : Fn a) (hb : Fn b) (hc : Fn c) : Fn (cat a b c) := by
  obtain ⟨a, rfl⟩ := ha
  obtain ⟨b, rfl⟩ := hb
  obtain ⟨c, rfl⟩ := hc
  refine ⟨fun j => if h : j.val < 768 then a ⟨j.val, h⟩ else if h : j.val - 768 < 768 then b ⟨j.val - 768, h⟩ else c ⟨j.val - 768 - 768, by omega⟩, funext fun j => ?_⟩
  unfold cat
  by_cases h : j.val < 768
  · simp only [dif_pos h]
  · simp only [dif_neg h]
    by_cases h' : j.val - 768 < 768
    · simp only [dif_pos h']
    · simp only [dif_neg h']
theorem row_fn {M N : ℕ} {x : FVec Ideal (⟨2, ![M, N]⟩ : Shape) .f32} (h : Finite x) (p : Fin M) : Fn fun j : Fin N => x (ix2 p j) := by
  choose a ha using h
  exact ⟨fun j => a (ix2 p j), funext fun j => ha _⟩
theorem col_fn {M N : ℕ} {x : FVec Ideal (⟨2, ![M, N]⟩ : Shape) .f32} (h : Finite x) (j : Fin N) : Fn fun p : Fin M => x (ix2 p j) := by
  choose a ha using h
  exact ⟨fun p => a (ix2 p j), funext fun p => ha _⟩

/-- What sixteen tiles add is the sum over all tokens. -/
theorem sixteen (f : Fin 4096 → EReal) : ∑ n : Fin 16, ∑ r : Fin 256, f (tk n r) = ∑ p : Fin 4096, f p :=
  Fin.sum_mul_add_congr fun n t hl => congrArg f (Fin.ext (by simp only [tk]; omega))
/-- The same, every tile's part halved. -/
theorem sixteen_half (f : Fin 4096 → EReal) (hf : ∀ p, ∃ r : ℝ, f p = (r : EReal)) :
    ∑ n : Fin 16, Ideal.ofBits .f32 0x3F000000#32 * ∑ r : Fin 256, f (tk n r) = Ideal.ofBits .f32 0x3F000000#32 * ∑ p : Fin 4096, f p := by
  rw [← sixteen, cHalf]
  choose a ha using hf
  simp only [ha]
  have e : ∀ n : Fin 16, ∑ r : Fin 256, (a (tk n r) : EReal) = ((∑ r : Fin 256, a (tk n r) : ℝ) : EReal) := fun n => (coe_sum _ _).symm
  simp only [e]
  rw [← coe_sum, ← EReal.coe_mul, Finset.mul_sum, coe_sum]
  exact Finset.sum_congr rfl fun n _ => (EReal.coe_mul _ _).symm
theorem sixteen_zero : ∑ _n : Fin 16, (0 : EReal) = 0 := Finset.sum_const_zero
/-- Every token lies in a tile. -/
theorem tile_of (p : Fin 4096) : ∃ n r, p = tk n r := ⟨⟨p.val / 256, by omega⟩, ⟨p.val % 256, by omega⟩, Fin.ext (by simp only [tk]; omega)⟩

section
variable {x0 x1 : FVec Ideal S4096x768 .f32} {x2 : FVec Ideal S4096x512 .f32} {x3 x4 : FVec Ideal S4096x768 .f32} {x5 : FVec Ideal S4096x512 .f32} {x6 : FVec Ideal S2048x1024 .f32} {x7 x8 : FVec Ideal S4096x1024 .f32} {x9 : FVec Ideal S1x1024 .f32}
theorem row_real (h0 : Finite x0) (h1 : Finite x1) (h2 : Finite x2) (h3 : Finite x3) (h4 : Finite x4) (h5 : Finite x5) (h7 : Finite x7) (h8 : Finite x8) (p : Fin 4096) :
    RealRow (row x0 x1 x2 x3 x4 x5 x7 x8 p) where
  g := cat_fn (row_fn h0 p) (row_fn h1 p) (row_fn h2 p)
  o := cat_fn (row_fn h3 p) (row_fn h4 p) (row_fn h5 p)
  x := row_fn h7 p
  t := row_fn h8 p
theorem w_fn (h6 : Finite x6) (k : Fin 1024) : Fn fun j => W x6 j k := col_fn h6 k
theorem w_fn' (h6 : Finite x6) (j : Fin 2048) : Fn (W x6 j) := row_fn h6 j
theorem g_fn (h9 : Finite x9) : Fn (G x9) := row_fn h9 0
end

variable (c : Dev nD) (m : (ℓ : Loc nD τ sig) → Buf (Elt Ideal) ℓ)
variable {x0 x1 : FVec Ideal S4096x768 .f32} {x2 : FVec Ideal S4096x512 .f32} {x3 x4 : FVec Ideal S4096x768 .f32} {x5 : FVec Ideal S4096x512 .f32} {x6 : FVec Ideal S2048x1024 .f32} {x7 x8 : FVec Ideal S4096x1024 .f32} {x9 : FVec Ideal S1x1024 .f32}
  (e0 : V m c main_arg0 = x0) (e1 : V m c main_arg1 = x1) (e2 : V m c main_arg2 = x2) (e3 : V m c main_arg3 = x3) (e4 : V m c main_arg4 = x4) (e5 : V m c main_arg5 = x5) (e6 : V m c main_arg6 = x6) (e7 : V m c main_arg7 = x7) (e8 : V m c main_arg8 = x8) (e9 : V m c main_arg9 = x9)
  (h0 : Finite x0) (h1 : Finite x1) (h2 : Finite x2) (h3 : Finite x3) (h4 : Finite x4) (h5 : Finite x5) (h6 : Finite x6) (h7 : Finite x7) (h8 : Finite x8) (h9 : Finite x9)
include e0 e1 e2 e3 e4 e5 e6 e7 e8 e9 h0 h1 h2 h3 h4 h5 h6 h7 h8 h9
theorem pre_eq : (dats m 0 c).arrAt 10 cfg0.N = val_main_v57 (F := Ideal) x0 x1 x2 x3 x4 x5 x6 x7 x8 x9 :=
  ext2 _ _ fun p k => by
    obtain ⟨n, r, rfl⟩ := tile_of p
    refine (array10 c m n r k).trans ?_
    rw [r57]
    subst e0 e1 e2 e3 e4 e5 e6 e7 e8 e9
    exact (congrFun (dpre_eq (w_fn h6) (g_fn h9) (row_real h0 h1 h2 h3 h4 h5 h7 h8 _)) k).symm
theorem out0_eq : (dats m 0 c).arrAt 11 cfg0.N = val_main_v76 (F := Ideal) x0 x1 x2 x3 x4 x5 x6 x7 x8 x9 :=
  ext2 _ _ fun p j => by
    obtain ⟨n, r, rfl⟩ := tile_of p
    refine (array11 c m n r j).trans ?_
    rw [r76, r60, ← cat0 (fun j => x0 (ix2 (tk n r) j)) (fun j => x1 (ix2 (tk n r) j)) (fun j => x2 (ix2 (tk n r) j)) j]
    subst e0 e1 e2 e3 e4 e5 e6 e7 e8 e9
    exact (dout_eq (w_fn h6) (g_fn h9) (row_real h0 h1 h2 h3 h4 h5 h7 h8 _) ⟨0 + j.val, by omega⟩).symm
theorem out1_eq : (dats m 0 c).arrAt 12 cfg0.N = val_main_v77 (F := Ideal) x0 x1 x2 x3 x4 x5 x6 x7 x8 x9 :=
  ext2 _ _ fun p j => by
    obtain ⟨n, r, rfl⟩ := tile_of p
    refine (array12 c m n r j).trans ?_
    rw [r77, r60, ← cat1 (fun j => x0 (ix2 (tk n r) j)) (fun j => x1 (ix2 (tk n r) j)) (fun j => x2 (ix2 (tk n r) j)) j]
    subst e0 e1 e2 e3 e4 e5 e6 e7 e8 e9
    exact (dout_eq (w_fn h6) (g_fn h9) (row_real h0 h1 h2 h3 h4 h5 h7 h8 _) ⟨768 + j.val, by omega⟩).symm
theorem out2_eq : (dats m 0 c).arrAt 13 cfg0.N = val_main_v78 (F := Ideal) x0 x1 x2 x3 x4 x5 x6 x7 x8 x9 :=
  ext2 _ _ fun p j => by
    obtain ⟨n, r, rfl⟩ := tile_of p
    refine (array13 c m n r j).trans ?_
    rw [r78, r60, ← cat2 (fun j => x0 (ix2 (tk n r) j)) (fun j => x1 (ix2 (tk n r) j)) (fun j => x2 (ix2 (tk n r) j)) j]
    subst e0 e1 e2 e3 e4 e5 e6 e7 e8 e9
    exact (dout_eq (w_fn h6) (g_fn h9) (row_real h0 h1 h2 h3 h4 h5 h7 h8 _) ⟨1536 + j.val, by omega⟩).symm
theorem gate0_eq : (dats m 0 c).arrAt 14 cfg0.N = val_main_v79 (F := Ideal) x0 x1 x2 x3 x4 x5 x6 x7 x8 x9 :=
  ext2 _ _ fun p j => by
    obtain ⟨n, r, rfl⟩ := tile_of p
    refine (array14 c m n r j).trans ?_
    rw [r79, r60, ← cat0 (fun j => x0 (ix2 (tk n r) j)) (fun j => x1 (ix2 (tk n r) j)) (fun j => x2 (ix2 (tk n r) j)) j,
      ← cat0 (fun j => x3 (ix2 (tk n r) j)) (fun j => x4 (ix2 (tk n r) j)) (fun j => x5 (ix2 (tk n r) j)) j]
    subst e0 e1 e2 e3 e4 e5 e6 e7 e8 e9
    exact (dgate_eq (w_fn h6) (w_fn' h6) (g_fn h9) (row_real h0 h1 h2 h3 h4 h5 h7 h8 _) ⟨0 + j.val, by omega⟩).symm
theorem gate1_eq : (dats m 0 c).arrAt 15 cfg0.N = val_main_v80 (F := Ideal) x0 x1 x2 x3 x4 x5 x6 x7 x8 x9 :=
  ext2 _ _ fun p j => by
    obtain ⟨n, r, rfl⟩ := tile_of p
    refine (array15 c m n r j).trans ?_
    rw [r80, r60, ← cat1 (fun j => x0 (ix2 (tk n r) j)) (fun j => x1 (ix2 (tk n r) j)) (fun j => x2 (ix2 (tk n r) j)) j,
      ← cat1 (fun j => x3 (ix2 (tk n r) j)) (fun j => x4 (ix2 (tk n r) j)) (fun j => x5 (ix2 (tk n r) j)) j]
    subst e0 e1 e2 e3 e4 e5 e6 e7 e8 e9
    exact (dgate_eq (w_fn h6) (w_fn' h6) (g_fn h9) (row_real h0 h1 h2 h3 h4 h5 h7 h8 _) ⟨768 + j.val, by omega⟩).symm
theorem gate2_eq : (dats m 0 c).arrAt 16 cfg0.N = val_main_v81 (F := Ideal) x0 x1 x2 x3 x4 x5 x6 x7 x8 x9 :=
  ext2 _ _ fun p j => by
    obtain ⟨n, r, rfl⟩ := tile_of p
    refine (array16 c m n r j).trans ?_
    rw [r81, r60, ← cat2 (fun j => x0 (ix2 (tk n r) j)) (fun j => x1 (ix2 (tk n r) j)) (fun j => x2 (ix2 (tk n r) j)) j,
      ← cat2 (fun j => x3 (ix2 (tk n r) j)) (fun j => x4 (ix2 (tk n r) j)) (fun j => x5 (ix2 (tk n r) j)) j]
    subst e0 e1 e2 e3 e4 e5 e6 e7 e8 e9
    exact (dgate_eq (w_fn h6) (w_fn' h6) (g_fn h9) (row_real h0 h1 h2 h3 h4 h5 h7 h8 _) ⟨1536 + j.val, by omega⟩).symm
theorem w_eq : (dats m 0 c).arrAt 17 cfg0.N = val_main_v82 (F := Ideal) x0 x1 x2 x3 x4 x5 x6 x7 x8 x9 :=
  ext2 _ _ fun j k => by
    refine (array17 c m j k).trans ?_
    rw [r82]
    subst e0 e1 e2 e3 e4 e5 e6 e7 e8 e9
    refine (sixteen fun p => mix (rowK c m p) j * dpre (wK c m) (gK c m) (rowK c m p) k).trans (Finset.sum_congr rfl fun p _ => ?_)
    refine Eq.trans (mul_comm _ _) (congrArg (· * mix (rowK c m p) j) ?_)
    exact (congrFun (dpre_eq (w_fn h6) (g_fn h9) (row_real h0 h1 h2 h3 h4 h5 h7 h8 _)) k).symm
theorem small_sums : (dats m 0 c).arrAt 18 cfg0.N = val_main_v75 (F := Ideal) x0 x1 x2 x3 x4 x5 x6 x7 x8 x9 :=
  ext2 _ _ fun q k => by
    refine (array18 c m q k).trans ?_
    rw [r75, r41, r73]
    subst e0 e1 e2 e3 e4 e5 e6 e7 e8 e9
    unfold smallK small
    by_cases h : q.val = 0
    · simp only [if_pos h]
      refine (sixteen fun p => dy (wK c m) (gK c m) (rowK c m p) k * (pre (wK c m) (rowK c m p) k * Cert.In.inv (pre (wK c m) (rowK c m p)))).trans (Finset.sum_congr rfl fun p _ => ?_)
      refine Eq.trans (mul_comm _ _) (congrArg (pre (wK c m) (rowK c m p) k * Cert.In.inv (pre (wK c m) (rowK c m p)) * ·) ?_)
      exact (congrFun (dy_eq (w_fn h6) (g_fn h9) (row_real h0 h1 h2 h3 h4 h5 h7 h8 _)) k).symm
    · simp only [if_neg h]
      by_cases h' : q.val = 1
      · simp only [if_pos h']
        exact sixteen_half (fun p => loss (wK c m) (gK c m) (rowK c m p)) fun p => loss_real (w_fn h6) (g_fn h9) (row_real h0 h1 h2 h3 h4 h5 h7 h8 _)
      · simp only [if_neg h']
        exact sixteen_zero
end Cert.Out
-- ==== Proof.lean ====
/-
  The claims of the calls: their frames, the references' frames, the steps from the
  programs to their readings over the extended reals, and the equations with the references.
-/
module

public import proofs.«01_k».proof.Defs
public import proofs.«01_k».proof.Proof.Gen.MemBwd
public import proofs.«01_k».proof.Proof.Gen.MemBwd.Skeleton
public import proofs.«01_k».proof.Proof.Gen.MemBwd.Launch
public import proofs.«01_k».proof.Proof.Gen.MemBwd.Points
public import proofs.«01_k».proof.Proof.Gen.MemBwd.Frame
public import proofs.«01_k».proof.Proof.Gen.MemBwdIdeal
public import proofs.«01_k».proof.Proof.Gen.MemBwdIdeal.Skeleton
public import proofs.«01_k».proof.Proof.Gen.MemBwdIdeal.Launch
public import proofs.«01_k».proof.Proof.Gen.MemBwdIdeal.Points
public import proofs.«01_k».proof.Proof.Gen.MemBwdIdeal.Frame
public import proofs.«01_k».proof.Proof.Gen.MemBwdRefIdeal
public import proofs.«01_k».proof.Proof.Gen.MemBwdIdeal.Value
public import proofs.«01_k».proof.Proof.Gen.MemBwdRefIdeal.Run
public import proofs.«01_k».proof.Proof.Gen.MemBwdRefIdeal.Read
public import proofs.«01_k».proof.Proof.Gen.FoxBwd
public import proofs.«01_k».proof.Proof.Gen.FoxBwd.Skeleton
public import proofs.«01_k».proof.Proof.Gen.FoxBwd.Launch
public import proofs.«01_k».proof.Proof.Gen.FoxBwd.Points
public import proofs.«01_k».proof.Proof.Gen.FoxBwd.Frame
public import proofs.«01_k».proof.Proof.Gen.FoxBwdIdeal
public import proofs.«01_k».proof.Proof.Gen.FoxBwdIdeal.Skeleton
public import proofs.«01_k».proof.Proof.Gen.FoxBwdIdeal.Launch
public import proofs.«01_k».proof.Proof.Gen.FoxBwdIdeal.Points
public import proofs.«01_k».proof.Proof.Gen.FoxBwdIdeal.Frame
public import proofs.«01_k».proof.Proof.Gen.FoxBwdRefIdeal
public import proofs.«01_k».proof.Proof.Gen.FoxBwdIdeal.Value
public import proofs.«01_k».proof.Proof.Gen.FoxBwdRefIdeal.Run
public import proofs.«01_k».proof.Proof.Gen.FoxBwdRefIdeal.Read
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjARefIdeal
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBRefIdeal
public import proofs.«01_k».proof.Proof.Gen.GradGates
public import proofs.«01_k».proof.Proof.Gen.GradGates.Skeleton
public import proofs.«01_k».proof.Proof.Gen.GradGates.Launch
public import proofs.«01_k».proof.Proof.Gen.GradGates.Points
public import proofs.«01_k».proof.Proof.Gen.GradGates.Frame
public import proofs.«01_k».proof.Proof.Gen.GradGatesIdeal
public import proofs.«01_k».proof.Proof.Gen.GradGatesIdeal.Skeleton
public import proofs.«01_k».proof.Proof.Gen.GradGatesIdeal.Launch
public import proofs.«01_k».proof.Proof.Gen.GradGatesIdeal.Points
public import proofs.«01_k».proof.Proof.Gen.GradGatesIdeal.Frame
public import proofs.«01_k».proof.Proof.Gen.GradGatesRefIdeal
public import proofs.«01_k».proof.Proof.Gen.GradFox
public import proofs.«01_k».proof.Proof.Gen.GradFox.Skeleton
public import proofs.«01_k».proof.Proof.Gen.GradFox.Launch
public import proofs.«01_k».proof.Proof.Gen.GradFox.Points
public import proofs.«01_k».proof.Proof.Gen.GradFox.Frame
public import proofs.«01_k».proof.Proof.Gen.GradFoxIdeal
public import proofs.«01_k».proof.Proof.Gen.GradFoxIdeal.Skeleton
public import proofs.«01_k».proof.Proof.Gen.GradFoxIdeal.Launch
public import proofs.«01_k».proof.Proof.Gen.GradFoxIdeal.Points
public import proofs.«01_k».proof.Proof.Gen.GradFoxIdeal.Frame
public import proofs.«01_k».proof.Proof.Gen.GradFoxRefIdeal
public import proofs.«01_k».proof.Proof.Gen.GradDil
public import proofs.«01_k».proof.Proof.Gen.GradDil.Skeleton
public import proofs.«01_k».proof.Proof.Gen.GradDil.Launch
public import proofs.«01_k».proof.Proof.Gen.GradDil.Points
public import proofs.«01_k».proof.Proof.Gen.GradDil.Frame
public import proofs.«01_k».proof.Proof.Gen.GradDilIdeal
public import proofs.«01_k».proof.Proof.Gen.GradDilIdeal.Skeleton
public import proofs.«01_k».proof.Proof.Gen.GradDilIdeal.Launch
public import proofs.«01_k».proof.Proof.Gen.GradDilIdeal.Points
public import proofs.«01_k».proof.Proof.Gen.GradDilIdeal.Frame
public import proofs.«01_k».proof.Proof.Gen.GradDilRefIdeal
public import proofs.«01_k».proof.Proof.Gen.GradMq
public import proofs.«01_k».proof.Proof.Gen.GradMq.Skeleton
public import proofs.«01_k».proof.Proof.Gen.GradMq.Launch
public import proofs.«01_k».proof.Proof.Gen.GradMq.Points
public import proofs.«01_k».proof.Proof.Gen.GradMq.Frame
public import proofs.«01_k».proof.Proof.Gen.GradMqIdeal
public import proofs.«01_k».proof.Proof.Gen.GradMqIdeal.Skeleton
public import proofs.«01_k».proof.Proof.Gen.GradMqIdeal.Launch
public import proofs.«01_k».proof.Proof.Gen.GradMqIdeal.Points
public import proofs.«01_k».proof.Proof.Gen.GradMqIdeal.Frame
public import proofs.«01_k».proof.Proof.Gen.GradMqRefIdeal
public import proofs.«01_k».proof.Proof.Gen.ProjAIdeal.Value
public import proofs.«01_k».proof.Proof.Gen.ProjARefIdeal.Run
public import proofs.«01_k».proof.Proof.Gen.ProjARefIdeal.Read
public import proofs.«01_k».proof.Proof.Gen.ProjBIdeal.Value
public import proofs.«01_k».proof.Proof.Gen.ProjBRefIdeal.Run
public import proofs.«01_k».proof.Proof.Gen.ProjBRefIdeal.Read
public import proofs.«01_k».proof.Proof.Gen.GradGatesIdeal.Value
public import proofs.«01_k».proof.Proof.Gen.GradGatesRefIdeal.Run
public import proofs.«01_k».proof.Proof.Gen.GradGatesRefIdeal.Read
public import proofs.«01_k».proof.Proof.Gen.GradFoxIdeal.Value
public import proofs.«01_k».proof.Proof.Gen.GradFoxRefIdeal.Run
public import proofs.«01_k».proof.Proof.Gen.GradFoxRefIdeal.Read
public import proofs.«01_k».proof.Proof.Gen.GradDilIdeal.Value
public import proofs.«01_k».proof.Proof.Gen.GradDilRefIdeal.Run
public import proofs.«01_k».proof.Proof.Gen.GradDilRefIdeal.Read
public import proofs.«01_k».proof.Proof.Gen.GradMqIdeal.Value
public import proofs.«01_k».proof.Proof.Gen.GradMqRefIdeal.Run
public import proofs.«01_k».proof.Proof.Gen.GradMqRefIdeal.Read
public import proofs.«01_k».proof.Proof.InProj.A
public import proofs.«01_k».proof.Proof.InProj.B
public import proofs.«01_k».proof.Proof.Grad.Gates
public import proofs.«01_k».proof.Proof.Grad.Fox
public import proofs.«01_k».proof.Proof.Grad.Dil
public import proofs.«01_k».proof.Proof.Grad.Mq
public import proofs.«01_k».proof.Proof.Mem.Equation
public import proofs.«01_k».proof.Proof.Mem.Finite
public import proofs.«01_k».proof.Proof.Fox.Equation
public import proofs.«01_k».proof.Proof.Fox.Finite
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.Gen.OutStep
public import proofs.«01_k».proof.Proof.Gen.OutStep.Skeleton
public import proofs.«01_k».proof.Proof.Gen.OutStep.Launch
public import proofs.«01_k».proof.Proof.Gen.OutStep.Points
public import proofs.«01_k».proof.Proof.Gen.OutStep.Frame
public import proofs.«01_k».proof.Proof.Gen.OutStepIdeal
public import proofs.«01_k».proof.Proof.Gen.OutStepIdeal.Skeleton
public import proofs.«01_k».proof.Proof.Gen.OutStepIdeal.Launch
public import proofs.«01_k».proof.Proof.Gen.OutStepIdeal.Points
public import proofs.«01_k».proof.Proof.Gen.OutStepIdeal.Frame
public import proofs.«01_k».proof.Proof.Gen.OutStepIdeal.Value
public import proofs.«01_k».proof.Proof.Gen.OutStepRefIdeal
public import proofs.«01_k».proof.Proof.Gen.OutStepRefIdeal.Run
public import proofs.«01_k».proof.Proof.Gen.OutStepRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvRefIdeal
public import proofs.«01_k».proof.Proof.Gen.AdamKvRefIdeal.Run
public import proofs.«01_k».proof.Proof.Gen.AdamKvRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Adam.Small
public import proofs.«01_k».proof.Proof.Adam.Kv
public import proofs.«01_k».proof.Proof.Adam.Out
public import proofs.«01_k».proof.Proof.Adam.Pre
public import proofs.«01_k».proof.Proof.Adam.Ok
public import proofs.«01_k».proof.Proof.In.Equation
public import proofs.«01_k».proof.Proof.Out.Equation
public import Idealize.ShloMosaic.Adequacy
public import Idealize.ShloMosaic.Init

@[expose] public section

noncomputable section

namespace Cert.Proof

open Idealize.ShloMosaic Idealize.SL.Sem

theorem mem_value : @Cert.algebraic_MemBwdIdeal_MemBwdRefIdeal_pre_mem_finite Cert.MemBwdIdeal.Gen.facts Cert.MemBwdRefIdeal.Gen.facts Cert.Mem.preFacts := by
  intro m ρ m' ρ' hpre hagree
  refine ⟨fun c => (Cert.MemBwdIdeal.Gen.dats (F := Ideal) m 0 c).arrAt 6 Cert.MemBwdIdeal.cfg0.N,
    fun c => (Cert.MemBwdIdeal.Gen.dats (F := Ideal) m 0 c).arrAt 7 Cert.MemBwdIdeal.cfg0.N,
    fun c => (Cert.MemBwdIdeal.Gen.dats (F := Ideal) m 0 c).arrAt 8 Cert.MemBwdIdeal.cfg0.N,
    Cert.MemBwdIdeal.Value.run_blocks (F := Ideal) m ρ, ?_⟩
  refine (θ_run Cert.MemBwdRefIdeal.defs _ _).mono (fun r h c => ?_) (Cert.MemBwdRefIdeal.Value.run (F := Ideal) m' ρ')
  obtain ⟨h66, h67, h68, ha⟩ := h c
  obtain ⟨a0, a1, a2⟩ := hagree c
  obtain ⟨f0, f1, f2⟩ := Cert.Mem.finite_of_pre _ _ _ (hpre c)
  choose r0 g0 using f0
  choose r1 g1 using f1
  choose r2 g2 using f2
  refine ⟨?_, ?_, ?_, ha⟩
  · rw [h66, Cert.MemBwdRefIdeal.Read.val_main_v66_eq, a0, a1, a2]
    exact (Cert.Mem.dq_eq m c rfl rfl rfl g0 g1 g2).symm
  · rw [h67, Cert.MemBwdRefIdeal.Read.val_main_v67_eq, a0, a1, a2]
    exact (Cert.Mem.dk_eq m c rfl rfl rfl g0 g1 g2).symm
  · refine (h68.trans (Cert.MemBwdRefIdeal.Read.val_main_v68_eq _ _ _)).trans ?_
    rw [a0, a1, a2]
    exact (Cert.Mem.dv_eq m c rfl rfl rfl g0 g1 g2).symm

/-- The reference's frame: its run leaves the arguments, and it has no semaphores. -/
theorem mem_ref : @Cert.quiescent_MemBwdRefIdeal Cert.MemBwdRefIdeal.Gen.facts := fun m ρ _ =>
  (θ_run Cert.MemBwdRefIdeal.defs _ _).mono (fun _ h => ⟨fun c => (h c).2.2.2, Idealize.ShloMosaic.sem_eq_zero_of_no_sems (by decide) _⟩)
    (Cert.MemBwdRefIdeal.Value.run (F := Ideal) m ρ)

/-- A function of five equal arguments. -/
theorem congr5 {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  rw [ha, hb, hc, hd, he]

theorem fox_value : @Cert.algebraic_FoxBwdIdeal_FoxBwdRefIdeal_pre_fox_finite Cert.FoxBwdIdeal.Gen.facts Cert.FoxBwdRefIdeal.Gen.facts Cert.Fox.preFacts := by
  intro m ρ m' ρ' hpre hagree
  refine ⟨fun c => (Cert.FoxBwdIdeal.Gen.dats (F := Ideal) m 0 c).arrAt 5 Cert.FoxBwdIdeal.cfg0.N,
    fun c => (Cert.FoxBwdIdeal.Gen.dats (F := Ideal) m 0 c).arrAt 6 Cert.FoxBwdIdeal.cfg0.N,
    fun c => (Cert.FoxBwdIdeal.Gen.dats (F := Ideal) m 0 c).arrAt 7 Cert.FoxBwdIdeal.cfg0.N,
    Cert.FoxBwdIdeal.Value.run_blocks (F := Ideal) m ρ, ?_⟩
  refine (θ_run Cert.FoxBwdRefIdeal.defs _ _).mono (fun r h c => ?_) (Cert.FoxBwdRefIdeal.Value.run (F := Ideal) m' ρ')
  obtain ⟨h103, h104, h105, ha⟩ := h c
  obtain ⟨a0, a1, a2, a3, a4⟩ := hagree c
  obtain ⟨f0, f1, f2, f3, f4⟩ := Cert.Fox.finite_of_pre _ _ _ _ _ (hpre c)
  choose r0 g0 using f0
  choose r1 g1 using f1
  choose r2 g2 using f2
  choose r3 g3 using f3
  choose r4 g4 using f4
  refine ⟨?_, ?_, ?_, ha⟩
  · exact (h103.trans (Cert.FoxBwdRefIdeal.Read.val_main_v103_eq _ _)).trans
      ((congr5 (Cert.FoxBwdRefIdeal.Read.val_main_v103 (F := Ideal)) a0 a1 a2 a3 a4).trans (Cert.Fox.qkv_eq m c rfl rfl rfl rfl rfl g0 g1 g2 g3 g4).symm)
  · exact (h104.trans (Cert.FoxBwdRefIdeal.Read.val_main_v104_eq _ _)).trans
      ((congr5 (Cert.FoxBwdRefIdeal.Read.val_main_v104 (F := Ideal)) a0 a1 a2 a3 a4).trans (Cert.Fox.neg_eq m c rfl rfl rfl rfl rfl g0 g1 g2 g3 g4).symm)
  · exact (h105.trans (Cert.FoxBwdRefIdeal.Read.val_main_v105_eq _ _)).trans
      ((congr5 (Cert.FoxBwdRefIdeal.Read.val_main_v105 (F := Ideal)) a0 a1 a2 a3 a4).trans (Cert.Fox.row_eq m c rfl rfl rfl rfl rfl g0 g1 g2 g3 g4).symm)

/-- The reference's frame: its run leaves the arguments, and it has no semaphores. -/
theorem fox_ref : @Cert.quiescent_FoxBwdRefIdeal Cert.FoxBwdRefIdeal.Gen.facts := fun m ρ _ =>
  (θ_run Cert.FoxBwdRefIdeal.defs _ _).mono (fun _ h => ⟨fun c => (h c).2.2.2, Idealize.ShloMosaic.sem_eq_zero_of_no_sems (by decide) _⟩)
    (Cert.FoxBwdRefIdeal.Value.run (F := Ideal) m ρ)

/-- A function of two equal arguments. -/
theorem congr2 {A B R : Type} (f : A → B → R) {a a' : A} {b b' : B} (ha : a = a') (hb : b = b') : f a b = f a' b' := by
  rw [ha, hb]

/-- A function of three equal arguments. -/
theorem congr3 {A B C R : Type} (f : A → B → C → R) {a a' : A} {b b' : B} {c c' : C} (ha : a = a') (hb : b = b') (hc : c = c') : f a b c = f a' b' c' := by
  rw [ha, hb, hc]

/-- A function of four equal arguments. -/
theorem congr4 {A B C D R : Type} (f : A → B → C → D → R) {a a' : A} {b b' : B} {c c' : C} {d d' : D}
    (ha : a = a') (hb : b = b') (hc : c = c') (hd : d = d') : f a b c d = f a' b' c' d' := by
  rw [ha, hb, hc, hd]

theorem proj_a_value : @Cert.algebraic_ProjAIdeal_ProjARefIdeal Cert.ProjAIdeal.Gen.facts Cert.ProjARefIdeal.Gen.facts := by
  intro m ρ m' ρ' _ hagree
  refine ⟨fun c => (Cert.ProjAIdeal.Gen.dats (F := Ideal) m 0 c).arrAt 3 Cert.ProjAIdeal.cfg0.N, Cert.ProjAIdeal.Value.run_blocks (F := Ideal) m ρ, ?_⟩
  refine (θ_run Cert.ProjARefIdeal.defs _ _).mono (fun r h c => ?_) (Cert.ProjARefIdeal.Value.run (F := Ideal) m' ρ')
  obtain ⟨hv, ha⟩ := h c
  obtain ⟨a0, a1⟩ := hagree c
  exact ⟨(hv.trans (Cert.ProjARefIdeal.Read.val_main_v2_eq _ _)).trans ((congr2 (Cert.ProjARefIdeal.Read.val_main_v2 (F := Ideal)) a0 a1).trans
    (Cert.InProj.A.eq c m _ _ (Cert.ProjAIdeal.Gen.V_main_arg0 m c) (Cert.ProjAIdeal.Gen.V_main_arg1 m c)).symm), ha⟩

theorem proj_b_value : @Cert.algebraic_ProjBIdeal_ProjBRefIdeal Cert.ProjBIdeal.Gen.facts Cert.ProjBRefIdeal.Gen.facts := by
  intro m ρ m' ρ' _ hagree
  refine ⟨fun c => (Cert.ProjBIdeal.Gen.dats (F := Ideal) m 0 c).arrAt 2 Cert.ProjBIdeal.cfg0.N, Cert.ProjBIdeal.Value.run_blocks (F := Ideal) m ρ, ?_⟩
  refine (θ_run Cert.ProjBRefIdeal.defs _ _).mono (fun r h c => ?_) (Cert.ProjBRefIdeal.Value.run (F := Ideal) m' ρ')
  obtain ⟨hv, ha⟩ := h c
  obtain ⟨a0, a1⟩ := hagree c
  exact ⟨(hv.trans (Cert.ProjBRefIdeal.Read.val_main_v2_eq _ _)).trans ((congr2 (Cert.ProjBRefIdeal.Read.val_main_v2 (F := Ideal)) a0 a1).trans
    (Cert.InProj.B.eq c m _ _ (Cert.ProjBIdeal.Gen.V_main_arg0 m c) (Cert.ProjBIdeal.Gen.V_main_arg1 m c)).symm), ha⟩

theorem gates_value : @Cert.algebraic_GradGatesIdeal_GradGatesRefIdeal Cert.GradGatesIdeal.Gen.facts Cert.GradGatesRefIdeal.Gen.facts := by
  intro m ρ m' ρ' _ hagree
  refine ⟨fun c => Cert.GradGatesIdeal.Value.G4 (F := Ideal) m c, Cert.GradGatesIdeal.Value.run (F := Ideal) m ρ, ?_⟩
  refine (θ_run Cert.GradGatesRefIdeal.defs _ _).mono (fun r h c => ?_) (Cert.GradGatesRefIdeal.Value.run (F := Ideal) m' ρ')
  obtain ⟨hv, ha⟩ := h c
  obtain ⟨a0, a1, a2, a3⟩ := hagree c
  exact ⟨(hv.trans (Cert.GradGatesRefIdeal.Read.val_main_v18_eq _ _ _ _)).trans ((congr4 (Cert.GradGatesRefIdeal.Read.val_main_v18 (F := Ideal)) a0 a1 a2 a3).trans
    (Cert.Grad.Gates.eq c m _ _ _ _ (Cert.GradGatesIdeal.Gen.V_main_arg0 m c) (Cert.GradGatesIdeal.Gen.V_main_arg1 m c) (Cert.GradGatesIdeal.Gen.V_main_arg2 m c) (Cert.GradGatesIdeal.Gen.V_main_arg3 m c)).symm), ha⟩

theorem grad_fox_value : @Cert.algebraic_GradFoxIdeal_GradFoxRefIdeal Cert.GradFoxIdeal.Gen.facts Cert.GradFoxRefIdeal.Gen.facts := by
  intro m ρ m' ρ' _ hagree
  refine ⟨fun c => Cert.GradFoxIdeal.Value.G3 (F := Ideal) m c, Cert.GradFoxIdeal.Value.run (F := Ideal) m ρ, ?_⟩
  refine (θ_run Cert.GradFoxRefIdeal.defs _ _).mono (fun r h c => ?_) (Cert.GradFoxRefIdeal.Value.run (F := Ideal) m' ρ')
  obtain ⟨hv, ha⟩ := h c
  obtain ⟨a0, a1, a2⟩ := hagree c
  exact ⟨(hv.trans (Cert.GradFoxRefIdeal.Read.val_main_v13_eq _ _ _)).trans ((congr3 (Cert.GradFoxRefIdeal.Read.val_main_v13 (F := Ideal)) a0 a1 a2).trans
    (Cert.Grad.Fox.eq c m _ _ _ (Cert.GradFoxIdeal.Gen.V_main_arg0 m c) (Cert.GradFoxIdeal.Gen.V_main_arg1 m c) (Cert.GradFoxIdeal.Gen.V_main_arg2 m c)).symm), ha⟩

theorem dil_value : @Cert.algebraic_GradDilIdeal_GradDilRefIdeal Cert.GradDilIdeal.Gen.facts Cert.GradDilRefIdeal.Gen.facts := by
  intro m ρ m' ρ' _ hagree
  refine ⟨fun c => Cert.GradDilIdeal.Value.G2 (F := Ideal) m c, Cert.GradDilIdeal.Value.run (F := Ideal) m ρ, ?_⟩
  refine (θ_run Cert.GradDilRefIdeal.defs _ _).mono (fun r h c => ?_) (Cert.GradDilRefIdeal.Value.run (F := Ideal) m' ρ')
  obtain ⟨hv, ha⟩ := h c
  obtain ⟨a0, a1⟩ := hagree c
  exact ⟨(hv.trans (Cert.GradDilRefIdeal.Read.val_main_v7_eq _ _)).trans ((congr2 (Cert.GradDilRefIdeal.Read.val_main_v7 (F := Ideal)) a0 a1).trans
    (Cert.Grad.Dil.eq c m _ _ (Cert.GradDilIdeal.Gen.V_main_arg0 m c) (Cert.GradDilIdeal.Gen.V_main_arg1 m c)).symm), ha⟩

theorem mq_value : @Cert.algebraic_GradMqIdeal_GradMqRefIdeal Cert.GradMqIdeal.Gen.facts Cert.GradMqRefIdeal.Gen.facts := by
  intro m ρ m' ρ' _ hagree
  refine ⟨fun c => Cert.GradMqIdeal.Value.G2 (F := Ideal) m c, Cert.GradMqIdeal.Value.run (F := Ideal) m ρ, ?_⟩
  refine (θ_run Cert.GradMqRefIdeal.defs _ _).mono (fun r h c => ?_) (Cert.GradMqRefIdeal.Value.run (F := Ideal) m' ρ')
  obtain ⟨hv, ha⟩ := h c
  obtain ⟨a0, a1⟩ := hagree c
  exact ⟨(hv.trans (Cert.GradMqRefIdeal.Read.val_main_v7_eq _ _)).trans ((congr2 (Cert.GradMqRefIdeal.Read.val_main_v7 (F := Ideal)) a0 a1).trans
    (Cert.Grad.Mq.eq c m _ _ (Cert.GradMqIdeal.Gen.V_main_arg0 m c) (Cert.GradMqIdeal.Gen.V_main_arg1 m c)).symm), ha⟩

theorem proj_a_ref : @Cert.quiescent_ProjARefIdeal Cert.ProjARefIdeal.Gen.facts := fun m ρ _ =>
  (θ_run Cert.ProjARefIdeal.defs _ _).mono (fun _ h => ⟨fun c => (h c).2, Idealize.ShloMosaic.sem_eq_zero_of_no_sems (by decide) _⟩)
    (Cert.ProjARefIdeal.Value.run (F := Ideal) m ρ)

theorem proj_b_ref : @Cert.quiescent_ProjBRefIdeal Cert.ProjBRefIdeal.Gen.facts := fun m ρ _ =>
  (θ_run Cert.ProjBRefIdeal.defs _ _).mono (fun _ h => ⟨fun c => (h c).2, Idealize.ShloMosaic.sem_eq_zero_of_no_sems (by decide) _⟩)
    (Cert.ProjBRefIdeal.Value.run (F := Ideal) m ρ)

theorem gates_ref : @Cert.quiescent_GradGatesRefIdeal Cert.GradGatesRefIdeal.Gen.facts := fun m ρ _ =>
  (θ_run Cert.GradGatesRefIdeal.defs _ _).mono (fun _ h => ⟨fun c => (h c).2, Idealize.ShloMosaic.sem_eq_zero_of_no_sems (by decide) _⟩)
    (Cert.GradGatesRefIdeal.Value.run (F := Ideal) m ρ)

theorem grad_fox_ref : @Cert.quiescent_GradFoxRefIdeal Cert.GradFoxRefIdeal.Gen.facts := fun m ρ _ =>
  (θ_run Cert.GradFoxRefIdeal.defs _ _).mono (fun _ h => ⟨fun c => (h c).2, Idealize.ShloMosaic.sem_eq_zero_of_no_sems (by decide) _⟩)
    (Cert.GradFoxRefIdeal.Value.run (F := Ideal) m ρ)

theorem dil_ref : @Cert.quiescent_GradDilRefIdeal Cert.GradDilRefIdeal.Gen.facts := fun m ρ _ =>
  (θ_run Cert.GradDilRefIdeal.defs _ _).mono (fun _ h => ⟨fun c => (h c).2, Idealize.ShloMosaic.sem_eq_zero_of_no_sems (by decide) _⟩)
    (Cert.GradDilRefIdeal.Value.run (F := Ideal) m ρ)

theorem mq_ref : @Cert.quiescent_GradMqRefIdeal Cert.GradMqRefIdeal.Gen.facts := fun m ρ _ =>
  (θ_run Cert.GradMqRefIdeal.defs _ _).mono (fun _ h => ⟨fun c => (h c).2, Idealize.ShloMosaic.sem_eq_zero_of_no_sems (by decide) _⟩)
    (Cert.GradMqRefIdeal.Value.run (F := Ideal) m ρ)

theorem in_value : @Cert.algebraic_InBwdIdeal_InBwdRefIdeal_pre_in_proj_finite Cert.InBwdIdeal.Gen.facts Cert.InBwdRefIdeal.Gen.facts Cert.In.preFacts := by
  intro m ρ m' ρ' hpre hagree
  refine ⟨fun c => (Cert.InBwdIdeal.Gen.dats (F := Ideal) m 0 c).arrAt 13 Cert.InBwdIdeal.cfg0.N,
    fun c => (Cert.InBwdIdeal.Gen.dats (F := Ideal) m 0 c).arrAt 14 Cert.InBwdIdeal.cfg0.N, Cert.InBwdIdeal.Value.run_blocks (F := Ideal) m ρ, ?_⟩
  refine (θ_run Cert.InBwdRefIdeal.defs _ _).mono (fun r h c => ?_) (Cert.InBwdRefIdeal.Value.run (F := Ideal) m' ρ')
  obtain ⟨h61, h62, ha⟩ := h c
  obtain ⟨a0, a1, a2, a3, a4, a5, a6, a7, a8, a9, a10, a11, a12, a13, a14, a15, a16⟩ := hagree c
  obtain ⟨f0, f1, f2, f3, f4, f5, f6, f7, f8, f9, f10, f11, f12, f13, f14, f15, f16⟩ := Cert.In.finite_of_pre _ _ _ _ _ _ _ _ _ _ _ _ _ _ _ _ _ (hpre c)
  refine ⟨?_, ?_, ha⟩
  · exact (h61.trans (Cert.InBwdRefIdeal.Read.val_main_v61_eq _ _)).trans
      (Cert.In.x_eq c m ((Cert.InBwdIdeal.Gen.V_main_arg0 m c).trans a0.symm) ((Cert.InBwdIdeal.Gen.V_main_arg1 m c).trans a1.symm) ((Cert.InBwdIdeal.Gen.V_main_arg2 m c).trans a2.symm) ((Cert.InBwdIdeal.Gen.V_main_arg3 m c).trans a3.symm) ((Cert.InBwdIdeal.Gen.V_main_arg4 m c).trans a4.symm) ((Cert.InBwdIdeal.Gen.V_main_arg5 m c).trans a5.symm) ((Cert.InBwdIdeal.Gen.V_main_arg6 m c).trans a6.symm) ((Cert.InBwdIdeal.Gen.V_main_arg7 m c).trans a7.symm) ((Cert.InBwdIdeal.Gen.V_main_arg8 m c).trans a8.symm) ((Cert.InBwdIdeal.Gen.V_main_arg9 m c).trans a9.symm) ((Cert.InBwdIdeal.Gen.V_main_arg10 m c).trans a10.symm) ((Cert.InBwdIdeal.Gen.V_main_arg11 m c).trans a11.symm) ((Cert.InBwdIdeal.Gen.V_main_arg12 m c).trans a12.symm) ((Cert.InBwdIdeal.Gen.V_main_arg13 m c).trans a13.symm) ((Cert.InBwdIdeal.Gen.V_main_arg14 m c).trans a14.symm) ((Cert.InBwdIdeal.Gen.V_main_arg15 m c).trans a15.symm) ((Cert.InBwdIdeal.Gen.V_main_arg16 m c).trans a16.symm)
        (Cert.In.finite_of_eq a0 f0) (Cert.In.finite_of_eq a1 f1) (Cert.In.finite_of_eq a2 f2) (Cert.In.finite_of_eq a3 f3) (Cert.In.finite_of_eq a4 f4) (Cert.In.finite_of_eq a5 f5) (Cert.In.finite_of_eq a6 f6) (Cert.In.finite_of_eq a7 f7) (Cert.In.finite_of_eq a8 f8) (Cert.In.finite_of_eq a9 f9) (Cert.In.finite_of_eq a10 f10) (Cert.In.finite_of_eq a11 f11) (Cert.In.finite_of_eq a12 f12) (Cert.In.finite_of_eq a13 f13) (Cert.In.finite_of_eq a14 f14) (Cert.In.finite_of_eq a15 f15) (Cert.In.finite_of_eq a16 f16)).symm
  · exact (h62.trans (Cert.InBwdRefIdeal.Read.val_main_v62_eq _ _ _ _ _ _ _ _ _ _ _ _ _ _ _)).trans
      (Cert.In.g_eq c m ((Cert.InBwdIdeal.Gen.V_main_arg0 m c).trans a0.symm) ((Cert.InBwdIdeal.Gen.V_main_arg1 m c).trans a1.symm) ((Cert.InBwdIdeal.Gen.V_main_arg2 m c).trans a2.symm) ((Cert.InBwdIdeal.Gen.V_main_arg3 m c).trans a3.symm) ((Cert.InBwdIdeal.Gen.V_main_arg4 m c).trans a4.symm) ((Cert.InBwdIdeal.Gen.V_main_arg5 m c).trans a5.symm) ((Cert.InBwdIdeal.Gen.V_main_arg6 m c).trans a6.symm) ((Cert.InBwdIdeal.Gen.V_main_arg7 m c).trans a7.symm) ((Cert.InBwdIdeal.Gen.V_main_arg8 m c).trans a8.symm) ((Cert.InBwdIdeal.Gen.V_main_arg9 m c).trans a9.symm) ((Cert.InBwdIdeal.Gen.V_main_arg10 m c).trans a10.symm) ((Cert.InBwdIdeal.Gen.V_main_arg11 m c).trans a11.symm) ((Cert.InBwdIdeal.Gen.V_main_arg12 m c).trans a12.symm) ((Cert.InBwdIdeal.Gen.V_main_arg13 m c).trans a13.symm) ((Cert.InBwdIdeal.Gen.V_main_arg14 m c).trans a14.symm)).symm

theorem in_ref : @Cert.quiescent_InBwdRefIdeal Cert.InBwdRefIdeal.Gen.facts := fun m ρ _ =>
  (θ_run Cert.InBwdRefIdeal.defs _ _).mono (fun _ h => ⟨fun c => (h c).2.2, Idealize.ShloMosaic.sem_eq_zero_of_no_sems (by decide) _⟩)
    (Cert.InBwdRefIdeal.Value.run (F := Ideal) m ρ)

theorem out_value : @Cert.algebraic_OutStepIdeal_OutStepRefIdeal_pre_out_finite Cert.OutStepIdeal.Gen.facts Cert.OutStepRefIdeal.Gen.facts Cert.Out.preFacts := by
  intro m ρ m' ρ' hpre hagree
  refine ⟨fun c => (Cert.OutStepIdeal.Gen.dats (F := Ideal) m 0 c).arrAt 10 Cert.OutStepIdeal.cfg0.N,
    fun c => (Cert.OutStepIdeal.Gen.dats (F := Ideal) m 0 c).arrAt 11 Cert.OutStepIdeal.cfg0.N,
    fun c => (Cert.OutStepIdeal.Gen.dats (F := Ideal) m 0 c).arrAt 12 Cert.OutStepIdeal.cfg0.N,
    fun c => (Cert.OutStepIdeal.Gen.dats (F := Ideal) m 0 c).arrAt 13 Cert.OutStepIdeal.cfg0.N,
    fun c => (Cert.OutStepIdeal.Gen.dats (F := Ideal) m 0 c).arrAt 14 Cert.OutStepIdeal.cfg0.N,
    fun c => (Cert.OutStepIdeal.Gen.dats (F := Ideal) m 0 c).arrAt 15 Cert.OutStepIdeal.cfg0.N,
    fun c => (Cert.OutStepIdeal.Gen.dats (F := Ideal) m 0 c).arrAt 16 Cert.OutStepIdeal.cfg0.N,
    fun c => (Cert.OutStepIdeal.Gen.dats (F := Ideal) m 0 c).arrAt 17 Cert.OutStepIdeal.cfg0.N,
    fun c => (Cert.OutStepIdeal.Gen.dats (F := Ideal) m 0 c).arrAt 18 Cert.OutStepIdeal.cfg0.N,
    Cert.OutStepIdeal.Value.run_blocks (F := Ideal) m ρ, ?_⟩
  refine (θ_run Cert.OutStepRefIdeal.defs _ _).mono (fun r h c => ?_) (Cert.OutStepRefIdeal.Value.run (F := Ideal) m' ρ')
  obtain ⟨h57, h76, h77, h78, h79, h80, h81, h82, h75, ha⟩ := h c
  obtain ⟨a0, a1, a2, a3, a4, a5, a6, a7, a8, a9⟩ := hagree c
  obtain ⟨f0, f1, f2, f3, f4, f5, f6, f7, f8, f9⟩ := Cert.Out.finite_of_pre _ _ _ _ _ _ _ _ _ _ (hpre c)
  have e0 := (Cert.OutStepIdeal.Gen.V_main_arg0 m c).trans a0.symm
  have g0 := Cert.In.finite_of_eq a0 f0
  have e1 := (Cert.OutStepIdeal.Gen.V_main_arg1 m c).trans a1.symm
  have g1 := Cert.In.finite_of_eq a1 f1
  have e2 := (Cert.OutStepIdeal.Gen.V_main_arg2 m c).trans a2.symm
  have g2 := Cert.In.finite_of_eq a2 f2
  have e3 := (Cert.OutStepIdeal.Gen.V_main_arg3 m c).trans a3.symm
  have g3 := Cert.In.finite_of_eq a3 f3
  have e4 := (Cert.OutStepIdeal.Gen.V_main_arg4 m c).trans a4.symm
  have g4 := Cert.In.finite_of_eq a4 f4
  have e5 := (Cert.OutStepIdeal.Gen.V_main_arg5 m c).trans a5.symm
  have g5 := Cert.In.finite_of_eq a5 f5
  have e6 := (Cert.OutStepIdeal.Gen.V_main_arg6 m c).trans a6.symm
  have g6 := Cert.In.finite_of_eq a6 f6
  have e7 := (Cert.OutStepIdeal.Gen.V_main_arg7 m c).trans a7.symm
  have g7 := Cert.In.finite_of_eq a7 f7
  have e8 := (Cert.OutStepIdeal.Gen.V_main_arg8 m c).trans a8.symm
  have g8 := Cert.In.finite_of_eq a8 f8
  have e9 := (Cert.OutStepIdeal.Gen.V_main_arg9 m c).trans a9.symm
  have g9 := Cert.In.finite_of_eq a9 f9
  refine ⟨?_, ?_, ?_, ?_, ?_, ?_, ?_, ?_, ?_, ha⟩
  · exact (h57.trans (Cert.OutStepRefIdeal.Read.val_main_v57_eq _ _)).trans (Cert.Out.pre_eq c m e0 e1 e2 e3 e4 e5 e6 e7 e8 e9 g0 g1 g2 g3 g4 g5 g6 g7 g8 g9).symm
  · exact (h76.trans (Cert.OutStepRefIdeal.Read.val_main_v76_eq _ _)).trans (Cert.Out.out0_eq c m e0 e1 e2 e3 e4 e5 e6 e7 e8 e9 g0 g1 g2 g3 g4 g5 g6 g7 g8 g9).symm
  · exact (h77.trans (Cert.OutStepRefIdeal.Read.val_main_v77_eq _ _)).trans (Cert.Out.out1_eq c m e0 e1 e2 e3 e4 e5 e6 e7 e8 e9 g0 g1 g2 g3 g4 g5 g6 g7 g8 g9).symm
  · exact (h78.trans (Cert.OutStepRefIdeal.Read.val_main_v78_eq _ _)).trans (Cert.Out.out2_eq c m e0 e1 e2 e3 e4 e5 e6 e7 e8 e9 g0 g1 g2 g3 g4 g5 g6 g7 g8 g9).symm
  · exact (h79.trans (Cert.OutStepRefIdeal.Read.val_main_v79_eq _ _)).trans (Cert.Out.gate0_eq c m e0 e1 e2 e3 e4 e5 e6 e7 e8 e9 g0 g1 g2 g3 g4 g5 g6 g7 g8 g9).symm
  · exact (h80.trans (Cert.OutStepRefIdeal.Read.val_main_v80_eq _ _)).trans (Cert.Out.gate1_eq c m e0 e1 e2 e3 e4 e5 e6 e7 e8 e9 g0 g1 g2 g3 g4 g5 g6 g7 g8 g9).symm
  · exact (h81.trans (Cert.OutStepRefIdeal.Read.val_main_v81_eq _ _)).trans (Cert.Out.gate2_eq c m e0 e1 e2 e3 e4 e5 e6 e7 e8 e9 g0 g1 g2 g3 g4 g5 g6 g7 g8 g9).symm
  · exact (h82.trans (Cert.OutStepRefIdeal.Read.val_main_v82_eq _ _)).trans (Cert.Out.w_eq c m e0 e1 e2 e3 e4 e5 e6 e7 e8 e9 g0 g1 g2 g3 g4 g5 g6 g7 g8 g9).symm
  · exact (h75.trans (Cert.OutStepRefIdeal.Read.val_main_v75_eq _ _)).trans (Cert.Out.small_sums c m e0 e1 e2 e3 e4 e5 e6 e7 e8 e9 g0 g1 g2 g3 g4 g5 g6 g7 g8 g9).symm

theorem out_ref : @Cert.quiescent_OutStepRefIdeal Cert.OutStepRefIdeal.Gen.facts := fun m ρ _ =>
  (θ_run Cert.OutStepRefIdeal.defs _ _).mono (fun _ h => ⟨fun c => (h c).2.2.2.2.2.2.2.2.2, Idealize.ShloMosaic.sem_eq_zero_of_no_sems (by decide) _⟩)
    (Cert.OutStepRefIdeal.Value.run (F := Ideal) m ρ)

theorem adam_out_value : @Cert.algebraic_AdamOutIdeal_AdamOutRefIdeal Cert.AdamOutIdeal.Gen.facts Cert.AdamOutRefIdeal.Gen.facts Cert.Adam.outFacts := by
  intro m ρ m' ρ' hpre hagree
  refine ⟨fun c => Cert.AdamOutRefIdeal.Read.val_main_v9 (F := Ideal) (Cert.AdamOutIdeal.Gen.V m c Cert.AdamOutIdeal.main_arg0) (Cert.AdamOutIdeal.Gen.V m c Cert.AdamOutIdeal.main_arg1) (Cert.AdamOutIdeal.Gen.V m c Cert.AdamOutIdeal.main_arg2),
    fun c => Cert.AdamOutRefIdeal.Read.val_main_v33 (F := Ideal) (Cert.AdamOutIdeal.Gen.V m c Cert.AdamOutIdeal.main_arg0) (Cert.AdamOutIdeal.Gen.V m c Cert.AdamOutIdeal.main_arg1) (Cert.AdamOutIdeal.Gen.V m c Cert.AdamOutIdeal.main_arg2) (Cert.AdamOutIdeal.Gen.V m c Cert.AdamOutIdeal.main_arg3) (Cert.AdamOutIdeal.Gen.V m c Cert.AdamOutIdeal.main_arg4) (Cert.AdamOutIdeal.Gen.V m c Cert.AdamOutIdeal.main_arg5),
    fun c => Cert.AdamOutRefIdeal.Read.val_main_v14 (F := Ideal) (Cert.AdamOutIdeal.Gen.V m c Cert.AdamOutIdeal.main_arg0) (Cert.AdamOutIdeal.Gen.V m c Cert.AdamOutIdeal.main_arg1) (Cert.AdamOutIdeal.Gen.V m c Cert.AdamOutIdeal.main_arg2) (Cert.AdamOutIdeal.Gen.V m c Cert.AdamOutIdeal.main_arg4),
    fun c => Cert.AdamOutRefIdeal.Read.val_main_v20 (F := Ideal) (Cert.AdamOutIdeal.Gen.V m c Cert.AdamOutIdeal.main_arg0) (Cert.AdamOutIdeal.Gen.V m c Cert.AdamOutIdeal.main_arg1) (Cert.AdamOutIdeal.Gen.V m c Cert.AdamOutIdeal.main_arg2) (Cert.AdamOutIdeal.Gen.V m c Cert.AdamOutIdeal.main_arg5),
    Cert.Adam.Out.run m ρ fun c => Cert.Adam.out_place (hpre c), ?_⟩
  refine (θ_run Cert.AdamOutRefIdeal.defs _ _).mono (fun r h c => ?_) (Cert.AdamOutRefIdeal.Value.run (F := Ideal) m' ρ')
  obtain ⟨h9, h33, h14, h20, ha⟩ := h c
  obtain ⟨a0, a1, a2, a3, a4, a5⟩ := hagree c
  have e0 := a0.trans (Cert.AdamOutIdeal.Gen.V_main_arg0 m c).symm
  have e1 := a1.trans (Cert.AdamOutIdeal.Gen.V_main_arg1 m c).symm
  have e2 := a2.trans (Cert.AdamOutIdeal.Gen.V_main_arg2 m c).symm
  have e3 := a3.trans (Cert.AdamOutIdeal.Gen.V_main_arg3 m c).symm
  have e4 := a4.trans (Cert.AdamOutIdeal.Gen.V_main_arg4 m c).symm
  have e5 := a5.trans (Cert.AdamOutIdeal.Gen.V_main_arg5 m c).symm
  refine ⟨?_, ?_, ?_, ?_, ha⟩
  · exact (h9.trans (Cert.AdamOutRefIdeal.Read.val_main_v9_eq _ _ _ )).trans (congr (congr (congrArg (Cert.AdamOutRefIdeal.Read.val_main_v9 (F := Ideal)) e0) e1) e2)
  · exact (h33.trans (Cert.AdamOutRefIdeal.Read.val_main_v33_eq _ _ _ _ _ _ )).trans (congr (congr (congr (congr (congr (congrArg (Cert.AdamOutRefIdeal.Read.val_main_v33 (F := Ideal)) e0) e1) e2) e3) e4) e5)
  · exact (h14.trans (Cert.AdamOutRefIdeal.Read.val_main_v14_eq _ _ _ _ )).trans (congr (congr (congr (congrArg (Cert.AdamOutRefIdeal.Read.val_main_v14 (F := Ideal)) e0) e1) e2) e4)
  · exact (h20.trans (Cert.AdamOutRefIdeal.Read.val_main_v20_eq _ _ _ _ )).trans (congr (congr (congr (congrArg (Cert.AdamOutRefIdeal.Read.val_main_v20 (F := Ideal)) e0) e1) e2) e5)

theorem adam_out_ref : @Cert.quiescent_AdamOutRefIdeal Cert.AdamOutRefIdeal.Gen.facts := fun m ρ _ =>
  (θ_run Cert.AdamOutRefIdeal.defs _ _).mono (fun _ h => ⟨fun c => (h c).2.2.2.2, Idealize.ShloMosaic.sem_eq_zero_of_no_sems (by decide) _⟩)
    (Cert.AdamOutRefIdeal.Value.run (F := Ideal) m ρ)

theorem adam_kv_value : @Cert.algebraic_AdamKvIdeal_AdamKvRefIdeal Cert.AdamKvIdeal.Gen.facts Cert.AdamKvRefIdeal.Gen.facts Cert.Adam.kvFacts := by
  intro m ρ m' ρ' hpre hagree
  refine ⟨fun c => Cert.AdamKvRefIdeal.Read.val_main_v9 (F := Ideal) (Cert.AdamKvIdeal.Gen.V m c Cert.AdamKvIdeal.main_arg0) (Cert.AdamKvIdeal.Gen.V m c Cert.AdamKvIdeal.main_arg1) (Cert.AdamKvIdeal.Gen.V m c Cert.AdamKvIdeal.main_arg2),
    fun c => Cert.AdamKvRefIdeal.Read.val_main_v33 (F := Ideal) (Cert.AdamKvIdeal.Gen.V m c Cert.AdamKvIdeal.main_arg0) (Cert.AdamKvIdeal.Gen.V m c Cert.AdamKvIdeal.main_arg1) (Cert.AdamKvIdeal.Gen.V m c Cert.AdamKvIdeal.main_arg2) (Cert.AdamKvIdeal.Gen.V m c Cert.AdamKvIdeal.main_arg3) (Cert.AdamKvIdeal.Gen.V m c Cert.AdamKvIdeal.main_arg4) (Cert.AdamKvIdeal.Gen.V m c Cert.AdamKvIdeal.main_arg5),
    fun c => Cert.AdamKvRefIdeal.Read.val_main_v14 (F := Ideal) (Cert.AdamKvIdeal.Gen.V m c Cert.AdamKvIdeal.main_arg0) (Cert.AdamKvIdeal.Gen.V m c Cert.AdamKvIdeal.main_arg1) (Cert.AdamKvIdeal.Gen.V m c Cert.AdamKvIdeal.main_arg2) (Cert.AdamKvIdeal.Gen.V m c Cert.AdamKvIdeal.main_arg4),
    fun c => Cert.AdamKvRefIdeal.Read.val_main_v20 (F := Ideal) (Cert.AdamKvIdeal.Gen.V m c Cert.AdamKvIdeal.main_arg0) (Cert.AdamKvIdeal.Gen.V m c Cert.AdamKvIdeal.main_arg1) (Cert.AdamKvIdeal.Gen.V m c Cert.AdamKvIdeal.main_arg2) (Cert.AdamKvIdeal.Gen.V m c Cert.AdamKvIdeal.main_arg5),
    Cert.Adam.Kv.run m ρ fun c => Cert.Adam.kv_place (hpre c), ?_⟩
  refine (θ_run Cert.AdamKvRefIdeal.defs _ _).mono (fun r h c => ?_) (Cert.AdamKvRefIdeal.Value.run (F := Ideal) m' ρ')
  obtain ⟨h9, h33, h14, h20, ha⟩ := h c
  obtain ⟨a0, a1, a2, a3, a4, a5⟩ := hagree c
  have e0 := a0.trans (Cert.AdamKvIdeal.Gen.V_main_arg0 m c).symm
  have e1 := a1.trans (Cert.AdamKvIdeal.Gen.V_main_arg1 m c).symm
  have e2 := a2.trans (Cert.AdamKvIdeal.Gen.V_main_arg2 m c).symm
  have e3 := a3.trans (Cert.AdamKvIdeal.Gen.V_main_arg3 m c).symm
  have e4 := a4.trans (Cert.AdamKvIdeal.Gen.V_main_arg4 m c).symm
  have e5 := a5.trans (Cert.AdamKvIdeal.Gen.V_main_arg5 m c).symm
  refine ⟨?_, ?_, ?_, ?_, ha⟩
  · exact (h9.trans (Cert.AdamKvRefIdeal.Read.val_main_v9_eq _ _ _ )).trans (congr (congr (congrArg (Cert.AdamKvRefIdeal.Read.val_main_v9 (F := Ideal)) e0) e1) e2)
  · exact (h33.trans (Cert.AdamKvRefIdeal.Read.val_main_v33_eq _ _ _ _ _ _ )).trans (congr (congr (congr (congr (congr (congrArg (Cert.AdamKvRefIdeal.Read.val_main_v33 (F := Ideal)) e0) e1) e2) e3) e4) e5)
  · exact (h14.trans (Cert.AdamKvRefIdeal.Read.val_main_v14_eq _ _ _ _ )).trans (congr (congr (congr (congrArg (Cert.AdamKvRefIdeal.Read.val_main_v14 (F := Ideal)) e0) e1) e2) e4)
  · exact (h20.trans (Cert.AdamKvRefIdeal.Read.val_main_v20_eq _ _ _ _ )).trans (congr (congr (congr (congrArg (Cert.AdamKvRefIdeal.Read.val_main_v20 (F := Ideal)) e0) e1) e2) e5)

theorem adam_kv_ref : @Cert.quiescent_AdamKvRefIdeal Cert.AdamKvRefIdeal.Gen.facts := fun m ρ _ =>
  (θ_run Cert.AdamKvRefIdeal.defs _ _).mono (fun _ h => ⟨fun c => (h c).2.2.2.2, Idealize.ShloMosaic.sem_eq_zero_of_no_sems (by decide) _⟩)
    (Cert.AdamKvRefIdeal.Value.run (F := Ideal) m ρ)

theorem adam_small_value : @Cert.algebraic_AdamSmallIdeal_AdamSmallRefIdeal Cert.AdamSmallIdeal.Gen.facts Cert.AdamSmallRefIdeal.Gen.facts Cert.Adam.smallFacts := by
  intro m ρ m' ρ' hpre hagree
  refine ⟨fun c => Cert.AdamSmallRefIdeal.Read.val_main_v8 (F := Ideal) (Cert.AdamSmallIdeal.Gen.V m c Cert.AdamSmallIdeal.main_arg0) (Cert.AdamSmallIdeal.Gen.V m c Cert.AdamSmallIdeal.main_arg1) (Cert.AdamSmallIdeal.Gen.V m c Cert.AdamSmallIdeal.main_arg2),
    fun c => Cert.AdamSmallRefIdeal.Read.val_main_v32 (F := Ideal) (Cert.AdamSmallIdeal.Gen.V m c Cert.AdamSmallIdeal.main_arg0) (Cert.AdamSmallIdeal.Gen.V m c Cert.AdamSmallIdeal.main_arg1) (Cert.AdamSmallIdeal.Gen.V m c Cert.AdamSmallIdeal.main_arg2) (Cert.AdamSmallIdeal.Gen.V m c Cert.AdamSmallIdeal.main_arg3) (Cert.AdamSmallIdeal.Gen.V m c Cert.AdamSmallIdeal.main_arg4) (Cert.AdamSmallIdeal.Gen.V m c Cert.AdamSmallIdeal.main_arg5),
    fun c => Cert.AdamSmallRefIdeal.Read.val_main_v13 (F := Ideal) (Cert.AdamSmallIdeal.Gen.V m c Cert.AdamSmallIdeal.main_arg0) (Cert.AdamSmallIdeal.Gen.V m c Cert.AdamSmallIdeal.main_arg1) (Cert.AdamSmallIdeal.Gen.V m c Cert.AdamSmallIdeal.main_arg2) (Cert.AdamSmallIdeal.Gen.V m c Cert.AdamSmallIdeal.main_arg4),
    fun c => Cert.AdamSmallRefIdeal.Read.val_main_v19 (F := Ideal) (Cert.AdamSmallIdeal.Gen.V m c Cert.AdamSmallIdeal.main_arg0) (Cert.AdamSmallIdeal.Gen.V m c Cert.AdamSmallIdeal.main_arg1) (Cert.AdamSmallIdeal.Gen.V m c Cert.AdamSmallIdeal.main_arg2) (Cert.AdamSmallIdeal.Gen.V m c Cert.AdamSmallIdeal.main_arg5),
    Cert.Adam.Small.run m ρ fun c => Cert.Adam.small_place (hpre c), ?_⟩
  refine (θ_run Cert.AdamSmallRefIdeal.defs _ _).mono (fun r h c => ?_) (Cert.AdamSmallRefIdeal.Value.run (F := Ideal) m' ρ')
  obtain ⟨h8, h32, h13, h19, ha⟩ := h c
  obtain ⟨a0, a1, a2, a3, a4, a5⟩ := hagree c
  have e0 := a0.trans (Cert.AdamSmallIdeal.Gen.V_main_arg0 m c).symm
  have e1 := a1.trans (Cert.AdamSmallIdeal.Gen.V_main_arg1 m c).symm
  have e2 := a2.trans (Cert.AdamSmallIdeal.Gen.V_main_arg2 m c).symm
  have e3 := a3.trans (Cert.AdamSmallIdeal.Gen.V_main_arg3 m c).symm
  have e4 := a4.trans (Cert.AdamSmallIdeal.Gen.V_main_arg4 m c).symm
  have e5 := a5.trans (Cert.AdamSmallIdeal.Gen.V_main_arg5 m c).symm
  refine ⟨?_, ?_, ?_, ?_, ha⟩
  · exact (h8.trans (Cert.AdamSmallRefIdeal.Read.val_main_v8_eq _ _ _ )).trans (congr (congr (congrArg (Cert.AdamSmallRefIdeal.Read.val_main_v8 (F := Ideal)) e0) e1) e2)
  · exact (h32.trans (Cert.AdamSmallRefIdeal.Read.val_main_v32_eq _ _ _ _ _ _ )).trans (congr (congr (congr (congr (congr (congrArg (Cert.AdamSmallRefIdeal.Read.val_main_v32 (F := Ideal)) e0) e1) e2) e3) e4) e5)
  · exact (h13.trans (Cert.AdamSmallRefIdeal.Read.val_main_v13_eq _ _ _ _ )).trans (congr (congr (congr (congrArg (Cert.AdamSmallRefIdeal.Read.val_main_v13 (F := Ideal)) e0) e1) e2) e4)
  · exact (h19.trans (Cert.AdamSmallRefIdeal.Read.val_main_v19_eq _ _ _ _ )).trans (congr (congr (congr (congrArg (Cert.AdamSmallRefIdeal.Read.val_main_v19 (F := Ideal)) e0) e1) e2) e5)

theorem adam_small_ref : @Cert.quiescent_AdamSmallRefIdeal Cert.AdamSmallRefIdeal.Gen.facts := fun m ρ _ =>
  (θ_run Cert.AdamSmallRefIdeal.defs _ _).mono (fun _ h => ⟨fun c => (h c).2.2.2.2, Idealize.ShloMosaic.sem_eq_zero_of_no_sems (by decide) _⟩)
    (Cert.AdamSmallRefIdeal.Value.run (F := Ideal) m ρ)

theorem claim : Cert.Claim :=
  ⟨Cert.MemBwd.Gen.facts, Cert.MemBwdIdeal.Gen.facts, Cert.MemBwdRefIdeal.Gen.facts, Cert.FoxBwd.Gen.facts, Cert.FoxBwdIdeal.Gen.facts,
    Cert.FoxBwdRefIdeal.Gen.facts, Cert.ProjA.Gen.facts, Cert.ProjAIdeal.Gen.facts,
    Cert.ProjARefIdeal.Gen.facts, Cert.ProjB.Gen.facts, Cert.ProjBIdeal.Gen.facts,
    Cert.ProjBRefIdeal.Gen.facts, Cert.GradGates.Gen.facts, Cert.GradGatesIdeal.Gen.facts,
    Cert.GradGatesRefIdeal.Gen.facts, Cert.GradFox.Gen.facts, Cert.GradFoxIdeal.Gen.facts,
    Cert.GradFoxRefIdeal.Gen.facts, Cert.GradDil.Gen.facts, Cert.GradDilIdeal.Gen.facts,
    Cert.GradDilRefIdeal.Gen.facts, Cert.GradMq.Gen.facts, Cert.GradMqIdeal.Gen.facts,
    Cert.GradMqRefIdeal.Gen.facts, Cert.InBwd.Gen.facts, Cert.InBwdIdeal.Gen.facts,
    Cert.InBwdRefIdeal.Gen.facts, Cert.OutStep.Gen.facts, Cert.OutStepIdeal.Gen.facts,
    Cert.OutStepRefIdeal.Gen.facts, Cert.AdamOut.Gen.facts, Cert.AdamOutIdeal.Gen.facts, Cert.AdamOutRefIdeal.Gen.facts,
    Cert.AdamKv.Gen.facts, Cert.AdamKvIdeal.Gen.facts, Cert.AdamKvRefIdeal.Gen.facts,
    Cert.AdamSmall.Gen.facts, Cert.AdamSmallIdeal.Gen.facts, Cert.AdamSmallRefIdeal.Gen.facts,
    Cert.Mem.preFacts, Cert.Fox.preFacts, Cert.In.preFacts, Cert.Out.preFacts, Cert.Adam.outFacts, Cert.Adam.kvFacts, Cert.Adam.smallFacts,
    fun m ρ _ => Cert.MemBwd.Gen.frame m ρ, fun m ρ _ => Cert.MemBwdIdeal.Gen.frame m ρ, fun m ρ _ => Cert.MemBwdIdeal.Gen.frame m ρ,
    mem_ref, fun m ρ _ => mem_ref m ρ ⟨⟩,
    fun m ρ _ => Cert.FoxBwd.Gen.frame m ρ, fun m ρ _ => Cert.FoxBwdIdeal.Gen.frame m ρ, fun m ρ _ => Cert.FoxBwdIdeal.Gen.frame m ρ,
    fox_ref, fun m ρ _ => fox_ref m ρ ⟨⟩,
    fun m ρ _ => Cert.ProjA.Gen.frame m ρ, fun m ρ _ => Cert.ProjAIdeal.Gen.frame m ρ, proj_a_ref,
    fun m ρ _ => Cert.ProjB.Gen.frame m ρ, fun m ρ _ => Cert.ProjBIdeal.Gen.frame m ρ, proj_b_ref,
    fun m ρ _ => Cert.GradGates.Gen.frame m ρ, fun m ρ _ => Cert.GradGatesIdeal.Gen.frame m ρ, gates_ref,
    fun m ρ _ => Cert.GradFox.Gen.frame m ρ, fun m ρ _ => Cert.GradFoxIdeal.Gen.frame m ρ, grad_fox_ref,
    fun m ρ _ => Cert.GradDil.Gen.frame m ρ, fun m ρ _ => Cert.GradDilIdeal.Gen.frame m ρ, dil_ref,
    fun m ρ _ => Cert.GradMq.Gen.frame m ρ, fun m ρ _ => Cert.GradMqIdeal.Gen.frame m ρ, mq_ref,
    fun m ρ _ => Cert.InBwd.Gen.frame m ρ, fun m ρ _ => Cert.InBwdIdeal.Gen.frame m ρ, fun m ρ _ => Cert.InBwdIdeal.Gen.frame m ρ,
    in_ref, fun m ρ _ => in_ref m ρ ⟨⟩,
    fun m ρ _ => Cert.OutStep.Gen.frame m ρ, fun m ρ _ => Cert.OutStepIdeal.Gen.frame m ρ, fun m ρ _ => Cert.OutStepIdeal.Gen.frame m ρ,
    out_ref, fun m ρ _ => out_ref m ρ ⟨⟩,
    fun m ρ h => Cert.AdamOut.Gen.frame m ρ (Cert.Adam.OutBits.ok m 0 (Cert.Adam.out_place (h 0))), fun m ρ h => Cert.AdamOutIdeal.Gen.frame m ρ (Cert.Adam.Out.ok_of_place m 0 (Cert.Adam.out_place (h 0))),
    adam_out_ref, fun m ρ _ => adam_out_ref m ρ ⟨⟩,
    fun m ρ h => Cert.AdamKv.Gen.frame m ρ (Cert.Adam.KvBits.ok m 0 (Cert.Adam.kv_place (h 0))), fun m ρ h => Cert.AdamKvIdeal.Gen.frame m ρ (Cert.Adam.Kv.ok_of_place m 0 (Cert.Adam.kv_place (h 0))),
    adam_kv_ref, fun m ρ _ => adam_kv_ref m ρ ⟨⟩,
    fun m ρ h => Cert.AdamSmall.Gen.frame m ρ (Cert.Adam.SmallBits.ok m 0 (Cert.Adam.small_place (h 0))), fun m ρ h => Cert.AdamSmallIdeal.Gen.frame m ρ (Cert.Adam.Small.ok_of_place m 0 (Cert.Adam.small_place (h 0))),
    adam_small_ref, fun m ρ _ => adam_small_ref m ρ ⟨⟩,
    trivial, mem_value, IdealRules.named_const.statement Cert.FoxBwdIdeal.κ "mask" .f32 0xF149F2CA#32 ⊥ rfl, fox_value,
    trivial, proj_a_value, trivial, proj_b_value, trivial, gates_value, trivial, grad_fox_value, trivial, dil_value, trivial, mq_value, trivial, in_value, trivial, out_value,
    trivial, adam_out_value, trivial, adam_kv_value, trivial, adam_small_value⟩

end Cert.Proof

end
